-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_encoder [hPre_finite_encoder : Cert.Pre_finite_encoder.Facts] (m : (ℓ : Loc Cert.KernelIdeal.nD Cert.KernelIdeal.τ Cert.KernelIdeal.sig) → Buf (Elt Ideal) ℓ) : Prop :=
  ∀ c : Dev Cert.KernelIdeal.nD,
    (Cert.Pre_finite_encoder.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_encoder [hPre_finite_encoder : Cert.Pre_finite_encoder.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_encoder.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite_encoder [hKernelIdeal : Cert.KernelIdeal.Facts] [hPre_finite_encoder : Cert.Pre_finite_encoder.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_encoder m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite_encoder [hReferenceIdeal : Cert.ReferenceIdeal.Facts] [hPre_finite_encoder : Cert.Pre_finite_encoder.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_encoder m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_finite_encoder [hKernelIdeal : Cert.KernelIdeal.Facts] [hReferenceIdeal : Cert.ReferenceIdeal.Facts] [hPre_finite_encoder : Cert.Pre_finite_encoder.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_encoder m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v1602)) (v1 : (c : Dev Cert.KernelIdeal.nD) → Buf (Elt Ideal) ((c.tc : Thread Cert.KernelIdeal.nD Cert.KernelIdeal.τ).loc Cert.KernelIdeal.main_v730)) (v2 : (c : Dev Cert.KernelIdeal.nD) → Buf (Elt Ideal) ((c.tc : Thread Cert.KernelIdeal.nD Cert.KernelIdeal.τ).loc Cert.KernelIdeal.main_v730)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1602) = v0 c
          ∧ r.2.mem ((c.tc : Thread Cert.KernelIdeal.nD Cert.KernelIdeal.τ).loc Cert.KernelIdeal.main_v730) = v1 c
          ∧ r.2.mem ((c.tc : Thread Cert.KernelIdeal.nD Cert.KernelIdeal.τ).loc Cert.KernelIdeal.main_v730) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v193) = v0 c
          ∧ r.2.mem ((c.tc : Thread Cert.ReferenceIdeal.nD Cert.ReferenceIdeal.τ).loc Cert.ReferenceIdeal.main_v101) = v1 c
          ∧ r.2.mem ((c.tc : Thread Cert.ReferenceIdeal.nD Cert.ReferenceIdeal.τ).loc Cert.ReferenceIdeal.main_v105) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_encoder : Cert.Pre_finite_encoder.Facts),
    quiescent_Kernel (hKernel := hKernel)
    ∧ quiescent_KernelIdeal (hKernelIdeal := hKernelIdeal)
    ∧ quiescent_KernelIdeal_pre_finite_encoder (hKernelIdeal := hKernelIdeal) (hPre_finite_encoder := hPre_finite_encoder)
    ∧ quiescent_ReferenceIdeal (hReferenceIdeal := hReferenceIdeal)
    ∧ quiescent_ReferenceIdeal_pre_finite_encoder (hReferenceIdeal := hReferenceIdeal) (hPre_finite_encoder := hPre_finite_encoder)
    ∧ preserves_Kernel_KernelIdeal
    ∧ algebraic_KernelIdeal_ReferenceIdeal_pre_finite_encoder (hKernelIdeal := hKernelIdeal) (hReferenceIdeal := hReferenceIdeal) (hPre_finite_encoder := hPre_finite_encoder)
-- ==== Pre_finite_encoder.lean ====
abbrev S16x3x224x224 : Shape := ⟨4, ![16, 3, 224, 224]⟩
abbrev S32x3x4x4 : Shape := ⟨4, ![32, 3, 4, 4]⟩
abbrev S32 : Shape := ⟨1, ![32]⟩
abbrev S64x32x4x4 : Shape := ⟨4, ![64, 32, 4, 4]⟩
abbrev S64 : Shape := ⟨1, ![64]⟩
abbrev S64x64x4x4 : Shape := ⟨4, ![64, 64, 4, 4]⟩
abbrev S512x64 : Shape := ⟨2, ![512, 64]⟩
abbrev S3 : Shape := ⟨1, ![3]⟩
abbrev S_ : Shape := ⟨0, ![]⟩

class Facts : Prop where
  bcast_S_S16x3x224x224 : S_.BroadcastsInDim S16x3x224x224 (![] : Fin 0 → Fin S16x3x224x224.rank)
  reducesTo_S16x3x224x224_S_d0_1_2_3 : S16x3x224x224.ReducesTo [0, 1, 2, 3] S_
  h_S_ : 0 < S_.numel
  bcast_S_S32x3x4x4 : S_.BroadcastsInDim S32x3x4x4 (![] : Fin 0 → Fin S32x3x4x4.rank)
  reducesTo_S32x3x4x4_S_d0_1_2_3 : S32x3x4x4.ReducesTo [0, 1, 2, 3] S_
  bcast_S_S32 : S_.BroadcastsInDim S32 (![] : Fin 0 → Fin S32.rank)
  reducesTo_S32_S_d0 : S32.ReducesTo [0] S_
  bcast_S_S64x32x4x4 : S_.BroadcastsInDim S64x32x4x4 (![] : Fin 0 → Fin S64x32x4x4.rank)
  reducesTo_S64x32x4x4_S_d0_1_2_3 : S64x32x4x4.ReducesTo [0, 1, 2, 3] S_
  bcast_S_S64 : S_.BroadcastsInDim S64 (![] : Fin 0 → Fin S64.rank)
  reducesTo_S64_S_d0 : S64.ReducesTo [0] S_
  bcast_S_S64x64x4x4 : S_.BroadcastsInDim S64x64x4x4 (![] : Fin 0 → Fin S64x64x4x4.rank)
  reducesTo_S64x64x4x4_S_d0_1_2_3 : S64x64x4x4.ReducesTo [0, 1, 2, 3] S_
  bcast_S_S512x64 : S_.BroadcastsInDim S512x64 (![] : Fin 0 → Fin S512x64.rank)
  reducesTo_S512x64_S_d0_1 : S512x64.ReducesTo [0, 1] S_

variable [Facts]

def fn_part2 {F : FTy → Type} [FloatOps F] (main_arg7 : FVec F S512x64 .f32) (main_v33 : IVec S_ 1) : IVec S_ 1 :=
  let main_v34 : FVec F S512x64 .f32 := Host.absf main_arg7
  let main_cst_12 : FVec F S_ .f32 := constant S_ .f32 0x7F800000#32
  let main_v35 : FVec F S512x64 .f32 := broadcastInDim S512x64 ![] bcast_S_S512x64 main_cst_12
  let main_v36 : IVec S512x64 1 := cmpf .olt main_v34 main_v35
  let main_c_13 : IVec S_ 1 := constantI S_ 1 1#1
  let main_v37 : IVec S_ 1 := (fun x v => Host.reduce IntOp.andi x v reducesTo_S512x64_S_d0_1 h_S_) main_v36 main_c_13
  let main_v38 : IVec S_ 1 := andi main_v33 main_v37
  main_v38

def fn_part1 {F : FTy → Type} [FloatOps F] (main_arg4 : FVec F S64 .f32) (main_arg5 : FVec F S64x64x4x4 .f32) (main_arg6 : FVec F S64 .f32) (main_arg7 : FVec F S512x64 .f32) (main_v13 : IVec S_ 1) (main_v16 : IVec S64x32x4x4 1) : IVec S_ 1 :=
  let main_c_5 : IVec S_ 1 := constantI S_ 1 1#1
  let main_v17 : IVec S_ 1 := (fun x v => Host.reduce IntOp.andi x v reducesTo_S64x32x4x4_S_d0_1_2_3 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64x4x4 .f32 := Host.absf main_arg5
  let main_cst_8 : FVec F S_ .f32 := constant S_ .f32 0x7F800000#32
  let main_v25 : FVec F S64x64x4x4 .f32 := broadcastInDim S64x64x4x4 ![] bcast_S_S64x64x4x4 main_cst_8
  let main_v26 : IVec S64x64x4x4 1 := cmpf .olt main_v24 main_v25
  let main_c_9 : IVec S_ 1 := constantI S_ 1 1#1
  let main_v27 : IVec S_ 1 := (fun x v => Host.reduce IntOp.andi x v reducesTo_S64x64x4x4_S_d0_1_2_3 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_v33

def fn {F : FTy → Type} [FloatOps F] (main_arg0 : FVec F S16x3x224x224 .f32) (main_arg1 : FVec F S32x3x4x4 .f32) (main_arg2 : FVec F S32 .f32) (main_arg3 : FVec F S64x32x4x4 .f32) (main_arg4 : FVec F S64 .f32) (main_arg5 : FVec F S64x64x4x4 .f32) (main_arg6 : FVec F S64 .f32) (main_arg7 : FVec F S512x64 .f32) (main_arg8 : FVec F S64x64x4x4 .f32) (main_arg9 : FVec F S64 .f32) (main_arg10 : FVec F S64x32x4x4 .f32) (main_arg11 : FVec F S32 .f32) (main_arg12 : FVec F S32x3x4x4 .f32) (main_arg13 : FVec F S3 .f32) : IVec S_ 1 :=
  let main_v0 : FVec F S16x3x224x224 .f32 := Host.absf main_arg0
  let main_cst : FVec F S_ .f32 := constant S_ .f32 0x7F800000#32
  let main_v1 : FVec F S16x3x224x224 .f32 := broadcastInDim S16x3x224x224 ![] bcast_S_S16x3x224x224 main_cst
  let main_v2 : IVec S16x3x224x224 1 := cmpf .olt main_v0 main_v1
  let main_c : IVec S_ 1 := constantI S_ 1 1#1
  let main_v3 : IVec S_ 1 := (fun x v => Host.reduce IntOp.andi x v reducesTo_S16x3x224x224_S_d0_1_2_3 h_S_) main_v2 main_c
  let main_v4 : FVec F S32x3x4x4 .f32 := Host.absf main_arg1
  let main_cst_0 : FVec F S_ .f32 := constant S_ .f32 0x7F800000#32
  let main_v5 : FVec F S32x3x4x4 .f32 := broadcastInDim S32x3x4x4 ![] bcast_S_S32x3x4x4 main_cst_0
  let main_v6 : IVec S32x3x4x4 1 := cmpf .olt main_v4 main_v5
  let main_c_1 : IVec S_ 1 := constantI S_ 1 1#1
  let main_v7 : IVec S_ 1 := (fun x v => Host.reduce IntOp.andi x v reducesTo_S32x3x4x4_S_d0_1_2_3 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S64x32x4x4 .f32 := Host.absf main_arg3
  let main_cst_4 : FVec F S_ .f32 := constant S_ .f32 0x7F800000#32
  let main_v15 : FVec F S64x32x4x4 .f32 := broadcastInDim S64x32x4x4 ![] bcast_S_S64x32x4x4 main_cst_4
  let main_v16 : IVec S64x32x4x4 1 := cmpf .olt main_v14 main_v15
  fn_part1 (F := F) main_arg4 main_arg5 main_arg6 main_arg7 main_v13 main_v16
-- ==== Kernel.lean ====
abbrev S16x3x224x224 : Shape := ⟨4, ![16, 3, 224, 224]⟩
abbrev S32x3x4x4 : Shape := ⟨4, ![32, 3, 4, 4]⟩
abbrev S32 : Shape := ⟨1, ![32]⟩
abbrev S64x32x4x4 : Shape := ⟨4, ![64, 32, 4, 4]⟩
abbrev S64 : Shape := ⟨1, ![64]⟩
abbrev S64x64x4x4 : Shape := ⟨4, ![64, 64, 4, 4]⟩
abbrev S512x64 : Shape := ⟨2, ![512, 64]⟩
abbrev S3 : Shape := ⟨1, ![3]⟩
abbrev S16x224x224x3 : Shape := ⟨4, ![16, 224, 224, 3]⟩
abbrev S_ : Shape := ⟨0, ![]⟩
abbrev S16x230x230x3 : Shape := ⟨4, ![16, 230, 230, 3]⟩
abbrev S16x115x2x115x2x3 : Shape := ⟨6, ![16, 115, 2, 115, 2, 3]⟩
abbrev S16x115x115x2x2x3 : Shape := ⟨6, ![16, 115, 115, 2, 2, 3]⟩
abbrev S16x115x115x12 : Shape := ⟨4, ![16, 115, 115, 12]⟩
abbrev S3x3x2x2x3x2x2x32 : Shape := ⟨8, ![3, 3, 2, 2, 3, 2, 2, 32]⟩
abbrev S32x3x1x1 : Shape := ⟨4, ![32, 3, 1, 1]⟩
abbrev S32x3 : Shape := ⟨2, ![32, 3]⟩
abbrev S3x32 : Shape := ⟨2, ![3, 32]⟩
abbrev S1 : Shape := ⟨1, ![1]⟩
abbrev S6 : Shape := ⟨1, ![6]⟩
abbrev S108x128 : Shape := ⟨2, ![108, 128]⟩
abbrev S1x32 : Shape := ⟨2, ![1, 32]⟩
abbrev S4x32 : Shape := ⟨2, ![4, 32]⟩
abbrev S128 : Shape := ⟨1, ![128]⟩
abbrev S1x1x128 : Shape := ⟨3, ![1, 1, 128]⟩
abbrev S16x60x60x128 : Shape := ⟨4, ![16, 60, 60, 128]⟩
abbrev S1x115x115x12 : Shape := ⟨4, ![1, 115, 115, 12]⟩
abbrev S1x60x60x128 : Shape := ⟨4, ![1, 60, 60, 128]⟩
abbrev S1x57x57x12 : Shape := ⟨4, ![1, 57, 57, 12]⟩
abbrev S57x57x12 : Shape := ⟨3, ![57, 57, 12]⟩
abbrev S57x57x108 : Shape := ⟨3, ![57, 57, 108]⟩
abbrev S57x57x128 : Shape := ⟨3, ![57, 57, 128]⟩
abbrev S1x57x57x128 : Shape := ⟨4, ![1, 57, 57, 128]⟩
abbrev S1x60x128 : Shape := ⟨3, ![1, 60, 128]⟩
abbrev S60x1x128 : Shape := ⟨3, ![60, 1, 128]⟩
abbrev S1x1x60x128 : Shape := ⟨4, ![1, 1, 60, 128]⟩
abbrev S1x60x1x128 : Shape := ⟨4, ![1, 60, 1, 128]⟩
abbrev S64x32x2x2x2x2 : Shape := ⟨6, ![64, 32, 2, 2, 2, 2]⟩
abbrev S2x2x2x2x32x64 : Shape := ⟨6, ![2, 2, 2, 2, 32, 64]⟩
abbrev S1x1x64 : Shape := ⟨3, ![1, 1, 64]⟩
abbrev S16x29x29x256 : Shape := ⟨4, ![16, 29, 29, 256]⟩
abbrev S1x29x29x256 : Shape := ⟨4, ![1, 29, 29, 256]⟩
abbrev S1x29x29x128 : Shape := ⟨4, ![1, 29, 29, 128]⟩
abbrev S29x29x128 : Shape := ⟨3, ![29, 29, 128]⟩
abbrev S29x29x512 : Shape := ⟨3, ![29, 29, 512]⟩
abbrev S29x29x64 : Shape := ⟨3, ![29, 29, 64]⟩
abbrev S1x29x29x64 : Shape := ⟨4, ![1, 29, 29, 64]⟩
abbrev S64x64x2x2x2x2 : Shape := ⟨6, ![64, 64, 2, 2, 2, 2]⟩
abbrev S2x2x2x2x64x64 : Shape := ⟨6, ![2, 2, 2, 2, 64, 64]⟩
abbrev S1024x64 : Shape := ⟨2, ![1024, 64]⟩
abbrev S16x28x28x64 : Shape := ⟨4, ![16, 28, 28, 64]⟩
abbrev S1x28x28x64 : Shape := ⟨4, ![1, 28, 28, 64]⟩
abbrev S1x28x28x256 : Shape := ⟨4, ![1, 28, 28, 256]⟩
abbrev S28x28x256 : Shape := ⟨3, ![28, 28, 256]⟩
abbrev S28x28x1024 : Shape := ⟨3, ![28, 28, 1024]⟩
abbrev S28x28x64 : Shape := ⟨3, ![28, 28, 64]⟩
abbrev S16x30x30x64 : Shape := ⟨4, ![16, 30, 30, 64]⟩
abbrev S16x1x128 : Shape := ⟨3, ![16, 1, 128]⟩
abbrev S1x30x30x64 : Shape := ⟨4, ![1, 30, 30, 64]⟩
abbrev S28x28 : Shape := ⟨2, ![28, 28]⟩
abbrev S28x28x1 : Shape := ⟨3, ![28, 28, 1]⟩
abbrev S28x28x512 : Shape := ⟨3, ![28, 28, 512]⟩
abbrev S512 : Shape := ⟨1, ![512]⟩
abbrev S1x1x512 : Shape := ⟨3, ![1, 1, 512]⟩
abbrev S1x30x64 : Shape := ⟨3, ![1, 30, 64]⟩
abbrev S30x1x64 : Shape := ⟨3, ![30, 1, 64]⟩
abbrev S1x1x30x64 : Shape := ⟨4, ![1, 1, 30, 64]⟩
abbrev S1x30x1x64 : Shape := ⟨4, ![1, 30, 1, 64]⟩
abbrev S1x28x28x1 : Shape := ⟨4, ![1, 28, 28, 1]⟩
abbrev S1x1x1x1 : Shape := ⟨4, ![1, 1, 1, 1]⟩
abbrev S1x1x1 : Shape := ⟨3, ![1, 1, 1]⟩
abbrev S16x1x1 : Shape := ⟨3, ![16, 1, 1]⟩
abbrev S16 : Shape := ⟨1, ![16]⟩
abbrev S64x64x1x1 : Shape := ⟨4, ![64, 64, 1, 1]⟩
abbrev S64x64 : Shape := ⟨2, ![64, 64]⟩
abbrev S256x64 : Shape := ⟨2, ![256, 64]⟩
abbrev S1x256x64 : Shape := ⟨3, ![1, 256, 64]⟩
abbrev S2x256x64 : Shape := ⟨3, ![2, 256, 64]⟩
abbrev S1x2x256x64 : Shape := ⟨4, ![1, 2, 256, 64]⟩
abbrev S2x2x256x64 : Shape := ⟨4, ![2, 2, 256, 64]⟩
abbrev S16x58x58x64 : Shape := ⟨4, ![16, 58, 58, 64]⟩
abbrev S1x58x58x64 : Shape := ⟨4, ![1, 58, 58, 64]⟩
abbrev S1x1x256x64 : Shape := ⟨4, ![1, 1, 256, 64]⟩
abbrev S1x58x64 : Shape := ⟨3, ![1, 58, 64]⟩
abbrev S58x1x64 : Shape := ⟨3, ![58, 1, 64]⟩
abbrev S1x1x58x64 : Shape := ⟨4, ![1, 1, 58, 64]⟩
abbrev S1x58x1x64 : Shape := ⟨4, ![1, 58, 1, 64]⟩
abbrev S64x32x1x1 : Shape := ⟨4, ![64, 32, 1, 1]⟩
abbrev S64x32 : Shape := ⟨2, ![64, 32]⟩
abbrev S256x32 : Shape := ⟨2, ![256, 32]⟩
abbrev S1x256x32 : Shape := ⟨3, ![1, 256, 32]⟩
abbrev S2x256x32 : Shape := ⟨3, ![2, 256, 32]⟩
abbrev S1x2x256x32 : Shape := ⟨4, ![1, 2, 256, 32]⟩
abbrev S2x2x256x32 : Shape := ⟨4, ![2, 2, 256, 32]⟩
abbrev S1x1x32 : Shape := ⟨3, ![1, 1, 32]⟩
abbrev S16x57x57x128 : Shape := ⟨4, ![16, 57, 57, 128]⟩
abbrev S1x56x56x64 : Shape := ⟨4, ![1, 56, 56, 64]⟩
abbrev S56x56x64 : Shape := ⟨3, ![56, 56, 64]⟩
abbrev S56x56x256 : Shape := ⟨3, ![56, 56, 256]⟩
abbrev S1x1x256x32 : Shape := ⟨4, ![1, 1, 256, 32]⟩
abbrev S56x56x32 : Shape := ⟨3, ![56, 56, 32]⟩
abbrev S1x56x56x32 : Shape := ⟨4, ![1, 56, 56, 32]⟩
abbrev S1x57x64 : Shape := ⟨3, ![1, 57, 64]⟩
abbrev S1x1x57x64 : Shape := ⟨4, ![1, 1, 57, 64]⟩
abbrev S57x1x32 : Shape := ⟨3, ![57, 1, 32]⟩
abbrev S1x57x1x32 : Shape := ⟨4, ![1, 57, 1, 32]⟩
abbrev S2x2x2x2x32x2x2x2x2x3 : Shape := ⟨10, ![2, 2, 2, 2, 32, 2, 2, 2, 2, 3]⟩
abbrev S8 : Shape := ⟨1, ![8]⟩
abbrev S512x48 : Shape := ⟨2, ![512, 48]⟩
abbrev S1x3 : Shape := ⟨2, ![1, 3]⟩
abbrev S16x3 : Shape := ⟨2, ![16, 3]⟩
abbrev S48 : Shape := ⟨1, ![48]⟩
abbrev S1x1x48 : Shape := ⟨3, ![1, 1, 48]⟩
abbrev S16x56x56x48 : Shape := ⟨4, ![16, 56, 56, 48]⟩
abbrev S1x56x56x48 : Shape := ⟨4, ![1, 56, 56, 48]⟩
abbrev S1x56x56x128 : Shape := ⟨4, ![1, 56, 56, 128]⟩
abbrev S56x56x128 : Shape := ⟨3, ![56, 56, 128]⟩
abbrev S56x56x512 : Shape := ⟨3, ![56, 56, 512]⟩
abbrev S56x56x48 : Shape := ⟨3, ![56, 56, 48]⟩
abbrev S16x56x56x2x2x2x2x3 : Shape := ⟨8, ![16, 56, 56, 2, 2, 2, 2, 3]⟩
abbrev S16x3x56x2x2x56x2x2 : Shape := ⟨8, ![16, 3, 56, 2, 2, 56, 2, 2]⟩

abbrev nBuf : Space → Nat
  | .hbm => 2520
  | .vmem => 43
  | .smem => 0
  | _ => 0

abbrev hbmTy0_0 (i : Nat) : BufTy := match i % 128 with
  | 0 => ⟨S16x3x224x224, .f32⟩
  | 1 => ⟨S32x3x4x4, .f32⟩
  | 2 => ⟨S32, .f32⟩
  | 3 => ⟨S64x32x4x4, .f32⟩
  | 4 => ⟨S64, .f32⟩
  | 5 => ⟨S64x64x4x4, .f32⟩
  | 6 => ⟨S64, .f32⟩
  | 7 => ⟨S512x64, .f32⟩
  | 8 => ⟨S64x64x4x4, .f32⟩
  | 9 => ⟨S64, .f32⟩
  | 10 => ⟨S64x32x4x4, .f32⟩
  | 11 => ⟨S32, .f32⟩
  | 12 => ⟨S32x3x4x4, .f32⟩
  | 13 => ⟨S3, .f32⟩
  | 14 => ⟨S16x224x224x3, .f32⟩
  | 15 => ⟨S_, .i32⟩
  | 16 => ⟨S_, .f32⟩
  | 17 => ⟨S16x230x230x3, .f32⟩
  | 18 => ⟨S16x115x2x115x2x3, .f32⟩
  | 19 => ⟨S16x115x115x2x2x3, .f32⟩
  | 20 => ⟨S16x115x115x12, .f32⟩
  | 21 => ⟨S_, .f32⟩
  | 22 => ⟨S3x3x2x2x3x2x2x32, .f32⟩
  | 23 => ⟨S32x3x1x1, .f32⟩
  | 24 => ⟨S32x3, .f32⟩
  | 25 => ⟨S3x32, .f32⟩
  | 26 => ⟨S_, .i32⟩
  | 27 => ⟨S1, .i32⟩
  | 28 => ⟨S_, .i32⟩
  | 29 => ⟨S1, .i32⟩
  | 30 => ⟨S_, .i32⟩
  | 31 => ⟨S1, .i32⟩
  | 32 => ⟨S_, .i32⟩
  | 33 => ⟨S1, .i32⟩
  | 34 => ⟨S_, .i32⟩
  | 35 => ⟨S1, .i32⟩
  | 36 => ⟨S_, .i32⟩
  | 37 => ⟨S1, .i32⟩
  | 38 => ⟨S6, .i32⟩
  | 39 => ⟨S3x3x2x2x3x2x2x32, .f32⟩
  | 40 => ⟨S32x3x1x1, .f32⟩
  | 41 => ⟨S32x3, .f32⟩
  | 42 => ⟨S3x32, .f32⟩
  | 43 => ⟨S_, .i32⟩
  | 44 => ⟨S1, .i32⟩
  | 45 => ⟨S_, .i32⟩
  | 46 => ⟨S1, .i32⟩
  | 47 => ⟨S_, .i32⟩
  | 48 => ⟨S1, .i32⟩
  | 49 => ⟨S_, .i32⟩
  | 50 => ⟨S1, .i32⟩
  | 51 => ⟨S_, .i32⟩
  | 52 => ⟨S1, .i32⟩
  | 53 => ⟨S_, .i32⟩
  | 54 => ⟨S1, .i32⟩
  | 55 => ⟨S6, .i32⟩
  | 56 => ⟨S3x3x2x2x3x2x2x32, .f32⟩
  | 57 => ⟨S32x3x1x1, .f32⟩
  | 58 => ⟨S32x3, .f32⟩
  | 59 => ⟨S3x32, .f32⟩
  | 60 => ⟨S_, .i32⟩
  | 61 => ⟨S1, .i32⟩
  | 62 => ⟨S_, .i32⟩
  | 63 => ⟨S1, .i32⟩
  | 64 => ⟨S_, .i32⟩
  | 65 => ⟨S1, .i32⟩
  | 66 => ⟨S_, .i32⟩
  | 67 => ⟨S1, .i32⟩
  | 68 => ⟨S_, .i32⟩
  | 69 => ⟨S1, .i32⟩
  | 70 => ⟨S_, .i32⟩
  | 71 => ⟨S1, .i32⟩
  | 72 => ⟨S6, .i32⟩
  | 73 => ⟨S3x3x2x2x3x2x2x32, .f32⟩
  | 74 => ⟨S32x3x1x1, .f32⟩
  | 75 => ⟨S32x3, .f32⟩
  | 76 => ⟨S3x32, .f32⟩
  | 77 => ⟨S_, .i32⟩
  | 78 => ⟨S1, .i32⟩
  | 79 => ⟨S_, .i32⟩
  | 80 => ⟨S1, .i32⟩
  | 81 => ⟨S_, .i32⟩
  | 82 => ⟨S1, .i32⟩
  | 83 => ⟨S_, .i32⟩
  | 84 => ⟨S1, .i32⟩
  | 85 => ⟨S_, .i32⟩
  | 86 => ⟨S1, .i32⟩
  | 87 => ⟨S_, .i32⟩
  | 88 => ⟨S1, .i32⟩
  | 89 => ⟨S6, .i32⟩
  | 90 => ⟨S3x3x2x2x3x2x2x32, .f32⟩
  | 91 => ⟨S32x3x1x1, .f32⟩
  | 92 => ⟨S32x3, .f32⟩
  | 93 => ⟨S3x32, .f32⟩
  | 94 => ⟨S_, .i32⟩
  | 95 => ⟨S1, .i32⟩
  | 96 => ⟨S_, .i32⟩
  | 97 => ⟨S1, .i32⟩
  | 98 => ⟨S_, .i32⟩
  | 99 => ⟨S1, .i32⟩
  | 100 => ⟨S_, .i32⟩
  | 101 => ⟨S1, .i32⟩
  | 102 => ⟨S_, .i32⟩
  | 103 => ⟨S1, .i32⟩
  | 104 => ⟨S_, .i32⟩
  | 105 => ⟨S1, .i32⟩
  | 106 => ⟨S6, .i32⟩
  | 107 => ⟨S3x3x2x2x3x2x2x32, .f32⟩
  | 108 => ⟨S32x3x1x1, .f32⟩
  | 109 => ⟨S32x3, .f32⟩
  | 110 => ⟨S3x32, .f32⟩
  | 111 => ⟨S_, .i32⟩
  | 112 => ⟨S1, .i32⟩
  | 113 => ⟨S_, .i32⟩
  | 114 => ⟨S1, .i32⟩
  | 115 => ⟨S_, .i32⟩
  | 116 => ⟨S1, .i32⟩
  | 117 => ⟨S_, .i32⟩
  | 118 => ⟨S1, .i32⟩
  | 119 => ⟨S_, .i32⟩
  | 120 => ⟨S1, .i32⟩
  | 121 => ⟨S_, .i32⟩
  | 122 => ⟨S1, .i32⟩
  | 123 => ⟨S6, .i32⟩
  | 124 => ⟨S3x3x2x2x3x2x2x32, .f32⟩
  | 125 => ⟨S32x3x1x1, .f32⟩
  | 126 => ⟨S32x3, .f32⟩
  | 127 => ⟨S3x32, .f32⟩
  | _ => ⟨S16x3x224x224, .f32⟩

abbrev hbmTy0_1 (i : Nat) : BufTy := match i % 128 with
  | 0 => ⟨S_, .i32⟩
  | 1 => ⟨S1, .i32⟩
  | 2 => ⟨S_, .i32⟩
  | 3 => ⟨S1, .i32⟩
  | 4 => ⟨S_, .i32⟩
  | 5 => ⟨S1, .i32⟩
  | 6 => ⟨S_, .i32⟩
  | 7 => ⟨S1, .i32⟩
  | 8 => ⟨S_, .i32⟩
  | 9 => ⟨S1, .i32⟩
  | 10 => ⟨S_, .i32⟩
  | 11 => ⟨S1, .i32⟩
  | 12 => ⟨S6, .i32⟩
  | 13 => ⟨S3x3x2x2x3x2x2x32, .f32⟩
  | 14 => ⟨S32x3x1x1, .f32⟩
  | 15 => ⟨S32x3, .f32⟩
  | 16 => ⟨S3x32, .f32⟩
  | 17 => ⟨S_, .i32⟩
  | 18 => ⟨S1, .i32⟩
  | 19 => ⟨S_, .i32⟩
  | 20 => ⟨S1, .i32⟩
  | 21 => ⟨S_, .i32⟩
  | 22 => ⟨S1, .i32⟩
  | 23 => ⟨S_, .i32⟩
  | 24 => ⟨S1, .i32⟩
  | 25 => ⟨S_, .i32⟩
  | 26 => ⟨S1, .i32⟩
  | 27 => ⟨S_, .i32⟩
  | 28 => ⟨S1, .i32⟩
  | 29 => ⟨S6, .i32⟩
  | 30 => ⟨S3x3x2x2x3x2x2x32, .f32⟩
  | 31 => ⟨S32x3x1x1, .f32⟩
  | 32 => ⟨S32x3, .f32⟩
  | 33 => ⟨S3x32, .f32⟩
  | 34 => ⟨S_, .i32⟩
  | 35 => ⟨S1, .i32⟩
  | 36 => ⟨S_, .i32⟩
  | 37 => ⟨S1, .i32⟩
  | 38 => ⟨S_, .i32⟩
  | 39 => ⟨S1, .i32⟩
  | 40 => ⟨S_, .i32⟩
  | 41 => ⟨S1, .i32⟩
  | 42 => ⟨S_, .i32⟩
  | 43 => ⟨S1, .i32⟩
  | 44 => ⟨S_, .i32⟩
  | 45 => ⟨S1, .i32⟩
  | 46 => ⟨S6, .i32⟩
  | 47 => ⟨S3x3x2x2x3x2x2x32, .f32⟩
  | 48 => ⟨S32x3x1x1, .f32⟩
  | 49 => ⟨S32x3, .f32⟩
  | 50 => ⟨S3x32, .f32⟩
  | 51 => ⟨S_, .i32⟩
  | 52 => ⟨S1, .i32⟩
  | 53 => ⟨S_, .i32⟩
  | 54 => ⟨S1, .i32⟩
  | 55 => ⟨S_, .i32⟩
  | 56 => ⟨S1, .i32⟩
  | 57 => ⟨S_, .i32⟩
  | 58 => ⟨S1, .i32⟩
  | 59 => ⟨S_, .i32⟩
  | 60 => ⟨S1, .i32⟩
  | 61 => ⟨S_, .i32⟩
  | 62 => ⟨S1, .i32⟩
  | 63 => ⟨S6, .i32⟩
  | 64 => ⟨S3x3x2x2x3x2x2x32, .f32⟩
  | 65 => ⟨S32x3x1x1, .f32⟩
  | 66 => ⟨S32x3, .f32⟩
  | 67 => ⟨S3x32, .f32⟩
  | 68 => ⟨S_, .i32⟩
  | 69 => ⟨S1, .i32⟩
  | 70 => ⟨S_, .i32⟩
  | 71 => ⟨S1, .i32⟩
  | 72 => ⟨S_, .i32⟩
  | 73 => ⟨S1, .i32⟩
  | 74 => ⟨S_, .i32⟩
  | 75 => ⟨S1, .i32⟩
  | 76 => ⟨S_, .i32⟩
  | 77 => ⟨S1, .i32⟩
  | 78 => ⟨S_, .i32⟩
  | 79 => ⟨S1, .i32⟩
  | 80 => ⟨S6, .i32⟩
  | 81 => ⟨S3x3x2x2x3x2x2x32, .f32⟩
  | 82 => ⟨S32x3x1x1, .f32⟩
  | 83 => ⟨S32x3, .f32⟩
  | 84 => ⟨S3x32, .f32⟩
  | 85 => ⟨S_, .i32⟩
  | 86 => ⟨S1, .i32⟩
  | 87 => ⟨S_, .i32⟩
  | 88 => ⟨S1, .i32⟩
  | 89 => ⟨S_, .i32⟩
  | 90 => ⟨S1, .i32⟩
  | 91 => ⟨S_, .i32⟩
  | 92 => ⟨S1, .i32⟩
  | 93 => ⟨S_, .i32⟩
  | 94 => ⟨S1, .i32⟩
  | 95 => ⟨S_, .i32⟩
  | 96 => ⟨S1, .i32⟩
  | 97 => ⟨S6, .i32⟩
  | 98 => ⟨S3x3x2x2x3x2x2x32, .f32⟩
  | 99 => ⟨S32x3x1x1, .f32⟩
  | 100 => ⟨S32x3, .f32⟩
  | 101 => ⟨S3x32, .f32⟩
  | 102 => ⟨S_, .i32⟩
  | 103 => ⟨S1, .i32⟩
  | 104 => ⟨S_, .i32⟩
  | 105 => ⟨S1, .i32⟩
  | 106 => ⟨S_, .i32⟩
  | 107 => ⟨S1, .i32⟩
  | 108 => ⟨S_, .i32⟩
  | 109 => ⟨S1, .i32⟩
  | 110 => ⟨S_, .i32⟩
  | 111 => ⟨S1, .i32⟩
  | 112 => ⟨S_, .i32⟩
  | 113 => ⟨S1, .i32⟩
  | 114 => ⟨S6, .i32⟩
  | 115 => ⟨S3x3x2x2x3x2x2x32, .f32⟩
  | 116 => ⟨S32x3x1x1, .f32⟩
  | 117 => ⟨S32x3, .f32⟩
  | 118 => ⟨S3x32, .f32⟩
  | 119 => ⟨S_, .i32⟩
  | 120 => ⟨S1, .i32⟩
  | 121 => ⟨S_, .i32⟩
  | 122 => ⟨S1, .i32⟩
  | 123 => ⟨S_, .i32⟩
  | 124 => ⟨S1, .i32⟩
  | 125 => ⟨S_, .i32⟩
  | 126 => ⟨S1, .i32⟩
  | 127 => ⟨S_, .i32⟩
  | _ => ⟨S16x3x224x224, .f32⟩

abbrev hbmTy0_2 (i : Nat) : BufTy := match i % 128 with
  | 0 => ⟨S1, .i32⟩
  | 1 => ⟨S_, .i32⟩
  | 2 => ⟨S1, .i32⟩
  | 3 => ⟨S6, .i32⟩
  | 4 => ⟨S3x3x2x2x3x2x2x32, .f32⟩
  | 5 => ⟨S32x3x1x1, .f32⟩
  | 6 => ⟨S32x3, .f32⟩
  | 7 => ⟨S3x32, .f32⟩
  | 8 => ⟨S_, .i32⟩
  | 9 => ⟨S1, .i32⟩
  | 10 => ⟨S_, .i32⟩
  | 11 => ⟨S1, .i32⟩
  | 12 => ⟨S_, .i32⟩
  | 13 => ⟨S1, .i32⟩
  | 14 => ⟨S_, .i32⟩
  | 15 => ⟨S1, .i32⟩
  | 16 => ⟨S_, .i32⟩
  | 17 => ⟨S1, .i32⟩
  | 18 => ⟨S_, .i32⟩
  | 19 => ⟨S1, .i32⟩
  | 20 => ⟨S6, .i32⟩
  | 21 => ⟨S3x3x2x2x3x2x2x32, .f32⟩
  | 22 => ⟨S32x3x1x1, .f32⟩
  | 23 => ⟨S32x3, .f32⟩
  | 24 => ⟨S3x32, .f32⟩
  | 25 => ⟨S_, .i32⟩
  | 26 => ⟨S1, .i32⟩
  | 27 => ⟨S_, .i32⟩
  | 28 => ⟨S1, .i32⟩
  | 29 => ⟨S_, .i32⟩
  | 30 => ⟨S1, .i32⟩
  | 31 => ⟨S_, .i32⟩
  | 32 => ⟨S1, .i32⟩
  | 33 => ⟨S_, .i32⟩
  | 34 => ⟨S1, .i32⟩
  | 35 => ⟨S_, .i32⟩
  | 36 => ⟨S1, .i32⟩
  | 37 => ⟨S6, .i32⟩
  | 38 => ⟨S3x3x2x2x3x2x2x32, .f32⟩
  | 39 => ⟨S32x3x1x1, .f32⟩
  | 40 => ⟨S32x3, .f32⟩
  | 41 => ⟨S3x32, .f32⟩
  | 42 => ⟨S_, .i32⟩
  | 43 => ⟨S1, .i32⟩
  | 44 => ⟨S_, .i32⟩
  | 45 => ⟨S1, .i32⟩
  | 46 => ⟨S_, .i32⟩
  | 47 => ⟨S1, .i32⟩
  | 48 => ⟨S_, .i32⟩
  | 49 => ⟨S1, .i32⟩
  | 50 => ⟨S_, .i32⟩
  | 51 => ⟨S1, .i32⟩
  | 52 => ⟨S_, .i32⟩
  | 53 => ⟨S1, .i32⟩
  | 54 => ⟨S6, .i32⟩
  | 55 => ⟨S3x3x2x2x3x2x2x32, .f32⟩
  | 56 => ⟨S32x3x1x1, .f32⟩
  | 57 => ⟨S32x3, .f32⟩
  | 58 => ⟨S3x32, .f32⟩
  | 59 => ⟨S_, .i32⟩
  | 60 => ⟨S1, .i32⟩
  | 61 => ⟨S_, .i32⟩
  | 62 => ⟨S1, .i32⟩
  | 63 => ⟨S_, .i32⟩
  | 64 => ⟨S1, .i32⟩
  | 65 => ⟨S_, .i32⟩
  | 66 => ⟨S1, .i32⟩
  | 67 => ⟨S_, .i32⟩
  | 68 => ⟨S1, .i32⟩
  | 69 => ⟨S_, .i32⟩
  | 70 => ⟨S1, .i32⟩
  | 71 => ⟨S6, .i32⟩
  | 72 => ⟨S3x3x2x2x3x2x2x32, .f32⟩
  | 73 => ⟨S32x3x1x1, .f32⟩
  | 74 => ⟨S32x3, .f32⟩
  | 75 => ⟨S3x32, .f32⟩
  | 76 => ⟨S_, .i32⟩
  | 77 => ⟨S1, .i32⟩
  | 78 => ⟨S_, .i32⟩
  | 79 => ⟨S1, .i32⟩
  | 80 => ⟨S_, .i32⟩
  | 81 => ⟨S1, .i32⟩
  | 82 => ⟨S_, .i32⟩
  | 83 => ⟨S1, .i32⟩
  | 84 => ⟨S_, .i32⟩
  | 85 => ⟨S1, .i32⟩
  | 86 => ⟨S_, .i32⟩
  | 87 => ⟨S1, .i32⟩
  | 88 => ⟨S6, .i32⟩
  | 89 => ⟨S3x3x2x2x3x2x2x32, .f32⟩
  | 90 => ⟨S32x3x1x1, .f32⟩
  | 91 => ⟨S32x3, .f32⟩
  | 92 => ⟨S3x32, .f32⟩
  | 93 => ⟨S_, .i32⟩
  | 94 => ⟨S1, .i32⟩
  | 95 => ⟨S_, .i32⟩
  | 96 => ⟨S1, .i32⟩
  | 97 => ⟨S_, .i32⟩
  | 98 => ⟨S1, .i32⟩
  | 99 => ⟨S_, .i32⟩
  | 100 => ⟨S1, .i32⟩
  | 101 => ⟨S_, .i32⟩
  | 102 => ⟨S1, .i32⟩
  | 103 => ⟨S_, .i32⟩
  | 104 => ⟨S1, .i32⟩
  | 105 => ⟨S6, .i32⟩
  | 106 => ⟨S3x3x2x2x3x2x2x32, .f32⟩
  | 107 => ⟨S32x3x1x1, .f32⟩
  | 108 => ⟨S32x3, .f32⟩
  | 109 => ⟨S3x32, .f32⟩
  | 110 => ⟨S_, .i32⟩
  | 111 => ⟨S1, .i32⟩
  | 112 => ⟨S_, .i32⟩
  | 113 => ⟨S1, .i32⟩
  | 114 => ⟨S_, .i32⟩
  | 115 => ⟨S1, .i32⟩
  | 116 => ⟨S_, .i32⟩
  | 117 => ⟨S1, .i32⟩
  | 118 => ⟨S_, .i32⟩
  | 119 => ⟨S1, .i32⟩
  | 120 => ⟨S_, .i32⟩
  | 121 => ⟨S1, .i32⟩
  | 122 => ⟨S6, .i32⟩
  | 123 => ⟨S3x3x2x2x3x2x2x32, .f32⟩
  | 124 => ⟨S32x3x1x1, .f32⟩
  | 125 => ⟨S32x3, .f32⟩
  | 126 => ⟨S3x32, .f32⟩
  | 127 => ⟨S_, .i32⟩
  | _ => ⟨S16x3x224x224, .f32⟩

abbrev hbmTy0_3 (i : Nat) : BufTy := match i % 128 with
  | 0 => ⟨S1, .i32⟩
  | 1 => ⟨S_, .i32⟩
  | 2 => ⟨S1, .i32⟩
  | 3 => ⟨S_, .i32⟩
  | 4 => ⟨S1, .i32⟩
  | 5 => ⟨S_, .i32⟩
  | 6 => ⟨S1, .i32⟩
  | 7 => ⟨S_, .i32⟩
  | 8 => ⟨S1, .i32⟩
  | 9 => ⟨S_, .i32⟩
  | 10 => ⟨S1, .i32⟩
  | 11 => ⟨S6, .i32⟩
  | 12 => ⟨S3x3x2x2x3x2x2x32, .f32⟩
  | 13 => ⟨S32x3x1x1, .f32⟩
  | 14 => ⟨S32x3, .f32⟩
  | 15 => ⟨S3x32, .f32⟩
  | 16 => ⟨S_, .i32⟩
  | 17 => ⟨S1, .i32⟩
  | 18 => ⟨S_, .i32⟩
  | 19 => ⟨S1, .i32⟩
  | 20 => ⟨S_, .i32⟩
  | 21 => ⟨S1, .i32⟩
  | 22 => ⟨S_, .i32⟩
  | 23 => ⟨S1, .i32⟩
  | 24 => ⟨S_, .i32⟩
  | 25 => ⟨S1, .i32⟩
  | 26 => ⟨S_, .i32⟩
  | 27 => ⟨S1, .i32⟩
  | 28 => ⟨S6, .i32⟩
  | 29 => ⟨S3x3x2x2x3x2x2x32, .f32⟩
  | 30 => ⟨S32x3x1x1, .f32⟩
  | 31 => ⟨S32x3, .f32⟩
  | 32 => ⟨S3x32, .f32⟩
  | 33 => ⟨S_, .i32⟩
  | 34 => ⟨S1, .i32⟩
  | 35 => ⟨S_, .i32⟩
  | 36 => ⟨S1, .i32⟩
  | 37 => ⟨S_, .i32⟩
  | 38 => ⟨S1, .i32⟩
  | 39 => ⟨S_, .i32⟩
  | 40 => ⟨S1, .i32⟩
  | 41 => ⟨S_, .i32⟩
  | 42 => ⟨S1, .i32⟩
  | 43 => ⟨S_, .i32⟩
  | 44 => ⟨S1, .i32⟩
  | 45 => ⟨S6, .i32⟩
  | 46 => ⟨S3x3x2x2x3x2x2x32, .f32⟩
  | 47 => ⟨S32x3x1x1, .f32⟩
  | 48 => ⟨S32x3, .f32⟩
  | 49 => ⟨S3x32, .f32⟩
  | 50 => ⟨S_, .i32⟩
  | 51 => ⟨S1, .i32⟩
  | 52 => ⟨S_, .i32⟩
  | 53 => ⟨S1, .i32⟩
  | 54 => ⟨S_, .i32⟩
  | 55 => ⟨S1, .i32⟩
  | 56 => ⟨S_, .i32⟩
  | 57 => ⟨S1, .i32⟩
  | 58 => ⟨S_, .i32⟩
  | 59 => ⟨S1, .i32⟩
  | 60 => ⟨S_, .i32⟩
  | 61 => ⟨S1, .i32⟩
  | 62 => ⟨S6, .i32⟩
  | 63 => ⟨S3x3x2x2x3x2x2x32, .f32⟩
  | 64 => ⟨S32x3x1x1, .f32⟩
  | 65 => ⟨S32x3, .f32⟩
  | 66 => ⟨S3x32, .f32⟩
  | 67 => ⟨S_, .i32⟩
  | 68 => ⟨S1, .i32⟩
  | 69 => ⟨S_, .i32⟩
  | 70 => ⟨S1, .i32⟩
  | 71 => ⟨S_, .i32⟩
  | 72 => ⟨S1, .i32⟩
  | 73 => ⟨S_, .i32⟩
  | 74 => ⟨S1, .i32⟩
  | 75 => ⟨S_, .i32⟩
  | 76 => ⟨S1, .i32⟩
  | 77 => ⟨S_, .i32⟩
  | 78 => ⟨S1, .i32⟩
  | 79 => ⟨S6, .i32⟩
  | 80 => ⟨S3x3x2x2x3x2x2x32, .f32⟩
  | 81 => ⟨S32x3x1x1, .f32⟩
  | 82 => ⟨S32x3, .f32⟩
  | 83 => ⟨S3x32, .f32⟩
  | 84 => ⟨S_, .i32⟩
  | 85 => ⟨S1, .i32⟩
  | 86 => ⟨S_, .i32⟩
  | 87 => ⟨S1, .i32⟩
  | 88 => ⟨S_, .i32⟩
  | 89 => ⟨S1, .i32⟩
  | 90 => ⟨S_, .i32⟩
  | 91 => ⟨S1, .i32⟩
  | 92 => ⟨S_, .i32⟩
  | 93 => ⟨S1, .i32⟩
  | 94 => ⟨S_, .i32⟩
  | 95 => ⟨S1, .i32⟩
  | 96 => ⟨S6, .i32⟩
  | 97 => ⟨S3x3x2x2x3x2x2x32, .f32⟩
  | 98 => ⟨S32x3x1x1, .f32⟩
  | 99 => ⟨S32x3, .f32⟩
  | 100 => ⟨S3x32, .f32⟩
  | 101 => ⟨S_, .i32⟩
  | 102 => ⟨S1, .i32⟩
  | 103 => ⟨S_, .i32⟩
  | 104 => ⟨S1, .i32⟩
  | 105 => ⟨S_, .i32⟩
  | 106 => ⟨S1, .i32⟩
  | 107 => ⟨S_, .i32⟩
  | 108 => ⟨S1, .i32⟩
  | 109 => ⟨S_, .i32⟩
  | 110 => ⟨S1, .i32⟩
  | 111 => ⟨S_, .i32⟩
  | 112 => ⟨S1, .i32⟩
  | 113 => ⟨S6, .i32⟩
  | 114 => ⟨S3x3x2x2x3x2x2x32, .f32⟩
  | 115 => ⟨S32x3x1x1, .f32⟩
  | 116 => ⟨S32x3, .f32⟩
  | 117 => ⟨S3x32, .f32⟩
  | 118 => ⟨S_, .i32⟩
  | 119 => ⟨S1, .i32⟩
  | 120 => ⟨S_, .i32⟩
  | 121 => ⟨S1, .i32⟩
  | 122 => ⟨S_, .i32⟩
  | 123 => ⟨S1, .i32⟩
  | 124 => ⟨S_, .i32⟩
  | 125 => ⟨S1, .i32⟩
  | 126 => ⟨S_, .i32⟩
  | 127 => ⟨S1, .i32⟩
  | _ => ⟨S16x3x224x224, .f32⟩

abbrev hbmTy0_4 (i : Nat) : BufTy := match i % 128 with
  | 0 => ⟨S_, .i32⟩
  | 1 => ⟨S1, .i32⟩
  | 2 => ⟨S6, .i32⟩
  | 3 => ⟨S3x3x2x2x3x2x2x32, .f32⟩
  | 4 => ⟨S32x3x1x1, .f32⟩
  | 5 => ⟨S32x3, .f32⟩
  | 6 => ⟨S3x32, .f32⟩
  | 7 => ⟨S_, .i32⟩
  | 8 => ⟨S1, .i32⟩
  | 9 => ⟨S_, .i32⟩
  | 10 => ⟨S1, .i32⟩
  | 11 => ⟨S_, .i32⟩
  | 12 => ⟨S1, .i32⟩
  | 13 => ⟨S_, .i32⟩
  | 14 => ⟨S1, .i32⟩
  | 15 => ⟨S_, .i32⟩
  | 16 => ⟨S1, .i32⟩
  | 17 => ⟨S_, .i32⟩
  | 18 => ⟨S1, .i32⟩
  | 19 => ⟨S6, .i32⟩
  | 20 => ⟨S3x3x2x2x3x2x2x32, .f32⟩
  | 21 => ⟨S32x3x1x1, .f32⟩
  | 22 => ⟨S32x3, .f32⟩
  | 23 => ⟨S3x32, .f32⟩
  | 24 => ⟨S_, .i32⟩
  | 25 => ⟨S1, .i32⟩
  | 26 => ⟨S_, .i32⟩
  | 27 => ⟨S1, .i32⟩
  | 28 => ⟨S_, .i32⟩
  | 29 => ⟨S1, .i32⟩
  | 30 => ⟨S_, .i32⟩
  | 31 => ⟨S1, .i32⟩
  | 32 => ⟨S_, .i32⟩
  | 33 => ⟨S1, .i32⟩
  | 34 => ⟨S_, .i32⟩
  | 35 => ⟨S1, .i32⟩
  | 36 => ⟨S6, .i32⟩
  | 37 => ⟨S3x3x2x2x3x2x2x32, .f32⟩
  | 38 => ⟨S32x3x1x1, .f32⟩
  | 39 => ⟨S32x3, .f32⟩
  | 40 => ⟨S3x32, .f32⟩
  | 41 => ⟨S_, .i32⟩
  | 42 => ⟨S1, .i32⟩
  | 43 => ⟨S_, .i32⟩
  | 44 => ⟨S1, .i32⟩
  | 45 => ⟨S_, .i32⟩
  | 46 => ⟨S1, .i32⟩
  | 47 => ⟨S_, .i32⟩
  | 48 => ⟨S1, .i32⟩
  | 49 => ⟨S_, .i32⟩
  | 50 => ⟨S1, .i32⟩
  | 51 => ⟨S_, .i32⟩
  | 52 => ⟨S1, .i32⟩
  | 53 => ⟨S6, .i32⟩
  | 54 => ⟨S3x3x2x2x3x2x2x32, .f32⟩
  | 55 => ⟨S32x3x1x1, .f32⟩
  | 56 => ⟨S32x3, .f32⟩
  | 57 => ⟨S3x32, .f32⟩
  | 58 => ⟨S_, .i32⟩
  | 59 => ⟨S1, .i32⟩
  | 60 => ⟨S_, .i32⟩
  | 61 => ⟨S1, .i32⟩
  | 62 => ⟨S_, .i32⟩
  | 63 => ⟨S1, .i32⟩
  | 64 => ⟨S_, .i32⟩
  | 65 => ⟨S1, .i32⟩
  | 66 => ⟨S_, .i32⟩
  | 67 => ⟨S1, .i32⟩
  | 68 => ⟨S_, .i32⟩
  | 69 => ⟨S1, .i32⟩
  | 70 => ⟨S6, .i32⟩
  | 71 => ⟨S3x3x2x2x3x2x2x32, .f32⟩
  | 72 => ⟨S32x3x1x1, .f32⟩
  | 73 => ⟨S32x3, .f32⟩
  | 74 => ⟨S3x32, .f32⟩
  | 75 => ⟨S_, .i32⟩
  | 76 => ⟨S1, .i32⟩
  | 77 => ⟨S_, .i32⟩
  | 78 => ⟨S1, .i32⟩
  | 79 => ⟨S_, .i32⟩
  | 80 => ⟨S1, .i32⟩
  | 81 => ⟨S_, .i32⟩
  | 82 => ⟨S1, .i32⟩
  | 83 => ⟨S_, .i32⟩
  | 84 => ⟨S1, .i32⟩
  | 85 => ⟨S_, .i32⟩
  | 86 => ⟨S1, .i32⟩
  | 87 => ⟨S6, .i32⟩
  | 88 => ⟨S3x3x2x2x3x2x2x32, .f32⟩
  | 89 => ⟨S32x3x1x1, .f32⟩
  | 90 => ⟨S32x3, .f32⟩
  | 91 => ⟨S3x32, .f32⟩
  | 92 => ⟨S_, .i32⟩
  | 93 => ⟨S1, .i32⟩
  | 94 => ⟨S_, .i32⟩
  | 95 => ⟨S1, .i32⟩
  | 96 => ⟨S_, .i32⟩
  | 97 => ⟨S1, .i32⟩
  | 98 => ⟨S_, .i32⟩
  | 99 => ⟨S1, .i32⟩
  | 100 => ⟨S_, .i32⟩
  | 101 => ⟨S1, .i32⟩
  | 102 => ⟨S_, .i32⟩
  | 103 => ⟨S1, .i32⟩
  | 104 => ⟨S6, .i32⟩
  | 105 => ⟨S3x3x2x2x3x2x2x32, .f32⟩
  | 106 => ⟨S32x3x1x1, .f32⟩
  | 107 => ⟨S32x3, .f32⟩
  | 108 => ⟨S3x32, .f32⟩
  | 109 => ⟨S_, .i32⟩
  | 110 => ⟨S1, .i32⟩
  | 111 => ⟨S_, .i32⟩
  | 112 => ⟨S1, .i32⟩
  | 113 => ⟨S_, .i32⟩
  | 114 => ⟨S1, .i32⟩
  | 115 => ⟨S_, .i32⟩
  | 116 => ⟨S1, .i32⟩
  | 117 => ⟨S_, .i32⟩
  | 118 => ⟨S1, .i32⟩
  | 119 => ⟨S_, .i32⟩
  | 120 => ⟨S1, .i32⟩
  | 121 => ⟨S6, .i32⟩
  | 122 => ⟨S3x3x2x2x3x2x2x32, .f32⟩
  | 123 => ⟨S32x3x1x1, .f32⟩
  | 124 => ⟨S32x3, .f32⟩
  | 125 => ⟨S3x32, .f32⟩
  | 126 => ⟨S_, .i32⟩
  | 127 => ⟨S1, .i32⟩
  | _ => ⟨S16x3x224x224, .f32⟩

abbrev hbmTy0_5 (i : Nat) : BufTy := match i % 128 with
  | 0 => ⟨S_, .i32⟩
  | 1 => ⟨S1, .i32⟩
  | 2 => ⟨S_, .i32⟩
  | 3 => ⟨S1, .i32⟩
  | 4 => ⟨S_, .i32⟩
  | 5 => ⟨S1, .i32⟩
  | 6 => ⟨S_, .i32⟩
  | 7 => ⟨S1, .i32⟩
  | 8 => ⟨S_, .i32⟩
  | 9 => ⟨S1, .i32⟩
  | 10 => ⟨S6, .i32⟩
  | 11 => ⟨S3x3x2x2x3x2x2x32, .f32⟩
  | 12 => ⟨S32x3x1x1, .f32⟩
  | 13 => ⟨S32x3, .f32⟩
  | 14 => ⟨S3x32, .f32⟩
  | 15 => ⟨S_, .i32⟩
  | 16 => ⟨S1, .i32⟩
  | 17 => ⟨S_, .i32⟩
  | 18 => ⟨S1, .i32⟩
  | 19 => ⟨S_, .i32⟩
  | 20 => ⟨S1, .i32⟩
  | 21 => ⟨S_, .i32⟩
  | 22 => ⟨S1, .i32⟩
  | 23 => ⟨S_, .i32⟩
  | 24 => ⟨S1, .i32⟩
  | 25 => ⟨S_, .i32⟩
  | 26 => ⟨S1, .i32⟩
  | 27 => ⟨S6, .i32⟩
  | 28 => ⟨S3x3x2x2x3x2x2x32, .f32⟩
  | 29 => ⟨S32x3x1x1, .f32⟩
  | 30 => ⟨S32x3, .f32⟩
  | 31 => ⟨S3x32, .f32⟩
  | 32 => ⟨S_, .i32⟩
  | 33 => ⟨S1, .i32⟩
  | 34 => ⟨S_, .i32⟩
  | 35 => ⟨S1, .i32⟩
  | 36 => ⟨S_, .i32⟩
  | 37 => ⟨S1, .i32⟩
  | 38 => ⟨S_, .i32⟩
  | 39 => ⟨S1, .i32⟩
  | 40 => ⟨S_, .i32⟩
  | 41 => ⟨S1, .i32⟩
  | 42 => ⟨S_, .i32⟩
  | 43 => ⟨S1, .i32⟩
  | 44 => ⟨S6, .i32⟩
  | 45 => ⟨S3x3x2x2x3x2x2x32, .f32⟩
  | 46 => ⟨S32x3x1x1, .f32⟩
  | 47 => ⟨S32x3, .f32⟩
  | 48 => ⟨S3x32, .f32⟩
  | 49 => ⟨S_, .i32⟩
  | 50 => ⟨S1, .i32⟩
  | 51 => ⟨S_, .i32⟩
  | 52 => ⟨S1, .i32⟩
  | 53 => ⟨S_, .i32⟩
  | 54 => ⟨S1, .i32⟩
  | 55 => ⟨S_, .i32⟩
  | 56 => ⟨S1, .i32⟩
  | 57 => ⟨S_, .i32⟩
  | 58 => ⟨S1, .i32⟩
  | 59 => ⟨S_, .i32⟩
  | 60 => ⟨S1, .i32⟩
  | 61 => ⟨S6, .i32⟩
  | 62 => ⟨S3x3x2x2x3x2x2x32, .f32⟩
  | 63 => ⟨S32x3x1x1, .f32⟩
  | 64 => ⟨S32x3, .f32⟩
  | 65 => ⟨S3x32, .f32⟩
  | 66 => ⟨S_, .i32⟩
  | 67 => ⟨S1, .i32⟩
  | 68 => ⟨S_, .i32⟩
  | 69 => ⟨S1, .i32⟩
  | 70 => ⟨S_, .i32⟩
  | 71 => ⟨S1, .i32⟩
  | 72 => ⟨S_, .i32⟩
  | 73 => ⟨S1, .i32⟩
  | 74 => ⟨S_, .i32⟩
  | 75 => ⟨S1, .i32⟩
  | 76 => ⟨S_, .i32⟩
  | 77 => ⟨S1, .i32⟩
  | 78 => ⟨S6, .i32⟩
  | 79 => ⟨S3x3x2x2x3x2x2x32, .f32⟩
  | 80 => ⟨S32x3x1x1, .f32⟩
  | 81 => ⟨S32x3, .f32⟩
  | 82 => ⟨S3x32, .f32⟩
  | 83 => ⟨S_, .i32⟩
  | 84 => ⟨S1, .i32⟩
  | 85 => ⟨S_, .i32⟩
  | 86 => ⟨S1, .i32⟩
  | 87 => ⟨S_, .i32⟩
  | 88 => ⟨S1, .i32⟩
  | 89 => ⟨S_, .i32⟩
  | 90 => ⟨S1, .i32⟩
  | 91 => ⟨S_, .i32⟩
  | 92 => ⟨S1, .i32⟩
  | 93 => ⟨S_, .i32⟩
  | 94 => ⟨S1, .i32⟩
  | 95 => ⟨S6, .i32⟩
  | 96 => ⟨S3x3x2x2x3x2x2x32, .f32⟩
  | 97 => ⟨S32x3x1x1, .f32⟩
  | 98 => ⟨S32x3, .f32⟩
  | 99 => ⟨S3x32, .f32⟩
  | 100 => ⟨S_, .i32⟩
  | 101 => ⟨S1, .i32⟩
  | 102 => ⟨S_, .i32⟩
  | 103 => ⟨S1, .i32⟩
  | 104 => ⟨S_, .i32⟩
  | 105 => ⟨S1, .i32⟩
  | 106 => ⟨S_, .i32⟩
  | 107 => ⟨S1, .i32⟩
  | 108 => ⟨S_, .i32⟩
  | 109 => ⟨S1, .i32⟩
  | 110 => ⟨S_, .i32⟩
  | 111 => ⟨S1, .i32⟩
  | 112 => ⟨S6, .i32⟩
  | 113 => ⟨S3x3x2x2x3x2x2x32, .f32⟩
  | 114 => ⟨S32x3x1x1, .f32⟩
  | 115 => ⟨S32x3, .f32⟩
  | 116 => ⟨S3x32, .f32⟩
  | 117 => ⟨S_, .i32⟩
  | 118 => ⟨S1, .i32⟩
  | 119 => ⟨S_, .i32⟩
  | 120 => ⟨S1, .i32⟩
  | 121 => ⟨S_, .i32⟩
  | 122 => ⟨S1, .i32⟩
  | 123 => ⟨S_, .i32⟩
  | 124 => ⟨S1, .i32⟩
  | 125 => ⟨S_, .i32⟩
  | 126 => ⟨S1, .i32⟩
  | 127 => ⟨S_, .i32⟩
  | _ => ⟨S16x3x224x224, .f32⟩

abbrev hbmTy0_6 (i : Nat) : BufTy := match i % 128 with
  | 0 => ⟨S1, .i32⟩
  | 1 => ⟨S6, .i32⟩
  | 2 => ⟨S3x3x2x2x3x2x2x32, .f32⟩
  | 3 => ⟨S32x3x1x1, .f32⟩
  | 4 => ⟨S32x3, .f32⟩
  | 5 => ⟨S3x32, .f32⟩
  | 6 => ⟨S_, .i32⟩
  | 7 => ⟨S1, .i32⟩
  | 8 => ⟨S_, .i32⟩
  | 9 => ⟨S1, .i32⟩
  | 10 => ⟨S_, .i32⟩
  | 11 => ⟨S1, .i32⟩
  | 12 => ⟨S_, .i32⟩
  | 13 => ⟨S1, .i32⟩
  | 14 => ⟨S_, .i32⟩
  | 15 => ⟨S1, .i32⟩
  | 16 => ⟨S_, .i32⟩
  | 17 => ⟨S1, .i32⟩
  | 18 => ⟨S6, .i32⟩
  | 19 => ⟨S3x3x2x2x3x2x2x32, .f32⟩
  | 20 => ⟨S32x3x1x1, .f32⟩
  | 21 => ⟨S32x3, .f32⟩
  | 22 => ⟨S3x32, .f32⟩
  | 23 => ⟨S_, .i32⟩
  | 24 => ⟨S1, .i32⟩
  | 25 => ⟨S_, .i32⟩
  | 26 => ⟨S1, .i32⟩
  | 27 => ⟨S_, .i32⟩
  | 28 => ⟨S1, .i32⟩
  | 29 => ⟨S_, .i32⟩
  | 30 => ⟨S1, .i32⟩
  | 31 => ⟨S_, .i32⟩
  | 32 => ⟨S1, .i32⟩
  | 33 => ⟨S_, .i32⟩
  | 34 => ⟨S1, .i32⟩
  | 35 => ⟨S6, .i32⟩
  | 36 => ⟨S3x3x2x2x3x2x2x32, .f32⟩
  | 37 => ⟨S32x3x1x1, .f32⟩
  | 38 => ⟨S32x3, .f32⟩
  | 39 => ⟨S3x32, .f32⟩
  | 40 => ⟨S_, .i32⟩
  | 41 => ⟨S1, .i32⟩
  | 42 => ⟨S_, .i32⟩
  | 43 => ⟨S1, .i32⟩
  | 44 => ⟨S_, .i32⟩
  | 45 => ⟨S1, .i32⟩
  | 46 => ⟨S_, .i32⟩
  | 47 => ⟨S1, .i32⟩
  | 48 => ⟨S_, .i32⟩
  | 49 => ⟨S1, .i32⟩
  | 50 => ⟨S_, .i32⟩
  | 51 => ⟨S1, .i32⟩
  | 52 => ⟨S6, .i32⟩
  | 53 => ⟨S3x3x2x2x3x2x2x32, .f32⟩
  | 54 => ⟨S32x3x1x1, .f32⟩
  | 55 => ⟨S32x3, .f32⟩
  | 56 => ⟨S3x32, .f32⟩
  | 57 => ⟨S_, .i32⟩
  | 58 => ⟨S1, .i32⟩
  | 59 => ⟨S_, .i32⟩
  | 60 => ⟨S1, .i32⟩
  | 61 => ⟨S_, .i32⟩
  | 62 => ⟨S1, .i32⟩
  | 63 => ⟨S_, .i32⟩
  | 64 => ⟨S1, .i32⟩
  | 65 => ⟨S_, .i32⟩
  | 66 => ⟨S1, .i32⟩
  | 67 => ⟨S_, .i32⟩
  | 68 => ⟨S1, .i32⟩
  | 69 => ⟨S6, .i32⟩
  | 70 => ⟨S3x3x2x2x3x2x2x32, .f32⟩
  | 71 => ⟨S32x3x1x1, .f32⟩
  | 72 => ⟨S32x3, .f32⟩
  | 73 => ⟨S3x32, .f32⟩
  | 74 => ⟨S_, .i32⟩
  | 75 => ⟨S1, .i32⟩
  | 76 => ⟨S_, .i32⟩
  | 77 => ⟨S1, .i32⟩
  | 78 => ⟨S_, .i32⟩
  | 79 => ⟨S1, .i32⟩
  | 80 => ⟨S_, .i32⟩
  | 81 => ⟨S1, .i32⟩
  | 82 => ⟨S_, .i32⟩
  | 83 => ⟨S1, .i32⟩
  | 84 => ⟨S_, .i32⟩
  | 85 => ⟨S1, .i32⟩
  | 86 => ⟨S6, .i32⟩
  | 87 => ⟨S3x3x2x2x3x2x2x32, .f32⟩
  | 88 => ⟨S32x3x1x1, .f32⟩
  | 89 => ⟨S32x3, .f32⟩
  | 90 => ⟨S3x32, .f32⟩
  | 91 => ⟨S_, .i32⟩
  | 92 => ⟨S1, .i32⟩
  | 93 => ⟨S_, .i32⟩
  | 94 => ⟨S1, .i32⟩
  | 95 => ⟨S_, .i32⟩
  | 96 => ⟨S1, .i32⟩
  | 97 => ⟨S_, .i32⟩
  | 98 => ⟨S1, .i32⟩
  | 99 => ⟨S_, .i32⟩
  | 100 => ⟨S1, .i32⟩
  | 101 => ⟨S_, .i32⟩
  | 102 => ⟨S1, .i32⟩
  | 103 => ⟨S6, .i32⟩
  | 104 => ⟨S3x3x2x2x3x2x2x32, .f32⟩
  | 105 => ⟨S32x3x1x1, .f32⟩
  | 106 => ⟨S32x3, .f32⟩
  | 107 => ⟨S3x32, .f32⟩
  | 108 => ⟨S_, .i32⟩
  | 109 => ⟨S1, .i32⟩
  | 110 => ⟨S_, .i32⟩
  | 111 => ⟨S1, .i32⟩
  | 112 => ⟨S_, .i32⟩
  | 113 => ⟨S1, .i32⟩
  | 114 => ⟨S_, .i32⟩
  | 115 => ⟨S1, .i32⟩
  | 116 => ⟨S_, .i32⟩
  | 117 => ⟨S1, .i32⟩
  | 118 => ⟨S_, .i32⟩
  | 119 => ⟨S1, .i32⟩
  | 120 => ⟨S6, .i32⟩
  | 121 => ⟨S3x3x2x2x3x2x2x32, .f32⟩
  | 122 => ⟨S32x3x1x1, .f32⟩
  | 123 => ⟨S32x3, .f32⟩
  | 124 => ⟨S3x32, .f32⟩
  | 125 => ⟨S_, .i32⟩
  | 126 => ⟨S1, .i32⟩
  | 127 => ⟨S_, .i32⟩
  | _ => ⟨S16x3x224x224, .f32⟩

abbrev hbmTy0_7 (i : Nat) : BufTy := match i % 128 with
  | 0 => ⟨S1, .i32⟩
  | 1 => ⟨S_, .i32⟩
  | 2 => ⟨S1, .i32⟩
  | 3 => ⟨S_, .i32⟩
  | 4 => ⟨S1, .i32⟩
  | 5 => ⟨S_, .i32⟩
  | 6 => ⟨S1, .i32⟩
  | 7 => ⟨S_, .i32⟩
  | 8 => ⟨S1, .i32⟩
  | 9 => ⟨S6, .i32⟩
  | 10 => ⟨S3x3x2x2x3x2x2x32, .f32⟩
  | 11 => ⟨S32x3x1x1, .f32⟩
  | 12 => ⟨S32x3, .f32⟩
  | 13 => ⟨S3x32, .f32⟩
  | 14 => ⟨S_, .i32⟩
  | 15 => ⟨S1, .i32⟩
  | 16 => ⟨S_, .i32⟩
  | 17 => ⟨S1, .i32⟩
  | 18 => ⟨S_, .i32⟩
  | 19 => ⟨S1, .i32⟩
  | 20 => ⟨S_, .i32⟩
  | 21 => ⟨S1, .i32⟩
  | 22 => ⟨S_, .i32⟩
  | 23 => ⟨S1, .i32⟩
  | 24 => ⟨S_, .i32⟩
  | 25 => ⟨S1, .i32⟩
  | 26 => ⟨S6, .i32⟩
  | 27 => ⟨S3x3x2x2x3x2x2x32, .f32⟩
  | 28 => ⟨S32x3x1x1, .f32⟩
  | 29 => ⟨S32x3, .f32⟩
  | 30 => ⟨S3x32, .f32⟩
  | 31 => ⟨S_, .i32⟩
  | 32 => ⟨S1, .i32⟩
  | 33 => ⟨S_, .i32⟩
  | 34 => ⟨S1, .i32⟩
  | 35 => ⟨S_, .i32⟩
  | 36 => ⟨S1, .i32⟩
  | 37 => ⟨S_, .i32⟩
  | 38 => ⟨S1, .i32⟩
  | 39 => ⟨S_, .i32⟩
  | 40 => ⟨S1, .i32⟩
  | 41 => ⟨S_, .i32⟩
  | 42 => ⟨S1, .i32⟩
  | 43 => ⟨S6, .i32⟩
  | 44 => ⟨S3x3x2x2x3x2x2x32, .f32⟩
  | 45 => ⟨S32x3x1x1, .f32⟩
  | 46 => ⟨S32x3, .f32⟩
  | 47 => ⟨S3x32, .f32⟩
  | 48 => ⟨S_, .i32⟩
  | 49 => ⟨S1, .i32⟩
  | 50 => ⟨S_, .i32⟩
  | 51 => ⟨S1, .i32⟩
  | 52 => ⟨S_, .i32⟩
  | 53 => ⟨S1, .i32⟩
  | 54 => ⟨S_, .i32⟩
  | 55 => ⟨S1, .i32⟩
  | 56 => ⟨S_, .i32⟩
  | 57 => ⟨S1, .i32⟩
  | 58 => ⟨S_, .i32⟩
  | 59 => ⟨S1, .i32⟩
  | 60 => ⟨S6, .i32⟩
  | 61 => ⟨S3x3x2x2x3x2x2x32, .f32⟩
  | 62 => ⟨S32x3x1x1, .f32⟩
  | 63 => ⟨S32x3, .f32⟩
  | 64 => ⟨S3x32, .f32⟩
  | 65 => ⟨S_, .i32⟩
  | 66 => ⟨S1, .i32⟩
  | 67 => ⟨S_, .i32⟩
  | 68 => ⟨S1, .i32⟩
  | 69 => ⟨S_, .i32⟩
  | 70 => ⟨S1, .i32⟩
  | 71 => ⟨S_, .i32⟩
  | 72 => ⟨S1, .i32⟩
  | 73 => ⟨S_, .i32⟩
  | 74 => ⟨S1, .i32⟩
  | 75 => ⟨S_, .i32⟩
  | 76 => ⟨S1, .i32⟩
  | 77 => ⟨S6, .i32⟩
  | 78 => ⟨S3x3x2x2x3x2x2x32, .f32⟩
  | 79 => ⟨S32x3x1x1, .f32⟩
  | 80 => ⟨S32x3, .f32⟩
  | 81 => ⟨S3x32, .f32⟩
  | 82 => ⟨S_, .i32⟩
  | 83 => ⟨S1, .i32⟩
  | 84 => ⟨S_, .i32⟩
  | 85 => ⟨S1, .i32⟩
  | 86 => ⟨S_, .i32⟩
  | 87 => ⟨S1, .i32⟩
  | 88 => ⟨S_, .i32⟩
  | 89 => ⟨S1, .i32⟩
  | 90 => ⟨S_, .i32⟩
  | 91 => ⟨S1, .i32⟩
  | 92 => ⟨S_, .i32⟩
  | 93 => ⟨S1, .i32⟩
  | 94 => ⟨S6, .i32⟩
  | 95 => ⟨S3x3x2x2x3x2x2x32, .f32⟩
  | 96 => ⟨S32x3x1x1, .f32⟩
  | 97 => ⟨S32x3, .f32⟩
  | 98 => ⟨S3x32, .f32⟩
  | 99 => ⟨S_, .i32⟩
  | 100 => ⟨S1, .i32⟩
  | 101 => ⟨S_, .i32⟩
  | 102 => ⟨S1, .i32⟩
  | 103 => ⟨S_, .i32⟩
  | 104 => ⟨S1, .i32⟩
  | 105 => ⟨S_, .i32⟩
  | 106 => ⟨S1, .i32⟩
  | 107 => ⟨S_, .i32⟩
  | 108 => ⟨S1, .i32⟩
  | 109 => ⟨S_, .i32⟩
  | 110 => ⟨S1, .i32⟩
  | 111 => ⟨S6, .i32⟩
  | 112 => ⟨S3x3x2x2x3x2x2x32, .f32⟩
  | 113 => ⟨S32x3x1x1, .f32⟩
  | 114 => ⟨S32x3, .f32⟩
  | 115 => ⟨S3x32, .f32⟩
  | 116 => ⟨S_, .i32⟩
  | 117 => ⟨S1, .i32⟩
  | 118 => ⟨S_, .i32⟩
  | 119 => ⟨S1, .i32⟩
  | 120 => ⟨S_, .i32⟩
  | 121 => ⟨S1, .i32⟩
  | 122 => ⟨S_, .i32⟩
  | 123 => ⟨S1, .i32⟩
  | 124 => ⟨S_, .i32⟩
  | 125 => ⟨S1, .i32⟩
  | 126 => ⟨S_, .i32⟩
  | 127 => ⟨S1, .i32⟩
  | _ => ⟨S16x3x224x224, .f32⟩

abbrev hbmTy0_8 (i : Nat) : BufTy := match i % 128 with
  | 0 => ⟨S6, .i32⟩
  | 1 => ⟨S3x3x2x2x3x2x2x32, .f32⟩
  | 2 => ⟨S32x3x1x1, .f32⟩
  | 3 => ⟨S32x3, .f32⟩
  | 4 => ⟨S3x32, .f32⟩
  | 5 => ⟨S_, .i32⟩
  | 6 => ⟨S1, .i32⟩
  | 7 => ⟨S_, .i32⟩
  | 8 => ⟨S1, .i32⟩
  | 9 => ⟨S_, .i32⟩
  | 10 => ⟨S1, .i32⟩
  | 11 => ⟨S_, .i32⟩
  | 12 => ⟨S1, .i32⟩
  | 13 => ⟨S_, .i32⟩
  | 14 => ⟨S1, .i32⟩
  | 15 => ⟨S_, .i32⟩
  | 16 => ⟨S1, .i32⟩
  | 17 => ⟨S6, .i32⟩
  | 18 => ⟨S3x3x2x2x3x2x2x32, .f32⟩
  | 19 => ⟨S32x3x1x1, .f32⟩
  | 20 => ⟨S32x3, .f32⟩
  | 21 => ⟨S3x32, .f32⟩
  | 22 => ⟨S_, .i32⟩
  | 23 => ⟨S1, .i32⟩
  | 24 => ⟨S_, .i32⟩
  | 25 => ⟨S1, .i32⟩
  | 26 => ⟨S_, .i32⟩
  | 27 => ⟨S1, .i32⟩
  | 28 => ⟨S_, .i32⟩
  | 29 => ⟨S1, .i32⟩
  | 30 => ⟨S_, .i32⟩
  | 31 => ⟨S1, .i32⟩
  | 32 => ⟨S_, .i32⟩
  | 33 => ⟨S1, .i32⟩
  | 34 => ⟨S6, .i32⟩
  | 35 => ⟨S3x3x2x2x3x2x2x32, .f32⟩
  | 36 => ⟨S32x3x1x1, .f32⟩
  | 37 => ⟨S32x3, .f32⟩
  | 38 => ⟨S3x32, .f32⟩
  | 39 => ⟨S_, .i32⟩
  | 40 => ⟨S1, .i32⟩
  | 41 => ⟨S_, .i32⟩
  | 42 => ⟨S1, .i32⟩
  | 43 => ⟨S_, .i32⟩
  | 44 => ⟨S1, .i32⟩
  | 45 => ⟨S_, .i32⟩
  | 46 => ⟨S1, .i32⟩
  | 47 => ⟨S_, .i32⟩
  | 48 => ⟨S1, .i32⟩
  | 49 => ⟨S_, .i32⟩
  | 50 => ⟨S1, .i32⟩
  | 51 => ⟨S6, .i32⟩
  | 52 => ⟨S3x3x2x2x3x2x2x32, .f32⟩
  | 53 => ⟨S32x3x1x1, .f32⟩
  | 54 => ⟨S32x3, .f32⟩
  | 55 => ⟨S3x32, .f32⟩
  | 56 => ⟨S_, .i32⟩
  | 57 => ⟨S1, .i32⟩
  | 58 => ⟨S_, .i32⟩
  | 59 => ⟨S1, .i32⟩
  | 60 => ⟨S_, .i32⟩
  | 61 => ⟨S1, .i32⟩
  | 62 => ⟨S_, .i32⟩
  | 63 => ⟨S1, .i32⟩
  | 64 => ⟨S_, .i32⟩
  | 65 => ⟨S1, .i32⟩
  | 66 => ⟨S_, .i32⟩
  | 67 => ⟨S1, .i32⟩
  | 68 => ⟨S6, .i32⟩
  | 69 => ⟨S3x3x2x2x3x2x2x32, .f32⟩
  | 70 => ⟨S32x3x1x1, .f32⟩
  | 71 => ⟨S32x3, .f32⟩
  | 72 => ⟨S3x32, .f32⟩
  | 73 => ⟨S_, .i32⟩
  | 74 => ⟨S1, .i32⟩
  | 75 => ⟨S_, .i32⟩
  | 76 => ⟨S1, .i32⟩
  | 77 => ⟨S_, .i32⟩
  | 78 => ⟨S1, .i32⟩
  | 79 => ⟨S_, .i32⟩
  | 80 => ⟨S1, .i32⟩
  | 81 => ⟨S_, .i32⟩
  | 82 => ⟨S1, .i32⟩
  | 83 => ⟨S_, .i32⟩
  | 84 => ⟨S1, .i32⟩
  | 85 => ⟨S6, .i32⟩
  | 86 => ⟨S3x3x2x2x3x2x2x32, .f32⟩
  | 87 => ⟨S108x128, .f32⟩
  | 88 => ⟨S1x32, .f32⟩
  | 89 => ⟨S4x32, .f32⟩
  | 90 => ⟨S128, .f32⟩
  | 91 => ⟨S1x1x128, .f32⟩
  | 92 => ⟨S16x60x60x128, .f32⟩
  | 93 => ⟨S64x32x2x2x2x2, .f32⟩
  | 94 => ⟨S2x2x2x2x32x64, .f32⟩
  | 95 => ⟨S512x64, .f32⟩
  | 96 => ⟨S1x1x64, .f32⟩
  | 97 => ⟨S16x29x29x256, .f32⟩
  | 98 => ⟨S64x64x2x2x2x2, .f32⟩
  | 99 => ⟨S2x2x2x2x64x64, .f32⟩
  | 100 => ⟨S1024x64, .f32⟩
  | 101 => ⟨S1x1x64, .f32⟩
  | 102 => ⟨S16x28x28x64, .f32⟩
  | 103 => ⟨S16x30x30x64, .f32⟩
  | 104 => ⟨S16x1x128, .f32⟩
  | 105 => ⟨S16x1x1, .f32⟩
  | 106 => ⟨S16, .f32⟩
  | 107 => ⟨S_, .f32⟩
  | 108 => ⟨S_, .f32⟩
  | 109 => ⟨S_, .f32⟩
  | 110 => ⟨S_, .f32⟩
  | 111 => ⟨S64x64x1x1, .f32⟩
  | 112 => ⟨S64x64, .f32⟩
  | 113 => ⟨S64x64x1x1, .f32⟩
  | 114 => ⟨S64x64, .f32⟩
  | 115 => ⟨S64x64x1x1, .f32⟩
  | 116 => ⟨S64x64, .f32⟩
  | 117 => ⟨S64x64x1x1, .f32⟩
  | 118 => ⟨S64x64, .f32⟩
  | 119 => ⟨S256x64, .f32⟩
  | 120 => ⟨S64x64x1x1, .f32⟩
  | 121 => ⟨S64x64, .f32⟩
  | 122 => ⟨S64x64x1x1, .f32⟩
  | 123 => ⟨S64x64, .f32⟩
  | 124 => ⟨S64x64x1x1, .f32⟩
  | 125 => ⟨S64x64, .f32⟩
  | 126 => ⟨S64x64x1x1, .f32⟩
  | 127 => ⟨S64x64, .f32⟩
  | _ => ⟨S16x3x224x224, .f32⟩

abbrev hbmTy0_9 (i : Nat) : BufTy := match i % 128 with
  | 0 => ⟨S256x64, .f32⟩
  | 1 => ⟨S1x256x64, .f32⟩
  | 2 => ⟨S1x256x64, .f32⟩
  | 3 => ⟨S2x256x64, .f32⟩
  | 4 => ⟨S64x64x1x1, .f32⟩
  | 5 => ⟨S64x64, .f32⟩
  | 6 => ⟨S64x64x1x1, .f32⟩
  | 7 => ⟨S64x64, .f32⟩
  | 8 => ⟨S64x64x1x1, .f32⟩
  | 9 => ⟨S64x64, .f32⟩
  | 10 => ⟨S64x64x1x1, .f32⟩
  | 11 => ⟨S64x64, .f32⟩
  | 12 => ⟨S256x64, .f32⟩
  | 13 => ⟨S64x64x1x1, .f32⟩
  | 14 => ⟨S64x64, .f32⟩
  | 15 => ⟨S64x64x1x1, .f32⟩
  | 16 => ⟨S64x64, .f32⟩
  | 17 => ⟨S64x64x1x1, .f32⟩
  | 18 => ⟨S64x64, .f32⟩
  | 19 => ⟨S64x64x1x1, .f32⟩
  | 20 => ⟨S64x64, .f32⟩
  | 21 => ⟨S256x64, .f32⟩
  | 22 => ⟨S1x256x64, .f32⟩
  | 23 => ⟨S1x256x64, .f32⟩
  | 24 => ⟨S2x256x64, .f32⟩
  | 25 => ⟨S1x2x256x64, .f32⟩
  | 26 => ⟨S1x2x256x64, .f32⟩
  | 27 => ⟨S2x2x256x64, .f32⟩
  | 28 => ⟨S1x1x64, .f32⟩
  | 29 => ⟨S16x58x58x64, .f32⟩
  | 30 => ⟨S64x32x1x1, .f32⟩
  | 31 => ⟨S64x32, .f32⟩
  | 32 => ⟨S64x32x1x1, .f32⟩
  | 33 => ⟨S64x32, .f32⟩
  | 34 => ⟨S64x32x1x1, .f32⟩
  | 35 => ⟨S64x32, .f32⟩
  | 36 => ⟨S64x32x1x1, .f32⟩
  | 37 => ⟨S64x32, .f32⟩
  | 38 => ⟨S256x32, .f32⟩
  | 39 => ⟨S64x32x1x1, .f32⟩
  | 40 => ⟨S64x32, .f32⟩
  | 41 => ⟨S64x32x1x1, .f32⟩
  | 42 => ⟨S64x32, .f32⟩
  | 43 => ⟨S64x32x1x1, .f32⟩
  | 44 => ⟨S64x32, .f32⟩
  | 45 => ⟨S64x32x1x1, .f32⟩
  | 46 => ⟨S64x32, .f32⟩
  | 47 => ⟨S256x32, .f32⟩
  | 48 => ⟨S1x256x32, .f32⟩
  | 49 => ⟨S1x256x32, .f32⟩
  | 50 => ⟨S2x256x32, .f32⟩
  | 51 => ⟨S64x32x1x1, .f32⟩
  | 52 => ⟨S64x32, .f32⟩
  | 53 => ⟨S64x32x1x1, .f32⟩
  | 54 => ⟨S64x32, .f32⟩
  | 55 => ⟨S64x32x1x1, .f32⟩
  | 56 => ⟨S64x32, .f32⟩
  | 57 => ⟨S64x32x1x1, .f32⟩
  | 58 => ⟨S64x32, .f32⟩
  | 59 => ⟨S256x32, .f32⟩
  | 60 => ⟨S64x32x1x1, .f32⟩
  | 61 => ⟨S64x32, .f32⟩
  | 62 => ⟨S64x32x1x1, .f32⟩
  | 63 => ⟨S64x32, .f32⟩
  | 64 => ⟨S64x32x1x1, .f32⟩
  | 65 => ⟨S64x32, .f32⟩
  | 66 => ⟨S64x32x1x1, .f32⟩
  | 67 => ⟨S64x32, .f32⟩
  | 68 => ⟨S256x32, .f32⟩
  | 69 => ⟨S1x256x32, .f32⟩
  | 70 => ⟨S1x256x32, .f32⟩
  | 71 => ⟨S2x256x32, .f32⟩
  | 72 => ⟨S1x2x256x32, .f32⟩
  | 73 => ⟨S1x2x256x32, .f32⟩
  | 74 => ⟨S2x2x256x32, .f32⟩
  | 75 => ⟨S1x1x32, .f32⟩
  | 76 => ⟨S16x57x57x128, .f32⟩
  | 77 => ⟨S_, .f32⟩
  | 78 => ⟨S2x2x2x2x32x2x2x2x2x3, .f32⟩
  | 79 => ⟨S32x3x1x1, .f32⟩
  | 80 => ⟨S32x3, .f32⟩
  | 81 => ⟨S_, .i32⟩
  | 82 => ⟨S1, .i32⟩
  | 83 => ⟨S_, .i32⟩
  | 84 => ⟨S1, .i32⟩
  | 85 => ⟨S_, .i32⟩
  | 86 => ⟨S1, .i32⟩
  | 87 => ⟨S_, .i32⟩
  | 88 => ⟨S1, .i32⟩
  | 89 => ⟨S_, .i32⟩
  | 90 => ⟨S1, .i32⟩
  | 91 => ⟨S_, .i32⟩
  | 92 => ⟨S1, .i32⟩
  | 93 => ⟨S_, .i32⟩
  | 94 => ⟨S1, .i32⟩
  | 95 => ⟨S_, .i32⟩
  | 96 => ⟨S1, .i32⟩
  | 97 => ⟨S8, .i32⟩
  | 98 => ⟨S2x2x2x2x32x2x2x2x2x3, .f32⟩
  | 99 => ⟨S32x3x1x1, .f32⟩
  | 100 => ⟨S32x3, .f32⟩
  | 101 => ⟨S_, .i32⟩
  | 102 => ⟨S1, .i32⟩
  | 103 => ⟨S_, .i32⟩
  | 104 => ⟨S1, .i32⟩
  | 105 => ⟨S_, .i32⟩
  | 106 => ⟨S1, .i32⟩
  | 107 => ⟨S_, .i32⟩
  | 108 => ⟨S1, .i32⟩
  | 109 => ⟨S_, .i32⟩
  | 110 => ⟨S1, .i32⟩
  | 111 => ⟨S_, .i32⟩
  | 112 => ⟨S1, .i32⟩
  | 113 => ⟨S_, .i32⟩
  | 114 => ⟨S1, .i32⟩
  | 115 => ⟨S_, .i32⟩
  | 116 => ⟨S1, .i32⟩
  | 117 => ⟨S8, .i32⟩
  | 118 => ⟨S2x2x2x2x32x2x2x2x2x3, .f32⟩
  | 119 => ⟨S32x3x1x1, .f32⟩
  | 120 => ⟨S32x3, .f32⟩
  | 121 => ⟨S_, .i32⟩
  | 122 => ⟨S1, .i32⟩
  | 123 => ⟨S_, .i32⟩
  | 124 => ⟨S1, .i32⟩
  | 125 => ⟨S_, .i32⟩
  | 126 => ⟨S1, .i32⟩
  | 127 => ⟨S_, .i32⟩
  | _ => ⟨S16x3x224x224, .f32⟩

abbrev hbmTy0_10 (i : Nat) : BufTy := match i % 128 with
  | 0 => ⟨S1, .i32⟩
  | 1 => ⟨S_, .i32⟩
  | 2 => ⟨S1, .i32⟩
  | 3 => ⟨S_, .i32⟩
  | 4 => ⟨S1, .i32⟩
  | 5 => ⟨S_, .i32⟩
  | 6 => ⟨S1, .i32⟩
  | 7 => ⟨S_, .i32⟩
  | 8 => ⟨S1, .i32⟩
  | 9 => ⟨S8, .i32⟩
  | 10 => ⟨S2x2x2x2x32x2x2x2x2x3, .f32⟩
  | 11 => ⟨S32x3x1x1, .f32⟩
  | 12 => ⟨S32x3, .f32⟩
  | 13 => ⟨S_, .i32⟩
  | 14 => ⟨S1, .i32⟩
  | 15 => ⟨S_, .i32⟩
  | 16 => ⟨S1, .i32⟩
  | 17 => ⟨S_, .i32⟩
  | 18 => ⟨S1, .i32⟩
  | 19 => ⟨S_, .i32⟩
  | 20 => ⟨S1, .i32⟩
  | 21 => ⟨S_, .i32⟩
  | 22 => ⟨S1, .i32⟩
  | 23 => ⟨S_, .i32⟩
  | 24 => ⟨S1, .i32⟩
  | 25 => ⟨S_, .i32⟩
  | 26 => ⟨S1, .i32⟩
  | 27 => ⟨S_, .i32⟩
  | 28 => ⟨S1, .i32⟩
  | 29 => ⟨S8, .i32⟩
  | 30 => ⟨S2x2x2x2x32x2x2x2x2x3, .f32⟩
  | 31 => ⟨S32x3x1x1, .f32⟩
  | 32 => ⟨S32x3, .f32⟩
  | 33 => ⟨S_, .i32⟩
  | 34 => ⟨S1, .i32⟩
  | 35 => ⟨S_, .i32⟩
  | 36 => ⟨S1, .i32⟩
  | 37 => ⟨S_, .i32⟩
  | 38 => ⟨S1, .i32⟩
  | 39 => ⟨S_, .i32⟩
  | 40 => ⟨S1, .i32⟩
  | 41 => ⟨S_, .i32⟩
  | 42 => ⟨S1, .i32⟩
  | 43 => ⟨S_, .i32⟩
  | 44 => ⟨S1, .i32⟩
  | 45 => ⟨S_, .i32⟩
  | 46 => ⟨S1, .i32⟩
  | 47 => ⟨S_, .i32⟩
  | 48 => ⟨S1, .i32⟩
  | 49 => ⟨S8, .i32⟩
  | 50 => ⟨S2x2x2x2x32x2x2x2x2x3, .f32⟩
  | 51 => ⟨S32x3x1x1, .f32⟩
  | 52 => ⟨S32x3, .f32⟩
  | 53 => ⟨S_, .i32⟩
  | 54 => ⟨S1, .i32⟩
  | 55 => ⟨S_, .i32⟩
  | 56 => ⟨S1, .i32⟩
  | 57 => ⟨S_, .i32⟩
  | 58 => ⟨S1, .i32⟩
  | 59 => ⟨S_, .i32⟩
  | 60 => ⟨S1, .i32⟩
  | 61 => ⟨S_, .i32⟩
  | 62 => ⟨S1, .i32⟩
  | 63 => ⟨S_, .i32⟩
  | 64 => ⟨S1, .i32⟩
  | 65 => ⟨S_, .i32⟩
  | 66 => ⟨S1, .i32⟩
  | 67 => ⟨S_, .i32⟩
  | 68 => ⟨S1, .i32⟩
  | 69 => ⟨S8, .i32⟩
  | 70 => ⟨S2x2x2x2x32x2x2x2x2x3, .f32⟩
  | 71 => ⟨S32x3x1x1, .f32⟩
  | 72 => ⟨S32x3, .f32⟩
  | 73 => ⟨S_, .i32⟩
  | 74 => ⟨S1, .i32⟩
  | 75 => ⟨S_, .i32⟩
  | 76 => ⟨S1, .i32⟩
  | 77 => ⟨S_, .i32⟩
  | 78 => ⟨S1, .i32⟩
  | 79 => ⟨S_, .i32⟩
  | 80 => ⟨S1, .i32⟩
  | 81 => ⟨S_, .i32⟩
  | 82 => ⟨S1, .i32⟩
  | 83 => ⟨S_, .i32⟩
  | 84 => ⟨S1, .i32⟩
  | 85 => ⟨S_, .i32⟩
  | 86 => ⟨S1, .i32⟩
  | 87 => ⟨S_, .i32⟩
  | 88 => ⟨S1, .i32⟩
  | 89 => ⟨S8, .i32⟩
  | 90 => ⟨S2x2x2x2x32x2x2x2x2x3, .f32⟩
  | 91 => ⟨S32x3x1x1, .f32⟩
  | 92 => ⟨S32x3, .f32⟩
  | 93 => ⟨S_, .i32⟩
  | 94 => ⟨S1, .i32⟩
  | 95 => ⟨S_, .i32⟩
  | 96 => ⟨S1, .i32⟩
  | 97 => ⟨S_, .i32⟩
  | 98 => ⟨S1, .i32⟩
  | 99 => ⟨S_, .i32⟩
  | 100 => ⟨S1, .i32⟩
  | 101 => ⟨S_, .i32⟩
  | 102 => ⟨S1, .i32⟩
  | 103 => ⟨S_, .i32⟩
  | 104 => ⟨S1, .i32⟩
  | 105 => ⟨S_, .i32⟩
  | 106 => ⟨S1, .i32⟩
  | 107 => ⟨S_, .i32⟩
  | 108 => ⟨S1, .i32⟩
  | 109 => ⟨S8, .i32⟩
  | 110 => ⟨S2x2x2x2x32x2x2x2x2x3, .f32⟩
  | 111 => ⟨S32x3x1x1, .f32⟩
  | 112 => ⟨S32x3, .f32⟩
  | 113 => ⟨S_, .i32⟩
  | 114 => ⟨S1, .i32⟩
  | 115 => ⟨S_, .i32⟩
  | 116 => ⟨S1, .i32⟩
  | 117 => ⟨S_, .i32⟩
  | 118 => ⟨S1, .i32⟩
  | 119 => ⟨S_, .i32⟩
  | 120 => ⟨S1, .i32⟩
  | 121 => ⟨S_, .i32⟩
  | 122 => ⟨S1, .i32⟩
  | 123 => ⟨S_, .i32⟩
  | 124 => ⟨S1, .i32⟩
  | 125 => ⟨S_, .i32⟩
  | 126 => ⟨S1, .i32⟩
  | 127 => ⟨S_, .i32⟩
  | _ => ⟨S16x3x224x224, .f32⟩

abbrev hbmTy0_11 (i : Nat) : BufTy := match i % 128 with
  | 0 => ⟨S1, .i32⟩
  | 1 => ⟨S8, .i32⟩
  | 2 => ⟨S2x2x2x2x32x2x2x2x2x3, .f32⟩
  | 3 => ⟨S32x3x1x1, .f32⟩
  | 4 => ⟨S32x3, .f32⟩
  | 5 => ⟨S_, .i32⟩
  | 6 => ⟨S1, .i32⟩
  | 7 => ⟨S_, .i32⟩
  | 8 => ⟨S1, .i32⟩
  | 9 => ⟨S_, .i32⟩
  | 10 => ⟨S1, .i32⟩
  | 11 => ⟨S_, .i32⟩
  | 12 => ⟨S1, .i32⟩
  | 13 => ⟨S_, .i32⟩
  | 14 => ⟨S1, .i32⟩
  | 15 => ⟨S_, .i32⟩
  | 16 => ⟨S1, .i32⟩
  | 17 => ⟨S_, .i32⟩
  | 18 => ⟨S1, .i32⟩
  | 19 => ⟨S_, .i32⟩
  | 20 => ⟨S1, .i32⟩
  | 21 => ⟨S8, .i32⟩
  | 22 => ⟨S2x2x2x2x32x2x2x2x2x3, .f32⟩
  | 23 => ⟨S32x3x1x1, .f32⟩
  | 24 => ⟨S32x3, .f32⟩
  | 25 => ⟨S_, .i32⟩
  | 26 => ⟨S1, .i32⟩
  | 27 => ⟨S_, .i32⟩
  | 28 => ⟨S1, .i32⟩
  | 29 => ⟨S_, .i32⟩
  | 30 => ⟨S1, .i32⟩
  | 31 => ⟨S_, .i32⟩
  | 32 => ⟨S1, .i32⟩
  | 33 => ⟨S_, .i32⟩
  | 34 => ⟨S1, .i32⟩
  | 35 => ⟨S_, .i32⟩
  | 36 => ⟨S1, .i32⟩
  | 37 => ⟨S_, .i32⟩
  | 38 => ⟨S1, .i32⟩
  | 39 => ⟨S_, .i32⟩
  | 40 => ⟨S1, .i32⟩
  | 41 => ⟨S8, .i32⟩
  | 42 => ⟨S2x2x2x2x32x2x2x2x2x3, .f32⟩
  | 43 => ⟨S32x3x1x1, .f32⟩
  | 44 => ⟨S32x3, .f32⟩
  | 45 => ⟨S_, .i32⟩
  | 46 => ⟨S1, .i32⟩
  | 47 => ⟨S_, .i32⟩
  | 48 => ⟨S1, .i32⟩
  | 49 => ⟨S_, .i32⟩
  | 50 => ⟨S1, .i32⟩
  | 51 => ⟨S_, .i32⟩
  | 52 => ⟨S1, .i32⟩
  | 53 => ⟨S_, .i32⟩
  | 54 => ⟨S1, .i32⟩
  | 55 => ⟨S_, .i32⟩
  | 56 => ⟨S1, .i32⟩
  | 57 => ⟨S_, .i32⟩
  | 58 => ⟨S1, .i32⟩
  | 59 => ⟨S_, .i32⟩
  | 60 => ⟨S1, .i32⟩
  | 61 => ⟨S8, .i32⟩
  | 62 => ⟨S2x2x2x2x32x2x2x2x2x3, .f32⟩
  | 63 => ⟨S32x3x1x1, .f32⟩
  | 64 => ⟨S32x3, .f32⟩
  | 65 => ⟨S_, .i32⟩
  | 66 => ⟨S1, .i32⟩
  | 67 => ⟨S_, .i32⟩
  | 68 => ⟨S1, .i32⟩
  | 69 => ⟨S_, .i32⟩
  | 70 => ⟨S1, .i32⟩
  | 71 => ⟨S_, .i32⟩
  | 72 => ⟨S1, .i32⟩
  | 73 => ⟨S_, .i32⟩
  | 74 => ⟨S1, .i32⟩
  | 75 => ⟨S_, .i32⟩
  | 76 => ⟨S1, .i32⟩
  | 77 => ⟨S_, .i32⟩
  | 78 => ⟨S1, .i32⟩
  | 79 => ⟨S_, .i32⟩
  | 80 => ⟨S1, .i32⟩
  | 81 => ⟨S8, .i32⟩
  | 82 => ⟨S2x2x2x2x32x2x2x2x2x3, .f32⟩
  | 83 => ⟨S32x3x1x1, .f32⟩
  | 84 => ⟨S32x3, .f32⟩
  | 85 => ⟨S_, .i32⟩
  | 86 => ⟨S1, .i32⟩
  | 87 => ⟨S_, .i32⟩
  | 88 => ⟨S1, .i32⟩
  | 89 => ⟨S_, .i32⟩
  | 90 => ⟨S1, .i32⟩
  | 91 => ⟨S_, .i32⟩
  | 92 => ⟨S1, .i32⟩
  | 93 => ⟨S_, .i32⟩
  | 94 => ⟨S1, .i32⟩
  | 95 => ⟨S_, .i32⟩
  | 96 => ⟨S1, .i32⟩
  | 97 => ⟨S_, .i32⟩
  | 98 => ⟨S1, .i32⟩
  | 99 => ⟨S_, .i32⟩
  | 100 => ⟨S1, .i32⟩
  | 101 => ⟨S8, .i32⟩
  | 102 => ⟨S2x2x2x2x32x2x2x2x2x3, .f32⟩
  | 103 => ⟨S32x3x1x1, .f32⟩
  | 104 => ⟨S32x3, .f32⟩
  | 105 => ⟨S_, .i32⟩
  | 106 => ⟨S1, .i32⟩
  | 107 => ⟨S_, .i32⟩
  | 108 => ⟨S1, .i32⟩
  | 109 => ⟨S_, .i32⟩
  | 110 => ⟨S1, .i32⟩
  | 111 => ⟨S_, .i32⟩
  | 112 => ⟨S1, .i32⟩
  | 113 => ⟨S_, .i32⟩
  | 114 => ⟨S1, .i32⟩
  | 115 => ⟨S_, .i32⟩
  | 116 => ⟨S1, .i32⟩
  | 117 => ⟨S_, .i32⟩
  | 118 => ⟨S1, .i32⟩
  | 119 => ⟨S_, .i32⟩
  | 120 => ⟨S1, .i32⟩
  | 121 => ⟨S8, .i32⟩
  | 122 => ⟨S2x2x2x2x32x2x2x2x2x3, .f32⟩
  | 123 => ⟨S32x3x1x1, .f32⟩
  | 124 => ⟨S32x3, .f32⟩
  | 125 => ⟨S_, .i32⟩
  | 126 => ⟨S1, .i32⟩
  | 127 => ⟨S_, .i32⟩
  | _ => ⟨S16x3x224x224, .f32⟩

abbrev hbmTy0_12 (i : Nat) : BufTy := match i % 128 with
  | 0 => ⟨S1, .i32⟩
  | 1 => ⟨S_, .i32⟩
  | 2 => ⟨S1, .i32⟩
  | 3 => ⟨S_, .i32⟩
  | 4 => ⟨S1, .i32⟩
  | 5 => ⟨S_, .i32⟩
  | 6 => ⟨S1, .i32⟩
  | 7 => ⟨S_, .i32⟩
  | 8 => ⟨S1, .i32⟩
  | 9 => ⟨S_, .i32⟩
  | 10 => ⟨S1, .i32⟩
  | 11 => ⟨S_, .i32⟩
  | 12 => ⟨S1, .i32⟩
  | 13 => ⟨S8, .i32⟩
  | 14 => ⟨S2x2x2x2x32x2x2x2x2x3, .f32⟩
  | 15 => ⟨S32x3x1x1, .f32⟩
  | 16 => ⟨S32x3, .f32⟩
  | 17 => ⟨S_, .i32⟩
  | 18 => ⟨S1, .i32⟩
  | 19 => ⟨S_, .i32⟩
  | 20 => ⟨S1, .i32⟩
  | 21 => ⟨S_, .i32⟩
  | 22 => ⟨S1, .i32⟩
  | 23 => ⟨S_, .i32⟩
  | 24 => ⟨S1, .i32⟩
  | 25 => ⟨S_, .i32⟩
  | 26 => ⟨S1, .i32⟩
  | 27 => ⟨S_, .i32⟩
  | 28 => ⟨S1, .i32⟩
  | 29 => ⟨S_, .i32⟩
  | 30 => ⟨S1, .i32⟩
  | 31 => ⟨S_, .i32⟩
  | 32 => ⟨S1, .i32⟩
  | 33 => ⟨S8, .i32⟩
  | 34 => ⟨S2x2x2x2x32x2x2x2x2x3, .f32⟩
  | 35 => ⟨S32x3x1x1, .f32⟩
  | 36 => ⟨S32x3, .f32⟩
  | 37 => ⟨S_, .i32⟩
  | 38 => ⟨S1, .i32⟩
  | 39 => ⟨S_, .i32⟩
  | 40 => ⟨S1, .i32⟩
  | 41 => ⟨S_, .i32⟩
  | 42 => ⟨S1, .i32⟩
  | 43 => ⟨S_, .i32⟩
  | 44 => ⟨S1, .i32⟩
  | 45 => ⟨S_, .i32⟩
  | 46 => ⟨S1, .i32⟩
  | 47 => ⟨S_, .i32⟩
  | 48 => ⟨S1, .i32⟩
  | 49 => ⟨S_, .i32⟩
  | 50 => ⟨S1, .i32⟩
  | 51 => ⟨S_, .i32⟩
  | 52 => ⟨S1, .i32⟩
  | 53 => ⟨S8, .i32⟩
  | 54 => ⟨S2x2x2x2x32x2x2x2x2x3, .f32⟩
  | 55 => ⟨S32x3x1x1, .f32⟩
  | 56 => ⟨S32x3, .f32⟩
  | 57 => ⟨S_, .i32⟩
  | 58 => ⟨S1, .i32⟩
  | 59 => ⟨S_, .i32⟩
  | 60 => ⟨S1, .i32⟩
  | 61 => ⟨S_, .i32⟩
  | 62 => ⟨S1, .i32⟩
  | 63 => ⟨S_, .i32⟩
  | 64 => ⟨S1, .i32⟩
  | 65 => ⟨S_, .i32⟩
  | 66 => ⟨S1, .i32⟩
  | 67 => ⟨S_, .i32⟩
  | 68 => ⟨S1, .i32⟩
  | 69 => ⟨S_, .i32⟩
  | 70 => ⟨S1, .i32⟩
  | 71 => ⟨S_, .i32⟩
  | 72 => ⟨S1, .i32⟩
  | 73 => ⟨S8, .i32⟩
  | 74 => ⟨S2x2x2x2x32x2x2x2x2x3, .f32⟩
  | 75 => ⟨S32x3x1x1, .f32⟩
  | 76 => ⟨S32x3, .f32⟩
  | 77 => ⟨S_, .i32⟩
  | 78 => ⟨S1, .i32⟩
  | 79 => ⟨S_, .i32⟩
  | 80 => ⟨S1, .i32⟩
  | 81 => ⟨S_, .i32⟩
  | 82 => ⟨S1, .i32⟩
  | 83 => ⟨S_, .i32⟩
  | 84 => ⟨S1, .i32⟩
  | 85 => ⟨S_, .i32⟩
  | 86 => ⟨S1, .i32⟩
  | 87 => ⟨S_, .i32⟩
  | 88 => ⟨S1, .i32⟩
  | 89 => ⟨S_, .i32⟩
  | 90 => ⟨S1, .i32⟩
  | 91 => ⟨S_, .i32⟩
  | 92 => ⟨S1, .i32⟩
  | 93 => ⟨S8, .i32⟩
  | 94 => ⟨S2x2x2x2x32x2x2x2x2x3, .f32⟩
  | 95 => ⟨S32x3x1x1, .f32⟩
  | 96 => ⟨S32x3, .f32⟩
  | 97 => ⟨S_, .i32⟩
  | 98 => ⟨S1, .i32⟩
  | 99 => ⟨S_, .i32⟩
  | 100 => ⟨S1, .i32⟩
  | 101 => ⟨S_, .i32⟩
  | 102 => ⟨S1, .i32⟩
  | 103 => ⟨S_, .i32⟩
  | 104 => ⟨S1, .i32⟩
  | 105 => ⟨S_, .i32⟩
  | 106 => ⟨S1, .i32⟩
  | 107 => ⟨S_, .i32⟩
  | 108 => ⟨S1, .i32⟩
  | 109 => ⟨S_, .i32⟩
  | 110 => ⟨S1, .i32⟩
  | 111 => ⟨S_, .i32⟩
  | 112 => ⟨S1, .i32⟩
  | 113 => ⟨S8, .i32⟩
  | 114 => ⟨S2x2x2x2x32x2x2x2x2x3, .f32⟩
  | 115 => ⟨S32x3x1x1, .f32⟩
  | 116 => ⟨S32x3, .f32⟩
  | 117 => ⟨S_, .i32⟩
  | 118 => ⟨S1, .i32⟩
  | 119 => ⟨S_, .i32⟩
  | 120 => ⟨S1, .i32⟩
  | 121 => ⟨S_, .i32⟩
  | 122 => ⟨S1, .i32⟩
  | 123 => ⟨S_, .i32⟩
  | 124 => ⟨S1, .i32⟩
  | 125 => ⟨S_, .i32⟩
  | 126 => ⟨S1, .i32⟩
  | 127 => ⟨S_, .i32⟩
  | _ => ⟨S16x3x224x224, .f32⟩

abbrev hbmTy0_13 (i : Nat) : BufTy := match i % 128 with
  | 0 => ⟨S1, .i32⟩
  | 1 => ⟨S_, .i32⟩
  | 2 => ⟨S1, .i32⟩
  | 3 => ⟨S_, .i32⟩
  | 4 => ⟨S1, .i32⟩
  | 5 => ⟨S8, .i32⟩
  | 6 => ⟨S2x2x2x2x32x2x2x2x2x3, .f32⟩
  | 7 => ⟨S32x3x1x1, .f32⟩
  | 8 => ⟨S32x3, .f32⟩
  | 9 => ⟨S_, .i32⟩
  | 10 => ⟨S1, .i32⟩
  | 11 => ⟨S_, .i32⟩
  | 12 => ⟨S1, .i32⟩
  | 13 => ⟨S_, .i32⟩
  | 14 => ⟨S1, .i32⟩
  | 15 => ⟨S_, .i32⟩
  | 16 => ⟨S1, .i32⟩
  | 17 => ⟨S_, .i32⟩
  | 18 => ⟨S1, .i32⟩
  | 19 => ⟨S_, .i32⟩
  | 20 => ⟨S1, .i32⟩
  | 21 => ⟨S_, .i32⟩
  | 22 => ⟨S1, .i32⟩
  | 23 => ⟨S_, .i32⟩
  | 24 => ⟨S1, .i32⟩
  | 25 => ⟨S8, .i32⟩
  | 26 => ⟨S2x2x2x2x32x2x2x2x2x3, .f32⟩
  | 27 => ⟨S32x3x1x1, .f32⟩
  | 28 => ⟨S32x3, .f32⟩
  | 29 => ⟨S_, .i32⟩
  | 30 => ⟨S1, .i32⟩
  | 31 => ⟨S_, .i32⟩
  | 32 => ⟨S1, .i32⟩
  | 33 => ⟨S_, .i32⟩
  | 34 => ⟨S1, .i32⟩
  | 35 => ⟨S_, .i32⟩
  | 36 => ⟨S1, .i32⟩
  | 37 => ⟨S_, .i32⟩
  | 38 => ⟨S1, .i32⟩
  | 39 => ⟨S_, .i32⟩
  | 40 => ⟨S1, .i32⟩
  | 41 => ⟨S_, .i32⟩
  | 42 => ⟨S1, .i32⟩
  | 43 => ⟨S_, .i32⟩
  | 44 => ⟨S1, .i32⟩
  | 45 => ⟨S8, .i32⟩
  | 46 => ⟨S2x2x2x2x32x2x2x2x2x3, .f32⟩
  | 47 => ⟨S32x3x1x1, .f32⟩
  | 48 => ⟨S32x3, .f32⟩
  | 49 => ⟨S_, .i32⟩
  | 50 => ⟨S1, .i32⟩
  | 51 => ⟨S_, .i32⟩
  | 52 => ⟨S1, .i32⟩
  | 53 => ⟨S_, .i32⟩
  | 54 => ⟨S1, .i32⟩
  | 55 => ⟨S_, .i32⟩
  | 56 => ⟨S1, .i32⟩
  | 57 => ⟨S_, .i32⟩
  | 58 => ⟨S1, .i32⟩
  | 59 => ⟨S_, .i32⟩
  | 60 => ⟨S1, .i32⟩
  | 61 => ⟨S_, .i32⟩
  | 62 => ⟨S1, .i32⟩
  | 63 => ⟨S_, .i32⟩
  | 64 => ⟨S1, .i32⟩
  | 65 => ⟨S8, .i32⟩
  | 66 => ⟨S2x2x2x2x32x2x2x2x2x3, .f32⟩
  | 67 => ⟨S32x3x1x1, .f32⟩
  | 68 => ⟨S32x3, .f32⟩
  | 69 => ⟨S_, .i32⟩
  | 70 => ⟨S1, .i32⟩
  | 71 => ⟨S_, .i32⟩
  | 72 => ⟨S1, .i32⟩
  | 73 => ⟨S_, .i32⟩
  | 74 => ⟨S1, .i32⟩
  | 75 => ⟨S_, .i32⟩
  | 76 => ⟨S1, .i32⟩
  | 77 => ⟨S_, .i32⟩
  | 78 => ⟨S1, .i32⟩
  | 79 => ⟨S_, .i32⟩
  | 80 => ⟨S1, .i32⟩
  | 81 => ⟨S_, .i32⟩
  | 82 => ⟨S1, .i32⟩
  | 83 => ⟨S_, .i32⟩
  | 84 => ⟨S1, .i32⟩
  | 85 => ⟨S8, .i32⟩
  | 86 => ⟨S2x2x2x2x32x2x2x2x2x3, .f32⟩
  | 87 => ⟨S32x3x1x1, .f32⟩
  | 88 => ⟨S32x3, .f32⟩
  | 89 => ⟨S_, .i32⟩
  | 90 => ⟨S1, .i32⟩
  | 91 => ⟨S_, .i32⟩
  | 92 => ⟨S1, .i32⟩
  | 93 => ⟨S_, .i32⟩
  | 94 => ⟨S1, .i32⟩
  | 95 => ⟨S_, .i32⟩
  | 96 => ⟨S1, .i32⟩
  | 97 => ⟨S_, .i32⟩
  | 98 => ⟨S1, .i32⟩
  | 99 => ⟨S_, .i32⟩
  | 100 => ⟨S1, .i32⟩
  | 101 => ⟨S_, .i32⟩
  | 102 => ⟨S1, .i32⟩
  | 103 => ⟨S_, .i32⟩
  | 104 => ⟨S1, .i32⟩
  | 105 => ⟨S8, .i32⟩
  | 106 => ⟨S2x2x2x2x32x2x2x2x2x3, .f32⟩
  | 107 => ⟨S32x3x1x1, .f32⟩
  | 108 => ⟨S32x3, .f32⟩
  | 109 => ⟨S_, .i32⟩
  | 110 => ⟨S1, .i32⟩
  | 111 => ⟨S_, .i32⟩
  | 112 => ⟨S1, .i32⟩
  | 113 => ⟨S_, .i32⟩
  | 114 => ⟨S1, .i32⟩
  | 115 => ⟨S_, .i32⟩
  | 116 => ⟨S1, .i32⟩
  | 117 => ⟨S_, .i32⟩
  | 118 => ⟨S1, .i32⟩
  | 119 => ⟨S_, .i32⟩
  | 120 => ⟨S1, .i32⟩
  | 121 => ⟨S_, .i32⟩
  | 122 => ⟨S1, .i32⟩
  | 123 => ⟨S_, .i32⟩
  | 124 => ⟨S1, .i32⟩
  | 125 => ⟨S8, .i32⟩
  | 126 => ⟨S2x2x2x2x32x2x2x2x2x3, .f32⟩
  | 127 => ⟨S32x3x1x1, .f32⟩
  | _ => ⟨S16x3x224x224, .f32⟩

abbrev hbmTy0_14 (i : Nat) : BufTy := match i % 128 with
  | 0 => ⟨S32x3, .f32⟩
  | 1 => ⟨S_, .i32⟩
  | 2 => ⟨S1, .i32⟩
  | 3 => ⟨S_, .i32⟩
  | 4 => ⟨S1, .i32⟩
  | 5 => ⟨S_, .i32⟩
  | 6 => ⟨S1, .i32⟩
  | 7 => ⟨S_, .i32⟩
  | 8 => ⟨S1, .i32⟩
  | 9 => ⟨S_, .i32⟩
  | 10 => ⟨S1, .i32⟩
  | 11 => ⟨S_, .i32⟩
  | 12 => ⟨S1, .i32⟩
  | 13 => ⟨S_, .i32⟩
  | 14 => ⟨S1, .i32⟩
  | 15 => ⟨S_, .i32⟩
  | 16 => ⟨S1, .i32⟩
  | 17 => ⟨S8, .i32⟩
  | 18 => ⟨S2x2x2x2x32x2x2x2x2x3, .f32⟩
  | 19 => ⟨S32x3x1x1, .f32⟩
  | 20 => ⟨S32x3, .f32⟩
  | 21 => ⟨S_, .i32⟩
  | 22 => ⟨S1, .i32⟩
  | 23 => ⟨S_, .i32⟩
  | 24 => ⟨S1, .i32⟩
  | 25 => ⟨S_, .i32⟩
  | 26 => ⟨S1, .i32⟩
  | 27 => ⟨S_, .i32⟩
  | 28 => ⟨S1, .i32⟩
  | 29 => ⟨S_, .i32⟩
  | 30 => ⟨S1, .i32⟩
  | 31 => ⟨S_, .i32⟩
  | 32 => ⟨S1, .i32⟩
  | 33 => ⟨S_, .i32⟩
  | 34 => ⟨S1, .i32⟩
  | 35 => ⟨S_, .i32⟩
  | 36 => ⟨S1, .i32⟩
  | 37 => ⟨S8, .i32⟩
  | 38 => ⟨S2x2x2x2x32x2x2x2x2x3, .f32⟩
  | 39 => ⟨S32x3x1x1, .f32⟩
  | 40 => ⟨S32x3, .f32⟩
  | 41 => ⟨S_, .i32⟩
  | 42 => ⟨S1, .i32⟩
  | 43 => ⟨S_, .i32⟩
  | 44 => ⟨S1, .i32⟩
  | 45 => ⟨S_, .i32⟩
  | 46 => ⟨S1, .i32⟩
  | 47 => ⟨S_, .i32⟩
  | 48 => ⟨S1, .i32⟩
  | 49 => ⟨S_, .i32⟩
  | 50 => ⟨S1, .i32⟩
  | 51 => ⟨S_, .i32⟩
  | 52 => ⟨S1, .i32⟩
  | 53 => ⟨S_, .i32⟩
  | 54 => ⟨S1, .i32⟩
  | 55 => ⟨S_, .i32⟩
  | 56 => ⟨S1, .i32⟩
  | 57 => ⟨S8, .i32⟩
  | 58 => ⟨S2x2x2x2x32x2x2x2x2x3, .f32⟩
  | 59 => ⟨S32x3x1x1, .f32⟩
  | 60 => ⟨S32x3, .f32⟩
  | 61 => ⟨S_, .i32⟩
  | 62 => ⟨S1, .i32⟩
  | 63 => ⟨S_, .i32⟩
  | 64 => ⟨S1, .i32⟩
  | 65 => ⟨S_, .i32⟩
  | 66 => ⟨S1, .i32⟩
  | 67 => ⟨S_, .i32⟩
  | 68 => ⟨S1, .i32⟩
  | 69 => ⟨S_, .i32⟩
  | 70 => ⟨S1, .i32⟩
  | 71 => ⟨S_, .i32⟩
  | 72 => ⟨S1, .i32⟩
  | 73 => ⟨S_, .i32⟩
  | 74 => ⟨S1, .i32⟩
  | 75 => ⟨S_, .i32⟩
  | 76 => ⟨S1, .i32⟩
  | 77 => ⟨S8, .i32⟩
  | 78 => ⟨S2x2x2x2x32x2x2x2x2x3, .f32⟩
  | 79 => ⟨S32x3x1x1, .f32⟩
  | 80 => ⟨S32x3, .f32⟩
  | 81 => ⟨S_, .i32⟩
  | 82 => ⟨S1, .i32⟩
  | 83 => ⟨S_, .i32⟩
  | 84 => ⟨S1, .i32⟩
  | 85 => ⟨S_, .i32⟩
  | 86 => ⟨S1, .i32⟩
  | 87 => ⟨S_, .i32⟩
  | 88 => ⟨S1, .i32⟩
  | 89 => ⟨S_, .i32⟩
  | 90 => ⟨S1, .i32⟩
  | 91 => ⟨S_, .i32⟩
  | 92 => ⟨S1, .i32⟩
  | 93 => ⟨S_, .i32⟩
  | 94 => ⟨S1, .i32⟩
  | 95 => ⟨S_, .i32⟩
  | 96 => ⟨S1, .i32⟩
  | 97 => ⟨S8, .i32⟩
  | 98 => ⟨S2x2x2x2x32x2x2x2x2x3, .f32⟩
  | 99 => ⟨S32x3x1x1, .f32⟩
  | 100 => ⟨S32x3, .f32⟩
  | 101 => ⟨S_, .i32⟩
  | 102 => ⟨S1, .i32⟩
  | 103 => ⟨S_, .i32⟩
  | 104 => ⟨S1, .i32⟩
  | 105 => ⟨S_, .i32⟩
  | 106 => ⟨S1, .i32⟩
  | 107 => ⟨S_, .i32⟩
  | 108 => ⟨S1, .i32⟩
  | 109 => ⟨S_, .i32⟩
  | 110 => ⟨S1, .i32⟩
  | 111 => ⟨S_, .i32⟩
  | 112 => ⟨S1, .i32⟩
  | 113 => ⟨S_, .i32⟩
  | 114 => ⟨S1, .i32⟩
  | 115 => ⟨S_, .i32⟩
  | 116 => ⟨S1, .i32⟩
  | 117 => ⟨S8, .i32⟩
  | 118 => ⟨S2x2x2x2x32x2x2x2x2x3, .f32⟩
  | 119 => ⟨S32x3x1x1, .f32⟩
  | 120 => ⟨S32x3, .f32⟩
  | 121 => ⟨S_, .i32⟩
  | 122 => ⟨S1, .i32⟩
  | 123 => ⟨S_, .i32⟩
  | 124 => ⟨S1, .i32⟩
  | 125 => ⟨S_, .i32⟩
  | 126 => ⟨S1, .i32⟩
  | 127 => ⟨S_, .i32⟩
  | _ => ⟨S16x3x224x224, .f32⟩

abbrev hbmTy0_15 (i : Nat) : BufTy := match i % 128 with
  | 0 => ⟨S1, .i32⟩
  | 1 => ⟨S_, .i32⟩
  | 2 => ⟨S1, .i32⟩
  | 3 => ⟨S_, .i32⟩
  | 4 => ⟨S1, .i32⟩
  | 5 => ⟨S_, .i32⟩
  | 6 => ⟨S1, .i32⟩
  | 7 => ⟨S_, .i32⟩
  | 8 => ⟨S1, .i32⟩
  | 9 => ⟨S8, .i32⟩
  | 10 => ⟨S2x2x2x2x32x2x2x2x2x3, .f32⟩
  | 11 => ⟨S32x3x1x1, .f32⟩
  | 12 => ⟨S32x3, .f32⟩
  | 13 => ⟨S_, .i32⟩
  | 14 => ⟨S1, .i32⟩
  | 15 => ⟨S_, .i32⟩
  | 16 => ⟨S1, .i32⟩
  | 17 => ⟨S_, .i32⟩
  | 18 => ⟨S1, .i32⟩
  | 19 => ⟨S_, .i32⟩
  | 20 => ⟨S1, .i32⟩
  | 21 => ⟨S_, .i32⟩
  | 22 => ⟨S1, .i32⟩
  | 23 => ⟨S_, .i32⟩
  | 24 => ⟨S1, .i32⟩
  | 25 => ⟨S_, .i32⟩
  | 26 => ⟨S1, .i32⟩
  | 27 => ⟨S_, .i32⟩
  | 28 => ⟨S1, .i32⟩
  | 29 => ⟨S8, .i32⟩
  | 30 => ⟨S2x2x2x2x32x2x2x2x2x3, .f32⟩
  | 31 => ⟨S32x3x1x1, .f32⟩
  | 32 => ⟨S32x3, .f32⟩
  | 33 => ⟨S_, .i32⟩
  | 34 => ⟨S1, .i32⟩
  | 35 => ⟨S_, .i32⟩
  | 36 => ⟨S1, .i32⟩
  | 37 => ⟨S_, .i32⟩
  | 38 => ⟨S1, .i32⟩
  | 39 => ⟨S_, .i32⟩
  | 40 => ⟨S1, .i32⟩
  | 41 => ⟨S_, .i32⟩
  | 42 => ⟨S1, .i32⟩
  | 43 => ⟨S_, .i32⟩
  | 44 => ⟨S1, .i32⟩
  | 45 => ⟨S_, .i32⟩
  | 46 => ⟨S1, .i32⟩
  | 47 => ⟨S_, .i32⟩
  | 48 => ⟨S1, .i32⟩
  | 49 => ⟨S8, .i32⟩
  | 50 => ⟨S2x2x2x2x32x2x2x2x2x3, .f32⟩
  | 51 => ⟨S32x3x1x1, .f32⟩
  | 52 => ⟨S32x3, .f32⟩
  | 53 => ⟨S_, .i32⟩
  | 54 => ⟨S1, .i32⟩
  | 55 => ⟨S_, .i32⟩
  | 56 => ⟨S1, .i32⟩
  | 57 => ⟨S_, .i32⟩
  | 58 => ⟨S1, .i32⟩
  | 59 => ⟨S_, .i32⟩
  | 60 => ⟨S1, .i32⟩
  | 61 => ⟨S_, .i32⟩
  | 62 => ⟨S1, .i32⟩
  | 63 => ⟨S_, .i32⟩
  | 64 => ⟨S1, .i32⟩
  | 65 => ⟨S_, .i32⟩
  | 66 => ⟨S1, .i32⟩
  | 67 => ⟨S_, .i32⟩
  | 68 => ⟨S1, .i32⟩
  | 69 => ⟨S8, .i32⟩
  | 70 => ⟨S2x2x2x2x32x2x2x2x2x3, .f32⟩
  | 71 => ⟨S32x3x1x1, .f32⟩
  | 72 => ⟨S32x3, .f32⟩
  | 73 => ⟨S_, .i32⟩
  | 74 => ⟨S1, .i32⟩
  | 75 => ⟨S_, .i32⟩
  | 76 => ⟨S1, .i32⟩
  | 77 => ⟨S_, .i32⟩
  | 78 => ⟨S1, .i32⟩
  | 79 => ⟨S_, .i32⟩
  | 80 => ⟨S1, .i32⟩
  | 81 => ⟨S_, .i32⟩
  | 82 => ⟨S1, .i32⟩
  | 83 => ⟨S_, .i32⟩
  | 84 => ⟨S1, .i32⟩
  | 85 => ⟨S_, .i32⟩
  | 86 => ⟨S1, .i32⟩
  | 87 => ⟨S_, .i32⟩
  | 88 => ⟨S1, .i32⟩
  | 89 => ⟨S8, .i32⟩
  | 90 => ⟨S2x2x2x2x32x2x2x2x2x3, .f32⟩
  | 91 => ⟨S32x3x1x1, .f32⟩
  | 92 => ⟨S32x3, .f32⟩
  | 93 => ⟨S_, .i32⟩
  | 94 => ⟨S1, .i32⟩
  | 95 => ⟨S_, .i32⟩
  | 96 => ⟨S1, .i32⟩
  | 97 => ⟨S_, .i32⟩
  | 98 => ⟨S1, .i32⟩
  | 99 => ⟨S_, .i32⟩
  | 100 => ⟨S1, .i32⟩
  | 101 => ⟨S_, .i32⟩
  | 102 => ⟨S1, .i32⟩
  | 103 => ⟨S_, .i32⟩
  | 104 => ⟨S1, .i32⟩
  | 105 => ⟨S_, .i32⟩
  | 106 => ⟨S1, .i32⟩
  | 107 => ⟨S_, .i32⟩
  | 108 => ⟨S1, .i32⟩
  | 109 => ⟨S8, .i32⟩
  | 110 => ⟨S2x2x2x2x32x2x2x2x2x3, .f32⟩
  | 111 => ⟨S32x3x1x1, .f32⟩
  | 112 => ⟨S32x3, .f32⟩
  | 113 => ⟨S_, .i32⟩
  | 114 => ⟨S1, .i32⟩
  | 115 => ⟨S_, .i32⟩
  | 116 => ⟨S1, .i32⟩
  | 117 => ⟨S_, .i32⟩
  | 118 => ⟨S1, .i32⟩
  | 119 => ⟨S_, .i32⟩
  | 120 => ⟨S1, .i32⟩
  | 121 => ⟨S_, .i32⟩
  | 122 => ⟨S1, .i32⟩
  | 123 => ⟨S_, .i32⟩
  | 124 => ⟨S1, .i32⟩
  | 125 => ⟨S_, .i32⟩
  | 126 => ⟨S1, .i32⟩
  | 127 => ⟨S_, .i32⟩
  | _ => ⟨S16x3x224x224, .f32⟩

abbrev hbmTy0_16 (i : Nat) : BufTy := match i % 128 with
  | 0 => ⟨S1, .i32⟩
  | 1 => ⟨S8, .i32⟩
  | 2 => ⟨S2x2x2x2x32x2x2x2x2x3, .f32⟩
  | 3 => ⟨S32x3x1x1, .f32⟩
  | 4 => ⟨S32x3, .f32⟩
  | 5 => ⟨S_, .i32⟩
  | 6 => ⟨S1, .i32⟩
  | 7 => ⟨S_, .i32⟩
  | 8 => ⟨S1, .i32⟩
  | 9 => ⟨S_, .i32⟩
  | 10 => ⟨S1, .i32⟩
  | 11 => ⟨S_, .i32⟩
  | 12 => ⟨S1, .i32⟩
  | 13 => ⟨S_, .i32⟩
  | 14 => ⟨S1, .i32⟩
  | 15 => ⟨S_, .i32⟩
  | 16 => ⟨S1, .i32⟩
  | 17 => ⟨S_, .i32⟩
  | 18 => ⟨S1, .i32⟩
  | 19 => ⟨S_, .i32⟩
  | 20 => ⟨S1, .i32⟩
  | 21 => ⟨S8, .i32⟩
  | 22 => ⟨S2x2x2x2x32x2x2x2x2x3, .f32⟩
  | 23 => ⟨S32x3x1x1, .f32⟩
  | 24 => ⟨S32x3, .f32⟩
  | 25 => ⟨S_, .i32⟩
  | 26 => ⟨S1, .i32⟩
  | 27 => ⟨S_, .i32⟩
  | 28 => ⟨S1, .i32⟩
  | 29 => ⟨S_, .i32⟩
  | 30 => ⟨S1, .i32⟩
  | 31 => ⟨S_, .i32⟩
  | 32 => ⟨S1, .i32⟩
  | 33 => ⟨S_, .i32⟩
  | 34 => ⟨S1, .i32⟩
  | 35 => ⟨S_, .i32⟩
  | 36 => ⟨S1, .i32⟩
  | 37 => ⟨S_, .i32⟩
  | 38 => ⟨S1, .i32⟩
  | 39 => ⟨S_, .i32⟩
  | 40 => ⟨S1, .i32⟩
  | 41 => ⟨S8, .i32⟩
  | 42 => ⟨S2x2x2x2x32x2x2x2x2x3, .f32⟩
  | 43 => ⟨S32x3x1x1, .f32⟩
  | 44 => ⟨S32x3, .f32⟩
  | 45 => ⟨S_, .i32⟩
  | 46 => ⟨S1, .i32⟩
  | 47 => ⟨S_, .i32⟩
  | 48 => ⟨S1, .i32⟩
  | 49 => ⟨S_, .i32⟩
  | 50 => ⟨S1, .i32⟩
  | 51 => ⟨S_, .i32⟩
  | 52 => ⟨S1, .i32⟩
  | 53 => ⟨S_, .i32⟩
  | 54 => ⟨S1, .i32⟩
  | 55 => ⟨S_, .i32⟩
  | 56 => ⟨S1, .i32⟩
  | 57 => ⟨S_, .i32⟩
  | 58 => ⟨S1, .i32⟩
  | 59 => ⟨S_, .i32⟩
  | 60 => ⟨S1, .i32⟩
  | 61 => ⟨S8, .i32⟩
  | 62 => ⟨S2x2x2x2x32x2x2x2x2x3, .f32⟩
  | 63 => ⟨S32x3x1x1, .f32⟩
  | 64 => ⟨S32x3, .f32⟩
  | 65 => ⟨S_, .i32⟩
  | 66 => ⟨S1, .i32⟩
  | 67 => ⟨S_, .i32⟩
  | 68 => ⟨S1, .i32⟩
  | 69 => ⟨S_, .i32⟩
  | 70 => ⟨S1, .i32⟩
  | 71 => ⟨S_, .i32⟩
  | 72 => ⟨S1, .i32⟩
  | 73 => ⟨S_, .i32⟩
  | 74 => ⟨S1, .i32⟩
  | 75 => ⟨S_, .i32⟩
  | 76 => ⟨S1, .i32⟩
  | 77 => ⟨S_, .i32⟩
  | 78 => ⟨S1, .i32⟩
  | 79 => ⟨S_, .i32⟩
  | 80 => ⟨S1, .i32⟩
  | 81 => ⟨S8, .i32⟩
  | 82 => ⟨S2x2x2x2x32x2x2x2x2x3, .f32⟩
  | 83 => ⟨S32x3x1x1, .f32⟩
  | 84 => ⟨S32x3, .f32⟩
  | 85 => ⟨S_, .i32⟩
  | 86 => ⟨S1, .i32⟩
  | 87 => ⟨S_, .i32⟩
  | 88 => ⟨S1, .i32⟩
  | 89 => ⟨S_, .i32⟩
  | 90 => ⟨S1, .i32⟩
  | 91 => ⟨S_, .i32⟩
  | 92 => ⟨S1, .i32⟩
  | 93 => ⟨S_, .i32⟩
  | 94 => ⟨S1, .i32⟩
  | 95 => ⟨S_, .i32⟩
  | 96 => ⟨S1, .i32⟩
  | 97 => ⟨S_, .i32⟩
  | 98 => ⟨S1, .i32⟩
  | 99 => ⟨S_, .i32⟩
  | 100 => ⟨S1, .i32⟩
  | 101 => ⟨S8, .i32⟩
  | 102 => ⟨S2x2x2x2x32x2x2x2x2x3, .f32⟩
  | 103 => ⟨S32x3x1x1, .f32⟩
  | 104 => ⟨S32x3, .f32⟩
  | 105 => ⟨S_, .i32⟩
  | 106 => ⟨S1, .i32⟩
  | 107 => ⟨S_, .i32⟩
  | 108 => ⟨S1, .i32⟩
  | 109 => ⟨S_, .i32⟩
  | 110 => ⟨S1, .i32⟩
  | 111 => ⟨S_, .i32⟩
  | 112 => ⟨S1, .i32⟩
  | 113 => ⟨S_, .i32⟩
  | 114 => ⟨S1, .i32⟩
  | 115 => ⟨S_, .i32⟩
  | 116 => ⟨S1, .i32⟩
  | 117 => ⟨S_, .i32⟩
  | 118 => ⟨S1, .i32⟩
  | 119 => ⟨S_, .i32⟩
  | 120 => ⟨S1, .i32⟩
  | 121 => ⟨S8, .i32⟩
  | 122 => ⟨S2x2x2x2x32x2x2x2x2x3, .f32⟩
  | 123 => ⟨S32x3x1x1, .f32⟩
  | 124 => ⟨S32x3, .f32⟩
  | 125 => ⟨S_, .i32⟩
  | 126 => ⟨S1, .i32⟩
  | 127 => ⟨S_, .i32⟩
  | _ => ⟨S16x3x224x224, .f32⟩

abbrev hbmTy0_17 (i : Nat) : BufTy := match i % 128 with
  | 0 => ⟨S1, .i32⟩
  | 1 => ⟨S_, .i32⟩
  | 2 => ⟨S1, .i32⟩
  | 3 => ⟨S_, .i32⟩
  | 4 => ⟨S1, .i32⟩
  | 5 => ⟨S_, .i32⟩
  | 6 => ⟨S1, .i32⟩
  | 7 => ⟨S_, .i32⟩
  | 8 => ⟨S1, .i32⟩
  | 9 => ⟨S_, .i32⟩
  | 10 => ⟨S1, .i32⟩
  | 11 => ⟨S_, .i32⟩
  | 12 => ⟨S1, .i32⟩
  | 13 => ⟨S8, .i32⟩
  | 14 => ⟨S2x2x2x2x32x2x2x2x2x3, .f32⟩
  | 15 => ⟨S32x3x1x1, .f32⟩
  | 16 => ⟨S32x3, .f32⟩
  | 17 => ⟨S_, .i32⟩
  | 18 => ⟨S1, .i32⟩
  | 19 => ⟨S_, .i32⟩
  | 20 => ⟨S1, .i32⟩
  | 21 => ⟨S_, .i32⟩
  | 22 => ⟨S1, .i32⟩
  | 23 => ⟨S_, .i32⟩
  | 24 => ⟨S1, .i32⟩
  | 25 => ⟨S_, .i32⟩
  | 26 => ⟨S1, .i32⟩
  | 27 => ⟨S_, .i32⟩
  | 28 => ⟨S1, .i32⟩
  | 29 => ⟨S_, .i32⟩
  | 30 => ⟨S1, .i32⟩
  | 31 => ⟨S_, .i32⟩
  | 32 => ⟨S1, .i32⟩
  | 33 => ⟨S8, .i32⟩
  | 34 => ⟨S2x2x2x2x32x2x2x2x2x3, .f32⟩
  | 35 => ⟨S32x3x1x1, .f32⟩
  | 36 => ⟨S32x3, .f32⟩
  | 37 => ⟨S_, .i32⟩
  | 38 => ⟨S1, .i32⟩
  | 39 => ⟨S_, .i32⟩
  | 40 => ⟨S1, .i32⟩
  | 41 => ⟨S_, .i32⟩
  | 42 => ⟨S1, .i32⟩
  | 43 => ⟨S_, .i32⟩
  | 44 => ⟨S1, .i32⟩
  | 45 => ⟨S_, .i32⟩
  | 46 => ⟨S1, .i32⟩
  | 47 => ⟨S_, .i32⟩
  | 48 => ⟨S1, .i32⟩
  | 49 => ⟨S_, .i32⟩
  | 50 => ⟨S1, .i32⟩
  | 51 => ⟨S_, .i32⟩
  | 52 => ⟨S1, .i32⟩
  | 53 => ⟨S8, .i32⟩
  | 54 => ⟨S2x2x2x2x32x2x2x2x2x3, .f32⟩
  | 55 => ⟨S32x3x1x1, .f32⟩
  | 56 => ⟨S32x3, .f32⟩
  | 57 => ⟨S_, .i32⟩
  | 58 => ⟨S1, .i32⟩
  | 59 => ⟨S_, .i32⟩
  | 60 => ⟨S1, .i32⟩
  | 61 => ⟨S_, .i32⟩
  | 62 => ⟨S1, .i32⟩
  | 63 => ⟨S_, .i32⟩
  | 64 => ⟨S1, .i32⟩
  | 65 => ⟨S_, .i32⟩
  | 66 => ⟨S1, .i32⟩
  | 67 => ⟨S_, .i32⟩
  | 68 => ⟨S1, .i32⟩
  | 69 => ⟨S_, .i32⟩
  | 70 => ⟨S1, .i32⟩
  | 71 => ⟨S_, .i32⟩
  | 72 => ⟨S1, .i32⟩
  | 73 => ⟨S8, .i32⟩
  | 74 => ⟨S2x2x2x2x32x2x2x2x2x3, .f32⟩
  | 75 => ⟨S32x3x1x1, .f32⟩
  | 76 => ⟨S32x3, .f32⟩
  | 77 => ⟨S_, .i32⟩
  | 78 => ⟨S1, .i32⟩
  | 79 => ⟨S_, .i32⟩
  | 80 => ⟨S1, .i32⟩
  | 81 => ⟨S_, .i32⟩
  | 82 => ⟨S1, .i32⟩
  | 83 => ⟨S_, .i32⟩
  | 84 => ⟨S1, .i32⟩
  | 85 => ⟨S_, .i32⟩
  | 86 => ⟨S1, .i32⟩
  | 87 => ⟨S_, .i32⟩
  | 88 => ⟨S1, .i32⟩
  | 89 => ⟨S_, .i32⟩
  | 90 => ⟨S1, .i32⟩
  | 91 => ⟨S_, .i32⟩
  | 92 => ⟨S1, .i32⟩
  | 93 => ⟨S8, .i32⟩
  | 94 => ⟨S2x2x2x2x32x2x2x2x2x3, .f32⟩
  | 95 => ⟨S32x3x1x1, .f32⟩
  | 96 => ⟨S32x3, .f32⟩
  | 97 => ⟨S_, .i32⟩
  | 98 => ⟨S1, .i32⟩
  | 99 => ⟨S_, .i32⟩
  | 100 => ⟨S1, .i32⟩
  | 101 => ⟨S_, .i32⟩
  | 102 => ⟨S1, .i32⟩
  | 103 => ⟨S_, .i32⟩
  | 104 => ⟨S1, .i32⟩
  | 105 => ⟨S_, .i32⟩
  | 106 => ⟨S1, .i32⟩
  | 107 => ⟨S_, .i32⟩
  | 108 => ⟨S1, .i32⟩
  | 109 => ⟨S_, .i32⟩
  | 110 => ⟨S1, .i32⟩
  | 111 => ⟨S_, .i32⟩
  | 112 => ⟨S1, .i32⟩
  | 113 => ⟨S8, .i32⟩
  | 114 => ⟨S2x2x2x2x32x2x2x2x2x3, .f32⟩
  | 115 => ⟨S32x3x1x1, .f32⟩
  | 116 => ⟨S32x3, .f32⟩
  | 117 => ⟨S_, .i32⟩
  | 118 => ⟨S1, .i32⟩
  | 119 => ⟨S_, .i32⟩
  | 120 => ⟨S1, .i32⟩
  | 121 => ⟨S_, .i32⟩
  | 122 => ⟨S1, .i32⟩
  | 123 => ⟨S_, .i32⟩
  | 124 => ⟨S1, .i32⟩
  | 125 => ⟨S_, .i32⟩
  | 126 => ⟨S1, .i32⟩
  | 127 => ⟨S_, .i32⟩
  | _ => ⟨S16x3x224x224, .f32⟩

abbrev hbmTy0_18 (i : Nat) : BufTy := match i % 128 with
  | 0 => ⟨S1, .i32⟩
  | 1 => ⟨S_, .i32⟩
  | 2 => ⟨S1, .i32⟩
  | 3 => ⟨S_, .i32⟩
  | 4 => ⟨S1, .i32⟩
  | 5 => ⟨S8, .i32⟩
  | 6 => ⟨S2x2x2x2x32x2x2x2x2x3, .f32⟩
  | 7 => ⟨S32x3x1x1, .f32⟩
  | 8 => ⟨S32x3, .f32⟩
  | 9 => ⟨S_, .i32⟩
  | 10 => ⟨S1, .i32⟩
  | 11 => ⟨S_, .i32⟩
  | 12 => ⟨S1, .i32⟩
  | 13 => ⟨S_, .i32⟩
  | 14 => ⟨S1, .i32⟩
  | 15 => ⟨S_, .i32⟩
  | 16 => ⟨S1, .i32⟩
  | 17 => ⟨S_, .i32⟩
  | 18 => ⟨S1, .i32⟩
  | 19 => ⟨S_, .i32⟩
  | 20 => ⟨S1, .i32⟩
  | 21 => ⟨S_, .i32⟩
  | 22 => ⟨S1, .i32⟩
  | 23 => ⟨S_, .i32⟩
  | 24 => ⟨S1, .i32⟩
  | 25 => ⟨S8, .i32⟩
  | 26 => ⟨S2x2x2x2x32x2x2x2x2x3, .f32⟩
  | 27 => ⟨S32x3x1x1, .f32⟩
  | 28 => ⟨S32x3, .f32⟩
  | 29 => ⟨S_, .i32⟩
  | 30 => ⟨S1, .i32⟩
  | 31 => ⟨S_, .i32⟩
  | 32 => ⟨S1, .i32⟩
  | 33 => ⟨S_, .i32⟩
  | 34 => ⟨S1, .i32⟩
  | 35 => ⟨S_, .i32⟩
  | 36 => ⟨S1, .i32⟩
  | 37 => ⟨S_, .i32⟩
  | 38 => ⟨S1, .i32⟩
  | 39 => ⟨S_, .i32⟩
  | 40 => ⟨S1, .i32⟩
  | 41 => ⟨S_, .i32⟩
  | 42 => ⟨S1, .i32⟩
  | 43 => ⟨S_, .i32⟩
  | 44 => ⟨S1, .i32⟩
  | 45 => ⟨S8, .i32⟩
  | 46 => ⟨S2x2x2x2x32x2x2x2x2x3, .f32⟩
  | 47 => ⟨S32x3x1x1, .f32⟩
  | 48 => ⟨S32x3, .f32⟩
  | 49 => ⟨S_, .i32⟩
  | 50 => ⟨S1, .i32⟩
  | 51 => ⟨S_, .i32⟩
  | 52 => ⟨S1, .i32⟩
  | 53 => ⟨S_, .i32⟩
  | 54 => ⟨S1, .i32⟩
  | 55 => ⟨S_, .i32⟩
  | 56 => ⟨S1, .i32⟩
  | 57 => ⟨S_, .i32⟩
  | 58 => ⟨S1, .i32⟩
  | 59 => ⟨S_, .i32⟩
  | 60 => ⟨S1, .i32⟩
  | 61 => ⟨S_, .i32⟩
  | 62 => ⟨S1, .i32⟩
  | 63 => ⟨S_, .i32⟩
  | 64 => ⟨S1, .i32⟩
  | 65 => ⟨S8, .i32⟩
  | 66 => ⟨S2x2x2x2x32x2x2x2x2x3, .f32⟩
  | 67 => ⟨S32x3x1x1, .f32⟩
  | 68 => ⟨S32x3, .f32⟩
  | 69 => ⟨S_, .i32⟩
  | 70 => ⟨S1, .i32⟩
  | 71 => ⟨S_, .i32⟩
  | 72 => ⟨S1, .i32⟩
  | 73 => ⟨S_, .i32⟩
  | 74 => ⟨S1, .i32⟩
  | 75 => ⟨S_, .i32⟩
  | 76 => ⟨S1, .i32⟩
  | 77 => ⟨S_, .i32⟩
  | 78 => ⟨S1, .i32⟩
  | 79 => ⟨S_, .i32⟩
  | 80 => ⟨S1, .i32⟩
  | 81 => ⟨S_, .i32⟩
  | 82 => ⟨S1, .i32⟩
  | 83 => ⟨S_, .i32⟩
  | 84 => ⟨S1, .i32⟩
  | 85 => ⟨S8, .i32⟩
  | 86 => ⟨S2x2x2x2x32x2x2x2x2x3, .f32⟩
  | 87 => ⟨S32x3x1x1, .f32⟩
  | 88 => ⟨S32x3, .f32⟩
  | 89 => ⟨S_, .i32⟩
  | 90 => ⟨S1, .i32⟩
  | 91 => ⟨S_, .i32⟩
  | 92 => ⟨S1, .i32⟩
  | 93 => ⟨S_, .i32⟩
  | 94 => ⟨S1, .i32⟩
  | 95 => ⟨S_, .i32⟩
  | 96 => ⟨S1, .i32⟩
  | 97 => ⟨S_, .i32⟩
  | 98 => ⟨S1, .i32⟩
  | 99 => ⟨S_, .i32⟩
  | 100 => ⟨S1, .i32⟩
  | 101 => ⟨S_, .i32⟩
  | 102 => ⟨S1, .i32⟩
  | 103 => ⟨S_, .i32⟩
  | 104 => ⟨S1, .i32⟩
  | 105 => ⟨S8, .i32⟩
  | 106 => ⟨S2x2x2x2x32x2x2x2x2x3, .f32⟩
  | 107 => ⟨S32x3x1x1, .f32⟩
  | 108 => ⟨S32x3, .f32⟩
  | 109 => ⟨S_, .i32⟩
  | 110 => ⟨S1, .i32⟩
  | 111 => ⟨S_, .i32⟩
  | 112 => ⟨S1, .i32⟩
  | 113 => ⟨S_, .i32⟩
  | 114 => ⟨S1, .i32⟩
  | 115 => ⟨S_, .i32⟩
  | 116 => ⟨S1, .i32⟩
  | 117 => ⟨S_, .i32⟩
  | 118 => ⟨S1, .i32⟩
  | 119 => ⟨S_, .i32⟩
  | 120 => ⟨S1, .i32⟩
  | 121 => ⟨S_, .i32⟩
  | 122 => ⟨S1, .i32⟩
  | 123 => ⟨S_, .i32⟩
  | 124 => ⟨S1, .i32⟩
  | 125 => ⟨S8, .i32⟩
  | 126 => ⟨S2x2x2x2x32x2x2x2x2x3, .f32⟩
  | 127 => ⟨S32x3x1x1, .f32⟩
  | _ => ⟨S16x3x224x224, .f32⟩

abbrev hbmTy0_19 (i : Nat) : BufTy := match i % 128 with
  | 0 => ⟨S32x3, .f32⟩
  | 1 => ⟨S_, .i32⟩
  | 2 => ⟨S1, .i32⟩
  | 3 => ⟨S_, .i32⟩
  | 4 => ⟨S1, .i32⟩
  | 5 => ⟨S_, .i32⟩
  | 6 => ⟨S1, .i32⟩
  | 7 => ⟨S_, .i32⟩
  | 8 => ⟨S1, .i32⟩
  | 9 => ⟨S_, .i32⟩
  | 10 => ⟨S1, .i32⟩
  | 11 => ⟨S_, .i32⟩
  | 12 => ⟨S1, .i32⟩
  | 13 => ⟨S_, .i32⟩
  | 14 => ⟨S1, .i32⟩
  | 15 => ⟨S_, .i32⟩
  | 16 => ⟨S1, .i32⟩
  | 17 => ⟨S8, .i32⟩
  | 18 => ⟨S2x2x2x2x32x2x2x2x2x3, .f32⟩
  | 19 => ⟨S32x3x1x1, .f32⟩
  | 20 => ⟨S32x3, .f32⟩
  | 21 => ⟨S_, .i32⟩
  | 22 => ⟨S1, .i32⟩
  | 23 => ⟨S_, .i32⟩
  | 24 => ⟨S1, .i32⟩
  | 25 => ⟨S_, .i32⟩
  | 26 => ⟨S1, .i32⟩
  | 27 => ⟨S_, .i32⟩
  | 28 => ⟨S1, .i32⟩
  | 29 => ⟨S_, .i32⟩
  | 30 => ⟨S1, .i32⟩
  | 31 => ⟨S_, .i32⟩
  | 32 => ⟨S1, .i32⟩
  | 33 => ⟨S_, .i32⟩
  | 34 => ⟨S1, .i32⟩
  | 35 => ⟨S_, .i32⟩
  | 36 => ⟨S1, .i32⟩
  | 37 => ⟨S8, .i32⟩
  | 38 => ⟨S2x2x2x2x32x2x2x2x2x3, .f32⟩
  | 39 => ⟨S32x3x1x1, .f32⟩
  | 40 => ⟨S32x3, .f32⟩
  | 41 => ⟨S_, .i32⟩
  | 42 => ⟨S1, .i32⟩
  | 43 => ⟨S_, .i32⟩
  | 44 => ⟨S1, .i32⟩
  | 45 => ⟨S_, .i32⟩
  | 46 => ⟨S1, .i32⟩
  | 47 => ⟨S_, .i32⟩
  | 48 => ⟨S1, .i32⟩
  | 49 => ⟨S_, .i32⟩
  | 50 => ⟨S1, .i32⟩
  | 51 => ⟨S_, .i32⟩
  | 52 => ⟨S1, .i32⟩
  | 53 => ⟨S_, .i32⟩
  | 54 => ⟨S1, .i32⟩
  | 55 => ⟨S_, .i32⟩
  | 56 => ⟨S1, .i32⟩
  | 57 => ⟨S8, .i32⟩
  | 58 => ⟨S2x2x2x2x32x2x2x2x2x3, .f32⟩
  | 59 => ⟨S32x3x1x1, .f32⟩
  | 60 => ⟨S32x3, .f32⟩
  | 61 => ⟨S_, .i32⟩
  | 62 => ⟨S1, .i32⟩
  | 63 => ⟨S_, .i32⟩
  | 64 => ⟨S1, .i32⟩
  | 65 => ⟨S_, .i32⟩
  | 66 => ⟨S1, .i32⟩
  | 67 => ⟨S_, .i32⟩
  | 68 => ⟨S1, .i32⟩
  | 69 => ⟨S_, .i32⟩
  | 70 => ⟨S1, .i32⟩
  | 71 => ⟨S_, .i32⟩
  | 72 => ⟨S1, .i32⟩
  | 73 => ⟨S_, .i32⟩
  | 74 => ⟨S1, .i32⟩
  | 75 => ⟨S_, .i32⟩
  | 76 => ⟨S1, .i32⟩
  | 77 => ⟨S8, .i32⟩
  | 78 => ⟨S2x2x2x2x32x2x2x2x2x3, .f32⟩
  | 79 => ⟨S512x48, .f32⟩
  | 80 => ⟨S1x3, .f32⟩
  | 81 => ⟨S16x3, .f32⟩
  | 82 => ⟨S48, .f32⟩
  | 83 => ⟨S1x1x48, .f32⟩
  | 84 => ⟨S16x56x56x48, .f32⟩
  | 85 => ⟨S16x56x56x2x2x2x2x3, .f32⟩
  | 86 => ⟨S16x3x56x2x2x56x2x2, .f32⟩
  | 87 => ⟨S16x3x224x224, .f32⟩
  | _ => ⟨S16x3x224x224, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | 16 => hbmTy0_16 i
  | 17 => hbmTy0_17 i
  | 18 => hbmTy0_18 i
  | 19 => hbmTy0_19 i
  | _ => ⟨S16x3x224x224, .f32⟩

abbrev bufTy : (tb : Table) → Fin (tcTables nBuf tb) → BufTy
  | .hbm, ⟨i, _⟩ => hbmTy i
  | .local _ .vmem, ⟨0, _⟩ => ⟨S1x115x115x12, .f32⟩
  | .local _ .vmem, ⟨1, _⟩ => ⟨S1x115x115x12, .f32⟩
  | .local _ .vmem, ⟨2, _⟩ => ⟨S108x128, .f32⟩
  | .local _ .vmem, ⟨3, _⟩ => ⟨S1x1x128, .f32⟩
  | .local _ .vmem, ⟨4, _⟩ => ⟨S1x60x60x128, .f32⟩
  | .local _ .vmem, ⟨5, _⟩ => ⟨S1x60x60x128, .f32⟩
  | .local _ .vmem, ⟨6, _⟩ => ⟨S1x60x60x128, .f32⟩
  | .local _ .vmem, ⟨7, _⟩ => ⟨S1x60x60x128, .f32⟩
  | .local _ .vmem, ⟨8, _⟩ => ⟨S512x64, .f32⟩
  | .local _ .vmem, ⟨9, _⟩ => ⟨S1x1x64, .f32⟩
  | .local _ .vmem, ⟨10, _⟩ => ⟨S1x29x29x256, .f32⟩
  | .local _ .vmem, ⟨11, _⟩ => ⟨S1x29x29x256, .f32⟩
  | .local _ .vmem, ⟨12, _⟩ => ⟨S1x29x29x256, .f32⟩
  | .local _ .vmem, ⟨13, _⟩ => ⟨S1x29x29x256, .f32⟩
  | .local _ .vmem, ⟨14, _⟩ => ⟨S1024x64, .f32⟩
  | .local _ .vmem, ⟨15, _⟩ => ⟨S1x1x64, .f32⟩
  | .local _ .vmem, ⟨16, _⟩ => ⟨S1x28x28x64, .f32⟩
  | .local _ .vmem, ⟨17, _⟩ => ⟨S1x28x28x64, .f32⟩
  | .local _ .vmem, ⟨18, _⟩ => ⟨S1x28x28x64, .f32⟩
  | .local _ .vmem, ⟨19, _⟩ => ⟨S1x28x28x64, .f32⟩
  | .local _ .vmem, ⟨20, _⟩ => ⟨S512x64, .f32⟩
  | .local _ .vmem, ⟨21, _⟩ => ⟨S1x30x30x64, .f32⟩
  | .local _ .vmem, ⟨22, _⟩ => ⟨S1x30x30x64, .f32⟩
  | .local _ .vmem, ⟨23, _⟩ => ⟨S1x1x128, .f32⟩
  | .local _ .vmem, ⟨24, _⟩ => ⟨S1x1x128, .f32⟩
  | .local _ .vmem, ⟨25, _⟩ => ⟨S1x30x30x64, .f32⟩
  | .local _ .vmem, ⟨26, _⟩ => ⟨S1x30x30x64, .f32⟩
  | .local _ .vmem, ⟨27, _⟩ => ⟨S2x2x256x64, .f32⟩
  | .local _ .vmem, ⟨28, _⟩ => ⟨S1x1x64, .f32⟩
  | .local _ .vmem, ⟨29, _⟩ => ⟨S1x58x58x64, .f32⟩
  | .local _ .vmem, ⟨30, _⟩ => ⟨S1x58x58x64, .f32⟩
  | .local _ .vmem, ⟨31, _⟩ => ⟨S1x58x58x64, .f32⟩
  | .local _ .vmem, ⟨32, _⟩ => ⟨S1x58x58x64, .f32⟩
  | .local _ .vmem, ⟨33, _⟩ => ⟨S2x2x256x32, .f32⟩
  | .local _ .vmem, ⟨34, _⟩ => ⟨S1x1x32, .f32⟩
  | .local _ .vmem, ⟨35, _⟩ => ⟨S1x57x57x128, .f32⟩
  | .local _ .vmem, ⟨36, _⟩ => ⟨S1x57x57x128, .f32⟩
  | .local _ .vmem, ⟨37, _⟩ => ⟨S1x57x57x128, .f32⟩
  | .local _ .vmem, ⟨38, _⟩ => ⟨S1x57x57x128, .f32⟩
  | .local _ .vmem, ⟨39, _⟩ => ⟨S512x48, .f32⟩
  | .local _ .vmem, ⟨40, _⟩ => ⟨S1x1x48, .f32⟩
  | .local _ .vmem, ⟨41, _⟩ => ⟨S1x56x56x48, .f32⟩
  | .local _ .vmem, ⟨42, _⟩ => ⟨S1x56x56x48, .f32⟩
  | _, _ => ⟨S16x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_call0_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_c_0 : Ref sig .tc := ⟨.hbm, 26, rfl⟩
abbrev main_v9 : Ref sig .tc := ⟨.hbm, 27, rfl⟩
abbrev main_c_1 : Ref sig .tc := ⟨.hbm, 28, rfl⟩
abbrev main_v10 : Ref sig .tc := ⟨.hbm, 29, rfl⟩
abbrev main_c_2 : Ref sig .tc := ⟨.hbm, 30, rfl⟩
abbrev main_v11 : Ref sig .tc := ⟨.hbm, 31, rfl⟩
abbrev main_c_3 : Ref sig .tc := ⟨.hbm, 32, rfl⟩
abbrev main_v12 : Ref sig .tc := ⟨.hbm, 33, rfl⟩
abbrev main_c_4 : Ref sig .tc := ⟨.hbm, 34, rfl⟩
abbrev main_v13 : Ref sig .tc := ⟨.hbm, 35, rfl⟩
abbrev main_c_5 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_c_6 : Ref sig .tc := ⟨.hbm, 43, rfl⟩
abbrev main_v20 : Ref sig .tc := ⟨.hbm, 44, rfl⟩
abbrev main_c_7 : Ref sig .tc := ⟨.hbm, 45, rfl⟩
abbrev main_v21 : Ref sig .tc := ⟨.hbm, 46, rfl⟩
abbrev main_c_8 : Ref sig .tc := ⟨.hbm, 47, rfl⟩
abbrev main_v22 : Ref sig .tc := ⟨.hbm, 48, rfl⟩
abbrev main_c_9 : Ref sig .tc := ⟨.hbm, 49, rfl⟩
abbrev main_v23 : Ref sig .tc := ⟨.hbm, 50, rfl⟩
abbrev main_c_10 : Ref sig .tc := ⟨.hbm, 51, rfl⟩
abbrev main_v24 : Ref sig .tc := ⟨.hbm, 52, rfl⟩
abbrev main_c_11 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_c_12 : Ref sig .tc := ⟨.hbm, 60, rfl⟩
abbrev main_v31 : Ref sig .tc := ⟨.hbm, 61, rfl⟩
abbrev main_c_13 : Ref sig .tc := ⟨.hbm, 62, rfl⟩
abbrev main_v32 : Ref sig .tc := ⟨.hbm, 63, rfl⟩
abbrev main_c_14 : Ref sig .tc := ⟨.hbm, 64, rfl⟩
abbrev main_v33 : Ref sig .tc := ⟨.hbm, 65, rfl⟩
abbrev main_c_15 : Ref sig .tc := ⟨.hbm, 66, rfl⟩
abbrev main_v34 : Ref sig .tc := ⟨.hbm, 67, rfl⟩
abbrev main_c_16 : Ref sig .tc := ⟨.hbm, 68, rfl⟩
abbrev main_v35 : Ref sig .tc := ⟨.hbm, 69, rfl⟩
abbrev main_c_17 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_c_18 : Ref sig .tc := ⟨.hbm, 77, rfl⟩
abbrev main_v42 : Ref sig .tc := ⟨.hbm, 78, rfl⟩
abbrev main_c_19 : Ref sig .tc := ⟨.hbm, 79, rfl⟩
abbrev main_v43 : Ref sig .tc := ⟨.hbm, 80, rfl⟩
abbrev main_c_20 : Ref sig .tc := ⟨.hbm, 81, rfl⟩
abbrev main_v44 : Ref sig .tc := ⟨.hbm, 82, rfl⟩
abbrev main_c_21 : Ref sig .tc := ⟨.hbm, 83, rfl⟩
abbrev main_v45 : Ref sig .tc := ⟨.hbm, 84, rfl⟩
abbrev main_c_22 : Ref sig .tc := ⟨.hbm, 85, rfl⟩
abbrev main_v46 : Ref sig .tc := ⟨.hbm, 86, rfl⟩
abbrev main_c_23 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_c_24 : Ref sig .tc := ⟨.hbm, 94, rfl⟩
abbrev main_v53 : Ref sig .tc := ⟨.hbm, 95, rfl⟩
abbrev main_c_25 : Ref sig .tc := ⟨.hbm, 96, rfl⟩
abbrev main_v54 : Ref sig .tc := ⟨.hbm, 97, rfl⟩
abbrev main_c_26 : Ref sig .tc := ⟨.hbm, 98, rfl⟩
abbrev main_v55 : Ref sig .tc := ⟨.hbm, 99, rfl⟩
abbrev main_c_27 : Ref sig .tc := ⟨.hbm, 100, rfl⟩
abbrev main_v56 : Ref sig .tc := ⟨.hbm, 101, rfl⟩
abbrev main_c_28 : Ref sig .tc := ⟨.hbm, 102, rfl⟩
abbrev main_v57 : Ref sig .tc := ⟨.hbm, 103, rfl⟩
abbrev main_c_29 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_c_30 : Ref sig .tc := ⟨.hbm, 111, rfl⟩
abbrev main_v64 : Ref sig .tc := ⟨.hbm, 112, rfl⟩
abbrev main_c_31 : Ref sig .tc := ⟨.hbm, 113, rfl⟩
abbrev main_v65 : Ref sig .tc := ⟨.hbm, 114, rfl⟩
abbrev main_c_32 : Ref sig .tc := ⟨.hbm, 115, rfl⟩
abbrev main_v66 : Ref sig .tc := ⟨.hbm, 116, rfl⟩
abbrev main_c_33 : Ref sig .tc := ⟨.hbm, 117, rfl⟩
abbrev main_v67 : Ref sig .tc := ⟨.hbm, 118, rfl⟩
abbrev main_c_34 : Ref sig .tc := ⟨.hbm, 119, rfl⟩
abbrev main_v68 : Ref sig .tc := ⟨.hbm, 120, rfl⟩
abbrev main_c_35 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_c_36 : Ref sig .tc := ⟨.hbm, 128, rfl⟩
abbrev main_v75 : Ref sig .tc := ⟨.hbm, 129, rfl⟩
abbrev main_c_37 : Ref sig .tc := ⟨.hbm, 130, rfl⟩
abbrev main_v76 : Ref sig .tc := ⟨.hbm, 131, rfl⟩
abbrev main_c_38 : Ref sig .tc := ⟨.hbm, 132, rfl⟩
abbrev main_v77 : Ref sig .tc := ⟨.hbm, 133, rfl⟩
abbrev main_c_39 : Ref sig .tc := ⟨.hbm, 134, rfl⟩
abbrev main_v78 : Ref sig .tc := ⟨.hbm, 135, rfl⟩
abbrev main_c_40 : Ref sig .tc := ⟨.hbm, 136, rfl⟩
abbrev main_v79 : Ref sig .tc := ⟨.hbm, 137, rfl⟩
abbrev main_c_41 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_c_42 : Ref sig .tc := ⟨.hbm, 145, rfl⟩
abbrev main_v86 : Ref sig .tc := ⟨.hbm, 146, rfl⟩
abbrev main_c_43 : Ref sig .tc := ⟨.hbm, 147, rfl⟩
abbrev main_v87 : Ref sig .tc := ⟨.hbm, 148, rfl⟩
abbrev main_c_44 : Ref sig .tc := ⟨.hbm, 149, rfl⟩
abbrev main_v88 : Ref sig .tc := ⟨.hbm, 150, rfl⟩
abbrev main_c_45 : Ref sig .tc := ⟨.hbm, 151, rfl⟩
abbrev main_v89 : Ref sig .tc := ⟨.hbm, 152, rfl⟩
abbrev main_c_46 : Ref sig .tc := ⟨.hbm, 153, rfl⟩
abbrev main_v90 : Ref sig .tc := ⟨.hbm, 154, rfl⟩
abbrev main_c_47 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩
abbrev main_c_48 : Ref sig .tc := ⟨.hbm, 162, rfl⟩
abbrev main_v97 : Ref sig .tc := ⟨.hbm, 163, rfl⟩
abbrev main_c_49 : Ref sig .tc := ⟨.hbm, 164, rfl⟩
abbrev main_v98 : Ref sig .tc := ⟨.hbm, 165, rfl⟩
abbrev main_c_50 : Ref sig .tc := ⟨.hbm, 166, rfl⟩
abbrev main_v99 : Ref sig .tc := ⟨.hbm, 167, rfl⟩
abbrev main_c_51 : Ref sig .tc := ⟨.hbm, 168, rfl⟩
abbrev main_v100 : Ref sig .tc := ⟨.hbm, 169, rfl⟩
abbrev main_c_52 : Ref sig .tc := ⟨.hbm, 170, rfl⟩
abbrev main_v101 : Ref sig .tc := ⟨.hbm, 171, rfl⟩
abbrev main_c_53 : Ref sig .tc := ⟨.hbm, 172, rfl⟩
abbrev main_v102 : Ref sig .tc := ⟨.hbm, 173, rfl⟩
abbrev main_v103 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev main_v107 : Ref sig .tc := ⟨.hbm, 178, rfl⟩
abbrev main_c_54 : Ref sig .tc := ⟨.hbm, 179, rfl⟩
abbrev main_v108 : Ref sig .tc := ⟨.hbm, 180, rfl⟩
abbrev main_c_55 : Ref sig .tc := ⟨.hbm, 181, rfl⟩
abbrev main_v109 : Ref sig .tc := ⟨.hbm, 182, rfl⟩
abbrev main_c_56 : Ref sig .tc := ⟨.hbm, 183, rfl⟩
abbrev main_v110 : Ref sig .tc := ⟨.hbm, 184, rfl⟩
abbrev main_c_57 : Ref sig .tc := ⟨.hbm, 185, rfl⟩
abbrev main_v111 : Ref sig .tc := ⟨.hbm, 186, rfl⟩
abbrev main_c_58 : Ref sig .tc := ⟨.hbm, 187, rfl⟩
abbrev main_v112 : Ref sig .tc := ⟨.hbm, 188, rfl⟩
abbrev main_c_59 : Ref sig .tc := ⟨.hbm, 189, rfl⟩
abbrev main_v113 : Ref sig .tc := ⟨.hbm, 190, rfl⟩
abbrev main_v114 : Ref sig .tc := ⟨.hbm, 191, rfl⟩
abbrev main_v115 : Ref sig .tc := ⟨.hbm, 192, rfl⟩
abbrev main_v116 : Ref sig .tc := ⟨.hbm, 193, rfl⟩
abbrev main_v117 : Ref sig .tc := ⟨.hbm, 194, rfl⟩
abbrev main_v118 : Ref sig .tc := ⟨.hbm, 195, rfl⟩
abbrev main_c_60 : Ref sig .tc := ⟨.hbm, 196, rfl⟩
abbrev main_v119 : Ref sig .tc := ⟨.hbm, 197, rfl⟩
abbrev main_c_61 : Ref sig .tc := ⟨.hbm, 198, rfl⟩
abbrev main_v120 : Ref sig .tc := ⟨.hbm, 199, rfl⟩
abbrev main_c_62 : Ref sig .tc := ⟨.hbm, 200, rfl⟩
abbrev main_v121 : Ref sig .tc := ⟨.hbm, 201, rfl⟩
abbrev main_c_63 : Ref sig .tc := ⟨.hbm, 202, rfl⟩
abbrev main_v122 : Ref sig .tc := ⟨.hbm, 203, rfl⟩
abbrev main_c_64 : Ref sig .tc := ⟨.hbm, 204, rfl⟩
abbrev main_v123 : Ref sig .tc := ⟨.hbm, 205, rfl⟩
abbrev main_c_65 : Ref sig .tc := ⟨.hbm, 206, rfl⟩
abbrev main_v124 : Ref sig .tc := ⟨.hbm, 207, rfl⟩
abbrev main_v125 : Ref sig .tc := ⟨.hbm, 208, rfl⟩
abbrev main_v126 : Ref sig .tc := ⟨.hbm, 209, rfl⟩
abbrev main_v127 : Ref sig .tc := ⟨.hbm, 210, rfl⟩
abbrev main_v128 : Ref sig .tc := ⟨.hbm, 211, rfl⟩
abbrev main_v129 : Ref sig .tc := ⟨.hbm, 212, rfl⟩
abbrev main_c_66 : Ref sig .tc := ⟨.hbm, 213, rfl⟩
abbrev main_v130 : Ref sig .tc := ⟨.hbm, 214, rfl⟩
abbrev main_c_67 : Ref sig .tc := ⟨.hbm, 215, rfl⟩
abbrev main_v131 : Ref sig .tc := ⟨.hbm, 216, rfl⟩
abbrev main_c_68 : Ref sig .tc := ⟨.hbm, 217, rfl⟩
abbrev main_v132 : Ref sig .tc := ⟨.hbm, 218, rfl⟩
abbrev main_c_69 : Ref sig .tc := ⟨.hbm, 219, rfl⟩
abbrev main_v133 : Ref sig .tc := ⟨.hbm, 220, rfl⟩
abbrev main_c_70 : Ref sig .tc := ⟨.hbm, 221, rfl⟩
abbrev main_v134 : Ref sig .tc := ⟨.hbm, 222, rfl⟩
abbrev main_c_71 : Ref sig .tc := ⟨.hbm, 223, rfl⟩
abbrev main_v135 : Ref sig .tc := ⟨.hbm, 224, rfl⟩
abbrev main_v136 : Ref sig .tc := ⟨.hbm, 225, rfl⟩
abbrev main_v137 : Ref sig .tc := ⟨.hbm, 226, rfl⟩
abbrev main_v138 : Ref sig .tc := ⟨.hbm, 227, rfl⟩
abbrev main_v139 : Ref sig .tc := ⟨.hbm, 228, rfl⟩
abbrev main_v140 : Ref sig .tc := ⟨.hbm, 229, rfl⟩
abbrev main_c_72 : Ref sig .tc := ⟨.hbm, 230, rfl⟩
abbrev main_v141 : Ref sig .tc := ⟨.hbm, 231, rfl⟩
abbrev main_c_73 : Ref sig .tc := ⟨.hbm, 232, rfl⟩
abbrev main_v142 : Ref sig .tc := ⟨.hbm, 233, rfl⟩
abbrev main_c_74 : Ref sig .tc := ⟨.hbm, 234, rfl⟩
abbrev main_v143 : Ref sig .tc := ⟨.hbm, 235, rfl⟩
abbrev main_c_75 : Ref sig .tc := ⟨.hbm, 236, rfl⟩
abbrev main_v144 : Ref sig .tc := ⟨.hbm, 237, rfl⟩
abbrev main_c_76 : Ref sig .tc := ⟨.hbm, 238, rfl⟩
abbrev main_v145 : Ref sig .tc := ⟨.hbm, 239, rfl⟩
abbrev main_c_77 : Ref sig .tc := ⟨.hbm, 240, rfl⟩
abbrev main_v146 : Ref sig .tc := ⟨.hbm, 241, rfl⟩
abbrev main_v147 : Ref sig .tc := ⟨.hbm, 242, rfl⟩
abbrev main_v148 : Ref sig .tc := ⟨.hbm, 243, rfl⟩
abbrev main_v149 : Ref sig .tc := ⟨.hbm, 244, rfl⟩
abbrev main_v150 : Ref sig .tc := ⟨.hbm, 245, rfl⟩
abbrev main_v151 : Ref sig .tc := ⟨.hbm, 246, rfl⟩
abbrev main_c_78 : Ref sig .tc := ⟨.hbm, 247, rfl⟩
abbrev main_v152 : Ref sig .tc := ⟨.hbm, 248, rfl⟩
abbrev main_c_79 : Ref sig .tc := ⟨.hbm, 249, rfl⟩
abbrev main_v153 : Ref sig .tc := ⟨.hbm, 250, rfl⟩
abbrev main_c_80 : Ref sig .tc := ⟨.hbm, 251, rfl⟩
abbrev main_v154 : Ref sig .tc := ⟨.hbm, 252, rfl⟩
abbrev main_c_81 : Ref sig .tc := ⟨.hbm, 253, rfl⟩
abbrev main_v155 : Ref sig .tc := ⟨.hbm, 254, rfl⟩
abbrev main_c_82 : Ref sig .tc := ⟨.hbm, 255, rfl⟩
abbrev main_v156 : Ref sig .tc := ⟨.hbm, 256, rfl⟩
abbrev main_c_83 : Ref sig .tc := ⟨.hbm, 257, rfl⟩
abbrev main_v157 : Ref sig .tc := ⟨.hbm, 258, rfl⟩
abbrev main_v158 : Ref sig .tc := ⟨.hbm, 259, rfl⟩
abbrev main_v159 : Ref sig .tc := ⟨.hbm, 260, rfl⟩
abbrev main_v160 : Ref sig .tc := ⟨.hbm, 261, rfl⟩
abbrev main_v161 : Ref sig .tc := ⟨.hbm, 262, rfl⟩
abbrev main_v162 : Ref sig .tc := ⟨.hbm, 263, rfl⟩
abbrev main_c_84 : Ref sig .tc := ⟨.hbm, 264, rfl⟩
abbrev main_v163 : Ref sig .tc := ⟨.hbm, 265, rfl⟩
abbrev main_c_85 : Ref sig .tc := ⟨.hbm, 266, rfl⟩
abbrev main_v164 : Ref sig .tc := ⟨.hbm, 267, rfl⟩
abbrev main_c_86 : Ref sig .tc := ⟨.hbm, 268, rfl⟩
abbrev main_v165 : Ref sig .tc := ⟨.hbm, 269, rfl⟩
abbrev main_c_87 : Ref sig .tc := ⟨.hbm, 270, rfl⟩
abbrev main_v166 : Ref sig .tc := ⟨.hbm, 271, rfl⟩
abbrev main_c_88 : Ref sig .tc := ⟨.hbm, 272, rfl⟩
abbrev main_v167 : Ref sig .tc := ⟨.hbm, 273, rfl⟩
abbrev main_c_89 : Ref sig .tc := ⟨.hbm, 274, rfl⟩
abbrev main_v168 : Ref sig .tc := ⟨.hbm, 275, rfl⟩
abbrev main_v169 : Ref sig .tc := ⟨.hbm, 276, rfl⟩
abbrev main_v170 : Ref sig .tc := ⟨.hbm, 277, rfl⟩
abbrev main_v171 : Ref sig .tc := ⟨.hbm, 278, rfl⟩
abbrev main_v172 : Ref sig .tc := ⟨.hbm, 279, rfl⟩
abbrev main_v173 : Ref sig .tc := ⟨.hbm, 280, rfl⟩
abbrev main_c_90 : Ref sig .tc := ⟨.hbm, 281, rfl⟩
abbrev main_v174 : Ref sig .tc := ⟨.hbm, 282, rfl⟩
abbrev main_c_91 : Ref sig .tc := ⟨.hbm, 283, rfl⟩
abbrev main_v175 : Ref sig .tc := ⟨.hbm, 284, rfl⟩
abbrev main_c_92 : Ref sig .tc := ⟨.hbm, 285, rfl⟩
abbrev main_v176 : Ref sig .tc := ⟨.hbm, 286, rfl⟩
abbrev main_c_93 : Ref sig .tc := ⟨.hbm, 287, rfl⟩
abbrev main_v177 : Ref sig .tc := ⟨.hbm, 288, rfl⟩
abbrev main_c_94 : Ref sig .tc := ⟨.hbm, 289, rfl⟩
abbrev main_v178 : Ref sig .tc := ⟨.hbm, 290, rfl⟩
abbrev main_c_95 : Ref sig .tc := ⟨.hbm, 291, rfl⟩
abbrev main_v179 : Ref sig .tc := ⟨.hbm, 292, rfl⟩
abbrev main_v180 : Ref sig .tc := ⟨.hbm, 293, rfl⟩
abbrev main_v181 : Ref sig .tc := ⟨.hbm, 294, rfl⟩
abbrev main_v182 : Ref sig .tc := ⟨.hbm, 295, rfl⟩
abbrev main_v183 : Ref sig .tc := ⟨.hbm, 296, rfl⟩
abbrev main_v184 : Ref sig .tc := ⟨.hbm, 297, rfl⟩
abbrev main_c_96 : Ref sig .tc := ⟨.hbm, 298, rfl⟩
abbrev main_v185 : Ref sig .tc := ⟨.hbm, 299, rfl⟩
abbrev main_c_97 : Ref sig .tc := ⟨.hbm, 300, rfl⟩
abbrev main_v186 : Ref sig .tc := ⟨.hbm, 301, rfl⟩
abbrev main_c_98 : Ref sig .tc := ⟨.hbm, 302, rfl⟩
abbrev main_v187 : Ref sig .tc := ⟨.hbm, 303, rfl⟩
abbrev main_c_99 : Ref sig .tc := ⟨.hbm, 304, rfl⟩
abbrev main_v188 : Ref sig .tc := ⟨.hbm, 305, rfl⟩
abbrev main_c_100 : Ref sig .tc := ⟨.hbm, 306, rfl⟩
abbrev main_v189 : Ref sig .tc := ⟨.hbm, 307, rfl⟩
abbrev main_c_101 : Ref sig .tc := ⟨.hbm, 308, rfl⟩
abbrev main_v190 : Ref sig .tc := ⟨.hbm, 309, rfl⟩
abbrev main_v191 : Ref sig .tc := ⟨.hbm, 310, rfl⟩
abbrev main_v192 : Ref sig .tc := ⟨.hbm, 311, rfl⟩
abbrev main_v193 : Ref sig .tc := ⟨.hbm, 312, rfl⟩
abbrev main_v194 : Ref sig .tc := ⟨.hbm, 313, rfl⟩
abbrev main_v195 : Ref sig .tc := ⟨.hbm, 314, rfl⟩
abbrev main_c_102 : Ref sig .tc := ⟨.hbm, 315, rfl⟩
abbrev main_v196 : Ref sig .tc := ⟨.hbm, 316, rfl⟩
abbrev main_c_103 : Ref sig .tc := ⟨.hbm, 317, rfl⟩
abbrev main_v197 : Ref sig .tc := ⟨.hbm, 318, rfl⟩
abbrev main_c_104 : Ref sig .tc := ⟨.hbm, 319, rfl⟩
abbrev main_v198 : Ref sig .tc := ⟨.hbm, 320, rfl⟩
abbrev main_c_105 : Ref sig .tc := ⟨.hbm, 321, rfl⟩
abbrev main_v199 : Ref sig .tc := ⟨.hbm, 322, rfl⟩
abbrev main_c_106 : Ref sig .tc := ⟨.hbm, 323, rfl⟩
abbrev main_v200 : Ref sig .tc := ⟨.hbm, 324, rfl⟩
abbrev main_c_107 : Ref sig .tc := ⟨.hbm, 325, rfl⟩
abbrev main_v201 : Ref sig .tc := ⟨.hbm, 326, rfl⟩
abbrev main_v202 : Ref sig .tc := ⟨.hbm, 327, rfl⟩
abbrev main_v203 : Ref sig .tc := ⟨.hbm, 328, rfl⟩
abbrev main_v204 : Ref sig .tc := ⟨.hbm, 329, rfl⟩
abbrev main_v205 : Ref sig .tc := ⟨.hbm, 330, rfl⟩
abbrev main_v206 : Ref sig .tc := ⟨.hbm, 331, rfl⟩
abbrev main_c_108 : Ref sig .tc := ⟨.hbm, 332, rfl⟩
abbrev main_v207 : Ref sig .tc := ⟨.hbm, 333, rfl⟩
abbrev main_c_109 : Ref sig .tc := ⟨.hbm, 334, rfl⟩
abbrev main_v208 : Ref sig .tc := ⟨.hbm, 335, rfl⟩
abbrev main_c_110 : Ref sig .tc := ⟨.hbm, 336, rfl⟩
abbrev main_v209 : Ref sig .tc := ⟨.hbm, 337, rfl⟩
abbrev main_c_111 : Ref sig .tc := ⟨.hbm, 338, rfl⟩
abbrev main_v210 : Ref sig .tc := ⟨.hbm, 339, rfl⟩
abbrev main_c_112 : Ref sig .tc := ⟨.hbm, 340, rfl⟩
abbrev main_v211 : Ref sig .tc := ⟨.hbm, 341, rfl⟩
abbrev main_c_113 : Ref sig .tc := ⟨.hbm, 342, rfl⟩
abbrev main_v212 : Ref sig .tc := ⟨.hbm, 343, rfl⟩
abbrev main_v213 : Ref sig .tc := ⟨.hbm, 344, rfl⟩
abbrev main_v214 : Ref sig .tc := ⟨.hbm, 345, rfl⟩
abbrev main_v215 : Ref sig .tc := ⟨.hbm, 346, rfl⟩
abbrev main_v216 : Ref sig .tc := ⟨.hbm, 347, rfl⟩
abbrev main_v217 : Ref sig .tc := ⟨.hbm, 348, rfl⟩
abbrev main_c_114 : Ref sig .tc := ⟨.hbm, 349, rfl⟩
abbrev main_v218 : Ref sig .tc := ⟨.hbm, 350, rfl⟩
abbrev main_c_115 : Ref sig .tc := ⟨.hbm, 351, rfl⟩
abbrev main_v219 : Ref sig .tc := ⟨.hbm, 352, rfl⟩
abbrev main_c_116 : Ref sig .tc := ⟨.hbm, 353, rfl⟩
abbrev main_v220 : Ref sig .tc := ⟨.hbm, 354, rfl⟩
abbrev main_c_117 : Ref sig .tc := ⟨.hbm, 355, rfl⟩
abbrev main_v221 : Ref sig .tc := ⟨.hbm, 356, rfl⟩
abbrev main_c_118 : Ref sig .tc := ⟨.hbm, 357, rfl⟩
abbrev main_v222 : Ref sig .tc := ⟨.hbm, 358, rfl⟩
abbrev main_c_119 : Ref sig .tc := ⟨.hbm, 359, rfl⟩
abbrev main_v223 : Ref sig .tc := ⟨.hbm, 360, rfl⟩
abbrev main_v224 : Ref sig .tc := ⟨.hbm, 361, rfl⟩
abbrev main_v225 : Ref sig .tc := ⟨.hbm, 362, rfl⟩
abbrev main_v226 : Ref sig .tc := ⟨.hbm, 363, rfl⟩
abbrev main_v227 : Ref sig .tc := ⟨.hbm, 364, rfl⟩
abbrev main_v228 : Ref sig .tc := ⟨.hbm, 365, rfl⟩
abbrev main_c_120 : Ref sig .tc := ⟨.hbm, 366, rfl⟩
abbrev main_v229 : Ref sig .tc := ⟨.hbm, 367, rfl⟩
abbrev main_c_121 : Ref sig .tc := ⟨.hbm, 368, rfl⟩
abbrev main_v230 : Ref sig .tc := ⟨.hbm, 369, rfl⟩
abbrev main_c_122 : Ref sig .tc := ⟨.hbm, 370, rfl⟩
abbrev main_v231 : Ref sig .tc := ⟨.hbm, 371, rfl⟩
abbrev main_c_123 : Ref sig .tc := ⟨.hbm, 372, rfl⟩
abbrev main_v232 : Ref sig .tc := ⟨.hbm, 373, rfl⟩
abbrev main_c_124 : Ref sig .tc := ⟨.hbm, 374, rfl⟩
abbrev main_v233 : Ref sig .tc := ⟨.hbm, 375, rfl⟩
abbrev main_c_125 : Ref sig .tc := ⟨.hbm, 376, rfl⟩
abbrev main_v234 : Ref sig .tc := ⟨.hbm, 377, rfl⟩
abbrev main_v235 : Ref sig .tc := ⟨.hbm, 378, rfl⟩
abbrev main_v236 : Ref sig .tc := ⟨.hbm, 379, rfl⟩
abbrev main_v237 : Ref sig .tc := ⟨.hbm, 380, rfl⟩
abbrev main_v238 : Ref sig .tc := ⟨.hbm, 381, rfl⟩
abbrev main_v239 : Ref sig .tc := ⟨.hbm, 382, rfl⟩
abbrev main_c_126 : Ref sig .tc := ⟨.hbm, 383, rfl⟩
abbrev main_v240 : Ref sig .tc := ⟨.hbm, 384, rfl⟩
abbrev main_c_127 : Ref sig .tc := ⟨.hbm, 385, rfl⟩
abbrev main_v241 : Ref sig .tc := ⟨.hbm, 386, rfl⟩
abbrev main_c_128 : Ref sig .tc := ⟨.hbm, 387, rfl⟩
abbrev main_v242 : Ref sig .tc := ⟨.hbm, 388, rfl⟩
abbrev main_c_129 : Ref sig .tc := ⟨.hbm, 389, rfl⟩
abbrev main_v243 : Ref sig .tc := ⟨.hbm, 390, rfl⟩
abbrev main_c_130 : Ref sig .tc := ⟨.hbm, 391, rfl⟩
abbrev main_v244 : Ref sig .tc := ⟨.hbm, 392, rfl⟩
abbrev main_c_131 : Ref sig .tc := ⟨.hbm, 393, rfl⟩
abbrev main_v245 : Ref sig .tc := ⟨.hbm, 394, rfl⟩
abbrev main_v246 : Ref sig .tc := ⟨.hbm, 395, rfl⟩
abbrev main_v247 : Ref sig .tc := ⟨.hbm, 396, rfl⟩
abbrev main_v248 : Ref sig .tc := ⟨.hbm, 397, rfl⟩
abbrev main_v249 : Ref sig .tc := ⟨.hbm, 398, rfl⟩
abbrev main_v250 : Ref sig .tc := ⟨.hbm, 399, rfl⟩
abbrev main_c_132 : Ref sig .tc := ⟨.hbm, 400, rfl⟩
abbrev main_v251 : Ref sig .tc := ⟨.hbm, 401, rfl⟩
abbrev main_c_133 : Ref sig .tc := ⟨.hbm, 402, rfl⟩
abbrev main_v252 : Ref sig .tc := ⟨.hbm, 403, rfl⟩
abbrev main_c_134 : Ref sig .tc := ⟨.hbm, 404, rfl⟩
abbrev main_v253 : Ref sig .tc := ⟨.hbm, 405, rfl⟩
abbrev main_c_135 : Ref sig .tc := ⟨.hbm, 406, rfl⟩
abbrev main_v254 : Ref sig .tc := ⟨.hbm, 407, rfl⟩
abbrev main_c_136 : Ref sig .tc := ⟨.hbm, 408, rfl⟩
abbrev main_v255 : Ref sig .tc := ⟨.hbm, 409, rfl⟩
abbrev main_c_137 : Ref sig .tc := ⟨.hbm, 410, rfl⟩
abbrev main_v256 : Ref sig .tc := ⟨.hbm, 411, rfl⟩
abbrev main_v257 : Ref sig .tc := ⟨.hbm, 412, rfl⟩
abbrev main_v258 : Ref sig .tc := ⟨.hbm, 413, rfl⟩
abbrev main_v259 : Ref sig .tc := ⟨.hbm, 414, rfl⟩
abbrev main_v260 : Ref sig .tc := ⟨.hbm, 415, rfl⟩
abbrev main_v261 : Ref sig .tc := ⟨.hbm, 416, rfl⟩
abbrev main_c_138 : Ref sig .tc := ⟨.hbm, 417, rfl⟩
abbrev main_v262 : Ref sig .tc := ⟨.hbm, 418, rfl⟩
abbrev main_c_139 : Ref sig .tc := ⟨.hbm, 419, rfl⟩
abbrev main_v263 : Ref sig .tc := ⟨.hbm, 420, rfl⟩
abbrev main_c_140 : Ref sig .tc := ⟨.hbm, 421, rfl⟩
abbrev main_v264 : Ref sig .tc := ⟨.hbm, 422, rfl⟩
abbrev main_c_141 : Ref sig .tc := ⟨.hbm, 423, rfl⟩
abbrev main_v265 : Ref sig .tc := ⟨.hbm, 424, rfl⟩
abbrev main_c_142 : Ref sig .tc := ⟨.hbm, 425, rfl⟩
abbrev main_v266 : Ref sig .tc := ⟨.hbm, 426, rfl⟩
abbrev main_c_143 : Ref sig .tc := ⟨.hbm, 427, rfl⟩
abbrev main_v267 : Ref sig .tc := ⟨.hbm, 428, rfl⟩
abbrev main_v268 : Ref sig .tc := ⟨.hbm, 429, rfl⟩
abbrev main_v269 : Ref sig .tc := ⟨.hbm, 430, rfl⟩
abbrev main_v270 : Ref sig .tc := ⟨.hbm, 431, rfl⟩
abbrev main_v271 : Ref sig .tc := ⟨.hbm, 432, rfl⟩
abbrev main_v272 : Ref sig .tc := ⟨.hbm, 433, rfl⟩
abbrev main_c_144 : Ref sig .tc := ⟨.hbm, 434, rfl⟩
abbrev main_v273 : Ref sig .tc := ⟨.hbm, 435, rfl⟩
abbrev main_c_145 : Ref sig .tc := ⟨.hbm, 436, rfl⟩
abbrev main_v274 : Ref sig .tc := ⟨.hbm, 437, rfl⟩
abbrev main_c_146 : Ref sig .tc := ⟨.hbm, 438, rfl⟩
abbrev main_v275 : Ref sig .tc := ⟨.hbm, 439, rfl⟩
abbrev main_c_147 : Ref sig .tc := ⟨.hbm, 440, rfl⟩
abbrev main_v276 : Ref sig .tc := ⟨.hbm, 441, rfl⟩
abbrev main_c_148 : Ref sig .tc := ⟨.hbm, 442, rfl⟩
abbrev main_v277 : Ref sig .tc := ⟨.hbm, 443, rfl⟩
abbrev main_c_149 : Ref sig .tc := ⟨.hbm, 444, rfl⟩
abbrev main_v278 : Ref sig .tc := ⟨.hbm, 445, rfl⟩
abbrev main_v279 : Ref sig .tc := ⟨.hbm, 446, rfl⟩
abbrev main_v280 : Ref sig .tc := ⟨.hbm, 447, rfl⟩
abbrev main_v281 : Ref sig .tc := ⟨.hbm, 448, rfl⟩
abbrev main_v282 : Ref sig .tc := ⟨.hbm, 449, rfl⟩
abbrev main_v283 : Ref sig .tc := ⟨.hbm, 450, rfl⟩
abbrev main_c_150 : Ref sig .tc := ⟨.hbm, 451, rfl⟩
abbrev main_v284 : Ref sig .tc := ⟨.hbm, 452, rfl⟩
abbrev main_c_151 : Ref sig .tc := ⟨.hbm, 453, rfl⟩
abbrev main_v285 : Ref sig .tc := ⟨.hbm, 454, rfl⟩
abbrev main_c_152 : Ref sig .tc := ⟨.hbm, 455, rfl⟩
abbrev main_v286 : Ref sig .tc := ⟨.hbm, 456, rfl⟩
abbrev main_c_153 : Ref sig .tc := ⟨.hbm, 457, rfl⟩
abbrev main_v287 : Ref sig .tc := ⟨.hbm, 458, rfl⟩
abbrev main_c_154 : Ref sig .tc := ⟨.hbm, 459, rfl⟩
abbrev main_v288 : Ref sig .tc := ⟨.hbm, 460, rfl⟩
abbrev main_c_155 : Ref sig .tc := ⟨.hbm, 461, rfl⟩
abbrev main_v289 : Ref sig .tc := ⟨.hbm, 462, rfl⟩
abbrev main_v290 : Ref sig .tc := ⟨.hbm, 463, rfl⟩
abbrev main_v291 : Ref sig .tc := ⟨.hbm, 464, rfl⟩
abbrev main_v292 : Ref sig .tc := ⟨.hbm, 465, rfl⟩
abbrev main_v293 : Ref sig .tc := ⟨.hbm, 466, rfl⟩
abbrev main_v294 : Ref sig .tc := ⟨.hbm, 467, rfl⟩
abbrev main_c_156 : Ref sig .tc := ⟨.hbm, 468, rfl⟩
abbrev main_v295 : Ref sig .tc := ⟨.hbm, 469, rfl⟩
abbrev main_c_157 : Ref sig .tc := ⟨.hbm, 470, rfl⟩
abbrev main_v296 : Ref sig .tc := ⟨.hbm, 471, rfl⟩
abbrev main_c_158 : Ref sig .tc := ⟨.hbm, 472, rfl⟩
abbrev main_v297 : Ref sig .tc := ⟨.hbm, 473, rfl⟩
abbrev main_c_159 : Ref sig .tc := ⟨.hbm, 474, rfl⟩
abbrev main_v298 : Ref sig .tc := ⟨.hbm, 475, rfl⟩
abbrev main_c_160 : Ref sig .tc := ⟨.hbm, 476, rfl⟩
abbrev main_v299 : Ref sig .tc := ⟨.hbm, 477, rfl⟩
abbrev main_c_161 : Ref sig .tc := ⟨.hbm, 478, rfl⟩
abbrev main_v300 : Ref sig .tc := ⟨.hbm, 479, rfl⟩
abbrev main_v301 : Ref sig .tc := ⟨.hbm, 480, rfl⟩
abbrev main_v302 : Ref sig .tc := ⟨.hbm, 481, rfl⟩
abbrev main_v303 : Ref sig .tc := ⟨.hbm, 482, rfl⟩
abbrev main_v304 : Ref sig .tc := ⟨.hbm, 483, rfl⟩
abbrev main_v305 : Ref sig .tc := ⟨.hbm, 484, rfl⟩
abbrev main_c_162 : Ref sig .tc := ⟨.hbm, 485, rfl⟩
abbrev main_v306 : Ref sig .tc := ⟨.hbm, 486, rfl⟩
abbrev main_c_163 : Ref sig .tc := ⟨.hbm, 487, rfl⟩
abbrev main_v307 : Ref sig .tc := ⟨.hbm, 488, rfl⟩
abbrev main_c_164 : Ref sig .tc := ⟨.hbm, 489, rfl⟩
abbrev main_v308 : Ref sig .tc := ⟨.hbm, 490, rfl⟩
abbrev main_c_165 : Ref sig .tc := ⟨.hbm, 491, rfl⟩
abbrev main_v309 : Ref sig .tc := ⟨.hbm, 492, rfl⟩
abbrev main_c_166 : Ref sig .tc := ⟨.hbm, 493, rfl⟩
abbrev main_v310 : Ref sig .tc := ⟨.hbm, 494, rfl⟩
abbrev main_c_167 : Ref sig .tc := ⟨.hbm, 495, rfl⟩
abbrev main_v311 : Ref sig .tc := ⟨.hbm, 496, rfl⟩
abbrev main_v312 : Ref sig .tc := ⟨.hbm, 497, rfl⟩
abbrev main_v313 : Ref sig .tc := ⟨.hbm, 498, rfl⟩
abbrev main_v314 : Ref sig .tc := ⟨.hbm, 499, rfl⟩
abbrev main_v315 : Ref sig .tc := ⟨.hbm, 500, rfl⟩
abbrev main_v316 : Ref sig .tc := ⟨.hbm, 501, rfl⟩
abbrev main_c_168 : Ref sig .tc := ⟨.hbm, 502, rfl⟩
abbrev main_v317 : Ref sig .tc := ⟨.hbm, 503, rfl⟩
abbrev main_c_169 : Ref sig .tc := ⟨.hbm, 504, rfl⟩
abbrev main_v318 : Ref sig .tc := ⟨.hbm, 505, rfl⟩
abbrev main_c_170 : Ref sig .tc := ⟨.hbm, 506, rfl⟩
abbrev main_v319 : Ref sig .tc := ⟨.hbm, 507, rfl⟩
abbrev main_c_171 : Ref sig .tc := ⟨.hbm, 508, rfl⟩
abbrev main_v320 : Ref sig .tc := ⟨.hbm, 509, rfl⟩
abbrev main_c_172 : Ref sig .tc := ⟨.hbm, 510, rfl⟩
abbrev main_v321 : Ref sig .tc := ⟨.hbm, 511, rfl⟩
abbrev main_c_173 : Ref sig .tc := ⟨.hbm, 512, rfl⟩
abbrev main_v322 : Ref sig .tc := ⟨.hbm, 513, rfl⟩
abbrev main_v323 : Ref sig .tc := ⟨.hbm, 514, rfl⟩
abbrev main_v324 : Ref sig .tc := ⟨.hbm, 515, rfl⟩
abbrev main_v325 : Ref sig .tc := ⟨.hbm, 516, rfl⟩
abbrev main_v326 : Ref sig .tc := ⟨.hbm, 517, rfl⟩
abbrev main_v327 : Ref sig .tc := ⟨.hbm, 518, rfl⟩
abbrev main_c_174 : Ref sig .tc := ⟨.hbm, 519, rfl⟩
abbrev main_v328 : Ref sig .tc := ⟨.hbm, 520, rfl⟩
abbrev main_c_175 : Ref sig .tc := ⟨.hbm, 521, rfl⟩
abbrev main_v329 : Ref sig .tc := ⟨.hbm, 522, rfl⟩
abbrev main_c_176 : Ref sig .tc := ⟨.hbm, 523, rfl⟩
abbrev main_v330 : Ref sig .tc := ⟨.hbm, 524, rfl⟩
abbrev main_c_177 : Ref sig .tc := ⟨.hbm, 525, rfl⟩
abbrev main_v331 : Ref sig .tc := ⟨.hbm, 526, rfl⟩
abbrev main_c_178 : Ref sig .tc := ⟨.hbm, 527, rfl⟩
abbrev main_v332 : Ref sig .tc := ⟨.hbm, 528, rfl⟩
abbrev main_c_179 : Ref sig .tc := ⟨.hbm, 529, rfl⟩
abbrev main_v333 : Ref sig .tc := ⟨.hbm, 530, rfl⟩
abbrev main_v334 : Ref sig .tc := ⟨.hbm, 531, rfl⟩
abbrev main_v335 : Ref sig .tc := ⟨.hbm, 532, rfl⟩
abbrev main_v336 : Ref sig .tc := ⟨.hbm, 533, rfl⟩
abbrev main_v337 : Ref sig .tc := ⟨.hbm, 534, rfl⟩
abbrev main_v338 : Ref sig .tc := ⟨.hbm, 535, rfl⟩
abbrev main_c_180 : Ref sig .tc := ⟨.hbm, 536, rfl⟩
abbrev main_v339 : Ref sig .tc := ⟨.hbm, 537, rfl⟩
abbrev main_c_181 : Ref sig .tc := ⟨.hbm, 538, rfl⟩
abbrev main_v340 : Ref sig .tc := ⟨.hbm, 539, rfl⟩
abbrev main_c_182 : Ref sig .tc := ⟨.hbm, 540, rfl⟩
abbrev main_v341 : Ref sig .tc := ⟨.hbm, 541, rfl⟩
abbrev main_c_183 : Ref sig .tc := ⟨.hbm, 542, rfl⟩
abbrev main_v342 : Ref sig .tc := ⟨.hbm, 543, rfl⟩
abbrev main_c_184 : Ref sig .tc := ⟨.hbm, 544, rfl⟩
abbrev main_v343 : Ref sig .tc := ⟨.hbm, 545, rfl⟩
abbrev main_c_185 : Ref sig .tc := ⟨.hbm, 546, rfl⟩
abbrev main_v344 : Ref sig .tc := ⟨.hbm, 547, rfl⟩
abbrev main_v345 : Ref sig .tc := ⟨.hbm, 548, rfl⟩
abbrev main_v346 : Ref sig .tc := ⟨.hbm, 549, rfl⟩
abbrev main_v347 : Ref sig .tc := ⟨.hbm, 550, rfl⟩
abbrev main_v348 : Ref sig .tc := ⟨.hbm, 551, rfl⟩
abbrev main_v349 : Ref sig .tc := ⟨.hbm, 552, rfl⟩
abbrev main_c_186 : Ref sig .tc := ⟨.hbm, 553, rfl⟩
abbrev main_v350 : Ref sig .tc := ⟨.hbm, 554, rfl⟩
abbrev main_c_187 : Ref sig .tc := ⟨.hbm, 555, rfl⟩
abbrev main_v351 : Ref sig .tc := ⟨.hbm, 556, rfl⟩
abbrev main_c_188 : Ref sig .tc := ⟨.hbm, 557, rfl⟩
abbrev main_v352 : Ref sig .tc := ⟨.hbm, 558, rfl⟩
abbrev main_c_189 : Ref sig .tc := ⟨.hbm, 559, rfl⟩
abbrev main_v353 : Ref sig .tc := ⟨.hbm, 560, rfl⟩
abbrev main_c_190 : Ref sig .tc := ⟨.hbm, 561, rfl⟩
abbrev main_v354 : Ref sig .tc := ⟨.hbm, 562, rfl⟩
abbrev main_c_191 : Ref sig .tc := ⟨.hbm, 563, rfl⟩
abbrev main_v355 : Ref sig .tc := ⟨.hbm, 564, rfl⟩
abbrev main_v356 : Ref sig .tc := ⟨.hbm, 565, rfl⟩
abbrev main_v357 : Ref sig .tc := ⟨.hbm, 566, rfl⟩
abbrev main_v358 : Ref sig .tc := ⟨.hbm, 567, rfl⟩
abbrev main_v359 : Ref sig .tc := ⟨.hbm, 568, rfl⟩
abbrev main_v360 : Ref sig .tc := ⟨.hbm, 569, rfl⟩
abbrev main_c_192 : Ref sig .tc := ⟨.hbm, 570, rfl⟩
abbrev main_v361 : Ref sig .tc := ⟨.hbm, 571, rfl⟩
abbrev main_c_193 : Ref sig .tc := ⟨.hbm, 572, rfl⟩
abbrev main_v362 : Ref sig .tc := ⟨.hbm, 573, rfl⟩
abbrev main_c_194 : Ref sig .tc := ⟨.hbm, 574, rfl⟩
abbrev main_v363 : Ref sig .tc := ⟨.hbm, 575, rfl⟩
abbrev main_c_195 : Ref sig .tc := ⟨.hbm, 576, rfl⟩
abbrev main_v364 : Ref sig .tc := ⟨.hbm, 577, rfl⟩
abbrev main_c_196 : Ref sig .tc := ⟨.hbm, 578, rfl⟩
abbrev main_v365 : Ref sig .tc := ⟨.hbm, 579, rfl⟩
abbrev main_c_197 : Ref sig .tc := ⟨.hbm, 580, rfl⟩
abbrev main_v366 : Ref sig .tc := ⟨.hbm, 581, rfl⟩
abbrev main_v367 : Ref sig .tc := ⟨.hbm, 582, rfl⟩
abbrev main_v368 : Ref sig .tc := ⟨.hbm, 583, rfl⟩
abbrev main_v369 : Ref sig .tc := ⟨.hbm, 584, rfl⟩
abbrev main_v370 : Ref sig .tc := ⟨.hbm, 585, rfl⟩
abbrev main_v371 : Ref sig .tc := ⟨.hbm, 586, rfl⟩
abbrev main_c_198 : Ref sig .tc := ⟨.hbm, 587, rfl⟩
abbrev main_v372 : Ref sig .tc := ⟨.hbm, 588, rfl⟩
abbrev main_c_199 : Ref sig .tc := ⟨.hbm, 589, rfl⟩
abbrev main_v373 : Ref sig .tc := ⟨.hbm, 590, rfl⟩
abbrev main_c_200 : Ref sig .tc := ⟨.hbm, 591, rfl⟩
abbrev main_v374 : Ref sig .tc := ⟨.hbm, 592, rfl⟩
abbrev main_c_201 : Ref sig .tc := ⟨.hbm, 593, rfl⟩
abbrev main_v375 : Ref sig .tc := ⟨.hbm, 594, rfl⟩
abbrev main_c_202 : Ref sig .tc := ⟨.hbm, 595, rfl⟩
abbrev main_v376 : Ref sig .tc := ⟨.hbm, 596, rfl⟩
abbrev main_c_203 : Ref sig .tc := ⟨.hbm, 597, rfl⟩
abbrev main_v377 : Ref sig .tc := ⟨.hbm, 598, rfl⟩
abbrev main_v378 : Ref sig .tc := ⟨.hbm, 599, rfl⟩
abbrev main_v379 : Ref sig .tc := ⟨.hbm, 600, rfl⟩
abbrev main_v380 : Ref sig .tc := ⟨.hbm, 601, rfl⟩
abbrev main_v381 : Ref sig .tc := ⟨.hbm, 602, rfl⟩
abbrev main_v382 : Ref sig .tc := ⟨.hbm, 603, rfl⟩
abbrev main_c_204 : Ref sig .tc := ⟨.hbm, 604, rfl⟩
abbrev main_v383 : Ref sig .tc := ⟨.hbm, 605, rfl⟩
abbrev main_c_205 : Ref sig .tc := ⟨.hbm, 606, rfl⟩
abbrev main_v384 : Ref sig .tc := ⟨.hbm, 607, rfl⟩
abbrev main_c_206 : Ref sig .tc := ⟨.hbm, 608, rfl⟩
abbrev main_v385 : Ref sig .tc := ⟨.hbm, 609, rfl⟩
abbrev main_c_207 : Ref sig .tc := ⟨.hbm, 610, rfl⟩
abbrev main_v386 : Ref sig .tc := ⟨.hbm, 611, rfl⟩
abbrev main_c_208 : Ref sig .tc := ⟨.hbm, 612, rfl⟩
abbrev main_v387 : Ref sig .tc := ⟨.hbm, 613, rfl⟩
abbrev main_c_209 : Ref sig .tc := ⟨.hbm, 614, rfl⟩
abbrev main_v388 : Ref sig .tc := ⟨.hbm, 615, rfl⟩
abbrev main_v389 : Ref sig .tc := ⟨.hbm, 616, rfl⟩
abbrev main_v390 : Ref sig .tc := ⟨.hbm, 617, rfl⟩
abbrev main_v391 : Ref sig .tc := ⟨.hbm, 618, rfl⟩
abbrev main_v392 : Ref sig .tc := ⟨.hbm, 619, rfl⟩
abbrev main_v393 : Ref sig .tc := ⟨.hbm, 620, rfl⟩
abbrev main_c_210 : Ref sig .tc := ⟨.hbm, 621, rfl⟩
abbrev main_v394 : Ref sig .tc := ⟨.hbm, 622, rfl⟩
abbrev main_c_211 : Ref sig .tc := ⟨.hbm, 623, rfl⟩
abbrev main_v395 : Ref sig .tc := ⟨.hbm, 624, rfl⟩
abbrev main_c_212 : Ref sig .tc := ⟨.hbm, 625, rfl⟩
abbrev main_v396 : Ref sig .tc := ⟨.hbm, 626, rfl⟩
abbrev main_c_213 : Ref sig .tc := ⟨.hbm, 627, rfl⟩
abbrev main_v397 : Ref sig .tc := ⟨.hbm, 628, rfl⟩
abbrev main_c_214 : Ref sig .tc := ⟨.hbm, 629, rfl⟩
abbrev main_v398 : Ref sig .tc := ⟨.hbm, 630, rfl⟩
abbrev main_c_215 : Ref sig .tc := ⟨.hbm, 631, rfl⟩
abbrev main_v399 : Ref sig .tc := ⟨.hbm, 632, rfl⟩
abbrev main_v400 : Ref sig .tc := ⟨.hbm, 633, rfl⟩
abbrev main_v401 : Ref sig .tc := ⟨.hbm, 634, rfl⟩
abbrev main_v402 : Ref sig .tc := ⟨.hbm, 635, rfl⟩
abbrev main_v403 : Ref sig .tc := ⟨.hbm, 636, rfl⟩
abbrev main_v404 : Ref sig .tc := ⟨.hbm, 637, rfl⟩
abbrev main_c_216 : Ref sig .tc := ⟨.hbm, 638, rfl⟩
abbrev main_v405 : Ref sig .tc := ⟨.hbm, 639, rfl⟩
abbrev main_c_217 : Ref sig .tc := ⟨.hbm, 640, rfl⟩
abbrev main_v406 : Ref sig .tc := ⟨.hbm, 641, rfl⟩
abbrev main_c_218 : Ref sig .tc := ⟨.hbm, 642, rfl⟩
abbrev main_v407 : Ref sig .tc := ⟨.hbm, 643, rfl⟩
abbrev main_c_219 : Ref sig .tc := ⟨.hbm, 644, rfl⟩
abbrev main_v408 : Ref sig .tc := ⟨.hbm, 645, rfl⟩
abbrev main_c_220 : Ref sig .tc := ⟨.hbm, 646, rfl⟩
abbrev main_v409 : Ref sig .tc := ⟨.hbm, 647, rfl⟩
abbrev main_c_221 : Ref sig .tc := ⟨.hbm, 648, rfl⟩
abbrev main_v410 : Ref sig .tc := ⟨.hbm, 649, rfl⟩
abbrev main_v411 : Ref sig .tc := ⟨.hbm, 650, rfl⟩
abbrev main_v412 : Ref sig .tc := ⟨.hbm, 651, rfl⟩
abbrev main_v413 : Ref sig .tc := ⟨.hbm, 652, rfl⟩
abbrev main_v414 : Ref sig .tc := ⟨.hbm, 653, rfl⟩
abbrev main_v415 : Ref sig .tc := ⟨.hbm, 654, rfl⟩
abbrev main_c_222 : Ref sig .tc := ⟨.hbm, 655, rfl⟩
abbrev main_v416 : Ref sig .tc := ⟨.hbm, 656, rfl⟩
abbrev main_c_223 : Ref sig .tc := ⟨.hbm, 657, rfl⟩
abbrev main_v417 : Ref sig .tc := ⟨.hbm, 658, rfl⟩
abbrev main_c_224 : Ref sig .tc := ⟨.hbm, 659, rfl⟩
abbrev main_v418 : Ref sig .tc := ⟨.hbm, 660, rfl⟩
abbrev main_c_225 : Ref sig .tc := ⟨.hbm, 661, rfl⟩
abbrev main_v419 : Ref sig .tc := ⟨.hbm, 662, rfl⟩
abbrev main_c_226 : Ref sig .tc := ⟨.hbm, 663, rfl⟩
abbrev main_v420 : Ref sig .tc := ⟨.hbm, 664, rfl⟩
abbrev main_c_227 : Ref sig .tc := ⟨.hbm, 665, rfl⟩
abbrev main_v421 : Ref sig .tc := ⟨.hbm, 666, rfl⟩
abbrev main_v422 : Ref sig .tc := ⟨.hbm, 667, rfl⟩
abbrev main_v423 : Ref sig .tc := ⟨.hbm, 668, rfl⟩
abbrev main_v424 : Ref sig .tc := ⟨.hbm, 669, rfl⟩
abbrev main_v425 : Ref sig .tc := ⟨.hbm, 670, rfl⟩
abbrev main_v426 : Ref sig .tc := ⟨.hbm, 671, rfl⟩
abbrev main_c_228 : Ref sig .tc := ⟨.hbm, 672, rfl⟩
abbrev main_v427 : Ref sig .tc := ⟨.hbm, 673, rfl⟩
abbrev main_c_229 : Ref sig .tc := ⟨.hbm, 674, rfl⟩
abbrev main_v428 : Ref sig .tc := ⟨.hbm, 675, rfl⟩
abbrev main_c_230 : Ref sig .tc := ⟨.hbm, 676, rfl⟩
abbrev main_v429 : Ref sig .tc := ⟨.hbm, 677, rfl⟩
abbrev main_c_231 : Ref sig .tc := ⟨.hbm, 678, rfl⟩
abbrev main_v430 : Ref sig .tc := ⟨.hbm, 679, rfl⟩
abbrev main_c_232 : Ref sig .tc := ⟨.hbm, 680, rfl⟩
abbrev main_v431 : Ref sig .tc := ⟨.hbm, 681, rfl⟩
abbrev main_c_233 : Ref sig .tc := ⟨.hbm, 682, rfl⟩
abbrev main_v432 : Ref sig .tc := ⟨.hbm, 683, rfl⟩
abbrev main_v433 : Ref sig .tc := ⟨.hbm, 684, rfl⟩
abbrev main_v434 : Ref sig .tc := ⟨.hbm, 685, rfl⟩
abbrev main_v435 : Ref sig .tc := ⟨.hbm, 686, rfl⟩
abbrev main_v436 : Ref sig .tc := ⟨.hbm, 687, rfl⟩
abbrev main_v437 : Ref sig .tc := ⟨.hbm, 688, rfl⟩
abbrev main_c_234 : Ref sig .tc := ⟨.hbm, 689, rfl⟩
abbrev main_v438 : Ref sig .tc := ⟨.hbm, 690, rfl⟩
abbrev main_c_235 : Ref sig .tc := ⟨.hbm, 691, rfl⟩
abbrev main_v439 : Ref sig .tc := ⟨.hbm, 692, rfl⟩
abbrev main_c_236 : Ref sig .tc := ⟨.hbm, 693, rfl⟩
abbrev main_v440 : Ref sig .tc := ⟨.hbm, 694, rfl⟩
abbrev main_c_237 : Ref sig .tc := ⟨.hbm, 695, rfl⟩
abbrev main_v441 : Ref sig .tc := ⟨.hbm, 696, rfl⟩
abbrev main_c_238 : Ref sig .tc := ⟨.hbm, 697, rfl⟩
abbrev main_v442 : Ref sig .tc := ⟨.hbm, 698, rfl⟩
abbrev main_c_239 : Ref sig .tc := ⟨.hbm, 699, rfl⟩
abbrev main_v443 : Ref sig .tc := ⟨.hbm, 700, rfl⟩
abbrev main_v444 : Ref sig .tc := ⟨.hbm, 701, rfl⟩
abbrev main_v445 : Ref sig .tc := ⟨.hbm, 702, rfl⟩
abbrev main_v446 : Ref sig .tc := ⟨.hbm, 703, rfl⟩
abbrev main_v447 : Ref sig .tc := ⟨.hbm, 704, rfl⟩
abbrev main_v448 : Ref sig .tc := ⟨.hbm, 705, rfl⟩
abbrev main_c_240 : Ref sig .tc := ⟨.hbm, 706, rfl⟩
abbrev main_v449 : Ref sig .tc := ⟨.hbm, 707, rfl⟩
abbrev main_c_241 : Ref sig .tc := ⟨.hbm, 708, rfl⟩
abbrev main_v450 : Ref sig .tc := ⟨.hbm, 709, rfl⟩
abbrev main_c_242 : Ref sig .tc := ⟨.hbm, 710, rfl⟩
abbrev main_v451 : Ref sig .tc := ⟨.hbm, 711, rfl⟩
abbrev main_c_243 : Ref sig .tc := ⟨.hbm, 712, rfl⟩
abbrev main_v452 : Ref sig .tc := ⟨.hbm, 713, rfl⟩
abbrev main_c_244 : Ref sig .tc := ⟨.hbm, 714, rfl⟩
abbrev main_v453 : Ref sig .tc := ⟨.hbm, 715, rfl⟩
abbrev main_c_245 : Ref sig .tc := ⟨.hbm, 716, rfl⟩
abbrev main_v454 : Ref sig .tc := ⟨.hbm, 717, rfl⟩
abbrev main_v455 : Ref sig .tc := ⟨.hbm, 718, rfl⟩
abbrev main_v456 : Ref sig .tc := ⟨.hbm, 719, rfl⟩
abbrev main_v457 : Ref sig .tc := ⟨.hbm, 720, rfl⟩
abbrev main_v458 : Ref sig .tc := ⟨.hbm, 721, rfl⟩
abbrev main_v459 : Ref sig .tc := ⟨.hbm, 722, rfl⟩
abbrev main_c_246 : Ref sig .tc := ⟨.hbm, 723, rfl⟩
abbrev main_v460 : Ref sig .tc := ⟨.hbm, 724, rfl⟩
abbrev main_c_247 : Ref sig .tc := ⟨.hbm, 725, rfl⟩
abbrev main_v461 : Ref sig .tc := ⟨.hbm, 726, rfl⟩
abbrev main_c_248 : Ref sig .tc := ⟨.hbm, 727, rfl⟩
abbrev main_v462 : Ref sig .tc := ⟨.hbm, 728, rfl⟩
abbrev main_c_249 : Ref sig .tc := ⟨.hbm, 729, rfl⟩
abbrev main_v463 : Ref sig .tc := ⟨.hbm, 730, rfl⟩
abbrev main_c_250 : Ref sig .tc := ⟨.hbm, 731, rfl⟩
abbrev main_v464 : Ref sig .tc := ⟨.hbm, 732, rfl⟩
abbrev main_c_251 : Ref sig .tc := ⟨.hbm, 733, rfl⟩
abbrev main_v465 : Ref sig .tc := ⟨.hbm, 734, rfl⟩
abbrev main_v466 : Ref sig .tc := ⟨.hbm, 735, rfl⟩
abbrev main_v467 : Ref sig .tc := ⟨.hbm, 736, rfl⟩
abbrev main_v468 : Ref sig .tc := ⟨.hbm, 737, rfl⟩
abbrev main_v469 : Ref sig .tc := ⟨.hbm, 738, rfl⟩
abbrev main_v470 : Ref sig .tc := ⟨.hbm, 739, rfl⟩
abbrev main_c_252 : Ref sig .tc := ⟨.hbm, 740, rfl⟩
abbrev main_v471 : Ref sig .tc := ⟨.hbm, 741, rfl⟩
abbrev main_c_253 : Ref sig .tc := ⟨.hbm, 742, rfl⟩
abbrev main_v472 : Ref sig .tc := ⟨.hbm, 743, rfl⟩
abbrev main_c_254 : Ref sig .tc := ⟨.hbm, 744, rfl⟩
abbrev main_v473 : Ref sig .tc := ⟨.hbm, 745, rfl⟩
abbrev main_c_255 : Ref sig .tc := ⟨.hbm, 746, rfl⟩
abbrev main_v474 : Ref sig .tc := ⟨.hbm, 747, rfl⟩
abbrev main_c_256 : Ref sig .tc := ⟨.hbm, 748, rfl⟩
abbrev main_v475 : Ref sig .tc := ⟨.hbm, 749, rfl⟩
abbrev main_c_257 : Ref sig .tc := ⟨.hbm, 750, rfl⟩
abbrev main_v476 : Ref sig .tc := ⟨.hbm, 751, rfl⟩
abbrev main_v477 : Ref sig .tc := ⟨.hbm, 752, rfl⟩
abbrev main_v478 : Ref sig .tc := ⟨.hbm, 753, rfl⟩
abbrev main_v479 : Ref sig .tc := ⟨.hbm, 754, rfl⟩
abbrev main_v480 : Ref sig .tc := ⟨.hbm, 755, rfl⟩
abbrev main_v481 : Ref sig .tc := ⟨.hbm, 756, rfl⟩
abbrev main_c_258 : Ref sig .tc := ⟨.hbm, 757, rfl⟩
abbrev main_v482 : Ref sig .tc := ⟨.hbm, 758, rfl⟩
abbrev main_c_259 : Ref sig .tc := ⟨.hbm, 759, rfl⟩
abbrev main_v483 : Ref sig .tc := ⟨.hbm, 760, rfl⟩
abbrev main_c_260 : Ref sig .tc := ⟨.hbm, 761, rfl⟩
abbrev main_v484 : Ref sig .tc := ⟨.hbm, 762, rfl⟩
abbrev main_c_261 : Ref sig .tc := ⟨.hbm, 763, rfl⟩
abbrev main_v485 : Ref sig .tc := ⟨.hbm, 764, rfl⟩
abbrev main_c_262 : Ref sig .tc := ⟨.hbm, 765, rfl⟩
abbrev main_v486 : Ref sig .tc := ⟨.hbm, 766, rfl⟩
abbrev main_c_263 : Ref sig .tc := ⟨.hbm, 767, rfl⟩
abbrev main_v487 : Ref sig .tc := ⟨.hbm, 768, rfl⟩
abbrev main_v488 : Ref sig .tc := ⟨.hbm, 769, rfl⟩
abbrev main_v489 : Ref sig .tc := ⟨.hbm, 770, rfl⟩
abbrev main_v490 : Ref sig .tc := ⟨.hbm, 771, rfl⟩
abbrev main_v491 : Ref sig .tc := ⟨.hbm, 772, rfl⟩
abbrev main_v492 : Ref sig .tc := ⟨.hbm, 773, rfl⟩
abbrev main_c_264 : Ref sig .tc := ⟨.hbm, 774, rfl⟩
abbrev main_v493 : Ref sig .tc := ⟨.hbm, 775, rfl⟩
abbrev main_c_265 : Ref sig .tc := ⟨.hbm, 776, rfl⟩
abbrev main_v494 : Ref sig .tc := ⟨.hbm, 777, rfl⟩
abbrev main_c_266 : Ref sig .tc := ⟨.hbm, 778, rfl⟩
abbrev main_v495 : Ref sig .tc := ⟨.hbm, 779, rfl⟩
abbrev main_c_267 : Ref sig .tc := ⟨.hbm, 780, rfl⟩
abbrev main_v496 : Ref sig .tc := ⟨.hbm, 781, rfl⟩
abbrev main_c_268 : Ref sig .tc := ⟨.hbm, 782, rfl⟩
abbrev main_v497 : Ref sig .tc := ⟨.hbm, 783, rfl⟩
abbrev main_c_269 : Ref sig .tc := ⟨.hbm, 784, rfl⟩
abbrev main_v498 : Ref sig .tc := ⟨.hbm, 785, rfl⟩
abbrev main_v499 : Ref sig .tc := ⟨.hbm, 786, rfl⟩
abbrev main_v500 : Ref sig .tc := ⟨.hbm, 787, rfl⟩
abbrev main_v501 : Ref sig .tc := ⟨.hbm, 788, rfl⟩
abbrev main_v502 : Ref sig .tc := ⟨.hbm, 789, rfl⟩
abbrev main_v503 : Ref sig .tc := ⟨.hbm, 790, rfl⟩
abbrev main_c_270 : Ref sig .tc := ⟨.hbm, 791, rfl⟩
abbrev main_v504 : Ref sig .tc := ⟨.hbm, 792, rfl⟩
abbrev main_c_271 : Ref sig .tc := ⟨.hbm, 793, rfl⟩
abbrev main_v505 : Ref sig .tc := ⟨.hbm, 794, rfl⟩
abbrev main_c_272 : Ref sig .tc := ⟨.hbm, 795, rfl⟩
abbrev main_v506 : Ref sig .tc := ⟨.hbm, 796, rfl⟩
abbrev main_c_273 : Ref sig .tc := ⟨.hbm, 797, rfl⟩
abbrev main_v507 : Ref sig .tc := ⟨.hbm, 798, rfl⟩
abbrev main_c_274 : Ref sig .tc := ⟨.hbm, 799, rfl⟩
abbrev main_v508 : Ref sig .tc := ⟨.hbm, 800, rfl⟩
abbrev main_c_275 : Ref sig .tc := ⟨.hbm, 801, rfl⟩
abbrev main_v509 : Ref sig .tc := ⟨.hbm, 802, rfl⟩
abbrev main_v510 : Ref sig .tc := ⟨.hbm, 803, rfl⟩
abbrev main_v511 : Ref sig .tc := ⟨.hbm, 804, rfl⟩
abbrev main_v512 : Ref sig .tc := ⟨.hbm, 805, rfl⟩
abbrev main_v513 : Ref sig .tc := ⟨.hbm, 806, rfl⟩
abbrev main_v514 : Ref sig .tc := ⟨.hbm, 807, rfl⟩
abbrev main_c_276 : Ref sig .tc := ⟨.hbm, 808, rfl⟩
abbrev main_v515 : Ref sig .tc := ⟨.hbm, 809, rfl⟩
abbrev main_c_277 : Ref sig .tc := ⟨.hbm, 810, rfl⟩
abbrev main_v516 : Ref sig .tc := ⟨.hbm, 811, rfl⟩
abbrev main_c_278 : Ref sig .tc := ⟨.hbm, 812, rfl⟩
abbrev main_v517 : Ref sig .tc := ⟨.hbm, 813, rfl⟩
abbrev main_c_279 : Ref sig .tc := ⟨.hbm, 814, rfl⟩
abbrev main_v518 : Ref sig .tc := ⟨.hbm, 815, rfl⟩
abbrev main_c_280 : Ref sig .tc := ⟨.hbm, 816, rfl⟩
abbrev main_v519 : Ref sig .tc := ⟨.hbm, 817, rfl⟩
abbrev main_c_281 : Ref sig .tc := ⟨.hbm, 818, rfl⟩
abbrev main_v520 : Ref sig .tc := ⟨.hbm, 819, rfl⟩
abbrev main_v521 : Ref sig .tc := ⟨.hbm, 820, rfl⟩
abbrev main_v522 : Ref sig .tc := ⟨.hbm, 821, rfl⟩
abbrev main_v523 : Ref sig .tc := ⟨.hbm, 822, rfl⟩
abbrev main_v524 : Ref sig .tc := ⟨.hbm, 823, rfl⟩
abbrev main_v525 : Ref sig .tc := ⟨.hbm, 824, rfl⟩
abbrev main_c_282 : Ref sig .tc := ⟨.hbm, 825, rfl⟩
abbrev main_v526 : Ref sig .tc := ⟨.hbm, 826, rfl⟩
abbrev main_c_283 : Ref sig .tc := ⟨.hbm, 827, rfl⟩
abbrev main_v527 : Ref sig .tc := ⟨.hbm, 828, rfl⟩
abbrev main_c_284 : Ref sig .tc := ⟨.hbm, 829, rfl⟩
abbrev main_v528 : Ref sig .tc := ⟨.hbm, 830, rfl⟩
abbrev main_c_285 : Ref sig .tc := ⟨.hbm, 831, rfl⟩
abbrev main_v529 : Ref sig .tc := ⟨.hbm, 832, rfl⟩
abbrev main_c_286 : Ref sig .tc := ⟨.hbm, 833, rfl⟩
abbrev main_v530 : Ref sig .tc := ⟨.hbm, 834, rfl⟩
abbrev main_c_287 : Ref sig .tc := ⟨.hbm, 835, rfl⟩
abbrev main_v531 : Ref sig .tc := ⟨.hbm, 836, rfl⟩
abbrev main_v532 : Ref sig .tc := ⟨.hbm, 837, rfl⟩
abbrev main_v533 : Ref sig .tc := ⟨.hbm, 838, rfl⟩
abbrev main_v534 : Ref sig .tc := ⟨.hbm, 839, rfl⟩
abbrev main_v535 : Ref sig .tc := ⟨.hbm, 840, rfl⟩
abbrev main_v536 : Ref sig .tc := ⟨.hbm, 841, rfl⟩
abbrev main_c_288 : Ref sig .tc := ⟨.hbm, 842, rfl⟩
abbrev main_v537 : Ref sig .tc := ⟨.hbm, 843, rfl⟩
abbrev main_c_289 : Ref sig .tc := ⟨.hbm, 844, rfl⟩
abbrev main_v538 : Ref sig .tc := ⟨.hbm, 845, rfl⟩
abbrev main_c_290 : Ref sig .tc := ⟨.hbm, 846, rfl⟩
abbrev main_v539 : Ref sig .tc := ⟨.hbm, 847, rfl⟩
abbrev main_c_291 : Ref sig .tc := ⟨.hbm, 848, rfl⟩
abbrev main_v540 : Ref sig .tc := ⟨.hbm, 849, rfl⟩
abbrev main_c_292 : Ref sig .tc := ⟨.hbm, 850, rfl⟩
abbrev main_v541 : Ref sig .tc := ⟨.hbm, 851, rfl⟩
abbrev main_c_293 : Ref sig .tc := ⟨.hbm, 852, rfl⟩
abbrev main_v542 : Ref sig .tc := ⟨.hbm, 853, rfl⟩
abbrev main_v543 : Ref sig .tc := ⟨.hbm, 854, rfl⟩
abbrev main_v544 : Ref sig .tc := ⟨.hbm, 855, rfl⟩
abbrev main_v545 : Ref sig .tc := ⟨.hbm, 856, rfl⟩
abbrev main_v546 : Ref sig .tc := ⟨.hbm, 857, rfl⟩
abbrev main_v547 : Ref sig .tc := ⟨.hbm, 858, rfl⟩
abbrev main_c_294 : Ref sig .tc := ⟨.hbm, 859, rfl⟩
abbrev main_v548 : Ref sig .tc := ⟨.hbm, 860, rfl⟩
abbrev main_c_295 : Ref sig .tc := ⟨.hbm, 861, rfl⟩
abbrev main_v549 : Ref sig .tc := ⟨.hbm, 862, rfl⟩
abbrev main_c_296 : Ref sig .tc := ⟨.hbm, 863, rfl⟩
abbrev main_v550 : Ref sig .tc := ⟨.hbm, 864, rfl⟩
abbrev main_c_297 : Ref sig .tc := ⟨.hbm, 865, rfl⟩
abbrev main_v551 : Ref sig .tc := ⟨.hbm, 866, rfl⟩
abbrev main_c_298 : Ref sig .tc := ⟨.hbm, 867, rfl⟩
abbrev main_v552 : Ref sig .tc := ⟨.hbm, 868, rfl⟩
abbrev main_c_299 : Ref sig .tc := ⟨.hbm, 869, rfl⟩
abbrev main_v553 : Ref sig .tc := ⟨.hbm, 870, rfl⟩
abbrev main_v554 : Ref sig .tc := ⟨.hbm, 871, rfl⟩
abbrev main_v555 : Ref sig .tc := ⟨.hbm, 872, rfl⟩
abbrev main_v556 : Ref sig .tc := ⟨.hbm, 873, rfl⟩
abbrev main_v557 : Ref sig .tc := ⟨.hbm, 874, rfl⟩
abbrev main_v558 : Ref sig .tc := ⟨.hbm, 875, rfl⟩
abbrev main_c_300 : Ref sig .tc := ⟨.hbm, 876, rfl⟩
abbrev main_v559 : Ref sig .tc := ⟨.hbm, 877, rfl⟩
abbrev main_c_301 : Ref sig .tc := ⟨.hbm, 878, rfl⟩
abbrev main_v560 : Ref sig .tc := ⟨.hbm, 879, rfl⟩
abbrev main_c_302 : Ref sig .tc := ⟨.hbm, 880, rfl⟩
abbrev main_v561 : Ref sig .tc := ⟨.hbm, 881, rfl⟩
abbrev main_c_303 : Ref sig .tc := ⟨.hbm, 882, rfl⟩
abbrev main_v562 : Ref sig .tc := ⟨.hbm, 883, rfl⟩
abbrev main_c_304 : Ref sig .tc := ⟨.hbm, 884, rfl⟩
abbrev main_v563 : Ref sig .tc := ⟨.hbm, 885, rfl⟩
abbrev main_c_305 : Ref sig .tc := ⟨.hbm, 886, rfl⟩
abbrev main_v564 : Ref sig .tc := ⟨.hbm, 887, rfl⟩
abbrev main_v565 : Ref sig .tc := ⟨.hbm, 888, rfl⟩
abbrev main_v566 : Ref sig .tc := ⟨.hbm, 889, rfl⟩
abbrev main_v567 : Ref sig .tc := ⟨.hbm, 890, rfl⟩
abbrev main_v568 : Ref sig .tc := ⟨.hbm, 891, rfl⟩
abbrev main_v569 : Ref sig .tc := ⟨.hbm, 892, rfl⟩
abbrev main_c_306 : Ref sig .tc := ⟨.hbm, 893, rfl⟩
abbrev main_v570 : Ref sig .tc := ⟨.hbm, 894, rfl⟩
abbrev main_c_307 : Ref sig .tc := ⟨.hbm, 895, rfl⟩
abbrev main_v571 : Ref sig .tc := ⟨.hbm, 896, rfl⟩
abbrev main_c_308 : Ref sig .tc := ⟨.hbm, 897, rfl⟩
abbrev main_v572 : Ref sig .tc := ⟨.hbm, 898, rfl⟩
abbrev main_c_309 : Ref sig .tc := ⟨.hbm, 899, rfl⟩
abbrev main_v573 : Ref sig .tc := ⟨.hbm, 900, rfl⟩
abbrev main_c_310 : Ref sig .tc := ⟨.hbm, 901, rfl⟩
abbrev main_v574 : Ref sig .tc := ⟨.hbm, 902, rfl⟩
abbrev main_c_311 : Ref sig .tc := ⟨.hbm, 903, rfl⟩
abbrev main_v575 : Ref sig .tc := ⟨.hbm, 904, rfl⟩
abbrev main_v576 : Ref sig .tc := ⟨.hbm, 905, rfl⟩
abbrev main_v577 : Ref sig .tc := ⟨.hbm, 906, rfl⟩
abbrev main_v578 : Ref sig .tc := ⟨.hbm, 907, rfl⟩
abbrev main_v579 : Ref sig .tc := ⟨.hbm, 908, rfl⟩
abbrev main_v580 : Ref sig .tc := ⟨.hbm, 909, rfl⟩
abbrev main_c_312 : Ref sig .tc := ⟨.hbm, 910, rfl⟩
abbrev main_v581 : Ref sig .tc := ⟨.hbm, 911, rfl⟩
abbrev main_c_313 : Ref sig .tc := ⟨.hbm, 912, rfl⟩
abbrev main_v582 : Ref sig .tc := ⟨.hbm, 913, rfl⟩
abbrev main_c_314 : Ref sig .tc := ⟨.hbm, 914, rfl⟩
abbrev main_v583 : Ref sig .tc := ⟨.hbm, 915, rfl⟩
abbrev main_c_315 : Ref sig .tc := ⟨.hbm, 916, rfl⟩
abbrev main_v584 : Ref sig .tc := ⟨.hbm, 917, rfl⟩
abbrev main_c_316 : Ref sig .tc := ⟨.hbm, 918, rfl⟩
abbrev main_v585 : Ref sig .tc := ⟨.hbm, 919, rfl⟩
abbrev main_c_317 : Ref sig .tc := ⟨.hbm, 920, rfl⟩
abbrev main_v586 : Ref sig .tc := ⟨.hbm, 921, rfl⟩
abbrev main_v587 : Ref sig .tc := ⟨.hbm, 922, rfl⟩
abbrev main_v588 : Ref sig .tc := ⟨.hbm, 923, rfl⟩
abbrev main_v589 : Ref sig .tc := ⟨.hbm, 924, rfl⟩
abbrev main_v590 : Ref sig .tc := ⟨.hbm, 925, rfl⟩
abbrev main_v591 : Ref sig .tc := ⟨.hbm, 926, rfl⟩
abbrev main_c_318 : Ref sig .tc := ⟨.hbm, 927, rfl⟩
abbrev main_v592 : Ref sig .tc := ⟨.hbm, 928, rfl⟩
abbrev main_c_319 : Ref sig .tc := ⟨.hbm, 929, rfl⟩
abbrev main_v593 : Ref sig .tc := ⟨.hbm, 930, rfl⟩
abbrev main_c_320 : Ref sig .tc := ⟨.hbm, 931, rfl⟩
abbrev main_v594 : Ref sig .tc := ⟨.hbm, 932, rfl⟩
abbrev main_c_321 : Ref sig .tc := ⟨.hbm, 933, rfl⟩
abbrev main_v595 : Ref sig .tc := ⟨.hbm, 934, rfl⟩
abbrev main_c_322 : Ref sig .tc := ⟨.hbm, 935, rfl⟩
abbrev main_v596 : Ref sig .tc := ⟨.hbm, 936, rfl⟩
abbrev main_c_323 : Ref sig .tc := ⟨.hbm, 937, rfl⟩
abbrev main_v597 : Ref sig .tc := ⟨.hbm, 938, rfl⟩
abbrev main_v598 : Ref sig .tc := ⟨.hbm, 939, rfl⟩
abbrev main_v599 : Ref sig .tc := ⟨.hbm, 940, rfl⟩
abbrev main_v600 : Ref sig .tc := ⟨.hbm, 941, rfl⟩
abbrev main_v601 : Ref sig .tc := ⟨.hbm, 942, rfl⟩
abbrev main_v602 : Ref sig .tc := ⟨.hbm, 943, rfl⟩
abbrev main_c_324 : Ref sig .tc := ⟨.hbm, 944, rfl⟩
abbrev main_v603 : Ref sig .tc := ⟨.hbm, 945, rfl⟩
abbrev main_c_325 : Ref sig .tc := ⟨.hbm, 946, rfl⟩
abbrev main_v604 : Ref sig .tc := ⟨.hbm, 947, rfl⟩
abbrev main_c_326 : Ref sig .tc := ⟨.hbm, 948, rfl⟩
abbrev main_v605 : Ref sig .tc := ⟨.hbm, 949, rfl⟩
abbrev main_c_327 : Ref sig .tc := ⟨.hbm, 950, rfl⟩
abbrev main_v606 : Ref sig .tc := ⟨.hbm, 951, rfl⟩
abbrev main_c_328 : Ref sig .tc := ⟨.hbm, 952, rfl⟩
abbrev main_v607 : Ref sig .tc := ⟨.hbm, 953, rfl⟩
abbrev main_c_329 : Ref sig .tc := ⟨.hbm, 954, rfl⟩
abbrev main_v608 : Ref sig .tc := ⟨.hbm, 955, rfl⟩
abbrev main_v609 : Ref sig .tc := ⟨.hbm, 956, rfl⟩
abbrev main_v610 : Ref sig .tc := ⟨.hbm, 957, rfl⟩
abbrev main_v611 : Ref sig .tc := ⟨.hbm, 958, rfl⟩
abbrev main_v612 : Ref sig .tc := ⟨.hbm, 959, rfl⟩
abbrev main_v613 : Ref sig .tc := ⟨.hbm, 960, rfl⟩
abbrev main_c_330 : Ref sig .tc := ⟨.hbm, 961, rfl⟩
abbrev main_v614 : Ref sig .tc := ⟨.hbm, 962, rfl⟩
abbrev main_c_331 : Ref sig .tc := ⟨.hbm, 963, rfl⟩
abbrev main_v615 : Ref sig .tc := ⟨.hbm, 964, rfl⟩
abbrev main_c_332 : Ref sig .tc := ⟨.hbm, 965, rfl⟩
abbrev main_v616 : Ref sig .tc := ⟨.hbm, 966, rfl⟩
abbrev main_c_333 : Ref sig .tc := ⟨.hbm, 967, rfl⟩
abbrev main_v617 : Ref sig .tc := ⟨.hbm, 968, rfl⟩
abbrev main_c_334 : Ref sig .tc := ⟨.hbm, 969, rfl⟩
abbrev main_v618 : Ref sig .tc := ⟨.hbm, 970, rfl⟩
abbrev main_c_335 : Ref sig .tc := ⟨.hbm, 971, rfl⟩
abbrev main_v619 : Ref sig .tc := ⟨.hbm, 972, rfl⟩
abbrev main_v620 : Ref sig .tc := ⟨.hbm, 973, rfl⟩
abbrev main_v621 : Ref sig .tc := ⟨.hbm, 974, rfl⟩
abbrev main_v622 : Ref sig .tc := ⟨.hbm, 975, rfl⟩
abbrev main_v623 : Ref sig .tc := ⟨.hbm, 976, rfl⟩
abbrev main_v624 : Ref sig .tc := ⟨.hbm, 977, rfl⟩
abbrev main_c_336 : Ref sig .tc := ⟨.hbm, 978, rfl⟩
abbrev main_v625 : Ref sig .tc := ⟨.hbm, 979, rfl⟩
abbrev main_c_337 : Ref sig .tc := ⟨.hbm, 980, rfl⟩
abbrev main_v626 : Ref sig .tc := ⟨.hbm, 981, rfl⟩
abbrev main_c_338 : Ref sig .tc := ⟨.hbm, 982, rfl⟩
abbrev main_v627 : Ref sig .tc := ⟨.hbm, 983, rfl⟩
abbrev main_c_339 : Ref sig .tc := ⟨.hbm, 984, rfl⟩
abbrev main_v628 : Ref sig .tc := ⟨.hbm, 985, rfl⟩
abbrev main_c_340 : Ref sig .tc := ⟨.hbm, 986, rfl⟩
abbrev main_v629 : Ref sig .tc := ⟨.hbm, 987, rfl⟩
abbrev main_c_341 : Ref sig .tc := ⟨.hbm, 988, rfl⟩
abbrev main_v630 : Ref sig .tc := ⟨.hbm, 989, rfl⟩
abbrev main_v631 : Ref sig .tc := ⟨.hbm, 990, rfl⟩
abbrev main_v632 : Ref sig .tc := ⟨.hbm, 991, rfl⟩
abbrev main_v633 : Ref sig .tc := ⟨.hbm, 992, rfl⟩
abbrev main_v634 : Ref sig .tc := ⟨.hbm, 993, rfl⟩
abbrev main_v635 : Ref sig .tc := ⟨.hbm, 994, rfl⟩
abbrev main_c_342 : Ref sig .tc := ⟨.hbm, 995, rfl⟩
abbrev main_v636 : Ref sig .tc := ⟨.hbm, 996, rfl⟩
abbrev main_c_343 : Ref sig .tc := ⟨.hbm, 997, rfl⟩
abbrev main_v637 : Ref sig .tc := ⟨.hbm, 998, rfl⟩
abbrev main_c_344 : Ref sig .tc := ⟨.hbm, 999, rfl⟩
abbrev main_v638 : Ref sig .tc := ⟨.hbm, 1000, rfl⟩
abbrev main_c_345 : Ref sig .tc := ⟨.hbm, 1001, rfl⟩
abbrev main_v639 : Ref sig .tc := ⟨.hbm, 1002, rfl⟩
abbrev main_c_346 : Ref sig .tc := ⟨.hbm, 1003, rfl⟩
abbrev main_v640 : Ref sig .tc := ⟨.hbm, 1004, rfl⟩
abbrev main_c_347 : Ref sig .tc := ⟨.hbm, 1005, rfl⟩
abbrev main_v641 : Ref sig .tc := ⟨.hbm, 1006, rfl⟩
abbrev main_v642 : Ref sig .tc := ⟨.hbm, 1007, rfl⟩
abbrev main_v643 : Ref sig .tc := ⟨.hbm, 1008, rfl⟩
abbrev main_v644 : Ref sig .tc := ⟨.hbm, 1009, rfl⟩
abbrev main_v645 : Ref sig .tc := ⟨.hbm, 1010, rfl⟩
abbrev main_v646 : Ref sig .tc := ⟨.hbm, 1011, rfl⟩
abbrev main_c_348 : Ref sig .tc := ⟨.hbm, 1012, rfl⟩
abbrev main_v647 : Ref sig .tc := ⟨.hbm, 1013, rfl⟩
abbrev main_c_349 : Ref sig .tc := ⟨.hbm, 1014, rfl⟩
abbrev main_v648 : Ref sig .tc := ⟨.hbm, 1015, rfl⟩
abbrev main_c_350 : Ref sig .tc := ⟨.hbm, 1016, rfl⟩
abbrev main_v649 : Ref sig .tc := ⟨.hbm, 1017, rfl⟩
abbrev main_c_351 : Ref sig .tc := ⟨.hbm, 1018, rfl⟩
abbrev main_v650 : Ref sig .tc := ⟨.hbm, 1019, rfl⟩
abbrev main_c_352 : Ref sig .tc := ⟨.hbm, 1020, rfl⟩
abbrev main_v651 : Ref sig .tc := ⟨.hbm, 1021, rfl⟩
abbrev main_c_353 : Ref sig .tc := ⟨.hbm, 1022, rfl⟩
abbrev main_v652 : Ref sig .tc := ⟨.hbm, 1023, rfl⟩
abbrev main_v653 : Ref sig .tc := ⟨.hbm, 1024, rfl⟩
abbrev main_v654 : Ref sig .tc := ⟨.hbm, 1025, rfl⟩
abbrev main_v655 : Ref sig .tc := ⟨.hbm, 1026, rfl⟩
abbrev main_v656 : Ref sig .tc := ⟨.hbm, 1027, rfl⟩
abbrev main_v657 : Ref sig .tc := ⟨.hbm, 1028, rfl⟩
abbrev main_c_354 : Ref sig .tc := ⟨.hbm, 1029, rfl⟩
abbrev main_v658 : Ref sig .tc := ⟨.hbm, 1030, rfl⟩
abbrev main_c_355 : Ref sig .tc := ⟨.hbm, 1031, rfl⟩
abbrev main_v659 : Ref sig .tc := ⟨.hbm, 1032, rfl⟩
abbrev main_c_356 : Ref sig .tc := ⟨.hbm, 1033, rfl⟩
abbrev main_v660 : Ref sig .tc := ⟨.hbm, 1034, rfl⟩
abbrev main_c_357 : Ref sig .tc := ⟨.hbm, 1035, rfl⟩
abbrev main_v661 : Ref sig .tc := ⟨.hbm, 1036, rfl⟩
abbrev main_c_358 : Ref sig .tc := ⟨.hbm, 1037, rfl⟩
abbrev main_v662 : Ref sig .tc := ⟨.hbm, 1038, rfl⟩
abbrev main_c_359 : Ref sig .tc := ⟨.hbm, 1039, rfl⟩
abbrev main_v663 : Ref sig .tc := ⟨.hbm, 1040, rfl⟩
abbrev main_v664 : Ref sig .tc := ⟨.hbm, 1041, rfl⟩
abbrev main_v665 : Ref sig .tc := ⟨.hbm, 1042, rfl⟩
abbrev main_v666 : Ref sig .tc := ⟨.hbm, 1043, rfl⟩
abbrev main_v667 : Ref sig .tc := ⟨.hbm, 1044, rfl⟩
abbrev main_v668 : Ref sig .tc := ⟨.hbm, 1045, rfl⟩
abbrev main_c_360 : Ref sig .tc := ⟨.hbm, 1046, rfl⟩
abbrev main_v669 : Ref sig .tc := ⟨.hbm, 1047, rfl⟩
abbrev main_c_361 : Ref sig .tc := ⟨.hbm, 1048, rfl⟩
abbrev main_v670 : Ref sig .tc := ⟨.hbm, 1049, rfl⟩
abbrev main_c_362 : Ref sig .tc := ⟨.hbm, 1050, rfl⟩
abbrev main_v671 : Ref sig .tc := ⟨.hbm, 1051, rfl⟩
abbrev main_c_363 : Ref sig .tc := ⟨.hbm, 1052, rfl⟩
abbrev main_v672 : Ref sig .tc := ⟨.hbm, 1053, rfl⟩
abbrev main_c_364 : Ref sig .tc := ⟨.hbm, 1054, rfl⟩
abbrev main_v673 : Ref sig .tc := ⟨.hbm, 1055, rfl⟩
abbrev main_c_365 : Ref sig .tc := ⟨.hbm, 1056, rfl⟩
abbrev main_v674 : Ref sig .tc := ⟨.hbm, 1057, rfl⟩
abbrev main_v675 : Ref sig .tc := ⟨.hbm, 1058, rfl⟩
abbrev main_v676 : Ref sig .tc := ⟨.hbm, 1059, rfl⟩
abbrev main_v677 : Ref sig .tc := ⟨.hbm, 1060, rfl⟩
abbrev main_v678 : Ref sig .tc := ⟨.hbm, 1061, rfl⟩
abbrev main_v679 : Ref sig .tc := ⟨.hbm, 1062, rfl⟩
abbrev main_c_366 : Ref sig .tc := ⟨.hbm, 1063, rfl⟩
abbrev main_v680 : Ref sig .tc := ⟨.hbm, 1064, rfl⟩
abbrev main_c_367 : Ref sig .tc := ⟨.hbm, 1065, rfl⟩
abbrev main_v681 : Ref sig .tc := ⟨.hbm, 1066, rfl⟩
abbrev main_c_368 : Ref sig .tc := ⟨.hbm, 1067, rfl⟩
abbrev main_v682 : Ref sig .tc := ⟨.hbm, 1068, rfl⟩
abbrev main_c_369 : Ref sig .tc := ⟨.hbm, 1069, rfl⟩
abbrev main_v683 : Ref sig .tc := ⟨.hbm, 1070, rfl⟩
abbrev main_c_370 : Ref sig .tc := ⟨.hbm, 1071, rfl⟩
abbrev main_v684 : Ref sig .tc := ⟨.hbm, 1072, rfl⟩
abbrev main_c_371 : Ref sig .tc := ⟨.hbm, 1073, rfl⟩
abbrev main_v685 : Ref sig .tc := ⟨.hbm, 1074, rfl⟩
abbrev main_v686 : Ref sig .tc := ⟨.hbm, 1075, rfl⟩
abbrev main_v687 : Ref sig .tc := ⟨.hbm, 1076, rfl⟩
abbrev main_v688 : Ref sig .tc := ⟨.hbm, 1077, rfl⟩
abbrev main_v689 : Ref sig .tc := ⟨.hbm, 1078, rfl⟩
abbrev main_v690 : Ref sig .tc := ⟨.hbm, 1079, rfl⟩
abbrev main_c_372 : Ref sig .tc := ⟨.hbm, 1080, rfl⟩
abbrev main_v691 : Ref sig .tc := ⟨.hbm, 1081, rfl⟩
abbrev main_c_373 : Ref sig .tc := ⟨.hbm, 1082, rfl⟩
abbrev main_v692 : Ref sig .tc := ⟨.hbm, 1083, rfl⟩
abbrev main_c_374 : Ref sig .tc := ⟨.hbm, 1084, rfl⟩
abbrev main_v693 : Ref sig .tc := ⟨.hbm, 1085, rfl⟩
abbrev main_c_375 : Ref sig .tc := ⟨.hbm, 1086, rfl⟩
abbrev main_v694 : Ref sig .tc := ⟨.hbm, 1087, rfl⟩
abbrev main_c_376 : Ref sig .tc := ⟨.hbm, 1088, rfl⟩
abbrev main_v695 : Ref sig .tc := ⟨.hbm, 1089, rfl⟩
abbrev main_c_377 : Ref sig .tc := ⟨.hbm, 1090, rfl⟩
abbrev main_v696 : Ref sig .tc := ⟨.hbm, 1091, rfl⟩
abbrev main_v697 : Ref sig .tc := ⟨.hbm, 1092, rfl⟩
abbrev main_v698 : Ref sig .tc := ⟨.hbm, 1093, rfl⟩
abbrev main_v699 : Ref sig .tc := ⟨.hbm, 1094, rfl⟩
abbrev main_v700 : Ref sig .tc := ⟨.hbm, 1095, rfl⟩
abbrev main_v701 : Ref sig .tc := ⟨.hbm, 1096, rfl⟩
abbrev main_c_378 : Ref sig .tc := ⟨.hbm, 1097, rfl⟩
abbrev main_v702 : Ref sig .tc := ⟨.hbm, 1098, rfl⟩
abbrev main_c_379 : Ref sig .tc := ⟨.hbm, 1099, rfl⟩
abbrev main_v703 : Ref sig .tc := ⟨.hbm, 1100, rfl⟩
abbrev main_c_380 : Ref sig .tc := ⟨.hbm, 1101, rfl⟩
abbrev main_v704 : Ref sig .tc := ⟨.hbm, 1102, rfl⟩
abbrev main_c_381 : Ref sig .tc := ⟨.hbm, 1103, rfl⟩
abbrev main_v705 : Ref sig .tc := ⟨.hbm, 1104, rfl⟩
abbrev main_c_382 : Ref sig .tc := ⟨.hbm, 1105, rfl⟩
abbrev main_v706 : Ref sig .tc := ⟨.hbm, 1106, rfl⟩
abbrev main_c_383 : Ref sig .tc := ⟨.hbm, 1107, rfl⟩
abbrev main_v707 : Ref sig .tc := ⟨.hbm, 1108, rfl⟩
abbrev main_v708 : Ref sig .tc := ⟨.hbm, 1109, rfl⟩
abbrev main_v709 : Ref sig .tc := ⟨.hbm, 1110, rfl⟩
abbrev main_v710 : Ref sig .tc := ⟨.hbm, 1111, rfl⟩
abbrev main_v711 : Ref sig .tc := ⟨.hbm, 1112, rfl⟩
abbrev main_v712 : Ref sig .tc := ⟨.hbm, 1113, rfl⟩
abbrev main_v713 : Ref sig .tc := ⟨.hbm, 1114, rfl⟩
abbrev main_v714 : Ref sig .tc := ⟨.hbm, 1115, rfl⟩
abbrev main_v715 : Ref sig .tc := ⟨.hbm, 1116, rfl⟩
abbrev main_v716 : Ref sig .tc := ⟨.hbm, 1117, rfl⟩
abbrev main_v717 : Ref sig .tc := ⟨.hbm, 1118, rfl⟩
abbrev main_v718 : Ref sig .tc := ⟨.hbm, 1119, rfl⟩
abbrev main_v719 : Ref sig .tc := ⟨.hbm, 1120, rfl⟩
abbrev main_v720 : Ref sig .tc := ⟨.hbm, 1121, rfl⟩
abbrev main_v721 : Ref sig .tc := ⟨.hbm, 1122, rfl⟩
abbrev main_v722 : Ref sig .tc := ⟨.hbm, 1123, rfl⟩
abbrev main_v723 : Ref sig .tc := ⟨.hbm, 1124, rfl⟩
abbrev main_v724 : Ref sig .tc := ⟨.hbm, 1125, rfl⟩
abbrev main_v725 : Ref sig .tc := ⟨.hbm, 1126, rfl⟩
abbrev main_v726_0 : Ref sig .tc := ⟨.hbm, 1127, rfl⟩
abbrev main_v726_1 : Ref sig .tc := ⟨.hbm, 1128, rfl⟩
abbrev main_v727 : Ref sig .tc := ⟨.hbm, 1129, rfl⟩
abbrev main_v728 : Ref sig .tc := ⟨.hbm, 1130, rfl⟩
abbrev main_cst_384 : Ref sig .tc := ⟨.hbm, 1131, rfl⟩
abbrev main_v729 : Ref sig .tc := ⟨.hbm, 1132, rfl⟩
abbrev main_cst_385 : Ref sig .tc := ⟨.hbm, 1133, rfl⟩
abbrev main_v730 : Ref sig .tc := ⟨.hbm, 1134, rfl⟩
abbrev main_v731 : Ref sig .tc := ⟨.hbm, 1135, rfl⟩
abbrev main_v732 : Ref sig .tc := ⟨.hbm, 1136, rfl⟩
abbrev main_v733 : Ref sig .tc := ⟨.hbm, 1137, rfl⟩
abbrev main_v734 : Ref sig .tc := ⟨.hbm, 1138, rfl⟩
abbrev main_v735 : Ref sig .tc := ⟨.hbm, 1139, rfl⟩
abbrev main_v736 : Ref sig .tc := ⟨.hbm, 1140, rfl⟩
abbrev main_v737 : Ref sig .tc := ⟨.hbm, 1141, rfl⟩
abbrev main_v738 : Ref sig .tc := ⟨.hbm, 1142, rfl⟩
abbrev main_v739 : Ref sig .tc := ⟨.hbm, 1143, rfl⟩
abbrev main_v740 : Ref sig .tc := ⟨.hbm, 1144, rfl⟩
abbrev main_v741 : Ref sig .tc := ⟨.hbm, 1145, rfl⟩
abbrev main_v742 : Ref sig .tc := ⟨.hbm, 1146, rfl⟩
abbrev main_v743 : Ref sig .tc := ⟨.hbm, 1147, rfl⟩
abbrev main_v744 : Ref sig .tc := ⟨.hbm, 1148, rfl⟩
abbrev main_v745 : Ref sig .tc := ⟨.hbm, 1149, rfl⟩
abbrev main_v746 : Ref sig .tc := ⟨.hbm, 1150, rfl⟩
abbrev main_v747 : Ref sig .tc := ⟨.hbm, 1151, rfl⟩
abbrev main_v748 : Ref sig .tc := ⟨.hbm, 1152, rfl⟩
abbrev main_v749 : Ref sig .tc := ⟨.hbm, 1153, rfl⟩
abbrev main_v750 : Ref sig .tc := ⟨.hbm, 1154, rfl⟩
abbrev main_v751 : Ref sig .tc := ⟨.hbm, 1155, rfl⟩
abbrev main_v752 : Ref sig .tc := ⟨.hbm, 1156, rfl⟩
abbrev main_v753 : Ref sig .tc := ⟨.hbm, 1157, rfl⟩
abbrev main_v754 : Ref sig .tc := ⟨.hbm, 1158, rfl⟩
abbrev main_v755 : Ref sig .tc := ⟨.hbm, 1159, rfl⟩
abbrev main_v756 : Ref sig .tc := ⟨.hbm, 1160, rfl⟩
abbrev main_v757 : Ref sig .tc := ⟨.hbm, 1161, rfl⟩
abbrev main_v758 : Ref sig .tc := ⟨.hbm, 1162, rfl⟩
abbrev main_v759 : Ref sig .tc := ⟨.hbm, 1163, rfl⟩
abbrev main_v760 : Ref sig .tc := ⟨.hbm, 1164, rfl⟩
abbrev main_v761 : Ref sig .tc := ⟨.hbm, 1165, rfl⟩
abbrev main_v762 : Ref sig .tc := ⟨.hbm, 1166, rfl⟩
abbrev main_v763 : Ref sig .tc := ⟨.hbm, 1167, rfl⟩
abbrev main_v764 : Ref sig .tc := ⟨.hbm, 1168, rfl⟩
abbrev main_v765 : Ref sig .tc := ⟨.hbm, 1169, rfl⟩
abbrev main_v766 : Ref sig .tc := ⟨.hbm, 1170, rfl⟩
abbrev main_v767 : Ref sig .tc := ⟨.hbm, 1171, rfl⟩
abbrev main_v768 : Ref sig .tc := ⟨.hbm, 1172, rfl⟩
abbrev main_v769 : Ref sig .tc := ⟨.hbm, 1173, rfl⟩
abbrev main_v770 : Ref sig .tc := ⟨.hbm, 1174, rfl⟩
abbrev main_v771 : Ref sig .tc := ⟨.hbm, 1175, rfl⟩
abbrev main_v772 : Ref sig .tc := ⟨.hbm, 1176, rfl⟩
abbrev main_v773 : Ref sig .tc := ⟨.hbm, 1177, rfl⟩
abbrev main_v774 : Ref sig .tc := ⟨.hbm, 1178, rfl⟩
abbrev main_v775 : Ref sig .tc := ⟨.hbm, 1179, rfl⟩
abbrev main_v776 : Ref sig .tc := ⟨.hbm, 1180, rfl⟩
abbrev main_v777 : Ref sig .tc := ⟨.hbm, 1181, rfl⟩
abbrev main_v778 : Ref sig .tc := ⟨.hbm, 1182, rfl⟩
abbrev main_v779 : Ref sig .tc := ⟨.hbm, 1183, rfl⟩
abbrev main_v780 : Ref sig .tc := ⟨.hbm, 1184, rfl⟩
abbrev main_v781 : Ref sig .tc := ⟨.hbm, 1185, rfl⟩
abbrev main_v782 : Ref sig .tc := ⟨.hbm, 1186, rfl⟩
abbrev main_v783 : Ref sig .tc := ⟨.hbm, 1187, rfl⟩
abbrev main_v784 : Ref sig .tc := ⟨.hbm, 1188, rfl⟩
abbrev main_v785 : Ref sig .tc := ⟨.hbm, 1189, rfl⟩
abbrev main_v786 : Ref sig .tc := ⟨.hbm, 1190, rfl⟩
abbrev main_v787 : Ref sig .tc := ⟨.hbm, 1191, rfl⟩
abbrev main_v788 : Ref sig .tc := ⟨.hbm, 1192, rfl⟩
abbrev main_v789 : Ref sig .tc := ⟨.hbm, 1193, rfl⟩
abbrev main_v790 : Ref sig .tc := ⟨.hbm, 1194, rfl⟩
abbrev main_v791 : Ref sig .tc := ⟨.hbm, 1195, rfl⟩
abbrev main_v792 : Ref sig .tc := ⟨.hbm, 1196, rfl⟩
abbrev main_v793 : Ref sig .tc := ⟨.hbm, 1197, rfl⟩
abbrev main_v794 : Ref sig .tc := ⟨.hbm, 1198, rfl⟩
abbrev main_v795 : Ref sig .tc := ⟨.hbm, 1199, rfl⟩
abbrev main_v796 : Ref sig .tc := ⟨.hbm, 1200, rfl⟩
abbrev main_v797 : Ref sig .tc := ⟨.hbm, 1201, rfl⟩
abbrev main_v798 : Ref sig .tc := ⟨.hbm, 1202, rfl⟩
abbrev main_v799 : Ref sig .tc := ⟨.hbm, 1203, rfl⟩
abbrev main_v800 : Ref sig .tc := ⟨.hbm, 1204, rfl⟩
abbrev main_v801 : Ref sig .tc := ⟨.hbm, 1205, rfl⟩
abbrev main_v802 : Ref sig .tc := ⟨.hbm, 1206, rfl⟩
abbrev main_v803 : Ref sig .tc := ⟨.hbm, 1207, rfl⟩
abbrev main_v804 : Ref sig .tc := ⟨.hbm, 1208, rfl⟩
abbrev main_v805 : Ref sig .tc := ⟨.hbm, 1209, rfl⟩
abbrev main_v806 : Ref sig .tc := ⟨.hbm, 1210, rfl⟩
abbrev main_v807 : Ref sig .tc := ⟨.hbm, 1211, rfl⟩
abbrev main_v808 : Ref sig .tc := ⟨.hbm, 1212, rfl⟩
abbrev main_v809 : Ref sig .tc := ⟨.hbm, 1213, rfl⟩
abbrev main_v810 : Ref sig .tc := ⟨.hbm, 1214, rfl⟩
abbrev main_v811 : Ref sig .tc := ⟨.hbm, 1215, rfl⟩
abbrev main_v812 : Ref sig .tc := ⟨.hbm, 1216, rfl⟩
abbrev main_v813 : Ref sig .tc := ⟨.hbm, 1217, rfl⟩
abbrev main_v814 : Ref sig .tc := ⟨.hbm, 1218, rfl⟩
abbrev main_v815 : Ref sig .tc := ⟨.hbm, 1219, rfl⟩
abbrev main_v816 : Ref sig .tc := ⟨.hbm, 1220, rfl⟩
abbrev main_v817 : Ref sig .tc := ⟨.hbm, 1221, rfl⟩
abbrev main_v818 : Ref sig .tc := ⟨.hbm, 1222, rfl⟩
abbrev main_v819 : Ref sig .tc := ⟨.hbm, 1223, rfl⟩
abbrev main_v820 : Ref sig .tc := ⟨.hbm, 1224, rfl⟩
abbrev main_v821 : Ref sig .tc := ⟨.hbm, 1225, rfl⟩
abbrev main_v822 : Ref sig .tc := ⟨.hbm, 1226, rfl⟩
abbrev main_v823 : Ref sig .tc := ⟨.hbm, 1227, rfl⟩
abbrev main_v824 : Ref sig .tc := ⟨.hbm, 1228, rfl⟩
abbrev main_cst_386 : Ref sig .tc := ⟨.hbm, 1229, rfl⟩
abbrev main_v825 : Ref sig .tc := ⟨.hbm, 1230, rfl⟩
abbrev main_v826 : Ref sig .tc := ⟨.hbm, 1231, rfl⟩
abbrev main_v827 : Ref sig .tc := ⟨.hbm, 1232, rfl⟩
abbrev main_c_387 : Ref sig .tc := ⟨.hbm, 1233, rfl⟩
abbrev main_v828 : Ref sig .tc := ⟨.hbm, 1234, rfl⟩
abbrev main_c_388 : Ref sig .tc := ⟨.hbm, 1235, rfl⟩
abbrev main_v829 : Ref sig .tc := ⟨.hbm, 1236, rfl⟩
abbrev main_c_389 : Ref sig .tc := ⟨.hbm, 1237, rfl⟩
abbrev main_v830 : Ref sig .tc := ⟨.hbm, 1238, rfl⟩
abbrev main_c_390 : Ref sig .tc := ⟨.hbm, 1239, rfl⟩
abbrev main_v831 : Ref sig .tc := ⟨.hbm, 1240, rfl⟩
abbrev main_c_391 : Ref sig .tc := ⟨.hbm, 1241, rfl⟩
abbrev main_v832 : Ref sig .tc := ⟨.hbm, 1242, rfl⟩
abbrev main_c_392 : Ref sig .tc := ⟨.hbm, 1243, rfl⟩
abbrev main_v833 : Ref sig .tc := ⟨.hbm, 1244, rfl⟩
abbrev main_c_393 : Ref sig .tc := ⟨.hbm, 1245, rfl⟩
abbrev main_v834 : Ref sig .tc := ⟨.hbm, 1246, rfl⟩
abbrev main_c_394 : Ref sig .tc := ⟨.hbm, 1247, rfl⟩
abbrev main_v835 : Ref sig .tc := ⟨.hbm, 1248, rfl⟩
abbrev main_v836 : Ref sig .tc := ⟨.hbm, 1249, rfl⟩
abbrev main_v837 : Ref sig .tc := ⟨.hbm, 1250, rfl⟩
abbrev main_v838 : Ref sig .tc := ⟨.hbm, 1251, rfl⟩
abbrev main_v839 : Ref sig .tc := ⟨.hbm, 1252, rfl⟩
abbrev main_c_395 : Ref sig .tc := ⟨.hbm, 1253, rfl⟩
abbrev main_v840 : Ref sig .tc := ⟨.hbm, 1254, rfl⟩
abbrev main_c_396 : Ref sig .tc := ⟨.hbm, 1255, rfl⟩
abbrev main_v841 : Ref sig .tc := ⟨.hbm, 1256, rfl⟩
abbrev main_c_397 : Ref sig .tc := ⟨.hbm, 1257, rfl⟩
abbrev main_v842 : Ref sig .tc := ⟨.hbm, 1258, rfl⟩
abbrev main_c_398 : Ref sig .tc := ⟨.hbm, 1259, rfl⟩
abbrev main_v843 : Ref sig .tc := ⟨.hbm, 1260, rfl⟩
abbrev main_c_399 : Ref sig .tc := ⟨.hbm, 1261, rfl⟩
abbrev main_v844 : Ref sig .tc := ⟨.hbm, 1262, rfl⟩
abbrev main_c_400 : Ref sig .tc := ⟨.hbm, 1263, rfl⟩
abbrev main_v845 : Ref sig .tc := ⟨.hbm, 1264, rfl⟩
abbrev main_c_401 : Ref sig .tc := ⟨.hbm, 1265, rfl⟩
abbrev main_v846 : Ref sig .tc := ⟨.hbm, 1266, rfl⟩
abbrev main_c_402 : Ref sig .tc := ⟨.hbm, 1267, rfl⟩
abbrev main_v847 : Ref sig .tc := ⟨.hbm, 1268, rfl⟩
abbrev main_v848 : Ref sig .tc := ⟨.hbm, 1269, rfl⟩
abbrev main_v849 : Ref sig .tc := ⟨.hbm, 1270, rfl⟩
abbrev main_v850 : Ref sig .tc := ⟨.hbm, 1271, rfl⟩
abbrev main_v851 : Ref sig .tc := ⟨.hbm, 1272, rfl⟩
abbrev main_c_403 : Ref sig .tc := ⟨.hbm, 1273, rfl⟩
abbrev main_v852 : Ref sig .tc := ⟨.hbm, 1274, rfl⟩
abbrev main_c_404 : Ref sig .tc := ⟨.hbm, 1275, rfl⟩
abbrev main_v853 : Ref sig .tc := ⟨.hbm, 1276, rfl⟩
abbrev main_c_405 : Ref sig .tc := ⟨.hbm, 1277, rfl⟩
abbrev main_v854 : Ref sig .tc := ⟨.hbm, 1278, rfl⟩
abbrev main_c_406 : Ref sig .tc := ⟨.hbm, 1279, rfl⟩
abbrev main_v855 : Ref sig .tc := ⟨.hbm, 1280, rfl⟩
abbrev main_c_407 : Ref sig .tc := ⟨.hbm, 1281, rfl⟩
abbrev main_v856 : Ref sig .tc := ⟨.hbm, 1282, rfl⟩
abbrev main_c_408 : Ref sig .tc := ⟨.hbm, 1283, rfl⟩
abbrev main_v857 : Ref sig .tc := ⟨.hbm, 1284, rfl⟩
abbrev main_c_409 : Ref sig .tc := ⟨.hbm, 1285, rfl⟩
abbrev main_v858 : Ref sig .tc := ⟨.hbm, 1286, rfl⟩
abbrev main_c_410 : Ref sig .tc := ⟨.hbm, 1287, rfl⟩
abbrev main_v859 : Ref sig .tc := ⟨.hbm, 1288, rfl⟩
abbrev main_v860 : Ref sig .tc := ⟨.hbm, 1289, rfl⟩
abbrev main_v861 : Ref sig .tc := ⟨.hbm, 1290, rfl⟩
abbrev main_v862 : Ref sig .tc := ⟨.hbm, 1291, rfl⟩
abbrev main_v863 : Ref sig .tc := ⟨.hbm, 1292, rfl⟩
abbrev main_c_411 : Ref sig .tc := ⟨.hbm, 1293, rfl⟩
abbrev main_v864 : Ref sig .tc := ⟨.hbm, 1294, rfl⟩
abbrev main_c_412 : Ref sig .tc := ⟨.hbm, 1295, rfl⟩
abbrev main_v865 : Ref sig .tc := ⟨.hbm, 1296, rfl⟩
abbrev main_c_413 : Ref sig .tc := ⟨.hbm, 1297, rfl⟩
abbrev main_v866 : Ref sig .tc := ⟨.hbm, 1298, rfl⟩
abbrev main_c_414 : Ref sig .tc := ⟨.hbm, 1299, rfl⟩
abbrev main_v867 : Ref sig .tc := ⟨.hbm, 1300, rfl⟩
abbrev main_c_415 : Ref sig .tc := ⟨.hbm, 1301, rfl⟩
abbrev main_v868 : Ref sig .tc := ⟨.hbm, 1302, rfl⟩
abbrev main_c_416 : Ref sig .tc := ⟨.hbm, 1303, rfl⟩
abbrev main_v869 : Ref sig .tc := ⟨.hbm, 1304, rfl⟩
abbrev main_c_417 : Ref sig .tc := ⟨.hbm, 1305, rfl⟩
abbrev main_v870 : Ref sig .tc := ⟨.hbm, 1306, rfl⟩
abbrev main_c_418 : Ref sig .tc := ⟨.hbm, 1307, rfl⟩
abbrev main_v871 : Ref sig .tc := ⟨.hbm, 1308, rfl⟩
abbrev main_v872 : Ref sig .tc := ⟨.hbm, 1309, rfl⟩
abbrev main_v873 : Ref sig .tc := ⟨.hbm, 1310, rfl⟩
abbrev main_v874 : Ref sig .tc := ⟨.hbm, 1311, rfl⟩
abbrev main_v875 : Ref sig .tc := ⟨.hbm, 1312, rfl⟩
abbrev main_c_419 : Ref sig .tc := ⟨.hbm, 1313, rfl⟩
abbrev main_v876 : Ref sig .tc := ⟨.hbm, 1314, rfl⟩
abbrev main_c_420 : Ref sig .tc := ⟨.hbm, 1315, rfl⟩
abbrev main_v877 : Ref sig .tc := ⟨.hbm, 1316, rfl⟩
abbrev main_c_421 : Ref sig .tc := ⟨.hbm, 1317, rfl⟩
abbrev main_v878 : Ref sig .tc := ⟨.hbm, 1318, rfl⟩
abbrev main_c_422 : Ref sig .tc := ⟨.hbm, 1319, rfl⟩
abbrev main_v879 : Ref sig .tc := ⟨.hbm, 1320, rfl⟩
abbrev main_c_423 : Ref sig .tc := ⟨.hbm, 1321, rfl⟩
abbrev main_v880 : Ref sig .tc := ⟨.hbm, 1322, rfl⟩
abbrev main_c_424 : Ref sig .tc := ⟨.hbm, 1323, rfl⟩
abbrev main_v881 : Ref sig .tc := ⟨.hbm, 1324, rfl⟩
abbrev main_c_425 : Ref sig .tc := ⟨.hbm, 1325, rfl⟩
abbrev main_v882 : Ref sig .tc := ⟨.hbm, 1326, rfl⟩
abbrev main_c_426 : Ref sig .tc := ⟨.hbm, 1327, rfl⟩
abbrev main_v883 : Ref sig .tc := ⟨.hbm, 1328, rfl⟩
abbrev main_v884 : Ref sig .tc := ⟨.hbm, 1329, rfl⟩
abbrev main_v885 : Ref sig .tc := ⟨.hbm, 1330, rfl⟩
abbrev main_v886 : Ref sig .tc := ⟨.hbm, 1331, rfl⟩
abbrev main_v887 : Ref sig .tc := ⟨.hbm, 1332, rfl⟩
abbrev main_c_427 : Ref sig .tc := ⟨.hbm, 1333, rfl⟩
abbrev main_v888 : Ref sig .tc := ⟨.hbm, 1334, rfl⟩
abbrev main_c_428 : Ref sig .tc := ⟨.hbm, 1335, rfl⟩
abbrev main_v889 : Ref sig .tc := ⟨.hbm, 1336, rfl⟩
abbrev main_c_429 : Ref sig .tc := ⟨.hbm, 1337, rfl⟩
abbrev main_v890 : Ref sig .tc := ⟨.hbm, 1338, rfl⟩
abbrev main_c_430 : Ref sig .tc := ⟨.hbm, 1339, rfl⟩
abbrev main_v891 : Ref sig .tc := ⟨.hbm, 1340, rfl⟩
abbrev main_c_431 : Ref sig .tc := ⟨.hbm, 1341, rfl⟩
abbrev main_v892 : Ref sig .tc := ⟨.hbm, 1342, rfl⟩
abbrev main_c_432 : Ref sig .tc := ⟨.hbm, 1343, rfl⟩
abbrev main_v893 : Ref sig .tc := ⟨.hbm, 1344, rfl⟩
abbrev main_c_433 : Ref sig .tc := ⟨.hbm, 1345, rfl⟩
abbrev main_v894 : Ref sig .tc := ⟨.hbm, 1346, rfl⟩
abbrev main_c_434 : Ref sig .tc := ⟨.hbm, 1347, rfl⟩
abbrev main_v895 : Ref sig .tc := ⟨.hbm, 1348, rfl⟩
abbrev main_v896 : Ref sig .tc := ⟨.hbm, 1349, rfl⟩
abbrev main_v897 : Ref sig .tc := ⟨.hbm, 1350, rfl⟩
abbrev main_v898 : Ref sig .tc := ⟨.hbm, 1351, rfl⟩
abbrev main_v899 : Ref sig .tc := ⟨.hbm, 1352, rfl⟩
abbrev main_c_435 : Ref sig .tc := ⟨.hbm, 1353, rfl⟩
abbrev main_v900 : Ref sig .tc := ⟨.hbm, 1354, rfl⟩
abbrev main_c_436 : Ref sig .tc := ⟨.hbm, 1355, rfl⟩
abbrev main_v901 : Ref sig .tc := ⟨.hbm, 1356, rfl⟩
abbrev main_c_437 : Ref sig .tc := ⟨.hbm, 1357, rfl⟩
abbrev main_v902 : Ref sig .tc := ⟨.hbm, 1358, rfl⟩
abbrev main_c_438 : Ref sig .tc := ⟨.hbm, 1359, rfl⟩
abbrev main_v903 : Ref sig .tc := ⟨.hbm, 1360, rfl⟩
abbrev main_c_439 : Ref sig .tc := ⟨.hbm, 1361, rfl⟩
abbrev main_v904 : Ref sig .tc := ⟨.hbm, 1362, rfl⟩
abbrev main_c_440 : Ref sig .tc := ⟨.hbm, 1363, rfl⟩
abbrev main_v905 : Ref sig .tc := ⟨.hbm, 1364, rfl⟩
abbrev main_c_441 : Ref sig .tc := ⟨.hbm, 1365, rfl⟩
abbrev main_v906 : Ref sig .tc := ⟨.hbm, 1366, rfl⟩
abbrev main_c_442 : Ref sig .tc := ⟨.hbm, 1367, rfl⟩
abbrev main_v907 : Ref sig .tc := ⟨.hbm, 1368, rfl⟩
abbrev main_v908 : Ref sig .tc := ⟨.hbm, 1369, rfl⟩
abbrev main_v909 : Ref sig .tc := ⟨.hbm, 1370, rfl⟩
abbrev main_v910 : Ref sig .tc := ⟨.hbm, 1371, rfl⟩
abbrev main_v911 : Ref sig .tc := ⟨.hbm, 1372, rfl⟩
abbrev main_c_443 : Ref sig .tc := ⟨.hbm, 1373, rfl⟩
abbrev main_v912 : Ref sig .tc := ⟨.hbm, 1374, rfl⟩
abbrev main_c_444 : Ref sig .tc := ⟨.hbm, 1375, rfl⟩
abbrev main_v913 : Ref sig .tc := ⟨.hbm, 1376, rfl⟩
abbrev main_c_445 : Ref sig .tc := ⟨.hbm, 1377, rfl⟩
abbrev main_v914 : Ref sig .tc := ⟨.hbm, 1378, rfl⟩
abbrev main_c_446 : Ref sig .tc := ⟨.hbm, 1379, rfl⟩
abbrev main_v915 : Ref sig .tc := ⟨.hbm, 1380, rfl⟩
abbrev main_c_447 : Ref sig .tc := ⟨.hbm, 1381, rfl⟩
abbrev main_v916 : Ref sig .tc := ⟨.hbm, 1382, rfl⟩
abbrev main_c_448 : Ref sig .tc := ⟨.hbm, 1383, rfl⟩
abbrev main_v917 : Ref sig .tc := ⟨.hbm, 1384, rfl⟩
abbrev main_c_449 : Ref sig .tc := ⟨.hbm, 1385, rfl⟩
abbrev main_v918 : Ref sig .tc := ⟨.hbm, 1386, rfl⟩
abbrev main_c_450 : Ref sig .tc := ⟨.hbm, 1387, rfl⟩
abbrev main_v919 : Ref sig .tc := ⟨.hbm, 1388, rfl⟩
abbrev main_v920 : Ref sig .tc := ⟨.hbm, 1389, rfl⟩
abbrev main_v921 : Ref sig .tc := ⟨.hbm, 1390, rfl⟩
abbrev main_v922 : Ref sig .tc := ⟨.hbm, 1391, rfl⟩
abbrev main_v923 : Ref sig .tc := ⟨.hbm, 1392, rfl⟩
abbrev main_c_451 : Ref sig .tc := ⟨.hbm, 1393, rfl⟩
abbrev main_v924 : Ref sig .tc := ⟨.hbm, 1394, rfl⟩
abbrev main_c_452 : Ref sig .tc := ⟨.hbm, 1395, rfl⟩
abbrev main_v925 : Ref sig .tc := ⟨.hbm, 1396, rfl⟩
abbrev main_c_453 : Ref sig .tc := ⟨.hbm, 1397, rfl⟩
abbrev main_v926 : Ref sig .tc := ⟨.hbm, 1398, rfl⟩
abbrev main_c_454 : Ref sig .tc := ⟨.hbm, 1399, rfl⟩
abbrev main_v927 : Ref sig .tc := ⟨.hbm, 1400, rfl⟩
abbrev main_c_455 : Ref sig .tc := ⟨.hbm, 1401, rfl⟩
abbrev main_v928 : Ref sig .tc := ⟨.hbm, 1402, rfl⟩
abbrev main_c_456 : Ref sig .tc := ⟨.hbm, 1403, rfl⟩
abbrev main_v929 : Ref sig .tc := ⟨.hbm, 1404, rfl⟩
abbrev main_c_457 : Ref sig .tc := ⟨.hbm, 1405, rfl⟩
abbrev main_v930 : Ref sig .tc := ⟨.hbm, 1406, rfl⟩
abbrev main_c_458 : Ref sig .tc := ⟨.hbm, 1407, rfl⟩
abbrev main_v931 : Ref sig .tc := ⟨.hbm, 1408, rfl⟩
abbrev main_v932 : Ref sig .tc := ⟨.hbm, 1409, rfl⟩
abbrev main_v933 : Ref sig .tc := ⟨.hbm, 1410, rfl⟩
abbrev main_v934 : Ref sig .tc := ⟨.hbm, 1411, rfl⟩
abbrev main_v935 : Ref sig .tc := ⟨.hbm, 1412, rfl⟩
abbrev main_c_459 : Ref sig .tc := ⟨.hbm, 1413, rfl⟩
abbrev main_v936 : Ref sig .tc := ⟨.hbm, 1414, rfl⟩
abbrev main_c_460 : Ref sig .tc := ⟨.hbm, 1415, rfl⟩
abbrev main_v937 : Ref sig .tc := ⟨.hbm, 1416, rfl⟩
abbrev main_c_461 : Ref sig .tc := ⟨.hbm, 1417, rfl⟩
abbrev main_v938 : Ref sig .tc := ⟨.hbm, 1418, rfl⟩
abbrev main_c_462 : Ref sig .tc := ⟨.hbm, 1419, rfl⟩
abbrev main_v939 : Ref sig .tc := ⟨.hbm, 1420, rfl⟩
abbrev main_c_463 : Ref sig .tc := ⟨.hbm, 1421, rfl⟩
abbrev main_v940 : Ref sig .tc := ⟨.hbm, 1422, rfl⟩
abbrev main_c_464 : Ref sig .tc := ⟨.hbm, 1423, rfl⟩
abbrev main_v941 : Ref sig .tc := ⟨.hbm, 1424, rfl⟩
abbrev main_c_465 : Ref sig .tc := ⟨.hbm, 1425, rfl⟩
abbrev main_v942 : Ref sig .tc := ⟨.hbm, 1426, rfl⟩
abbrev main_c_466 : Ref sig .tc := ⟨.hbm, 1427, rfl⟩
abbrev main_v943 : Ref sig .tc := ⟨.hbm, 1428, rfl⟩
abbrev main_v944 : Ref sig .tc := ⟨.hbm, 1429, rfl⟩
abbrev main_v945 : Ref sig .tc := ⟨.hbm, 1430, rfl⟩
abbrev main_v946 : Ref sig .tc := ⟨.hbm, 1431, rfl⟩
abbrev main_v947 : Ref sig .tc := ⟨.hbm, 1432, rfl⟩
abbrev main_c_467 : Ref sig .tc := ⟨.hbm, 1433, rfl⟩
abbrev main_v948 : Ref sig .tc := ⟨.hbm, 1434, rfl⟩
abbrev main_c_468 : Ref sig .tc := ⟨.hbm, 1435, rfl⟩
abbrev main_v949 : Ref sig .tc := ⟨.hbm, 1436, rfl⟩
abbrev main_c_469 : Ref sig .tc := ⟨.hbm, 1437, rfl⟩
abbrev main_v950 : Ref sig .tc := ⟨.hbm, 1438, rfl⟩
abbrev main_c_470 : Ref sig .tc := ⟨.hbm, 1439, rfl⟩
abbrev main_v951 : Ref sig .tc := ⟨.hbm, 1440, rfl⟩
abbrev main_c_471 : Ref sig .tc := ⟨.hbm, 1441, rfl⟩
abbrev main_v952 : Ref sig .tc := ⟨.hbm, 1442, rfl⟩
abbrev main_c_472 : Ref sig .tc := ⟨.hbm, 1443, rfl⟩
abbrev main_v953 : Ref sig .tc := ⟨.hbm, 1444, rfl⟩
abbrev main_c_473 : Ref sig .tc := ⟨.hbm, 1445, rfl⟩
abbrev main_v954 : Ref sig .tc := ⟨.hbm, 1446, rfl⟩
abbrev main_c_474 : Ref sig .tc := ⟨.hbm, 1447, rfl⟩
abbrev main_v955 : Ref sig .tc := ⟨.hbm, 1448, rfl⟩
abbrev main_v956 : Ref sig .tc := ⟨.hbm, 1449, rfl⟩
abbrev main_v957 : Ref sig .tc := ⟨.hbm, 1450, rfl⟩
abbrev main_v958 : Ref sig .tc := ⟨.hbm, 1451, rfl⟩
abbrev main_v959 : Ref sig .tc := ⟨.hbm, 1452, rfl⟩
abbrev main_c_475 : Ref sig .tc := ⟨.hbm, 1453, rfl⟩
abbrev main_v960 : Ref sig .tc := ⟨.hbm, 1454, rfl⟩
abbrev main_c_476 : Ref sig .tc := ⟨.hbm, 1455, rfl⟩
abbrev main_v961 : Ref sig .tc := ⟨.hbm, 1456, rfl⟩
abbrev main_c_477 : Ref sig .tc := ⟨.hbm, 1457, rfl⟩
abbrev main_v962 : Ref sig .tc := ⟨.hbm, 1458, rfl⟩
abbrev main_c_478 : Ref sig .tc := ⟨.hbm, 1459, rfl⟩
abbrev main_v963 : Ref sig .tc := ⟨.hbm, 1460, rfl⟩
abbrev main_c_479 : Ref sig .tc := ⟨.hbm, 1461, rfl⟩
abbrev main_v964 : Ref sig .tc := ⟨.hbm, 1462, rfl⟩
abbrev main_c_480 : Ref sig .tc := ⟨.hbm, 1463, rfl⟩
abbrev main_v965 : Ref sig .tc := ⟨.hbm, 1464, rfl⟩
abbrev main_c_481 : Ref sig .tc := ⟨.hbm, 1465, rfl⟩
abbrev main_v966 : Ref sig .tc := ⟨.hbm, 1466, rfl⟩
abbrev main_c_482 : Ref sig .tc := ⟨.hbm, 1467, rfl⟩
abbrev main_v967 : Ref sig .tc := ⟨.hbm, 1468, rfl⟩
abbrev main_v968 : Ref sig .tc := ⟨.hbm, 1469, rfl⟩
abbrev main_v969 : Ref sig .tc := ⟨.hbm, 1470, rfl⟩
abbrev main_v970 : Ref sig .tc := ⟨.hbm, 1471, rfl⟩
abbrev main_v971 : Ref sig .tc := ⟨.hbm, 1472, rfl⟩
abbrev main_c_483 : Ref sig .tc := ⟨.hbm, 1473, rfl⟩
abbrev main_v972 : Ref sig .tc := ⟨.hbm, 1474, rfl⟩
abbrev main_c_484 : Ref sig .tc := ⟨.hbm, 1475, rfl⟩
abbrev main_v973 : Ref sig .tc := ⟨.hbm, 1476, rfl⟩
abbrev main_c_485 : Ref sig .tc := ⟨.hbm, 1477, rfl⟩
abbrev main_v974 : Ref sig .tc := ⟨.hbm, 1478, rfl⟩
abbrev main_c_486 : Ref sig .tc := ⟨.hbm, 1479, rfl⟩
abbrev main_v975 : Ref sig .tc := ⟨.hbm, 1480, rfl⟩
abbrev main_c_487 : Ref sig .tc := ⟨.hbm, 1481, rfl⟩
abbrev main_v976 : Ref sig .tc := ⟨.hbm, 1482, rfl⟩
abbrev main_c_488 : Ref sig .tc := ⟨.hbm, 1483, rfl⟩
abbrev main_v977 : Ref sig .tc := ⟨.hbm, 1484, rfl⟩
abbrev main_c_489 : Ref sig .tc := ⟨.hbm, 1485, rfl⟩
abbrev main_v978 : Ref sig .tc := ⟨.hbm, 1486, rfl⟩
abbrev main_c_490 : Ref sig .tc := ⟨.hbm, 1487, rfl⟩
abbrev main_v979 : Ref sig .tc := ⟨.hbm, 1488, rfl⟩
abbrev main_v980 : Ref sig .tc := ⟨.hbm, 1489, rfl⟩
abbrev main_v981 : Ref sig .tc := ⟨.hbm, 1490, rfl⟩
abbrev main_v982 : Ref sig .tc := ⟨.hbm, 1491, rfl⟩
abbrev main_v983 : Ref sig .tc := ⟨.hbm, 1492, rfl⟩
abbrev main_c_491 : Ref sig .tc := ⟨.hbm, 1493, rfl⟩
abbrev main_v984 : Ref sig .tc := ⟨.hbm, 1494, rfl⟩
abbrev main_c_492 : Ref sig .tc := ⟨.hbm, 1495, rfl⟩
abbrev main_v985 : Ref sig .tc := ⟨.hbm, 1496, rfl⟩
abbrev main_c_493 : Ref sig .tc := ⟨.hbm, 1497, rfl⟩
abbrev main_v986 : Ref sig .tc := ⟨.hbm, 1498, rfl⟩
abbrev main_c_494 : Ref sig .tc := ⟨.hbm, 1499, rfl⟩
abbrev main_v987 : Ref sig .tc := ⟨.hbm, 1500, rfl⟩
abbrev main_c_495 : Ref sig .tc := ⟨.hbm, 1501, rfl⟩
abbrev main_v988 : Ref sig .tc := ⟨.hbm, 1502, rfl⟩
abbrev main_c_496 : Ref sig .tc := ⟨.hbm, 1503, rfl⟩
abbrev main_v989 : Ref sig .tc := ⟨.hbm, 1504, rfl⟩
abbrev main_c_497 : Ref sig .tc := ⟨.hbm, 1505, rfl⟩
abbrev main_v990 : Ref sig .tc := ⟨.hbm, 1506, rfl⟩
abbrev main_c_498 : Ref sig .tc := ⟨.hbm, 1507, rfl⟩
abbrev main_v991 : Ref sig .tc := ⟨.hbm, 1508, rfl⟩
abbrev main_v992 : Ref sig .tc := ⟨.hbm, 1509, rfl⟩
abbrev main_v993 : Ref sig .tc := ⟨.hbm, 1510, rfl⟩
abbrev main_v994 : Ref sig .tc := ⟨.hbm, 1511, rfl⟩
abbrev main_v995 : Ref sig .tc := ⟨.hbm, 1512, rfl⟩
abbrev main_c_499 : Ref sig .tc := ⟨.hbm, 1513, rfl⟩
abbrev main_v996 : Ref sig .tc := ⟨.hbm, 1514, rfl⟩
abbrev main_c_500 : Ref sig .tc := ⟨.hbm, 1515, rfl⟩
abbrev main_v997 : Ref sig .tc := ⟨.hbm, 1516, rfl⟩
abbrev main_c_501 : Ref sig .tc := ⟨.hbm, 1517, rfl⟩
abbrev main_v998 : Ref sig .tc := ⟨.hbm, 1518, rfl⟩
abbrev main_c_502 : Ref sig .tc := ⟨.hbm, 1519, rfl⟩
abbrev main_v999 : Ref sig .tc := ⟨.hbm, 1520, rfl⟩
abbrev main_c_503 : Ref sig .tc := ⟨.hbm, 1521, rfl⟩
abbrev main_v1000 : Ref sig .tc := ⟨.hbm, 1522, rfl⟩
abbrev main_c_504 : Ref sig .tc := ⟨.hbm, 1523, rfl⟩
abbrev main_v1001 : Ref sig .tc := ⟨.hbm, 1524, rfl⟩
abbrev main_c_505 : Ref sig .tc := ⟨.hbm, 1525, rfl⟩
abbrev main_v1002 : Ref sig .tc := ⟨.hbm, 1526, rfl⟩
abbrev main_c_506 : Ref sig .tc := ⟨.hbm, 1527, rfl⟩
abbrev main_v1003 : Ref sig .tc := ⟨.hbm, 1528, rfl⟩
abbrev main_v1004 : Ref sig .tc := ⟨.hbm, 1529, rfl⟩
abbrev main_v1005 : Ref sig .tc := ⟨.hbm, 1530, rfl⟩
abbrev main_v1006 : Ref sig .tc := ⟨.hbm, 1531, rfl⟩
abbrev main_v1007 : Ref sig .tc := ⟨.hbm, 1532, rfl⟩
abbrev main_c_507 : Ref sig .tc := ⟨.hbm, 1533, rfl⟩
abbrev main_v1008 : Ref sig .tc := ⟨.hbm, 1534, rfl⟩
abbrev main_c_508 : Ref sig .tc := ⟨.hbm, 1535, rfl⟩
abbrev main_v1009 : Ref sig .tc := ⟨.hbm, 1536, rfl⟩
abbrev main_c_509 : Ref sig .tc := ⟨.hbm, 1537, rfl⟩
abbrev main_v1010 : Ref sig .tc := ⟨.hbm, 1538, rfl⟩
abbrev main_c_510 : Ref sig .tc := ⟨.hbm, 1539, rfl⟩
abbrev main_v1011 : Ref sig .tc := ⟨.hbm, 1540, rfl⟩
abbrev main_c_511 : Ref sig .tc := ⟨.hbm, 1541, rfl⟩
abbrev main_v1012 : Ref sig .tc := ⟨.hbm, 1542, rfl⟩
abbrev main_c_512 : Ref sig .tc := ⟨.hbm, 1543, rfl⟩
abbrev main_v1013 : Ref sig .tc := ⟨.hbm, 1544, rfl⟩
abbrev main_c_513 : Ref sig .tc := ⟨.hbm, 1545, rfl⟩
abbrev main_v1014 : Ref sig .tc := ⟨.hbm, 1546, rfl⟩
abbrev main_c_514 : Ref sig .tc := ⟨.hbm, 1547, rfl⟩
abbrev main_v1015 : Ref sig .tc := ⟨.hbm, 1548, rfl⟩
abbrev main_v1016 : Ref sig .tc := ⟨.hbm, 1549, rfl⟩
abbrev main_v1017 : Ref sig .tc := ⟨.hbm, 1550, rfl⟩
abbrev main_v1018 : Ref sig .tc := ⟨.hbm, 1551, rfl⟩
abbrev main_v1019 : Ref sig .tc := ⟨.hbm, 1552, rfl⟩
abbrev main_c_515 : Ref sig .tc := ⟨.hbm, 1553, rfl⟩
abbrev main_v1020 : Ref sig .tc := ⟨.hbm, 1554, rfl⟩
abbrev main_c_516 : Ref sig .tc := ⟨.hbm, 1555, rfl⟩
abbrev main_v1021 : Ref sig .tc := ⟨.hbm, 1556, rfl⟩
abbrev main_c_517 : Ref sig .tc := ⟨.hbm, 1557, rfl⟩
abbrev main_v1022 : Ref sig .tc := ⟨.hbm, 1558, rfl⟩
abbrev main_c_518 : Ref sig .tc := ⟨.hbm, 1559, rfl⟩
abbrev main_v1023 : Ref sig .tc := ⟨.hbm, 1560, rfl⟩
abbrev main_c_519 : Ref sig .tc := ⟨.hbm, 1561, rfl⟩
abbrev main_v1024 : Ref sig .tc := ⟨.hbm, 1562, rfl⟩
abbrev main_c_520 : Ref sig .tc := ⟨.hbm, 1563, rfl⟩
abbrev main_v1025 : Ref sig .tc := ⟨.hbm, 1564, rfl⟩
abbrev main_c_521 : Ref sig .tc := ⟨.hbm, 1565, rfl⟩
abbrev main_v1026 : Ref sig .tc := ⟨.hbm, 1566, rfl⟩
abbrev main_c_522 : Ref sig .tc := ⟨.hbm, 1567, rfl⟩
abbrev main_v1027 : Ref sig .tc := ⟨.hbm, 1568, rfl⟩
abbrev main_v1028 : Ref sig .tc := ⟨.hbm, 1569, rfl⟩
abbrev main_v1029 : Ref sig .tc := ⟨.hbm, 1570, rfl⟩
abbrev main_v1030 : Ref sig .tc := ⟨.hbm, 1571, rfl⟩
abbrev main_v1031 : Ref sig .tc := ⟨.hbm, 1572, rfl⟩
abbrev main_c_523 : Ref sig .tc := ⟨.hbm, 1573, rfl⟩
abbrev main_v1032 : Ref sig .tc := ⟨.hbm, 1574, rfl⟩
abbrev main_c_524 : Ref sig .tc := ⟨.hbm, 1575, rfl⟩
abbrev main_v1033 : Ref sig .tc := ⟨.hbm, 1576, rfl⟩
abbrev main_c_525 : Ref sig .tc := ⟨.hbm, 1577, rfl⟩
abbrev main_v1034 : Ref sig .tc := ⟨.hbm, 1578, rfl⟩
abbrev main_c_526 : Ref sig .tc := ⟨.hbm, 1579, rfl⟩
abbrev main_v1035 : Ref sig .tc := ⟨.hbm, 1580, rfl⟩
abbrev main_c_527 : Ref sig .tc := ⟨.hbm, 1581, rfl⟩
abbrev main_v1036 : Ref sig .tc := ⟨.hbm, 1582, rfl⟩
abbrev main_c_528 : Ref sig .tc := ⟨.hbm, 1583, rfl⟩
abbrev main_v1037 : Ref sig .tc := ⟨.hbm, 1584, rfl⟩
abbrev main_c_529 : Ref sig .tc := ⟨.hbm, 1585, rfl⟩
abbrev main_v1038 : Ref sig .tc := ⟨.hbm, 1586, rfl⟩
abbrev main_c_530 : Ref sig .tc := ⟨.hbm, 1587, rfl⟩
abbrev main_v1039 : Ref sig .tc := ⟨.hbm, 1588, rfl⟩
abbrev main_v1040 : Ref sig .tc := ⟨.hbm, 1589, rfl⟩
abbrev main_v1041 : Ref sig .tc := ⟨.hbm, 1590, rfl⟩
abbrev main_v1042 : Ref sig .tc := ⟨.hbm, 1591, rfl⟩
abbrev main_v1043 : Ref sig .tc := ⟨.hbm, 1592, rfl⟩
abbrev main_c_531 : Ref sig .tc := ⟨.hbm, 1593, rfl⟩
abbrev main_v1044 : Ref sig .tc := ⟨.hbm, 1594, rfl⟩
abbrev main_c_532 : Ref sig .tc := ⟨.hbm, 1595, rfl⟩
abbrev main_v1045 : Ref sig .tc := ⟨.hbm, 1596, rfl⟩
abbrev main_c_533 : Ref sig .tc := ⟨.hbm, 1597, rfl⟩
abbrev main_v1046 : Ref sig .tc := ⟨.hbm, 1598, rfl⟩
abbrev main_c_534 : Ref sig .tc := ⟨.hbm, 1599, rfl⟩
abbrev main_v1047 : Ref sig .tc := ⟨.hbm, 1600, rfl⟩
abbrev main_c_535 : Ref sig .tc := ⟨.hbm, 1601, rfl⟩
abbrev main_v1048 : Ref sig .tc := ⟨.hbm, 1602, rfl⟩
abbrev main_c_536 : Ref sig .tc := ⟨.hbm, 1603, rfl⟩
abbrev main_v1049 : Ref sig .tc := ⟨.hbm, 1604, rfl⟩
abbrev main_c_537 : Ref sig .tc := ⟨.hbm, 1605, rfl⟩
abbrev main_v1050 : Ref sig .tc := ⟨.hbm, 1606, rfl⟩
abbrev main_c_538 : Ref sig .tc := ⟨.hbm, 1607, rfl⟩
abbrev main_v1051 : Ref sig .tc := ⟨.hbm, 1608, rfl⟩
abbrev main_v1052 : Ref sig .tc := ⟨.hbm, 1609, rfl⟩
abbrev main_v1053 : Ref sig .tc := ⟨.hbm, 1610, rfl⟩
abbrev main_v1054 : Ref sig .tc := ⟨.hbm, 1611, rfl⟩
abbrev main_v1055 : Ref sig .tc := ⟨.hbm, 1612, rfl⟩
abbrev main_c_539 : Ref sig .tc := ⟨.hbm, 1613, rfl⟩
abbrev main_v1056 : Ref sig .tc := ⟨.hbm, 1614, rfl⟩
abbrev main_c_540 : Ref sig .tc := ⟨.hbm, 1615, rfl⟩
abbrev main_v1057 : Ref sig .tc := ⟨.hbm, 1616, rfl⟩
abbrev main_c_541 : Ref sig .tc := ⟨.hbm, 1617, rfl⟩
abbrev main_v1058 : Ref sig .tc := ⟨.hbm, 1618, rfl⟩
abbrev main_c_542 : Ref sig .tc := ⟨.hbm, 1619, rfl⟩
abbrev main_v1059 : Ref sig .tc := ⟨.hbm, 1620, rfl⟩
abbrev main_c_543 : Ref sig .tc := ⟨.hbm, 1621, rfl⟩
abbrev main_v1060 : Ref sig .tc := ⟨.hbm, 1622, rfl⟩
abbrev main_c_544 : Ref sig .tc := ⟨.hbm, 1623, rfl⟩
abbrev main_v1061 : Ref sig .tc := ⟨.hbm, 1624, rfl⟩
abbrev main_c_545 : Ref sig .tc := ⟨.hbm, 1625, rfl⟩
abbrev main_v1062 : Ref sig .tc := ⟨.hbm, 1626, rfl⟩
abbrev main_c_546 : Ref sig .tc := ⟨.hbm, 1627, rfl⟩
abbrev main_v1063 : Ref sig .tc := ⟨.hbm, 1628, rfl⟩
abbrev main_v1064 : Ref sig .tc := ⟨.hbm, 1629, rfl⟩
abbrev main_v1065 : Ref sig .tc := ⟨.hbm, 1630, rfl⟩
abbrev main_v1066 : Ref sig .tc := ⟨.hbm, 1631, rfl⟩
abbrev main_v1067 : Ref sig .tc := ⟨.hbm, 1632, rfl⟩
abbrev main_c_547 : Ref sig .tc := ⟨.hbm, 1633, rfl⟩
abbrev main_v1068 : Ref sig .tc := ⟨.hbm, 1634, rfl⟩
abbrev main_c_548 : Ref sig .tc := ⟨.hbm, 1635, rfl⟩
abbrev main_v1069 : Ref sig .tc := ⟨.hbm, 1636, rfl⟩
abbrev main_c_549 : Ref sig .tc := ⟨.hbm, 1637, rfl⟩
abbrev main_v1070 : Ref sig .tc := ⟨.hbm, 1638, rfl⟩
abbrev main_c_550 : Ref sig .tc := ⟨.hbm, 1639, rfl⟩
abbrev main_v1071 : Ref sig .tc := ⟨.hbm, 1640, rfl⟩
abbrev main_c_551 : Ref sig .tc := ⟨.hbm, 1641, rfl⟩
abbrev main_v1072 : Ref sig .tc := ⟨.hbm, 1642, rfl⟩
abbrev main_c_552 : Ref sig .tc := ⟨.hbm, 1643, rfl⟩
abbrev main_v1073 : Ref sig .tc := ⟨.hbm, 1644, rfl⟩
abbrev main_c_553 : Ref sig .tc := ⟨.hbm, 1645, rfl⟩
abbrev main_v1074 : Ref sig .tc := ⟨.hbm, 1646, rfl⟩
abbrev main_c_554 : Ref sig .tc := ⟨.hbm, 1647, rfl⟩
abbrev main_v1075 : Ref sig .tc := ⟨.hbm, 1648, rfl⟩
abbrev main_v1076 : Ref sig .tc := ⟨.hbm, 1649, rfl⟩
abbrev main_v1077 : Ref sig .tc := ⟨.hbm, 1650, rfl⟩
abbrev main_v1078 : Ref sig .tc := ⟨.hbm, 1651, rfl⟩
abbrev main_v1079 : Ref sig .tc := ⟨.hbm, 1652, rfl⟩
abbrev main_c_555 : Ref sig .tc := ⟨.hbm, 1653, rfl⟩
abbrev main_v1080 : Ref sig .tc := ⟨.hbm, 1654, rfl⟩
abbrev main_c_556 : Ref sig .tc := ⟨.hbm, 1655, rfl⟩
abbrev main_v1081 : Ref sig .tc := ⟨.hbm, 1656, rfl⟩
abbrev main_c_557 : Ref sig .tc := ⟨.hbm, 1657, rfl⟩
abbrev main_v1082 : Ref sig .tc := ⟨.hbm, 1658, rfl⟩
abbrev main_c_558 : Ref sig .tc := ⟨.hbm, 1659, rfl⟩
abbrev main_v1083 : Ref sig .tc := ⟨.hbm, 1660, rfl⟩
abbrev main_c_559 : Ref sig .tc := ⟨.hbm, 1661, rfl⟩
abbrev main_v1084 : Ref sig .tc := ⟨.hbm, 1662, rfl⟩
abbrev main_c_560 : Ref sig .tc := ⟨.hbm, 1663, rfl⟩
abbrev main_v1085 : Ref sig .tc := ⟨.hbm, 1664, rfl⟩
abbrev main_c_561 : Ref sig .tc := ⟨.hbm, 1665, rfl⟩
abbrev main_v1086 : Ref sig .tc := ⟨.hbm, 1666, rfl⟩
abbrev main_c_562 : Ref sig .tc := ⟨.hbm, 1667, rfl⟩
abbrev main_v1087 : Ref sig .tc := ⟨.hbm, 1668, rfl⟩
abbrev main_v1088 : Ref sig .tc := ⟨.hbm, 1669, rfl⟩
abbrev main_v1089 : Ref sig .tc := ⟨.hbm, 1670, rfl⟩
abbrev main_v1090 : Ref sig .tc := ⟨.hbm, 1671, rfl⟩
abbrev main_v1091 : Ref sig .tc := ⟨.hbm, 1672, rfl⟩
abbrev main_c_563 : Ref sig .tc := ⟨.hbm, 1673, rfl⟩
abbrev main_v1092 : Ref sig .tc := ⟨.hbm, 1674, rfl⟩
abbrev main_c_564 : Ref sig .tc := ⟨.hbm, 1675, rfl⟩
abbrev main_v1093 : Ref sig .tc := ⟨.hbm, 1676, rfl⟩
abbrev main_c_565 : Ref sig .tc := ⟨.hbm, 1677, rfl⟩
abbrev main_v1094 : Ref sig .tc := ⟨.hbm, 1678, rfl⟩
abbrev main_c_566 : Ref sig .tc := ⟨.hbm, 1679, rfl⟩
abbrev main_v1095 : Ref sig .tc := ⟨.hbm, 1680, rfl⟩
abbrev main_c_567 : Ref sig .tc := ⟨.hbm, 1681, rfl⟩
abbrev main_v1096 : Ref sig .tc := ⟨.hbm, 1682, rfl⟩
abbrev main_c_568 : Ref sig .tc := ⟨.hbm, 1683, rfl⟩
abbrev main_v1097 : Ref sig .tc := ⟨.hbm, 1684, rfl⟩
abbrev main_c_569 : Ref sig .tc := ⟨.hbm, 1685, rfl⟩
abbrev main_v1098 : Ref sig .tc := ⟨.hbm, 1686, rfl⟩
abbrev main_c_570 : Ref sig .tc := ⟨.hbm, 1687, rfl⟩
abbrev main_v1099 : Ref sig .tc := ⟨.hbm, 1688, rfl⟩
abbrev main_v1100 : Ref sig .tc := ⟨.hbm, 1689, rfl⟩
abbrev main_v1101 : Ref sig .tc := ⟨.hbm, 1690, rfl⟩
abbrev main_v1102 : Ref sig .tc := ⟨.hbm, 1691, rfl⟩
abbrev main_v1103 : Ref sig .tc := ⟨.hbm, 1692, rfl⟩
abbrev main_c_571 : Ref sig .tc := ⟨.hbm, 1693, rfl⟩
abbrev main_v1104 : Ref sig .tc := ⟨.hbm, 1694, rfl⟩
abbrev main_c_572 : Ref sig .tc := ⟨.hbm, 1695, rfl⟩
abbrev main_v1105 : Ref sig .tc := ⟨.hbm, 1696, rfl⟩
abbrev main_c_573 : Ref sig .tc := ⟨.hbm, 1697, rfl⟩
abbrev main_v1106 : Ref sig .tc := ⟨.hbm, 1698, rfl⟩
abbrev main_c_574 : Ref sig .tc := ⟨.hbm, 1699, rfl⟩
abbrev main_v1107 : Ref sig .tc := ⟨.hbm, 1700, rfl⟩
abbrev main_c_575 : Ref sig .tc := ⟨.hbm, 1701, rfl⟩
abbrev main_v1108 : Ref sig .tc := ⟨.hbm, 1702, rfl⟩
abbrev main_c_576 : Ref sig .tc := ⟨.hbm, 1703, rfl⟩
abbrev main_v1109 : Ref sig .tc := ⟨.hbm, 1704, rfl⟩
abbrev main_c_577 : Ref sig .tc := ⟨.hbm, 1705, rfl⟩
abbrev main_v1110 : Ref sig .tc := ⟨.hbm, 1706, rfl⟩
abbrev main_c_578 : Ref sig .tc := ⟨.hbm, 1707, rfl⟩
abbrev main_v1111 : Ref sig .tc := ⟨.hbm, 1708, rfl⟩
abbrev main_v1112 : Ref sig .tc := ⟨.hbm, 1709, rfl⟩
abbrev main_v1113 : Ref sig .tc := ⟨.hbm, 1710, rfl⟩
abbrev main_v1114 : Ref sig .tc := ⟨.hbm, 1711, rfl⟩
abbrev main_v1115 : Ref sig .tc := ⟨.hbm, 1712, rfl⟩
abbrev main_c_579 : Ref sig .tc := ⟨.hbm, 1713, rfl⟩
abbrev main_v1116 : Ref sig .tc := ⟨.hbm, 1714, rfl⟩
abbrev main_c_580 : Ref sig .tc := ⟨.hbm, 1715, rfl⟩
abbrev main_v1117 : Ref sig .tc := ⟨.hbm, 1716, rfl⟩
abbrev main_c_581 : Ref sig .tc := ⟨.hbm, 1717, rfl⟩
abbrev main_v1118 : Ref sig .tc := ⟨.hbm, 1718, rfl⟩
abbrev main_c_582 : Ref sig .tc := ⟨.hbm, 1719, rfl⟩
abbrev main_v1119 : Ref sig .tc := ⟨.hbm, 1720, rfl⟩
abbrev main_c_583 : Ref sig .tc := ⟨.hbm, 1721, rfl⟩
abbrev main_v1120 : Ref sig .tc := ⟨.hbm, 1722, rfl⟩
abbrev main_c_584 : Ref sig .tc := ⟨.hbm, 1723, rfl⟩
abbrev main_v1121 : Ref sig .tc := ⟨.hbm, 1724, rfl⟩
abbrev main_c_585 : Ref sig .tc := ⟨.hbm, 1725, rfl⟩
abbrev main_v1122 : Ref sig .tc := ⟨.hbm, 1726, rfl⟩
abbrev main_c_586 : Ref sig .tc := ⟨.hbm, 1727, rfl⟩
abbrev main_v1123 : Ref sig .tc := ⟨.hbm, 1728, rfl⟩
abbrev main_v1124 : Ref sig .tc := ⟨.hbm, 1729, rfl⟩
abbrev main_v1125 : Ref sig .tc := ⟨.hbm, 1730, rfl⟩
abbrev main_v1126 : Ref sig .tc := ⟨.hbm, 1731, rfl⟩
abbrev main_v1127 : Ref sig .tc := ⟨.hbm, 1732, rfl⟩
abbrev main_c_587 : Ref sig .tc := ⟨.hbm, 1733, rfl⟩
abbrev main_v1128 : Ref sig .tc := ⟨.hbm, 1734, rfl⟩
abbrev main_c_588 : Ref sig .tc := ⟨.hbm, 1735, rfl⟩
abbrev main_v1129 : Ref sig .tc := ⟨.hbm, 1736, rfl⟩
abbrev main_c_589 : Ref sig .tc := ⟨.hbm, 1737, rfl⟩
abbrev main_v1130 : Ref sig .tc := ⟨.hbm, 1738, rfl⟩
abbrev main_c_590 : Ref sig .tc := ⟨.hbm, 1739, rfl⟩
abbrev main_v1131 : Ref sig .tc := ⟨.hbm, 1740, rfl⟩
abbrev main_c_591 : Ref sig .tc := ⟨.hbm, 1741, rfl⟩
abbrev main_v1132 : Ref sig .tc := ⟨.hbm, 1742, rfl⟩
abbrev main_c_592 : Ref sig .tc := ⟨.hbm, 1743, rfl⟩
abbrev main_v1133 : Ref sig .tc := ⟨.hbm, 1744, rfl⟩
abbrev main_c_593 : Ref sig .tc := ⟨.hbm, 1745, rfl⟩
abbrev main_v1134 : Ref sig .tc := ⟨.hbm, 1746, rfl⟩
abbrev main_c_594 : Ref sig .tc := ⟨.hbm, 1747, rfl⟩
abbrev main_v1135 : Ref sig .tc := ⟨.hbm, 1748, rfl⟩
abbrev main_v1136 : Ref sig .tc := ⟨.hbm, 1749, rfl⟩
abbrev main_v1137 : Ref sig .tc := ⟨.hbm, 1750, rfl⟩
abbrev main_v1138 : Ref sig .tc := ⟨.hbm, 1751, rfl⟩
abbrev main_v1139 : Ref sig .tc := ⟨.hbm, 1752, rfl⟩
abbrev main_c_595 : Ref sig .tc := ⟨.hbm, 1753, rfl⟩
abbrev main_v1140 : Ref sig .tc := ⟨.hbm, 1754, rfl⟩
abbrev main_c_596 : Ref sig .tc := ⟨.hbm, 1755, rfl⟩
abbrev main_v1141 : Ref sig .tc := ⟨.hbm, 1756, rfl⟩
abbrev main_c_597 : Ref sig .tc := ⟨.hbm, 1757, rfl⟩
abbrev main_v1142 : Ref sig .tc := ⟨.hbm, 1758, rfl⟩
abbrev main_c_598 : Ref sig .tc := ⟨.hbm, 1759, rfl⟩
abbrev main_v1143 : Ref sig .tc := ⟨.hbm, 1760, rfl⟩
abbrev main_c_599 : Ref sig .tc := ⟨.hbm, 1761, rfl⟩
abbrev main_v1144 : Ref sig .tc := ⟨.hbm, 1762, rfl⟩
abbrev main_c_600 : Ref sig .tc := ⟨.hbm, 1763, rfl⟩
abbrev main_v1145 : Ref sig .tc := ⟨.hbm, 1764, rfl⟩
abbrev main_c_601 : Ref sig .tc := ⟨.hbm, 1765, rfl⟩
abbrev main_v1146 : Ref sig .tc := ⟨.hbm, 1766, rfl⟩
abbrev main_c_602 : Ref sig .tc := ⟨.hbm, 1767, rfl⟩
abbrev main_v1147 : Ref sig .tc := ⟨.hbm, 1768, rfl⟩
abbrev main_v1148 : Ref sig .tc := ⟨.hbm, 1769, rfl⟩
abbrev main_v1149 : Ref sig .tc := ⟨.hbm, 1770, rfl⟩
abbrev main_v1150 : Ref sig .tc := ⟨.hbm, 1771, rfl⟩
abbrev main_v1151 : Ref sig .tc := ⟨.hbm, 1772, rfl⟩
abbrev main_c_603 : Ref sig .tc := ⟨.hbm, 1773, rfl⟩
abbrev main_v1152 : Ref sig .tc := ⟨.hbm, 1774, rfl⟩
abbrev main_c_604 : Ref sig .tc := ⟨.hbm, 1775, rfl⟩
abbrev main_v1153 : Ref sig .tc := ⟨.hbm, 1776, rfl⟩
abbrev main_c_605 : Ref sig .tc := ⟨.hbm, 1777, rfl⟩
abbrev main_v1154 : Ref sig .tc := ⟨.hbm, 1778, rfl⟩
abbrev main_c_606 : Ref sig .tc := ⟨.hbm, 1779, rfl⟩
abbrev main_v1155 : Ref sig .tc := ⟨.hbm, 1780, rfl⟩
abbrev main_c_607 : Ref sig .tc := ⟨.hbm, 1781, rfl⟩
abbrev main_v1156 : Ref sig .tc := ⟨.hbm, 1782, rfl⟩
abbrev main_c_608 : Ref sig .tc := ⟨.hbm, 1783, rfl⟩
abbrev main_v1157 : Ref sig .tc := ⟨.hbm, 1784, rfl⟩
abbrev main_c_609 : Ref sig .tc := ⟨.hbm, 1785, rfl⟩
abbrev main_v1158 : Ref sig .tc := ⟨.hbm, 1786, rfl⟩
abbrev main_c_610 : Ref sig .tc := ⟨.hbm, 1787, rfl⟩
abbrev main_v1159 : Ref sig .tc := ⟨.hbm, 1788, rfl⟩
abbrev main_v1160 : Ref sig .tc := ⟨.hbm, 1789, rfl⟩
abbrev main_v1161 : Ref sig .tc := ⟨.hbm, 1790, rfl⟩
abbrev main_v1162 : Ref sig .tc := ⟨.hbm, 1791, rfl⟩
abbrev main_v1163 : Ref sig .tc := ⟨.hbm, 1792, rfl⟩
abbrev main_c_611 : Ref sig .tc := ⟨.hbm, 1793, rfl⟩
abbrev main_v1164 : Ref sig .tc := ⟨.hbm, 1794, rfl⟩
abbrev main_c_612 : Ref sig .tc := ⟨.hbm, 1795, rfl⟩
abbrev main_v1165 : Ref sig .tc := ⟨.hbm, 1796, rfl⟩
abbrev main_c_613 : Ref sig .tc := ⟨.hbm, 1797, rfl⟩
abbrev main_v1166 : Ref sig .tc := ⟨.hbm, 1798, rfl⟩
abbrev main_c_614 : Ref sig .tc := ⟨.hbm, 1799, rfl⟩
abbrev main_v1167 : Ref sig .tc := ⟨.hbm, 1800, rfl⟩
abbrev main_c_615 : Ref sig .tc := ⟨.hbm, 1801, rfl⟩
abbrev main_v1168 : Ref sig .tc := ⟨.hbm, 1802, rfl⟩
abbrev main_c_616 : Ref sig .tc := ⟨.hbm, 1803, rfl⟩
abbrev main_v1169 : Ref sig .tc := ⟨.hbm, 1804, rfl⟩
abbrev main_c_617 : Ref sig .tc := ⟨.hbm, 1805, rfl⟩
abbrev main_v1170 : Ref sig .tc := ⟨.hbm, 1806, rfl⟩
abbrev main_c_618 : Ref sig .tc := ⟨.hbm, 1807, rfl⟩
abbrev main_v1171 : Ref sig .tc := ⟨.hbm, 1808, rfl⟩
abbrev main_v1172 : Ref sig .tc := ⟨.hbm, 1809, rfl⟩
abbrev main_v1173 : Ref sig .tc := ⟨.hbm, 1810, rfl⟩
abbrev main_v1174 : Ref sig .tc := ⟨.hbm, 1811, rfl⟩
abbrev main_v1175 : Ref sig .tc := ⟨.hbm, 1812, rfl⟩
abbrev main_c_619 : Ref sig .tc := ⟨.hbm, 1813, rfl⟩
abbrev main_v1176 : Ref sig .tc := ⟨.hbm, 1814, rfl⟩
abbrev main_c_620 : Ref sig .tc := ⟨.hbm, 1815, rfl⟩
abbrev main_v1177 : Ref sig .tc := ⟨.hbm, 1816, rfl⟩
abbrev main_c_621 : Ref sig .tc := ⟨.hbm, 1817, rfl⟩
abbrev main_v1178 : Ref sig .tc := ⟨.hbm, 1818, rfl⟩
abbrev main_c_622 : Ref sig .tc := ⟨.hbm, 1819, rfl⟩
abbrev main_v1179 : Ref sig .tc := ⟨.hbm, 1820, rfl⟩
abbrev main_c_623 : Ref sig .tc := ⟨.hbm, 1821, rfl⟩
abbrev main_v1180 : Ref sig .tc := ⟨.hbm, 1822, rfl⟩
abbrev main_c_624 : Ref sig .tc := ⟨.hbm, 1823, rfl⟩
abbrev main_v1181 : Ref sig .tc := ⟨.hbm, 1824, rfl⟩
abbrev main_c_625 : Ref sig .tc := ⟨.hbm, 1825, rfl⟩
abbrev main_v1182 : Ref sig .tc := ⟨.hbm, 1826, rfl⟩
abbrev main_c_626 : Ref sig .tc := ⟨.hbm, 1827, rfl⟩
abbrev main_v1183 : Ref sig .tc := ⟨.hbm, 1828, rfl⟩
abbrev main_v1184 : Ref sig .tc := ⟨.hbm, 1829, rfl⟩
abbrev main_v1185 : Ref sig .tc := ⟨.hbm, 1830, rfl⟩
abbrev main_v1186 : Ref sig .tc := ⟨.hbm, 1831, rfl⟩
abbrev main_v1187 : Ref sig .tc := ⟨.hbm, 1832, rfl⟩
abbrev main_c_627 : Ref sig .tc := ⟨.hbm, 1833, rfl⟩
abbrev main_v1188 : Ref sig .tc := ⟨.hbm, 1834, rfl⟩
abbrev main_c_628 : Ref sig .tc := ⟨.hbm, 1835, rfl⟩
abbrev main_v1189 : Ref sig .tc := ⟨.hbm, 1836, rfl⟩
abbrev main_c_629 : Ref sig .tc := ⟨.hbm, 1837, rfl⟩
abbrev main_v1190 : Ref sig .tc := ⟨.hbm, 1838, rfl⟩
abbrev main_c_630 : Ref sig .tc := ⟨.hbm, 1839, rfl⟩
abbrev main_v1191 : Ref sig .tc := ⟨.hbm, 1840, rfl⟩
abbrev main_c_631 : Ref sig .tc := ⟨.hbm, 1841, rfl⟩
abbrev main_v1192 : Ref sig .tc := ⟨.hbm, 1842, rfl⟩
abbrev main_c_632 : Ref sig .tc := ⟨.hbm, 1843, rfl⟩
abbrev main_v1193 : Ref sig .tc := ⟨.hbm, 1844, rfl⟩
abbrev main_c_633 : Ref sig .tc := ⟨.hbm, 1845, rfl⟩
abbrev main_v1194 : Ref sig .tc := ⟨.hbm, 1846, rfl⟩
abbrev main_c_634 : Ref sig .tc := ⟨.hbm, 1847, rfl⟩
abbrev main_v1195 : Ref sig .tc := ⟨.hbm, 1848, rfl⟩
abbrev main_v1196 : Ref sig .tc := ⟨.hbm, 1849, rfl⟩
abbrev main_v1197 : Ref sig .tc := ⟨.hbm, 1850, rfl⟩
abbrev main_v1198 : Ref sig .tc := ⟨.hbm, 1851, rfl⟩
abbrev main_v1199 : Ref sig .tc := ⟨.hbm, 1852, rfl⟩
abbrev main_c_635 : Ref sig .tc := ⟨.hbm, 1853, rfl⟩
abbrev main_v1200 : Ref sig .tc := ⟨.hbm, 1854, rfl⟩
abbrev main_c_636 : Ref sig .tc := ⟨.hbm, 1855, rfl⟩
abbrev main_v1201 : Ref sig .tc := ⟨.hbm, 1856, rfl⟩
abbrev main_c_637 : Ref sig .tc := ⟨.hbm, 1857, rfl⟩
abbrev main_v1202 : Ref sig .tc := ⟨.hbm, 1858, rfl⟩
abbrev main_c_638 : Ref sig .tc := ⟨.hbm, 1859, rfl⟩
abbrev main_v1203 : Ref sig .tc := ⟨.hbm, 1860, rfl⟩
abbrev main_c_639 : Ref sig .tc := ⟨.hbm, 1861, rfl⟩
abbrev main_v1204 : Ref sig .tc := ⟨.hbm, 1862, rfl⟩
abbrev main_c_640 : Ref sig .tc := ⟨.hbm, 1863, rfl⟩
abbrev main_v1205 : Ref sig .tc := ⟨.hbm, 1864, rfl⟩
abbrev main_c_641 : Ref sig .tc := ⟨.hbm, 1865, rfl⟩
abbrev main_v1206 : Ref sig .tc := ⟨.hbm, 1866, rfl⟩
abbrev main_c_642 : Ref sig .tc := ⟨.hbm, 1867, rfl⟩
abbrev main_v1207 : Ref sig .tc := ⟨.hbm, 1868, rfl⟩
abbrev main_v1208 : Ref sig .tc := ⟨.hbm, 1869, rfl⟩
abbrev main_v1209 : Ref sig .tc := ⟨.hbm, 1870, rfl⟩
abbrev main_v1210 : Ref sig .tc := ⟨.hbm, 1871, rfl⟩
abbrev main_v1211 : Ref sig .tc := ⟨.hbm, 1872, rfl⟩
abbrev main_c_643 : Ref sig .tc := ⟨.hbm, 1873, rfl⟩
abbrev main_v1212 : Ref sig .tc := ⟨.hbm, 1874, rfl⟩
abbrev main_c_644 : Ref sig .tc := ⟨.hbm, 1875, rfl⟩
abbrev main_v1213 : Ref sig .tc := ⟨.hbm, 1876, rfl⟩
abbrev main_c_645 : Ref sig .tc := ⟨.hbm, 1877, rfl⟩
abbrev main_v1214 : Ref sig .tc := ⟨.hbm, 1878, rfl⟩
abbrev main_c_646 : Ref sig .tc := ⟨.hbm, 1879, rfl⟩
abbrev main_v1215 : Ref sig .tc := ⟨.hbm, 1880, rfl⟩
abbrev main_c_647 : Ref sig .tc := ⟨.hbm, 1881, rfl⟩
abbrev main_v1216 : Ref sig .tc := ⟨.hbm, 1882, rfl⟩
abbrev main_c_648 : Ref sig .tc := ⟨.hbm, 1883, rfl⟩
abbrev main_v1217 : Ref sig .tc := ⟨.hbm, 1884, rfl⟩
abbrev main_c_649 : Ref sig .tc := ⟨.hbm, 1885, rfl⟩
abbrev main_v1218 : Ref sig .tc := ⟨.hbm, 1886, rfl⟩
abbrev main_c_650 : Ref sig .tc := ⟨.hbm, 1887, rfl⟩
abbrev main_v1219 : Ref sig .tc := ⟨.hbm, 1888, rfl⟩
abbrev main_v1220 : Ref sig .tc := ⟨.hbm, 1889, rfl⟩
abbrev main_v1221 : Ref sig .tc := ⟨.hbm, 1890, rfl⟩
abbrev main_v1222 : Ref sig .tc := ⟨.hbm, 1891, rfl⟩
abbrev main_v1223 : Ref sig .tc := ⟨.hbm, 1892, rfl⟩
abbrev main_c_651 : Ref sig .tc := ⟨.hbm, 1893, rfl⟩
abbrev main_v1224 : Ref sig .tc := ⟨.hbm, 1894, rfl⟩
abbrev main_c_652 : Ref sig .tc := ⟨.hbm, 1895, rfl⟩
abbrev main_v1225 : Ref sig .tc := ⟨.hbm, 1896, rfl⟩
abbrev main_c_653 : Ref sig .tc := ⟨.hbm, 1897, rfl⟩
abbrev main_v1226 : Ref sig .tc := ⟨.hbm, 1898, rfl⟩
abbrev main_c_654 : Ref sig .tc := ⟨.hbm, 1899, rfl⟩
abbrev main_v1227 : Ref sig .tc := ⟨.hbm, 1900, rfl⟩
abbrev main_c_655 : Ref sig .tc := ⟨.hbm, 1901, rfl⟩
abbrev main_v1228 : Ref sig .tc := ⟨.hbm, 1902, rfl⟩
abbrev main_c_656 : Ref sig .tc := ⟨.hbm, 1903, rfl⟩
abbrev main_v1229 : Ref sig .tc := ⟨.hbm, 1904, rfl⟩
abbrev main_c_657 : Ref sig .tc := ⟨.hbm, 1905, rfl⟩
abbrev main_v1230 : Ref sig .tc := ⟨.hbm, 1906, rfl⟩
abbrev main_c_658 : Ref sig .tc := ⟨.hbm, 1907, rfl⟩
abbrev main_v1231 : Ref sig .tc := ⟨.hbm, 1908, rfl⟩
abbrev main_v1232 : Ref sig .tc := ⟨.hbm, 1909, rfl⟩
abbrev main_v1233 : Ref sig .tc := ⟨.hbm, 1910, rfl⟩
abbrev main_v1234 : Ref sig .tc := ⟨.hbm, 1911, rfl⟩
abbrev main_v1235 : Ref sig .tc := ⟨.hbm, 1912, rfl⟩
abbrev main_c_659 : Ref sig .tc := ⟨.hbm, 1913, rfl⟩
abbrev main_v1236 : Ref sig .tc := ⟨.hbm, 1914, rfl⟩
abbrev main_c_660 : Ref sig .tc := ⟨.hbm, 1915, rfl⟩
abbrev main_v1237 : Ref sig .tc := ⟨.hbm, 1916, rfl⟩
abbrev main_c_661 : Ref sig .tc := ⟨.hbm, 1917, rfl⟩
abbrev main_v1238 : Ref sig .tc := ⟨.hbm, 1918, rfl⟩
abbrev main_c_662 : Ref sig .tc := ⟨.hbm, 1919, rfl⟩
abbrev main_v1239 : Ref sig .tc := ⟨.hbm, 1920, rfl⟩
abbrev main_c_663 : Ref sig .tc := ⟨.hbm, 1921, rfl⟩
abbrev main_v1240 : Ref sig .tc := ⟨.hbm, 1922, rfl⟩
abbrev main_c_664 : Ref sig .tc := ⟨.hbm, 1923, rfl⟩
abbrev main_v1241 : Ref sig .tc := ⟨.hbm, 1924, rfl⟩
abbrev main_c_665 : Ref sig .tc := ⟨.hbm, 1925, rfl⟩
abbrev main_v1242 : Ref sig .tc := ⟨.hbm, 1926, rfl⟩
abbrev main_c_666 : Ref sig .tc := ⟨.hbm, 1927, rfl⟩
abbrev main_v1243 : Ref sig .tc := ⟨.hbm, 1928, rfl⟩
abbrev main_v1244 : Ref sig .tc := ⟨.hbm, 1929, rfl⟩
abbrev main_v1245 : Ref sig .tc := ⟨.hbm, 1930, rfl⟩
abbrev main_v1246 : Ref sig .tc := ⟨.hbm, 1931, rfl⟩
abbrev main_v1247 : Ref sig .tc := ⟨.hbm, 1932, rfl⟩
abbrev main_c_667 : Ref sig .tc := ⟨.hbm, 1933, rfl⟩
abbrev main_v1248 : Ref sig .tc := ⟨.hbm, 1934, rfl⟩
abbrev main_c_668 : Ref sig .tc := ⟨.hbm, 1935, rfl⟩
abbrev main_v1249 : Ref sig .tc := ⟨.hbm, 1936, rfl⟩
abbrev main_c_669 : Ref sig .tc := ⟨.hbm, 1937, rfl⟩
abbrev main_v1250 : Ref sig .tc := ⟨.hbm, 1938, rfl⟩
abbrev main_c_670 : Ref sig .tc := ⟨.hbm, 1939, rfl⟩
abbrev main_v1251 : Ref sig .tc := ⟨.hbm, 1940, rfl⟩
abbrev main_c_671 : Ref sig .tc := ⟨.hbm, 1941, rfl⟩
abbrev main_v1252 : Ref sig .tc := ⟨.hbm, 1942, rfl⟩
abbrev main_c_672 : Ref sig .tc := ⟨.hbm, 1943, rfl⟩
abbrev main_v1253 : Ref sig .tc := ⟨.hbm, 1944, rfl⟩
abbrev main_c_673 : Ref sig .tc := ⟨.hbm, 1945, rfl⟩
abbrev main_v1254 : Ref sig .tc := ⟨.hbm, 1946, rfl⟩
abbrev main_c_674 : Ref sig .tc := ⟨.hbm, 1947, rfl⟩
abbrev main_v1255 : Ref sig .tc := ⟨.hbm, 1948, rfl⟩
abbrev main_v1256 : Ref sig .tc := ⟨.hbm, 1949, rfl⟩
abbrev main_v1257 : Ref sig .tc := ⟨.hbm, 1950, rfl⟩
abbrev main_v1258 : Ref sig .tc := ⟨.hbm, 1951, rfl⟩
abbrev main_v1259 : Ref sig .tc := ⟨.hbm, 1952, rfl⟩
abbrev main_c_675 : Ref sig .tc := ⟨.hbm, 1953, rfl⟩
abbrev main_v1260 : Ref sig .tc := ⟨.hbm, 1954, rfl⟩
abbrev main_c_676 : Ref sig .tc := ⟨.hbm, 1955, rfl⟩
abbrev main_v1261 : Ref sig .tc := ⟨.hbm, 1956, rfl⟩
abbrev main_c_677 : Ref sig .tc := ⟨.hbm, 1957, rfl⟩
abbrev main_v1262 : Ref sig .tc := ⟨.hbm, 1958, rfl⟩
abbrev main_c_678 : Ref sig .tc := ⟨.hbm, 1959, rfl⟩
abbrev main_v1263 : Ref sig .tc := ⟨.hbm, 1960, rfl⟩
abbrev main_c_679 : Ref sig .tc := ⟨.hbm, 1961, rfl⟩
abbrev main_v1264 : Ref sig .tc := ⟨.hbm, 1962, rfl⟩
abbrev main_c_680 : Ref sig .tc := ⟨.hbm, 1963, rfl⟩
abbrev main_v1265 : Ref sig .tc := ⟨.hbm, 1964, rfl⟩
abbrev main_c_681 : Ref sig .tc := ⟨.hbm, 1965, rfl⟩
abbrev main_v1266 : Ref sig .tc := ⟨.hbm, 1966, rfl⟩
abbrev main_c_682 : Ref sig .tc := ⟨.hbm, 1967, rfl⟩
abbrev main_v1267 : Ref sig .tc := ⟨.hbm, 1968, rfl⟩
abbrev main_v1268 : Ref sig .tc := ⟨.hbm, 1969, rfl⟩
abbrev main_v1269 : Ref sig .tc := ⟨.hbm, 1970, rfl⟩
abbrev main_v1270 : Ref sig .tc := ⟨.hbm, 1971, rfl⟩
abbrev main_v1271 : Ref sig .tc := ⟨.hbm, 1972, rfl⟩
abbrev main_c_683 : Ref sig .tc := ⟨.hbm, 1973, rfl⟩
abbrev main_v1272 : Ref sig .tc := ⟨.hbm, 1974, rfl⟩
abbrev main_c_684 : Ref sig .tc := ⟨.hbm, 1975, rfl⟩
abbrev main_v1273 : Ref sig .tc := ⟨.hbm, 1976, rfl⟩
abbrev main_c_685 : Ref sig .tc := ⟨.hbm, 1977, rfl⟩
abbrev main_v1274 : Ref sig .tc := ⟨.hbm, 1978, rfl⟩
abbrev main_c_686 : Ref sig .tc := ⟨.hbm, 1979, rfl⟩
abbrev main_v1275 : Ref sig .tc := ⟨.hbm, 1980, rfl⟩
abbrev main_c_687 : Ref sig .tc := ⟨.hbm, 1981, rfl⟩
abbrev main_v1276 : Ref sig .tc := ⟨.hbm, 1982, rfl⟩
abbrev main_c_688 : Ref sig .tc := ⟨.hbm, 1983, rfl⟩
abbrev main_v1277 : Ref sig .tc := ⟨.hbm, 1984, rfl⟩
abbrev main_c_689 : Ref sig .tc := ⟨.hbm, 1985, rfl⟩
abbrev main_v1278 : Ref sig .tc := ⟨.hbm, 1986, rfl⟩
abbrev main_c_690 : Ref sig .tc := ⟨.hbm, 1987, rfl⟩
abbrev main_v1279 : Ref sig .tc := ⟨.hbm, 1988, rfl⟩
abbrev main_v1280 : Ref sig .tc := ⟨.hbm, 1989, rfl⟩
abbrev main_v1281 : Ref sig .tc := ⟨.hbm, 1990, rfl⟩
abbrev main_v1282 : Ref sig .tc := ⟨.hbm, 1991, rfl⟩
abbrev main_v1283 : Ref sig .tc := ⟨.hbm, 1992, rfl⟩
abbrev main_c_691 : Ref sig .tc := ⟨.hbm, 1993, rfl⟩
abbrev main_v1284 : Ref sig .tc := ⟨.hbm, 1994, rfl⟩
abbrev main_c_692 : Ref sig .tc := ⟨.hbm, 1995, rfl⟩
abbrev main_v1285 : Ref sig .tc := ⟨.hbm, 1996, rfl⟩
abbrev main_c_693 : Ref sig .tc := ⟨.hbm, 1997, rfl⟩
abbrev main_v1286 : Ref sig .tc := ⟨.hbm, 1998, rfl⟩
abbrev main_c_694 : Ref sig .tc := ⟨.hbm, 1999, rfl⟩
abbrev main_v1287 : Ref sig .tc := ⟨.hbm, 2000, rfl⟩
abbrev main_c_695 : Ref sig .tc := ⟨.hbm, 2001, rfl⟩
abbrev main_v1288 : Ref sig .tc := ⟨.hbm, 2002, rfl⟩
abbrev main_c_696 : Ref sig .tc := ⟨.hbm, 2003, rfl⟩
abbrev main_v1289 : Ref sig .tc := ⟨.hbm, 2004, rfl⟩
abbrev main_c_697 : Ref sig .tc := ⟨.hbm, 2005, rfl⟩
abbrev main_v1290 : Ref sig .tc := ⟨.hbm, 2006, rfl⟩
abbrev main_c_698 : Ref sig .tc := ⟨.hbm, 2007, rfl⟩
abbrev main_v1291 : Ref sig .tc := ⟨.hbm, 2008, rfl⟩
abbrev main_v1292 : Ref sig .tc := ⟨.hbm, 2009, rfl⟩
abbrev main_v1293 : Ref sig .tc := ⟨.hbm, 2010, rfl⟩
abbrev main_v1294 : Ref sig .tc := ⟨.hbm, 2011, rfl⟩
abbrev main_v1295 : Ref sig .tc := ⟨.hbm, 2012, rfl⟩
abbrev main_c_699 : Ref sig .tc := ⟨.hbm, 2013, rfl⟩
abbrev main_v1296 : Ref sig .tc := ⟨.hbm, 2014, rfl⟩
abbrev main_c_700 : Ref sig .tc := ⟨.hbm, 2015, rfl⟩
abbrev main_v1297 : Ref sig .tc := ⟨.hbm, 2016, rfl⟩
abbrev main_c_701 : Ref sig .tc := ⟨.hbm, 2017, rfl⟩
abbrev main_v1298 : Ref sig .tc := ⟨.hbm, 2018, rfl⟩
abbrev main_c_702 : Ref sig .tc := ⟨.hbm, 2019, rfl⟩
abbrev main_v1299 : Ref sig .tc := ⟨.hbm, 2020, rfl⟩
abbrev main_c_703 : Ref sig .tc := ⟨.hbm, 2021, rfl⟩
abbrev main_v1300 : Ref sig .tc := ⟨.hbm, 2022, rfl⟩
abbrev main_c_704 : Ref sig .tc := ⟨.hbm, 2023, rfl⟩
abbrev main_v1301 : Ref sig .tc := ⟨.hbm, 2024, rfl⟩
abbrev main_c_705 : Ref sig .tc := ⟨.hbm, 2025, rfl⟩
abbrev main_v1302 : Ref sig .tc := ⟨.hbm, 2026, rfl⟩
abbrev main_c_706 : Ref sig .tc := ⟨.hbm, 2027, rfl⟩
abbrev main_v1303 : Ref sig .tc := ⟨.hbm, 2028, rfl⟩
abbrev main_v1304 : Ref sig .tc := ⟨.hbm, 2029, rfl⟩
abbrev main_v1305 : Ref sig .tc := ⟨.hbm, 2030, rfl⟩
abbrev main_v1306 : Ref sig .tc := ⟨.hbm, 2031, rfl⟩
abbrev main_v1307 : Ref sig .tc := ⟨.hbm, 2032, rfl⟩
abbrev main_c_707 : Ref sig .tc := ⟨.hbm, 2033, rfl⟩
abbrev main_v1308 : Ref sig .tc := ⟨.hbm, 2034, rfl⟩
abbrev main_c_708 : Ref sig .tc := ⟨.hbm, 2035, rfl⟩
abbrev main_v1309 : Ref sig .tc := ⟨.hbm, 2036, rfl⟩
abbrev main_c_709 : Ref sig .tc := ⟨.hbm, 2037, rfl⟩
abbrev main_v1310 : Ref sig .tc := ⟨.hbm, 2038, rfl⟩
abbrev main_c_710 : Ref sig .tc := ⟨.hbm, 2039, rfl⟩
abbrev main_v1311 : Ref sig .tc := ⟨.hbm, 2040, rfl⟩
abbrev main_c_711 : Ref sig .tc := ⟨.hbm, 2041, rfl⟩
abbrev main_v1312 : Ref sig .tc := ⟨.hbm, 2042, rfl⟩
abbrev main_c_712 : Ref sig .tc := ⟨.hbm, 2043, rfl⟩
abbrev main_v1313 : Ref sig .tc := ⟨.hbm, 2044, rfl⟩
abbrev main_c_713 : Ref sig .tc := ⟨.hbm, 2045, rfl⟩
abbrev main_v1314 : Ref sig .tc := ⟨.hbm, 2046, rfl⟩
abbrev main_c_714 : Ref sig .tc := ⟨.hbm, 2047, rfl⟩
abbrev main_v1315 : Ref sig .tc := ⟨.hbm, 2048, rfl⟩
abbrev main_v1316 : Ref sig .tc := ⟨.hbm, 2049, rfl⟩
abbrev main_v1317 : Ref sig .tc := ⟨.hbm, 2050, rfl⟩
abbrev main_v1318 : Ref sig .tc := ⟨.hbm, 2051, rfl⟩
abbrev main_v1319 : Ref sig .tc := ⟨.hbm, 2052, rfl⟩
abbrev main_c_715 : Ref sig .tc := ⟨.hbm, 2053, rfl⟩
abbrev main_v1320 : Ref sig .tc := ⟨.hbm, 2054, rfl⟩
abbrev main_c_716 : Ref sig .tc := ⟨.hbm, 2055, rfl⟩
abbrev main_v1321 : Ref sig .tc := ⟨.hbm, 2056, rfl⟩
abbrev main_c_717 : Ref sig .tc := ⟨.hbm, 2057, rfl⟩
abbrev main_v1322 : Ref sig .tc := ⟨.hbm, 2058, rfl⟩
abbrev main_c_718 : Ref sig .tc := ⟨.hbm, 2059, rfl⟩
abbrev main_v1323 : Ref sig .tc := ⟨.hbm, 2060, rfl⟩
abbrev main_c_719 : Ref sig .tc := ⟨.hbm, 2061, rfl⟩
abbrev main_v1324 : Ref sig .tc := ⟨.hbm, 2062, rfl⟩
abbrev main_c_720 : Ref sig .tc := ⟨.hbm, 2063, rfl⟩
abbrev main_v1325 : Ref sig .tc := ⟨.hbm, 2064, rfl⟩
abbrev main_c_721 : Ref sig .tc := ⟨.hbm, 2065, rfl⟩
abbrev main_v1326 : Ref sig .tc := ⟨.hbm, 2066, rfl⟩
abbrev main_c_722 : Ref sig .tc := ⟨.hbm, 2067, rfl⟩
abbrev main_v1327 : Ref sig .tc := ⟨.hbm, 2068, rfl⟩
abbrev main_v1328 : Ref sig .tc := ⟨.hbm, 2069, rfl⟩
abbrev main_v1329 : Ref sig .tc := ⟨.hbm, 2070, rfl⟩
abbrev main_v1330 : Ref sig .tc := ⟨.hbm, 2071, rfl⟩
abbrev main_v1331 : Ref sig .tc := ⟨.hbm, 2072, rfl⟩
abbrev main_c_723 : Ref sig .tc := ⟨.hbm, 2073, rfl⟩
abbrev main_v1332 : Ref sig .tc := ⟨.hbm, 2074, rfl⟩
abbrev main_c_724 : Ref sig .tc := ⟨.hbm, 2075, rfl⟩
abbrev main_v1333 : Ref sig .tc := ⟨.hbm, 2076, rfl⟩
abbrev main_c_725 : Ref sig .tc := ⟨.hbm, 2077, rfl⟩
abbrev main_v1334 : Ref sig .tc := ⟨.hbm, 2078, rfl⟩
abbrev main_c_726 : Ref sig .tc := ⟨.hbm, 2079, rfl⟩
abbrev main_v1335 : Ref sig .tc := ⟨.hbm, 2080, rfl⟩
abbrev main_c_727 : Ref sig .tc := ⟨.hbm, 2081, rfl⟩
abbrev main_v1336 : Ref sig .tc := ⟨.hbm, 2082, rfl⟩
abbrev main_c_728 : Ref sig .tc := ⟨.hbm, 2083, rfl⟩
abbrev main_v1337 : Ref sig .tc := ⟨.hbm, 2084, rfl⟩
abbrev main_c_729 : Ref sig .tc := ⟨.hbm, 2085, rfl⟩
abbrev main_v1338 : Ref sig .tc := ⟨.hbm, 2086, rfl⟩
abbrev main_c_730 : Ref sig .tc := ⟨.hbm, 2087, rfl⟩
abbrev main_v1339 : Ref sig .tc := ⟨.hbm, 2088, rfl⟩
abbrev main_v1340 : Ref sig .tc := ⟨.hbm, 2089, rfl⟩
abbrev main_v1341 : Ref sig .tc := ⟨.hbm, 2090, rfl⟩
abbrev main_v1342 : Ref sig .tc := ⟨.hbm, 2091, rfl⟩
abbrev main_v1343 : Ref sig .tc := ⟨.hbm, 2092, rfl⟩
abbrev main_c_731 : Ref sig .tc := ⟨.hbm, 2093, rfl⟩
abbrev main_v1344 : Ref sig .tc := ⟨.hbm, 2094, rfl⟩
abbrev main_c_732 : Ref sig .tc := ⟨.hbm, 2095, rfl⟩
abbrev main_v1345 : Ref sig .tc := ⟨.hbm, 2096, rfl⟩
abbrev main_c_733 : Ref sig .tc := ⟨.hbm, 2097, rfl⟩
abbrev main_v1346 : Ref sig .tc := ⟨.hbm, 2098, rfl⟩
abbrev main_c_734 : Ref sig .tc := ⟨.hbm, 2099, rfl⟩
abbrev main_v1347 : Ref sig .tc := ⟨.hbm, 2100, rfl⟩
abbrev main_c_735 : Ref sig .tc := ⟨.hbm, 2101, rfl⟩
abbrev main_v1348 : Ref sig .tc := ⟨.hbm, 2102, rfl⟩
abbrev main_c_736 : Ref sig .tc := ⟨.hbm, 2103, rfl⟩
abbrev main_v1349 : Ref sig .tc := ⟨.hbm, 2104, rfl⟩
abbrev main_c_737 : Ref sig .tc := ⟨.hbm, 2105, rfl⟩
abbrev main_v1350 : Ref sig .tc := ⟨.hbm, 2106, rfl⟩
abbrev main_c_738 : Ref sig .tc := ⟨.hbm, 2107, rfl⟩
abbrev main_v1351 : Ref sig .tc := ⟨.hbm, 2108, rfl⟩
abbrev main_v1352 : Ref sig .tc := ⟨.hbm, 2109, rfl⟩
abbrev main_v1353 : Ref sig .tc := ⟨.hbm, 2110, rfl⟩
abbrev main_v1354 : Ref sig .tc := ⟨.hbm, 2111, rfl⟩
abbrev main_v1355 : Ref sig .tc := ⟨.hbm, 2112, rfl⟩
abbrev main_c_739 : Ref sig .tc := ⟨.hbm, 2113, rfl⟩
abbrev main_v1356 : Ref sig .tc := ⟨.hbm, 2114, rfl⟩
abbrev main_c_740 : Ref sig .tc := ⟨.hbm, 2115, rfl⟩
abbrev main_v1357 : Ref sig .tc := ⟨.hbm, 2116, rfl⟩
abbrev main_c_741 : Ref sig .tc := ⟨.hbm, 2117, rfl⟩
abbrev main_v1358 : Ref sig .tc := ⟨.hbm, 2118, rfl⟩
abbrev main_c_742 : Ref sig .tc := ⟨.hbm, 2119, rfl⟩
abbrev main_v1359 : Ref sig .tc := ⟨.hbm, 2120, rfl⟩
abbrev main_c_743 : Ref sig .tc := ⟨.hbm, 2121, rfl⟩
abbrev main_v1360 : Ref sig .tc := ⟨.hbm, 2122, rfl⟩
abbrev main_c_744 : Ref sig .tc := ⟨.hbm, 2123, rfl⟩
abbrev main_v1361 : Ref sig .tc := ⟨.hbm, 2124, rfl⟩
abbrev main_c_745 : Ref sig .tc := ⟨.hbm, 2125, rfl⟩
abbrev main_v1362 : Ref sig .tc := ⟨.hbm, 2126, rfl⟩
abbrev main_c_746 : Ref sig .tc := ⟨.hbm, 2127, rfl⟩
abbrev main_v1363 : Ref sig .tc := ⟨.hbm, 2128, rfl⟩
abbrev main_v1364 : Ref sig .tc := ⟨.hbm, 2129, rfl⟩
abbrev main_v1365 : Ref sig .tc := ⟨.hbm, 2130, rfl⟩
abbrev main_v1366 : Ref sig .tc := ⟨.hbm, 2131, rfl⟩
abbrev main_v1367 : Ref sig .tc := ⟨.hbm, 2132, rfl⟩
abbrev main_c_747 : Ref sig .tc := ⟨.hbm, 2133, rfl⟩
abbrev main_v1368 : Ref sig .tc := ⟨.hbm, 2134, rfl⟩
abbrev main_c_748 : Ref sig .tc := ⟨.hbm, 2135, rfl⟩
abbrev main_v1369 : Ref sig .tc := ⟨.hbm, 2136, rfl⟩
abbrev main_c_749 : Ref sig .tc := ⟨.hbm, 2137, rfl⟩
abbrev main_v1370 : Ref sig .tc := ⟨.hbm, 2138, rfl⟩
abbrev main_c_750 : Ref sig .tc := ⟨.hbm, 2139, rfl⟩
abbrev main_v1371 : Ref sig .tc := ⟨.hbm, 2140, rfl⟩
abbrev main_c_751 : Ref sig .tc := ⟨.hbm, 2141, rfl⟩
abbrev main_v1372 : Ref sig .tc := ⟨.hbm, 2142, rfl⟩
abbrev main_c_752 : Ref sig .tc := ⟨.hbm, 2143, rfl⟩
abbrev main_v1373 : Ref sig .tc := ⟨.hbm, 2144, rfl⟩
abbrev main_c_753 : Ref sig .tc := ⟨.hbm, 2145, rfl⟩
abbrev main_v1374 : Ref sig .tc := ⟨.hbm, 2146, rfl⟩
abbrev main_c_754 : Ref sig .tc := ⟨.hbm, 2147, rfl⟩
abbrev main_v1375 : Ref sig .tc := ⟨.hbm, 2148, rfl⟩
abbrev main_v1376 : Ref sig .tc := ⟨.hbm, 2149, rfl⟩
abbrev main_v1377 : Ref sig .tc := ⟨.hbm, 2150, rfl⟩
abbrev main_v1378 : Ref sig .tc := ⟨.hbm, 2151, rfl⟩
abbrev main_v1379 : Ref sig .tc := ⟨.hbm, 2152, rfl⟩
abbrev main_c_755 : Ref sig .tc := ⟨.hbm, 2153, rfl⟩
abbrev main_v1380 : Ref sig .tc := ⟨.hbm, 2154, rfl⟩
abbrev main_c_756 : Ref sig .tc := ⟨.hbm, 2155, rfl⟩
abbrev main_v1381 : Ref sig .tc := ⟨.hbm, 2156, rfl⟩
abbrev main_c_757 : Ref sig .tc := ⟨.hbm, 2157, rfl⟩
abbrev main_v1382 : Ref sig .tc := ⟨.hbm, 2158, rfl⟩
abbrev main_c_758 : Ref sig .tc := ⟨.hbm, 2159, rfl⟩
abbrev main_v1383 : Ref sig .tc := ⟨.hbm, 2160, rfl⟩
abbrev main_c_759 : Ref sig .tc := ⟨.hbm, 2161, rfl⟩
abbrev main_v1384 : Ref sig .tc := ⟨.hbm, 2162, rfl⟩
abbrev main_c_760 : Ref sig .tc := ⟨.hbm, 2163, rfl⟩
abbrev main_v1385 : Ref sig .tc := ⟨.hbm, 2164, rfl⟩
abbrev main_c_761 : Ref sig .tc := ⟨.hbm, 2165, rfl⟩
abbrev main_v1386 : Ref sig .tc := ⟨.hbm, 2166, rfl⟩
abbrev main_c_762 : Ref sig .tc := ⟨.hbm, 2167, rfl⟩
abbrev main_v1387 : Ref sig .tc := ⟨.hbm, 2168, rfl⟩
abbrev main_v1388 : Ref sig .tc := ⟨.hbm, 2169, rfl⟩
abbrev main_v1389 : Ref sig .tc := ⟨.hbm, 2170, rfl⟩
abbrev main_v1390 : Ref sig .tc := ⟨.hbm, 2171, rfl⟩
abbrev main_v1391 : Ref sig .tc := ⟨.hbm, 2172, rfl⟩
abbrev main_c_763 : Ref sig .tc := ⟨.hbm, 2173, rfl⟩
abbrev main_v1392 : Ref sig .tc := ⟨.hbm, 2174, rfl⟩
abbrev main_c_764 : Ref sig .tc := ⟨.hbm, 2175, rfl⟩
abbrev main_v1393 : Ref sig .tc := ⟨.hbm, 2176, rfl⟩
abbrev main_c_765 : Ref sig .tc := ⟨.hbm, 2177, rfl⟩
abbrev main_v1394 : Ref sig .tc := ⟨.hbm, 2178, rfl⟩
abbrev main_c_766 : Ref sig .tc := ⟨.hbm, 2179, rfl⟩
abbrev main_v1395 : Ref sig .tc := ⟨.hbm, 2180, rfl⟩
abbrev main_c_767 : Ref sig .tc := ⟨.hbm, 2181, rfl⟩
abbrev main_v1396 : Ref sig .tc := ⟨.hbm, 2182, rfl⟩
abbrev main_c_768 : Ref sig .tc := ⟨.hbm, 2183, rfl⟩
abbrev main_v1397 : Ref sig .tc := ⟨.hbm, 2184, rfl⟩
abbrev main_c_769 : Ref sig .tc := ⟨.hbm, 2185, rfl⟩
abbrev main_v1398 : Ref sig .tc := ⟨.hbm, 2186, rfl⟩
abbrev main_c_770 : Ref sig .tc := ⟨.hbm, 2187, rfl⟩
abbrev main_v1399 : Ref sig .tc := ⟨.hbm, 2188, rfl⟩
abbrev main_v1400 : Ref sig .tc := ⟨.hbm, 2189, rfl⟩
abbrev main_v1401 : Ref sig .tc := ⟨.hbm, 2190, rfl⟩
abbrev main_v1402 : Ref sig .tc := ⟨.hbm, 2191, rfl⟩
abbrev main_v1403 : Ref sig .tc := ⟨.hbm, 2192, rfl⟩
abbrev main_c_771 : Ref sig .tc := ⟨.hbm, 2193, rfl⟩
abbrev main_v1404 : Ref sig .tc := ⟨.hbm, 2194, rfl⟩
abbrev main_c_772 : Ref sig .tc := ⟨.hbm, 2195, rfl⟩
abbrev main_v1405 : Ref sig .tc := ⟨.hbm, 2196, rfl⟩
abbrev main_c_773 : Ref sig .tc := ⟨.hbm, 2197, rfl⟩
abbrev main_v1406 : Ref sig .tc := ⟨.hbm, 2198, rfl⟩
abbrev main_c_774 : Ref sig .tc := ⟨.hbm, 2199, rfl⟩
abbrev main_v1407 : Ref sig .tc := ⟨.hbm, 2200, rfl⟩
abbrev main_c_775 : Ref sig .tc := ⟨.hbm, 2201, rfl⟩
abbrev main_v1408 : Ref sig .tc := ⟨.hbm, 2202, rfl⟩
abbrev main_c_776 : Ref sig .tc := ⟨.hbm, 2203, rfl⟩
abbrev main_v1409 : Ref sig .tc := ⟨.hbm, 2204, rfl⟩
abbrev main_c_777 : Ref sig .tc := ⟨.hbm, 2205, rfl⟩
abbrev main_v1410 : Ref sig .tc := ⟨.hbm, 2206, rfl⟩
abbrev main_c_778 : Ref sig .tc := ⟨.hbm, 2207, rfl⟩
abbrev main_v1411 : Ref sig .tc := ⟨.hbm, 2208, rfl⟩
abbrev main_v1412 : Ref sig .tc := ⟨.hbm, 2209, rfl⟩
abbrev main_v1413 : Ref sig .tc := ⟨.hbm, 2210, rfl⟩
abbrev main_v1414 : Ref sig .tc := ⟨.hbm, 2211, rfl⟩
abbrev main_v1415 : Ref sig .tc := ⟨.hbm, 2212, rfl⟩
abbrev main_c_779 : Ref sig .tc := ⟨.hbm, 2213, rfl⟩
abbrev main_v1416 : Ref sig .tc := ⟨.hbm, 2214, rfl⟩
abbrev main_c_780 : Ref sig .tc := ⟨.hbm, 2215, rfl⟩
abbrev main_v1417 : Ref sig .tc := ⟨.hbm, 2216, rfl⟩
abbrev main_c_781 : Ref sig .tc := ⟨.hbm, 2217, rfl⟩
abbrev main_v1418 : Ref sig .tc := ⟨.hbm, 2218, rfl⟩
abbrev main_c_782 : Ref sig .tc := ⟨.hbm, 2219, rfl⟩
abbrev main_v1419 : Ref sig .tc := ⟨.hbm, 2220, rfl⟩
abbrev main_c_783 : Ref sig .tc := ⟨.hbm, 2221, rfl⟩
abbrev main_v1420 : Ref sig .tc := ⟨.hbm, 2222, rfl⟩
abbrev main_c_784 : Ref sig .tc := ⟨.hbm, 2223, rfl⟩
abbrev main_v1421 : Ref sig .tc := ⟨.hbm, 2224, rfl⟩
abbrev main_c_785 : Ref sig .tc := ⟨.hbm, 2225, rfl⟩
abbrev main_v1422 : Ref sig .tc := ⟨.hbm, 2226, rfl⟩
abbrev main_c_786 : Ref sig .tc := ⟨.hbm, 2227, rfl⟩
abbrev main_v1423 : Ref sig .tc := ⟨.hbm, 2228, rfl⟩
abbrev main_v1424 : Ref sig .tc := ⟨.hbm, 2229, rfl⟩
abbrev main_v1425 : Ref sig .tc := ⟨.hbm, 2230, rfl⟩
abbrev main_v1426 : Ref sig .tc := ⟨.hbm, 2231, rfl⟩
abbrev main_v1427 : Ref sig .tc := ⟨.hbm, 2232, rfl⟩
abbrev main_c_787 : Ref sig .tc := ⟨.hbm, 2233, rfl⟩
abbrev main_v1428 : Ref sig .tc := ⟨.hbm, 2234, rfl⟩
abbrev main_c_788 : Ref sig .tc := ⟨.hbm, 2235, rfl⟩
abbrev main_v1429 : Ref sig .tc := ⟨.hbm, 2236, rfl⟩
abbrev main_c_789 : Ref sig .tc := ⟨.hbm, 2237, rfl⟩
abbrev main_v1430 : Ref sig .tc := ⟨.hbm, 2238, rfl⟩
abbrev main_c_790 : Ref sig .tc := ⟨.hbm, 2239, rfl⟩
abbrev main_v1431 : Ref sig .tc := ⟨.hbm, 2240, rfl⟩
abbrev main_c_791 : Ref sig .tc := ⟨.hbm, 2241, rfl⟩
abbrev main_v1432 : Ref sig .tc := ⟨.hbm, 2242, rfl⟩
abbrev main_c_792 : Ref sig .tc := ⟨.hbm, 2243, rfl⟩
abbrev main_v1433 : Ref sig .tc := ⟨.hbm, 2244, rfl⟩
abbrev main_c_793 : Ref sig .tc := ⟨.hbm, 2245, rfl⟩
abbrev main_v1434 : Ref sig .tc := ⟨.hbm, 2246, rfl⟩
abbrev main_c_794 : Ref sig .tc := ⟨.hbm, 2247, rfl⟩
abbrev main_v1435 : Ref sig .tc := ⟨.hbm, 2248, rfl⟩
abbrev main_v1436 : Ref sig .tc := ⟨.hbm, 2249, rfl⟩
abbrev main_v1437 : Ref sig .tc := ⟨.hbm, 2250, rfl⟩
abbrev main_v1438 : Ref sig .tc := ⟨.hbm, 2251, rfl⟩
abbrev main_v1439 : Ref sig .tc := ⟨.hbm, 2252, rfl⟩
abbrev main_c_795 : Ref sig .tc := ⟨.hbm, 2253, rfl⟩
abbrev main_v1440 : Ref sig .tc := ⟨.hbm, 2254, rfl⟩
abbrev main_c_796 : Ref sig .tc := ⟨.hbm, 2255, rfl⟩
abbrev main_v1441 : Ref sig .tc := ⟨.hbm, 2256, rfl⟩
abbrev main_c_797 : Ref sig .tc := ⟨.hbm, 2257, rfl⟩
abbrev main_v1442 : Ref sig .tc := ⟨.hbm, 2258, rfl⟩
abbrev main_c_798 : Ref sig .tc := ⟨.hbm, 2259, rfl⟩
abbrev main_v1443 : Ref sig .tc := ⟨.hbm, 2260, rfl⟩
abbrev main_c_799 : Ref sig .tc := ⟨.hbm, 2261, rfl⟩
abbrev main_v1444 : Ref sig .tc := ⟨.hbm, 2262, rfl⟩
abbrev main_c_800 : Ref sig .tc := ⟨.hbm, 2263, rfl⟩
abbrev main_v1445 : Ref sig .tc := ⟨.hbm, 2264, rfl⟩
abbrev main_c_801 : Ref sig .tc := ⟨.hbm, 2265, rfl⟩
abbrev main_v1446 : Ref sig .tc := ⟨.hbm, 2266, rfl⟩
abbrev main_c_802 : Ref sig .tc := ⟨.hbm, 2267, rfl⟩
abbrev main_v1447 : Ref sig .tc := ⟨.hbm, 2268, rfl⟩
abbrev main_v1448 : Ref sig .tc := ⟨.hbm, 2269, rfl⟩
abbrev main_v1449 : Ref sig .tc := ⟨.hbm, 2270, rfl⟩
abbrev main_v1450 : Ref sig .tc := ⟨.hbm, 2271, rfl⟩
abbrev main_v1451 : Ref sig .tc := ⟨.hbm, 2272, rfl⟩
abbrev main_c_803 : Ref sig .tc := ⟨.hbm, 2273, rfl⟩
abbrev main_v1452 : Ref sig .tc := ⟨.hbm, 2274, rfl⟩
abbrev main_c_804 : Ref sig .tc := ⟨.hbm, 2275, rfl⟩
abbrev main_v1453 : Ref sig .tc := ⟨.hbm, 2276, rfl⟩
abbrev main_c_805 : Ref sig .tc := ⟨.hbm, 2277, rfl⟩
abbrev main_v1454 : Ref sig .tc := ⟨.hbm, 2278, rfl⟩
abbrev main_c_806 : Ref sig .tc := ⟨.hbm, 2279, rfl⟩
abbrev main_v1455 : Ref sig .tc := ⟨.hbm, 2280, rfl⟩
abbrev main_c_807 : Ref sig .tc := ⟨.hbm, 2281, rfl⟩
abbrev main_v1456 : Ref sig .tc := ⟨.hbm, 2282, rfl⟩
abbrev main_c_808 : Ref sig .tc := ⟨.hbm, 2283, rfl⟩
abbrev main_v1457 : Ref sig .tc := ⟨.hbm, 2284, rfl⟩
abbrev main_c_809 : Ref sig .tc := ⟨.hbm, 2285, rfl⟩
abbrev main_v1458 : Ref sig .tc := ⟨.hbm, 2286, rfl⟩
abbrev main_c_810 : Ref sig .tc := ⟨.hbm, 2287, rfl⟩
abbrev main_v1459 : Ref sig .tc := ⟨.hbm, 2288, rfl⟩
abbrev main_v1460 : Ref sig .tc := ⟨.hbm, 2289, rfl⟩
abbrev main_v1461 : Ref sig .tc := ⟨.hbm, 2290, rfl⟩
abbrev main_v1462 : Ref sig .tc := ⟨.hbm, 2291, rfl⟩
abbrev main_v1463 : Ref sig .tc := ⟨.hbm, 2292, rfl⟩
abbrev main_c_811 : Ref sig .tc := ⟨.hbm, 2293, rfl⟩
abbrev main_v1464 : Ref sig .tc := ⟨.hbm, 2294, rfl⟩
abbrev main_c_812 : Ref sig .tc := ⟨.hbm, 2295, rfl⟩
abbrev main_v1465 : Ref sig .tc := ⟨.hbm, 2296, rfl⟩
abbrev main_c_813 : Ref sig .tc := ⟨.hbm, 2297, rfl⟩
abbrev main_v1466 : Ref sig .tc := ⟨.hbm, 2298, rfl⟩
abbrev main_c_814 : Ref sig .tc := ⟨.hbm, 2299, rfl⟩
abbrev main_v1467 : Ref sig .tc := ⟨.hbm, 2300, rfl⟩
abbrev main_c_815 : Ref sig .tc := ⟨.hbm, 2301, rfl⟩
abbrev main_v1468 : Ref sig .tc := ⟨.hbm, 2302, rfl⟩
abbrev main_c_816 : Ref sig .tc := ⟨.hbm, 2303, rfl⟩
abbrev main_v1469 : Ref sig .tc := ⟨.hbm, 2304, rfl⟩
abbrev main_c_817 : Ref sig .tc := ⟨.hbm, 2305, rfl⟩
abbrev main_v1470 : Ref sig .tc := ⟨.hbm, 2306, rfl⟩
abbrev main_c_818 : Ref sig .tc := ⟨.hbm, 2307, rfl⟩
abbrev main_v1471 : Ref sig .tc := ⟨.hbm, 2308, rfl⟩
abbrev main_v1472 : Ref sig .tc := ⟨.hbm, 2309, rfl⟩
abbrev main_v1473 : Ref sig .tc := ⟨.hbm, 2310, rfl⟩
abbrev main_v1474 : Ref sig .tc := ⟨.hbm, 2311, rfl⟩
abbrev main_v1475 : Ref sig .tc := ⟨.hbm, 2312, rfl⟩
abbrev main_c_819 : Ref sig .tc := ⟨.hbm, 2313, rfl⟩
abbrev main_v1476 : Ref sig .tc := ⟨.hbm, 2314, rfl⟩
abbrev main_c_820 : Ref sig .tc := ⟨.hbm, 2315, rfl⟩
abbrev main_v1477 : Ref sig .tc := ⟨.hbm, 2316, rfl⟩
abbrev main_c_821 : Ref sig .tc := ⟨.hbm, 2317, rfl⟩
abbrev main_v1478 : Ref sig .tc := ⟨.hbm, 2318, rfl⟩
abbrev main_c_822 : Ref sig .tc := ⟨.hbm, 2319, rfl⟩
abbrev main_v1479 : Ref sig .tc := ⟨.hbm, 2320, rfl⟩
abbrev main_c_823 : Ref sig .tc := ⟨.hbm, 2321, rfl⟩
abbrev main_v1480 : Ref sig .tc := ⟨.hbm, 2322, rfl⟩
abbrev main_c_824 : Ref sig .tc := ⟨.hbm, 2323, rfl⟩
abbrev main_v1481 : Ref sig .tc := ⟨.hbm, 2324, rfl⟩
abbrev main_c_825 : Ref sig .tc := ⟨.hbm, 2325, rfl⟩
abbrev main_v1482 : Ref sig .tc := ⟨.hbm, 2326, rfl⟩
abbrev main_c_826 : Ref sig .tc := ⟨.hbm, 2327, rfl⟩
abbrev main_v1483 : Ref sig .tc := ⟨.hbm, 2328, rfl⟩
abbrev main_v1484 : Ref sig .tc := ⟨.hbm, 2329, rfl⟩
abbrev main_v1485 : Ref sig .tc := ⟨.hbm, 2330, rfl⟩
abbrev main_v1486 : Ref sig .tc := ⟨.hbm, 2331, rfl⟩
abbrev main_v1487 : Ref sig .tc := ⟨.hbm, 2332, rfl⟩
abbrev main_c_827 : Ref sig .tc := ⟨.hbm, 2333, rfl⟩
abbrev main_v1488 : Ref sig .tc := ⟨.hbm, 2334, rfl⟩
abbrev main_c_828 : Ref sig .tc := ⟨.hbm, 2335, rfl⟩
abbrev main_v1489 : Ref sig .tc := ⟨.hbm, 2336, rfl⟩
abbrev main_c_829 : Ref sig .tc := ⟨.hbm, 2337, rfl⟩
abbrev main_v1490 : Ref sig .tc := ⟨.hbm, 2338, rfl⟩
abbrev main_c_830 : Ref sig .tc := ⟨.hbm, 2339, rfl⟩
abbrev main_v1491 : Ref sig .tc := ⟨.hbm, 2340, rfl⟩
abbrev main_c_831 : Ref sig .tc := ⟨.hbm, 2341, rfl⟩
abbrev main_v1492 : Ref sig .tc := ⟨.hbm, 2342, rfl⟩
abbrev main_c_832 : Ref sig .tc := ⟨.hbm, 2343, rfl⟩
abbrev main_v1493 : Ref sig .tc := ⟨.hbm, 2344, rfl⟩
abbrev main_c_833 : Ref sig .tc := ⟨.hbm, 2345, rfl⟩
abbrev main_v1494 : Ref sig .tc := ⟨.hbm, 2346, rfl⟩
abbrev main_c_834 : Ref sig .tc := ⟨.hbm, 2347, rfl⟩
abbrev main_v1495 : Ref sig .tc := ⟨.hbm, 2348, rfl⟩
abbrev main_v1496 : Ref sig .tc := ⟨.hbm, 2349, rfl⟩
abbrev main_v1497 : Ref sig .tc := ⟨.hbm, 2350, rfl⟩
abbrev main_v1498 : Ref sig .tc := ⟨.hbm, 2351, rfl⟩
abbrev main_v1499 : Ref sig .tc := ⟨.hbm, 2352, rfl⟩
abbrev main_c_835 : Ref sig .tc := ⟨.hbm, 2353, rfl⟩
abbrev main_v1500 : Ref sig .tc := ⟨.hbm, 2354, rfl⟩
abbrev main_c_836 : Ref sig .tc := ⟨.hbm, 2355, rfl⟩
abbrev main_v1501 : Ref sig .tc := ⟨.hbm, 2356, rfl⟩
abbrev main_c_837 : Ref sig .tc := ⟨.hbm, 2357, rfl⟩
abbrev main_v1502 : Ref sig .tc := ⟨.hbm, 2358, rfl⟩
abbrev main_c_838 : Ref sig .tc := ⟨.hbm, 2359, rfl⟩
abbrev main_v1503 : Ref sig .tc := ⟨.hbm, 2360, rfl⟩
abbrev main_c_839 : Ref sig .tc := ⟨.hbm, 2361, rfl⟩
abbrev main_v1504 : Ref sig .tc := ⟨.hbm, 2362, rfl⟩
abbrev main_c_840 : Ref sig .tc := ⟨.hbm, 2363, rfl⟩
abbrev main_v1505 : Ref sig .tc := ⟨.hbm, 2364, rfl⟩
abbrev main_c_841 : Ref sig .tc := ⟨.hbm, 2365, rfl⟩
abbrev main_v1506 : Ref sig .tc := ⟨.hbm, 2366, rfl⟩
abbrev main_c_842 : Ref sig .tc := ⟨.hbm, 2367, rfl⟩
abbrev main_v1507 : Ref sig .tc := ⟨.hbm, 2368, rfl⟩
abbrev main_v1508 : Ref sig .tc := ⟨.hbm, 2369, rfl⟩
abbrev main_v1509 : Ref sig .tc := ⟨.hbm, 2370, rfl⟩
abbrev main_v1510 : Ref sig .tc := ⟨.hbm, 2371, rfl⟩
abbrev main_v1511 : Ref sig .tc := ⟨.hbm, 2372, rfl⟩
abbrev main_c_843 : Ref sig .tc := ⟨.hbm, 2373, rfl⟩
abbrev main_v1512 : Ref sig .tc := ⟨.hbm, 2374, rfl⟩
abbrev main_c_844 : Ref sig .tc := ⟨.hbm, 2375, rfl⟩
abbrev main_v1513 : Ref sig .tc := ⟨.hbm, 2376, rfl⟩
abbrev main_c_845 : Ref sig .tc := ⟨.hbm, 2377, rfl⟩
abbrev main_v1514 : Ref sig .tc := ⟨.hbm, 2378, rfl⟩
abbrev main_c_846 : Ref sig .tc := ⟨.hbm, 2379, rfl⟩
abbrev main_v1515 : Ref sig .tc := ⟨.hbm, 2380, rfl⟩
abbrev main_c_847 : Ref sig .tc := ⟨.hbm, 2381, rfl⟩
abbrev main_v1516 : Ref sig .tc := ⟨.hbm, 2382, rfl⟩
abbrev main_c_848 : Ref sig .tc := ⟨.hbm, 2383, rfl⟩
abbrev main_v1517 : Ref sig .tc := ⟨.hbm, 2384, rfl⟩
abbrev main_c_849 : Ref sig .tc := ⟨.hbm, 2385, rfl⟩
abbrev main_v1518 : Ref sig .tc := ⟨.hbm, 2386, rfl⟩
abbrev main_c_850 : Ref sig .tc := ⟨.hbm, 2387, rfl⟩
abbrev main_v1519 : Ref sig .tc := ⟨.hbm, 2388, rfl⟩
abbrev main_v1520 : Ref sig .tc := ⟨.hbm, 2389, rfl⟩
abbrev main_v1521 : Ref sig .tc := ⟨.hbm, 2390, rfl⟩
abbrev main_v1522 : Ref sig .tc := ⟨.hbm, 2391, rfl⟩
abbrev main_v1523 : Ref sig .tc := ⟨.hbm, 2392, rfl⟩
abbrev main_c_851 : Ref sig .tc := ⟨.hbm, 2393, rfl⟩
abbrev main_v1524 : Ref sig .tc := ⟨.hbm, 2394, rfl⟩
abbrev main_c_852 : Ref sig .tc := ⟨.hbm, 2395, rfl⟩
abbrev main_v1525 : Ref sig .tc := ⟨.hbm, 2396, rfl⟩
abbrev main_c_853 : Ref sig .tc := ⟨.hbm, 2397, rfl⟩
abbrev main_v1526 : Ref sig .tc := ⟨.hbm, 2398, rfl⟩
abbrev main_c_854 : Ref sig .tc := ⟨.hbm, 2399, rfl⟩
abbrev main_v1527 : Ref sig .tc := ⟨.hbm, 2400, rfl⟩
abbrev main_c_855 : Ref sig .tc := ⟨.hbm, 2401, rfl⟩
abbrev main_v1528 : Ref sig .tc := ⟨.hbm, 2402, rfl⟩
abbrev main_c_856 : Ref sig .tc := ⟨.hbm, 2403, rfl⟩
abbrev main_v1529 : Ref sig .tc := ⟨.hbm, 2404, rfl⟩
abbrev main_c_857 : Ref sig .tc := ⟨.hbm, 2405, rfl⟩
abbrev main_v1530 : Ref sig .tc := ⟨.hbm, 2406, rfl⟩
abbrev main_c_858 : Ref sig .tc := ⟨.hbm, 2407, rfl⟩
abbrev main_v1531 : Ref sig .tc := ⟨.hbm, 2408, rfl⟩
abbrev main_v1532 : Ref sig .tc := ⟨.hbm, 2409, rfl⟩
abbrev main_v1533 : Ref sig .tc := ⟨.hbm, 2410, rfl⟩
abbrev main_v1534 : Ref sig .tc := ⟨.hbm, 2411, rfl⟩
abbrev main_v1535 : Ref sig .tc := ⟨.hbm, 2412, rfl⟩
abbrev main_c_859 : Ref sig .tc := ⟨.hbm, 2413, rfl⟩
abbrev main_v1536 : Ref sig .tc := ⟨.hbm, 2414, rfl⟩
abbrev main_c_860 : Ref sig .tc := ⟨.hbm, 2415, rfl⟩
abbrev main_v1537 : Ref sig .tc := ⟨.hbm, 2416, rfl⟩
abbrev main_c_861 : Ref sig .tc := ⟨.hbm, 2417, rfl⟩
abbrev main_v1538 : Ref sig .tc := ⟨.hbm, 2418, rfl⟩
abbrev main_c_862 : Ref sig .tc := ⟨.hbm, 2419, rfl⟩
abbrev main_v1539 : Ref sig .tc := ⟨.hbm, 2420, rfl⟩
abbrev main_c_863 : Ref sig .tc := ⟨.hbm, 2421, rfl⟩
abbrev main_v1540 : Ref sig .tc := ⟨.hbm, 2422, rfl⟩
abbrev main_c_864 : Ref sig .tc := ⟨.hbm, 2423, rfl⟩
abbrev main_v1541 : Ref sig .tc := ⟨.hbm, 2424, rfl⟩
abbrev main_c_865 : Ref sig .tc := ⟨.hbm, 2425, rfl⟩
abbrev main_v1542 : Ref sig .tc := ⟨.hbm, 2426, rfl⟩
abbrev main_c_866 : Ref sig .tc := ⟨.hbm, 2427, rfl⟩
abbrev main_v1543 : Ref sig .tc := ⟨.hbm, 2428, rfl⟩
abbrev main_v1544 : Ref sig .tc := ⟨.hbm, 2429, rfl⟩
abbrev main_v1545 : Ref sig .tc := ⟨.hbm, 2430, rfl⟩
abbrev main_v1546 : Ref sig .tc := ⟨.hbm, 2431, rfl⟩
abbrev main_v1547 : Ref sig .tc := ⟨.hbm, 2432, rfl⟩
abbrev main_c_867 : Ref sig .tc := ⟨.hbm, 2433, rfl⟩
abbrev main_v1548 : Ref sig .tc := ⟨.hbm, 2434, rfl⟩
abbrev main_c_868 : Ref sig .tc := ⟨.hbm, 2435, rfl⟩
abbrev main_v1549 : Ref sig .tc := ⟨.hbm, 2436, rfl⟩
abbrev main_c_869 : Ref sig .tc := ⟨.hbm, 2437, rfl⟩
abbrev main_v1550 : Ref sig .tc := ⟨.hbm, 2438, rfl⟩
abbrev main_c_870 : Ref sig .tc := ⟨.hbm, 2439, rfl⟩
abbrev main_v1551 : Ref sig .tc := ⟨.hbm, 2440, rfl⟩
abbrev main_c_871 : Ref sig .tc := ⟨.hbm, 2441, rfl⟩
abbrev main_v1552 : Ref sig .tc := ⟨.hbm, 2442, rfl⟩
abbrev main_c_872 : Ref sig .tc := ⟨.hbm, 2443, rfl⟩
abbrev main_v1553 : Ref sig .tc := ⟨.hbm, 2444, rfl⟩
abbrev main_c_873 : Ref sig .tc := ⟨.hbm, 2445, rfl⟩
abbrev main_v1554 : Ref sig .tc := ⟨.hbm, 2446, rfl⟩
abbrev main_c_874 : Ref sig .tc := ⟨.hbm, 2447, rfl⟩
abbrev main_v1555 : Ref sig .tc := ⟨.hbm, 2448, rfl⟩
abbrev main_v1556 : Ref sig .tc := ⟨.hbm, 2449, rfl⟩
abbrev main_v1557 : Ref sig .tc := ⟨.hbm, 2450, rfl⟩
abbrev main_v1558 : Ref sig .tc := ⟨.hbm, 2451, rfl⟩
abbrev main_v1559 : Ref sig .tc := ⟨.hbm, 2452, rfl⟩
abbrev main_c_875 : Ref sig .tc := ⟨.hbm, 2453, rfl⟩
abbrev main_v1560 : Ref sig .tc := ⟨.hbm, 2454, rfl⟩
abbrev main_c_876 : Ref sig .tc := ⟨.hbm, 2455, rfl⟩
abbrev main_v1561 : Ref sig .tc := ⟨.hbm, 2456, rfl⟩
abbrev main_c_877 : Ref sig .tc := ⟨.hbm, 2457, rfl⟩
abbrev main_v1562 : Ref sig .tc := ⟨.hbm, 2458, rfl⟩
abbrev main_c_878 : Ref sig .tc := ⟨.hbm, 2459, rfl⟩
abbrev main_v1563 : Ref sig .tc := ⟨.hbm, 2460, rfl⟩
abbrev main_c_879 : Ref sig .tc := ⟨.hbm, 2461, rfl⟩
abbrev main_v1564 : Ref sig .tc := ⟨.hbm, 2462, rfl⟩
abbrev main_c_880 : Ref sig .tc := ⟨.hbm, 2463, rfl⟩
abbrev main_v1565 : Ref sig .tc := ⟨.hbm, 2464, rfl⟩
abbrev main_c_881 : Ref sig .tc := ⟨.hbm, 2465, rfl⟩
abbrev main_v1566 : Ref sig .tc := ⟨.hbm, 2466, rfl⟩
abbrev main_c_882 : Ref sig .tc := ⟨.hbm, 2467, rfl⟩
abbrev main_v1567 : Ref sig .tc := ⟨.hbm, 2468, rfl⟩
abbrev main_v1568 : Ref sig .tc := ⟨.hbm, 2469, rfl⟩
abbrev main_v1569 : Ref sig .tc := ⟨.hbm, 2470, rfl⟩
abbrev main_v1570 : Ref sig .tc := ⟨.hbm, 2471, rfl⟩
abbrev main_v1571 : Ref sig .tc := ⟨.hbm, 2472, rfl⟩
abbrev main_c_883 : Ref sig .tc := ⟨.hbm, 2473, rfl⟩
abbrev main_v1572 : Ref sig .tc := ⟨.hbm, 2474, rfl⟩
abbrev main_c_884 : Ref sig .tc := ⟨.hbm, 2475, rfl⟩
abbrev main_v1573 : Ref sig .tc := ⟨.hbm, 2476, rfl⟩
abbrev main_c_885 : Ref sig .tc := ⟨.hbm, 2477, rfl⟩
abbrev main_v1574 : Ref sig .tc := ⟨.hbm, 2478, rfl⟩
abbrev main_c_886 : Ref sig .tc := ⟨.hbm, 2479, rfl⟩
abbrev main_v1575 : Ref sig .tc := ⟨.hbm, 2480, rfl⟩
abbrev main_c_887 : Ref sig .tc := ⟨.hbm, 2481, rfl⟩
abbrev main_v1576 : Ref sig .tc := ⟨.hbm, 2482, rfl⟩
abbrev main_c_888 : Ref sig .tc := ⟨.hbm, 2483, rfl⟩
abbrev main_v1577 : Ref sig .tc := ⟨.hbm, 2484, rfl⟩
abbrev main_c_889 : Ref sig .tc := ⟨.hbm, 2485, rfl⟩
abbrev main_v1578 : Ref sig .tc := ⟨.hbm, 2486, rfl⟩
abbrev main_c_890 : Ref sig .tc := ⟨.hbm, 2487, rfl⟩
abbrev main_v1579 : Ref sig .tc := ⟨.hbm, 2488, rfl⟩
abbrev main_v1580 : Ref sig .tc := ⟨.hbm, 2489, rfl⟩
abbrev main_v1581 : Ref sig .tc := ⟨.hbm, 2490, rfl⟩
abbrev main_v1582 : Ref sig .tc := ⟨.hbm, 2491, rfl⟩
abbrev main_v1583 : Ref sig .tc := ⟨.hbm, 2492, rfl⟩
abbrev main_c_891 : Ref sig .tc := ⟨.hbm, 2493, rfl⟩
abbrev main_v1584 : Ref sig .tc := ⟨.hbm, 2494, rfl⟩
abbrev main_c_892 : Ref sig .tc := ⟨.hbm, 2495, rfl⟩
abbrev main_v1585 : Ref sig .tc := ⟨.hbm, 2496, rfl⟩
abbrev main_c_893 : Ref sig .tc := ⟨.hbm, 2497, rfl⟩
abbrev main_v1586 : Ref sig .tc := ⟨.hbm, 2498, rfl⟩
abbrev main_c_894 : Ref sig .tc := ⟨.hbm, 2499, rfl⟩
abbrev main_v1587 : Ref sig .tc := ⟨.hbm, 2500, rfl⟩
abbrev main_c_895 : Ref sig .tc := ⟨.hbm, 2501, rfl⟩
abbrev main_v1588 : Ref sig .tc := ⟨.hbm, 2502, rfl⟩
abbrev main_c_896 : Ref sig .tc := ⟨.hbm, 2503, rfl⟩
abbrev main_v1589 : Ref sig .tc := ⟨.hbm, 2504, rfl⟩
abbrev main_c_897 : Ref sig .tc := ⟨.hbm, 2505, rfl⟩
abbrev main_v1590 : Ref sig .tc := ⟨.hbm, 2506, rfl⟩
abbrev main_c_898 : Ref sig .tc := ⟨.hbm, 2507, rfl⟩
abbrev main_v1591 : Ref sig .tc := ⟨.hbm, 2508, rfl⟩
abbrev main_v1592 : Ref sig .tc := ⟨.hbm, 2509, rfl⟩
abbrev main_v1593 : Ref sig .tc := ⟨.hbm, 2510, rfl⟩
abbrev main_v1594 : Ref sig .tc := ⟨.hbm, 2511, rfl⟩
abbrev main_v1595 : Ref sig .tc := ⟨.hbm, 2512, rfl⟩
abbrev main_v1596 : Ref sig .tc := ⟨.hbm, 2513, rfl⟩
abbrev main_v1597 : Ref sig .tc := ⟨.hbm, 2514, rfl⟩
abbrev main_v1598 : Ref sig .tc := ⟨.hbm, 2515, rfl⟩
abbrev main_v1599 : Ref sig .tc := ⟨.hbm, 2516, rfl⟩
abbrev main_v1600 : Ref sig .tc := ⟨.hbm, 2517, rfl⟩
abbrev main_v1601 : Ref sig .tc := ⟨.hbm, 2518, rfl⟩
abbrev main_v1602 : Ref sig .tc := ⟨.hbm, 2519, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc3_stg3_0 : Ref sig .tc := ⟨.vmem, 23, rfl⟩
abbrev cc3_stg3_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg3_0 : Ref sig .tc := ⟨.vmem, 29, rfl⟩
abbrev cc4_stg3_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg2_0 : Ref sig .tc := ⟨.vmem, 34, rfl⟩
abbrev cc5_stg3_0 : Ref sig .tc := ⟨.vmem, 35, rfl⟩
abbrev cc5_stg3_1 : Ref sig .tc := ⟨.vmem, 36, rfl⟩
abbrev cc6_stg0_0 : Ref sig .tc := ⟨.vmem, 37, rfl⟩
abbrev cc6_stg0_1 : Ref sig .tc := ⟨.vmem, 38, rfl⟩
abbrev cc6_stg1_0 : Ref sig .tc := ⟨.vmem, 39, rfl⟩
abbrev cc6_stg2_0 : Ref sig .tc := ⟨.vmem, 40, rfl⟩
abbrev cc6_stg3_0 : Ref sig .tc := ⟨.vmem, 41, rfl⟩
abbrev cc6_stg3_1 : Ref sig .tc := ⟨.vmem, 42, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc3_sem3_0 : DmaSem sig := 23
abbrev cc3_sem3_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem3_0 : DmaSem sig := 29
abbrev cc4_sem3_1 : DmaSem sig := 30
abbrev cc5_sem0_0 : DmaSem sig := 31
abbrev cc5_sem0_1 : DmaSem sig := 32
abbrev cc5_sem1_0 : DmaSem sig := 33
abbrev cc5_sem2_0 : DmaSem sig := 34
abbrev cc5_sem3_0 : DmaSem sig := 35
abbrev cc5_sem3_1 : DmaSem sig := 36
abbrev cc6_sem0_0 : DmaSem sig := 37
abbrev cc6_sem0_1 : DmaSem sig := 38
abbrev cc6_sem1_0 : DmaSem sig := 39
abbrev cc6_sem2_0 : DmaSem sig := 40
abbrev cc6_sem3_0 : DmaSem sig := 41
abbrev cc6_sem3_1 : DmaSem sig := 42

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x115x115x12 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S108x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x60x60x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x60x60x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x29x29x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage2_0 : Fin 2 → Memref sig .tc .vmem S1x29x29x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1x28x28x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![16], ![false]⟩

def cc3_transform_0 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x28x28x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S512x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1x30x30x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x1x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![16], ![false]⟩

def cc4_transform_0 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_1 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_3 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage4_0 : Fin 2 → Memref sig .tc .vmem S1x30x30x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S2x2x256x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1x58x58x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![16], ![false]⟩

def cc5_transform_0 (i : grid5.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc5_transform_1 (i : grid5.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc5_transform_2 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_3 (i : grid5.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage5_0 : Fin 2 → Memref sig .tc .vmem S1x58x58x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S2x2x256x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x1x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S1x57x57x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![16], ![false]⟩

def cc6_transform_0 (i : grid6.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_3 (i : grid6.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage6_0 : Fin 2 → Memref sig .tc .vmem S1x57x57x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S512x48 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x1x48 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S1x56x56x48 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]
-- ==== ReferenceIdeal.lean ====
abbrev S16x3x224x224 : Shape := ⟨4, ![16, 3, 224, 224]⟩
abbrev S32x3x4x4 : Shape := ⟨4, ![32, 3, 4, 4]⟩
abbrev S32 : Shape := ⟨1, ![32]⟩
abbrev S64x32x4x4 : Shape := ⟨4, ![64, 32, 4, 4]⟩
abbrev S64 : Shape := ⟨1, ![64]⟩
abbrev S64x64x4x4 : Shape := ⟨4, ![64, 64, 4, 4]⟩
abbrev S512x64 : Shape := ⟨2, ![512, 64]⟩
abbrev S3 : Shape := ⟨1, ![3]⟩
abbrev S_ : Shape := ⟨0, ![]⟩
abbrev S16x3x226x226 : Shape := ⟨4, ![16, 3, 226, 226]⟩
abbrev S16x3x112x226 : Shape := ⟨4, ![16, 3, 112, 226]⟩
abbrev S16x3x1x112x226 : Shape := ⟨5, ![16, 3, 1, 112, 226]⟩
abbrev S16x3x4x112x226 : Shape := ⟨5, ![16, 3, 4, 112, 226]⟩
abbrev S16x3x4x112x112 : Shape := ⟨5, ![16, 3, 4, 112, 112]⟩
abbrev S16x3x4x1x112x112 : Shape := ⟨6, ![16, 3, 4, 1, 112, 112]⟩
abbrev S16x3x4x4x112x112 : Shape := ⟨6, ![16, 3, 4, 4, 112, 112]⟩
abbrev S16x112x112x32 : Shape := ⟨4, ![16, 112, 112, 32]⟩
abbrev S16x32x112x112 : Shape := ⟨4, ![16, 32, 112, 112]⟩
abbrev S1x32x1x1 : Shape := ⟨4, ![1, 32, 1, 1]⟩
abbrev S16x32x114x114 : Shape := ⟨4, ![16, 32, 114, 114]⟩
abbrev S16x32x56x114 : Shape := ⟨4, ![16, 32, 56, 114]⟩
abbrev S16x32x1x56x114 : Shape := ⟨5, ![16, 32, 1, 56, 114]⟩
abbrev S16x32x4x56x114 : Shape := ⟨5, ![16, 32, 4, 56, 114]⟩
abbrev S16x32x4x56x56 : Shape := ⟨5, ![16, 32, 4, 56, 56]⟩
abbrev S16x32x4x1x56x56 : Shape := ⟨6, ![16, 32, 4, 1, 56, 56]⟩
abbrev S16x32x4x4x56x56 : Shape := ⟨6, ![16, 32, 4, 4, 56, 56]⟩
abbrev S16x56x56x64 : Shape := ⟨4, ![16, 56, 56, 64]⟩
abbrev S16x64x56x56 : Shape := ⟨4, ![16, 64, 56, 56]⟩
abbrev S1x64x1x1 : Shape := ⟨4, ![1, 64, 1, 1]⟩
abbrev S16x64x58x58 : Shape := ⟨4, ![16, 64, 58, 58]⟩
abbrev S16x64x28x58 : Shape := ⟨4, ![16, 64, 28, 58]⟩
abbrev S16x64x1x28x58 : Shape := ⟨5, ![16, 64, 1, 28, 58]⟩
abbrev S16x64x4x28x58 : Shape := ⟨5, ![16, 64, 4, 28, 58]⟩
abbrev S16x64x4x28x28 : Shape := ⟨5, ![16, 64, 4, 28, 28]⟩
abbrev S16x64x4x1x28x28 : Shape := ⟨6, ![16, 64, 4, 1, 28, 28]⟩
abbrev S16x64x4x4x28x28 : Shape := ⟨6, ![16, 64, 4, 4, 28, 28]⟩
abbrev S16x28x28x64 : Shape := ⟨4, ![16, 28, 28, 64]⟩
abbrev S16x64x28x28 : Shape := ⟨4, ![16, 64, 28, 28]⟩
abbrev S12544x64 : Shape := ⟨2, ![12544, 64]⟩
abbrev S12544 : Shape := ⟨1, ![12544]⟩
abbrev S12544x1 : Shape := ⟨2, ![12544, 1]⟩
abbrev S64x512 : Shape := ⟨2, ![64, 512]⟩
abbrev S12544x512 : Shape := ⟨2, ![12544, 512]⟩
abbrev S512 : Shape := ⟨1, ![512]⟩
abbrev S1x512 : Shape := ⟨2, ![1, 512]⟩
abbrev S16x64x59x59 : Shape := ⟨4, ![16, 64, 59, 59]⟩
abbrev S16x64x56x59 : Shape := ⟨4, ![16, 64, 56, 59]⟩
abbrev S16x64x1x56x59 : Shape := ⟨5, ![16, 64, 1, 56, 59]⟩
abbrev S16x64x4x56x59 : Shape := ⟨5, ![16, 64, 4, 56, 59]⟩
abbrev S16x64x4x56x56 : Shape := ⟨5, ![16, 64, 4, 56, 56]⟩
abbrev S16x64x4x1x56x56 : Shape := ⟨6, ![16, 64, 4, 1, 56, 56]⟩
abbrev S16x64x4x4x56x56 : Shape := ⟨6, ![16, 64, 4, 4, 56, 56]⟩
abbrev S32x64x4x4 : Shape := ⟨4, ![32, 64, 4, 4]⟩
abbrev S16x64x115x115 : Shape := ⟨4, ![16, 64, 115, 115]⟩
abbrev S16x64x112x115 : Shape := ⟨4, ![16, 64, 112, 115]⟩
abbrev S16x64x1x112x115 : Shape := ⟨5, ![16, 64, 1, 112, 115]⟩
abbrev S16x64x4x112x115 : Shape := ⟨5, ![16, 64, 4, 112, 115]⟩
abbrev S16x64x4x112x112 : Shape := ⟨5, ![16, 64, 4, 112, 112]⟩
abbrev S16x64x4x1x112x112 : Shape := ⟨6, ![16, 64, 4, 1, 112, 112]⟩
abbrev S16x64x4x4x112x112 : Shape := ⟨6, ![16, 64, 4, 4, 112, 112]⟩
abbrev S3x32x4x4 : Shape := ⟨4, ![3, 32, 4, 4]⟩
abbrev S16x32x227x227 : Shape := ⟨4, ![16, 32, 227, 227]⟩
abbrev S16x32x224x227 : Shape := ⟨4, ![16, 32, 224, 227]⟩
abbrev S16x32x1x224x227 : Shape := ⟨5, ![16, 32, 1, 224, 227]⟩
abbrev S16x32x4x224x227 : Shape := ⟨5, ![16, 32, 4, 224, 227]⟩
abbrev S16x32x4x224x224 : Shape := ⟨5, ![16, 32, 4, 224, 224]⟩
abbrev S16x32x4x1x224x224 : Shape := ⟨6, ![16, 32, 4, 1, 224, 224]⟩
abbrev S16x32x4x4x224x224 : Shape := ⟨6, ![16, 32, 4, 4, 224, 224]⟩
abbrev S16x224x224x3 : Shape := ⟨4, ![16, 224, 224, 3]⟩
abbrev S1x3x1x1 : Shape := ⟨4, ![1, 3, 1, 1]⟩

abbrev nBuf : Space → Nat
  | .hbm => 239
  | .vmem => 0
  | .smem => 0
  | _ => 0

abbrev hbmTy0_0 (i : Nat) : BufTy := match i % 128 with
  | 0 => ⟨S16x3x224x224, .f32⟩
  | 1 => ⟨S32x3x4x4, .f32⟩
  | 2 => ⟨S32, .f32⟩
  | 3 => ⟨S64x32x4x4, .f32⟩
  | 4 => ⟨S64, .f32⟩
  | 5 => ⟨S64x64x4x4, .f32⟩
  | 6 => ⟨S64, .f32⟩
  | 7 => ⟨S512x64, .f32⟩
  | 8 => ⟨S64x64x4x4, .f32⟩
  | 9 => ⟨S64, .f32⟩
  | 10 => ⟨S64x32x4x4, .f32⟩
  | 11 => ⟨S32, .f32⟩
  | 12 => ⟨S32x3x4x4, .f32⟩
  | 13 => ⟨S3, .f32⟩
  | 14 => ⟨S_, .f32⟩
  | 15 => ⟨S16x3x226x226, .f32⟩
  | 16 => ⟨S16x3x112x226, .f32⟩
  | 17 => ⟨S16x3x112x226, .f32⟩
  | 18 => ⟨S16x3x112x226, .f32⟩
  | 19 => ⟨S16x3x112x226, .f32⟩
  | 20 => ⟨S16x3x1x112x226, .f32⟩
  | 21 => ⟨S16x3x1x112x226, .f32⟩
  | 22 => ⟨S16x3x1x112x226, .f32⟩
  | 23 => ⟨S16x3x1x112x226, .f32⟩
  | 24 => ⟨S16x3x4x112x226, .f32⟩
  | 25 => ⟨S16x3x4x112x112, .f32⟩
  | 26 => ⟨S16x3x4x112x112, .f32⟩
  | 27 => ⟨S16x3x4x112x112, .f32⟩
  | 28 => ⟨S16x3x4x112x112, .f32⟩
  | 29 => ⟨S16x3x4x1x112x112, .f32⟩
  | 30 => ⟨S16x3x4x1x112x112, .f32⟩
  | 31 => ⟨S16x3x4x1x112x112, .f32⟩
  | 32 => ⟨S16x3x4x1x112x112, .f32⟩
  | 33 => ⟨S16x3x4x4x112x112, .f32⟩
  | 34 => ⟨S16x112x112x32, .f32⟩
  | 35 => ⟨S16x32x112x112, .f32⟩
  | 36 => ⟨S1x32x1x1, .f32⟩
  | 37 => ⟨S16x32x112x112, .f32⟩
  | 38 => ⟨S16x32x112x112, .f32⟩
  | 39 => ⟨S_, .f32⟩
  | 40 => ⟨S16x32x112x112, .f32⟩
  | 41 => ⟨S16x32x112x112, .f32⟩
  | 42 => ⟨S_, .f32⟩
  | 43 => ⟨S16x32x114x114, .f32⟩
  | 44 => ⟨S16x32x56x114, .f32⟩
  | 45 => ⟨S16x32x56x114, .f32⟩
  | 46 => ⟨S16x32x56x114, .f32⟩
  | 47 => ⟨S16x32x56x114, .f32⟩
  | 48 => ⟨S16x32x1x56x114, .f32⟩
  | 49 => ⟨S16x32x1x56x114, .f32⟩
  | 50 => ⟨S16x32x1x56x114, .f32⟩
  | 51 => ⟨S16x32x1x56x114, .f32⟩
  | 52 => ⟨S16x32x4x56x114, .f32⟩
  | 53 => ⟨S16x32x4x56x56, .f32⟩
  | 54 => ⟨S16x32x4x56x56, .f32⟩
  | 55 => ⟨S16x32x4x56x56, .f32⟩
  | 56 => ⟨S16x32x4x56x56, .f32⟩
  | 57 => ⟨S16x32x4x1x56x56, .f32⟩
  | 58 => ⟨S16x32x4x1x56x56, .f32⟩
  | 59 => ⟨S16x32x4x1x56x56, .f32⟩
  | 60 => ⟨S16x32x4x1x56x56, .f32⟩
  | 61 => ⟨S16x32x4x4x56x56, .f32⟩
  | 62 => ⟨S16x56x56x64, .f32⟩
  | 63 => ⟨S16x64x56x56, .f32⟩
  | 64 => ⟨S1x64x1x1, .f32⟩
  | 65 => ⟨S16x64x56x56, .f32⟩
  | 66 => ⟨S16x64x56x56, .f32⟩
  | 67 => ⟨S_, .f32⟩
  | 68 => ⟨S16x64x56x56, .f32⟩
  | 69 => ⟨S16x64x56x56, .f32⟩
  | 70 => ⟨S_, .f32⟩
  | 71 => ⟨S16x64x58x58, .f32⟩
  | 72 => ⟨S16x64x28x58, .f32⟩
  | 73 => ⟨S16x64x28x58, .f32⟩
  | 74 => ⟨S16x64x28x58, .f32⟩
  | 75 => ⟨S16x64x28x58, .f32⟩
  | 76 => ⟨S16x64x1x28x58, .f32⟩
  | 77 => ⟨S16x64x1x28x58, .f32⟩
  | 78 => ⟨S16x64x1x28x58, .f32⟩
  | 79 => ⟨S16x64x1x28x58, .f32⟩
  | 80 => ⟨S16x64x4x28x58, .f32⟩
  | 81 => ⟨S16x64x4x28x28, .f32⟩
  | 82 => ⟨S16x64x4x28x28, .f32⟩
  | 83 => ⟨S16x64x4x28x28, .f32⟩
  | 84 => ⟨S16x64x4x28x28, .f32⟩
  | 85 => ⟨S16x64x4x1x28x28, .f32⟩
  | 86 => ⟨S16x64x4x1x28x28, .f32⟩
  | 87 => ⟨S16x64x4x1x28x28, .f32⟩
  | 88 => ⟨S16x64x4x1x28x28, .f32⟩
  | 89 => ⟨S16x64x4x4x28x28, .f32⟩
  | 90 => ⟨S16x28x28x64, .f32⟩
  | 91 => ⟨S16x64x28x28, .f32⟩
  | 92 => ⟨S1x64x1x1, .f32⟩
  | 93 => ⟨S16x64x28x28, .f32⟩
  | 94 => ⟨S16x64x28x28, .f32⟩
  | 95 => ⟨S_, .f32⟩
  | 96 => ⟨S16x64x28x28, .f32⟩
  | 97 => ⟨S16x64x28x28, .f32⟩
  | 98 => ⟨S16x28x28x64, .f32⟩
  | 99 => ⟨S12544x64, .f32⟩
  | 100 => ⟨S12544x64, .f32⟩
  | 101 => ⟨S_, .f32⟩
  | 102 => ⟨S12544, .f32⟩
  | 103 => ⟨S12544x1, .f32⟩
  | 104 => ⟨S_, .f32⟩
  | 105 => ⟨S12544x64, .f32⟩
  | 106 => ⟨S12544x64, .f32⟩
  | 107 => ⟨S64x512, .f32⟩
  | 108 => ⟨S12544x512, .f32⟩
  | 109 => ⟨S12544x512, .f32⟩
  | 110 => ⟨S12544x512, .f32⟩
  | 111 => ⟨S512x64, .f32⟩
  | 112 => ⟨S_, .f32⟩
  | 113 => ⟨S512, .f32⟩
  | 114 => ⟨S1x512, .f32⟩
  | 115 => ⟨S12544x512, .f32⟩
  | 116 => ⟨S12544x512, .f32⟩
  | 117 => ⟨S_, .f32⟩
  | 118 => ⟨S12544x512, .f32⟩
  | 119 => ⟨S12544x512, .f32⟩
  | 120 => ⟨S12544x512, .f32⟩
  | 121 => ⟨S12544x512, .i32⟩
  | 122 => ⟨S_, .f32⟩
  | 123 => ⟨S_, .i32⟩
  | 124 => ⟨S12544, .f32⟩
  | 125 => ⟨S12544, .i32⟩
  | 126 => ⟨S12544x1, .i32⟩
  | 127 => ⟨S12544x64, .f32⟩
  | _ => ⟨S16x3x224x224, .f32⟩

abbrev hbmTy0_1 (i : Nat) : BufTy := match i % 128 with
  | 0 => ⟨S16x28x28x64, .f32⟩
  | 1 => ⟨S16x64x28x28, .f32⟩
  | 2 => ⟨S16x64x28x28, .f32⟩
  | 3 => ⟨S16x64x28x28, .f32⟩
  | 4 => ⟨S_, .f32⟩
  | 5 => ⟨S_, .f32⟩
  | 6 => ⟨S_, .f32⟩
  | 7 => ⟨S_, .f32⟩
  | 8 => ⟨S16x64x28x28, .f32⟩
  | 9 => ⟨S16x64x28x28, .f32⟩
  | 10 => ⟨S_, .f32⟩
  | 11 => ⟨S_, .f32⟩
  | 12 => ⟨S_, .f32⟩
  | 13 => ⟨S_, .f32⟩
  | 14 => ⟨S16x64x28x28, .f32⟩
  | 15 => ⟨S16x64x28x28, .f32⟩
  | 16 => ⟨S64x64x4x4, .f32⟩
  | 17 => ⟨S64x64x4x4, .f32⟩
  | 18 => ⟨S_, .f32⟩
  | 19 => ⟨S16x64x59x59, .f32⟩
  | 20 => ⟨S16x64x56x59, .f32⟩
  | 21 => ⟨S16x64x56x59, .f32⟩
  | 22 => ⟨S16x64x56x59, .f32⟩
  | 23 => ⟨S16x64x56x59, .f32⟩
  | 24 => ⟨S16x64x1x56x59, .f32⟩
  | 25 => ⟨S16x64x1x56x59, .f32⟩
  | 26 => ⟨S16x64x1x56x59, .f32⟩
  | 27 => ⟨S16x64x1x56x59, .f32⟩
  | 28 => ⟨S16x64x4x56x59, .f32⟩
  | 29 => ⟨S16x64x4x56x56, .f32⟩
  | 30 => ⟨S16x64x4x56x56, .f32⟩
  | 31 => ⟨S16x64x4x56x56, .f32⟩
  | 32 => ⟨S16x64x4x56x56, .f32⟩
  | 33 => ⟨S16x64x4x1x56x56, .f32⟩
  | 34 => ⟨S16x64x4x1x56x56, .f32⟩
  | 35 => ⟨S16x64x4x1x56x56, .f32⟩
  | 36 => ⟨S16x64x4x1x56x56, .f32⟩
  | 37 => ⟨S16x64x4x4x56x56, .f32⟩
  | 38 => ⟨S16x56x56x64, .f32⟩
  | 39 => ⟨S16x64x56x56, .f32⟩
  | 40 => ⟨S1x64x1x1, .f32⟩
  | 41 => ⟨S16x64x56x56, .f32⟩
  | 42 => ⟨S16x64x56x56, .f32⟩
  | 43 => ⟨S_, .f32⟩
  | 44 => ⟨S16x64x56x56, .f32⟩
  | 45 => ⟨S16x64x56x56, .f32⟩
  | 46 => ⟨S32x64x4x4, .f32⟩
  | 47 => ⟨S32x64x4x4, .f32⟩
  | 48 => ⟨S_, .f32⟩
  | 49 => ⟨S16x64x115x115, .f32⟩
  | 50 => ⟨S16x64x112x115, .f32⟩
  | 51 => ⟨S16x64x112x115, .f32⟩
  | 52 => ⟨S16x64x112x115, .f32⟩
  | 53 => ⟨S16x64x112x115, .f32⟩
  | 54 => ⟨S16x64x1x112x115, .f32⟩
  | 55 => ⟨S16x64x1x112x115, .f32⟩
  | 56 => ⟨S16x64x1x112x115, .f32⟩
  | 57 => ⟨S16x64x1x112x115, .f32⟩
  | 58 => ⟨S16x64x4x112x115, .f32⟩
  | 59 => ⟨S16x64x4x112x112, .f32⟩
  | 60 => ⟨S16x64x4x112x112, .f32⟩
  | 61 => ⟨S16x64x4x112x112, .f32⟩
  | 62 => ⟨S16x64x4x112x112, .f32⟩
  | 63 => ⟨S16x64x4x1x112x112, .f32⟩
  | 64 => ⟨S16x64x4x1x112x112, .f32⟩
  | 65 => ⟨S16x64x4x1x112x112, .f32⟩
  | 66 => ⟨S16x64x4x1x112x112, .f32⟩
  | 67 => ⟨S16x64x4x4x112x112, .f32⟩
  | 68 => ⟨S16x112x112x32, .f32⟩
  | 69 => ⟨S16x32x112x112, .f32⟩
  | 70 => ⟨S1x32x1x1, .f32⟩
  | 71 => ⟨S16x32x112x112, .f32⟩
  | 72 => ⟨S16x32x112x112, .f32⟩
  | 73 => ⟨S_, .f32⟩
  | 74 => ⟨S16x32x112x112, .f32⟩
  | 75 => ⟨S16x32x112x112, .f32⟩
  | 76 => ⟨S3x32x4x4, .f32⟩
  | 77 => ⟨S3x32x4x4, .f32⟩
  | 78 => ⟨S_, .f32⟩
  | 79 => ⟨S16x32x227x227, .f32⟩
  | 80 => ⟨S16x32x224x227, .f32⟩
  | 81 => ⟨S16x32x224x227, .f32⟩
  | 82 => ⟨S16x32x224x227, .f32⟩
  | 83 => ⟨S16x32x224x227, .f32⟩
  | 84 => ⟨S16x32x1x224x227, .f32⟩
  | 85 => ⟨S16x32x1x224x227, .f32⟩
  | 86 => ⟨S16x32x1x224x227, .f32⟩
  | 87 => ⟨S16x32x1x224x227, .f32⟩
  | 88 => ⟨S16x32x4x224x227, .f32⟩
  | 89 => ⟨S16x32x4x224x224, .f32⟩
  | 90 => ⟨S16x32x4x224x224, .f32⟩
  | 91 => ⟨S16x32x4x224x224, .f32⟩
  | 92 => ⟨S16x32x4x224x224, .f32⟩
  | 93 => ⟨S16x32x4x1x224x224, .f32⟩
  | 94 => ⟨S16x32x4x1x224x224, .f32⟩
  | 95 => ⟨S16x32x4x1x224x224, .f32⟩
  | 96 => ⟨S16x32x4x1x224x224, .f32⟩
  | 97 => ⟨S16x32x4x4x224x224, .f32⟩
  | 98 => ⟨S16x224x224x3, .f32⟩
  | 99 => ⟨S16x3x224x224, .f32⟩
  | 100 => ⟨S1x3x1x1, .f32⟩
  | 101 => ⟨S16x3x224x224, .f32⟩
  | 102 => ⟨S16x3x224x224, .f32⟩
  | 103 => ⟨S16x3x224x224, .f32⟩
  | 104 => ⟨S16x3x224x224, .f32⟩
  | 105 => ⟨S_, .f32⟩
  | 106 => ⟨S16x3x224x224, .f32⟩
  | 107 => ⟨S16x3x224x224, .f32⟩
  | 108 => ⟨S_, .f32⟩
  | 109 => ⟨S16x3x224x224, .f32⟩
  | 110 => ⟨S16x3x224x224, .f32⟩
  | _ => ⟨S16x3x224x224, .f32⟩

abbrev hbmTy (i : Nat) : BufTy := match i / 128 with
  | 0 => hbmTy0_0 i
  | 1 => hbmTy0_1 i
  | _ => ⟨S16x3x224x224, .f32⟩

abbrev bufTy : (tb : Table) → Fin (tcTables nBuf tb) → BufTy
  | .hbm, ⟨i, _⟩ => hbmTy i
  | _, _ => ⟨S16x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call0_cst : Ref sig .tc := ⟨.hbm, 39, rfl⟩
abbrev main_call0_v0 : Ref sig .tc := ⟨.hbm, 40, rfl⟩
abbrev main_v24 : Ref sig .tc := ⟨.hbm, 41, rfl⟩
abbrev main_cst_0 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_call1_cst : Ref sig .tc := ⟨.hbm, 67, rfl⟩
abbrev main_call1_v0 : Ref sig .tc := ⟨.hbm, 68, rfl⟩
abbrev main_v49 : Ref sig .tc := ⟨.hbm, 69, rfl⟩
abbrev main_cst_1 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_call2_cst : Ref sig .tc := ⟨.hbm, 95, rfl⟩
abbrev main_call2_v0 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_2 : Ref sig .tc := ⟨.hbm, 101, rfl⟩
abbrev main_v78 : Ref sig .tc := ⟨.hbm, 102, rfl⟩
abbrev main_v79 : Ref sig .tc := ⟨.hbm, 103, rfl⟩
abbrev main_cst_3 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_4 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_cst_5 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_call3_v0 : Ref sig .tc := ⟨.hbm, 121, rfl⟩
abbrev main_call3_cst : Ref sig .tc := ⟨.hbm, 122, rfl⟩
abbrev main_call3_c : Ref sig .tc := ⟨.hbm, 123, rfl⟩
abbrev main_call3_v1_0 : Ref sig .tc := ⟨.hbm, 124, rfl⟩
abbrev main_v94 : Ref sig .tc := ⟨.hbm, 125, rfl⟩
abbrev main_call4_v0 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_cst_6 : Ref sig .tc := ⟨.hbm, 132, rfl⟩
abbrev main_v100 : Ref sig .tc := ⟨.hbm, 133, rfl⟩
abbrev main_cst_7 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_cst_8 : Ref sig .tc := ⟨.hbm, 138, rfl⟩
abbrev main_v104 : Ref sig .tc := ⟨.hbm, 139, rfl⟩
abbrev main_cst_9 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_cst_10 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_call5_cst : Ref sig .tc := ⟨.hbm, 171, rfl⟩
abbrev main_call5_v0 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_cst_11 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_call6_cst : Ref sig .tc := ⟨.hbm, 201, rfl⟩
abbrev main_call6_v0 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_cst_12 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩
abbrev main_v187 : Ref sig .tc := ⟨.hbm, 230, rfl⟩
abbrev main_v188 : Ref sig .tc := ⟨.hbm, 231, rfl⟩
abbrev main_v189 : Ref sig .tc := ⟨.hbm, 232, rfl⟩
abbrev main_cst_13 : Ref sig .tc := ⟨.hbm, 233, rfl⟩
abbrev main_v190 : Ref sig .tc := ⟨.hbm, 234, rfl⟩
abbrev main_v191 : Ref sig .tc := ⟨.hbm, 235, rfl⟩
abbrev main_cst_14 : Ref sig .tc := ⟨.hbm, 236, rfl⟩
abbrev main_v192 : Ref sig .tc := ⟨.hbm, 237, rfl⟩
abbrev main_v193 : Ref sig .tc := ⟨.hbm, 238, rfl⟩

abbrev nD : Nat := 1
abbrev τ : Topo := Topo.v7x

variable {F : FTy → Type} [FloatOps F]
-- ==== Proof.K4Ideal.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

noncomputable section

namespace Cert.KernelIdeal.Own.K4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

/-- The region's invariant on core `c`: the library's `Pipeline.ΦA spec4 c` at any index and level type. -/
def ΦK (c : Dev nD) : sProp 𝕄 :=
  iprop(Pipeline.scopedRest (Ix := Ix) (Name := ℕ) (U := U) (Lvl := Lvl) (Val := Elt F) spec4 c ∗ ∃ r, prngReg c r)

/-! ## The windows' blocks -/

/-- Window `w`'s block at point `t`, read off its array as the region finds it (`V`). -/
def iblk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_0_of {c : Dev nD} (dat : Dat τ (Elt F) Ix ℕ U Lvl cfg4 c) (hA : dat.A 0 = V c (Pipeline.arrRef spec4 0))
    (hafter : ∀ t, dat.after 0 t = iblk V c 0 t) (t : Fin cfg4.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_1_of {c : Dev nD} (dat : Dat τ (Elt F) Ix ℕ U Lvl cfg4 c) (hA : dat.A 1 = V c (Pipeline.arrRef spec4 1))
    (hafter : ∀ t, dat.after 1 t = iblk V c 1 t) (t : Fin cfg4.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_2_of {c : Dev nD} (dat : Dat τ (Elt F) Ix ℕ U Lvl cfg4 c) (hA : dat.A 2 = V c (Pipeline.arrRef spec4 2))
    (hafter : ∀ t, dat.after 2 t = iblk V c 2 t) (t : Fin cfg4.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- One staging buffer of output window 3, through which its contents are stated (`View.read_writes_of_cover`: the
    choice does not matter). -/
abbrev VO4_3 : View sig .tc .vmem S1x58x58x64 .f32 := (Memref.whole cc4_stg3_0 : Memref sig .tc .vmem S1x58x58x64 .f32).view
/-- Each window's current staging memref at point `t`, spelled as the pipeline passes it (`bodyAt4`), and its wholeness. -/
abbrev ms4_0 (t : Fin cfg4.N) : Memref sig .tc .vmem S1x30x30x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2x2x256x64 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x1x64 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x58x58x64 .f32 := win4_3.stage (cfg4.slots t 3)
abbrev hs4_3 (t : Fin cfg4.N) : (ms4_3 t).IsWhole := hstage4_3 ((cfg4.slots t 3).cast nbuf4_3)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun4_A (c : Dev nD) (i : grid4.Coords) (arg1 : Memref sig .tc .vmem S1x30x30x64 .f32) (harg1 : arg1.IsWhole) (arg2 : Memref sig .tc .vmem S2x2x256x64 .f32) (harg2 : arg2.IsWhole) (arg3 : Memref sig .tc .vmem S1x1x64 .f32) (harg3 : arg3.IsWhole) (arg4 : Memref sig .tc .vmem S1x58x58x64 .f32) (harg4 : arg4.IsWhole)
    (x0 : Vec F S1x30x30x64 .f32) (x1 : Vec F S2x2x256x64 .f32) (x2 : Vec F S1x1x64 .f32) :
    { L3 : List (View.Piece (Elt F) S1x58x58x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) 𝒱₀ c none) E (cc4__deconv_kernel i arg1 harg1 arg2 harg2 arg3 harg3 arg4 harg4) K } := by
  refine ⟨?_, fun E K => ?run⟩
  case run =>
    simp only [cc4__deconv_kernel_eq_skeleton]; unfold cc4__deconv_kernel_skel
    simp only [k4_part1_eq_skeleton, k4_part2_eq_skeleton, k4_part3_eq_skeleton, k4_part4_eq_skeleton]
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

/-- The run's pieces for output 3 cover its block: an index on the border lies in one of the four border stores, an inner one
    in the store of its row's and its column's parity. -/
theorem cover4_A_3 (c : Dev nD) (i : grid4.Coords) (arg1 : Memref sig .tc .vmem S1x30x30x64 .f32) (harg1 : arg1.IsWhole) (arg2 : Memref sig .tc .vmem S2x2x256x64 .f32) (harg2 : arg2.IsWhole) (arg3 : Memref sig .tc .vmem S1x1x64 .f32) (harg3 : arg3.IsWhole) (arg4 : Memref sig .tc .vmem S1x58x58x64 .f32) (harg4 : arg4.IsWhole)
    (x0 : Vec F S1x30x30x64 .f32) (x1 : Vec F S2x2x256x64 .f32) (x2 : Vec F S1x1x64 .f32) (y : S1x58x58x64.Idx) :
    ∃ pc ∈ (kernelRun4_A (Ix := Ix) (U := U) (Lvl := Lvl) 𝒱₀ c i arg1 harg1 arg2 harg2 arg3 harg3 arg4 harg4 x0 x1 x2).1, y ∈ pc.1.set := by
  have h1 : (y 1).val < 58 := (y 1).isLt
  have h2 : (y 2).val < 58 := (y 2).isLt
  have hp : ∀ n : ℕ, n < 58 → n = 0 ∨ n = 57 ∨ (∃ j < 28, n = 1 + 2 * j) ∨ ∃ j < 28, n = 2 + 2 * j := fun n hn => by
    rcases Nat.even_or_odd' n with ⟨k, h | h⟩
    · rcases Nat.eq_zero_or_pos k with h0 | h0
      · exact .inl (by omega)
      · exact .inr (.inr (.inr ⟨k - 1, by omega, by omega⟩))
    · by_cases h0 : k = 28
      · exact .inr (.inl (by omega))
      · exact .inr (.inr (.inl ⟨k, by omega, by omega⟩))
  have hy0 : ∃ j < 1, (y 0).val = 0 + 1 * j := ⟨(y 0).val, (y 0).isLt, by omega⟩
  have hy1 : ∃ j < 58, (y 1).val = 0 + 1 * j := ⟨(y 1).val, h1, by omega⟩
  have hy2 : ∃ j < 58, (y 2).val = 0 + 1 * j := ⟨(y 2).val, h2, by omega⟩
  have hy3 : ∃ j < 64, (y 3).val = 0 + 1 * j := ⟨(y 3).val, (y 3).isLt, by omega⟩
  rcases hp _ h2 with c0 | c57 | c1 | c2
  · refine ⟨_, .tail _ (.head _), (LoadRect.mem_set _).mpr fun a => ?_⟩
    fin_cases a
    exacts [hy0, hy1, ⟨0, Nat.one_pos, c0⟩, hy3]
  · refine ⟨_, .head _, (LoadRect.mem_set _).mpr fun a => ?_⟩
    fin_cases a
    exacts [hy0, hy1, ⟨0, Nat.one_pos, c57⟩, hy3]
  all_goals rcases hp _ h1 with r0 | r57 | r1 | r2
  · refine ⟨_, .tail _ (.tail _ (.tail _ (.head _))), (LoadRect.mem_set _).mpr fun a => ?_⟩
    fin_cases a
    exacts [hy0, ⟨0, Nat.one_pos, r0⟩, hy2, hy3]
  · refine ⟨_, .tail _ (.tail _ (.head _)), (LoadRect.mem_set _).mpr fun a => ?_⟩
    fin_cases a
    exacts [hy0, ⟨0, Nat.one_pos, r57⟩, hy2, hy3]
  · refine ⟨_, .tail _ (.tail _ (.tail _ (.tail _ (.tail _ (.tail _ (.tail _ (.head _))))))), (LoadRect.mem_set _).mpr fun a => ?_⟩
    fin_cases a
    exacts [hy0, r1, c1, hy3]
  · refine ⟨_, .tail _ (.tail _ (.tail _ (.tail _ (.tail _ (.head _))))), (LoadRect.mem_set _).mpr fun a => ?_⟩
    fin_cases a
    exacts [hy0, r2, c1, hy3]
  · refine ⟨_, .tail _ (.tail _ (.tail _ (.head _))), (LoadRect.mem_set _).mpr fun a => ?_⟩
    fin_cases a
    exacts [hy0, ⟨0, Nat.one_pos, r0⟩, hy2, hy3]
  · refine ⟨_, .tail _ (.tail _ (.head _)), (LoadRect.mem_set _).mpr fun a => ?_⟩
    fin_cases a
    exacts [hy0, ⟨0, Nat.one_pos, r57⟩, hy2, hy3]
  · refine ⟨_, .tail _ (.tail _ (.tail _ (.tail _ (.tail _ (.tail _ (.head _)))))), (LoadRect.mem_set _).mpr fun a => ?_⟩
    fin_cases a
    exacts [hy0, r1, c2, hy3]
  · refine ⟨_, .tail _ (.tail _ (.tail _ (.tail _ (.head _)))), (LoadRect.mem_set _).mpr fun a => ?_⟩
    fin_cases a
    exacts [hy0, r2, c2, hy3]

/-- What the run leaves in output 3's staging buffer: its pieces read back over junk. -/
def out4_A_3 (c : Dev nD) (i : grid4.Coords) (arg1 : Memref sig .tc .vmem S1x30x30x64 .f32) (harg1 : arg1.IsWhole) (arg2 : Memref sig .tc .vmem S2x2x256x64 .f32) (harg2 : arg2.IsWhole) (arg3 : Memref sig .tc .vmem S1x1x64 .f32) (harg3 : arg3.IsWhole) (arg4 : Memref sig .tc .vmem S1x58x58x64 .f32) (harg4 : arg4.IsWhole)
    (x0 : Vec F S1x30x30x64 .f32) (x1 : Vec F S2x2x256x64 .f32) (x2 : Vec F S1x1x64 .f32) : Vec F S1x58x58x64 .f32 :=
  VO4_3.read (Elt F) (VO4_3.writes (Elt F) VO4_3.junk (kernelRun4_A (Ix := Ix) (U := U) (Lvl := Lvl) 𝒱₀ c i arg1 harg1 arg2 harg2 arg3 harg3 arg4 harg4 x0 x1 x2).1)

/-! ## What the outputs hold after each point -/

/-- What the outputs' staging buffers hold after the body at point `t`: the run's contents at
    the point's memrefs and input blocks. -/
def outsAt4 (c : Dev nD) (t : Fin cfg4.N) : Vec F S1x58x58x64 .f32 :=
  out4_A_3 (Ix := Ix) (U := U) (Lvl := Lvl) 𝒱₀ c (grid4.coords t) (ms4_0 t) (hs4_0 t) (ms4_1 t) (hs4_1 t) (ms4_2 t) (hs4_2 t) (ms4_3 t) (hs4_3 t) (iblk V c 0 t) (iblk V c 1 t) (iblk V c 2 t)

/-! ## The pipeline's proof data -/

/-- The proof data of pipeline 5 on core `c`: the arrays as the region finds them (`V`); after the body at
    point `t` each input's buffer at its block and the outputs' at `outsAt4`; the invariant the class's
    (Lib/Pipeline/Frame.lean `ΦA`: the scoped rest and the generator register); the core owing `D c` throughout; full shares. -/
def dat (c : Dev nD) : Dat τ (Elt F) Ix ℕ U Lvl cfg4 c where
  A w := V c (Pipeline.arrRef spec4 w)
  after w t := match w with
    | ⟨0, _⟩ => iblk V c 0 t
    | ⟨1, _⟩ => iblk V c 1 t
    | ⟨2, _⟩ => iblk V c 2 t
    | ⟨3, _⟩ => (outsAt4 (Ix := Ix) (U := U) (Lvl := Lvl) 𝒱₀ V c t)
  Φ _ := ΦK (F := F) (Ix := Ix) (U := U) (Lvl := Lvl) c
  q _ := fullShare
  owed _ := D c

variable (ι : Ix)

local notation "𝕕" => dat (Ix := Ix) (U := U) (Lvl := Lvl) 𝒱₀ V D

/-- The proof data's arrays are the region-entry contents `V`: the proof data's definition projected (`dsimp`). -/
theorem A_eq (c : Dev nD) (w : Fin cfg4.W) : (𝕕 c).A w = V c (Pipeline.arrRef spec4 w) := by
  dsimp only [dat]

/-- What the body leaves, window by window (the proof data's `match` reduced by `dsimp`). -/
theorem after4_0 (c : Dev nD) (t : Fin cfg4.N) : (𝕕 c).after 0 t = iblk V c 0 t := by dsimp only [dat]
theorem after4_1 (c : Dev nD) (t : Fin cfg4.N) : (𝕕 c).after 1 t = iblk V c 1 t := by dsimp only [dat]
theorem after4_2 (c : Dev nD) (t : Fin cfg4.N) : (𝕕 c).after 2 t = iblk V c 2 t := by dsimp only [dat]
theorem after4_3 (c : Dev nD) (t : Fin cfg4.N) : (𝕕 c).after 3 t = (outsAt4 (Ix := Ix) (U := U) (Lvl := Lvl) 𝒱₀ V c t) := by dsimp only [dat]

/-- Each input's current staging buffer holds its block at every point, fetched there or not (`beforeK_W_of`). -/
theorem before4_0 (c : Dev nD) (t : Fin cfg4.N) (d) : (𝕕 c).before 0 t d = iblk V c 0 t :=
  before4_0_of V (𝕕 c) (A_eq 𝒱₀ V D c 0) (after4_0 𝒱₀ V D c) t d
theorem before4_1 (c : Dev nD) (t : Fin cfg4.N) (d) : (𝕕 c).before 1 t d = iblk V c 1 t :=
  before4_1_of V (𝕕 c) (A_eq 𝒱₀ V D c 1) (after4_1 𝒱₀ V D c) t d
theorem before4_2 (c : Dev nD) (t : Fin cfg4.N) (d) : (𝕕 c).before 2 t d = iblk V c 2 t :=
  before4_2_of V (𝕕 c) (A_eq 𝒱₀ V D c 2) (after4_2 𝒱₀ V D c) t d

/-! ## The body obligation, at a generic point -/

/-- What the body is called with at point `t` (Lib/Pipeline.lean `BodyObligation`'s precondition, the windows one by one), -/
def bodyPre (c : Dev nD) (t : Fin cfg4.N) : sProp 𝕄 :=
  iprop((𝕕 c).Φ t.castSucc ∗ (𝕕 c).owesAt ι t.castSucc
    ∗ (∃ d, owns (c : Thread nD τ) (ms4_0 t) fullShare ((𝕕 c).before 0 t d))
    ∗ (∃ d, owns (c : Thread nD τ) (ms4_1 t) fullShare ((𝕕 c).before 1 t d))
    ∗ (∃ d, owns (c : Thread nD τ) (ms4_2 t) fullShare ((𝕕 c).before 2 t d))
    ∗ (∃ d, owns (c : Thread nD τ) (ms4_3 t) fullShare ((𝕕 c).before 3 t d)))

/-- and what it returns. -/
def bodyPost (c : Dev nD) (t : Fin cfg4.N) : sProp 𝕄 :=
  iprop((𝕕 c).Φ t.succ ∗ (𝕕 c).owesAt ι t.succ
    ∗ owns (c : Thread nD τ) (ms4_0 t) fullShare ((𝕕 c).after 0 t)
    ∗ owns (c : Thread nD τ) (ms4_1 t) fullShare ((𝕕 c).after 1 t)
    ∗ owns (c : Thread nD τ) (ms4_2 t) fullShare ((𝕕 c).after 2 t)
    ∗ owns (c : Thread nD τ) (ms4_3 t) fullShare ((𝕕 c).after 3 t))

/-- The body at any point: the inputs' memrefs hold their blocks (`before4_W`); so the
    run applies; the invariant passes through unread; the core owes `D c` throughout. -/
theorem sound_body (c : Dev nD) (t : Fin cfg4.N) :
    bodyPre (U := U) (Lvl := Lvl) 𝒱₀ V D ι c t ⊢ wp frame (wpE (defs₀ (F := F)) 𝒱₀ c none) Set.univ (bodyAt4 t) (fun _ => bodyPost (U := U) (Lvl := Lvl) 𝒱₀ V D ι c t) := by
  unfold bodyPre bodyPost bodyAt4
  simp only [before4_0, before4_1, before4_2]
  rw [show (𝕕 c).Φ t.succ = (𝕕 c).Φ t.castSucc from rfl,
    show (𝕕 c).owesAt ι t.succ = (𝕕 c).owesAt ι t.castSucc from rfl,
    after4_0, after4_1, after4_2, after4_3]
  unfold outsAt4
  unfold out4_A_3
  iintro ⟨HΦ, Ho, ⟨%d0, H0⟩, ⟨%d1, H1⟩, ⟨%d2, H2⟩, ⟨%d3, H3⟩⟩
  iapply ((kernelRun4_A (Ix := Ix) (U := U) (Lvl := Lvl) 𝒱₀ c (grid4.coords t) _ _ _ _ _ _ _ _ (iblk V c 0 t) (iblk V c 1 t) (iblk V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover4_A_3 (Ix := Ix) (U := U) (Lvl := Lvl) 𝒱₀ c _ _ _ _ _ _ _ _ _ _ _ _)

/-- The body table's row at point `t`'s slots is the body as `bodyAt4` spells it. -/
theorem defs₀_row (t : Fin cfg4.N) :
    defs₀ (F := F) .tc cfg4.body (cfg4.bodyArgs t (cfg4.slots t)) = bodyAt4 t := by
  unfold defs₀; rw [Defs.onTc_tc]

/-- The library's body obligation, at every point: the body's triple restated (Lib/Pipeline/FrameBody.lean `triple_restated`). -/
theorem body_obligation (c : Dev nD) : BodyObligation (𝕕 c) (defs₀ (F := F)) 𝒱₀ ι Set.univ := fun t => by
  rw [bigSep_W4, bigSep_W4, defs₀_row]
  exact triple_restated (sound_body (U := U) (Lvl := Lvl) 𝒱₀ V D ι c t) rfl .rfl fun _ => .rfl

end Cert.KernelIdeal.Own.K4

end
-- ==== Proof.K5Ideal.lean ====
/- The sixth launch (the second transposed convolution): its body run at any contents, what its stores leave in the
   output block, and the proof data of its pipeline. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

noncomputable section

namespace Cert.KernelIdeal.Own.K5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

/-- The region's invariant on core `c`: the library's `Pipeline.ΦA spec5 c` at any index and level type. -/
def ΦK (c : Dev nD) : sProp 𝕄 :=
  iprop(Pipeline.scopedRest (Ix := Ix) (Name := ℕ) (U := U) (Lvl := Lvl) (Val := Elt F) spec5 c ∗ ∃ r, prngReg c r)

/-! ## The windows' blocks -/

/-- Window `w`'s block at point `t`, read off its array as the region finds it (`V`). -/
def iblk (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before5_0_of {c : Dev nD} (dat : Dat τ (Elt F) Ix ℕ U Lvl cfg5 c) (hA : dat.A 0 = V c (Pipeline.arrRef spec5 0))
    (hafter : ∀ t, dat.after 0 t = iblk V c 0 t) (t : Fin cfg5.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before5_1_of {c : Dev nD} (dat : Dat τ (Elt F) Ix ℕ U Lvl cfg5 c) (hA : dat.A 1 = V c (Pipeline.arrRef spec5 1))
    (hafter : ∀ t, dat.after 1 t = iblk V c 1 t) (t : Fin cfg5.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before5_2_of {c : Dev nD} (dat : Dat τ (Elt F) Ix ℕ U Lvl cfg5 c) (hA : dat.A 2 = V c (Pipeline.arrRef spec5 2))
    (hafter : ∀ t, dat.after 2 t = iblk V c 2 t) (t : Fin cfg5.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- One staging buffer of output window 3, through which its contents are stated (`View.read_writes_of_cover`: the
    choice does not matter). -/
abbrev VO5_3 : View sig .tc .vmem S1x57x57x128 .f32 := (Memref.whole cc5_stg3_0 : Memref sig .tc .vmem S1x57x57x128 .f32).view
/-- Each window's current staging memref at point `t`, spelled as the pipeline passes it (`bodyAt5`), and its wholeness. -/
abbrev ms5_0 (t : Fin cfg5.N) : Memref sig .tc .vmem S1x58x58x64 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S2x2x256x32 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x1x32 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1x57x57x128 .f32 := win5_3.stage (cfg5.slots t 3)
abbrev hs5_3 (t : Fin cfg5.N) : (ms5_3 t).IsWhole := hstage5_3 ((cfg5.slots t 3).cast nbuf5_3)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun5_A (c : Dev nD) (i : grid5.Coords) (arg1 : Memref sig .tc .vmem S1x58x58x64 .f32) (harg1 : arg1.IsWhole) (arg2 : Memref sig .tc .vmem S2x2x256x32 .f32) (harg2 : arg2.IsWhole) (arg3 : Memref sig .tc .vmem S1x1x32 .f32) (harg3 : arg3.IsWhole) (arg4 : Memref sig .tc .vmem S1x57x57x128 .f32) (harg4 : arg4.IsWhole)
    (x0 : Vec F S1x58x58x64 .f32) (x1 : Vec F S2x2x256x32 .f32) (x2 : Vec F S1x1x32 .f32) :
    { L3 : List (View.Piece (Elt F) S1x57x57x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) 𝒱₀ c none) E (cc5__deconv2_kernel i arg1 harg1 arg2 harg2 arg3 harg3 arg4 harg4) K } := by
  refine ⟨?_, fun E K => ?run⟩
  case run =>
    simp only [cc5__deconv2_kernel_eq_skeleton]; unfold cc5__deconv2_kernel_skel
    simp only [k5_part1_eq_skeleton, k5_part2_eq_skeleton, k5_part3_eq_skeleton, k5_part4_eq_skeleton]
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

/-- The run's pieces for output 3 cover its block: in each group of 32 channels an index lies in a border store or in the
    group's own store. -/
theorem cover5_A_3 (c : Dev nD) (i : grid5.Coords) (arg1 : Memref sig .tc .vmem S1x58x58x64 .f32) (harg1 : arg1.IsWhole) (arg2 : Memref sig .tc .vmem S2x2x256x32 .f32) (harg2 : arg2.IsWhole) (arg3 : Memref sig .tc .vmem S1x1x32 .f32) (harg3 : arg3.IsWhole) (arg4 : Memref sig .tc .vmem S1x57x57x128 .f32) (harg4 : arg4.IsWhole)
    (x0 : Vec F S1x58x58x64 .f32) (x1 : Vec F S2x2x256x32 .f32) (x2 : Vec F S1x1x32 .f32) (y : S1x57x57x128.Idx) :
    ∃ pc ∈ (kernelRun5_A (Ix := Ix) (U := U) (Lvl := Lvl) 𝒱₀ c i arg1 harg1 arg2 harg2 arg3 harg3 arg4 harg4 x0 x1 x2).1, y ∈ pc.1.set := by
  have h1 : (y 1).val < 57 := (y 1).isLt
  have h2 : (y 2).val < 57 := (y 2).isLt
  have h3 : (y 3).val < 128 := (y 3).isLt
  have t : ∀ a b n : ℕ, a ≤ n → n < a + b → ∃ j < b, n = a + 1 * j := fun a b n h h' => ⟨n - a, by omega, by omega⟩
  have hy0 : ∃ j < 1, (y 0).val = 0 + 1 * j := ⟨(y 0).val, (y 0).isLt, by omega⟩
  have hg : (y 3).val < 32 ∨ (32 ≤ (y 3).val ∧ (y 3).val < 64) ∨ (64 ≤ (y 3).val ∧ (y 3).val < 96) ∨ 96 ≤ (y 3).val := by omega
  rcases hg with g | g | g | g
  · by_cases hr : (y 1).val = 0
    · refine ⟨_, .tail _ (.tail _ (.tail _ (.tail _ (.tail _ (.head _))))), (LoadRect.mem_set _).mpr fun a => ?_⟩
      fin_cases a
      exacts [hy0, t 0 1 (y 1).val (by omega) (by omega), t 0 57 (y 2).val (by omega) (by omega), t 0 64 (y 3).val (by omega) (by omega)]
    by_cases hc : (y 2).val = 0
    · refine ⟨_, .tail _ (.tail _ (.tail _ (.head _))), (LoadRect.mem_set _).mpr fun a => ?_⟩
      fin_cases a
      exacts [hy0, t 0 57 (y 1).val (by omega) (by omega), t 0 1 (y 2).val (by omega) (by omega), t 0 32 (y 3).val (by omega) (by omega)]
    · refine ⟨_, .tail _ (.tail _ (.tail _ (.tail _ (.tail _ (.tail _ (.head _)))))), (LoadRect.mem_set _).mpr fun a => ?_⟩
      fin_cases a
      exacts [hy0, t 1 56 (y 1).val (by omega) (by omega), t 1 56 (y 2).val (by omega) (by omega), t 0 32 (y 3).val (by omega) (by omega)]
  · by_cases hr : (y 1).val = 0
    · refine ⟨_, .tail _ (.tail _ (.tail _ (.tail _ (.tail _ (.head _))))), (LoadRect.mem_set _).mpr fun a => ?_⟩
      fin_cases a
      exacts [hy0, t 0 1 (y 1).val (by omega) (by omega), t 0 57 (y 2).val (by omega) (by omega), t 0 64 (y 3).val (by omega) (by omega)]
    by_cases hc : (y 2).val = 56
    · refine ⟨_, .tail _ (.head _), (LoadRect.mem_set _).mpr fun a => ?_⟩
      fin_cases a
      exacts [hy0, t 0 57 (y 1).val (by omega) (by omega), t 56 1 (y 2).val (by omega) (by omega), t 32 32 (y 3).val (by omega) (by omega)]
    · refine ⟨_, .tail _ (.tail _ (.tail _ (.tail _ (.tail _ (.tail _ (.tail _ (.head _))))))), (LoadRect.mem_set _).mpr fun a => ?_⟩
      fin_cases a
      exacts [hy0, t 1 56 (y 1).val (by omega) (by omega), t 0 56 (y 2).val (by omega) (by omega), t 32 32 (y 3).val (by omega) (by omega)]
  · by_cases hr : (y 1).val = 56
    · refine ⟨_, .tail _ (.tail _ (.tail _ (.tail _ (.head _)))), (LoadRect.mem_set _).mpr fun a => ?_⟩
      fin_cases a
      exacts [hy0, t 56 1 (y 1).val (by omega) (by omega), t 0 57 (y 2).val (by omega) (by omega), t 64 64 (y 3).val (by omega) (by omega)]
    by_cases hc : (y 2).val = 0
    · refine ⟨_, .tail _ (.tail _ (.head _)), (LoadRect.mem_set _).mpr fun a => ?_⟩
      fin_cases a
      exacts [hy0, t 0 57 (y 1).val (by omega) (by omega), t 0 1 (y 2).val (by omega) (by omega), t 64 32 (y 3).val (by omega) (by omega)]
    · refine ⟨_, .tail _ (.tail _ (.tail _ (.tail _ (.tail _ (.tail _ (.tail _ (.tail _ (.head _)))))))), (LoadRect.mem_set _).mpr fun a => ?_⟩
      fin_cases a
      exacts [hy0, t 0 56 (y 1).val (by omega) (by omega), t 1 56 (y 2).val (by omega) (by omega), t 64 32 (y 3).val (by omega) (by omega)]
  · by_cases hr : (y 1).val = 56
    · refine ⟨_, .tail _ (.tail _ (.tail _ (.tail _ (.head _)))), (LoadRect.mem_set _).mpr fun a => ?_⟩
      fin_cases a
      exacts [hy0, t 56 1 (y 1).val (by omega) (by omega), t 0 57 (y 2).val (by omega) (by omega), t 64 64 (y 3).val (by omega) (by omega)]
    by_cases hc : (y 2).val = 56
    · refine ⟨_, .head _, (LoadRect.mem_set _).mpr fun a => ?_⟩
      fin_cases a
      exacts [hy0, t 0 57 (y 1).val (by omega) (by omega), t 56 1 (y 2).val (by omega) (by omega), t 96 32 (y 3).val (by omega) (by omega)]
    · refine ⟨_, .tail _ (.tail _ (.tail _ (.tail _ (.tail _ (.tail _ (.tail _ (.tail _ (.tail _ (.head _))))))))), (LoadRect.mem_set _).mpr fun a => ?_⟩
      fin_cases a
      exacts [hy0, t 0 56 (y 1).val (by omega) (by omega), t 0 56 (y 2).val (by omega) (by omega), t 96 32 (y 3).val (by omega) (by omega)]

/-- What the run leaves in output 3's staging buffer: its pieces read back over junk. -/
def out5_A_3 (c : Dev nD) (i : grid5.Coords) (arg1 : Memref sig .tc .vmem S1x58x58x64 .f32) (harg1 : arg1.IsWhole) (arg2 : Memref sig .tc .vmem S2x2x256x32 .f32) (harg2 : arg2.IsWhole) (arg3 : Memref sig .tc .vmem S1x1x32 .f32) (harg3 : arg3.IsWhole) (arg4 : Memref sig .tc .vmem S1x57x57x128 .f32) (harg4 : arg4.IsWhole)
    (x0 : Vec F S1x58x58x64 .f32) (x1 : Vec F S2x2x256x32 .f32) (x2 : Vec F S1x1x32 .f32) : Vec F S1x57x57x128 .f32 :=
  VO5_3.read (Elt F) (VO5_3.writes (Elt F) VO5_3.junk (kernelRun5_A (Ix := Ix) (U := U) (Lvl := Lvl) 𝒱₀ c i arg1 harg1 arg2 harg2 arg3 harg3 arg4 harg4 x0 x1 x2).1)

/-! ## What the outputs hold after each point -/

/-- What the outputs' staging buffers hold after the body at point `t`: the run's contents at
    the point's memrefs and input blocks. -/
def outsAt5 (c : Dev nD) (t : Fin cfg5.N) : Vec F S1x57x57x128 .f32 :=
  out5_A_3 (Ix := Ix) (U := U) (Lvl := Lvl) 𝒱₀ c (grid5.coords t) (ms5_0 t) (hs5_0 t) (ms5_1 t) (hs5_1 t) (ms5_2 t) (hs5_2 t) (ms5_3 t) (hs5_3 t) (iblk V c 0 t) (iblk V c 1 t) (iblk V c 2 t)

/-! ## The pipeline's proof data -/

/-- The proof data of pipeline 5 on core `c`: the arrays as the region finds them (`V`); after the body at
    point `t` each input's buffer at its block and the outputs' at `outsAt5`; the invariant the class's
    (Lib/Pipeline/Frame.lean `ΦA`: the scoped rest and the generator register); the core owing `D c` throughout; full shares. -/
def dat (c : Dev nD) : Dat τ (Elt F) Ix ℕ U Lvl cfg5 c where
  A w := V c (Pipeline.arrRef spec5 w)
  after w t := match w with
    | ⟨0, _⟩ => iblk V c 0 t
    | ⟨1, _⟩ => iblk V c 1 t
    | ⟨2, _⟩ => iblk V c 2 t
    | ⟨3, _⟩ => (outsAt5 (Ix := Ix) (U := U) (Lvl := Lvl) 𝒱₀ V c t)
  Φ _ := ΦK (F := F) (Ix := Ix) (U := U) (Lvl := Lvl) c
  q _ := fullShare
  owed _ := D c

variable (ι : Ix)

local notation "𝕕" => dat (Ix := Ix) (U := U) (Lvl := Lvl) 𝒱₀ V D

/-- The proof data's arrays are the region-entry contents `V`: the proof data's definition projected (`dsimp`). -/
theorem A_eq (c : Dev nD) (w : Fin cfg5.W) : (𝕕 c).A w = V c (Pipeline.arrRef spec5 w) := by
  dsimp only [dat]

/-- What the body leaves, window by window (the proof data's `match` reduced by `dsimp`). -/
theorem after5_0 (c : Dev nD) (t : Fin cfg5.N) : (𝕕 c).after 0 t = iblk V c 0 t := by dsimp only [dat]
theorem after5_1 (c : Dev nD) (t : Fin cfg5.N) : (𝕕 c).after 1 t = iblk V c 1 t := by dsimp only [dat]
theorem after5_2 (c : Dev nD) (t : Fin cfg5.N) : (𝕕 c).after 2 t = iblk V c 2 t := by dsimp only [dat]
theorem after5_3 (c : Dev nD) (t : Fin cfg5.N) : (𝕕 c).after 3 t = (outsAt5 (Ix := Ix) (U := U) (Lvl := Lvl) 𝒱₀ V c t) := by dsimp only [dat]

/-- Each input's current staging buffer holds its block at every point, fetched there or not (`beforeK_W_of`). -/
theorem before5_0 (c : Dev nD) (t : Fin cfg5.N) (d) : (𝕕 c).before 0 t d = iblk V c 0 t :=
  before5_0_of V (𝕕 c) (A_eq 𝒱₀ V D c 0) (after5_0 𝒱₀ V D c) t d
theorem before5_1 (c : Dev nD) (t : Fin cfg5.N) (d) : (𝕕 c).before 1 t d = iblk V c 1 t :=
  before5_1_of V (𝕕 c) (A_eq 𝒱₀ V D c 1) (after5_1 𝒱₀ V D c) t d
theorem before5_2 (c : Dev nD) (t : Fin cfg5.N) (d) : (𝕕 c).before 2 t d = iblk V c 2 t :=
  before5_2_of V (𝕕 c) (A_eq 𝒱₀ V D c 2) (after5_2 𝒱₀ V D c) t d

/-! ## The body obligation, at a generic point -/

/-- What the body is called with at point `t` (Lib/Pipeline.lean `BodyObligation`'s precondition, the windows one by one), -/
def bodyPre (c : Dev nD) (t : Fin cfg5.N) : sProp 𝕄 :=
  iprop((𝕕 c).Φ t.castSucc ∗ (𝕕 c).owesAt ι t.castSucc
    ∗ (∃ d, owns (c : Thread nD τ) (ms5_0 t) fullShare ((𝕕 c).before 0 t d))
    ∗ (∃ d, owns (c : Thread nD τ) (ms5_1 t) fullShare ((𝕕 c).before 1 t d))
    ∗ (∃ d, owns (c : Thread nD τ) (ms5_2 t) fullShare ((𝕕 c).before 2 t d))
    ∗ (∃ d, owns (c : Thread nD τ) (ms5_3 t) fullShare ((𝕕 c).before 3 t d)))

/-- and what it returns. -/
def bodyPost (c : Dev nD) (t : Fin cfg5.N) : sProp 𝕄 :=
  iprop((𝕕 c).Φ t.succ ∗ (𝕕 c).owesAt ι t.succ
    ∗ owns (c : Thread nD τ) (ms5_0 t) fullShare ((𝕕 c).after 0 t)
    ∗ owns (c : Thread nD τ) (ms5_1 t) fullShare ((𝕕 c).after 1 t)
    ∗ owns (c : Thread nD τ) (ms5_2 t) fullShare ((𝕕 c).after 2 t)
    ∗ owns (c : Thread nD τ) (ms5_3 t) fullShare ((𝕕 c).after 3 t))

/-- The body at any point: the inputs' memrefs hold their blocks (`before5_W`); so the
    run applies; the invariant passes through unread; the core owes `D c` throughout. -/
theorem sound_body (c : Dev nD) (t : Fin cfg5.N) :
    bodyPre (U := U) (Lvl := Lvl) 𝒱₀ V D ι c t ⊢ wp frame (wpE (defs₀ (F := F)) 𝒱₀ c none) Set.univ (bodyAt5 t) (fun _ => bodyPost (U := U) (Lvl := Lvl) 𝒱₀ V D ι c t) := by
  unfold bodyPre bodyPost bodyAt5
  simp only [before5_0, before5_1, before5_2]
  rw [show (𝕕 c).Φ t.succ = (𝕕 c).Φ t.castSucc from rfl,
    show (𝕕 c).owesAt ι t.succ = (𝕕 c).owesAt ι t.castSucc from rfl,
    after5_0, after5_1, after5_2, after5_3]
  unfold outsAt5
  unfold out5_A_3
  iintro ⟨HΦ, Ho, ⟨%d0, H0⟩, ⟨%d1, H1⟩, ⟨%d2, H2⟩, ⟨%d3, H3⟩⟩
  iapply ((kernelRun5_A (Ix := Ix) (U := U) (Lvl := Lvl) 𝒱₀ c (grid5.coords t) _ _ _ _ _ _ _ _ (iblk V c 0 t) (iblk V c 1 t) (iblk V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover5_A_3 (Ix := Ix) (U := U) (Lvl := Lvl) 𝒱₀ c _ _ _ _ _ _ _ _ _ _ _ _)

/-- The body table's row at point `t`'s slots is the body as `bodyAt5` spells it. -/
theorem defs₀_row (t : Fin cfg5.N) :
    defs₀ (F := F) .tc cfg5.body (cfg5.bodyArgs t (cfg5.slots t)) = bodyAt5 t := by
  unfold defs₀; rw [Defs.onTc_tc]

/-- The library's body obligation, at every point: the body's triple restated (Lib/Pipeline/FrameBody.lean `triple_restated`). -/
theorem body_obligation (c : Dev nD) : BodyObligation (𝕕 c) (defs₀ (F := F)) 𝒱₀ ι Set.univ := fun t => by
  rw [bigSep_W5, bigSep_W5, defs₀_row]
  exact triple_restated (sound_body (U := U) (Lvl := Lvl) 𝒱₀ V D ι c t) rfl .rfl fun _ => .rfl

end Cert.KernelIdeal.Own.K5

end
-- ==== Proof.RunIdeal.lean ====
/- The run of the whole program: the seven kernel launches and the host operations between them, one after the
   other. `outs m` names what each launch leaves in its output arrays, and `run_whole` says that the program ends with
   every buffer of its own at the last valuation `V16 m (outs m)`, and with every semaphore counter at zero. -/
module

public import proofs.«01_k».proof.Proof.Gen.Own.KernelIdeal.RegionsD
public import proofs.«01_k».proof.Proof.K4Ideal
public import proofs.«01_k».proof.Proof.K5Ideal

@[expose] public section

set_option maxHeartbeats 0
set_option maxRecDepth 21060

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-! ## The fifth launch (the first transposed convolution): its arrays and its entry contents -/

theorem arr4_mem (w : Fin cfg4.W) : (Proc.devRef .tc (Pipeline.arrRef spec4 w) : DevRef τ sig) ∈ Pipeline.arrRefs (τ := τ) spec4 :=
  Finset.mem_map_of_mem _ (Finset.mem_image_of_mem _ (Finset.mem_univ w))
theorem arr4_S : Pipeline.arrRefs (τ := τ) spec4 ⊆ Pipeline.ucRefs τ sig :=
  Pipeline.arrRefs_sub_ucRefs spec4 (by decide)
abbrev Ve4 (m : (ℓ : Loc nD τ sig) → Buf (Elt F) ℓ) (outs : Outs (F := F)) (c : Dev nD) (b : Ref sig .tc) : Buf (Elt F) ((c : Thread nD τ).loc b) := V10 m outs c (Proc.devRef .tc b)

theorem V11_at_out (m : (ℓ : Loc nD τ sig) → Buf (Elt F) ℓ) (outs : Outs (F := F)) (c : Dev nD) : V11 m outs c (Proc.devRef .tc main_v777) = outs 11 main_v777 c := by
  simp only [V11, Function.update_self]

theorem rest4_eq (m : (ℓ : Loc nD τ sig) → Buf (Elt F) ℓ) (outs : Outs (F := F)) (c : Dev nD) : ∀ b ∈ (Pipeline.ucRefs τ sig) \ Pipeline.arrRefs (τ := τ) spec4, V11 m outs c b = V10 m outs c b := fun b hb => by
  have hn : b ∉ Pipeline.arrRefs (τ := τ) spec4 := (Finset.mem_sdiff.mp hb).2
  have h : b ≠ Proc.devRef .tc main_v777 := by rintro rfl; exact hn (arr4_mem 3)
  simp only [V11, Function.update_of_ne h]

/-! ## The sixth launch (the second transposed convolution): its arrays and its entry contents -/

theorem arr5_mem (w : Fin cfg5.W) : (Proc.devRef .tc (Pipeline.arrRef spec5 w) : DevRef τ sig) ∈ Pipeline.arrRefs (τ := τ) spec5 :=
  Finset.mem_map_of_mem _ (Finset.mem_image_of_mem _ (Finset.mem_univ w))
theorem arr5_S : Pipeline.arrRefs (τ := τ) spec5 ⊆ Pipeline.ucRefs τ sig :=
  Pipeline.arrRefs_sub_ucRefs spec5 (by decide)
abbrev Ve5 (m : (ℓ : Loc nD τ sig) → Buf (Elt F) ℓ) (outs : Outs (F := F)) (c : Dev nD) (b : Ref sig .tc) : Buf (Elt F) ((c : Thread nD τ).loc b) := V12 m outs c (Proc.devRef .tc b)

theorem V13_at_out (m : (ℓ : Loc nD τ sig) → Buf (Elt F) ℓ) (outs : Outs (F := F)) (c : Dev nD) : V13 m outs c (Proc.devRef .tc main_v824) = outs 13 main_v824 c := by
  simp only [V13, Function.update_self]

theorem rest5_eq (m : (ℓ : Loc nD τ sig) → Buf (Elt F) ℓ) (outs : Outs (F := F)) (c : Dev nD) : ∀ b ∈ (Pipeline.ucRefs τ sig) \ Pipeline.arrRefs (τ := τ) spec5, V13 m outs c b = V12 m outs c b := fun b hb => by
  have hn : b ∉ Pipeline.arrRefs (τ := τ) spec5 := (Finset.mem_sdiff.mp hb).2
  have h : b ≠ Proc.devRef .tc main_v824 := by rintro rfl; exact hn (arr5_mem 3)
  simp only [V13, Function.update_of_ne h]

/-! ## The resources the launch is proved over: no variants, one index, levels all zero, nothing owed -/

/-- The library's algebra of rounds, one component. -/
abbrev UR : Type := URounds (GSem nD τ sig) Unit

/-- The one index lives at the semaphores of the TensorCores. -/
def lev (g : GSem nD τ sig) : Finset Unit := if g.1.2 = .tc then {()} else ∅
def lvl (_ : GSem nD τ sig) (_ : Unit) : ℕ := 0
def noDebt (_ : Dev nD) : CellTallies nD τ sig Unit := 0

/-- What each launch's pipeline is proved with, from the contents `o` says the earlier ones left. -/
def pdats (m : (ℓ : Loc nD τ sig) → Buf (Elt F) ℓ) (o : Outs (F := F)) :
    (p : Fin 7) → (c : Dev nD) → Dat τ (Elt F) Unit ℕ UR ℕ (cfgs p) c
  | ⟨0, _⟩ => fun c => K0.dat Variants.none (Ve0 m) noDebt c
  | ⟨1, _⟩ => fun c => K1.dat Variants.none (Ve1 m o) noDebt c
  | ⟨2, _⟩ => fun c => K2.dat Variants.none (Ve2 m o) noDebt c
  | ⟨3, _⟩ => fun c => K3.dat Variants.none (Ve3 m o) noDebt c
  | ⟨4, _⟩ => fun c => K4.dat Variants.none (Ve4 m o) noDebt c
  | ⟨5, _⟩ => fun c => K5.dat Variants.none (Ve5 m o) noDebt c
  | ⟨6, _⟩ => fun c => K6.dat Variants.none (Ve6 m o) noDebt c

/-- The same family in the form the generated records are stated over. -/
abbrev pdatsA (m : (ℓ : Loc nD τ sig) → Buf (Elt F) ℓ) (o : Outs (F := F)) :
    (p : Fin 7) → (c : Dev nD) → Dat τ (Elt F) Unit ℕ UR ℕ (cfgs p) c :=
  pdatsD m o Variants.none (pdats m o) noDebt noDebt noDebt noDebt noDebt

abbrev Res : Type _ := MT nD τ sig Unit (Elt F) ℕ UR ℕ

/-- What the core holds between launches besides the buffers: its random-number register, and nothing owed. -/
def E (_ : Fin 8) (c : Dev nD) : sProp (MT nD τ sig Unit (Elt F) ℕ UR ℕ) :=
  iprop((∃ r, prngReg c r) ∗ (∃ W, owes (c : Thread nD τ) (noDebt c) W) ∗ emp)

theorem levelCut (p : Fin 7) : Pipeline.LevelCut (pcfgs (F := F)) adm () lev lvl p noDebt (fun _ => 0) where
  hι := fun c w k => by simp [lev]
  hιb := fun c w k => le_rfl
  hD := fun c g i h => absurd h (Nat.lt_irrefl 0)

set_option backward.isDefEq.respectTransparency.types false in
/-- The fifth launch's record: its arrays held at `V10` in and at `V11` out. -/
def R4 (m : (ℓ : Loc nD τ sig) → Buf (Elt F) ℓ) (o : Outs (F := F))
    (hout : ∀ c : Dev nD, o 11 main_v777 c = (pdatsA m o 4 c).arrAt 3 cfg4.N) :
    RegionSeg (pcfgs (F := F)) adm (pdatsA m o) () defs₀ Variants.none lev lvl 4 :=
  Pipeline.RegionSeg.ofHeld (pcfgs (F := F)) adm (pdatsA m o) () defs₀ Variants.none lev lvl 4 noDebt
    (fun c => iprop(∃ r, prngReg c r)) (fun c => iprop(∃ r, prngReg c r))
    launch4.toP rfl
    (fun c => (K4.body_obligation (U := UR) (Lvl := ℕ) Variants.none (Ve4 m o) noDebt () c).loose) (fun _ _ => rfl) (fun _ => rfl)
    (fun c => (pdatsA m o 4 c).share_full fun _ => rfl) (fun _ => .rfl) (fun _ => .rfl) (fun _ => 0) (levelCut 4)
    (fun c => iprop(StableHlo.held (c : Thread nD τ) ((Pipeline.ucRefs τ sig) \ Pipeline.arrRefs (τ := τ) spec4) (V10 m o c) ∗ emp))
    (V10 m o) (V11 m o) (fun _ _ => rfl)
    (fun c => fun
      | 0 => ((pdatsA m o 4 c).arrAt_in 0 rfl _).trans ((K4.A_eq (U := UR) (Lvl := ℕ) Variants.none (Ve4 m o) noDebt c 0).trans (V11_of m o c (Pipeline.arrRef spec4 0) (by decide)).symm)
      | 1 => ((pdatsA m o 4 c).arrAt_in 1 rfl _).trans ((K4.A_eq (U := UR) (Lvl := ℕ) Variants.none (Ve4 m o) noDebt c 1).trans (V11_of m o c (Pipeline.arrRef spec4 1) (by decide)).symm)
      | 2 => ((pdatsA m o 4 c).arrAt_in 2 rfl _).trans ((K4.A_eq (U := UR) (Lvl := ℕ) Variants.none (Ve4 m o) noDebt c 2).trans (V11_of m o c (Pipeline.arrRef spec4 2) (by decide)).symm)
      | 3 => (hout c).symm.trans (V11_at_out m o c).symm
      | ⟨n + 4, h⟩ => absurd (show n + 4 < 4 from h) (by omega))

theorem hpre4 (m : (ℓ : Loc nD τ sig) → Buf (Elt F) ℓ) (o : Outs (F := F))
    (hout : ∀ c : Dev nD, o 11 main_v777 c = (pdatsA m o 4 c).arrAt 3 cfg4.N) (c : Dev nD) :
    iprop(StableHlo.held (c : Thread nD τ) (Pipeline.ucRefs τ sig) (V10 m o c) ∗ E 4 c) ⊢ (R4 m o hout).pre c := by
  show _ ⊢ iprop(StableHlo.held (c : Thread nD τ) (Pipeline.arrRefs (τ := τ) spec4) (V10 m o c) ∗ (∃ r, prngReg c r)
    ∗ (StableHlo.held (c : Thread nD τ) ((Pipeline.ucRefs τ sig) \ Pipeline.arrRefs (τ := τ) spec4) (V10 m o c) ∗ emp) ∗ ∃ W, owes (c : Thread nD τ) (noDebt c) W)
  rw [StableHlo.held_sub_split (c : Thread nD τ) arr4_S (V10 m o c)]
  unfold E
  iintro ⟨⟨Ha, Hr⟩, ⟨Hp, HO, Hx⟩⟩
  isplitl [Ha]; · iexact Ha
  isplitl [Hp]; · iexact Hp
  isplitl [Hr Hx]; · isplitl [Hr] <;> iassumption
  iexact HO

theorem hpost4 (m : (ℓ : Loc nD τ sig) → Buf (Elt F) ℓ) (o : Outs (F := F))
    (hout : ∀ c : Dev nD, o 11 main_v777 c = (pdatsA m o 4 c).arrAt 3 cfg4.N) (c : Dev nD) :
    (R4 m o hout).post c ⊢ iprop(StableHlo.held (c : Thread nD τ) (Pipeline.ucRefs τ sig) (V11 m o c) ∗ E 5 c) := by
  show iprop(StableHlo.held (c : Thread nD τ) (Pipeline.arrRefs (τ := τ) spec4) (V11 m o c) ∗ (∃ r, prngReg c r)
    ∗ (StableHlo.held (c : Thread nD τ) ((Pipeline.ucRefs τ sig) \ Pipeline.arrRefs (τ := τ) spec4) (V10 m o c) ∗ emp) ∗ ∃ W, owes (c : Thread nD τ) (noDebt c) W) ⊢ _
  rw [StableHlo.held_sub_split (c : Thread nD τ) arr4_S (V11 m o c),
    StableHlo.held_congr (c : Thread nD τ) (S := (Pipeline.ucRefs τ sig) \ Pipeline.arrRefs (τ := τ) spec4) (rest4_eq m o c)]
  unfold E
  iintro ⟨Ha, Hp, ⟨Hr, Hx⟩, HO⟩
  isplitl [Ha Hr]; · isplitl [Ha] <;> iassumption
  isplitl [Hp]; · iexact Hp
  isplitl [HO]; · iexact HO
  iexact Hx

set_option backward.isDefEq.respectTransparency.types false in
/-- The sixth launch's record: its arrays held at `V12` in and at `V13` out. -/
def R5 (m : (ℓ : Loc nD τ sig) → Buf (Elt F) ℓ) (o : Outs (F := F))
    (hout : ∀ c : Dev nD, o 13 main_v824 c = (pdatsA m o 5 c).arrAt 3 cfg5.N) :
    RegionSeg (pcfgs (F := F)) adm (pdatsA m o) () defs₀ Variants.none lev lvl 5 :=
  Pipeline.RegionSeg.ofHeld (pcfgs (F := F)) adm (pdatsA m o) () defs₀ Variants.none lev lvl 5 noDebt
    (fun c => iprop(∃ r, prngReg c r)) (fun c => iprop(∃ r, prngReg c r))
    launch5.toP rfl
    (fun c => (K5.body_obligation (U := UR) (Lvl := ℕ) Variants.none (Ve5 m o) noDebt () c).loose) (fun _ _ => rfl) (fun _ => rfl)
    (fun c => (pdatsA m o 5 c).share_full fun _ => rfl) (fun _ => .rfl) (fun _ => .rfl) (fun _ => 0) (levelCut 5)
    (fun c => iprop(StableHlo.held (c : Thread nD τ) ((Pipeline.ucRefs τ sig) \ Pipeline.arrRefs (τ := τ) spec5) (V12 m o c) ∗ emp))
    (V12 m o) (V13 m o) (fun _ _ => rfl)
    (fun c => fun
      | 0 => ((pdatsA m o 5 c).arrAt_in 0 rfl _).trans ((K5.A_eq (U := UR) (Lvl := ℕ) Variants.none (Ve5 m o) noDebt c 0).trans (V13_of m o c (Pipeline.arrRef spec5 0) (by decide)).symm)
      | 1 => ((pdatsA m o 5 c).arrAt_in 1 rfl _).trans ((K5.A_eq (U := UR) (Lvl := ℕ) Variants.none (Ve5 m o) noDebt c 1).trans (V13_of m o c (Pipeline.arrRef spec5 1) (by decide)).symm)
      | 2 => ((pdatsA m o 5 c).arrAt_in 2 rfl _).trans ((K5.A_eq (U := UR) (Lvl := ℕ) Variants.none (Ve5 m o) noDebt c 2).trans (V13_of m o c (Pipeline.arrRef spec5 2) (by decide)).symm)
      | 3 => (hout c).symm.trans (V13_at_out m o c).symm
      | ⟨n + 4, h⟩ => absurd (show n + 4 < 4 from h) (by omega))

theorem hpre5 (m : (ℓ : Loc nD τ sig) → Buf (Elt F) ℓ) (o : Outs (F := F))
    (hout : ∀ c : Dev nD, o 13 main_v824 c = (pdatsA m o 5 c).arrAt 3 cfg5.N) (c : Dev nD) :
    iprop(StableHlo.held (c : Thread nD τ) (Pipeline.ucRefs τ sig) (V12 m o c) ∗ E 5 c) ⊢ (R5 m o hout).pre c := by
  show _ ⊢ iprop(StableHlo.held (c : Thread nD τ) (Pipeline.arrRefs (τ := τ) spec5) (V12 m o c) ∗ (∃ r, prngReg c r)
    ∗ (StableHlo.held (c : Thread nD τ) ((Pipeline.ucRefs τ sig) \ Pipeline.arrRefs (τ := τ) spec5) (V12 m o c) ∗ emp) ∗ ∃ W, owes (c : Thread nD τ) (noDebt c) W)
  rw [StableHlo.held_sub_split (c : Thread nD τ) arr5_S (V12 m o c)]
  unfold E
  iintro ⟨⟨Ha, Hr⟩, ⟨Hp, HO, Hx⟩⟩
  isplitl [Ha]; · iexact Ha
  isplitl [Hp]; · iexact Hp
  isplitl [Hr Hx]; · isplitl [Hr] <;> iassumption
  iexact HO

theorem hpost5 (m : (ℓ : Loc nD τ sig) → Buf (Elt F) ℓ) (o : Outs (F := F))
    (hout : ∀ c : Dev nD, o 13 main_v824 c = (pdatsA m o 5 c).arrAt 3 cfg5.N) (c : Dev nD) :
    (R5 m o hout).post c ⊢ iprop(StableHlo.held (c : Thread nD τ) (Pipeline.ucRefs τ sig) (V13 m o c) ∗ E 6 c) := by
  show iprop(StableHlo.held (c : Thread nD τ) (Pipeline.arrRefs (τ := τ) spec5) (V13 m o c) ∗ (∃ r, prngReg c r)
    ∗ (StableHlo.held (c : Thread nD τ) ((Pipeline.ucRefs τ sig) \ Pipeline.arrRefs (τ := τ) spec5) (V12 m o c) ∗ emp) ∗ ∃ W, owes (c : Thread nD τ) (noDebt c) W) ⊢ _
  rw [StableHlo.held_sub_split (c : Thread nD τ) arr5_S (V13 m o c),
    StableHlo.held_congr (c : Thread nD τ) (S := (Pipeline.ucRefs τ sig) \ Pipeline.arrRefs (τ := τ) spec5) (rest5_eq m o c)]
  unfold E
  iintro ⟨Ha, Hp, ⟨Hr, Hx⟩, HO⟩
  isplitl [Ha Hr]; · isplitl [Ha] <;> iassumption
  isplitl [Hp]; · iexact Hp
  isplitl [HO]; · iexact HO
  iexact Hx

/-! ## What the launches leave, one after the other -/

/-- `o` with what launch item `k` leaves in its array `r` replaced by `v`. -/
def put (o : Outs (F := F)) (k : ℕ) (r : Ref sig .tc) (v : (c : Dev nD) → Buf (Elt F) ((c : Thread nD τ).loc r)) : Outs (F := F) :=
  Function.update o k (Function.update (o k) r v)

theorem put_self (o : Outs (F := F)) (k : ℕ) (r : Ref sig .tc) (v : (c : Dev nD) → Buf (Elt F) ((c : Thread nD τ).loc r)) :
    put o k r v k r = v := by simp only [put, Function.update_self]

theorem put_ne (o : Outs (F := F)) (k j : ℕ) (r : Ref sig .tc) (v : (c : Dev nD) → Buf (Elt F) ((c : Thread nD τ).loc r)) (h : j ≠ k) :
    put o k r v j = o j := by simp only [put, Function.update_of_ne h]

theorem put_ref_ne (o : Outs (F := F)) (k : ℕ) (r s : Ref sig .tc) (v : (c : Dev nD) → Buf (Elt F) ((c : Thread nD τ).loc r)) (h : s ≠ r) :
    put o k r v k s = o k s := by simp only [put, Function.update_self, Function.update_of_ne h]

section

variable (m : (ℓ : Loc nD τ sig) → Buf (Elt F) ℓ)

def outs0 : Outs (F := F) := fun _ r c => m ((c : Thread nD τ).loc r)
def outs1 : Outs (F := F) := put (outs0 m) 4 main_v715 fun c => (pdats m (outs0 m) 0 c).arrAt 3 cfg0.N
def outs2 : Outs (F := F) := put (outs1 m) 6 main_v720 fun c => (pdats m (outs1 m) 1 c).arrAt 3 cfg1.N
def outs3 : Outs (F := F) := put (outs2 m) 8 main_v725 fun c => (pdats m (outs2 m) 2 c).arrAt 3 cfg2.N
def outs4 : Outs (F := F) := put (put (outs3 m) 9 main_v726_0 fun c => (pdats m (outs3 m) 3 c).arrAt 2 cfg3.N)
  9 main_v726_1 fun c => (pdats m (outs3 m) 3 c).arrAt 3 cfg3.N
def outs5 : Outs (F := F) := put (outs4 m) 11 main_v777 fun c => (pdats m (outs4 m) 4 c).arrAt 3 cfg4.N
def outs6 : Outs (F := F) := put (outs5 m) 13 main_v824 fun c => (pdats m (outs5 m) 5 c).arrAt 3 cfg5.N
/-- What every launch leaves. -/
def outs : Outs (F := F) := put (outs6 m) 15 main_v1599 fun c => (pdats m (outs6 m) 6 c).arrAt 3 cfg6.N

/-! A valuation depends only on what the launches before it left. -/

variable {m}

theorem V4_congr {o o' : Outs (F := F)} (h4 : o 4 = o' 4) (c : Dev nD) : V4 m o c = V4 m o' c := by simp only [V4, h4]
theorem V5_congr {o o' : Outs (F := F)} (h4 : o 4 = o' 4) (c : Dev nD) : V5 m o c = V5 m o' c := by
  simp only [V5, V4_congr (m := m) h4]
theorem V6_congr {o o' : Outs (F := F)} (h4 : o 4 = o' 4) (h6 : o 6 = o' 6) (c : Dev nD) : V6 m o c = V6 m o' c := by
  simp only [V6, V5_congr (m := m) h4, h6]
theorem V7_congr {o o' : Outs (F := F)} (h4 : o 4 = o' 4) (h6 : o 6 = o' 6) (c : Dev nD) : V7 m o c = V7 m o' c := by
  simp only [V7, V6_congr (m := m) h4 h6]
theorem V8_congr {o o' : Outs (F := F)} (h4 : o 4 = o' 4) (h6 : o 6 = o' 6) (h8 : o 8 = o' 8) (c : Dev nD) : V8 m o c = V8 m o' c := by
  simp only [V8, V7_congr (m := m) h4 h6, h8]
theorem V9_congr {o o' : Outs (F := F)} (h4 : o 4 = o' 4) (h6 : o 6 = o' 6) (h8 : o 8 = o' 8) (h9 : o 9 = o' 9) (c : Dev nD) : V9 m o c = V9 m o' c := by
  simp only [V9, V8_congr (m := m) h4 h6 h8, h9]
theorem V10_congr {o o' : Outs (F := F)} (h4 : o 4 = o' 4) (h6 : o 6 = o' 6) (h8 : o 8 = o' 8) (h9 : o 9 = o' 9) (c : Dev nD) : V10 m o c = V10 m o' c := by
  simp only [V10, V9_congr (m := m) h4 h6 h8 h9]
theorem V11_congr {o o' : Outs (F := F)} (h4 : o 4 = o' 4) (h6 : o 6 = o' 6) (h8 : o 8 = o' 8) (h9 : o 9 = o' 9) (h11 : o 11 = o' 11) (c : Dev nD) : V11 m o c = V11 m o' c := by
  simp only [V11, V10_congr (m := m) h4 h6 h8 h9, h11]
theorem V12_congr {o o' : Outs (F := F)} (h4 : o 4 = o' 4) (h6 : o 6 = o' 6) (h8 : o 8 = o' 8) (h9 : o 9 = o' 9) (h11 : o 11 = o' 11) (c : Dev nD) : V12 m o c = V12 m o' c := by
  simp only [V12, V11_congr (m := m) h4 h6 h8 h9 h11]
theorem V13_congr {o o' : Outs (F := F)} (h4 : o 4 = o' 4) (h6 : o 6 = o' 6) (h8 : o 8 = o' 8) (h9 : o 9 = o' 9) (h11 : o 11 = o' 11) (h13 : o 13 = o' 13) (c : Dev nD) : V13 m o c = V13 m o' c := by
  simp only [V13, V12_congr (m := m) h4 h6 h8 h9 h11, h13]
theorem V14_congr {o o' : Outs (F := F)} (h4 : o 4 = o' 4) (h6 : o 6 = o' 6) (h8 : o 8 = o' 8) (h9 : o 9 = o' 9) (h11 : o 11 = o' 11) (h13 : o 13 = o' 13) (c : Dev nD) : V14 m o c = V14 m o' c := by
  simp only [V14, V13_congr (m := m) h4 h6 h8 h9 h11 h13]

variable (m)

theorem outs_of_outs6 {j : ℕ} (h : j ≠ 15) : outs m j = outs6 m j := put_ne _ _ _ _ _ h
theorem outs_of_outs5 {j : ℕ} (h : j ≠ 15) (h' : j ≠ 13) : outs m j = outs5 m j := (outs_of_outs6 m h).trans (put_ne _ _ _ _ _ h')
theorem outs_of_outs4 {j : ℕ} (h : j ≠ 15) (h' : j ≠ 13) (h'' : j ≠ 11) : outs m j = outs4 m j :=
  (outs_of_outs5 m h h').trans (put_ne _ _ _ _ _ h'')
theorem outs_of_outs3 {j : ℕ} (h : j < 9) : outs m j = outs3 m j :=
  (outs_of_outs4 m (by omega) (by omega) (by omega)).trans
    ((put_ne _ _ _ _ _ (by omega)).trans (put_ne _ _ _ _ _ (by omega)))
theorem outs_of_outs2 {j : ℕ} (h : j < 8) : outs m j = outs2 m j := (outs_of_outs3 m (by omega)).trans (put_ne _ _ _ _ _ (by omega))
theorem outs_of_outs1 {j : ℕ} (h : j < 6) : outs m j = outs1 m j := (outs_of_outs2 m (by omega)).trans (put_ne _ _ _ _ _ (by omega))

/-! Each launch leaves what its own proof data say, entered from the valuation before it. -/

theorem out0 (c : Dev nD) : outs m 4 main_v715 c = (pdats m (outs m) 0 c).arrAt 3 cfg0.N := by
  rw [outs_of_outs1 m (by omega)]; exact congrFun (put_self _ _ _ _) c

theorem out1 (c : Dev nD) : outs m 6 main_v720 c = (pdats m (outs m) 1 c).arrAt 3 cfg1.N := by
  have hV : Ve1 m (outs1 m) = Ve1 m (outs m) := funext fun c => funext fun b =>
    congrFun (V5_congr (outs_of_outs1 m (by omega)).symm c) _
  rw [outs_of_outs2 m (by omega), show (pdats m (outs m) 1 c) = K1.dat Variants.none (Ve1 m (outs m)) noDebt c from rfl, ← hV]
  exact congrFun (put_self _ _ _ _) c

theorem out2 (c : Dev nD) : outs m 8 main_v725 c = (pdats m (outs m) 2 c).arrAt 3 cfg2.N := by
  have hV : Ve2 m (outs2 m) = Ve2 m (outs m) := funext fun c => funext fun b =>
    congrFun (V7_congr (outs_of_outs2 m (by omega)).symm (outs_of_outs2 m (by omega)).symm c) _
  rw [outs_of_outs3 m (by omega), show (pdats m (outs m) 2 c) = K2.dat Variants.none (Ve2 m (outs m)) noDebt c from rfl, ← hV]
  exact congrFun (put_self _ _ _ _) c

theorem entry3 : Ve3 m (outs3 m) = Ve3 m (outs m) := funext fun c => funext fun b =>
  congrFun (V8_congr (outs_of_outs3 m (by omega)).symm (outs_of_outs3 m (by omega)).symm (outs_of_outs3 m (by omega)).symm c) _

theorem out3q (c : Dev nD) : outs m 9 main_v726_0 c = (pdats m (outs m) 3 c).arrAt 2 cfg3.N := by
  rw [outs_of_outs4 m (by omega) (by omega) (by omega), show (pdats m (outs m) 3 c) = K3.dat Variants.none (Ve3 m (outs m)) noDebt c from rfl, ← entry3]
  refine (congrFun (put_ref_ne _ _ _ _ _ (by decide)) c).trans ?_
  exact congrFun (put_self _ _ _ _) c

theorem out3p (c : Dev nD) : outs m 9 main_v726_1 c = (pdats m (outs m) 3 c).arrAt 3 cfg3.N := by
  rw [outs_of_outs4 m (by omega) (by omega) (by omega), show (pdats m (outs m) 3 c) = K3.dat Variants.none (Ve3 m (outs m)) noDebt c from rfl, ← entry3]
  exact congrFun (put_self _ _ _ _) c

theorem out4 (c : Dev nD) : outs m 11 main_v777 c = (pdats m (outs m) 4 c).arrAt 3 cfg4.N := by
  have e : ∀ j, j < 11 → outs4 m j = outs m j := fun j hj => (outs_of_outs4 m (by omega) (by omega) (by omega)).symm
  have hV : Ve4 m (outs4 m) = Ve4 m (outs m) := funext fun c => funext fun b =>
    congrFun (V10_congr (e 4 (by omega)) (e 6 (by omega)) (e 8 (by omega)) (e 9 (by omega)) c) _
  rw [outs_of_outs5 m (by omega) (by omega), show (pdats m (outs m) 4 c) = K4.dat Variants.none (Ve4 m (outs m)) noDebt c from rfl, ← hV]
  exact congrFun (put_self _ _ _ _) c

theorem out5 (c : Dev nD) : outs m 13 main_v824 c = (pdats m (outs m) 5 c).arrAt 3 cfg5.N := by
  have e : ∀ j, j < 13 → outs5 m j = outs m j := fun j hj => (outs_of_outs5 m (by omega) (by omega)).symm
  have hV : Ve5 m (outs5 m) = Ve5 m (outs m) := funext fun c => funext fun b =>
    congrFun (V12_congr (e 4 (by omega)) (e 6 (by omega)) (e 8 (by omega)) (e 9 (by omega)) (e 11 (by omega)) c) _
  rw [outs_of_outs6 m (by omega), show (pdats m (outs m) 5 c) = K5.dat Variants.none (Ve5 m (outs m)) noDebt c from rfl, ← hV]
  exact congrFun (put_self _ _ _ _) c

theorem out6 (c : Dev nD) : outs m 15 main_v1599 c = (pdats m (outs m) 6 c).arrAt 3 cfg6.N := by
  have e : ∀ j, j < 15 → outs6 m j = outs m j := fun j hj => (outs_of_outs6 m (by omega)).symm
  have hV : Ve6 m (outs6 m) = Ve6 m (outs m) := funext fun c => funext fun b =>
    congrFun (V14_congr (e 4 (by omega)) (e 6 (by omega)) (e 8 (by omega)) (e 9 (by omega)) (e 11 (by omega)) (e 13 (by omega)) c) _
  rw [show (pdats m (outs m) 6 c) = K6.dat Variants.none (Ve6 m (outs m)) noDebt c from rfl, ← hV]
  exact congrFun (put_self _ _ _ _) c

/-! ## The run -/

theorem launchRes : (ownU (initOf (Pipeline.cells cfgs cellOf_inj) (Pipeline.launchToks cfgs cellOf_inj)) : sProp (MT nD τ sig Unit (Elt F) ℕ UR ℕ))
    ⊢ |={Set.univ}=> iprop(BI.own (emb₁ (initOf (Pipeline.cells cfgs cellOf_inj) (Pipeline.launchToks cfgs cellOf_inj))) ∗ bigSep Finset.univ fun _ : Dev nD => iprop(emp)) := by
  iintro Hu
  imodintro
  isplitl [Hu]
  · iapply (show (ownU (initOf (Pipeline.cells cfgs cellOf_inj) (Pipeline.launchToks cfgs cellOf_inj)) : sProp (MT nD τ sig Unit (Elt F) ℕ UR ℕ))
      ⊢ BI.own (emb₁ (initOf (Pipeline.cells cfgs cellOf_inj) (Pipeline.launchToks cfgs cellOf_inj))) from .rfl)
    iexact Hu
  · iapply (show (iprop(emp) : sProp (MT nD τ sig Unit (Elt F) ℕ UR ℕ)) ⊢ bigSep Finset.univ fun _ : Dev nD => iprop(emp) from
      (by rw [BI.bigSep_emp_const] : (BI.emp : sProp (MT nD τ sig Unit (Elt F) ℕ UR ℕ)) ⊢ bigSep Finset.univ fun _ : Dev nD => (BI.emp : sProp (MT nD τ sig Unit (Elt F) ℕ UR ℕ))))
    iempintro

theorem launchRest (ρ : Dev nD → PrngReg) :
    iprop((bigSep Finset.univ fun c : Dev nD => iprop(unscopedSems0 c ∗ owes (c : Thread nD τ) (noDebt c) ∅ ∗ Pipeline.launchCred noDebt c ∗ prngReg c (ρ c) ∗ emp)) ∗ levAts lev lvl)
      ⊢ (|={Set.univ}=> bigSep Finset.univ (E 0) : sProp (MT nD τ sig Unit (Elt F) ℕ UR ℕ)) :=
  Pipeline.initEach lev lvl fun c => by
    unfold E
    iintro ⟨⟨-, HO, -, Hp, -⟩, -⟩
    imodintro
    isplitl [Hp]; · iexists (ρ c); iexact Hp
    isplitl [HO]; · iexists ∅; iexact HO
    iempintro

set_option backward.isDefEq.respectTransparency.types false in
/-- From any memory with zero counters the program terminates; at the end each of its own buffers holds what the last
    valuation says, and every semaphore counter is zero. -/
theorem run_whole (ρ : Dev nD → PrngReg) :
    θ_run defs (onTc (τ := τ) (main (F := F))) ⟨m, fun _ => 0, ρ⟩ (fun r =>
      (∀ c : Dev nD, ∀ b ∈ Pipeline.ucRefs τ sig, r.2.mem ((c : Thread nD τ).1, b) = V16 m (outs m) c b) ∧ r.2.sem = fun _ => 0) := by
  have hE : ∀ (i j : Fin 8) (c : Dev nD), (E i c : sProp (MT nD τ sig Unit (Elt F) ℕ UR ℕ)) ⊢ iprop((∃ r, prngReg c r) ∗ (∃ W, owes (c : Thread nD τ) (noDebt c) W) ∗ emp) := fun i j c => .rfl
  have hE' : ∀ (j : Fin 8) (c : Dev nD), iprop((∃ r, prngReg c r) ∗ (∃ W, owes (c : Thread nD τ) (noDebt c) W) ∗ emp) ⊢ (E j c : sProp (MT nD τ sig Unit (Elt F) ℕ UR ℕ)) := fun j c => .rfl
  have hpre0 := fun c => hpre0D m (outs m) Variants.none lev lvl () (pdats m (outs m)) noDebt noDebt noDebt noDebt noDebt (fun _ => 0) (levelCut 0) E (fun _ => iprop(emp)) (hE 0 0) (out0 m) c
  have hpost0 := fun c => hpost0D m (outs m) Variants.none lev lvl () (pdats m (outs m)) noDebt noDebt noDebt noDebt noDebt (fun _ => 0) (levelCut 0) E (fun _ => iprop(emp)) (hE' 1) (out0 m) c
  have hpre1 := fun c => hpre1D m (outs m) Variants.none lev lvl () (pdats m (outs m)) noDebt noDebt noDebt noDebt noDebt (fun _ => 0) (levelCut 1) E (fun _ => iprop(emp)) (hE 1 0) (out1 m) c
  have hpost1 := fun c => hpost1D m (outs m) Variants.none lev lvl () (pdats m (outs m)) noDebt noDebt noDebt noDebt noDebt (fun _ => 0) (levelCut 1) E (fun _ => iprop(emp)) (hE' 2) (out1 m) c
  have hpre2 := fun c => hpre2D m (outs m) Variants.none lev lvl () (pdats m (outs m)) noDebt noDebt noDebt noDebt noDebt (fun _ => 0) (levelCut 2) E (fun _ => iprop(emp)) (hE 2 0) (out2 m) c
  have hpost2 := fun c => hpost2D m (outs m) Variants.none lev lvl () (pdats m (outs m)) noDebt noDebt noDebt noDebt noDebt (fun _ => 0) (levelCut 2) E (fun _ => iprop(emp)) (hE' 3) (out2 m) c
  have hpre3 := fun c => hpre3D m (outs m) Variants.none lev lvl () (pdats m (outs m)) noDebt noDebt noDebt noDebt noDebt (fun _ => 0) (levelCut 3) E (fun _ => iprop(emp)) (hE 3 0) (out3q m) (out3p m) c
  have hpost3 := fun c => hpost3D m (outs m) Variants.none lev lvl () (pdats m (outs m)) noDebt noDebt noDebt noDebt noDebt (fun _ => 0) (levelCut 3) E (fun _ => iprop(emp)) (hE' 4) (out3q m) (out3p m) c
  have hpre6 := fun c => hpre6D m (outs m) Variants.none lev lvl () (pdats m (outs m)) noDebt noDebt noDebt noDebt noDebt (fun _ => 0) (levelCut 6) E (fun _ => iprop(emp)) (hE 6 0) (out6 m) c
  have hpost6 := fun c => hpost6D m (outs m) Variants.none lev lvl () (pdats m (outs m)) noDebt noDebt noDebt noDebt noDebt (fun _ => 0) (levelCut 6) E (fun _ => iprop(emp)) (hE' 7) (out6 m) c
  refine Pipeline.θ_run_regions_kit_dev_sems (pcfgs (F := F)) adm (pdatsA m (outs m)) () cellOf_inj emb₁ defs₀ Variants.none lev lvl m ρ main
    (segs m (outs m) Variants.none lev lvl E () (pdatsA m (outs m)) _ _ _ _ (R4 m (outs m) (out4 m)) (R5 m (outs m) (out5 m)) _)
    (fun c Q => by
      rewrite [main_chain c, Seg.run_eq_chain,
        show (segs m (outs m) Variants.none lev lvl E () (pdatsA m (outs m)) _ _ _ _ (R4 m (outs m) (out4 m)) (R5 m (outs m) (out5 m)) _ c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7 ] from rfl]
      dsimp (config := { failIfUnchanged := false }) only
      exact .rfl)
    (fun c => by simp only [segs, Seg.pipes_host, Seg.pipes_region, Seg.pipes_nil]; decide) noDebt
    (fun g hg => if_neg hg) (fun _ => iprop(emp)) (initOf (Pipeline.cells cfgs cellOf_inj) (Pipeline.launchToks cfgs cellOf_inj)) launchRes
    (T₀ := fun c => iprop(StableHlo.held (c : Thread nD τ) (Pipeline.ucRefs τ sig) (V0 m c) ∗ E 0 c))
    (Tₙ := fun c => StableHlo.held (c : Thread nD τ) (Pipeline.ucRefs τ sig) (V16 m (outs m) c))
    (hch := fun c => ⟨.rfl, .rfl, .rfl, hpre0 c, hpost0 c, hpre1 c, hpost1 c, hpre2 c, (hpost2 c).trans (hpre3 c), hpost3 c,
      hpre4 m (outs m) (out4 m) c, hpost4 m (outs m) (out4 m) c, hpre5 m (outs m) (out5 m) c, hpost5 m (outs m) (out5 m) c, hpre6 c, hpost6 c, sep_mono .rfl ?_⟩)
    (hinit := ?_) (QY := fun c s => ∀ b ∈ Pipeline.ucRefs τ sig, s.mem ((c : Thread nD τ).1, b) = V16 m (outs m) c b)
    (hfin := fun c s' => ?_) (hQ := fun _ h hz => ⟨h, funext fun g => hz g (.inr (regions_no_unscoped g.2))⟩)
  · unfold E
    iintro ⟨-, HO, -⟩
    iexact HO
  · have hsplit : (bigSep Finset.univ fun c : Dev nD => iprop(unscopedBufs c (fun b => m ((c.tc : Thread nD τ).loc b)) ∗ unscopedSems0 c
          ∗ owes (c.tc : Thread nD τ) (noDebt c) ∅ ∗ Pipeline.launchCred noDebt c ∗ prngReg c (ρ c) ∗ emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (noDebt c) ∅ ∗ Pipeline.launchCred noDebt c ∗ prngReg c (ρ c) ∗ emp))
            : sProp (MT nD τ sig Unit (Elt F) ℕ UR ℕ)) := by
      rw [← bigSep_sep']
      exact bigSep_mono fun c _ => by rw [← Pipeline.unscopedBufs_held (Ix := Unit) (Name := ℕ) (U := UR) (Lvl := ℕ) c (V0 m c)]; exact BI.Entails.refl _
    iintro ⟨H, Hla⟩
    ihave H' := hsplit $$ H
    icases H' with ⟨Hh, Hr⟩
    imod (launchRest ρ) $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V16 m (outs m) c) s') $$ [Hh HSI]
    · isplitl [Hh] <;> iassumption
    icases Hr with ⟨%h, HSI⟩
    imodintro
    isplitr
    · ipureintro; exact h
    · iexact HSI

/-- An argument ends unchanged: it is one of the program's own buffers and no item writes it. -/
theorem arg_kept {s : MemSt nD τ sig (Elt F)} {c : Dev nD}
    (h : ∀ b ∈ Pipeline.ucRefs τ sig, s.mem ((c : Thread nD τ).1, b) = V16 m (outs m) c b) {r : Ref sig .tc}
    (hu : Proc.devRef .tc r ∈ Pipeline.ucRefs τ sig)
    (hr : V16 m (outs m) c (Proc.devRef .tc r) = m ((c : Thread nD τ).loc r)) :
    s.mem ((c.tc : Thread nD τ).loc r) = m ((c.tc : Thread nD τ).loc r) := (h _ hu).trans hr

/-- The fourteen arguments end unchanged. -/
theorem args_kept {s : MemSt nD τ sig (Elt F)} {c : Dev nD}
    (h : ∀ b ∈ Pipeline.ucRefs τ sig, s.mem ((c : Thread nD τ).1, b) = V16 m (outs m) c b) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13) :=
  ⟨arg_kept m h (Finset.mem_filter.mpr ⟨StableHlo.devRef_mem_tcRefs main_arg0, by decide⟩) (V16_main_arg0 m (outs m) c),
    arg_kept m h (Finset.mem_filter.mpr ⟨StableHlo.devRef_mem_tcRefs main_arg1, by decide⟩) (V16_main_arg1 m (outs m) c),
    arg_kept m h (Finset.mem_filter.mpr ⟨StableHlo.devRef_mem_tcRefs main_arg2, by decide⟩) (V16_main_arg2 m (outs m) c),
    arg_kept m h (Finset.mem_filter.mpr ⟨StableHlo.devRef_mem_tcRefs main_arg3, by decide⟩) (V16_main_arg3 m (outs m) c),
    arg_kept m h (Finset.mem_filter.mpr ⟨StableHlo.devRef_mem_tcRefs main_arg4, by decide⟩) (V16_main_arg4 m (outs m) c),
    arg_kept m h (Finset.mem_filter.mpr ⟨StableHlo.devRef_mem_tcRefs main_arg5, by decide⟩) (V16_main_arg5 m (outs m) c),
    arg_kept m h (Finset.mem_filter.mpr ⟨StableHlo.devRef_mem_tcRefs main_arg6, by decide⟩) (V16_main_arg6 m (outs m) c),
    arg_kept m h (Finset.mem_filter.mpr ⟨StableHlo.devRef_mem_tcRefs main_arg7, by decide⟩) (V16_main_arg7 m (outs m) c),
    arg_kept m h (Finset.mem_filter.mpr ⟨StableHlo.devRef_mem_tcRefs main_arg8, by decide⟩) (V16_main_arg8 m (outs m) c),
    arg_kept m h (Finset.mem_filter.mpr ⟨StableHlo.devRef_mem_tcRefs main_arg9, by decide⟩) (V16_main_arg9 m (outs m) c),
    arg_kept m h (Finset.mem_filter.mpr ⟨StableHlo.devRef_mem_tcRefs main_arg10, by decide⟩) (V16_main_arg10 m (outs m) c),
    arg_kept m h (Finset.mem_filter.mpr ⟨StableHlo.devRef_mem_tcRefs main_arg11, by decide⟩) (V16_main_arg11 m (outs m) c),
    arg_kept m h (Finset.mem_filter.mpr ⟨StableHlo.devRef_mem_tcRefs main_arg12, by decide⟩) (V16_main_arg12 m (outs m) c),
    arg_kept m h (Finset.mem_filter.mpr ⟨StableHlo.devRef_mem_tcRefs main_arg13, by decide⟩) (V16_main_arg13 m (outs m) c)⟩

/-- The program terminates with its arguments unchanged and every counter at zero. -/
theorem frame_whole (ρ : Dev nD → PrngReg) :
    θ_run defs (onTc (τ := τ) (main (F := F))) ⟨m, fun _ => 0, ρ⟩ (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) ∧ r.2.sem = fun _ => 0) :=
  (θ_run defs _ _).mono (fun r h => ⟨fun c => args_kept m (h.1 c), h.2⟩) (run_whole m ρ)

end

end Cert.KernelIdeal.Own

end
-- ==== Proof.RefOps.lean ====
/- The reference program as a list of its host operations, and the term each shared intermediate value is of the
   launch contents. -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v9`, named. It packs its operands into a list of dependent pairs
    whose shapes a later argument's type mentions, so `simp` cannot rewrite an operand where it stands; applied by
    name, the operands are plain arguments, which the window lemmas below rewrite before the name unfolds. -/
def fn_main_v9 : (main_v5 : Ref sig .tc).ty.Contents (Elt F) → (main_v6 : Ref sig .tc).ty.Contents (Elt F) → (main_v7 : Ref sig .tc).ty.Contents (Elt F) → (main_v8 : Ref sig .tc).ty.Contents (Elt F) → (main_v9 : Ref sig .tc).ty.Contents (Elt F) :=
  (fun u0 u1 u2 u3 => (concatenate S16x3x4x112x226 2 [⟨S16x3x1x112x226, (u0 : (⟨S16x3x1x112x226, .f32⟩ : BufTy).Contents (Elt F))⟩, ⟨S16x3x1x112x226, (u1 : (⟨S16x3x1x112x226, .f32⟩ : BufTy).Contents (Elt F))⟩, ⟨S16x3x1x112x226, (u2 : (⟨S16x3x1x112x226, .f32⟩ : BufTy).Contents (Elt F))⟩, ⟨S16x3x1x112x226, (u3 : (⟨S16x3x1x112x226, .f32⟩ : BufTy).Contents (Elt F))⟩] concatenates_S16x3x1x112x226_S16x3x1x112x226_S16x3x1x112x226_S16x3x1x112x226_S16x3x4x112x226_d2 : (⟨S16x3x4x112x226, .f32⟩ : BufTy).Contents (Elt F)))

/-- The function of the operation that writes `main_v18`, named. It packs its operands into a list of dependent pairs
    whose shapes a later argument's type mentions, so `simp` cannot rewrite an operand where it stands; applied by
    name, the operands are plain arguments, which the window lemmas below rewrite before the name unfolds. -/
def fn_main_v18 : (main_v14 : Ref sig .tc).ty.Contents (Elt F) → (main_v15 : Ref sig .tc).ty.Contents (Elt F) → (main_v16 : Ref sig .tc).ty.Contents (Elt F) → (main_v17 : Ref sig .tc).ty.Contents (Elt F) → (main_v18 : Ref sig .tc).ty.Contents (Elt F) :=
  (fun u0 u1 u2 u3 => (concatenate S16x3x4x4x112x112 3 [⟨S16x3x4x1x112x112, (u0 : (⟨S16x3x4x1x112x112, .f32⟩ : BufTy).Contents (Elt F))⟩, ⟨S16x3x4x1x112x112, (u1 : (⟨S16x3x4x1x112x112, .f32⟩ : BufTy).Contents (Elt F))⟩, ⟨S16x3x4x1x112x112, (u2 : (⟨S16x3x4x1x112x112, .f32⟩ : BufTy).Contents (Elt F))⟩, ⟨S16x3x4x1x112x112, (u3 : (⟨S16x3x4x1x112x112, .f32⟩ : BufTy).Contents (Elt F))⟩] concatenates_S16x3x4x1x112x112_S16x3x4x1x112x112_S16x3x4x1x112x112_S16x3x4x1x112x112_S16x3x4x4x112x112_d3 : (⟨S16x3x4x4x112x112, .f32⟩ : BufTy).Contents (Elt F)))

/-- The function of the operation that writes `main_v34`, named. It packs its operands into a list of dependent pairs
    whose shapes a later argument's type mentions, so `simp` cannot rewrite an operand where it stands; applied by
    name, the operands are plain arguments, which the window lemmas below rewrite before the name unfolds. -/
def fn_main_v34 : (main_v30 : Ref sig .tc).ty.Contents (Elt F) → (main_v31 : Ref sig .tc).ty.Contents (Elt F) → (main_v32 : Ref sig .tc).ty.Contents (Elt F) → (main_v33 : Ref sig .tc).ty.Contents (Elt F) → (main_v34 : Ref sig .tc).ty.Contents (Elt F) :=
  (fun u0 u1 u2 u3 => (concatenate S16x32x4x56x114 2 [⟨S16x32x1x56x114, (u0 : (⟨S16x32x1x56x114, .f32⟩ : BufTy).Contents (Elt F))⟩, ⟨S16x32x1x56x114, (u1 : (⟨S16x32x1x56x114, .f32⟩ : BufTy).Contents (Elt F))⟩, ⟨S16x32x1x56x114, (u2 : (⟨S16x32x1x56x114, .f32⟩ : BufTy).Contents (Elt F))⟩, ⟨S16x32x1x56x114, (u3 : (⟨S16x32x1x56x114, .f32⟩ : BufTy).Contents (Elt F))⟩] concatenates_S16x32x1x56x114_S16x32x1x56x114_S16x32x1x56x114_S16x32x1x56x114_S16x32x4x56x114_d2 : (⟨S16x32x4x56x114, .f32⟩ : BufTy).Contents (Elt F)))

/-- The function of the operation that writes `main_v43`, named. It packs its operands into a list of dependent pairs
    whose shapes a later argument's type mentions, so `simp` cannot rewrite an operand where it stands; applied by
    name, the operands are plain arguments, which the window lemmas below rewrite before the name unfolds. -/
def fn_main_v43 : (main_v39 : Ref sig .tc).ty.Contents (Elt F) → (main_v40 : Ref sig .tc).ty.Contents (Elt F) → (main_v41 : Ref sig .tc).ty.Contents (Elt F) → (main_v42 : Ref sig .tc).ty.Contents (Elt F) → (main_v43 : Ref sig .tc).ty.Contents (Elt F) :=
  (fun u0 u1 u2 u3 => (concatenate S16x32x4x4x56x56 3 [⟨S16x32x4x1x56x56, (u0 : (⟨S16x32x4x1x56x56, .f32⟩ : BufTy).Contents (Elt F))⟩, ⟨S16x32x4x1x56x56, (u1 : (⟨S16x32x4x1x56x56, .f32⟩ : BufTy).Contents (Elt F))⟩, ⟨S16x32x4x1x56x56, (u2 : (⟨S16x32x4x1x56x56, .f32⟩ : BufTy).Contents (Elt F))⟩, ⟨S16x32x4x1x56x56, (u3 : (⟨S16x32x4x1x56x56, .f32⟩ : BufTy).Contents (Elt F))⟩] concatenates_S16x32x4x1x56x56_S16x32x4x1x56x56_S16x32x4x1x56x56_S16x32x4x1x56x56_S16x32x4x4x56x56_d3 : (⟨S16x32x4x4x56x56, .f32⟩ : BufTy).Contents (Elt F)))

/-- The function of the operation that writes `main_v59`, named. It packs its operands into a list of dependent pairs
    whose shapes a later argument's type mentions, so `simp` cannot rewrite an operand where it stands; applied by
    name, the operands are plain arguments, which the window lemmas below rewrite before the name unfolds. -/
def fn_main_v59 : (main_v55 : Ref sig .tc).ty.Contents (Elt F) → (main_v56 : Ref sig .tc).ty.Contents (Elt F) → (main_v57 : Ref sig .tc).ty.Contents (Elt F) → (main_v58 : Ref sig .tc).ty.Contents (Elt F) → (main_v59 : Ref sig .tc).ty.Contents (Elt F) :=
  (fun u0 u1 u2 u3 => (concatenate S16x64x4x28x58 2 [⟨S16x64x1x28x58, (u0 : (⟨S16x64x1x28x58, .f32⟩ : BufTy).Contents (Elt F))⟩, ⟨S16x64x1x28x58, (u1 : (⟨S16x64x1x28x58, .f32⟩ : BufTy).Contents (Elt F))⟩, ⟨S16x64x1x28x58, (u2 : (⟨S16x64x1x28x58, .f32⟩ : BufTy).Contents (Elt F))⟩, ⟨S16x64x1x28x58, (u3 : (⟨S16x64x1x28x58, .f32⟩ : BufTy).Contents (Elt F))⟩] concatenates_S16x64x1x28x58_S16x64x1x28x58_S16x64x1x28x58_S16x64x1x28x58_S16x64x4x28x58_d2 : (⟨S16x64x4x28x58, .f32⟩ : BufTy).Contents (Elt F)))

/-- The function of the operation that writes `main_v68`, named. It packs its operands into a list of dependent pairs
    whose shapes a later argument's type mentions, so `simp` cannot rewrite an operand where it stands; applied by
    name, the operands are plain arguments, which the window lemmas below rewrite before the name unfolds. -/
def fn_main_v68 : (main_v64 : Ref sig .tc).ty.Contents (Elt F) → (main_v65 : Ref sig .tc).ty.Contents (Elt F) → (main_v66 : Ref sig .tc).ty.Contents (Elt F) → (main_v67 : Ref sig .tc).ty.Contents (Elt F) → (main_v68 : Ref sig .tc).ty.Contents (Elt F) :=
  (fun u0 u1 u2 u3 => (concatenate S16x64x4x4x28x28 3 [⟨S16x64x4x1x28x28, (u0 : (⟨S16x64x4x1x28x28, .f32⟩ : BufTy).Contents (Elt F))⟩, ⟨S16x64x4x1x28x28, (u1 : (⟨S16x64x4x1x28x28, .f32⟩ : BufTy).Contents (Elt F))⟩, ⟨S16x64x4x1x28x28, (u2 : (⟨S16x64x4x1x28x28, .f32⟩ : BufTy).Contents (Elt F))⟩, ⟨S16x64x4x1x28x28, (u3 : (⟨S16x64x4x1x28x28, .f32⟩ : BufTy).Contents (Elt F))⟩] concatenates_S16x64x4x1x28x28_S16x64x4x1x28x28_S16x64x4x1x28x28_S16x64x4x1x28x28_S16x64x4x4x28x28_d3 : (⟨S16x64x4x4x28x28, .f32⟩ : BufTy).Contents (Elt F)))

/-- The function of the operation that writes `main_v119`, named. It packs its operands into a list of dependent pairs
    whose shapes a later argument's type mentions, so `simp` cannot rewrite an operand where it stands; applied by
    name, the operands are plain arguments, which the window lemmas below rewrite before the name unfolds. -/
def fn_main_v119 : (main_v115 : Ref sig .tc).ty.Contents (Elt F) → (main_v116 : Ref sig .tc).ty.Contents (Elt F) → (main_v117 : Ref sig .tc).ty.Contents (Elt F) → (main_v118 : Ref sig .tc).ty.Contents (Elt F) → (main_v119 : Ref sig .tc).ty.Contents (Elt F) :=
  (fun u0 u1 u2 u3 => (concatenate S16x64x4x56x59 2 [⟨S16x64x1x56x59, (u0 : (⟨S16x64x1x56x59, .f32⟩ : BufTy).Contents (Elt F))⟩, ⟨S16x64x1x56x59, (u1 : (⟨S16x64x1x56x59, .f32⟩ : BufTy).Contents (Elt F))⟩, ⟨S16x64x1x56x59, (u2 : (⟨S16x64x1x56x59, .f32⟩ : BufTy).Contents (Elt F))⟩, ⟨S16x64x1x56x59, (u3 : (⟨S16x64x1x56x59, .f32⟩ : BufTy).Contents (Elt F))⟩] concatenates_S16x64x1x56x59_S16x64x1x56x59_S16x64x1x56x59_S16x64x1x56x59_S16x64x4x56x59_d2 : (⟨S16x64x4x56x59, .f32⟩ : BufTy).Contents (Elt F)))

/-- The function of the operation that writes `main_v128`, named. It packs its operands into a list of dependent pairs
    whose shapes a later argument's type mentions, so `simp` cannot rewrite an operand where it stands; applied by
    name, the operands are plain arguments, which the window lemmas below rewrite before the name unfolds. -/
def fn_main_v128 : (main_v124 : Ref sig .tc).ty.Contents (Elt F) → (main_v125 : Ref sig .tc).ty.Contents (Elt F) → (main_v126 : Ref sig .tc).ty.Contents (Elt F) → (main_v127 : Ref sig .tc).ty.Contents (Elt F) → (main_v128 : Ref sig .tc).ty.Contents (Elt F) :=
  (fun u0 u1 u2 u3 => (concatenate S16x64x4x4x56x56 3 [⟨S16x64x4x1x56x56, (u0 : (⟨S16x64x4x1x56x56, .f32⟩ : BufTy).Contents (Elt F))⟩, ⟨S16x64x4x1x56x56, (u1 : (⟨S16x64x4x1x56x56, .f32⟩ : BufTy).Contents (Elt F))⟩, ⟨S16x64x4x1x56x56, (u2 : (⟨S16x64x4x1x56x56, .f32⟩ : BufTy).Contents (Elt F))⟩, ⟨S16x64x4x1x56x56, (u3 : (⟨S16x64x4x1x56x56, .f32⟩ : BufTy).Contents (Elt F))⟩] concatenates_S16x64x4x1x56x56_S16x64x4x1x56x56_S16x64x4x1x56x56_S16x64x4x1x56x56_S16x64x4x4x56x56_d3 : (⟨S16x64x4x4x56x56, .f32⟩ : BufTy).Contents (Elt F)))

/-- The function of the operation that writes `main_v146`, named. It packs its operands into a list of dependent pairs
    whose shapes a later argument's type mentions, so `simp` cannot rewrite an operand where it stands; applied by
    name, the operands are plain arguments, which the window lemmas below rewrite before the name unfolds. -/
def fn_main_v146 : (main_v142 : Ref sig .tc).ty.Contents (Elt F) → (main_v143 : Ref sig .tc).ty.Contents (Elt F) → (main_v144 : Ref sig .tc).ty.Contents (Elt F) → (main_v145 : Ref sig .tc).ty.Contents (Elt F) → (main_v146 : Ref sig .tc).ty.Contents (Elt F) :=
  (fun u0 u1 u2 u3 => (concatenate S16x64x4x112x115 2 [⟨S16x64x1x112x115, (u0 : (⟨S16x64x1x112x115, .f32⟩ : BufTy).Contents (Elt F))⟩, ⟨S16x64x1x112x115, (u1 : (⟨S16x64x1x112x115, .f32⟩ : BufTy).Contents (Elt F))⟩, ⟨S16x64x1x112x115, (u2 : (⟨S16x64x1x112x115, .f32⟩ : BufTy).Contents (Elt F))⟩, ⟨S16x64x1x112x115, (u3 : (⟨S16x64x1x112x115, .f32⟩ : BufTy).Contents (Elt F))⟩] concatenates_S16x64x1x112x115_S16x64x1x112x115_S16x64x1x112x115_S16x64x1x112x115_S16x64x4x112x115_d2 : (⟨S16x64x4x112x115, .f32⟩ : BufTy).Contents (Elt F)))

/-- The function of the operation that writes `main_v155`, named. It packs its operands into a list of dependent pairs
    whose shapes a later argument's type mentions, so `simp` cannot rewrite an operand where it stands; applied by
    name, the operands are plain arguments, which the window lemmas below rewrite before the name unfolds. -/
def fn_main_v155 : (main_v151 : Ref sig .tc).ty.Contents (Elt F) → (main_v152 : Ref sig .tc).ty.Contents (Elt F) → (main_v153 : Ref sig .tc).ty.Contents (Elt F) → (main_v154 : Ref sig .tc).ty.Contents (Elt F) → (main_v155 : Ref sig .tc).ty.Contents (Elt F) :=
  (fun u0 u1 u2 u3 => (concatenate S16x64x4x4x112x112 3 [⟨S16x64x4x1x112x112, (u0 : (⟨S16x64x4x1x112x112, .f32⟩ : BufTy).Contents (Elt F))⟩, ⟨S16x64x4x1x112x112, (u1 : (⟨S16x64x4x1x112x112, .f32⟩ : BufTy).Contents (Elt F))⟩, ⟨S16x64x4x1x112x112, (u2 : (⟨S16x64x4x1x112x112, .f32⟩ : BufTy).Contents (Elt F))⟩, ⟨S16x64x4x1x112x112, (u3 : (⟨S16x64x4x1x112x112, .f32⟩ : BufTy).Contents (Elt F))⟩] concatenates_S16x64x4x1x112x112_S16x64x4x1x112x112_S16x64x4x1x112x112_S16x64x4x1x112x112_S16x64x4x4x112x112_d3 : (⟨S16x64x4x4x112x112, .f32⟩ : BufTy).Contents (Elt F)))

/-- The function of the operation that writes `main_v173`, named. It packs its operands into a list of dependent pairs
    whose shapes a later argument's type mentions, so `simp` cannot rewrite an operand where it stands; applied by
    name, the operands are plain arguments, which the window lemmas below rewrite before the name unfolds. -/
def fn_main_v173 : (main_v169 : Ref sig .tc).ty.Contents (Elt F) → (main_v170 : Ref sig .tc).ty.Contents (Elt F) → (main_v171 : Ref sig .tc).ty.Contents (Elt F) → (main_v172 : Ref sig .tc).ty.Contents (Elt F) → (main_v173 : Ref sig .tc).ty.Contents (Elt F) :=
  (fun u0 u1 u2 u3 => (concatenate S16x32x4x224x227 2 [⟨S16x32x1x224x227, (u0 : (⟨S16x32x1x224x227, .f32⟩ : BufTy).Contents (Elt F))⟩, ⟨S16x32x1x224x227, (u1 : (⟨S16x32x1x224x227, .f32⟩ : BufTy).Contents (Elt F))⟩, ⟨S16x32x1x224x227, (u2 : (⟨S16x32x1x224x227, .f32⟩ : BufTy).Contents (Elt F))⟩, ⟨S16x32x1x224x227, (u3 : (⟨S16x32x1x224x227, .f32⟩ : BufTy).Contents (Elt F))⟩] concatenates_S16x32x1x224x227_S16x32x1x224x227_S16x32x1x224x227_S16x32x1x224x227_S16x32x4x224x227_d2 : (⟨S16x32x4x224x227, .f32⟩ : BufTy).Contents (Elt F)))

/-- The function of the operation that writes `main_v182`, named. It packs its operands into a list of dependent pairs
    whose shapes a later argument's type mentions, so `simp` cannot rewrite an operand where it stands; applied by
    name, the operands are plain arguments, which the window lemmas below rewrite before the name unfolds. -/
def fn_main_v182 : (main_v178 : Ref sig .tc).ty.Contents (Elt F) → (main_v179 : Ref sig .tc).ty.Contents (Elt F) → (main_v180 : Ref sig .tc).ty.Contents (Elt F) → (main_v181 : Ref sig .tc).ty.Contents (Elt F) → (main_v182 : Ref sig .tc).ty.Contents (Elt F) :=
  (fun u0 u1 u2 u3 => (concatenate S16x32x4x4x224x224 3 [⟨S16x32x4x1x224x224, (u0 : (⟨S16x32x4x1x224x224, .f32⟩ : BufTy).Contents (Elt F))⟩, ⟨S16x32x4x1x224x224, (u1 : (⟨S16x32x4x1x224x224, .f32⟩ : BufTy).Contents (Elt F))⟩, ⟨S16x32x4x1x224x224, (u2 : (⟨S16x32x4x1x224x224, .f32⟩ : BufTy).Contents (Elt F))⟩, ⟨S16x32x4x1x224x224, (u3 : (⟨S16x32x4x1x224x224, .f32⟩ : BufTy).Contents (Elt F))⟩] concatenates_S16x32x4x1x224x224_S16x32x4x1x224x224_S16x32x4x1x224x224_S16x32x4x1x224x224_S16x32x4x4x224x224_d3 : (⟨S16x32x4x4x224x224, .f32⟩ : BufTy).Contents (Elt F)))

/-- @main's operations 1 … 30 of 225 (window `main_part0`). -/
abbrev ops_part0_0 : List (HloOp τ sig (Elt F)) :=
  [ nullary main_cst (constant S_ .f32 0x00000000#32),
    binary main_arg0 main_cst main_v0 ((fun x v => pad S16x3x226x226 ![0, 0, 1, 1] ![0, 0, 1, 1] ![0, 0, 0, 0] x v pads_S16x3x224x224_S16x3x226x226_000_000_110_110 h_S_) : (⟨S16x3x224x224, .f32⟩ : BufTy).Contents (Elt F) → (⟨S_, .f32⟩ : BufTy).Contents (Elt F) → (⟨S16x3x226x226, .f32⟩ : BufTy).Contents (Elt F)),
    unary main_v0 main_v1 ((Host.slice S16x3x112x226 ![0, 0, 0, 0] ![1, 1, 2, 1] · slicesBy_S16x3x226x226_S16x3x112x226_0s1_0s1_0s2_0s1) : (⟨S16x3x226x226, .f32⟩ : BufTy).Contents (Elt F) → (⟨S16x3x112x226, .f32⟩ : BufTy).Contents (Elt F)),
    unary main_v0 main_v2 ((Host.slice S16x3x112x226 ![0, 0, 1, 0] ![1, 1, 2, 1] · slicesBy_S16x3x226x226_S16x3x112x226_0s1_0s1_1s2_0s1) : (⟨S16x3x226x226, .f32⟩ : BufTy).Contents (Elt F) → (⟨S16x3x112x226, .f32⟩ : BufTy).Contents (Elt F)),
    unary main_v0 main_v3 ((Host.slice S16x3x112x226 ![0, 0, 2, 0] ![1, 1, 2, 1] · slicesBy_S16x3x226x226_S16x3x112x226_0s1_0s1_2s2_0s1) : (⟨S16x3x226x226, .f32⟩ : BufTy).Contents (Elt F) → (⟨S16x3x112x226, .f32⟩ : BufTy).Contents (Elt F)),
    unary main_v0 main_v4 ((Host.slice S16x3x112x226 ![0, 0, 3, 0] ![1, 1, 2, 1] · slicesBy_S16x3x226x226_S16x3x112x226_0s1_0s1_3s2_0s1) : (⟨S16x3x226x226, .f32⟩ : BufTy).Contents (Elt F) → (⟨S16x3x112x226, .f32⟩ : BufTy).Contents (Elt F)),
    unary main_v1 main_v5 (broadcastInDim S16x3x1x112x226 ![0, 1, 3, 4] bcast_S16x3x112x226_S16x3x1x112x226_0_1_3_4 : (⟨S16x3x112x226, .f32⟩ : BufTy).Contents (Elt F) → (⟨S16x3x1x112x226, .f32⟩ : BufTy).Contents (Elt F)),
    unary main_v2 main_v6 (broadcastInDim S16x3x1x112x226 ![0, 1, 3, 4] bcast_S16x3x112x226_S16x3x1x112x226_0_1_3_4 : (⟨S16x3x112x226, .f32⟩ : BufTy).Contents (Elt F) → (⟨S16x3x1x112x226, .f32⟩ : BufTy).Contents (Elt F)),
    unary main_v3 main_v7 (broadcastInDim S16x3x1x112x226 ![0, 1, 3, 4] bcast_S16x3x112x226_S16x3x1x112x226_0_1_3_4 : (⟨S16x3x112x226, .f32⟩ : BufTy).Contents (Elt F) → (⟨S16x3x1x112x226, .f32⟩ : BufTy).Contents (Elt F)),
    unary main_v4 main_v8 (broadcastInDim S16x3x1x112x226 ![0, 1, 3, 4] bcast_S16x3x112x226_S16x3x1x112x226_0_1_3_4 : (⟨S16x3x112x226, .f32⟩ : BufTy).Contents (Elt F) → (⟨S16x3x1x112x226, .f32⟩ : BufTy).Contents (Elt F)),
    nary ![main_v5, main_v6, main_v7, main_v8] main_v9 (fun u => fn_main_v9 (F := F) (u 0) (u 1) (u 2) (u 3)),
    unary main_v9 main_v10 ((Host.slice S16x3x4x112x112 ![0, 0, 0, 0, 0] ![1, 1, 1, 1, 2] · slicesBy_S16x3x4x112x226_S16x3x4x112x112_0s1_0s1_0s1_0s1_0s2) : (⟨S16x3x4x112x226, .f32⟩ : BufTy).Contents (Elt F) → (⟨S16x3x4x112x112, .f32⟩ : BufTy).Contents (Elt F)),
    unary main_v9 main_v11 ((Host.slice S16x3x4x112x112 ![0, 0, 0, 0, 1] ![1, 1, 1, 1, 2] · slicesBy_S16x3x4x112x226_S16x3x4x112x112_0s1_0s1_0s1_0s1_1s2) : (⟨S16x3x4x112x226, .f32⟩ : BufTy).Contents (Elt F) → (⟨S16x3x4x112x112, .f32⟩ : BufTy).Contents (Elt F)),
    unary main_v9 main_v12 ((Host.slice S16x3x4x112x112 ![0, 0, 0, 0, 2] ![1, 1, 1, 1, 2] · slicesBy_S16x3x4x112x226_S16x3x4x112x112_0s1_0s1_0s1_0s1_2s2) : (⟨S16x3x4x112x226, .f32⟩ : BufTy).Contents (Elt F) → (⟨S16x3x4x112x112, .f32⟩ : BufTy).Contents (Elt F)),
    unary main_v9 main_v13 ((Host.slice S16x3x4x112x112 ![0, 0, 0, 0, 3] ![1, 1, 1, 1, 2] · slicesBy_S16x3x4x112x226_S16x3x4x112x112_0s1_0s1_0s1_0s1_3s2) : (⟨S16x3x4x112x226, .f32⟩ : BufTy).Contents (Elt F) → (⟨S16x3x4x112x112, .f32⟩ : BufTy).Contents (Elt F)),
    unary main_v10 main_v14 (broadcastInDim S16x3x4x1x112x112 ![0, 1, 2, 4, 5] bcast_S16x3x4x112x112_S16x3x4x1x112x112_0_1_2_4_5 : (⟨S16x3x4x112x112, .f32⟩ : BufTy).Contents (Elt F) → (⟨S16x3x4x1x112x112, .f32⟩ : BufTy).Contents (Elt F)),
    unary main_v11 main_v15 (broadcastInDim S16x3x4x1x112x112 ![0, 1, 2, 4, 5] bcast_S16x3x4x112x112_S16x3x4x1x112x112_0_1_2_4_5 : (⟨S16x3x4x112x112, .f32⟩ : BufTy).Contents (Elt F) → (⟨S16x3x4x1x112x112, .f32⟩ : BufTy).Contents (Elt F)),
    unary main_v12 main_v16 (broadcastInDim S16x3x4x1x112x112 ![0, 1, 2, 4, 5] bcast_S16x3x4x112x112_S16x3x4x1x112x112_0_1_2_4_5 : (⟨S16x3x4x112x112, .f32⟩ : BufTy).Contents (Elt F) → (⟨S16x3x4x1x112x112, .f32⟩ : BufTy).Contents (Elt F)),
    unary main_v13 main_v17 (broadcastInDim S16x3x4x1x112x112 ![0, 1, 2, 4, 5] bcast_S16x3x4x112x112_S16x3x4x1x112x112_0_1_2_4_5 : (⟨S16x3x4x112x112, .f32⟩ : BufTy).Contents (Elt F) → (⟨S16x3x4x1x112x112, .f32⟩ : BufTy).Contents (Elt F)),
    nary ![main_v14, main_v15, main_v16, main_v17] main_v18 (fun u => fn_main_v18 (F := F) (u 0) (u 1) (u 2) (u 3)),
    binary main_v18 main_arg1 main_v19 ((fun l r => Host.dotGeneral dot_S16x3x4x4x112x112_S32x3x4x4_S16x112x112x32_231_231_045_0_n_n none l r) : (⟨S16x3x4x4x112x112, .f32⟩ : BufTy).Contents (Elt F) → (⟨S32x3x4x4, .f32⟩ : BufTy).Contents (Elt F) → (⟨S16x112x112x32, .f32⟩ : BufTy).Contents (Elt F)),
    unary main_v19 main_v20 ((transpose S16x32x112x112 [0, 3, 1, 2] · transposes_S16x112x112x32_S16x32x112x112_0_3_1_2) : (⟨S16x112x112x32, .f32⟩ : BufTy).Contents (Elt F) → (⟨S16x32x112x112, .f32⟩ : BufTy).Contents (Elt F)),
    unary main_arg2 main_v21 (broadcastInDim S1x32x1x1 ![1] bcast_S32_S1x32x1x1_1 : (⟨S32, .f32⟩ : BufTy).Contents (Elt F) → (⟨S1x32x1x1, .f32⟩ : BufTy).Contents (Elt F)),
    unary main_v21 main_v22 (broadcastInDim S16x32x112x112 ![0, 1, 2, 3] bcast_S1x32x1x1_S16x32x112x112_0_1_2_3 : (⟨S1x32x1x1, .f32⟩ : BufTy).Contents (Elt F) → (⟨S16x32x112x112, .f32⟩ : BufTy).Contents (Elt F)),
    binary main_v20 main_v22 main_v23 (addf : (⟨S16x32x112x112, .f32⟩ : BufTy).Contents (Elt F) → (⟨S16x32x112x112, .f32⟩ : BufTy).Contents (Elt F) → (⟨S16x32x112x112, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S16x32x112x112, .f32⟩) main_call0_v0) (broadcastInDim S16x32x112x112 ![] bcast_S_S16x32x112x112),
    TRef.binary (TRef.of (T := ⟨S16x32x112x112, .f32⟩) main_v23) (TRef.of (T := ⟨S16x32x112x112, .f32⟩) main_call0_v0) (TRef.of (T := ⟨S16x32x112x112, .f32⟩) main_v24) maximumf,
    nullary main_cst_0 (constant S_ .f32 0x00000000#32),
    binary main_v24 main_cst_0 main_v25 ((fun x v => pad S16x32x114x114 ![0, 0, 1, 1] ![0, 0, 1, 1] ![0, 0, 0, 0] x v pads_S16x32x112x112_S16x32x114x114_000_000_110_110 h_S_) : (⟨S16x32x112x112, .f32⟩ : BufTy).Contents (Elt F) → (⟨S_, .f32⟩ : BufTy).Contents (Elt F) → (⟨S16x32x114x114, .f32⟩ : BufTy).Contents (Elt F)) ]

/-- @main's operations 31 … 60 of 225 (window `main_part0`). -/
abbrev ops_part0_1 : List (HloOp τ sig (Elt F)) :=
  [ unary main_v25 main_v26 ((Host.slice S16x32x56x114 ![0, 0, 0, 0] ![1, 1, 2, 1] · slicesBy_S16x32x114x114_S16x32x56x114_0s1_0s1_0s2_0s1) : (⟨S16x32x114x114, .f32⟩ : BufTy).Contents (Elt F) → (⟨S16x32x56x114, .f32⟩ : BufTy).Contents (Elt F)),
    unary main_v25 main_v27 ((Host.slice S16x32x56x114 ![0, 0, 1, 0] ![1, 1, 2, 1] · slicesBy_S16x32x114x114_S16x32x56x114_0s1_0s1_1s2_0s1) : (⟨S16x32x114x114, .f32⟩ : BufTy).Contents (Elt F) → (⟨S16x32x56x114, .f32⟩ : BufTy).Contents (Elt F)),
    unary main_v25 main_v28 ((Host.slice S16x32x56x114 ![0, 0, 2, 0] ![1, 1, 2, 1] · slicesBy_S16x32x114x114_S16x32x56x114_0s1_0s1_2s2_0s1) : (⟨S16x32x114x114, .f32⟩ : BufTy).Contents (Elt F) → (⟨S16x32x56x114, .f32⟩ : BufTy).Contents (Elt F)),
    unary main_v25 main_v29 ((Host.slice S16x32x56x114 ![0, 0, 3, 0] ![1, 1, 2, 1] · slicesBy_S16x32x114x114_S16x32x56x114_0s1_0s1_3s2_0s1) : (⟨S16x32x114x114, .f32⟩ : BufTy).Contents (Elt F) → (⟨S16x32x56x114, .f32⟩ : BufTy).Contents (Elt F)),
    unary main_v26 main_v30 (broadcastInDim S16x32x1x56x114 ![0, 1, 3, 4] bcast_S16x32x56x114_S16x32x1x56x114_0_1_3_4 : (⟨S16x32x56x114, .f32⟩ : BufTy).Contents (Elt F) → (⟨S16x32x1x56x114, .f32⟩ : BufTy).Contents (Elt F)),
    unary main_v27 main_v31 (broadcastInDim S16x32x1x56x114 ![0, 1, 3, 4] bcast_S16x32x56x114_S16x32x1x56x114_0_1_3_4 : (⟨S16x32x56x114, .f32⟩ : BufTy).Contents (Elt F) → (⟨S16x32x1x56x114, .f32⟩ : BufTy).Contents (Elt F)),
    unary main_v28 main_v32 (broadcastInDim S16x32x1x56x114 ![0, 1, 3, 4] bcast_S16x32x56x114_S16x32x1x56x114_0_1_3_4 : (⟨S16x32x56x114, .f32⟩ : BufTy).Contents (Elt F) → (⟨S16x32x1x56x114, .f32⟩ : BufTy).Contents (Elt F)),
    unary main_v29 main_v33 (broadcastInDim S16x32x1x56x114 ![0, 1, 3, 4] bcast_S16x32x56x114_S16x32x1x56x114_0_1_3_4 : (⟨S16x32x56x114, .f32⟩ : BufTy).Contents (Elt F) → (⟨S16x32x1x56x114, .f32⟩ : BufTy).Contents (Elt F)),
    nary ![main_v30, main_v31, main_v32, main_v33] main_v34 (fun u => fn_main_v34 (F := F) (u 0) (u 1) (u 2) (u 3)),
    unary main_v34 main_v35 ((Host.slice S16x32x4x56x56 ![0, 0, 0, 0, 0] ![1, 1, 1, 1, 2] · slicesBy_S16x32x4x56x114_S16x32x4x56x56_0s1_0s1_0s1_0s1_0s2) : (⟨S16x32x4x56x114, .f32⟩ : BufTy).Contents (Elt F) → (⟨S16x32x4x56x56, .f32⟩ : BufTy).Contents (Elt F)),
    unary main_v34 main_v36 ((Host.slice S16x32x4x56x56 ![0, 0, 0, 0, 1] ![1, 1, 1, 1, 2] · slicesBy_S16x32x4x56x114_S16x32x4x56x56_0s1_0s1_0s1_0s1_1s2) : (⟨S16x32x4x56x114, .f32⟩ : BufTy).Contents (Elt F) → (⟨S16x32x4x56x56, .f32⟩ : BufTy).Contents (Elt F)),
    unary main_v34 main_v37 ((Host.slice S16x32x4x56x56 ![0, 0, 0, 0, 2] ![1, 1, 1, 1, 2] · slicesBy_S16x32x4x56x114_S16x32x4x56x56_0s1_0s1_0s1_0s1_2s2) : (⟨S16x32x4x56x114, .f32⟩ : BufTy).Contents (Elt F) → (⟨S16x32x4x56x56, .f32⟩ : BufTy).Contents (Elt F)),
    unary main_v34 main_v38 ((Host.slice S16x32x4x56x56 ![0, 0, 0, 0, 3] ![1, 1, 1, 1, 2] · slicesBy_S16x32x4x56x114_S16x32x4x56x56_0s1_0s1_0s1_0s1_3s2) : (⟨S16x32x4x56x114, .f32⟩ : BufTy).Contents (Elt F) → (⟨S16x32x4x56x56, .f32⟩ : BufTy).Contents (Elt F)),
    unary main_v35 main_v39 (broadcastInDim S16x32x4x1x56x56 ![0, 1, 2, 4, 5] bcast_S16x32x4x56x56_S16x32x4x1x56x56_0_1_2_4_5 : (⟨S16x32x4x56x56, .f32⟩ : BufTy).Contents (Elt F) → (⟨S16x32x4x1x56x56, .f32⟩ : BufTy).Contents (Elt F)),
    unary main_v36 main_v40 (broadcastInDim S16x32x4x1x56x56 ![0, 1, 2, 4, 5] bcast_S16x32x4x56x56_S16x32x4x1x56x56_0_1_2_4_5 : (⟨S16x32x4x56x56, .f32⟩ : BufTy).Contents (Elt F) → (⟨S16x32x4x1x56x56, .f32⟩ : BufTy).Contents (Elt F)),
    unary main_v37 main_v41 (broadcastInDim S16x32x4x1x56x56 ![0, 1, 2, 4, 5] bcast_S16x32x4x56x56_S16x32x4x1x56x56_0_1_2_4_5 : (⟨S16x32x4x56x56, .f32⟩ : BufTy).Contents (Elt F) → (⟨S16x32x4x1x56x56, .f32⟩ : BufTy).Contents (Elt F)),
    unary main_v38 main_v42 (broadcastInDim S16x32x4x1x56x56 ![0, 1, 2, 4, 5] bcast_S16x32x4x56x56_S16x32x4x1x56x56_0_1_2_4_5 : (⟨S16x32x4x56x56, .f32⟩ : BufTy).Contents (Elt F) → (⟨S16x32x4x1x56x56, .f32⟩ : BufTy).Contents (Elt F)),
    nary ![main_v39, main_v40, main_v41, main_v42] main_v43 (fun u => fn_main_v43 (F := F) (u 0) (u 1) (u 2) (u 3)),
    binary main_v43 main_arg3 main_v44 ((fun l r => Host.dotGeneral dot_S16x32x4x4x56x56_S64x32x4x4_S16x56x56x64_231_231_045_0_n_n none l r) : (⟨S16x32x4x4x56x56, .f32⟩ : BufTy).Contents (Elt F) → (⟨S64x32x4x4, .f32⟩ : BufTy).Contents (Elt F) → (⟨S16x56x56x64, .f32⟩ : BufTy).Contents (Elt F)),
    unary main_v44 main_v45 ((transpose S16x64x56x56 [0, 3, 1, 2] · transposes_S16x56x56x64_S16x64x56x56_0_3_1_2) : (⟨S16x56x56x64, .f32⟩ : BufTy).Contents (Elt F) → (⟨S16x64x56x56, .f32⟩ : BufTy).Contents (Elt F)),
    unary main_arg4 main_v46 (broadcastInDim S1x64x1x1 ![1] bcast_S64_S1x64x1x1_1 : (⟨S64, .f32⟩ : BufTy).Contents (Elt F) → (⟨S1x64x1x1, .f32⟩ : BufTy).Contents (Elt F)),
    unary main_v46 main_v47 (broadcastInDim S16x64x56x56 ![0, 1, 2, 3] bcast_S1x64x1x1_S16x64x56x56_0_1_2_3 : (⟨S1x64x1x1, .f32⟩ : BufTy).Contents (Elt F) → (⟨S16x64x56x56, .f32⟩ : BufTy).Contents (Elt F)),
    binary main_v45 main_v47 main_v48 (addf : (⟨S16x64x56x56, .f32⟩ : BufTy).Contents (Elt F) → (⟨S16x64x56x56, .f32⟩ : BufTy).Contents (Elt F) → (⟨S16x64x56x56, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S16x64x56x56, .f32⟩) main_call1_v0) (broadcastInDim S16x64x56x56 ![] bcast_S_S16x64x56x56),
    TRef.binary (TRef.of (T := ⟨S16x64x56x56, .f32⟩) main_v48) (TRef.of (T := ⟨S16x64x56x56, .f32⟩) main_call1_v0) (TRef.of (T := ⟨S16x64x56x56, .f32⟩) main_v49) maximumf,
    nullary main_cst_1 (constant S_ .f32 0x00000000#32),
    binary main_v49 main_cst_1 main_v50 ((fun x v => pad S16x64x58x58 ![0, 0, 1, 1] ![0, 0, 1, 1] ![0, 0, 0, 0] x v pads_S16x64x56x56_S16x64x58x58_000_000_110_110 h_S_) : (⟨S16x64x56x56, .f32⟩ : BufTy).Contents (Elt F) → (⟨S_, .f32⟩ : BufTy).Contents (Elt F) → (⟨S16x64x58x58, .f32⟩ : BufTy).Contents (Elt F)),
    unary main_v50 main_v51 ((Host.slice S16x64x28x58 ![0, 0, 0, 0] ![1, 1, 2, 1] · slicesBy_S16x64x58x58_S16x64x28x58_0s1_0s1_0s2_0s1) : (⟨S16x64x58x58, .f32⟩ : BufTy).Contents (Elt F) → (⟨S16x64x28x58, .f32⟩ : BufTy).Contents (Elt F)),
    unary main_v50 main_v52 ((Host.slice S16x64x28x58 ![0, 0, 1, 0] ![1, 1, 2, 1] · slicesBy_S16x64x58x58_S16x64x28x58_0s1_0s1_1s2_0s1) : (⟨S16x64x58x58, .f32⟩ : BufTy).Contents (Elt F) → (⟨S16x64x28x58, .f32⟩ : BufTy).Contents (Elt F)) ]

/-- @main's operations 61 … 64 of 225 (window `main_part0`). -/
abbrev ops_part0_2 : List (HloOp τ sig (Elt F)) :=
  [ unary main_v50 main_v53 ((Host.slice S16x64x28x58 ![0, 0, 2, 0] ![1, 1, 2, 1] · slicesBy_S16x64x58x58_S16x64x28x58_0s1_0s1_2s2_0s1) : (⟨S16x64x58x58, .f32⟩ : BufTy).Contents (Elt F) → (⟨S16x64x28x58, .f32⟩ : BufTy).Contents (Elt F)),
    unary main_v50 main_v54 ((Host.slice S16x64x28x58 ![0, 0, 3, 0] ![1, 1, 2, 1] · slicesBy_S16x64x58x58_S16x64x28x58_0s1_0s1_3s2_0s1) : (⟨S16x64x58x58, .f32⟩ : BufTy).Contents (Elt F) → (⟨S16x64x28x58, .f32⟩ : BufTy).Contents (Elt F)),
    unary main_v51 main_v55 (broadcastInDim S16x64x1x28x58 ![0, 1, 3, 4] bcast_S16x64x28x58_S16x64x1x28x58_0_1_3_4 : (⟨S16x64x28x58, .f32⟩ : BufTy).Contents (Elt F) → (⟨S16x64x1x28x58, .f32⟩ : BufTy).Contents (Elt F)),
    unary main_v52 main_v56 (broadcastInDim S16x64x1x28x58 ![0, 1, 3, 4] bcast_S16x64x28x58_S16x64x1x28x58_0_1_3_4 : (⟨S16x64x28x58, .f32⟩ : BufTy).Contents (Elt F) → (⟨S16x64x1x28x58, .f32⟩ : BufTy).Contents (Elt F)) ]

/-- Window `main_part0`'s operations. Not an abbreviation: `main_eq` below splits `ops` into the windows and no further. -/
def ops_part0 : List (HloOp τ sig (Elt F)) :=
  ops_part0_0 ++ (ops_part0_1 ++ (ops_part0_2))

/-- @main's operations 65 … 94 of 225 (window `main_part1`). -/
abbrev ops_part1_0 : List (HloOp τ sig (Elt F)) :=
  [ unary main_v53 main_v57 (broadcastInDim S16x64x1x28x58 ![0, 1, 3, 4] bcast_S16x64x28x58_S16x64x1x28x58_0_1_3_4 : (⟨S16x64x28x58, .f32⟩ : BufTy).Contents (Elt F) → (⟨S16x64x1x28x58, .f32⟩ : BufTy).Contents (Elt F)),
    unary main_v54 main_v58 (broadcastInDim S16x64x1x28x58 ![0, 1, 3, 4] bcast_S16x64x28x58_S16x64x1x28x58_0_1_3_4 : (⟨S16x64x28x58, .f32⟩ : BufTy).Contents (Elt F) → (⟨S16x64x1x28x58, .f32⟩ : BufTy).Contents (Elt F)),
    nary ![main_v55, main_v56, main_v57, main_v58] main_v59 (fun u => fn_main_v59 (F := F) (u 0) (u 1) (u 2) (u 3)),
    unary main_v59 main_v60 ((Host.slice S16x64x4x28x28 ![0, 0, 0, 0, 0] ![1, 1, 1, 1, 2] · slicesBy_S16x64x4x28x58_S16x64x4x28x28_0s1_0s1_0s1_0s1_0s2) : (⟨S16x64x4x28x58, .f32⟩ : BufTy).Contents (Elt F) → (⟨S16x64x4x28x28, .f32⟩ : BufTy).Contents (Elt F)),
    unary main_v59 main_v61 ((Host.slice S16x64x4x28x28 ![0, 0, 0, 0, 1] ![1, 1, 1, 1, 2] · slicesBy_S16x64x4x28x58_S16x64x4x28x28_0s1_0s1_0s1_0s1_1s2) : (⟨S16x64x4x28x58, .f32⟩ : BufTy).Contents (Elt F) → (⟨S16x64x4x28x28, .f32⟩ : BufTy).Contents (Elt F)),
    unary main_v59 main_v62 ((Host.slice S16x64x4x28x28 ![0, 0, 0, 0, 2] ![1, 1, 1, 1, 2] · slicesBy_S16x64x4x28x58_S16x64x4x28x28_0s1_0s1_0s1_0s1_2s2) : (⟨S16x64x4x28x58, .f32⟩ : BufTy).Contents (Elt F) → (⟨S16x64x4x28x28, .f32⟩ : BufTy).Contents (Elt F)),
    unary main_v59 main_v63 ((Host.slice S16x64x4x28x28 ![0, 0, 0, 0, 3] ![1, 1, 1, 1, 2] · slicesBy_S16x64x4x28x58_S16x64x4x28x28_0s1_0s1_0s1_0s1_3s2) : (⟨S16x64x4x28x58, .f32⟩ : BufTy).Contents (Elt F) → (⟨S16x64x4x28x28, .f32⟩ : BufTy).Contents (Elt F)),
    unary main_v60 main_v64 (broadcastInDim S16x64x4x1x28x28 ![0, 1, 2, 4, 5] bcast_S16x64x4x28x28_S16x64x4x1x28x28_0_1_2_4_5 : (⟨S16x64x4x28x28, .f32⟩ : BufTy).Contents (Elt F) → (⟨S16x64x4x1x28x28, .f32⟩ : BufTy).Contents (Elt F)),
    unary main_v61 main_v65 (broadcastInDim S16x64x4x1x28x28 ![0, 1, 2, 4, 5] bcast_S16x64x4x28x28_S16x64x4x1x28x28_0_1_2_4_5 : (⟨S16x64x4x28x28, .f32⟩ : BufTy).Contents (Elt F) → (⟨S16x64x4x1x28x28, .f32⟩ : BufTy).Contents (Elt F)),
    unary main_v62 main_v66 (broadcastInDim S16x64x4x1x28x28 ![0, 1, 2, 4, 5] bcast_S16x64x4x28x28_S16x64x4x1x28x28_0_1_2_4_5 : (⟨S16x64x4x28x28, .f32⟩ : BufTy).Contents (Elt F) → (⟨S16x64x4x1x28x28, .f32⟩ : BufTy).Contents (Elt F)),
    unary main_v63 main_v67 (broadcastInDim S16x64x4x1x28x28 ![0, 1, 2, 4, 5] bcast_S16x64x4x28x28_S16x64x4x1x28x28_0_1_2_4_5 : (⟨S16x64x4x28x28, .f32⟩ : BufTy).Contents (Elt F) → (⟨S16x64x4x1x28x28, .f32⟩ : BufTy).Contents (Elt F)),
    nary ![main_v64, main_v65, main_v66, main_v67] main_v68 (fun u => fn_main_v68 (F := F) (u 0) (u 1) (u 2) (u 3)),
    binary main_v68 main_arg5 main_v69 ((fun l r => Host.dotGeneral dot_S16x64x4x4x28x28_S64x64x4x4_S16x28x28x64_231_231_045_0_n_n none l r) : (⟨S16x64x4x4x28x28, .f32⟩ : BufTy).Contents (Elt F) → (⟨S64x64x4x4, .f32⟩ : BufTy).Contents (Elt F) → (⟨S16x28x28x64, .f32⟩ : BufTy).Contents (Elt F)),
    unary main_v69 main_v70 ((transpose S16x64x28x28 [0, 3, 1, 2] · transposes_S16x28x28x64_S16x64x28x28_0_3_1_2) : (⟨S16x28x28x64, .f32⟩ : BufTy).Contents (Elt F) → (⟨S16x64x28x28, .f32⟩ : BufTy).Contents (Elt F)),
    unary main_arg6 main_v71 (broadcastInDim S1x64x1x1 ![1] bcast_S64_S1x64x1x1_1 : (⟨S64, .f32⟩ : BufTy).Contents (Elt F) → (⟨S1x64x1x1, .f32⟩ : BufTy).Contents (Elt F)),
    unary main_v71 main_v72 (broadcastInDim S16x64x28x28 ![0, 1, 2, 3] bcast_S1x64x1x1_S16x64x28x28_0_1_2_3 : (⟨S1x64x1x1, .f32⟩ : BufTy).Contents (Elt F) → (⟨S16x64x28x28, .f32⟩ : BufTy).Contents (Elt F)),
    binary main_v70 main_v72 main_v73 (addf : (⟨S16x64x28x28, .f32⟩ : BufTy).Contents (Elt F) → (⟨S16x64x28x28, .f32⟩ : BufTy).Contents (Elt F) → (⟨S16x64x28x28, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S16x64x28x28, .f32⟩) main_call2_v0) (broadcastInDim S16x64x28x28 ![] bcast_S_S16x64x28x28),
    TRef.binary (TRef.of (T := ⟨S16x64x28x28, .f32⟩) main_v73) (TRef.of (T := ⟨S16x64x28x28, .f32⟩) main_call2_v0) (TRef.of (T := ⟨S16x64x28x28, .f32⟩) main_v74) maximumf,
    unary main_v74 main_v75 ((transpose S16x28x28x64 [0, 2, 3, 1] · transposes_S16x64x28x28_S16x28x28x64_0_2_3_1) : (⟨S16x64x28x28, .f32⟩ : BufTy).Contents (Elt F) → (⟨S16x28x28x64, .f32⟩ : BufTy).Contents (Elt F)),
    reshape main_v75 main_v76 (rfl : (.f32 : EltTy) = .f32) shapeCasts_S16x28x28x64_S12544x64,
    binary main_v76 main_v76 main_v77 (mulf : (⟨S12544x64, .f32⟩ : BufTy).Contents (Elt F) → (⟨S12544x64, .f32⟩ : BufTy).Contents (Elt F) → (⟨S12544x64, .f32⟩ : BufTy).Contents (Elt F)),
    nullary main_cst_2 (constant S_ .f32 0x00000000#32),
    binary main_v77 main_cst_2 main_v78 ((fun x v => Host.reduceAdd x v reducesTo_S12544x64_S12544_d1 h_S_) : (⟨S12544x64, .f32⟩ : BufTy).Contents (Elt F) → (⟨S_, .f32⟩ : BufTy).Contents (Elt F) → (⟨S12544, .f32⟩ : BufTy).Contents (Elt F)),
    unary main_v78 main_v79 (broadcastInDim S12544x1 ![0] bcast_S12544_S12544x1_0 : (⟨S12544, .f32⟩ : BufTy).Contents (Elt F) → (⟨S12544x1, .f32⟩ : BufTy).Contents (Elt F)),
    nullary main_cst_3 (constant S_ .f32 0x40000000#32),
    unary main_cst_3 main_v80 (broadcastInDim S12544x64 ![] bcast_S_S12544x64 : (⟨S_, .f32⟩ : BufTy).Contents (Elt F) → (⟨S12544x64, .f32⟩ : BufTy).Contents (Elt F)),
    binary main_v80 main_v76 main_v81 (mulf : (⟨S12544x64, .f32⟩ : BufTy).Contents (Elt F) → (⟨S12544x64, .f32⟩ : BufTy).Contents (Elt F) → (⟨S12544x64, .f32⟩ : BufTy).Contents (Elt F)),
    unary main_arg7 main_v82 ((transpose S64x512 [1, 0] · transposes_S512x64_S64x512_1_0) : (⟨S512x64, .f32⟩ : BufTy).Contents (Elt F) → (⟨S64x512, .f32⟩ : BufTy).Contents (Elt F)) ]

/-- @main's operations 95 … 124 of 225 (window `main_part1`). -/
abbrev ops_part1_1 : List (HloOp τ sig (Elt F)) :=
  [ binary main_v81 main_v82 main_v83 ((fun l r => Host.dotGeneral dot_S12544x64_S64x512_S12544x512_1_0_0_1_n_n none l r) : (⟨S12544x64, .f32⟩ : BufTy).Contents (Elt F) → (⟨S64x512, .f32⟩ : BufTy).Contents (Elt F) → (⟨S12544x512, .f32⟩ : BufTy).Contents (Elt F)),
    unary main_v79 main_v84 (broadcastInDim S12544x512 ![0, 1] bcast_S12544x1_S12544x512_0_1 : (⟨S12544x1, .f32⟩ : BufTy).Contents (Elt F) → (⟨S12544x512, .f32⟩ : BufTy).Contents (Elt F)),
    binary main_v84 main_v83 main_v85 (subf : (⟨S12544x512, .f32⟩ : BufTy).Contents (Elt F) → (⟨S12544x512, .f32⟩ : BufTy).Contents (Elt F) → (⟨S12544x512, .f32⟩ : BufTy).Contents (Elt F)),
    binary main_arg7 main_arg7 main_v86 (mulf : (⟨S512x64, .f32⟩ : BufTy).Contents (Elt F) → (⟨S512x64, .f32⟩ : BufTy).Contents (Elt F) → (⟨S512x64, .f32⟩ : BufTy).Contents (Elt F)),
    nullary main_cst_4 (constant S_ .f32 0x00000000#32),
    binary main_v86 main_cst_4 main_v87 ((fun x v => Host.reduceAdd x v reducesTo_S512x64_S512_d1 h_S_) : (⟨S512x64, .f32⟩ : BufTy).Contents (Elt F) → (⟨S_, .f32⟩ : BufTy).Contents (Elt F) → (⟨S512, .f32⟩ : BufTy).Contents (Elt F)),
    unary main_v87 main_v88 (broadcastInDim S1x512 ![1] bcast_S512_S1x512_1 : (⟨S512, .f32⟩ : BufTy).Contents (Elt F) → (⟨S1x512, .f32⟩ : BufTy).Contents (Elt F)),
    unary main_v88 main_v89 (broadcastInDim S12544x512 ![0, 1] bcast_S1x512_S12544x512_0_1 : (⟨S1x512, .f32⟩ : BufTy).Contents (Elt F) → (⟨S12544x512, .f32⟩ : BufTy).Contents (Elt F)),
    binary main_v85 main_v89 main_v90 (addf : (⟨S12544x512, .f32⟩ : BufTy).Contents (Elt F) → (⟨S12544x512, .f32⟩ : BufTy).Contents (Elt F) → (⟨S12544x512, .f32⟩ : BufTy).Contents (Elt F)),
    nullary main_cst_5 (constant S_ .f32 0x00000000#32),
    unary main_cst_5 main_v91 (broadcastInDim S12544x512 ![] bcast_S_S12544x512 : (⟨S_, .f32⟩ : BufTy).Contents (Elt F) → (⟨S12544x512, .f32⟩ : BufTy).Contents (Elt F)),
    binary main_v90 main_v91 main_v92 (maximumf : (⟨S12544x512, .f32⟩ : BufTy).Contents (Elt F) → (⟨S12544x512, .f32⟩ : BufTy).Contents (Elt F) → (⟨S12544x512, .f32⟩ : BufTy).Contents (Elt F)),
    unary main_v92 main_v93 (Host.sqrt : (⟨S12544x512, .f32⟩ : BufTy).Contents (Elt F) → (⟨S12544x512, .f32⟩ : BufTy).Contents (Elt F)),
    TRef.nullary (TRef.of (T := ⟨S12544x512, .i32⟩) main_call3_v0) (iotaInDim S12544x512 32 1),
    TRef.nullary (TRef.of (T := ⟨S_, .f32⟩) main_call3_cst) (constant S_ .f32 0x7F800000#32),
    TRef.nullary (TRef.of (T := ⟨S_, .i32⟩) main_call3_c) (constantI S_ 32 0#32),
    TRef.quaternary (TRef.of (T := ⟨S12544x512, .f32⟩) main_v93) (TRef.of (T := ⟨S12544x512, .i32⟩) main_call3_v0) (TRef.of (T := ⟨S_, .f32⟩) main_call3_cst) (TRef.of (T := ⟨S_, .i32⟩) main_call3_c) (TRef.of (T := ⟨S12544, .f32⟩) main_call3_v1_0) (fun x y u v j => (Host.argReduce reducer_argmin_f32_i32 x y u v reducesTo_S12544x512_S12544_d1 h_S_ j).1),
    TRef.quaternary (TRef.of (T := ⟨S12544x512, .f32⟩) main_v93) (TRef.of (T := ⟨S12544x512, .i32⟩) main_call3_v0) (TRef.of (T := ⟨S_, .f32⟩) main_call3_cst) (TRef.of (T := ⟨S_, .i32⟩) main_call3_c) (TRef.of (T := ⟨S12544, .i32⟩) main_v94) (fun x y u v j => (Host.argReduce reducer_argmin_f32_i32 x y u v reducesTo_S12544x512_S12544_d1 h_S_ j).2),
    TRef.unary (TRef.of (T := ⟨S12544, .i32⟩) main_v94) (TRef.of (T := ⟨S12544x1, .i32⟩) main_call4_v0) (broadcastInDim S12544x1 ![0] bcast_S12544_S12544x1_0),
    TRef.binary (TRef.of (T := ⟨S512x64, .f32⟩) main_arg7) (TRef.of (T := ⟨S12544x1, .i32⟩) main_call4_v0) (TRef.of (T := ⟨S12544x64, .f32⟩) main_v95) (fun x i => Host.gather gather_S512x64_S12544x1_S12544x64_1_0_n_n_0_1_164 x i),
    reshape main_v95 main_v96 (rfl : (.f32 : EltTy) = .f32) shapeCasts_S12544x64_S16x28x28x64,
    unary main_v96 main_v97 ((transpose S16x64x28x28 [0, 3, 1, 2] · transposes_S16x28x28x64_S16x64x28x28_0_3_1_2) : (⟨S16x28x28x64, .f32⟩ : BufTy).Contents (Elt F) → (⟨S16x64x28x28, .f32⟩ : BufTy).Contents (Elt F)),
    binary main_v74 main_v97 main_v98 (subf : (⟨S16x64x28x28, .f32⟩ : BufTy).Contents (Elt F) → (⟨S16x64x28x28, .f32⟩ : BufTy).Contents (Elt F) → (⟨S16x64x28x28, .f32⟩ : BufTy).Contents (Elt F)),
    binary main_v98 main_v98 main_v99 (mulf : (⟨S16x64x28x28, .f32⟩ : BufTy).Contents (Elt F) → (⟨S16x64x28x28, .f32⟩ : BufTy).Contents (Elt F) → (⟨S16x64x28x28, .f32⟩ : BufTy).Contents (Elt F)),
    nullary main_cst_6 (constant S_ .f32 0x00000000#32),
    binary main_v99 main_cst_6 main_v100 ((fun x v => Host.reduceAdd x v reducesTo_S16x64x28x28_S_d0_1_2_3 h_S_) : (⟨S16x64x28x28, .f32⟩ : BufTy).Contents (Elt F) → (⟨S_, .f32⟩ : BufTy).Contents (Elt F) → (⟨S_, .f32⟩ : BufTy).Contents (Elt F)),
    nullary main_cst_7 (constant S_ .f32 0x49440000#32),
    binary main_v100 main_cst_7 main_v101 (Host.divf : (⟨S_, .f32⟩ : BufTy).Contents (Elt F) → (⟨S_, .f32⟩ : BufTy).Contents (Elt F) → (⟨S_, .f32⟩ : BufTy).Contents (Elt F)),
    binary main_v74 main_v97 main_v102 (subf : (⟨S16x64x28x28, .f32⟩ : BufTy).Contents (Elt F) → (⟨S16x64x28x28, .f32⟩ : BufTy).Contents (Elt F) → (⟨S16x64x28x28, .f32⟩ : BufTy).Contents (Elt F)),
    binary main_v102 main_v102 main_v103 (mulf : (⟨S16x64x28x28, .f32⟩ : BufTy).Contents (Elt F) → (⟨S16x64x28x28, .f32⟩ : BufTy).Contents (Elt F) → (⟨S16x64x28x28, .f32⟩ : BufTy).Contents (Elt F)) ]

/-- @main's operations 125 … 131 of 225 (window `main_part1`). -/
abbrev ops_part1_2 : List (HloOp τ sig (Elt F)) :=
  [ nullary main_cst_8 (constant S_ .f32 0x00000000#32),
    binary main_v103 main_cst_8 main_v104 ((fun x v => Host.reduceAdd x v reducesTo_S16x64x28x28_S_d0_1_2_3 h_S_) : (⟨S16x64x28x28, .f32⟩ : BufTy).Contents (Elt F) → (⟨S_, .f32⟩ : BufTy).Contents (Elt F) → (⟨S_, .f32⟩ : BufTy).Contents (Elt F)),
    nullary main_cst_9 (constant S_ .f32 0x49440000#32),
    binary main_v104 main_cst_9 main_v105 (Host.divf : (⟨S_, .f32⟩ : BufTy).Contents (Elt F) → (⟨S_, .f32⟩ : BufTy).Contents (Elt F) → (⟨S_, .f32⟩ : BufTy).Contents (Elt F)),
    binary main_v97 main_v74 main_v106 (subf : (⟨S16x64x28x28, .f32⟩ : BufTy).Contents (Elt F) → (⟨S16x64x28x28, .f32⟩ : BufTy).Contents (Elt F) → (⟨S16x64x28x28, .f32⟩ : BufTy).Contents (Elt F)),
    binary main_v74 main_v106 main_v107 (addf : (⟨S16x64x28x28, .f32⟩ : BufTy).Contents (Elt F) → (⟨S16x64x28x28, .f32⟩ : BufTy).Contents (Elt F) → (⟨S16x64x28x28, .f32⟩ : BufTy).Contents (Elt F)),
    unary main_arg8 main_v108 ((transpose S64x64x4x4 [1, 0, 2, 3] · transposes_S64x64x4x4_S64x64x4x4_1_0_2_3) : (⟨S64x64x4x4, .f32⟩ : BufTy).Contents (Elt F) → (⟨S64x64x4x4, .f32⟩ : BufTy).Contents (Elt F)) ]

/-- Window `main_part1`'s operations. Not an abbreviation: `main_eq` below splits `ops` into the windows and no further. -/
def ops_part1 : List (HloOp τ sig (Elt F)) :=
  ops_part1_0 ++ (ops_part1_1 ++ (ops_part1_2))

/-- @main's operations 132 … 161 of 225 (window `main_part2`). -/
abbrev ops_part2_0 : List (HloOp τ sig (Elt F)) :=
  [ unary main_v108 main_v109 (Host.reverse [2, 3] : (⟨S64x64x4x4, .f32⟩ : BufTy).Contents (Elt F) → (⟨S64x64x4x4, .f32⟩ : BufTy).Contents (Elt F)),
    nullary main_cst_10 (constant S_ .f32 0x00000000#32),
    binary main_v107 main_cst_10 main_v110 ((fun x v => pad S16x64x59x59 ![0, 0, 2, 2] ![0, 0, 2, 2] ![0, 0, 1, 1] x v pads_S16x64x28x28_S16x64x59x59_000_000_221_221 h_S_) : (⟨S16x64x28x28, .f32⟩ : BufTy).Contents (Elt F) → (⟨S_, .f32⟩ : BufTy).Contents (Elt F) → (⟨S16x64x59x59, .f32⟩ : BufTy).Contents (Elt F)),
    unary main_v110 main_v111 ((extractStridedSlice S16x64x56x59 ![0, 0, 0, 0] · slices_S16x64x59x59_S16x64x56x59_0_0_0_0) : (⟨S16x64x59x59, .f32⟩ : BufTy).Contents (Elt F) → (⟨S16x64x56x59, .f32⟩ : BufTy).Contents (Elt F)),
    unary main_v110 main_v112 ((extractStridedSlice S16x64x56x59 ![0, 0, 1, 0] · slices_S16x64x59x59_S16x64x56x59_0_0_1_0) : (⟨S16x64x59x59, .f32⟩ : BufTy).Contents (Elt F) → (⟨S16x64x56x59, .f32⟩ : BufTy).Contents (Elt F)),
    unary main_v110 main_v113 ((extractStridedSlice S16x64x56x59 ![0, 0, 2, 0] · slices_S16x64x59x59_S16x64x56x59_0_0_2_0) : (⟨S16x64x59x59, .f32⟩ : BufTy).Contents (Elt F) → (⟨S16x64x56x59, .f32⟩ : BufTy).Contents (Elt F)),
    unary main_v110 main_v114 ((extractStridedSlice S16x64x56x59 ![0, 0, 3, 0] · slices_S16x64x59x59_S16x64x56x59_0_0_3_0) : (⟨S16x64x59x59, .f32⟩ : BufTy).Contents (Elt F) → (⟨S16x64x56x59, .f32⟩ : BufTy).Contents (Elt F)),
    unary main_v111 main_v115 (broadcastInDim S16x64x1x56x59 ![0, 1, 3, 4] bcast_S16x64x56x59_S16x64x1x56x59_0_1_3_4 : (⟨S16x64x56x59, .f32⟩ : BufTy).Contents (Elt F) → (⟨S16x64x1x56x59, .f32⟩ : BufTy).Contents (Elt F)),
    unary main_v112 main_v116 (broadcastInDim S16x64x1x56x59 ![0, 1, 3, 4] bcast_S16x64x56x59_S16x64x1x56x59_0_1_3_4 : (⟨S16x64x56x59, .f32⟩ : BufTy).Contents (Elt F) → (⟨S16x64x1x56x59, .f32⟩ : BufTy).Contents (Elt F)),
    unary main_v113 main_v117 (broadcastInDim S16x64x1x56x59 ![0, 1, 3, 4] bcast_S16x64x56x59_S16x64x1x56x59_0_1_3_4 : (⟨S16x64x56x59, .f32⟩ : BufTy).Contents (Elt F) → (⟨S16x64x1x56x59, .f32⟩ : BufTy).Contents (Elt F)),
    unary main_v114 main_v118 (broadcastInDim S16x64x1x56x59 ![0, 1, 3, 4] bcast_S16x64x56x59_S16x64x1x56x59_0_1_3_4 : (⟨S16x64x56x59, .f32⟩ : BufTy).Contents (Elt F) → (⟨S16x64x1x56x59, .f32⟩ : BufTy).Contents (Elt F)),
    nary ![main_v115, main_v116, main_v117, main_v118] main_v119 (fun u => fn_main_v119 (F := F) (u 0) (u 1) (u 2) (u 3)),
    unary main_v119 main_v120 ((extractStridedSlice S16x64x4x56x56 ![0, 0, 0, 0, 0] · slices_S16x64x4x56x59_S16x64x4x56x56_0_0_0_0_0) : (⟨S16x64x4x56x59, .f32⟩ : BufTy).Contents (Elt F) → (⟨S16x64x4x56x56, .f32⟩ : BufTy).Contents (Elt F)),
    unary main_v119 main_v121 ((extractStridedSlice S16x64x4x56x56 ![0, 0, 0, 0, 1] · slices_S16x64x4x56x59_S16x64x4x56x56_0_0_0_0_1) : (⟨S16x64x4x56x59, .f32⟩ : BufTy).Contents (Elt F) → (⟨S16x64x4x56x56, .f32⟩ : BufTy).Contents (Elt F)),
    unary main_v119 main_v122 ((extractStridedSlice S16x64x4x56x56 ![0, 0, 0, 0, 2] · slices_S16x64x4x56x59_S16x64x4x56x56_0_0_0_0_2) : (⟨S16x64x4x56x59, .f32⟩ : BufTy).Contents (Elt F) → (⟨S16x64x4x56x56, .f32⟩ : BufTy).Contents (Elt F)),
    unary main_v119 main_v123 ((extractStridedSlice S16x64x4x56x56 ![0, 0, 0, 0, 3] · slices_S16x64x4x56x59_S16x64x4x56x56_0_0_0_0_3) : (⟨S16x64x4x56x59, .f32⟩ : BufTy).Contents (Elt F) → (⟨S16x64x4x56x56, .f32⟩ : BufTy).Contents (Elt F)),
    unary main_v120 main_v124 (broadcastInDim S16x64x4x1x56x56 ![0, 1, 2, 4, 5] bcast_S16x64x4x56x56_S16x64x4x1x56x56_0_1_2_4_5 : (⟨S16x64x4x56x56, .f32⟩ : BufTy).Contents (Elt F) → (⟨S16x64x4x1x56x56, .f32⟩ : BufTy).Contents (Elt F)),
    unary main_v121 main_v125 (broadcastInDim S16x64x4x1x56x56 ![0, 1, 2, 4, 5] bcast_S16x64x4x56x56_S16x64x4x1x56x56_0_1_2_4_5 : (⟨S16x64x4x56x56, .f32⟩ : BufTy).Contents (Elt F) → (⟨S16x64x4x1x56x56, .f32⟩ : BufTy).Contents (Elt F)),
    unary main_v122 main_v126 (broadcastInDim S16x64x4x1x56x56 ![0, 1, 2, 4, 5] bcast_S16x64x4x56x56_S16x64x4x1x56x56_0_1_2_4_5 : (⟨S16x64x4x56x56, .f32⟩ : BufTy).Contents (Elt F) → (⟨S16x64x4x1x56x56, .f32⟩ : BufTy).Contents (Elt F)),
    unary main_v123 main_v127 (broadcastInDim S16x64x4x1x56x56 ![0, 1, 2, 4, 5] bcast_S16x64x4x56x56_S16x64x4x1x56x56_0_1_2_4_5 : (⟨S16x64x4x56x56, .f32⟩ : BufTy).Contents (Elt F) → (⟨S16x64x4x1x56x56, .f32⟩ : BufTy).Contents (Elt F)),
    nary ![main_v124, main_v125, main_v126, main_v127] main_v128 (fun u => fn_main_v128 (F := F) (u 0) (u 1) (u 2) (u 3)),
    binary main_v128 main_v109 main_v129 ((fun l r => Host.dotGeneral dot_S16x64x4x4x56x56_S64x64x4x4_S16x56x56x64_231_231_045_0_n_n none l r) : (⟨S16x64x4x4x56x56, .f32⟩ : BufTy).Contents (Elt F) → (⟨S64x64x4x4, .f32⟩ : BufTy).Contents (Elt F) → (⟨S16x56x56x64, .f32⟩ : BufTy).Contents (Elt F)),
    unary main_v129 main_v130 ((transpose S16x64x56x56 [0, 3, 1, 2] · transposes_S16x56x56x64_S16x64x56x56_0_3_1_2) : (⟨S16x56x56x64, .f32⟩ : BufTy).Contents (Elt F) → (⟨S16x64x56x56, .f32⟩ : BufTy).Contents (Elt F)),
    unary main_arg9 main_v131 (broadcastInDim S1x64x1x1 ![1] bcast_S64_S1x64x1x1_1 : (⟨S64, .f32⟩ : BufTy).Contents (Elt F) → (⟨S1x64x1x1, .f32⟩ : BufTy).Contents (Elt F)),
    unary main_v131 main_v132 (broadcastInDim S16x64x56x56 ![0, 1, 2, 3] bcast_S1x64x1x1_S16x64x56x56_0_1_2_3 : (⟨S1x64x1x1, .f32⟩ : BufTy).Contents (Elt F) → (⟨S16x64x56x56, .f32⟩ : BufTy).Contents (Elt F)),
    binary main_v130 main_v132 main_v133 (addf : (⟨S16x64x56x56, .f32⟩ : BufTy).Contents (Elt F) → (⟨S16x64x56x56, .f32⟩ : BufTy).Contents (Elt F) → (⟨S16x64x56x56, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S16x64x56x56, .f32⟩) main_call5_v0) (broadcastInDim S16x64x56x56 ![] bcast_S_S16x64x56x56),
    TRef.binary (TRef.of (T := ⟨S16x64x56x56, .f32⟩) main_v133) (TRef.of (T := ⟨S16x64x56x56, .f32⟩) main_call5_v0) (TRef.of (T := ⟨S16x64x56x56, .f32⟩) main_v134) maximumf,
    unary main_arg10 main_v135 ((transpose S32x64x4x4 [1, 0, 2, 3] · transposes_S64x32x4x4_S32x64x4x4_1_0_2_3) : (⟨S64x32x4x4, .f32⟩ : BufTy).Contents (Elt F) → (⟨S32x64x4x4, .f32⟩ : BufTy).Contents (Elt F)) ]

/-- @main's operations 162 … 191 of 225 (window `main_part2`). -/
abbrev ops_part2_1 : List (HloOp τ sig (Elt F)) :=
  [ unary main_v135 main_v136 (Host.reverse [2, 3] : (⟨S32x64x4x4, .f32⟩ : BufTy).Contents (Elt F) → (⟨S32x64x4x4, .f32⟩ : BufTy).Contents (Elt F)),
    nullary main_cst_11 (constant S_ .f32 0x00000000#32),
    binary main_v134 main_cst_11 main_v137 ((fun x v => pad S16x64x115x115 ![0, 0, 2, 2] ![0, 0, 2, 2] ![0, 0, 1, 1] x v pads_S16x64x56x56_S16x64x115x115_000_000_221_221 h_S_) : (⟨S16x64x56x56, .f32⟩ : BufTy).Contents (Elt F) → (⟨S_, .f32⟩ : BufTy).Contents (Elt F) → (⟨S16x64x115x115, .f32⟩ : BufTy).Contents (Elt F)),
    unary main_v137 main_v138 ((extractStridedSlice S16x64x112x115 ![0, 0, 0, 0] · slices_S16x64x115x115_S16x64x112x115_0_0_0_0) : (⟨S16x64x115x115, .f32⟩ : BufTy).Contents (Elt F) → (⟨S16x64x112x115, .f32⟩ : BufTy).Contents (Elt F)),
    unary main_v137 main_v139 ((extractStridedSlice S16x64x112x115 ![0, 0, 1, 0] · slices_S16x64x115x115_S16x64x112x115_0_0_1_0) : (⟨S16x64x115x115, .f32⟩ : BufTy).Contents (Elt F) → (⟨S16x64x112x115, .f32⟩ : BufTy).Contents (Elt F)),
    unary main_v137 main_v140 ((extractStridedSlice S16x64x112x115 ![0, 0, 2, 0] · slices_S16x64x115x115_S16x64x112x115_0_0_2_0) : (⟨S16x64x115x115, .f32⟩ : BufTy).Contents (Elt F) → (⟨S16x64x112x115, .f32⟩ : BufTy).Contents (Elt F)),
    unary main_v137 main_v141 ((extractStridedSlice S16x64x112x115 ![0, 0, 3, 0] · slices_S16x64x115x115_S16x64x112x115_0_0_3_0) : (⟨S16x64x115x115, .f32⟩ : BufTy).Contents (Elt F) → (⟨S16x64x112x115, .f32⟩ : BufTy).Contents (Elt F)),
    unary main_v138 main_v142 (broadcastInDim S16x64x1x112x115 ![0, 1, 3, 4] bcast_S16x64x112x115_S16x64x1x112x115_0_1_3_4 : (⟨S16x64x112x115, .f32⟩ : BufTy).Contents (Elt F) → (⟨S16x64x1x112x115, .f32⟩ : BufTy).Contents (Elt F)),
    unary main_v139 main_v143 (broadcastInDim S16x64x1x112x115 ![0, 1, 3, 4] bcast_S16x64x112x115_S16x64x1x112x115_0_1_3_4 : (⟨S16x64x112x115, .f32⟩ : BufTy).Contents (Elt F) → (⟨S16x64x1x112x115, .f32⟩ : BufTy).Contents (Elt F)),
    unary main_v140 main_v144 (broadcastInDim S16x64x1x112x115 ![0, 1, 3, 4] bcast_S16x64x112x115_S16x64x1x112x115_0_1_3_4 : (⟨S16x64x112x115, .f32⟩ : BufTy).Contents (Elt F) → (⟨S16x64x1x112x115, .f32⟩ : BufTy).Contents (Elt F)),
    unary main_v141 main_v145 (broadcastInDim S16x64x1x112x115 ![0, 1, 3, 4] bcast_S16x64x112x115_S16x64x1x112x115_0_1_3_4 : (⟨S16x64x112x115, .f32⟩ : BufTy).Contents (Elt F) → (⟨S16x64x1x112x115, .f32⟩ : BufTy).Contents (Elt F)),
    nary ![main_v142, main_v143, main_v144, main_v145] main_v146 (fun u => fn_main_v146 (F := F) (u 0) (u 1) (u 2) (u 3)),
    unary main_v146 main_v147 ((extractStridedSlice S16x64x4x112x112 ![0, 0, 0, 0, 0] · slices_S16x64x4x112x115_S16x64x4x112x112_0_0_0_0_0) : (⟨S16x64x4x112x115, .f32⟩ : BufTy).Contents (Elt F) → (⟨S16x64x4x112x112, .f32⟩ : BufTy).Contents (Elt F)),
    unary main_v146 main_v148 ((extractStridedSlice S16x64x4x112x112 ![0, 0, 0, 0, 1] · slices_S16x64x4x112x115_S16x64x4x112x112_0_0_0_0_1) : (⟨S16x64x4x112x115, .f32⟩ : BufTy).Contents (Elt F) → (⟨S16x64x4x112x112, .f32⟩ : BufTy).Contents (Elt F)),
    unary main_v146 main_v149 ((extractStridedSlice S16x64x4x112x112 ![0, 0, 0, 0, 2] · slices_S16x64x4x112x115_S16x64x4x112x112_0_0_0_0_2) : (⟨S16x64x4x112x115, .f32⟩ : BufTy).Contents (Elt F) → (⟨S16x64x4x112x112, .f32⟩ : BufTy).Contents (Elt F)),
    unary main_v146 main_v150 ((extractStridedSlice S16x64x4x112x112 ![0, 0, 0, 0, 3] · slices_S16x64x4x112x115_S16x64x4x112x112_0_0_0_0_3) : (⟨S16x64x4x112x115, .f32⟩ : BufTy).Contents (Elt F) → (⟨S16x64x4x112x112, .f32⟩ : BufTy).Contents (Elt F)),
    unary main_v147 main_v151 (broadcastInDim S16x64x4x1x112x112 ![0, 1, 2, 4, 5] bcast_S16x64x4x112x112_S16x64x4x1x112x112_0_1_2_4_5 : (⟨S16x64x4x112x112, .f32⟩ : BufTy).Contents (Elt F) → (⟨S16x64x4x1x112x112, .f32⟩ : BufTy).Contents (Elt F)),
    unary main_v148 main_v152 (broadcastInDim S16x64x4x1x112x112 ![0, 1, 2, 4, 5] bcast_S16x64x4x112x112_S16x64x4x1x112x112_0_1_2_4_5 : (⟨S16x64x4x112x112, .f32⟩ : BufTy).Contents (Elt F) → (⟨S16x64x4x1x112x112, .f32⟩ : BufTy).Contents (Elt F)),
    unary main_v149 main_v153 (broadcastInDim S16x64x4x1x112x112 ![0, 1, 2, 4, 5] bcast_S16x64x4x112x112_S16x64x4x1x112x112_0_1_2_4_5 : (⟨S16x64x4x112x112, .f32⟩ : BufTy).Contents (Elt F) → (⟨S16x64x4x1x112x112, .f32⟩ : BufTy).Contents (Elt F)),
    unary main_v150 main_v154 (broadcastInDim S16x64x4x1x112x112 ![0, 1, 2, 4, 5] bcast_S16x64x4x112x112_S16x64x4x1x112x112_0_1_2_4_5 : (⟨S16x64x4x112x112, .f32⟩ : BufTy).Contents (Elt F) → (⟨S16x64x4x1x112x112, .f32⟩ : BufTy).Contents (Elt F)),
    nary ![main_v151, main_v152, main_v153, main_v154] main_v155 (fun u => fn_main_v155 (F := F) (u 0) (u 1) (u 2) (u 3)),
    binary main_v155 main_v136 main_v156 ((fun l r => Host.dotGeneral dot_S16x64x4x4x112x112_S32x64x4x4_S16x112x112x32_231_231_045_0_n_n none l r) : (⟨S16x64x4x4x112x112, .f32⟩ : BufTy).Contents (Elt F) → (⟨S32x64x4x4, .f32⟩ : BufTy).Contents (Elt F) → (⟨S16x112x112x32, .f32⟩ : BufTy).Contents (Elt F)),
    unary main_v156 main_v157 ((transpose S16x32x112x112 [0, 3, 1, 2] · transposes_S16x112x112x32_S16x32x112x112_0_3_1_2) : (⟨S16x112x112x32, .f32⟩ : BufTy).Contents (Elt F) → (⟨S16x32x112x112, .f32⟩ : BufTy).Contents (Elt F)),
    unary main_arg11 main_v158 (broadcastInDim S1x32x1x1 ![1] bcast_S32_S1x32x1x1_1 : (⟨S32, .f32⟩ : BufTy).Contents (Elt F) → (⟨S1x32x1x1, .f32⟩ : BufTy).Contents (Elt F)),
    unary main_v158 main_v159 (broadcastInDim S16x32x112x112 ![0, 1, 2, 3] bcast_S1x32x1x1_S16x32x112x112_0_1_2_3 : (⟨S1x32x1x1, .f32⟩ : BufTy).Contents (Elt F) → (⟨S16x32x112x112, .f32⟩ : BufTy).Contents (Elt F)),
    binary main_v157 main_v159 main_v160 (addf : (⟨S16x32x112x112, .f32⟩ : BufTy).Contents (Elt F) → (⟨S16x32x112x112, .f32⟩ : BufTy).Contents (Elt F) → (⟨S16x32x112x112, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S16x32x112x112, .f32⟩) main_call6_v0) (broadcastInDim S16x32x112x112 ![] bcast_S_S16x32x112x112),
    TRef.binary (TRef.of (T := ⟨S16x32x112x112, .f32⟩) main_v160) (TRef.of (T := ⟨S16x32x112x112, .f32⟩) main_call6_v0) (TRef.of (T := ⟨S16x32x112x112, .f32⟩) main_v161) maximumf,
    unary main_arg12 main_v162 ((transpose S3x32x4x4 [1, 0, 2, 3] · transposes_S32x3x4x4_S3x32x4x4_1_0_2_3) : (⟨S32x3x4x4, .f32⟩ : BufTy).Contents (Elt F) → (⟨S3x32x4x4, .f32⟩ : BufTy).Contents (Elt F)) ]

/-- @main's operations 192 … 195 of 225 (window `main_part2`). -/
abbrev ops_part2_2 : List (HloOp τ sig (Elt F)) :=
  [ unary main_v162 main_v163 (Host.reverse [2, 3] : (⟨S3x32x4x4, .f32⟩ : BufTy).Contents (Elt F) → (⟨S3x32x4x4, .f32⟩ : BufTy).Contents (Elt F)),
    nullary main_cst_12 (constant S_ .f32 0x00000000#32),
    binary main_v161 main_cst_12 main_v164 ((fun x v => pad S16x32x227x227 ![0, 0, 2, 2] ![0, 0, 2, 2] ![0, 0, 1, 1] x v pads_S16x32x112x112_S16x32x227x227_000_000_221_221 h_S_) : (⟨S16x32x112x112, .f32⟩ : BufTy).Contents (Elt F) → (⟨S_, .f32⟩ : BufTy).Contents (Elt F) → (⟨S16x32x227x227, .f32⟩ : BufTy).Contents (Elt F)),
    unary main_v164 main_v165 ((extractStridedSlice S16x32x224x227 ![0, 0, 0, 0] · slices_S16x32x227x227_S16x32x224x227_0_0_0_0) : (⟨S16x32x227x227, .f32⟩ : BufTy).Contents (Elt F) → (⟨S16x32x224x227, .f32⟩ : BufTy).Contents (Elt F)) ]

/-- Window `main_part2`'s operations. Not an abbreviation: `main_eq` below splits `ops` into the windows and no further. -/
def ops_part2 : List (HloOp τ sig (Elt F)) :=
  ops_part2_0 ++ (ops_part2_1 ++ (ops_part2_2))

/-- @main's operations 196 … 225 of 225 (window `main_part3`). -/
abbrev ops_part3 : List (HloOp τ sig (Elt F)) :=
  [ unary main_v164 main_v166 ((extractStridedSlice S16x32x224x227 ![0, 0, 1, 0] · slices_S16x32x227x227_S16x32x224x227_0_0_1_0) : (⟨S16x32x227x227, .f32⟩ : BufTy).Contents (Elt F) → (⟨S16x32x224x227, .f32⟩ : BufTy).Contents (Elt F)),
    unary main_v164 main_v167 ((extractStridedSlice S16x32x224x227 ![0, 0, 2, 0] · slices_S16x32x227x227_S16x32x224x227_0_0_2_0) : (⟨S16x32x227x227, .f32⟩ : BufTy).Contents (Elt F) → (⟨S16x32x224x227, .f32⟩ : BufTy).Contents (Elt F)),
    unary main_v164 main_v168 ((extractStridedSlice S16x32x224x227 ![0, 0, 3, 0] · slices_S16x32x227x227_S16x32x224x227_0_0_3_0) : (⟨S16x32x227x227, .f32⟩ : BufTy).Contents (Elt F) → (⟨S16x32x224x227, .f32⟩ : BufTy).Contents (Elt F)),
    unary main_v165 main_v169 (broadcastInDim S16x32x1x224x227 ![0, 1, 3, 4] bcast_S16x32x224x227_S16x32x1x224x227_0_1_3_4 : (⟨S16x32x224x227, .f32⟩ : BufTy).Contents (Elt F) → (⟨S16x32x1x224x227, .f32⟩ : BufTy).Contents (Elt F)),
    unary main_v166 main_v170 (broadcastInDim S16x32x1x224x227 ![0, 1, 3, 4] bcast_S16x32x224x227_S16x32x1x224x227_0_1_3_4 : (⟨S16x32x224x227, .f32⟩ : BufTy).Contents (Elt F) → (⟨S16x32x1x224x227, .f32⟩ : BufTy).Contents (Elt F)),
    unary main_v167 main_v171 (broadcastInDim S16x32x1x224x227 ![0, 1, 3, 4] bcast_S16x32x224x227_S16x32x1x224x227_0_1_3_4 : (⟨S16x32x224x227, .f32⟩ : BufTy).Contents (Elt F) → (⟨S16x32x1x224x227, .f32⟩ : BufTy).Contents (Elt F)),
    unary main_v168 main_v172 (broadcastInDim S16x32x1x224x227 ![0, 1, 3, 4] bcast_S16x32x224x227_S16x32x1x224x227_0_1_3_4 : (⟨S16x32x224x227, .f32⟩ : BufTy).Contents (Elt F) → (⟨S16x32x1x224x227, .f32⟩ : BufTy).Contents (Elt F)),
    nary ![main_v169, main_v170, main_v171, main_v172] main_v173 (fun u => fn_main_v173 (F := F) (u 0) (u 1) (u 2) (u 3)),
    unary main_v173 main_v174 ((extractStridedSlice S16x32x4x224x224 ![0, 0, 0, 0, 0] · slices_S16x32x4x224x227_S16x32x4x224x224_0_0_0_0_0) : (⟨S16x32x4x224x227, .f32⟩ : BufTy).Contents (Elt F) → (⟨S16x32x4x224x224, .f32⟩ : BufTy).Contents (Elt F)),
    unary main_v173 main_v175 ((extractStridedSlice S16x32x4x224x224 ![0, 0, 0, 0, 1] · slices_S16x32x4x224x227_S16x32x4x224x224_0_0_0_0_1) : (⟨S16x32x4x224x227, .f32⟩ : BufTy).Contents (Elt F) → (⟨S16x32x4x224x224, .f32⟩ : BufTy).Contents (Elt F)),
    unary main_v173 main_v176 ((extractStridedSlice S16x32x4x224x224 ![0, 0, 0, 0, 2] · slices_S16x32x4x224x227_S16x32x4x224x224_0_0_0_0_2) : (⟨S16x32x4x224x227, .f32⟩ : BufTy).Contents (Elt F) → (⟨S16x32x4x224x224, .f32⟩ : BufTy).Contents (Elt F)),
    unary main_v173 main_v177 ((extractStridedSlice S16x32x4x224x224 ![0, 0, 0, 0, 3] · slices_S16x32x4x224x227_S16x32x4x224x224_0_0_0_0_3) : (⟨S16x32x4x224x227, .f32⟩ : BufTy).Contents (Elt F) → (⟨S16x32x4x224x224, .f32⟩ : BufTy).Contents (Elt F)),
    unary main_v174 main_v178 (broadcastInDim S16x32x4x1x224x224 ![0, 1, 2, 4, 5] bcast_S16x32x4x224x224_S16x32x4x1x224x224_0_1_2_4_5 : (⟨S16x32x4x224x224, .f32⟩ : BufTy).Contents (Elt F) → (⟨S16x32x4x1x224x224, .f32⟩ : BufTy).Contents (Elt F)),
    unary main_v175 main_v179 (broadcastInDim S16x32x4x1x224x224 ![0, 1, 2, 4, 5] bcast_S16x32x4x224x224_S16x32x4x1x224x224_0_1_2_4_5 : (⟨S16x32x4x224x224, .f32⟩ : BufTy).Contents (Elt F) → (⟨S16x32x4x1x224x224, .f32⟩ : BufTy).Contents (Elt F)),
    unary main_v176 main_v180 (broadcastInDim S16x32x4x1x224x224 ![0, 1, 2, 4, 5] bcast_S16x32x4x224x224_S16x32x4x1x224x224_0_1_2_4_5 : (⟨S16x32x4x224x224, .f32⟩ : BufTy).Contents (Elt F) → (⟨S16x32x4x1x224x224, .f32⟩ : BufTy).Contents (Elt F)),
    unary main_v177 main_v181 (broadcastInDim S16x32x4x1x224x224 ![0, 1, 2, 4, 5] bcast_S16x32x4x224x224_S16x32x4x1x224x224_0_1_2_4_5 : (⟨S16x32x4x224x224, .f32⟩ : BufTy).Contents (Elt F) → (⟨S16x32x4x1x224x224, .f32⟩ : BufTy).Contents (Elt F)),
    nary ![main_v178, main_v179, main_v180, main_v181] main_v182 (fun u => fn_main_v182 (F := F) (u 0) (u 1) (u 2) (u 3)),
    binary main_v182 main_v163 main_v183 ((fun l r => Host.dotGeneral dot_S16x32x4x4x224x224_S3x32x4x4_S16x224x224x3_231_231_045_0_n_n none l r) : (⟨S16x32x4x4x224x224, .f32⟩ : BufTy).Contents (Elt F) → (⟨S3x32x4x4, .f32⟩ : BufTy).Contents (Elt F) → (⟨S16x224x224x3, .f32⟩ : BufTy).Contents (Elt F)),
    unary main_v183 main_v184 ((transpose S16x3x224x224 [0, 3, 1, 2] · transposes_S16x224x224x3_S16x3x224x224_0_3_1_2) : (⟨S16x224x224x3, .f32⟩ : BufTy).Contents (Elt F) → (⟨S16x3x224x224, .f32⟩ : BufTy).Contents (Elt F)),
    unary main_arg13 main_v185 (broadcastInDim S1x3x1x1 ![1] bcast_S3_S1x3x1x1_1 : (⟨S3, .f32⟩ : BufTy).Contents (Elt F) → (⟨S1x3x1x1, .f32⟩ : BufTy).Contents (Elt F)),
    unary main_v185 main_v186 (broadcastInDim S16x3x224x224 ![0, 1, 2, 3] bcast_S1x3x1x1_S16x3x224x224_0_1_2_3 : (⟨S1x3x1x1, .f32⟩ : BufTy).Contents (Elt F) → (⟨S16x3x224x224, .f32⟩ : BufTy).Contents (Elt F)),
    binary main_v184 main_v186 main_v187 (addf : (⟨S16x3x224x224, .f32⟩ : BufTy).Contents (Elt F) → (⟨S16x3x224x224, .f32⟩ : BufTy).Contents (Elt F) → (⟨S16x3x224x224, .f32⟩ : BufTy).Contents (Elt F)),
    unary main_v187 main_v188 (Host.negf : (⟨S16x3x224x224, .f32⟩ : BufTy).Contents (Elt F) → (⟨S16x3x224x224, .f32⟩ : BufTy).Contents (Elt F)),
    unary main_v188 main_v189 (Host.exp : (⟨S16x3x224x224, .f32⟩ : BufTy).Contents (Elt F) → (⟨S16x3x224x224, .f32⟩ : BufTy).Contents (Elt F)),
    nullary main_cst_13 (constant S_ .f32 0x3F800000#32),
    unary main_cst_13 main_v190 (broadcastInDim S16x3x224x224 ![] bcast_S_S16x3x224x224 : (⟨S_, .f32⟩ : BufTy).Contents (Elt F) → (⟨S16x3x224x224, .f32⟩ : BufTy).Contents (Elt F)),
    binary main_v190 main_v189 main_v191 (addf : (⟨S16x3x224x224, .f32⟩ : BufTy).Contents (Elt F) → (⟨S16x3x224x224, .f32⟩ : BufTy).Contents (Elt F) → (⟨S16x3x224x224, .f32⟩ : BufTy).Contents (Elt F)),
    nullary main_cst_14 (constant S_ .f32 0x3F800000#32),
    unary main_cst_14 main_v192 (broadcastInDim S16x3x224x224 ![] bcast_S_S16x3x224x224 : (⟨S_, .f32⟩ : BufTy).Contents (Elt F) → (⟨S16x3x224x224, .f32⟩ : BufTy).Contents (Elt F)),
    binary main_v192 main_v191 main_v193 (Host.divf : (⟨S16x3x224x224, .f32⟩ : BufTy).Contents (Elt F) → (⟨S16x3x224x224, .f32⟩ : BufTy).Contents (Elt F) → (⟨S16x3x224x224, .f32⟩ : BufTy).Contents (Elt F)) ]

/-- @main's 225 operations, in order (a called function's operations stand in its call's place, spelt `TRef.…`). -/
abbrev ops : List (HloOp τ sig (Elt F)) :=
  ops_part0 ++ (ops_part1 ++ (ops_part2 ++ (ops_part3)))

set_option maxRecDepth 8192 in
set_option maxHeartbeats 4000000 in
theorem main_part0_eq (c : Dev nD) : main_part0 (F := F) c = seq ops_part0 := rfl
set_option maxRecDepth 8192 in
set_option maxHeartbeats 4000000 in
theorem main_part1_eq (c : Dev nD) : main_part1 (F := F) c = seq ops_part1 := rfl
set_option maxRecDepth 8192 in
set_option maxHeartbeats 4000000 in
theorem main_part2_eq (c : Dev nD) : main_part2 (F := F) c = seq ops_part2 := rfl
set_option maxRecDepth 8192 in
theorem main_part3_eq (c : Dev nD) : main_part3 (F := F) c = seq ops_part3 := rfl
set_option maxRecDepth 8192 in
theorem main_eq (c : Dev nD) : main (F := F) c = seq ops := by
  simp only [ops, seq_append, ← main_part0_eq c, ← main_part1_eq c, ← main_part2_eq c, ← main_part3_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_0_sub : (ops_part0_0 : List (HloOp τ sig (Elt F))).Forall fun op => op.bufs ⊆ tcRefs τ sig :=
  ⟨nullary_bufs_sub .., binary_bufs_sub .., unary_bufs_sub .., unary_bufs_sub .., unary_bufs_sub .., unary_bufs_sub .., unary_bufs_sub .., unary_bufs_sub .., unary_bufs_sub .., unary_bufs_sub .., nary_bufs_sub .., unary_bufs_sub .., unary_bufs_sub .., unary_bufs_sub .., unary_bufs_sub .., unary_bufs_sub .., unary_bufs_sub .., unary_bufs_sub .., unary_bufs_sub .., nary_bufs_sub .., binary_bufs_sub .., unary_bufs_sub .., unary_bufs_sub .., unary_bufs_sub .., binary_bufs_sub .., nullary_bufs_sub .., unary_bufs_sub .., binary_bufs_sub .., nullary_bufs_sub .., binary_bufs_sub ..⟩
set_option maxRecDepth 8192 in
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_1_sub : (ops_part0_1 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., nary_bufs_sub .., unary_bufs_sub .., unary_bufs_sub .., unary_bufs_sub .., unary_bufs_sub .., unary_bufs_sub .., unary_bufs_sub .., unary_bufs_sub .., unary_bufs_sub .., nary_bufs_sub .., binary_bufs_sub .., unary_bufs_sub .., unary_bufs_sub .., unary_bufs_sub .., binary_bufs_sub .., nullary_bufs_sub .., unary_bufs_sub .., binary_bufs_sub .., nullary_bufs_sub .., binary_bufs_sub .., unary_bufs_sub .., unary_bufs_sub ..⟩
set_option maxRecDepth 8192 in
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_2_sub : (ops_part0_2 : List (HloOp τ sig (Elt F))).Forall fun op => op.bufs ⊆ tcRefs τ sig :=
  ⟨unary_bufs_sub .., unary_bufs_sub .., unary_bufs_sub .., unary_bufs_sub ..⟩
set_option maxRecDepth 8192 in
theorem ops_part0_2_fresh : (ops_part0_2 : List (HloOp τ sig (Elt F))).Forall fun op => op.fresh = ∅ :=
  ⟨rfl, rfl, rfl, rfl⟩
set_option maxRecDepth 8192 in
theorem ops_part1_0_sub : (ops_part1_0 : List (HloOp τ sig (Elt F))).Forall fun op => op.bufs ⊆ tcRefs τ sig :=
  ⟨unary_bufs_sub .., unary_bufs_sub .., nary_bufs_sub .., unary_bufs_sub .., unary_bufs_sub .., unary_bufs_sub .., unary_bufs_sub .., unary_bufs_sub .., unary_bufs_sub .., unary_bufs_sub .., unary_bufs_sub .., nary_bufs_sub .., binary_bufs_sub .., unary_bufs_sub .., unary_bufs_sub .., unary_bufs_sub .., binary_bufs_sub .., nullary_bufs_sub .., unary_bufs_sub .., binary_bufs_sub .., unary_bufs_sub .., reshape_bufs_sub .., binary_bufs_sub .., nullary_bufs_sub .., binary_bufs_sub .., unary_bufs_sub .., nullary_bufs_sub .., unary_bufs_sub .., binary_bufs_sub .., unary_bufs_sub ..⟩
set_option maxRecDepth 8192 in
theorem ops_part1_0_fresh : (ops_part1_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_1_sub : (ops_part1_1 : List (HloOp τ sig (Elt F))).Forall fun op => op.bufs ⊆ tcRefs τ sig :=
  ⟨binary_bufs_sub .., unary_bufs_sub .., binary_bufs_sub .., binary_bufs_sub .., nullary_bufs_sub .., binary_bufs_sub .., unary_bufs_sub .., unary_bufs_sub .., binary_bufs_sub .., nullary_bufs_sub .., unary_bufs_sub .., binary_bufs_sub .., unary_bufs_sub .., nullary_bufs_sub .., nullary_bufs_sub .., nullary_bufs_sub .., quaternary_bufs_sub .., quaternary_bufs_sub .., unary_bufs_sub .., binary_bufs_sub .., reshape_bufs_sub .., unary_bufs_sub .., binary_bufs_sub .., binary_bufs_sub .., nullary_bufs_sub .., binary_bufs_sub .., nullary_bufs_sub .., binary_bufs_sub .., binary_bufs_sub .., binary_bufs_sub ..⟩
set_option maxRecDepth 8192 in
theorem ops_part1_1_fresh : (ops_part1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_2_sub : (ops_part1_2 : List (HloOp τ sig (Elt F))).Forall fun op => op.bufs ⊆ tcRefs τ sig :=
  ⟨nullary_bufs_sub .., binary_bufs_sub .., nullary_bufs_sub .., binary_bufs_sub .., binary_bufs_sub .., binary_bufs_sub .., unary_bufs_sub ..⟩
set_option maxRecDepth 8192 in
theorem ops_part1_2_fresh : (ops_part1_2 : List (HloOp τ sig (Elt F))).Forall fun op => op.fresh = ∅ :=
  ⟨rfl, rfl, rfl, rfl, rfl, rfl, rfl⟩
set_option maxRecDepth 8192 in
theorem ops_part2_0_sub : (ops_part2_0 : List (HloOp τ sig (Elt F))).Forall fun op => op.bufs ⊆ tcRefs τ sig :=
  ⟨unary_bufs_sub .., nullary_bufs_sub .., binary_bufs_sub .., unary_bufs_sub .., unary_bufs_sub .., unary_bufs_sub .., unary_bufs_sub .., unary_bufs_sub .., unary_bufs_sub .., unary_bufs_sub .., unary_bufs_sub .., nary_bufs_sub .., unary_bufs_sub .., unary_bufs_sub .., unary_bufs_sub .., unary_bufs_sub .., unary_bufs_sub .., unary_bufs_sub .., unary_bufs_sub .., unary_bufs_sub .., nary_bufs_sub .., binary_bufs_sub .., unary_bufs_sub .., unary_bufs_sub .., unary_bufs_sub .., binary_bufs_sub .., nullary_bufs_sub .., unary_bufs_sub .., binary_bufs_sub .., unary_bufs_sub ..⟩
set_option maxRecDepth 8192 in
theorem ops_part2_0_fresh : (ops_part2_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_1_sub : (ops_part2_1 : List (HloOp τ sig (Elt F))).Forall fun op => op.bufs ⊆ tcRefs τ sig :=
  ⟨unary_bufs_sub .., nullary_bufs_sub .., binary_bufs_sub .., unary_bufs_sub .., unary_bufs_sub .., unary_bufs_sub .., unary_bufs_sub .., unary_bufs_sub .., unary_bufs_sub .., unary_bufs_sub .., unary_bufs_sub .., nary_bufs_sub .., unary_bufs_sub .., unary_bufs_sub .., unary_bufs_sub .., unary_bufs_sub .., unary_bufs_sub .., unary_bufs_sub .., unary_bufs_sub .., unary_bufs_sub .., nary_bufs_sub .., binary_bufs_sub .., unary_bufs_sub .., unary_bufs_sub .., unary_bufs_sub .., binary_bufs_sub .., nullary_bufs_sub .., unary_bufs_sub .., binary_bufs_sub .., unary_bufs_sub ..⟩
set_option maxRecDepth 8192 in
theorem ops_part2_1_fresh : (ops_part2_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_2_sub : (ops_part2_2 : List (HloOp τ sig (Elt F))).Forall fun op => op.bufs ⊆ tcRefs τ sig :=
  ⟨unary_bufs_sub .., nullary_bufs_sub .., binary_bufs_sub .., unary_bufs_sub ..⟩
set_option maxRecDepth 8192 in
theorem ops_part2_2_fresh : (ops_part2_2 : List (HloOp τ sig (Elt F))).Forall fun op => op.fresh = ∅ :=
  ⟨rfl, rfl, rfl, rfl⟩
set_option maxRecDepth 8192 in
theorem ops_part3_sub : (ops_part3 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., nary_bufs_sub .., unary_bufs_sub .., unary_bufs_sub .., unary_bufs_sub .., unary_bufs_sub .., unary_bufs_sub .., unary_bufs_sub .., unary_bufs_sub .., unary_bufs_sub .., nary_bufs_sub .., binary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩
set_option maxRecDepth 8192 in
theorem ops_part3_fresh : (ops_part3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part0, ops_part1, ops_part2, List.mem_append, or_assoc] at h
    rcases h with h | h | h | h | h | h | h | h | h | h
    exacts [List.forall_iff_forall_mem.mp ops_part0_0_sub op h, List.forall_iff_forall_mem.mp ops_part0_1_sub op h, List.forall_iff_forall_mem.mp ops_part0_2_sub op h, List.forall_iff_forall_mem.mp ops_part1_0_sub op h, List.forall_iff_forall_mem.mp ops_part1_1_sub op h, List.forall_iff_forall_mem.mp ops_part1_2_sub op h, List.forall_iff_forall_mem.mp ops_part2_0_sub op h, List.forall_iff_forall_mem.mp ops_part2_1_sub op h, List.forall_iff_forall_mem.mp ops_part2_2_sub op h, List.forall_iff_forall_mem.mp ops_part3_sub op h]
theorem ops_fresh : ∀ op ∈ (ops : List (HloOp τ sig (Elt F))), op.fresh = ∅ := fun op h => by
    simp only [ops, ops_part0, ops_part1, ops_part2, List.mem_append, or_assoc] at h
    rcases h with h | h | h | h | h | h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part1_0_fresh op h, List.forall_iff_forall_mem.mp ops_part1_1_fresh op h, List.forall_iff_forall_mem.mp ops_part1_2_fresh op h, List.forall_iff_forall_mem.mp ops_part2_0_fresh op h, List.forall_iff_forall_mem.mp ops_part2_1_fresh op h, List.forall_iff_forall_mem.mp ops_part2_2_fresh op h, List.forall_iff_forall_mem.mp ops_part3_fresh op h]

set_option maxRecDepth 8192 in
/-- `main_v0`'s composed term of the arguments (named: it is used 4 times). -/
def res_main_v0 (V0 : Valuation τ sig (Elt F)) : (Proc.devRef .tc main_v0 : DevRef τ sig).ty.Contents (Elt F) :=
  pad S16x3x226x226 ![0, 0, 1, 1] ![0, 0, 1, 1] ![0, 0, 0, 0] (V0 (Proc.devRef .tc main_arg0)) (constant S_ .f32 0x00000000#32) pads_S16x3x224x224_S16x3x226x226_000_000_110_110 h_S_

set_option maxRecDepth 8192 in
/-- `main_v9`'s composed term of the arguments (named: it is used 4 times). -/
def res_main_v9 (V0 : Valuation τ sig (Elt F)) : (Proc.devRef .tc main_v9 : DevRef τ sig).ty.Contents (Elt F) :=
  (concatenate S16x3x4x112x226 2 [⟨S16x3x1x112x226, ((broadcastInDim S16x3x1x112x226 ![0, 1, 3, 4] bcast_S16x3x112x226_S16x3x1x112x226_0_1_3_4 (Host.slice S16x3x112x226 ![0, 0, 0, 0] ![1, 1, 2, 1] (res_main_v0 V0) slicesBy_S16x3x226x226_S16x3x112x226_0s1_0s1_0s2_0s1)) : (⟨S16x3x1x112x226, .f32⟩ : BufTy).Contents (Elt F))⟩, ⟨S16x3x1x112x226, ((broadcastInDim S16x3x1x112x226 ![0, 1, 3, 4] bcast_S16x3x112x226_S16x3x1x112x226_0_1_3_4 (Host.slice S16x3x112x226 ![0, 0, 1, 0] ![1, 1, 2, 1] (res_main_v0 V0) slicesBy_S16x3x226x226_S16x3x112x226_0s1_0s1_1s2_0s1)) : (⟨S16x3x1x112x226, .f32⟩ : BufTy).Contents (Elt F))⟩, ⟨S16x3x1x112x226, ((broadcastInDim S16x3x1x112x226 ![0, 1, 3, 4] bcast_S16x3x112x226_S16x3x1x112x226_0_1_3_4 (Host.slice S16x3x112x226 ![0, 0, 2, 0] ![1, 1, 2, 1] (res_main_v0 V0) slicesBy_S16x3x226x226_S16x3x112x226_0s1_0s1_2s2_0s1)) : (⟨S16x3x1x112x226, .f32⟩ : BufTy).Contents (Elt F))⟩, ⟨S16x3x1x112x226, ((broadcastInDim S16x3x1x112x226 ![0, 1, 3, 4] bcast_S16x3x112x226_S16x3x1x112x226_0_1_3_4 (Host.slice S16x3x112x226 ![0, 0, 3, 0] ![1, 1, 2, 1] (res_main_v0 V0) slicesBy_S16x3x226x226_S16x3x112x226_0s1_0s1_3s2_0s1)) : (⟨S16x3x1x112x226, .f32⟩ : BufTy).Contents (Elt F))⟩] concatenates_S16x3x1x112x226_S16x3x1x112x226_S16x3x1x112x226_S16x3x1x112x226_S16x3x4x112x226_d2 : (⟨S16x3x4x112x226, .f32⟩ : BufTy).Contents (Elt F))

set_option maxRecDepth 8192 in
/-- `main_v25`'s composed term of the arguments (named: it is used 4 times). -/
def res_main_v25 (V0 : Valuation τ sig (Elt F)) : (Proc.devRef .tc main_v25 : DevRef τ sig).ty.Contents (Elt F) :=
  pad S16x32x114x114 ![0, 0, 1, 1] ![0, 0, 1, 1] ![0, 0, 0, 0] (maximumf (addf (transpose S16x32x112x112 [0, 3, 1, 2] (Host.dotGeneral dot_S16x3x4x4x112x112_S32x3x4x4_S16x112x112x32_231_231_045_0_n_n none ((concatenate S16x3x4x4x112x112 3 [⟨S16x3x4x1x112x112, ((broadcastInDim S16x3x4x1x112x112 ![0, 1, 2, 4, 5] bcast_S16x3x4x112x112_S16x3x4x1x112x112_0_1_2_4_5 (Host.slice S16x3x4x112x112 ![0, 0, 0, 0, 0] ![1, 1, 1, 1, 2] (res_main_v9 V0) slicesBy_S16x3x4x112x226_S16x3x4x112x112_0s1_0s1_0s1_0s1_0s2)) : (⟨S16x3x4x1x112x112, .f32⟩ : BufTy).Contents (Elt F))⟩, ⟨S16x3x4x1x112x112, ((broadcastInDim S16x3x4x1x112x112 ![0, 1, 2, 4, 5] bcast_S16x3x4x112x112_S16x3x4x1x112x112_0_1_2_4_5 (Host.slice S16x3x4x112x112 ![0, 0, 0, 0, 1] ![1, 1, 1, 1, 2] (res_main_v9 V0) slicesBy_S16x3x4x112x226_S16x3x4x112x112_0s1_0s1_0s1_0s1_1s2)) : (⟨S16x3x4x1x112x112, .f32⟩ : BufTy).Contents (Elt F))⟩, ⟨S16x3x4x1x112x112, ((broadcastInDim S16x3x4x1x112x112 ![0, 1, 2, 4, 5] bcast_S16x3x4x112x112_S16x3x4x1x112x112_0_1_2_4_5 (Host.slice S16x3x4x112x112 ![0, 0, 0, 0, 2] ![1, 1, 1, 1, 2] (res_main_v9 V0) slicesBy_S16x3x4x112x226_S16x3x4x112x112_0s1_0s1_0s1_0s1_2s2)) : (⟨S16x3x4x1x112x112, .f32⟩ : BufTy).Contents (Elt F))⟩, ⟨S16x3x4x1x112x112, ((broadcastInDim S16x3x4x1x112x112 ![0, 1, 2, 4, 5] bcast_S16x3x4x112x112_S16x3x4x1x112x112_0_1_2_4_5 (Host.slice S16x3x4x112x112 ![0, 0, 0, 0, 3] ![1, 1, 1, 1, 2] (res_main_v9 V0) slicesBy_S16x3x4x112x226_S16x3x4x112x112_0s1_0s1_0s1_0s1_3s2)) : (⟨S16x3x4x1x112x112, .f32⟩ : BufTy).Contents (Elt F))⟩] concatenates_S16x3x4x1x112x112_S16x3x4x1x112x112_S16x3x4x1x112x112_S16x3x4x1x112x112_S16x3x4x4x112x112_d3 : (⟨S16x3x4x4x112x112, .f32⟩ : BufTy).Contents (Elt F))) (V0 (Proc.devRef .tc main_arg1))) transposes_S16x112x112x32_S16x32x112x112_0_3_1_2) (broadcastInDim S16x32x112x112 ![0, 1, 2, 3] bcast_S1x32x1x1_S16x32x112x112_0_1_2_3 (broadcastInDim S1x32x1x1 ![1] bcast_S32_S1x32x1x1_1 (V0 (Proc.devRef .tc main_arg2))))) (broadcastInDim S16x32x112x112 ![] bcast_S_S16x32x112x112 (constant S_ .f32 0x00000000#32))) (constant S_ .f32 0x00000000#32) pads_S16x32x112x112_S16x32x114x114_000_000_110_110 h_S_

set_option maxRecDepth 8192 in
/-- `main_v34`'s composed term of the arguments (named: it is used 4 times). -/
def res_main_v34 (V0 : Valuation τ sig (Elt F)) : (Proc.devRef .tc main_v34 : DevRef τ sig).ty.Contents (Elt F) :=
  (concatenate S16x32x4x56x114 2 [⟨S16x32x1x56x114, ((broadcastInDim S16x32x1x56x114 ![0, 1, 3, 4] bcast_S16x32x56x114_S16x32x1x56x114_0_1_3_4 (Host.slice S16x32x56x114 ![0, 0, 0, 0] ![1, 1, 2, 1] (res_main_v25 V0) slicesBy_S16x32x114x114_S16x32x56x114_0s1_0s1_0s2_0s1)) : (⟨S16x32x1x56x114, .f32⟩ : BufTy).Contents (Elt F))⟩, ⟨S16x32x1x56x114, ((broadcastInDim S16x32x1x56x114 ![0, 1, 3, 4] bcast_S16x32x56x114_S16x32x1x56x114_0_1_3_4 (Host.slice S16x32x56x114 ![0, 0, 1, 0] ![1, 1, 2, 1] (res_main_v25 V0) slicesBy_S16x32x114x114_S16x32x56x114_0s1_0s1_1s2_0s1)) : (⟨S16x32x1x56x114, .f32⟩ : BufTy).Contents (Elt F))⟩, ⟨S16x32x1x56x114, ((broadcastInDim S16x32x1x56x114 ![0, 1, 3, 4] bcast_S16x32x56x114_S16x32x1x56x114_0_1_3_4 (Host.slice S16x32x56x114 ![0, 0, 2, 0] ![1, 1, 2, 1] (res_main_v25 V0) slicesBy_S16x32x114x114_S16x32x56x114_0s1_0s1_2s2_0s1)) : (⟨S16x32x1x56x114, .f32⟩ : BufTy).Contents (Elt F))⟩, ⟨S16x32x1x56x114, ((broadcastInDim S16x32x1x56x114 ![0, 1, 3, 4] bcast_S16x32x56x114_S16x32x1x56x114_0_1_3_4 (Host.slice S16x32x56x114 ![0, 0, 3, 0] ![1, 1, 2, 1] (res_main_v25 V0) slicesBy_S16x32x114x114_S16x32x56x114_0s1_0s1_3s2_0s1)) : (⟨S16x32x1x56x114, .f32⟩ : BufTy).Contents (Elt F))⟩] concatenates_S16x32x1x56x114_S16x32x1x56x114_S16x32x1x56x114_S16x32x1x56x114_S16x32x4x56x114_d2 : (⟨S16x32x4x56x114, .f32⟩ : BufTy).Contents (Elt F))

set_option maxRecDepth 8192 in
/-- `main_v50`'s composed term of the arguments (named: it is used 4 times). -/
def res_main_v50 (V0 : Valuation τ sig (Elt F)) : (Proc.devRef .tc main_v50 : DevRef τ sig).ty.Contents (Elt F) :=
  pad S16x64x58x58 ![0, 0, 1, 1] ![0, 0, 1, 1] ![0, 0, 0, 0] (maximumf (addf (transpose S16x64x56x56 [0, 3, 1, 2] (Host.dotGeneral dot_S16x32x4x4x56x56_S64x32x4x4_S16x56x56x64_231_231_045_0_n_n none ((concatenate S16x32x4x4x56x56 3 [⟨S16x32x4x1x56x56, ((broadcastInDim S16x32x4x1x56x56 ![0, 1, 2, 4, 5] bcast_S16x32x4x56x56_S16x32x4x1x56x56_0_1_2_4_5 (Host.slice S16x32x4x56x56 ![0, 0, 0, 0, 0] ![1, 1, 1, 1, 2] (res_main_v34 V0) slicesBy_S16x32x4x56x114_S16x32x4x56x56_0s1_0s1_0s1_0s1_0s2)) : (⟨S16x32x4x1x56x56, .f32⟩ : BufTy).Contents (Elt F))⟩, ⟨S16x32x4x1x56x56, ((broadcastInDim S16x32x4x1x56x56 ![0, 1, 2, 4, 5] bcast_S16x32x4x56x56_S16x32x4x1x56x56_0_1_2_4_5 (Host.slice S16x32x4x56x56 ![0, 0, 0, 0, 1] ![1, 1, 1, 1, 2] (res_main_v34 V0) slicesBy_S16x32x4x56x114_S16x32x4x56x56_0s1_0s1_0s1_0s1_1s2)) : (⟨S16x32x4x1x56x56, .f32⟩ : BufTy).Contents (Elt F))⟩, ⟨S16x32x4x1x56x56, ((broadcastInDim S16x32x4x1x56x56 ![0, 1, 2, 4, 5] bcast_S16x32x4x56x56_S16x32x4x1x56x56_0_1_2_4_5 (Host.slice S16x32x4x56x56 ![0, 0, 0, 0, 2] ![1, 1, 1, 1, 2] (res_main_v34 V0) slicesBy_S16x32x4x56x114_S16x32x4x56x56_0s1_0s1_0s1_0s1_2s2)) : (⟨S16x32x4x1x56x56, .f32⟩ : BufTy).Contents (Elt F))⟩, ⟨S16x32x4x1x56x56, ((broadcastInDim S16x32x4x1x56x56 ![0, 1, 2, 4, 5] bcast_S16x32x4x56x56_S16x32x4x1x56x56_0_1_2_4_5 (Host.slice S16x32x4x56x56 ![0, 0, 0, 0, 3] ![1, 1, 1, 1, 2] (res_main_v34 V0) slicesBy_S16x32x4x56x114_S16x32x4x56x56_0s1_0s1_0s1_0s1_3s2)) : (⟨S16x32x4x1x56x56, .f32⟩ : BufTy).Contents (Elt F))⟩] concatenates_S16x32x4x1x56x56_S16x32x4x1x56x56_S16x32x4x1x56x56_S16x32x4x1x56x56_S16x32x4x4x56x56_d3 : (⟨S16x32x4x4x56x56, .f32⟩ : BufTy).Contents (Elt F))) (V0 (Proc.devRef .tc main_arg3))) transposes_S16x56x56x64_S16x64x56x56_0_3_1_2) (broadcastInDim S16x64x56x56 ![0, 1, 2, 3] bcast_S1x64x1x1_S16x64x56x56_0_1_2_3 (broadcastInDim S1x64x1x1 ![1] bcast_S64_S1x64x1x1_1 (V0 (Proc.devRef .tc main_arg4))))) (broadcastInDim S16x64x56x56 ![] bcast_S_S16x64x56x56 (constant S_ .f32 0x00000000#32))) (constant S_ .f32 0x00000000#32) pads_S16x64x56x56_S16x64x58x58_000_000_110_110 h_S_

set_option maxRecDepth 8192 in
/-- `main_v59`'s composed term of the arguments (named: it is used 4 times). -/
def res_main_v59 (V0 : Valuation τ sig (Elt F)) : (Proc.devRef .tc main_v59 : DevRef τ sig).ty.Contents (Elt F) :=
  (concatenate S16x64x4x28x58 2 [⟨S16x64x1x28x58, ((broadcastInDim S16x64x1x28x58 ![0, 1, 3, 4] bcast_S16x64x28x58_S16x64x1x28x58_0_1_3_4 (Host.slice S16x64x28x58 ![0, 0, 0, 0] ![1, 1, 2, 1] (res_main_v50 V0) slicesBy_S16x64x58x58_S16x64x28x58_0s1_0s1_0s2_0s1)) : (⟨S16x64x1x28x58, .f32⟩ : BufTy).Contents (Elt F))⟩, ⟨S16x64x1x28x58, ((broadcastInDim S16x64x1x28x58 ![0, 1, 3, 4] bcast_S16x64x28x58_S16x64x1x28x58_0_1_3_4 (Host.slice S16x64x28x58 ![0, 0, 1, 0] ![1, 1, 2, 1] (res_main_v50 V0) slicesBy_S16x64x58x58_S16x64x28x58_0s1_0s1_1s2_0s1)) : (⟨S16x64x1x28x58, .f32⟩ : BufTy).Contents (Elt F))⟩, ⟨S16x64x1x28x58, ((broadcastInDim S16x64x1x28x58 ![0, 1, 3, 4] bcast_S16x64x28x58_S16x64x1x28x58_0_1_3_4 (Host.slice S16x64x28x58 ![0, 0, 2, 0] ![1, 1, 2, 1] (res_main_v50 V0) slicesBy_S16x64x58x58_S16x64x28x58_0s1_0s1_2s2_0s1)) : (⟨S16x64x1x28x58, .f32⟩ : BufTy).Contents (Elt F))⟩, ⟨S16x64x1x28x58, ((broadcastInDim S16x64x1x28x58 ![0, 1, 3, 4] bcast_S16x64x28x58_S16x64x1x28x58_0_1_3_4 (Host.slice S16x64x28x58 ![0, 0, 3, 0] ![1, 1, 2, 1] (res_main_v50 V0) slicesBy_S16x64x58x58_S16x64x28x58_0s1_0s1_3s2_0s1)) : (⟨S16x64x1x28x58, .f32⟩ : BufTy).Contents (Elt F))⟩] concatenates_S16x64x1x28x58_S16x64x1x28x58_S16x64x1x28x58_S16x64x1x28x58_S16x64x4x28x58_d2 : (⟨S16x64x4x28x58, .f32⟩ : BufTy).Contents (Elt F))

set_option maxRecDepth 8192 in
/-- `main_v74`'s composed term of the arguments (named: it is used 5 times). -/
def res_main_v74 (V0 : Valuation τ sig (Elt F)) : (Proc.devRef .tc main_v74 : DevRef τ sig).ty.Contents (Elt F) :=
  maximumf (addf (transpose S16x64x28x28 [0, 3, 1, 2] (Host.dotGeneral dot_S16x64x4x4x28x28_S64x64x4x4_S16x28x28x64_231_231_045_0_n_n none ((concatenate S16x64x4x4x28x28 3 [⟨S16x64x4x1x28x28, ((broadcastInDim S16x64x4x1x28x28 ![0, 1, 2, 4, 5] bcast_S16x64x4x28x28_S16x64x4x1x28x28_0_1_2_4_5 (Host.slice S16x64x4x28x28 ![0, 0, 0, 0, 0] ![1, 1, 1, 1, 2] (res_main_v59 V0) slicesBy_S16x64x4x28x58_S16x64x4x28x28_0s1_0s1_0s1_0s1_0s2)) : (⟨S16x64x4x1x28x28, .f32⟩ : BufTy).Contents (Elt F))⟩, ⟨S16x64x4x1x28x28, ((broadcastInDim S16x64x4x1x28x28 ![0, 1, 2, 4, 5] bcast_S16x64x4x28x28_S16x64x4x1x28x28_0_1_2_4_5 (Host.slice S16x64x4x28x28 ![0, 0, 0, 0, 1] ![1, 1, 1, 1, 2] (res_main_v59 V0) slicesBy_S16x64x4x28x58_S16x64x4x28x28_0s1_0s1_0s1_0s1_1s2)) : (⟨S16x64x4x1x28x28, .f32⟩ : BufTy).Contents (Elt F))⟩, ⟨S16x64x4x1x28x28, ((broadcastInDim S16x64x4x1x28x28 ![0, 1, 2, 4, 5] bcast_S16x64x4x28x28_S16x64x4x1x28x28_0_1_2_4_5 (Host.slice S16x64x4x28x28 ![0, 0, 0, 0, 2] ![1, 1, 1, 1, 2] (res_main_v59 V0) slicesBy_S16x64x4x28x58_S16x64x4x28x28_0s1_0s1_0s1_0s1_2s2)) : (⟨S16x64x4x1x28x28, .f32⟩ : BufTy).Contents (Elt F))⟩, ⟨S16x64x4x1x28x28, ((broadcastInDim S16x64x4x1x28x28 ![0, 1, 2, 4, 5] bcast_S16x64x4x28x28_S16x64x4x1x28x28_0_1_2_4_5 (Host.slice S16x64x4x28x28 ![0, 0, 0, 0, 3] ![1, 1, 1, 1, 2] (res_main_v59 V0) slicesBy_S16x64x4x28x58_S16x64x4x28x28_0s1_0s1_0s1_0s1_3s2)) : (⟨S16x64x4x1x28x28, .f32⟩ : BufTy).Contents (Elt F))⟩] concatenates_S16x64x4x1x28x28_S16x64x4x1x28x28_S16x64x4x1x28x28_S16x64x4x1x28x28_S16x64x4x4x28x28_d3 : (⟨S16x64x4x4x28x28, .f32⟩ : BufTy).Contents (Elt F))) (V0 (Proc.devRef .tc main_arg5))) transposes_S16x28x28x64_S16x64x28x28_0_3_1_2) (broadcastInDim S16x64x28x28 ![0, 1, 2, 3] bcast_S1x64x1x1_S16x64x28x28_0_1_2_3 (broadcastInDim S1x64x1x1 ![1] bcast_S64_S1x64x1x1_1 (V0 (Proc.devRef .tc main_arg6))))) (broadcastInDim S16x64x28x28 ![] bcast_S_S16x64x28x28 (constant S_ .f32 0x00000000#32))

set_option maxRecDepth 8192 in
/-- `main_v76`'s composed term of the arguments (named: it is used 3 times). -/
def res_main_v76 (V0 : Valuation τ sig (Elt F)) : (Proc.devRef .tc main_v76 : DevRef τ sig).ty.Contents (Elt F) :=
  shapeCast _ (transpose S16x28x28x64 [0, 2, 3, 1] (res_main_v74 V0) transposes_S16x64x28x28_S16x28x28x64_0_2_3_1) shapeCasts_S16x28x28x64_S12544x64

set_option maxRecDepth 8192 in
/-- `main_v93`'s composed term of the arguments (named: it is used 2 times). -/
def res_main_v93 (V0 : Valuation τ sig (Elt F)) : (Proc.devRef .tc main_v93 : DevRef τ sig).ty.Contents (Elt F) :=
  Host.sqrt (maximumf (addf (subf (broadcastInDim S12544x512 ![0, 1] bcast_S12544x1_S12544x512_0_1 (broadcastInDim S12544x1 ![0] bcast_S12544_S12544x1_0 (Host.reduceAdd (mulf (res_main_v76 V0) (res_main_v76 V0)) (constant S_ .f32 0x00000000#32) reducesTo_S12544x64_S12544_d1 h_S_))) (Host.dotGeneral dot_S12544x64_S64x512_S12544x512_1_0_0_1_n_n none (mulf (broadcastInDim S12544x64 ![] bcast_S_S12544x64 (constant S_ .f32 0x40000000#32)) (res_main_v76 V0)) (transpose S64x512 [1, 0] (V0 (Proc.devRef .tc main_arg7)) transposes_S512x64_S64x512_1_0))) (broadcastInDim S12544x512 ![0, 1] bcast_S1x512_S12544x512_0_1 (broadcastInDim S1x512 ![1] bcast_S512_S1x512_1 (Host.reduceAdd (mulf (V0 (Proc.devRef .tc main_arg7)) (V0 (Proc.devRef .tc main_arg7))) (constant S_ .f32 0x00000000#32) reducesTo_S512x64_S512_d1 h_S_)))) (broadcastInDim S12544x512 ![] bcast_S_S12544x512 (constant S_ .f32 0x00000000#32)))

set_option maxRecDepth 8192 in
/-- `main_call3_v0`'s composed term of the arguments (named: it is used 2 times). -/
def res_main_call3_v0 (V0 : Valuation τ sig (Elt F)) : (Proc.devRef .tc main_call3_v0 : DevRef τ sig).ty.Contents (Elt F) :=
  iotaInDim S12544x512 32 1

set_option maxRecDepth 8192 in
/-- `main_call3_cst`'s composed term of the arguments (named: it is used 2 times). -/
def res_main_call3_cst (V0 : Valuation τ sig (Elt F)) : (Proc.devRef .tc main_call3_cst : DevRef τ sig).ty.Contents (Elt F) :=
  constant S_ .f32 0x7F800000#32

set_option maxRecDepth 8192 in
/-- `main_call3_c`'s composed term of the arguments (named: it is used 2 times). -/
def res_main_call3_c (V0 : Valuation τ sig (Elt F)) : (Proc.devRef .tc main_call3_c : DevRef τ sig).ty.Contents (Elt F) :=
  constantI S_ 32 0#32

set_option maxRecDepth 8192 in
/-- `main_v97`'s composed term of the arguments (named: it is used 3 times). -/
def res_main_v97 (V0 : Valuation τ sig (Elt F)) : (Proc.devRef .tc main_v97 : DevRef τ sig).ty.Contents (Elt F) :=
  transpose S16x64x28x28 [0, 3, 1, 2] (shapeCast _ (Host.gather gather_S512x64_S12544x1_S12544x64_1_0_n_n_0_1_164 (V0 (Proc.devRef .tc main_arg7)) (broadcastInDim S12544x1 ![0] bcast_S12544_S12544x1_0 ((fun j => (Host.argReduce reducer_argmin_f32_i32 (res_main_v93 V0) (res_main_call3_v0 V0) (res_main_call3_cst V0) (res_main_call3_c V0) reducesTo_S12544x512_S12544_d1 h_S_ j).2)))) shapeCasts_S12544x64_S16x28x28x64) transposes_S16x28x28x64_S16x64x28x28_0_3_1_2

set_option maxRecDepth 8192 in
/-- `main_v98`'s composed term of the arguments (named: it is used 2 times). -/
def res_main_v98 (V0 : Valuation τ sig (Elt F)) : (Proc.devRef .tc main_v98 : DevRef τ sig).ty.Contents (Elt F) :=
  subf (res_main_v74 V0) (res_main_v97 V0)

set_option maxRecDepth 8192 in
/-- `main_v102`'s composed term of the arguments (named: it is used 2 times). -/
def res_main_v102 (V0 : Valuation τ sig (Elt F)) : (Proc.devRef .tc main_v102 : DevRef τ sig).ty.Contents (Elt F) :=
  subf (res_main_v74 V0) (res_main_v97 V0)

set_option maxRecDepth 8192 in
/-- `main_v110`'s composed term of the arguments (named: it is used 4 times). -/
def res_main_v110 (V0 : Valuation τ sig (Elt F)) : (Proc.devRef .tc main_v110 : DevRef τ sig).ty.Contents (Elt F) :=
  pad S16x64x59x59 ![0, 0, 2, 2] ![0, 0, 2, 2] ![0, 0, 1, 1] (addf (res_main_v74 V0) (subf (res_main_v97 V0) (res_main_v74 V0))) (constant S_ .f32 0x00000000#32) pads_S16x64x28x28_S16x64x59x59_000_000_221_221 h_S_

set_option maxRecDepth 8192 in
/-- `main_v119`'s composed term of the arguments (named: it is used 4 times). -/
def res_main_v119 (V0 : Valuation τ sig (Elt F)) : (Proc.devRef .tc main_v119 : DevRef τ sig).ty.Contents (Elt F) :=
  (concatenate S16x64x4x56x59 2 [⟨S16x64x1x56x59, ((broadcastInDim S16x64x1x56x59 ![0, 1, 3, 4] bcast_S16x64x56x59_S16x64x1x56x59_0_1_3_4 (extractStridedSlice S16x64x56x59 ![0, 0, 0, 0] (res_main_v110 V0) slices_S16x64x59x59_S16x64x56x59_0_0_0_0)) : (⟨S16x64x1x56x59, .f32⟩ : BufTy).Contents (Elt F))⟩, ⟨S16x64x1x56x59, ((broadcastInDim S16x64x1x56x59 ![0, 1, 3, 4] bcast_S16x64x56x59_S16x64x1x56x59_0_1_3_4 (extractStridedSlice S16x64x56x59 ![0, 0, 1, 0] (res_main_v110 V0) slices_S16x64x59x59_S16x64x56x59_0_0_1_0)) : (⟨S16x64x1x56x59, .f32⟩ : BufTy).Contents (Elt F))⟩, ⟨S16x64x1x56x59, ((broadcastInDim S16x64x1x56x59 ![0, 1, 3, 4] bcast_S16x64x56x59_S16x64x1x56x59_0_1_3_4 (extractStridedSlice S16x64x56x59 ![0, 0, 2, 0] (res_main_v110 V0) slices_S16x64x59x59_S16x64x56x59_0_0_2_0)) : (⟨S16x64x1x56x59, .f32⟩ : BufTy).Contents (Elt F))⟩, ⟨S16x64x1x56x59, ((broadcastInDim S16x64x1x56x59 ![0, 1, 3, 4] bcast_S16x64x56x59_S16x64x1x56x59_0_1_3_4 (extractStridedSlice S16x64x56x59 ![0, 0, 3, 0] (res_main_v110 V0) slices_S16x64x59x59_S16x64x56x59_0_0_3_0)) : (⟨S16x64x1x56x59, .f32⟩ : BufTy).Contents (Elt F))⟩] concatenates_S16x64x1x56x59_S16x64x1x56x59_S16x64x1x56x59_S16x64x1x56x59_S16x64x4x56x59_d2 : (⟨S16x64x4x56x59, .f32⟩ : BufTy).Contents (Elt F))

set_option maxRecDepth 8192 in
/-- `main_v137`'s composed term of the arguments (named: it is used 4 times). -/
def res_main_v137 (V0 : Valuation τ sig (Elt F)) : (Proc.devRef .tc main_v137 : DevRef τ sig).ty.Contents (Elt F) :=
  pad S16x64x115x115 ![0, 0, 2, 2] ![0, 0, 2, 2] ![0, 0, 1, 1] (maximumf (addf (transpose S16x64x56x56 [0, 3, 1, 2] (Host.dotGeneral dot_S16x64x4x4x56x56_S64x64x4x4_S16x56x56x64_231_231_045_0_n_n none ((concatenate S16x64x4x4x56x56 3 [⟨S16x64x4x1x56x56, ((broadcastInDim S16x64x4x1x56x56 ![0, 1, 2, 4, 5] bcast_S16x64x4x56x56_S16x64x4x1x56x56_0_1_2_4_5 (extractStridedSlice S16x64x4x56x56 ![0, 0, 0, 0, 0] (res_main_v119 V0) slices_S16x64x4x56x59_S16x64x4x56x56_0_0_0_0_0)) : (⟨S16x64x4x1x56x56, .f32⟩ : BufTy).Contents (Elt F))⟩, ⟨S16x64x4x1x56x56, ((broadcastInDim S16x64x4x1x56x56 ![0, 1, 2, 4, 5] bcast_S16x64x4x56x56_S16x64x4x1x56x56_0_1_2_4_5 (extractStridedSlice S16x64x4x56x56 ![0, 0, 0, 0, 1] (res_main_v119 V0) slices_S16x64x4x56x59_S16x64x4x56x56_0_0_0_0_1)) : (⟨S16x64x4x1x56x56, .f32⟩ : BufTy).Contents (Elt F))⟩, ⟨S16x64x4x1x56x56, ((broadcastInDim S16x64x4x1x56x56 ![0, 1, 2, 4, 5] bcast_S16x64x4x56x56_S16x64x4x1x56x56_0_1_2_4_5 (extractStridedSlice S16x64x4x56x56 ![0, 0, 0, 0, 2] (res_main_v119 V0) slices_S16x64x4x56x59_S16x64x4x56x56_0_0_0_0_2)) : (⟨S16x64x4x1x56x56, .f32⟩ : BufTy).Contents (Elt F))⟩, ⟨S16x64x4x1x56x56, ((broadcastInDim S16x64x4x1x56x56 ![0, 1, 2, 4, 5] bcast_S16x64x4x56x56_S16x64x4x1x56x56_0_1_2_4_5 (extractStridedSlice S16x64x4x56x56 ![0, 0, 0, 0, 3] (res_main_v119 V0) slices_S16x64x4x56x59_S16x64x4x56x56_0_0_0_0_3)) : (⟨S16x64x4x1x56x56, .f32⟩ : BufTy).Contents (Elt F))⟩] concatenates_S16x64x4x1x56x56_S16x64x4x1x56x56_S16x64x4x1x56x56_S16x64x4x1x56x56_S16x64x4x4x56x56_d3 : (⟨S16x64x4x4x56x56, .f32⟩ : BufTy).Contents (Elt F))) (Host.reverse [2, 3] (transpose S64x64x4x4 [1, 0, 2, 3] (V0 (Proc.devRef .tc main_arg8)) transposes_S64x64x4x4_S64x64x4x4_1_0_2_3))) transposes_S16x56x56x64_S16x64x56x56_0_3_1_2) (broadcastInDim S16x64x56x56 ![0, 1, 2, 3] bcast_S1x64x1x1_S16x64x56x56_0_1_2_3 (broadcastInDim S1x64x1x1 ![1] bcast_S64_S1x64x1x1_1 (V0 (Proc.devRef .tc main_arg9))))) (broadcastInDim S16x64x56x56 ![] bcast_S_S16x64x56x56 (constant S_ .f32 0x00000000#32))) (constant S_ .f32 0x00000000#32) pads_S16x64x56x56_S16x64x115x115_000_000_221_221 h_S_

set_option maxRecDepth 8192 in
/-- `main_v146`'s composed term of the arguments (named: it is used 4 times). -/
def res_main_v146 (V0 : Valuation τ sig (Elt F)) : (Proc.devRef .tc main_v146 : DevRef τ sig).ty.Contents (Elt F) :=
  (concatenate S16x64x4x112x115 2 [⟨S16x64x1x112x115, ((broadcastInDim S16x64x1x112x115 ![0, 1, 3, 4] bcast_S16x64x112x115_S16x64x1x112x115_0_1_3_4 (extractStridedSlice S16x64x112x115 ![0, 0, 0, 0] (res_main_v137 V0) slices_S16x64x115x115_S16x64x112x115_0_0_0_0)) : (⟨S16x64x1x112x115, .f32⟩ : BufTy).Contents (Elt F))⟩, ⟨S16x64x1x112x115, ((broadcastInDim S16x64x1x112x115 ![0, 1, 3, 4] bcast_S16x64x112x115_S16x64x1x112x115_0_1_3_4 (extractStridedSlice S16x64x112x115 ![0, 0, 1, 0] (res_main_v137 V0) slices_S16x64x115x115_S16x64x112x115_0_0_1_0)) : (⟨S16x64x1x112x115, .f32⟩ : BufTy).Contents (Elt F))⟩, ⟨S16x64x1x112x115, ((broadcastInDim S16x64x1x112x115 ![0, 1, 3, 4] bcast_S16x64x112x115_S16x64x1x112x115_0_1_3_4 (extractStridedSlice S16x64x112x115 ![0, 0, 2, 0] (res_main_v137 V0) slices_S16x64x115x115_S16x64x112x115_0_0_2_0)) : (⟨S16x64x1x112x115, .f32⟩ : BufTy).Contents (Elt F))⟩, ⟨S16x64x1x112x115, ((broadcastInDim S16x64x1x112x115 ![0, 1, 3, 4] bcast_S16x64x112x115_S16x64x1x112x115_0_1_3_4 (extractStridedSlice S16x64x112x115 ![0, 0, 3, 0] (res_main_v137 V0) slices_S16x64x115x115_S16x64x112x115_0_0_3_0)) : (⟨S16x64x1x112x115, .f32⟩ : BufTy).Contents (Elt F))⟩] concatenates_S16x64x1x112x115_S16x64x1x112x115_S16x64x1x112x115_S16x64x1x112x115_S16x64x4x112x115_d2 : (⟨S16x64x4x112x115, .f32⟩ : BufTy).Contents (Elt F))

set_option maxRecDepth 8192 in
/-- `main_v164`'s composed term of the arguments (named: it is used 4 times). -/
def res_main_v164 (V0 : Valuation τ sig (Elt F)) : (Proc.devRef .tc main_v164 : DevRef τ sig).ty.Contents (Elt F) :=
  pad S16x32x227x227 ![0, 0, 2, 2] ![0, 0, 2, 2] ![0, 0, 1, 1] (maximumf (addf (transpose S16x32x112x112 [0, 3, 1, 2] (Host.dotGeneral dot_S16x64x4x4x112x112_S32x64x4x4_S16x112x112x32_231_231_045_0_n_n none ((concatenate S16x64x4x4x112x112 3 [⟨S16x64x4x1x112x112, ((broadcastInDim S16x64x4x1x112x112 ![0, 1, 2, 4, 5] bcast_S16x64x4x112x112_S16x64x4x1x112x112_0_1_2_4_5 (extractStridedSlice S16x64x4x112x112 ![0, 0, 0, 0, 0] (res_main_v146 V0) slices_S16x64x4x112x115_S16x64x4x112x112_0_0_0_0_0)) : (⟨S16x64x4x1x112x112, .f32⟩ : BufTy).Contents (Elt F))⟩, ⟨S16x64x4x1x112x112, ((broadcastInDim S16x64x4x1x112x112 ![0, 1, 2, 4, 5] bcast_S16x64x4x112x112_S16x64x4x1x112x112_0_1_2_4_5 (extractStridedSlice S16x64x4x112x112 ![0, 0, 0, 0, 1] (res_main_v146 V0) slices_S16x64x4x112x115_S16x64x4x112x112_0_0_0_0_1)) : (⟨S16x64x4x1x112x112, .f32⟩ : BufTy).Contents (Elt F))⟩, ⟨S16x64x4x1x112x112, ((broadcastInDim S16x64x4x1x112x112 ![0, 1, 2, 4, 5] bcast_S16x64x4x112x112_S16x64x4x1x112x112_0_1_2_4_5 (extractStridedSlice S16x64x4x112x112 ![0, 0, 0, 0, 2] (res_main_v146 V0) slices_S16x64x4x112x115_S16x64x4x112x112_0_0_0_0_2)) : (⟨S16x64x4x1x112x112, .f32⟩ : BufTy).Contents (Elt F))⟩, ⟨S16x64x4x1x112x112, ((broadcastInDim S16x64x4x1x112x112 ![0, 1, 2, 4, 5] bcast_S16x64x4x112x112_S16x64x4x1x112x112_0_1_2_4_5 (extractStridedSlice S16x64x4x112x112 ![0, 0, 0, 0, 3] (res_main_v146 V0) slices_S16x64x4x112x115_S16x64x4x112x112_0_0_0_0_3)) : (⟨S16x64x4x1x112x112, .f32⟩ : BufTy).Contents (Elt F))⟩] concatenates_S16x64x4x1x112x112_S16x64x4x1x112x112_S16x64x4x1x112x112_S16x64x4x1x112x112_S16x64x4x4x112x112_d3 : (⟨S16x64x4x4x112x112, .f32⟩ : BufTy).Contents (Elt F))) (Host.reverse [2, 3] (transpose S32x64x4x4 [1, 0, 2, 3] (V0 (Proc.devRef .tc main_arg10)) transposes_S64x32x4x4_S32x64x4x4_1_0_2_3))) transposes_S16x112x112x32_S16x32x112x112_0_3_1_2) (broadcastInDim S16x32x112x112 ![0, 1, 2, 3] bcast_S1x32x1x1_S16x32x112x112_0_1_2_3 (broadcastInDim S1x32x1x1 ![1] bcast_S32_S1x32x1x1_1 (V0 (Proc.devRef .tc main_arg11))))) (broadcastInDim S16x32x112x112 ![] bcast_S_S16x32x112x112 (constant S_ .f32 0x00000000#32))) (constant S_ .f32 0x00000000#32) pads_S16x32x112x112_S16x32x227x227_000_000_221_221 h_S_

set_option maxRecDepth 8192 in
/-- `main_v173`'s composed term of the arguments (named: it is used 4 times). -/
def res_main_v173 (V0 : Valuation τ sig (Elt F)) : (Proc.devRef .tc main_v173 : DevRef τ sig).ty.Contents (Elt F) :=
  (concatenate S16x32x4x224x227 2 [⟨S16x32x1x224x227, ((broadcastInDim S16x32x1x224x227 ![0, 1, 3, 4] bcast_S16x32x224x227_S16x32x1x224x227_0_1_3_4 (extractStridedSlice S16x32x224x227 ![0, 0, 0, 0] (res_main_v164 V0) slices_S16x32x227x227_S16x32x224x227_0_0_0_0)) : (⟨S16x32x1x224x227, .f32⟩ : BufTy).Contents (Elt F))⟩, ⟨S16x32x1x224x227, ((broadcastInDim S16x32x1x224x227 ![0, 1, 3, 4] bcast_S16x32x224x227_S16x32x1x224x227_0_1_3_4 (extractStridedSlice S16x32x224x227 ![0, 0, 1, 0] (res_main_v164 V0) slices_S16x32x227x227_S16x32x224x227_0_0_1_0)) : (⟨S16x32x1x224x227, .f32⟩ : BufTy).Contents (Elt F))⟩, ⟨S16x32x1x224x227, ((broadcastInDim S16x32x1x224x227 ![0, 1, 3, 4] bcast_S16x32x224x227_S16x32x1x224x227_0_1_3_4 (extractStridedSlice S16x32x224x227 ![0, 0, 2, 0] (res_main_v164 V0) slices_S16x32x227x227_S16x32x224x227_0_0_2_0)) : (⟨S16x32x1x224x227, .f32⟩ : BufTy).Contents (Elt F))⟩, ⟨S16x32x1x224x227, ((broadcastInDim S16x32x1x224x227 ![0, 1, 3, 4] bcast_S16x32x224x227_S16x32x1x224x227_0_1_3_4 (extractStridedSlice S16x32x224x227 ![0, 0, 3, 0] (res_main_v164 V0) slices_S16x32x227x227_S16x32x224x227_0_0_3_0)) : (⟨S16x32x1x224x227, .f32⟩ : BufTy).Contents (Elt F))⟩] concatenates_S16x32x1x224x227_S16x32x1x224x227_S16x32x1x224x227_S16x32x1x224x227_S16x32x4x224x227_d2 : (⟨S16x32x4x224x227, .f32⟩ : BufTy).Contents (Elt F))

end Cert.ReferenceIdeal.Value

end
-- ==== Proof.RefRun.lean ====
/- The reference program's run: every execution terminates with each result at the composed term of the launch
   contents and the arguments unchanged. -/
module

public import proofs.«01_k».proof.Proof.Gen.ReferenceIdeal
public import Idealize.ShloMosaic.Lib.StableHlo.Run
public import Idealize.ShloMosaic.Lib.Pipeline.Frame
public import proofs.«01_k».proof.Proof.RefOps

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl
theorem val0_main_arg7 (V0 : Valuation τ sig (Elt F)) : val0 V0 (no_index (Proc.devRef .tc main_arg7)) = V0 (Proc.devRef .tc main_arg7) := rfl
theorem val0_main_arg8 (V0 : Valuation τ sig (Elt F)) : val0 V0 (no_index (Proc.devRef .tc main_arg8)) = V0 (Proc.devRef .tc main_arg8) := rfl
theorem val0_main_arg9 (V0 : Valuation τ sig (Elt F)) : val0 V0 (no_index (Proc.devRef .tc main_arg9)) = V0 (Proc.devRef .tc main_arg9) := rfl
theorem val0_main_arg10 (V0 : Valuation τ sig (Elt F)) : val0 V0 (no_index (Proc.devRef .tc main_arg10)) = V0 (Proc.devRef .tc main_arg10) := rfl
theorem val0_main_arg11 (V0 : Valuation τ sig (Elt F)) : val0 V0 (no_index (Proc.devRef .tc main_arg11)) = V0 (Proc.devRef .tc main_arg11) := rfl
theorem val0_main_arg12 (V0 : Valuation τ sig (Elt F)) : val0 V0 (no_index (Proc.devRef .tc main_arg12)) = V0 (Proc.devRef .tc main_arg12) := rfl
theorem val0_main_arg13 (V0 : Valuation τ sig (Elt F)) : val0 V0 (no_index (Proc.devRef .tc main_arg13)) = V0 (Proc.devRef .tc main_arg13) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_cst, main_v0, main_v1, main_v2, main_v3, main_v4, main_v5, main_v6, main_v7, main_v8, main_v9, main_v10, main_v11, main_v12, main_v13, main_v14, main_v15, main_v16, main_v17, main_v18, main_v19, main_v20, main_v21, main_v22, main_v23, main_call0_cst, main_call0_v0, main_v24, main_cst_0, main_v25]
set_option maxRecDepth 8192 in
theorem ops_part0_0_writes : (ops_part0_0 : List (HloOp τ sig (Elt F))).Forall fun op => op.writes ⊆ (ops_part0_0_W.map (Proc.devRef (τ := τ) .tc)).toFinset := by
  simp only [List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
theorem val0_1_main_arg2 (V0 : Valuation τ sig (Elt F)) : val0_1 V0 (no_index (Proc.devRef .tc main_arg2)) = V0 (Proc.devRef .tc main_arg2) :=
  (val0_1_keep V0 main_arg2 (by decide)).trans (val0_main_arg2 V0)
theorem val0_1_main_arg3 (V0 : Valuation τ sig (Elt F)) : val0_1 V0 (no_index (Proc.devRef .tc main_arg3)) = V0 (Proc.devRef .tc main_arg3) :=
  (val0_1_keep V0 main_arg3 (by decide)).trans (val0_main_arg3 V0)
theorem val0_1_main_arg4 (V0 : Valuation τ sig (Elt F)) : val0_1 V0 (no_index (Proc.devRef .tc main_arg4)) = V0 (Proc.devRef .tc main_arg4) :=
  (val0_1_keep V0 main_arg4 (by decide)).trans (val0_main_arg4 V0)
theorem val0_1_main_arg5 (V0 : Valuation τ sig (Elt F)) : val0_1 V0 (no_index (Proc.devRef .tc main_arg5)) = V0 (Proc.devRef .tc main_arg5) :=
  (val0_1_keep V0 main_arg5 (by decide)).trans (val0_main_arg5 V0)
theorem val0_1_main_arg6 (V0 : Valuation τ sig (Elt F)) : val0_1 V0 (no_index (Proc.devRef .tc main_arg6)) = V0 (Proc.devRef .tc main_arg6) :=
  (val0_1_keep V0 main_arg6 (by decide)).trans (val0_main_arg6 V0)
theorem val0_1_main_arg7 (V0 : Valuation τ sig (Elt F)) : val0_1 V0 (no_index (Proc.devRef .tc main_arg7)) = V0 (Proc.devRef .tc main_arg7) :=
  (val0_1_keep V0 main_arg7 (by decide)).trans (val0_main_arg7 V0)
theorem val0_1_main_arg8 (V0 : Valuation τ sig (Elt F)) : val0_1 V0 (no_index (Proc.devRef .tc main_arg8)) = V0 (Proc.devRef .tc main_arg8) :=
  (val0_1_keep V0 main_arg8 (by decide)).trans (val0_main_arg8 V0)
theorem val0_1_main_arg9 (V0 : Valuation τ sig (Elt F)) : val0_1 V0 (no_index (Proc.devRef .tc main_arg9)) = V0 (Proc.devRef .tc main_arg9) :=
  (val0_1_keep V0 main_arg9 (by decide)).trans (val0_main_arg9 V0)
theorem val0_1_main_arg10 (V0 : Valuation τ sig (Elt F)) : val0_1 V0 (no_index (Proc.devRef .tc main_arg10)) = V0 (Proc.devRef .tc main_arg10) :=
  (val0_1_keep V0 main_arg10 (by decide)).trans (val0_main_arg10 V0)
theorem val0_1_main_arg11 (V0 : Valuation τ sig (Elt F)) : val0_1 V0 (no_index (Proc.devRef .tc main_arg11)) = V0 (Proc.devRef .tc main_arg11) :=
  (val0_1_keep V0 main_arg11 (by decide)).trans (val0_main_arg11 V0)
theorem val0_1_main_arg12 (V0 : Valuation τ sig (Elt F)) : val0_1 V0 (no_index (Proc.devRef .tc main_arg12)) = V0 (Proc.devRef .tc main_arg12) :=
  (val0_1_keep V0 main_arg12 (by decide)).trans (val0_main_arg12 V0)
theorem val0_1_main_arg13 (V0 : Valuation τ sig (Elt F)) : val0_1 V0 (no_index (Proc.devRef .tc main_arg13)) = V0 (Proc.devRef .tc main_arg13) :=
  (val0_1_keep V0 main_arg13 (by decide)).trans (val0_main_arg13 V0)
set_option maxRecDepth 8192 in
set_option maxHeartbeats 2000000 in
theorem val0_1_main_v25 (V0 : Valuation τ sig (Elt F)) : val0_1 V0 (no_index (Proc.devRef .tc main_v25)) = res_main_v25 V0 := by
  unfold val0_1
  simp only [ops_part0_0, TRef.binary, TRef.nullary, TRef.unary, TRef.toBuf, TRef.ofBuf, cast_eq]
  after_results_simp
  try dsimp only [Matrix.cons_val]
  try after_results_simp
  try dsimp only [Matrix.cons_val]
  try after_results_simp
  simp only [val0_main_arg2, val0_main_arg1, val0_main_arg0] <;> rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_v26, main_v27, main_v28, main_v29, main_v30, main_v31, main_v32, main_v33, main_v34, main_v35, main_v36, main_v37, main_v38, main_v39, main_v40, main_v41, main_v42, main_v43, main_v44, main_v45, main_v46, main_v47, main_v48, main_call1_cst, main_call1_v0, main_v49, main_cst_1, main_v50, main_v51, main_v52]
set_option maxRecDepth 8192 in
theorem ops_part0_1_writes : (ops_part0_1 : List (HloOp τ sig (Elt F))).Forall fun op => op.writes ⊆ (ops_part0_1_W.map (Proc.devRef (τ := τ) .tc)).toFinset := by
  simp only [List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
theorem val0_2_main_arg2 (V0 : Valuation τ sig (Elt F)) : val0_2 V0 (no_index (Proc.devRef .tc main_arg2)) = V0 (Proc.devRef .tc main_arg2) :=
  (val0_2_keep V0 main_arg2 (by decide)).trans (val0_1_main_arg2 V0)
theorem val0_2_main_arg3 (V0 : Valuation τ sig (Elt F)) : val0_2 V0 (no_index (Proc.devRef .tc main_arg3)) = V0 (Proc.devRef .tc main_arg3) :=
  (val0_2_keep V0 main_arg3 (by decide)).trans (val0_1_main_arg3 V0)
theorem val0_2_main_arg4 (V0 : Valuation τ sig (Elt F)) : val0_2 V0 (no_index (Proc.devRef .tc main_arg4)) = V0 (Proc.devRef .tc main_arg4) :=
  (val0_2_keep V0 main_arg4 (by decide)).trans (val0_1_main_arg4 V0)
theorem val0_2_main_arg5 (V0 : Valuation τ sig (Elt F)) : val0_2 V0 (no_index (Proc.devRef .tc main_arg5)) = V0 (Proc.devRef .tc main_arg5) :=
  (val0_2_keep V0 main_arg5 (by decide)).trans (val0_1_main_arg5 V0)
theorem val0_2_main_arg6 (V0 : Valuation τ sig (Elt F)) : val0_2 V0 (no_index (Proc.devRef .tc main_arg6)) = V0 (Proc.devRef .tc main_arg6) :=
  (val0_2_keep V0 main_arg6 (by decide)).trans (val0_1_main_arg6 V0)
theorem val0_2_main_arg7 (V0 : Valuation τ sig (Elt F)) : val0_2 V0 (no_index (Proc.devRef .tc main_arg7)) = V0 (Proc.devRef .tc main_arg7) :=
  (val0_2_keep V0 main_arg7 (by decide)).trans (val0_1_main_arg7 V0)
theorem val0_2_main_arg8 (V0 : Valuation τ sig (Elt F)) : val0_2 V0 (no_index (Proc.devRef .tc main_arg8)) = V0 (Proc.devRef .tc main_arg8) :=
  (val0_2_keep V0 main_arg8 (by decide)).trans (val0_1_main_arg8 V0)
theorem val0_2_main_arg9 (V0 : Valuation τ sig (Elt F)) : val0_2 V0 (no_index (Proc.devRef .tc main_arg9)) = V0 (Proc.devRef .tc main_arg9) :=
  (val0_2_keep V0 main_arg9 (by decide)).trans (val0_1_main_arg9 V0)
theorem val0_2_main_arg10 (V0 : Valuation τ sig (Elt F)) : val0_2 V0 (no_index (Proc.devRef .tc main_arg10)) = V0 (Proc.devRef .tc main_arg10) :=
  (val0_2_keep V0 main_arg10 (by decide)).trans (val0_1_main_arg10 V0)
theorem val0_2_main_arg11 (V0 : Valuation τ sig (Elt F)) : val0_2 V0 (no_index (Proc.devRef .tc main_arg11)) = V0 (Proc.devRef .tc main_arg11) :=
  (val0_2_keep V0 main_arg11 (by decide)).trans (val0_1_main_arg11 V0)
theorem val0_2_main_arg12 (V0 : Valuation τ sig (Elt F)) : val0_2 V0 (no_index (Proc.devRef .tc main_arg12)) = V0 (Proc.devRef .tc main_arg12) :=
  (val0_2_keep V0 main_arg12 (by decide)).trans (val0_1_main_arg12 V0)
theorem val0_2_main_arg13 (V0 : Valuation τ sig (Elt F)) : val0_2 V0 (no_index (Proc.devRef .tc main_arg13)) = V0 (Proc.devRef .tc main_arg13) :=
  (val0_2_keep V0 main_arg13 (by decide)).trans (val0_1_main_arg13 V0)
set_option maxRecDepth 8192 in
set_option maxHeartbeats 2000000 in
theorem val0_2_main_v50 (V0 : Valuation τ sig (Elt F)) : val0_2 V0 (no_index (Proc.devRef .tc main_v50)) = res_main_v50 V0 := by
  unfold val0_2
  simp only [ops_part0_1, TRef.binary, TRef.nullary, TRef.unary, TRef.toBuf, TRef.ofBuf, cast_eq]
  after_results_simp
  try dsimp only [Matrix.cons_val]
  try after_results_simp
  try dsimp only [Matrix.cons_val]
  try after_results_simp
  simp only [val0_1_main_arg4, val0_1_main_arg3, val0_1_main_v25] <;> rfl
set_option maxRecDepth 8192 in
set_option maxHeartbeats 2000000 in
theorem val0_2_main_v51 (V0 : Valuation τ sig (Elt F)) : val0_2 V0 (no_index (Proc.devRef .tc main_v51)) = Host.slice S16x64x28x58 ![0, 0, 0, 0] ![1, 1, 2, 1] (res_main_v50 V0) slicesBy_S16x64x58x58_S16x64x28x58_0s1_0s1_0s2_0s1 := by
  unfold val0_2
  simp only [ops_part0_1, TRef.binary, TRef.nullary, TRef.unary, TRef.toBuf, TRef.ofBuf, cast_eq]
  after_results_simp
  try dsimp only [Matrix.cons_val]
  try after_results_simp
  try dsimp only [Matrix.cons_val]
  try after_results_simp
  simp only [val0_1_main_arg4, val0_1_main_arg3, val0_1_main_v25] <;> rfl
set_option maxRecDepth 8192 in
set_option maxHeartbeats 2000000 in
theorem val0_2_main_v52 (V0 : Valuation τ sig (Elt F)) : val0_2 V0 (no_index (Proc.devRef .tc main_v52)) = Host.slice S16x64x28x58 ![0, 0, 1, 0] ![1, 1, 2, 1] (res_main_v50 V0) slicesBy_S16x64x58x58_S16x64x28x58_0s1_0s1_1s2_0s1 := by
  unfold val0_2
  simp only [ops_part0_1, TRef.binary, TRef.nullary, TRef.unary, TRef.toBuf, TRef.ofBuf, cast_eq]
  after_results_simp
  try dsimp only [Matrix.cons_val]
  try after_results_simp
  try dsimp only [Matrix.cons_val]
  try after_results_simp
  simp only [val0_1_main_arg4, val0_1_main_arg3, val0_1_main_v25] <;> rfl

/-- The device's buffer contents after @main's first 1 window. -/
def val1 (V0 : Valuation τ sig (Elt F)) : Valuation τ sig (Elt F) := after ops_part0_2 (val0_2 V0)
/-- The buffers that window `ops_part0_2`'s operations write. -/
abbrev ops_part0_2_W : List (Ref sig .tc) := [main_v53, main_v54, main_v55, main_v56]
set_option maxRecDepth 8192 in
theorem ops_part0_2_writes : (ops_part0_2 : List (HloOp τ sig (Elt F))).Forall fun op => op.writes ⊆ (ops_part0_2_W.map (Proc.devRef (τ := τ) .tc)).toFinset := by
  simp only [List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)
/-- A buffer that window `ops_part0_2` does not write keeps its contents through it. -/
theorem val1_keep (V0 : Valuation τ sig (Elt F)) (r : Ref sig .tc) (h : r ∉ ops_part0_2_W) :
    val1 V0 (Proc.devRef .tc r) = val0_2 V0 (Proc.devRef .tc r) :=
  after_of_writes_sub ops_part0_2 _ ops_part0_2_writes h
theorem val1_main_arg0 (V0 : Valuation τ sig (Elt F)) : val1 V0 (no_index (Proc.devRef .tc main_arg0)) = V0 (Proc.devRef .tc main_arg0) :=
  (val1_keep V0 main_arg0 (by decide)).trans (val0_2_main_arg0 V0)
theorem val1_main_arg1 (V0 : Valuation τ sig (Elt F)) : val1 V0 (no_index (Proc.devRef .tc main_arg1)) = V0 (Proc.devRef .tc main_arg1) :=
  (val1_keep V0 main_arg1 (by decide)).trans (val0_2_main_arg1 V0)
theorem val1_main_arg2 (V0 : Valuation τ sig (Elt F)) : val1 V0 (no_index (Proc.devRef .tc main_arg2)) = V0 (Proc.devRef .tc main_arg2) :=
  (val1_keep V0 main_arg2 (by decide)).trans (val0_2_main_arg2 V0)
theorem val1_main_arg3 (V0 : Valuation τ sig (Elt F)) : val1 V0 (no_index (Proc.devRef .tc main_arg3)) = V0 (Proc.devRef .tc main_arg3) :=
  (val1_keep V0 main_arg3 (by decide)).trans (val0_2_main_arg3 V0)
theorem val1_main_arg4 (V0 : Valuation τ sig (Elt F)) : val1 V0 (no_index (Proc.devRef .tc main_arg4)) = V0 (Proc.devRef .tc main_arg4) :=
  (val1_keep V0 main_arg4 (by decide)).trans (val0_2_main_arg4 V0)
theorem val1_main_arg5 (V0 : Valuation τ sig (Elt F)) : val1 V0 (no_index (Proc.devRef .tc main_arg5)) = V0 (Proc.devRef .tc main_arg5) :=
  (val1_keep V0 main_arg5 (by decide)).trans (val0_2_main_arg5 V0)
theorem val1_main_arg6 (V0 : Valuation τ sig (Elt F)) : val1 V0 (no_index (Proc.devRef .tc main_arg6)) = V0 (Proc.devRef .tc main_arg6) :=
  (val1_keep V0 main_arg6 (by decide)).trans (val0_2_main_arg6 V0)
theorem val1_main_arg7 (V0 : Valuation τ sig (Elt F)) : val1 V0 (no_index (Proc.devRef .tc main_arg7)) = V0 (Proc.devRef .tc main_arg7) :=
  (val1_keep V0 main_arg7 (by decide)).trans (val0_2_main_arg7 V0)
theorem val1_main_arg8 (V0 : Valuation τ sig (Elt F)) : val1 V0 (no_index (Proc.devRef .tc main_arg8)) = V0 (Proc.devRef .tc main_arg8) :=
  (val1_keep V0 main_arg8 (by decide)).trans (val0_2_main_arg8 V0)
theorem val1_main_arg9 (V0 : Valuation τ sig (Elt F)) : val1 V0 (no_index (Proc.devRef .tc main_arg9)) = V0 (Proc.devRef .tc main_arg9) :=
  (val1_keep V0 main_arg9 (by decide)).trans (val0_2_main_arg9 V0)
theorem val1_main_arg10 (V0 : Valuation τ sig (Elt F)) : val1 V0 (no_index (Proc.devRef .tc main_arg10)) = V0 (Proc.devRef .tc main_arg10) :=
  (val1_keep V0 main_arg10 (by decide)).trans (val0_2_main_arg10 V0)
theorem val1_main_arg11 (V0 : Valuation τ sig (Elt F)) : val1 V0 (no_index (Proc.devRef .tc main_arg11)) = V0 (Proc.devRef .tc main_arg11) :=
  (val1_keep V0 main_arg11 (by decide)).trans (val0_2_main_arg11 V0)
theorem val1_main_arg12 (V0 : Valuation τ sig (Elt F)) : val1 V0 (no_index (Proc.devRef .tc main_arg12)) = V0 (Proc.devRef .tc main_arg12) :=
  (val1_keep V0 main_arg12 (by decide)).trans (val0_2_main_arg12 V0)
theorem val1_main_arg13 (V0 : Valuation τ sig (Elt F)) : val1 V0 (no_index (Proc.devRef .tc main_arg13)) = V0 (Proc.devRef .tc main_arg13) :=
  (val1_keep V0 main_arg13 (by decide)).trans (val0_2_main_arg13 V0)
set_option maxRecDepth 8192 in
theorem val1_main_v53 (V0 : Valuation τ sig (Elt F)) : val1 V0 (no_index (Proc.devRef .tc main_v53)) = Host.slice S16x64x28x58 ![0, 0, 2, 0] ![1, 1, 2, 1] (res_main_v50 V0) slicesBy_S16x64x58x58_S16x64x28x58_0s1_0s1_2s2_0s1 := by
  unfold val1
  simp only [ops_part0_2]
  after_results_simp
  simp only [val0_2_main_v50] <;> rfl
set_option maxRecDepth 8192 in
theorem val1_main_v54 (V0 : Valuation τ sig (Elt F)) : val1 V0 (no_index (Proc.devRef .tc main_v54)) = Host.slice S16x64x28x58 ![0, 0, 3, 0] ![1, 1, 2, 1] (res_main_v50 V0) slicesBy_S16x64x58x58_S16x64x28x58_0s1_0s1_3s2_0s1 := by
  unfold val1
  simp only [ops_part0_2]
  after_results_simp
  simp only [val0_2_main_v50] <;> rfl
set_option maxRecDepth 8192 in
theorem val1_main_v55 (V0 : Valuation τ sig (Elt F)) : val1 V0 (no_index (Proc.devRef .tc main_v55)) = broadcastInDim S16x64x1x28x58 ![0, 1, 3, 4] bcast_S16x64x28x58_S16x64x1x28x58_0_1_3_4 (Host.slice S16x64x28x58 ![0, 0, 0, 0] ![1, 1, 2, 1] (res_main_v50 V0) slicesBy_S16x64x58x58_S16x64x28x58_0s1_0s1_0s2_0s1) := by
  unfold val1
  simp only [ops_part0_2]
  after_results_simp
  simp only [val0_2_main_v51] <;> rfl
set_option maxRecDepth 8192 in
theorem val1_main_v56 (V0 : Valuation τ sig (Elt F)) : val1 V0 (no_index (Proc.devRef .tc main_v56)) = broadcastInDim S16x64x1x28x58 ![0, 1, 3, 4] bcast_S16x64x28x58_S16x64x1x28x58_0_1_3_4 (Host.slice S16x64x28x58 ![0, 0, 1, 0] ![1, 1, 2, 1] (res_main_v50 V0) slicesBy_S16x64x58x58_S16x64x28x58_0s1_0s1_1s2_0s1) := by
  unfold val1
  simp only [ops_part0_2]
  after_results_simp
  simp only [val0_2_main_v52] <;> rfl

/-- The device's buffer contents after @main's first 94 operations. -/
def val1_1 (V0 : Valuation τ sig (Elt F)) : Valuation τ sig (Elt F) := after ops_part1_0 (val1 V0)
/-- The buffers that window `ops_part1_0`'s operations write. -/
abbrev ops_part1_0_W : List (Ref sig .tc) := [main_v57, main_v58, main_v59, main_v60, main_v61, main_v62, main_v63, main_v64, main_v65, main_v66, main_v67, main_v68, main_v69, main_v70, main_v71, main_v72, main_v73, main_call2_cst, main_call2_v0, main_v74, main_v75, main_v76, main_v77, main_cst_2, main_v78, main_v79, main_cst_3, main_v80, main_v81, main_v82]
set_option maxRecDepth 8192 in
theorem ops_part1_0_writes : (ops_part1_0 : List (HloOp τ sig (Elt F))).Forall fun op => op.writes ⊆ (ops_part1_0_W.map (Proc.devRef (τ := τ) .tc)).toFinset := by
  simp only [List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)
/-- A buffer that window `ops_part1_0` does not write keeps its contents through it. -/
theorem val1_1_keep (V0 : Valuation τ sig (Elt F)) (r : Ref sig .tc) (h : r ∉ ops_part1_0_W) :
    val1_1 V0 (Proc.devRef .tc r) = val1 V0 (Proc.devRef .tc r) :=
  after_of_writes_sub ops_part1_0 _ ops_part1_0_writes h
theorem val1_1_main_arg0 (V0 : Valuation τ sig (Elt F)) : val1_1 V0 (no_index (Proc.devRef .tc main_arg0)) = V0 (Proc.devRef .tc main_arg0) :=
  (val1_1_keep V0 main_arg0 (by decide)).trans (val1_main_arg0 V0)
theorem val1_1_main_arg1 (V0 : Valuation τ sig (Elt F)) : val1_1 V0 (no_index (Proc.devRef .tc main_arg1)) = V0 (Proc.devRef .tc main_arg1) :=
  (val1_1_keep V0 main_arg1 (by decide)).trans (val1_main_arg1 V0)
theorem val1_1_main_arg2 (V0 : Valuation τ sig (Elt F)) : val1_1 V0 (no_index (Proc.devRef .tc main_arg2)) = V0 (Proc.devRef .tc main_arg2) :=
  (val1_1_keep V0 main_arg2 (by decide)).trans (val1_main_arg2 V0)
theorem val1_1_main_arg3 (V0 : Valuation τ sig (Elt F)) : val1_1 V0 (no_index (Proc.devRef .tc main_arg3)) = V0 (Proc.devRef .tc main_arg3) :=
  (val1_1_keep V0 main_arg3 (by decide)).trans (val1_main_arg3 V0)
theorem val1_1_main_arg4 (V0 : Valuation τ sig (Elt F)) : val1_1 V0 (no_index (Proc.devRef .tc main_arg4)) = V0 (Proc.devRef .tc main_arg4) :=
  (val1_1_keep V0 main_arg4 (by decide)).trans (val1_main_arg4 V0)
theorem val1_1_main_arg5 (V0 : Valuation τ sig (Elt F)) : val1_1 V0 (no_index (Proc.devRef .tc main_arg5)) = V0 (Proc.devRef .tc main_arg5) :=
  (val1_1_keep V0 main_arg5 (by decide)).trans (val1_main_arg5 V0)
theorem val1_1_main_arg6 (V0 : Valuation τ sig (Elt F)) : val1_1 V0 (no_index (Proc.devRef .tc main_arg6)) = V0 (Proc.devRef .tc main_arg6) :=
  (val1_1_keep V0 main_arg6 (by decide)).trans (val1_main_arg6 V0)
theorem val1_1_main_arg7 (V0 : Valuation τ sig (Elt F)) : val1_1 V0 (no_index (Proc.devRef .tc main_arg7)) = V0 (Proc.devRef .tc main_arg7) :=
  (val1_1_keep V0 main_arg7 (by decide)).trans (val1_main_arg7 V0)
theorem val1_1_main_arg8 (V0 : Valuation τ sig (Elt F)) : val1_1 V0 (no_index (Proc.devRef .tc main_arg8)) = V0 (Proc.devRef .tc main_arg8) :=
  (val1_1_keep V0 main_arg8 (by decide)).trans (val1_main_arg8 V0)
theorem val1_1_main_arg9 (V0 : Valuation τ sig (Elt F)) : val1_1 V0 (no_index (Proc.devRef .tc main_arg9)) = V0 (Proc.devRef .tc main_arg9) :=
  (val1_1_keep V0 main_arg9 (by decide)).trans (val1_main_arg9 V0)
theorem val1_1_main_arg10 (V0 : Valuation τ sig (Elt F)) : val1_1 V0 (no_index (Proc.devRef .tc main_arg10)) = V0 (Proc.devRef .tc main_arg10) :=
  (val1_1_keep V0 main_arg10 (by decide)).trans (val1_main_arg10 V0)
theorem val1_1_main_arg11 (V0 : Valuation τ sig (Elt F)) : val1_1 V0 (no_index (Proc.devRef .tc main_arg11)) = V0 (Proc.devRef .tc main_arg11) :=
  (val1_1_keep V0 main_arg11 (by decide)).trans (val1_main_arg11 V0)
theorem val1_1_main_arg12 (V0 : Valuation τ sig (Elt F)) : val1_1 V0 (no_index (Proc.devRef .tc main_arg12)) = V0 (Proc.devRef .tc main_arg12) :=
  (val1_1_keep V0 main_arg12 (by decide)).trans (val1_main_arg12 V0)
theorem val1_1_main_arg13 (V0 : Valuation τ sig (Elt F)) : val1_1 V0 (no_index (Proc.devRef .tc main_arg13)) = V0 (Proc.devRef .tc main_arg13) :=
  (val1_1_keep V0 main_arg13 (by decide)).trans (val1_main_arg13 V0)
set_option maxRecDepth 8192 in
set_option maxHeartbeats 2000000 in
theorem val1_1_main_v74 (V0 : Valuation τ sig (Elt F)) : val1_1 V0 (no_index (Proc.devRef .tc main_v74)) = res_main_v74 V0 := by
  unfold val1_1
  simp only [ops_part1_0, TRef.binary, TRef.nullary, TRef.unary, TRef.toBuf, TRef.ofBuf, cast_eq]
  after_results_simp
  try dsimp only [Matrix.cons_val]
  try after_results_simp
  try dsimp only [Matrix.cons_val]
  try after_results_simp
  simp only [val1_main_arg6, val1_main_arg5, val1_main_v54, val1_main_v53, val1_main_v56, val1_main_v55] <;> rfl
set_option maxRecDepth 8192 in
set_option maxHeartbeats 2000000 in
theorem val1_1_main_v79 (V0 : Valuation τ sig (Elt F)) : val1_1 V0 (no_index (Proc.devRef .tc main_v79)) = broadcastInDim S12544x1 ![0] bcast_S12544_S12544x1_0 (Host.reduceAdd (mulf (res_main_v76 V0) (res_main_v76 V0)) (constant S_ .f32 0x00000000#32) reducesTo_S12544x64_S12544_d1 h_S_) := by
  unfold val1_1
  simp only [ops_part1_0, TRef.binary, TRef.nullary, TRef.unary, TRef.toBuf, TRef.ofBuf, cast_eq]
  after_results_simp
  try dsimp only [Matrix.cons_val]
  try after_results_simp
  try dsimp only [Matrix.cons_val]
  try after_results_simp
  simp only [val1_main_arg6, val1_main_arg5, val1_main_v54, val1_main_v53, val1_main_v56, val1_main_v55] <;> rfl
set_option maxRecDepth 8192 in
set_option maxHeartbeats 2000000 in
theorem val1_1_main_v81 (V0 : Valuation τ sig (Elt F)) : val1_1 V0 (no_index (Proc.devRef .tc main_v81)) = mulf (broadcastInDim S12544x64 ![] bcast_S_S12544x64 (constant S_ .f32 0x40000000#32)) (res_main_v76 V0) := by
  unfold val1_1
  simp only [ops_part1_0, TRef.binary, TRef.nullary, TRef.unary, TRef.toBuf, TRef.ofBuf, cast_eq]
  after_results_simp
  try dsimp only [Matrix.cons_val]
  try after_results_simp
  try dsimp only [Matrix.cons_val]
  try after_results_simp
  simp only [val1_main_arg6, val1_main_arg5, val1_main_v54, val1_main_v53, val1_main_v56, val1_main_v55] <;> rfl
set_option maxRecDepth 8192 in
set_option maxHeartbeats 2000000 in
theorem val1_1_main_v82 (V0 : Valuation τ sig (Elt F)) : val1_1 V0 (no_index (Proc.devRef .tc main_v82)) = transpose S64x512 [1, 0] (V0 (Proc.devRef .tc main_arg7)) transposes_S512x64_S64x512_1_0 := by
  unfold val1_1
  simp only [ops_part1_0, TRef.binary, TRef.nullary, TRef.unary, TRef.toBuf, TRef.ofBuf, cast_eq]
  after_results_simp
  try dsimp only [Matrix.cons_val]
  try after_results_simp
  try dsimp only [Matrix.cons_val]
  try after_results_simp
  simp only [val1_main_arg7] <;> rfl

/-- The device's buffer contents after @main's first 124 operations. -/
def val1_2 (V0 : Valuation τ sig (Elt F)) : Valuation τ sig (Elt F) := after ops_part1_1 (val1_1 V0)
/-- The buffers that window `ops_part1_1`'s operations write. -/
abbrev ops_part1_1_W : List (Ref sig .tc) := [main_v83, main_v84, main_v85, main_v86, main_cst_4, main_v87, main_v88, main_v89, main_v90, main_cst_5, main_v91, main_v92, main_v93, main_call3_v0, main_call3_cst, main_call3_c, main_call3_v1_0, main_v94, main_call4_v0, main_v95, main_v96, main_v97, main_v98, main_v99, main_cst_6, main_v100, main_cst_7, main_v101, main_v102, main_v103]
set_option maxRecDepth 8192 in
theorem ops_part1_1_writes : (ops_part1_1 : List (HloOp τ sig (Elt F))).Forall fun op => op.writes ⊆ (ops_part1_1_W.map (Proc.devRef (τ := τ) .tc)).toFinset := by
  simp only [List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)
/-- A buffer that window `ops_part1_1` does not write keeps its contents through it. -/
theorem val1_2_keep (V0 : Valuation τ sig (Elt F)) (r : Ref sig .tc) (h : r ∉ ops_part1_1_W) :
    val1_2 V0 (Proc.devRef .tc r) = val1_1 V0 (Proc.devRef .tc r) :=
  after_of_writes_sub ops_part1_1 _ ops_part1_1_writes h
theorem val1_2_main_arg0 (V0 : Valuation τ sig (Elt F)) : val1_2 V0 (no_index (Proc.devRef .tc main_arg0)) = V0 (Proc.devRef .tc main_arg0) :=
  (val1_2_keep V0 main_arg0 (by decide)).trans (val1_1_main_arg0 V0)
theorem val1_2_main_arg1 (V0 : Valuation τ sig (Elt F)) : val1_2 V0 (no_index (Proc.devRef .tc main_arg1)) = V0 (Proc.devRef .tc main_arg1) :=
  (val1_2_keep V0 main_arg1 (by decide)).trans (val1_1_main_arg1 V0)
theorem val1_2_main_arg2 (V0 : Valuation τ sig (Elt F)) : val1_2 V0 (no_index (Proc.devRef .tc main_arg2)) = V0 (Proc.devRef .tc main_arg2) :=
  (val1_2_keep V0 main_arg2 (by decide)).trans (val1_1_main_arg2 V0)
theorem val1_2_main_arg3 (V0 : Valuation τ sig (Elt F)) : val1_2 V0 (no_index (Proc.devRef .tc main_arg3)) = V0 (Proc.devRef .tc main_arg3) :=
  (val1_2_keep V0 main_arg3 (by decide)).trans (val1_1_main_arg3 V0)
theorem val1_2_main_arg4 (V0 : Valuation τ sig (Elt F)) : val1_2 V0 (no_index (Proc.devRef .tc main_arg4)) = V0 (Proc.devRef .tc main_arg4) :=
  (val1_2_keep V0 main_arg4 (by decide)).trans (val1_1_main_arg4 V0)
theorem val1_2_main_arg5 (V0 : Valuation τ sig (Elt F)) : val1_2 V0 (no_index (Proc.devRef .tc main_arg5)) = V0 (Proc.devRef .tc main_arg5) :=
  (val1_2_keep V0 main_arg5 (by decide)).trans (val1_1_main_arg5 V0)
theorem val1_2_main_arg6 (V0 : Valuation τ sig (Elt F)) : val1_2 V0 (no_index (Proc.devRef .tc main_arg6)) = V0 (Proc.devRef .tc main_arg6) :=
  (val1_2_keep V0 main_arg6 (by decide)).trans (val1_1_main_arg6 V0)
theorem val1_2_main_arg7 (V0 : Valuation τ sig (Elt F)) : val1_2 V0 (no_index (Proc.devRef .tc main_arg7)) = V0 (Proc.devRef .tc main_arg7) :=
  (val1_2_keep V0 main_arg7 (by decide)).trans (val1_1_main_arg7 V0)
theorem val1_2_main_arg8 (V0 : Valuation τ sig (Elt F)) : val1_2 V0 (no_index (Proc.devRef .tc main_arg8)) = V0 (Proc.devRef .tc main_arg8) :=
  (val1_2_keep V0 main_arg8 (by decide)).trans (val1_1_main_arg8 V0)
theorem val1_2_main_arg9 (V0 : Valuation τ sig (Elt F)) : val1_2 V0 (no_index (Proc.devRef .tc main_arg9)) = V0 (Proc.devRef .tc main_arg9) :=
  (val1_2_keep V0 main_arg9 (by decide)).trans (val1_1_main_arg9 V0)
theorem val1_2_main_arg10 (V0 : Valuation τ sig (Elt F)) : val1_2 V0 (no_index (Proc.devRef .tc main_arg10)) = V0 (Proc.devRef .tc main_arg10) :=
  (val1_2_keep V0 main_arg10 (by decide)).trans (val1_1_main_arg10 V0)
theorem val1_2_main_arg11 (V0 : Valuation τ sig (Elt F)) : val1_2 V0 (no_index (Proc.devRef .tc main_arg11)) = V0 (Proc.devRef .tc main_arg11) :=
  (val1_2_keep V0 main_arg11 (by decide)).trans (val1_1_main_arg11 V0)
theorem val1_2_main_arg12 (V0 : Valuation τ sig (Elt F)) : val1_2 V0 (no_index (Proc.devRef .tc main_arg12)) = V0 (Proc.devRef .tc main_arg12) :=
  (val1_2_keep V0 main_arg12 (by decide)).trans (val1_1_main_arg12 V0)
theorem val1_2_main_arg13 (V0 : Valuation τ sig (Elt F)) : val1_2 V0 (no_index (Proc.devRef .tc main_arg13)) = V0 (Proc.devRef .tc main_arg13) :=
  (val1_2_keep V0 main_arg13 (by decide)).trans (val1_1_main_arg13 V0)
theorem val1_2_main_v74 (V0 : Valuation τ sig (Elt F)) : val1_2 V0 (no_index (Proc.devRef .tc main_v74)) = res_main_v74 V0 :=
  (val1_2_keep V0 main_v74 (by decide)).trans (val1_1_main_v74 V0)
set_option maxRecDepth 8192 in
set_option maxHeartbeats 2000000 in
theorem val1_2_main_v97 (V0 : Valuation τ sig (Elt F)) : val1_2 V0 (no_index (Proc.devRef .tc main_v97)) = res_main_v97 V0 := by
  unfold val1_2
  simp only [ops_part1_1, TRef.binary, TRef.nullary, TRef.quaternary, TRef.unary, TRef.toBuf, TRef.ofBuf, cast_eq]
  after_results_simp
  simp only [val1_1_main_v82, val1_1_main_v81, val1_1_main_v79, val1_1_main_arg7] <;> rfl
set_option maxRecDepth 8192 in
set_option maxHeartbeats 2000000 in
theorem val1_2_main_v101 (V0 : Valuation τ sig (Elt F)) : val1_2 V0 (no_index (Proc.devRef .tc main_v101)) = Host.divf (Host.reduceAdd (mulf (res_main_v98 V0) (res_main_v98 V0)) (constant S_ .f32 0x00000000#32) reducesTo_S16x64x28x28_S_d0_1_2_3 h_S_) (constant S_ .f32 0x49440000#32) := by
  unfold val1_2
  simp only [ops_part1_1, TRef.binary, TRef.nullary, TRef.quaternary, TRef.unary, TRef.toBuf, TRef.ofBuf, cast_eq]
  after_results_simp
  simp only [val1_1_main_v82, val1_1_main_v81, val1_1_main_v79, val1_1_main_arg7, val1_1_main_v74] <;> rfl
set_option maxRecDepth 8192 in
set_option maxHeartbeats 2000000 in
theorem val1_2_main_v103 (V0 : Valuation τ sig (Elt F)) : val1_2 V0 (no_index (Proc.devRef .tc main_v103)) = mulf (res_main_v102 V0) (res_main_v102 V0) := by
  unfold val1_2
  simp only [ops_part1_1, TRef.binary, TRef.nullary, TRef.quaternary, TRef.unary, TRef.toBuf, TRef.ofBuf, cast_eq]
  after_results_simp
  simp only [val1_1_main_v82, val1_1_main_v81, val1_1_main_v79, val1_1_main_arg7, val1_1_main_v74] <;> rfl

/-- The device's buffer contents after @main's first 2 windows. -/
def val2 (V0 : Valuation τ sig (Elt F)) : Valuation τ sig (Elt F) := after ops_part1_2 (val1_2 V0)
/-- The buffers that window `ops_part1_2`'s operations write. -/
abbrev ops_part1_2_W : List (Ref sig .tc) := [main_cst_8, main_v104, main_cst_9, main_v105, main_v106, main_v107, main_v108]
set_option maxRecDepth 8192 in
theorem ops_part1_2_writes : (ops_part1_2 : List (HloOp τ sig (Elt F))).Forall fun op => op.writes ⊆ (ops_part1_2_W.map (Proc.devRef (τ := τ) .tc)).toFinset := by
  simp only [List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)
/-- A buffer that window `ops_part1_2` does not write keeps its contents through it. -/
theorem val2_keep (V0 : Valuation τ sig (Elt F)) (r : Ref sig .tc) (h : r ∉ ops_part1_2_W) :
    val2 V0 (Proc.devRef .tc r) = val1_2 V0 (Proc.devRef .tc r) :=
  after_of_writes_sub ops_part1_2 _ ops_part1_2_writes h
theorem val2_main_arg0 (V0 : Valuation τ sig (Elt F)) : val2 V0 (no_index (Proc.devRef .tc main_arg0)) = V0 (Proc.devRef .tc main_arg0) :=
  (val2_keep V0 main_arg0 (by decide)).trans (val1_2_main_arg0 V0)
theorem val2_main_arg1 (V0 : Valuation τ sig (Elt F)) : val2 V0 (no_index (Proc.devRef .tc main_arg1)) = V0 (Proc.devRef .tc main_arg1) :=
  (val2_keep V0 main_arg1 (by decide)).trans (val1_2_main_arg1 V0)
theorem val2_main_arg2 (V0 : Valuation τ sig (Elt F)) : val2 V0 (no_index (Proc.devRef .tc main_arg2)) = V0 (Proc.devRef .tc main_arg2) :=
  (val2_keep V0 main_arg2 (by decide)).trans (val1_2_main_arg2 V0)
theorem val2_main_arg3 (V0 : Valuation τ sig (Elt F)) : val2 V0 (no_index (Proc.devRef .tc main_arg3)) = V0 (Proc.devRef .tc main_arg3) :=
  (val2_keep V0 main_arg3 (by decide)).trans (val1_2_main_arg3 V0)
theorem val2_main_arg4 (V0 : Valuation τ sig (Elt F)) : val2 V0 (no_index (Proc.devRef .tc main_arg4)) = V0 (Proc.devRef .tc main_arg4) :=
  (val2_keep V0 main_arg4 (by decide)).trans (val1_2_main_arg4 V0)
theorem val2_main_arg5 (V0 : Valuation τ sig (Elt F)) : val2 V0 (no_index (Proc.devRef .tc main_arg5)) = V0 (Proc.devRef .tc main_arg5) :=
  (val2_keep V0 main_arg5 (by decide)).trans (val1_2_main_arg5 V0)
theorem val2_main_arg6 (V0 : Valuation τ sig (Elt F)) : val2 V0 (no_index (Proc.devRef .tc main_arg6)) = V0 (Proc.devRef .tc main_arg6) :=
  (val2_keep V0 main_arg6 (by decide)).trans (val1_2_main_arg6 V0)
theorem val2_main_arg7 (V0 : Valuation τ sig (Elt F)) : val2 V0 (no_index (Proc.devRef .tc main_arg7)) = V0 (Proc.devRef .tc main_arg7) :=
  (val2_keep V0 main_arg7 (by decide)).trans (val1_2_main_arg7 V0)
theorem val2_main_arg8 (V0 : Valuation τ sig (Elt F)) : val2 V0 (no_index (Proc.devRef .tc main_arg8)) = V0 (Proc.devRef .tc main_arg8) :=
  (val2_keep V0 main_arg8 (by decide)).trans (val1_2_main_arg8 V0)
theorem val2_main_arg9 (V0 : Valuation τ sig (Elt F)) : val2 V0 (no_index (Proc.devRef .tc main_arg9)) = V0 (Proc.devRef .tc main_arg9) :=
  (val2_keep V0 main_arg9 (by decide)).trans (val1_2_main_arg9 V0)
theorem val2_main_arg10 (V0 : Valuation τ sig (Elt F)) : val2 V0 (no_index (Proc.devRef .tc main_arg10)) = V0 (Proc.devRef .tc main_arg10) :=
  (val2_keep V0 main_arg10 (by decide)).trans (val1_2_main_arg10 V0)
theorem val2_main_arg11 (V0 : Valuation τ sig (Elt F)) : val2 V0 (no_index (Proc.devRef .tc main_arg11)) = V0 (Proc.devRef .tc main_arg11) :=
  (val2_keep V0 main_arg11 (by decide)).trans (val1_2_main_arg11 V0)
theorem val2_main_arg12 (V0 : Valuation τ sig (Elt F)) : val2 V0 (no_index (Proc.devRef .tc main_arg12)) = V0 (Proc.devRef .tc main_arg12) :=
  (val2_keep V0 main_arg12 (by decide)).trans (val1_2_main_arg12 V0)
theorem val2_main_arg13 (V0 : Valuation τ sig (Elt F)) : val2 V0 (no_index (Proc.devRef .tc main_arg13)) = V0 (Proc.devRef .tc main_arg13) :=
  (val2_keep V0 main_arg13 (by decide)).trans (val1_2_main_arg13 V0)
theorem val2_main_v101 (V0 : Valuation τ sig (Elt F)) : val2 V0 (no_index (Proc.devRef .tc main_v101)) = Host.divf (Host.reduceAdd (mulf (res_main_v98 V0) (res_main_v98 V0)) (constant S_ .f32 0x00000000#32) reducesTo_S16x64x28x28_S_d0_1_2_3 h_S_) (constant S_ .f32 0x49440000#32) :=
  (val2_keep V0 main_v101 (by decide)).trans (val1_2_main_v101 V0)
set_option maxRecDepth 8192 in
theorem val2_main_v105 (V0 : Valuation τ sig (Elt F)) : val2 V0 (no_index (Proc.devRef .tc main_v105)) = Host.divf (Host.reduceAdd (mulf (res_main_v102 V0) (res_main_v102 V0)) (constant S_ .f32 0x00000000#32) reducesTo_S16x64x28x28_S_d0_1_2_3 h_S_) (constant S_ .f32 0x49440000#32) := by
  unfold val2
  simp only [ops_part1_2]
  after_results_simp
  simp only [val1_2_main_v103] <;> rfl
set_option maxRecDepth 8192 in
theorem val2_main_v107 (V0 : Valuation τ sig (Elt F)) : val2 V0 (no_index (Proc.devRef .tc main_v107)) = addf (res_main_v74 V0) (subf (res_main_v97 V0) (res_main_v74 V0)) := by
  unfold val2
  simp only [ops_part1_2]
  after_results_simp
  simp only [val1_2_main_v97, val1_2_main_v74] <;> rfl
set_option maxRecDepth 8192 in
theorem val2_main_v108 (V0 : Valuation τ sig (Elt F)) : val2 V0 (no_index (Proc.devRef .tc main_v108)) = transpose S64x64x4x4 [1, 0, 2, 3] (V0 (Proc.devRef .tc main_arg8)) transposes_S64x64x4x4_S64x64x4x4_1_0_2_3 := by
  unfold val2
  simp only [ops_part1_2]
  after_results_simp
  simp only [val1_2_main_arg8] <;> rfl

/-- The device's buffer contents after @main's first 161 operations. -/
def val2_1 (V0 : Valuation τ sig (Elt F)) : Valuation τ sig (Elt F) := after ops_part2_0 (val2 V0)
/-- The buffers that window `ops_part2_0`'s operations write. -/
abbrev ops_part2_0_W : List (Ref sig .tc) := [main_v109, main_cst_10, main_v110, main_v111, main_v112, main_v113, main_v114, main_v115, main_v116, main_v117, main_v118, main_v119, main_v120, main_v121, main_v122, main_v123, main_v124, main_v125, main_v126, main_v127, main_v128, main_v129, main_v130, main_v131, main_v132, main_v133, main_call5_cst, main_call5_v0, main_v134, main_v135]
set_option maxRecDepth 8192 in
theorem ops_part2_0_writes : (ops_part2_0 : List (HloOp τ sig (Elt F))).Forall fun op => op.writes ⊆ (ops_part2_0_W.map (Proc.devRef (τ := τ) .tc)).toFinset := by
  simp only [List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)
/-- A buffer that window `ops_part2_0` does not write keeps its contents through it. -/
theorem val2_1_keep (V0 : Valuation τ sig (Elt F)) (r : Ref sig .tc) (h : r ∉ ops_part2_0_W) :
    val2_1 V0 (Proc.devRef .tc r) = val2 V0 (Proc.devRef .tc r) :=
  after_of_writes_sub ops_part2_0 _ ops_part2_0_writes h
theorem val2_1_main_arg0 (V0 : Valuation τ sig (Elt F)) : val2_1 V0 (no_index (Proc.devRef .tc main_arg0)) = V0 (Proc.devRef .tc main_arg0) :=
  (val2_1_keep V0 main_arg0 (by decide)).trans (val2_main_arg0 V0)
theorem val2_1_main_arg1 (V0 : Valuation τ sig (Elt F)) : val2_1 V0 (no_index (Proc.devRef .tc main_arg1)) = V0 (Proc.devRef .tc main_arg1) :=
  (val2_1_keep V0 main_arg1 (by decide)).trans (val2_main_arg1 V0)
theorem val2_1_main_arg2 (V0 : Valuation τ sig (Elt F)) : val2_1 V0 (no_index (Proc.devRef .tc main_arg2)) = V0 (Proc.devRef .tc main_arg2) :=
  (val2_1_keep V0 main_arg2 (by decide)).trans (val2_main_arg2 V0)
theorem val2_1_main_arg3 (V0 : Valuation τ sig (Elt F)) : val2_1 V0 (no_index (Proc.devRef .tc main_arg3)) = V0 (Proc.devRef .tc main_arg3) :=
  (val2_1_keep V0 main_arg3 (by decide)).trans (val2_main_arg3 V0)
theorem val2_1_main_arg4 (V0 : Valuation τ sig (Elt F)) : val2_1 V0 (no_index (Proc.devRef .tc main_arg4)) = V0 (Proc.devRef .tc main_arg4) :=
  (val2_1_keep V0 main_arg4 (by decide)).trans (val2_main_arg4 V0)
theorem val2_1_main_arg5 (V0 : Valuation τ sig (Elt F)) : val2_1 V0 (no_index (Proc.devRef .tc main_arg5)) = V0 (Proc.devRef .tc main_arg5) :=
  (val2_1_keep V0 main_arg5 (by decide)).trans (val2_main_arg5 V0)
theorem val2_1_main_arg6 (V0 : Valuation τ sig (Elt F)) : val2_1 V0 (no_index (Proc.devRef .tc main_arg6)) = V0 (Proc.devRef .tc main_arg6) :=
  (val2_1_keep V0 main_arg6 (by decide)).trans (val2_main_arg6 V0)
theorem val2_1_main_arg7 (V0 : Valuation τ sig (Elt F)) : val2_1 V0 (no_index (Proc.devRef .tc main_arg7)) = V0 (Proc.devRef .tc main_arg7) :=
  (val2_1_keep V0 main_arg7 (by decide)).trans (val2_main_arg7 V0)
theorem val2_1_main_arg8 (V0 : Valuation τ sig (Elt F)) : val2_1 V0 (no_index (Proc.devRef .tc main_arg8)) = V0 (Proc.devRef .tc main_arg8) :=
  (val2_1_keep V0 main_arg8 (by decide)).trans (val2_main_arg8 V0)
theorem val2_1_main_arg9 (V0 : Valuation τ sig (Elt F)) : val2_1 V0 (no_index (Proc.devRef .tc main_arg9)) = V0 (Proc.devRef .tc main_arg9) :=
  (val2_1_keep V0 main_arg9 (by decide)).trans (val2_main_arg9 V0)
theorem val2_1_main_arg10 (V0 : Valuation τ sig (Elt F)) : val2_1 V0 (no_index (Proc.devRef .tc main_arg10)) = V0 (Proc.devRef .tc main_arg10) :=
  (val2_1_keep V0 main_arg10 (by decide)).trans (val2_main_arg10 V0)
theorem val2_1_main_arg11 (V0 : Valuation τ sig (Elt F)) : val2_1 V0 (no_index (Proc.devRef .tc main_arg11)) = V0 (Proc.devRef .tc main_arg11) :=
  (val2_1_keep V0 main_arg11 (by decide)).trans (val2_main_arg11 V0)
theorem val2_1_main_arg12 (V0 : Valuation τ sig (Elt F)) : val2_1 V0 (no_index (Proc.devRef .tc main_arg12)) = V0 (Proc.devRef .tc main_arg12) :=
  (val2_1_keep V0 main_arg12 (by decide)).trans (val2_main_arg12 V0)
theorem val2_1_main_arg13 (V0 : Valuation τ sig (Elt F)) : val2_1 V0 (no_index (Proc.devRef .tc main_arg13)) = V0 (Proc.devRef .tc main_arg13) :=
  (val2_1_keep V0 main_arg13 (by decide)).trans (val2_main_arg13 V0)
theorem val2_1_main_v101 (V0 : Valuation τ sig (Elt F)) : val2_1 V0 (no_index (Proc.devRef .tc main_v101)) = Host.divf (Host.reduceAdd (mulf (res_main_v98 V0) (res_main_v98 V0)) (constant S_ .f32 0x00000000#32) reducesTo_S16x64x28x28_S_d0_1_2_3 h_S_) (constant S_ .f32 0x49440000#32) :=
  (val2_1_keep V0 main_v101 (by decide)).trans (val2_main_v101 V0)
theorem val2_1_main_v105 (V0 : Valuation τ sig (Elt F)) : val2_1 V0 (no_index (Proc.devRef .tc main_v105)) = Host.divf (Host.reduceAdd (mulf (res_main_v102 V0) (res_main_v102 V0)) (constant S_ .f32 0x00000000#32) reducesTo_S16x64x28x28_S_d0_1_2_3 h_S_) (constant S_ .f32 0x49440000#32) :=
  (val2_1_keep V0 main_v105 (by decide)).trans (val2_main_v105 V0)
set_option maxRecDepth 8192 in
set_option maxHeartbeats 2000000 in
theorem val2_1_main_v134 (V0 : Valuation τ sig (Elt F)) : val2_1 V0 (no_index (Proc.devRef .tc main_v134)) = maximumf (addf (transpose S16x64x56x56 [0, 3, 1, 2] (Host.dotGeneral dot_S16x64x4x4x56x56_S64x64x4x4_S16x56x56x64_231_231_045_0_n_n none ((concatenate S16x64x4x4x56x56 3 [⟨S16x64x4x1x56x56, ((broadcastInDim S16x64x4x1x56x56 ![0, 1, 2, 4, 5] bcast_S16x64x4x56x56_S16x64x4x1x56x56_0_1_2_4_5 (extractStridedSlice S16x64x4x56x56 ![0, 0, 0, 0, 0] (res_main_v119 V0) slices_S16x64x4x56x59_S16x64x4x56x56_0_0_0_0_0)) : (⟨S16x64x4x1x56x56, .f32⟩ : BufTy).Contents (Elt F))⟩, ⟨S16x64x4x1x56x56, ((broadcastInDim S16x64x4x1x56x56 ![0, 1, 2, 4, 5] bcast_S16x64x4x56x56_S16x64x4x1x56x56_0_1_2_4_5 (extractStridedSlice S16x64x4x56x56 ![0, 0, 0, 0, 1] (res_main_v119 V0) slices_S16x64x4x56x59_S16x64x4x56x56_0_0_0_0_1)) : (⟨S16x64x4x1x56x56, .f32⟩ : BufTy).Contents (Elt F))⟩, ⟨S16x64x4x1x56x56, ((broadcastInDim S16x64x4x1x56x56 ![0, 1, 2, 4, 5] bcast_S16x64x4x56x56_S16x64x4x1x56x56_0_1_2_4_5 (extractStridedSlice S16x64x4x56x56 ![0, 0, 0, 0, 2] (res_main_v119 V0) slices_S16x64x4x56x59_S16x64x4x56x56_0_0_0_0_2)) : (⟨S16x64x4x1x56x56, .f32⟩ : BufTy).Contents (Elt F))⟩, ⟨S16x64x4x1x56x56, ((broadcastInDim S16x64x4x1x56x56 ![0, 1, 2, 4, 5] bcast_S16x64x4x56x56_S16x64x4x1x56x56_0_1_2_4_5 (extractStridedSlice S16x64x4x56x56 ![0, 0, 0, 0, 3] (res_main_v119 V0) slices_S16x64x4x56x59_S16x64x4x56x56_0_0_0_0_3)) : (⟨S16x64x4x1x56x56, .f32⟩ : BufTy).Contents (Elt F))⟩] concatenates_S16x64x4x1x56x56_S16x64x4x1x56x56_S16x64x4x1x56x56_S16x64x4x1x56x56_S16x64x4x4x56x56_d3 : (⟨S16x64x4x4x56x56, .f32⟩ : BufTy).Contents (Elt F))) (Host.reverse [2, 3] (transpose S64x64x4x4 [1, 0, 2, 3] (V0 (Proc.devRef .tc main_arg8)) transposes_S64x64x4x4_S64x64x4x4_1_0_2_3))) transposes_S16x56x56x64_S16x64x56x56_0_3_1_2) (broadcastInDim S16x64x56x56 ![0, 1, 2, 3] bcast_S1x64x1x1_S16x64x56x56_0_1_2_3 (broadcastInDim S1x64x1x1 ![1] bcast_S64_S1x64x1x1_1 (V0 (Proc.devRef .tc main_arg9))))) (broadcastInDim S16x64x56x56 ![] bcast_S_S16x64x56x56 (constant S_ .f32 0x00000000#32)) := by
  unfold val2_1
  simp only [ops_part2_0, TRef.binary, TRef.nullary, TRef.unary, TRef.toBuf, TRef.ofBuf, cast_eq]
  after_results_simp
  try dsimp only [Matrix.cons_val]
  try after_results_simp
  try dsimp only [Matrix.cons_val]
  try after_results_simp
  simp only [val2_main_arg9, val2_main_v108, val2_main_v107] <;> rfl
set_option maxRecDepth 8192 in
set_option maxHeartbeats 2000000 in
theorem val2_1_main_v135 (V0 : Valuation τ sig (Elt F)) : val2_1 V0 (no_index (Proc.devRef .tc main_v135)) = transpose S32x64x4x4 [1, 0, 2, 3] (V0 (Proc.devRef .tc main_arg10)) transposes_S64x32x4x4_S32x64x4x4_1_0_2_3 := by
  unfold val2_1
  simp only [ops_part2_0, TRef.binary, TRef.nullary, TRef.unary, TRef.toBuf, TRef.ofBuf, cast_eq]
  after_results_simp
  try dsimp only [Matrix.cons_val]
  try after_results_simp
  try dsimp only [Matrix.cons_val]
  try after_results_simp
  simp only [val2_main_arg10] <;> rfl

/-- The device's buffer contents after @main's first 191 operations. -/
def val2_2 (V0 : Valuation τ sig (Elt F)) : Valuation τ sig (Elt F) := after ops_part2_1 (val2_1 V0)
/-- The buffers that window `ops_part2_1`'s operations write. -/
abbrev ops_part2_1_W : List (Ref sig .tc) := [main_v136, main_cst_11, main_v137, main_v138, main_v139, main_v140, main_v141, main_v142, main_v143, main_v144, main_v145, main_v146, main_v147, main_v148, main_v149, main_v150, main_v151, main_v152, main_v153, main_v154, main_v155, main_v156, main_v157, main_v158, main_v159, main_v160, main_call6_cst, main_call6_v0, main_v161, main_v162]
set_option maxRecDepth 8192 in
theorem ops_part2_1_writes : (ops_part2_1 : List (HloOp τ sig (Elt F))).Forall fun op => op.writes ⊆ (ops_part2_1_W.map (Proc.devRef (τ := τ) .tc)).toFinset := by
  simp only [List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)
/-- A buffer that window `ops_part2_1` does not write keeps its contents through it. -/
theorem val2_2_keep (V0 : Valuation τ sig (Elt F)) (r : Ref sig .tc) (h : r ∉ ops_part2_1_W) :
    val2_2 V0 (Proc.devRef .tc r) = val2_1 V0 (Proc.devRef .tc r) :=
  after_of_writes_sub ops_part2_1 _ ops_part2_1_writes h
theorem val2_2_main_arg0 (V0 : Valuation τ sig (Elt F)) : val2_2 V0 (no_index (Proc.devRef .tc main_arg0)) = V0 (Proc.devRef .tc main_arg0) :=
  (val2_2_keep V0 main_arg0 (by decide)).trans (val2_1_main_arg0 V0)
theorem val2_2_main_arg1 (V0 : Valuation τ sig (Elt F)) : val2_2 V0 (no_index (Proc.devRef .tc main_arg1)) = V0 (Proc.devRef .tc main_arg1) :=
  (val2_2_keep V0 main_arg1 (by decide)).trans (val2_1_main_arg1 V0)
theorem val2_2_main_arg2 (V0 : Valuation τ sig (Elt F)) : val2_2 V0 (no_index (Proc.devRef .tc main_arg2)) = V0 (Proc.devRef .tc main_arg2) :=
  (val2_2_keep V0 main_arg2 (by decide)).trans (val2_1_main_arg2 V0)
theorem val2_2_main_arg3 (V0 : Valuation τ sig (Elt F)) : val2_2 V0 (no_index (Proc.devRef .tc main_arg3)) = V0 (Proc.devRef .tc main_arg3) :=
  (val2_2_keep V0 main_arg3 (by decide)).trans (val2_1_main_arg3 V0)
theorem val2_2_main_arg4 (V0 : Valuation τ sig (Elt F)) : val2_2 V0 (no_index (Proc.devRef .tc main_arg4)) = V0 (Proc.devRef .tc main_arg4) :=
  (val2_2_keep V0 main_arg4 (by decide)).trans (val2_1_main_arg4 V0)
theorem val2_2_main_arg5 (V0 : Valuation τ sig (Elt F)) : val2_2 V0 (no_index (Proc.devRef .tc main_arg5)) = V0 (Proc.devRef .tc main_arg5) :=
  (val2_2_keep V0 main_arg5 (by decide)).trans (val2_1_main_arg5 V0)
theorem val2_2_main_arg6 (V0 : Valuation τ sig (Elt F)) : val2_2 V0 (no_index (Proc.devRef .tc main_arg6)) = V0 (Proc.devRef .tc main_arg6) :=
  (val2_2_keep V0 main_arg6 (by decide)).trans (val2_1_main_arg6 V0)
theorem val2_2_main_arg7 (V0 : Valuation τ sig (Elt F)) : val2_2 V0 (no_index (Proc.devRef .tc main_arg7)) = V0 (Proc.devRef .tc main_arg7) :=
  (val2_2_keep V0 main_arg7 (by decide)).trans (val2_1_main_arg7 V0)
theorem val2_2_main_arg8 (V0 : Valuation τ sig (Elt F)) : val2_2 V0 (no_index (Proc.devRef .tc main_arg8)) = V0 (Proc.devRef .tc main_arg8) :=
  (val2_2_keep V0 main_arg8 (by decide)).trans (val2_1_main_arg8 V0)
theorem val2_2_main_arg9 (V0 : Valuation τ sig (Elt F)) : val2_2 V0 (no_index (Proc.devRef .tc main_arg9)) = V0 (Proc.devRef .tc main_arg9) :=
  (val2_2_keep V0 main_arg9 (by decide)).trans (val2_1_main_arg9 V0)
theorem val2_2_main_arg10 (V0 : Valuation τ sig (Elt F)) : val2_2 V0 (no_index (Proc.devRef .tc main_arg10)) = V0 (Proc.devRef .tc main_arg10) :=
  (val2_2_keep V0 main_arg10 (by decide)).trans (val2_1_main_arg10 V0)
theorem val2_2_main_arg11 (V0 : Valuation τ sig (Elt F)) : val2_2 V0 (no_index (Proc.devRef .tc main_arg11)) = V0 (Proc.devRef .tc main_arg11) :=
  (val2_2_keep V0 main_arg11 (by decide)).trans (val2_1_main_arg11 V0)
theorem val2_2_main_arg12 (V0 : Valuation τ sig (Elt F)) : val2_2 V0 (no_index (Proc.devRef .tc main_arg12)) = V0 (Proc.devRef .tc main_arg12) :=
  (val2_2_keep V0 main_arg12 (by decide)).trans (val2_1_main_arg12 V0)
theorem val2_2_main_arg13 (V0 : Valuation τ sig (Elt F)) : val2_2 V0 (no_index (Proc.devRef .tc main_arg13)) = V0 (Proc.devRef .tc main_arg13) :=
  (val2_2_keep V0 main_arg13 (by decide)).trans (val2_1_main_arg13 V0)
theorem val2_2_main_v101 (V0 : Valuation τ sig (Elt F)) : val2_2 V0 (no_index (Proc.devRef .tc main_v101)) = Host.divf (Host.reduceAdd (mulf (res_main_v98 V0) (res_main_v98 V0)) (constant S_ .f32 0x00000000#32) reducesTo_S16x64x28x28_S_d0_1_2_3 h_S_) (constant S_ .f32 0x49440000#32) :=
  (val2_2_keep V0 main_v101 (by decide)).trans (val2_1_main_v101 V0)
theorem val2_2_main_v105 (V0 : Valuation τ sig (Elt F)) : val2_2 V0 (no_index (Proc.devRef .tc main_v105)) = Host.divf (Host.reduceAdd (mulf (res_main_v102 V0) (res_main_v102 V0)) (constant S_ .f32 0x00000000#32) reducesTo_S16x64x28x28_S_d0_1_2_3 h_S_) (constant S_ .f32 0x49440000#32) :=
  (val2_2_keep V0 main_v105 (by decide)).trans (val2_1_main_v105 V0)
set_option maxRecDepth 8192 in
set_option maxHeartbeats 2000000 in
theorem val2_2_main_v161 (V0 : Valuation τ sig (Elt F)) : val2_2 V0 (no_index (Proc.devRef .tc main_v161)) = maximumf (addf (transpose S16x32x112x112 [0, 3, 1, 2] (Host.dotGeneral dot_S16x64x4x4x112x112_S32x64x4x4_S16x112x112x32_231_231_045_0_n_n none ((concatenate S16x64x4x4x112x112 3 [⟨S16x64x4x1x112x112, ((broadcastInDim S16x64x4x1x112x112 ![0, 1, 2, 4, 5] bcast_S16x64x4x112x112_S16x64x4x1x112x112_0_1_2_4_5 (extractStridedSlice S16x64x4x112x112 ![0, 0, 0, 0, 0] (res_main_v146 V0) slices_S16x64x4x112x115_S16x64x4x112x112_0_0_0_0_0)) : (⟨S16x64x4x1x112x112, .f32⟩ : BufTy).Contents (Elt F))⟩, ⟨S16x64x4x1x112x112, ((broadcastInDim S16x64x4x1x112x112 ![0, 1, 2, 4, 5] bcast_S16x64x4x112x112_S16x64x4x1x112x112_0_1_2_4_5 (extractStridedSlice S16x64x4x112x112 ![0, 0, 0, 0, 1] (res_main_v146 V0) slices_S16x64x4x112x115_S16x64x4x112x112_0_0_0_0_1)) : (⟨S16x64x4x1x112x112, .f32⟩ : BufTy).Contents (Elt F))⟩, ⟨S16x64x4x1x112x112, ((broadcastInDim S16x64x4x1x112x112 ![0, 1, 2, 4, 5] bcast_S16x64x4x112x112_S16x64x4x1x112x112_0_1_2_4_5 (extractStridedSlice S16x64x4x112x112 ![0, 0, 0, 0, 2] (res_main_v146 V0) slices_S16x64x4x112x115_S16x64x4x112x112_0_0_0_0_2)) : (⟨S16x64x4x1x112x112, .f32⟩ : BufTy).Contents (Elt F))⟩, ⟨S16x64x4x1x112x112, ((broadcastInDim S16x64x4x1x112x112 ![0, 1, 2, 4, 5] bcast_S16x64x4x112x112_S16x64x4x1x112x112_0_1_2_4_5 (extractStridedSlice S16x64x4x112x112 ![0, 0, 0, 0, 3] (res_main_v146 V0) slices_S16x64x4x112x115_S16x64x4x112x112_0_0_0_0_3)) : (⟨S16x64x4x1x112x112, .f32⟩ : BufTy).Contents (Elt F))⟩] concatenates_S16x64x4x1x112x112_S16x64x4x1x112x112_S16x64x4x1x112x112_S16x64x4x1x112x112_S16x64x4x4x112x112_d3 : (⟨S16x64x4x4x112x112, .f32⟩ : BufTy).Contents (Elt F))) (Host.reverse [2, 3] (transpose S32x64x4x4 [1, 0, 2, 3] (V0 (Proc.devRef .tc main_arg10)) transposes_S64x32x4x4_S32x64x4x4_1_0_2_3))) transposes_S16x112x112x32_S16x32x112x112_0_3_1_2) (broadcastInDim S16x32x112x112 ![0, 1, 2, 3] bcast_S1x32x1x1_S16x32x112x112_0_1_2_3 (broadcastInDim S1x32x1x1 ![1] bcast_S32_S1x32x1x1_1 (V0 (Proc.devRef .tc main_arg11))))) (broadcastInDim S16x32x112x112 ![] bcast_S_S16x32x112x112 (constant S_ .f32 0x00000000#32)) := by
  unfold val2_2
  simp only [ops_part2_1, TRef.binary, TRef.nullary, TRef.unary, TRef.toBuf, TRef.ofBuf, cast_eq]
  after_results_simp
  try dsimp only [Matrix.cons_val]
  try after_results_simp
  try dsimp only [Matrix.cons_val]
  try after_results_simp
  simp only [val2_1_main_arg11, val2_1_main_v135, val2_1_main_v134] <;> rfl
set_option maxRecDepth 8192 in
set_option maxHeartbeats 2000000 in
theorem val2_2_main_v162 (V0 : Valuation τ sig (Elt F)) : val2_2 V0 (no_index (Proc.devRef .tc main_v162)) = transpose S3x32x4x4 [1, 0, 2, 3] (V0 (Proc.devRef .tc main_arg12)) transposes_S32x3x4x4_S3x32x4x4_1_0_2_3 := by
  unfold val2_2
  simp only [ops_part2_1, TRef.binary, TRef.nullary, TRef.unary, TRef.toBuf, TRef.ofBuf, cast_eq]
  after_results_simp
  try dsimp only [Matrix.cons_val]
  try after_results_simp
  try dsimp only [Matrix.cons_val]
  try after_results_simp
  simp only [val2_1_main_arg12] <;> rfl

/-- The device's buffer contents after @main's first 3 windows. -/
def val3 (V0 : Valuation τ sig (Elt F)) : Valuation τ sig (Elt F) := after ops_part2_2 (val2_2 V0)
/-- The buffers that window `ops_part2_2`'s operations write. -/
abbrev ops_part2_2_W : List (Ref sig .tc) := [main_v163, main_cst_12, main_v164, main_v165]
set_option maxRecDepth 8192 in
theorem ops_part2_2_writes : (ops_part2_2 : List (HloOp τ sig (Elt F))).Forall fun op => op.writes ⊆ (ops_part2_2_W.map (Proc.devRef (τ := τ) .tc)).toFinset := by
  simp only [List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)
/-- A buffer that window `ops_part2_2` does not write keeps its contents through it. -/
theorem val3_keep (V0 : Valuation τ sig (Elt F)) (r : Ref sig .tc) (h : r ∉ ops_part2_2_W) :
    val3 V0 (Proc.devRef .tc r) = val2_2 V0 (Proc.devRef .tc r) :=
  after_of_writes_sub ops_part2_2 _ ops_part2_2_writes h
theorem val3_main_arg0 (V0 : Valuation τ sig (Elt F)) : val3 V0 (no_index (Proc.devRef .tc main_arg0)) = V0 (Proc.devRef .tc main_arg0) :=
  (val3_keep V0 main_arg0 (by decide)).trans (val2_2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_2_main_arg6 V0)
theorem val3_main_arg7 (V0 : Valuation τ sig (Elt F)) : val3 V0 (no_index (Proc.devRef .tc main_arg7)) = V0 (Proc.devRef .tc main_arg7) :=
  (val3_keep V0 main_arg7 (by decide)).trans (val2_2_main_arg7 V0)
theorem val3_main_arg8 (V0 : Valuation τ sig (Elt F)) : val3 V0 (no_index (Proc.devRef .tc main_arg8)) = V0 (Proc.devRef .tc main_arg8) :=
  (val3_keep V0 main_arg8 (by decide)).trans (val2_2_main_arg8 V0)
theorem val3_main_arg9 (V0 : Valuation τ sig (Elt F)) : val3 V0 (no_index (Proc.devRef .tc main_arg9)) = V0 (Proc.devRef .tc main_arg9) :=
  (val3_keep V0 main_arg9 (by decide)).trans (val2_2_main_arg9 V0)
theorem val3_main_arg10 (V0 : Valuation τ sig (Elt F)) : val3 V0 (no_index (Proc.devRef .tc main_arg10)) = V0 (Proc.devRef .tc main_arg10) :=
  (val3_keep V0 main_arg10 (by decide)).trans (val2_2_main_arg10 V0)
theorem val3_main_arg11 (V0 : Valuation τ sig (Elt F)) : val3 V0 (no_index (Proc.devRef .tc main_arg11)) = V0 (Proc.devRef .tc main_arg11) :=
  (val3_keep V0 main_arg11 (by decide)).trans (val2_2_main_arg11 V0)
theorem val3_main_arg12 (V0 : Valuation τ sig (Elt F)) : val3 V0 (no_index (Proc.devRef .tc main_arg12)) = V0 (Proc.devRef .tc main_arg12) :=
  (val3_keep V0 main_arg12 (by decide)).trans (val2_2_main_arg12 V0)
theorem val3_main_arg13 (V0 : Valuation τ sig (Elt F)) : val3 V0 (no_index (Proc.devRef .tc main_arg13)) = V0 (Proc.devRef .tc main_arg13) :=
  (val3_keep V0 main_arg13 (by decide)).trans (val2_2_main_arg13 V0)
theorem val3_main_v101 (V0 : Valuation τ sig (Elt F)) : val3 V0 (no_index (Proc.devRef .tc main_v101)) = Host.divf (Host.reduceAdd (mulf (res_main_v98 V0) (res_main_v98 V0)) (constant S_ .f32 0x00000000#32) reducesTo_S16x64x28x28_S_d0_1_2_3 h_S_) (constant S_ .f32 0x49440000#32) :=
  (val3_keep V0 main_v101 (by decide)).trans (val2_2_main_v101 V0)
theorem val3_main_v105 (V0 : Valuation τ sig (Elt F)) : val3 V0 (no_index (Proc.devRef .tc main_v105)) = Host.divf (Host.reduceAdd (mulf (res_main_v102 V0) (res_main_v102 V0)) (constant S_ .f32 0x00000000#32) reducesTo_S16x64x28x28_S_d0_1_2_3 h_S_) (constant S_ .f32 0x49440000#32) :=
  (val3_keep V0 main_v105 (by decide)).trans (val2_2_main_v105 V0)
set_option maxRecDepth 8192 in
theorem val3_main_v163 (V0 : Valuation τ sig (Elt F)) : val3 V0 (no_index (Proc.devRef .tc main_v163)) = Host.reverse [2, 3] (transpose S3x32x4x4 [1, 0, 2, 3] (V0 (Proc.devRef .tc main_arg12)) transposes_S32x3x4x4_S3x32x4x4_1_0_2_3) := by
  unfold val3
  simp only [ops_part2_2]
  after_results_simp
  simp only [val2_2_main_v162] <;> rfl
set_option maxRecDepth 8192 in
theorem val3_main_v164 (V0 : Valuation τ sig (Elt F)) : val3 V0 (no_index (Proc.devRef .tc main_v164)) = res_main_v164 V0 := by
  unfold val3
  simp only [ops_part2_2]
  after_results_simp
  simp only [val2_2_main_v161] <;> rfl
set_option maxRecDepth 8192 in
theorem val3_main_v165 (V0 : Valuation τ sig (Elt F)) : val3 V0 (no_index (Proc.devRef .tc main_v165)) = extractStridedSlice S16x32x224x227 ![0, 0, 0, 0] (res_main_v164 V0) slices_S16x32x227x227_S16x32x224x227_0_0_0_0 := by
  unfold val3
  simp only [ops_part2_2]
  after_results_simp
  simp only [val2_2_main_v161] <;> rfl

/-- The device's buffer contents after @main's first 4 windows. -/
def val4 (V0 : Valuation τ sig (Elt F)) : Valuation τ sig (Elt F) := after ops_part3 (val3 V0)
/-- The buffers that window `main_part3`'s operations write. -/
abbrev ops_part3_W : List (Ref sig .tc) := [main_v166, main_v167, main_v168, main_v169, main_v170, main_v171, main_v172, main_v173, main_v174, main_v175, main_v176, main_v177, main_v178, main_v179, main_v180, main_v181, main_v182, main_v183, main_v184, main_v185, main_v186, main_v187, main_v188, main_v189, main_cst_13, main_v190, main_v191, main_cst_14, main_v192, main_v193]
set_option maxRecDepth 8192 in
theorem ops_part3_writes : (ops_part3 : List (HloOp τ sig (Elt F))).Forall fun op => op.writes ⊆ (ops_part3_W.map (Proc.devRef (τ := τ) .tc)).toFinset := by
  simp only [List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)
/-- A buffer that window `main_part3` does not write keeps its contents through it. -/
theorem val4_keep (V0 : Valuation τ sig (Elt F)) (r : Ref sig .tc) (h : r ∉ ops_part3_W) :
    val4 V0 (Proc.devRef .tc r) = val3 V0 (Proc.devRef .tc r) :=
  after_of_writes_sub ops_part3 _ ops_part3_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_arg4 (V0 : Valuation τ sig (Elt F)) : val4 V0 (no_index (Proc.devRef .tc main_arg4)) = V0 (Proc.devRef .tc main_arg4) :=
  (val4_keep V0 main_arg4 (by decide)).trans (val3_main_arg4 V0)
theorem val4_main_arg5 (V0 : Valuation τ sig (Elt F)) : val4 V0 (no_index (Proc.devRef .tc main_arg5)) = V0 (Proc.devRef .tc main_arg5) :=
  (val4_keep V0 main_arg5 (by decide)).trans (val3_main_arg5 V0)
theorem val4_main_arg6 (V0 : Valuation τ sig (Elt F)) : val4 V0 (no_index (Proc.devRef .tc main_arg6)) = V0 (Proc.devRef .tc main_arg6) :=
  (val4_keep V0 main_arg6 (by decide)).trans (val3_main_arg6 V0)
theorem val4_main_arg7 (V0 : Valuation τ sig (Elt F)) : val4 V0 (no_index (Proc.devRef .tc main_arg7)) = V0 (Proc.devRef .tc main_arg7) :=
  (val4_keep V0 main_arg7 (by decide)).trans (val3_main_arg7 V0)
theorem val4_main_arg8 (V0 : Valuation τ sig (Elt F)) : val4 V0 (no_index (Proc.devRef .tc main_arg8)) = V0 (Proc.devRef .tc main_arg8) :=
  (val4_keep V0 main_arg8 (by decide)).trans (val3_main_arg8 V0)
theorem val4_main_arg9 (V0 : Valuation τ sig (Elt F)) : val4 V0 (no_index (Proc.devRef .tc main_arg9)) = V0 (Proc.devRef .tc main_arg9) :=
  (val4_keep V0 main_arg9 (by decide)).trans (val3_main_arg9 V0)
theorem val4_main_arg10 (V0 : Valuation τ sig (Elt F)) : val4 V0 (no_index (Proc.devRef .tc main_arg10)) = V0 (Proc.devRef .tc main_arg10) :=
  (val4_keep V0 main_arg10 (by decide)).trans (val3_main_arg10 V0)
theorem val4_main_arg11 (V0 : Valuation τ sig (Elt F)) : val4 V0 (no_index (Proc.devRef .tc main_arg11)) = V0 (Proc.devRef .tc main_arg11) :=
  (val4_keep V0 main_arg11 (by decide)).trans (val3_main_arg11 V0)
theorem val4_main_arg12 (V0 : Valuation τ sig (Elt F)) : val4 V0 (no_index (Proc.devRef .tc main_arg12)) = V0 (Proc.devRef .tc main_arg12) :=
  (val4_keep V0 main_arg12 (by decide)).trans (val3_main_arg12 V0)
theorem val4_main_arg13 (V0 : Valuation τ sig (Elt F)) : val4 V0 (no_index (Proc.devRef .tc main_arg13)) = V0 (Proc.devRef .tc main_arg13) :=
  (val4_keep V0 main_arg13 (by decide)).trans (val3_main_arg13 V0)
theorem val4_main_v101 (V0 : Valuation τ sig (Elt F)) : val4 V0 (no_index (Proc.devRef .tc main_v101)) = Host.divf (Host.reduceAdd (mulf (res_main_v98 V0) (res_main_v98 V0)) (constant S_ .f32 0x00000000#32) reducesTo_S16x64x28x28_S_d0_1_2_3 h_S_) (constant S_ .f32 0x49440000#32) :=
  (val4_keep V0 main_v101 (by decide)).trans (val3_main_v101 V0)
theorem val4_main_v105 (V0 : Valuation τ sig (Elt F)) : val4 V0 (no_index (Proc.devRef .tc main_v105)) = Host.divf (Host.reduceAdd (mulf (res_main_v102 V0) (res_main_v102 V0)) (constant S_ .f32 0x00000000#32) reducesTo_S16x64x28x28_S_d0_1_2_3 h_S_) (constant S_ .f32 0x49440000#32) :=
  (val4_keep V0 main_v105 (by decide)).trans (val3_main_v105 V0)
set_option maxRecDepth 8192 in
set_option maxHeartbeats 2000000 in
theorem val4_main_v193 (V0 : Valuation τ sig (Elt F)) : val4 V0 (no_index (Proc.devRef .tc main_v193)) = Host.divf (broadcastInDim S16x3x224x224 ![] bcast_S_S16x3x224x224 (constant S_ .f32 0x3F800000#32)) (addf (broadcastInDim S16x3x224x224 ![] bcast_S_S16x3x224x224 (constant S_ .f32 0x3F800000#32)) (Host.exp (Host.negf (addf (transpose S16x3x224x224 [0, 3, 1, 2] (Host.dotGeneral dot_S16x32x4x4x224x224_S3x32x4x4_S16x224x224x3_231_231_045_0_n_n none ((concatenate S16x32x4x4x224x224 3 [⟨S16x32x4x1x224x224, ((broadcastInDim S16x32x4x1x224x224 ![0, 1, 2, 4, 5] bcast_S16x32x4x224x224_S16x32x4x1x224x224_0_1_2_4_5 (extractStridedSlice S16x32x4x224x224 ![0, 0, 0, 0, 0] (res_main_v173 V0) slices_S16x32x4x224x227_S16x32x4x224x224_0_0_0_0_0)) : (⟨S16x32x4x1x224x224, .f32⟩ : BufTy).Contents (Elt F))⟩, ⟨S16x32x4x1x224x224, ((broadcastInDim S16x32x4x1x224x224 ![0, 1, 2, 4, 5] bcast_S16x32x4x224x224_S16x32x4x1x224x224_0_1_2_4_5 (extractStridedSlice S16x32x4x224x224 ![0, 0, 0, 0, 1] (res_main_v173 V0) slices_S16x32x4x224x227_S16x32x4x224x224_0_0_0_0_1)) : (⟨S16x32x4x1x224x224, .f32⟩ : BufTy).Contents (Elt F))⟩, ⟨S16x32x4x1x224x224, ((broadcastInDim S16x32x4x1x224x224 ![0, 1, 2, 4, 5] bcast_S16x32x4x224x224_S16x32x4x1x224x224_0_1_2_4_5 (extractStridedSlice S16x32x4x224x224 ![0, 0, 0, 0, 2] (res_main_v173 V0) slices_S16x32x4x224x227_S16x32x4x224x224_0_0_0_0_2)) : (⟨S16x32x4x1x224x224, .f32⟩ : BufTy).Contents (Elt F))⟩, ⟨S16x32x4x1x224x224, ((broadcastInDim S16x32x4x1x224x224 ![0, 1, 2, 4, 5] bcast_S16x32x4x224x224_S16x32x4x1x224x224_0_1_2_4_5 (extractStridedSlice S16x32x4x224x224 ![0, 0, 0, 0, 3] (res_main_v173 V0) slices_S16x32x4x224x227_S16x32x4x224x224_0_0_0_0_3)) : (⟨S16x32x4x1x224x224, .f32⟩ : BufTy).Contents (Elt F))⟩] concatenates_S16x32x4x1x224x224_S16x32x4x1x224x224_S16x32x4x1x224x224_S16x32x4x1x224x224_S16x32x4x4x224x224_d3 : (⟨S16x32x4x4x224x224, .f32⟩ : BufTy).Contents (Elt F))) (Host.reverse [2, 3] (transpose S3x32x4x4 [1, 0, 2, 3] (V0 (Proc.devRef .tc main_arg12)) transposes_S32x3x4x4_S3x32x4x4_1_0_2_3))) transposes_S16x224x224x3_S16x3x224x224_0_3_1_2) (broadcastInDim S16x3x224x224 ![0, 1, 2, 3] bcast_S1x3x1x1_S16x3x224x224_0_1_2_3 (broadcastInDim S1x3x1x1 ![1] bcast_S3_S1x3x1x1_1 (V0 (Proc.devRef .tc main_arg13)))))))) := by
  unfold val4
  simp only [ops_part3]
  after_results_simp
  try dsimp only [Matrix.cons_val]
  try after_results_simp
  try dsimp only [Matrix.cons_val]
  try after_results_simp
  simp only [val3_main_arg13, val3_main_v163, val3_main_v164, val3_main_v165] <;> rfl

theorem after_ops (V0 : Valuation τ sig (Elt F)) : after ops V0 = val4 V0 := by
  simp only [ops, ops_part0, ops_part1, ops_part2, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v193) = Host.divf (broadcastInDim S16x3x224x224 ![] bcast_S_S16x3x224x224 (constant S_ .f32 0x3F800000#32)) (addf (broadcastInDim S16x3x224x224 ![] bcast_S_S16x3x224x224 (constant S_ .f32 0x3F800000#32)) (Host.exp (Host.negf (addf (transpose S16x3x224x224 [0, 3, 1, 2] (Host.dotGeneral dot_S16x32x4x4x224x224_S3x32x4x4_S16x224x224x3_231_231_045_0_n_n none ((concatenate S16x32x4x4x224x224 3 [⟨S16x32x4x1x224x224, ((broadcastInDim S16x32x4x1x224x224 ![0, 1, 2, 4, 5] bcast_S16x32x4x224x224_S16x32x4x1x224x224_0_1_2_4_5 (extractStridedSlice S16x32x4x224x224 ![0, 0, 0, 0, 0] (res_main_v173 (launchContents m c)) slices_S16x32x4x224x227_S16x32x4x224x224_0_0_0_0_0)) : (⟨S16x32x4x1x224x224, .f32⟩ : BufTy).Contents (Elt F))⟩, ⟨S16x32x4x1x224x224, ((broadcastInDim S16x32x4x1x224x224 ![0, 1, 2, 4, 5] bcast_S16x32x4x224x224_S16x32x4x1x224x224_0_1_2_4_5 (extractStridedSlice S16x32x4x224x224 ![0, 0, 0, 0, 1] (res_main_v173 (launchContents m c)) slices_S16x32x4x224x227_S16x32x4x224x224_0_0_0_0_1)) : (⟨S16x32x4x1x224x224, .f32⟩ : BufTy).Contents (Elt F))⟩, ⟨S16x32x4x1x224x224, ((broadcastInDim S16x32x4x1x224x224 ![0, 1, 2, 4, 5] bcast_S16x32x4x224x224_S16x32x4x1x224x224_0_1_2_4_5 (extractStridedSlice S16x32x4x224x224 ![0, 0, 0, 0, 2] (res_main_v173 (launchContents m c)) slices_S16x32x4x224x227_S16x32x4x224x224_0_0_0_0_2)) : (⟨S16x32x4x1x224x224, .f32⟩ : BufTy).Contents (Elt F))⟩, ⟨S16x32x4x1x224x224, ((broadcastInDim S16x32x4x1x224x224 ![0, 1, 2, 4, 5] bcast_S16x32x4x224x224_S16x32x4x1x224x224_0_1_2_4_5 (extractStridedSlice S16x32x4x224x224 ![0, 0, 0, 0, 3] (res_main_v173 (launchContents m c)) slices_S16x32x4x224x227_S16x32x4x224x224_0_0_0_0_3)) : (⟨S16x32x4x1x224x224, .f32⟩ : BufTy).Contents (Elt F))⟩] concatenates_S16x32x4x1x224x224_S16x32x4x1x224x224_S16x32x4x1x224x224_S16x32x4x1x224x224_S16x32x4x4x224x224_d3 : (⟨S16x32x4x4x224x224, .f32⟩ : BufTy).Contents (Elt F))) (Host.reverse [2, 3] (transpose S3x32x4x4 [1, 0, 2, 3] ((launchContents m c) (Proc.devRef .tc main_arg12)) transposes_S32x3x4x4_S3x32x4x4_1_0_2_3))) transposes_S16x224x224x3_S16x3x224x224_0_3_1_2) (broadcastInDim S16x3x224x224 ![0, 1, 2, 3] bcast_S1x3x1x1_S16x3x224x224_0_1_2_3 (broadcastInDim S1x3x1x1 ![1] bcast_S3_S1x3x1x1_1 ((launchContents m c) (Proc.devRef .tc main_arg13))))))))
      ∧ r.2.mem ((c.tc : Thread nD τ).loc main_v101) = Host.divf (Host.reduceAdd (mulf (res_main_v98 (launchContents m c)) (res_main_v98 (launchContents m c))) (constant S_ .f32 0x00000000#32) reducesTo_S16x64x28x28_S_d0_1_2_3 h_S_) (constant S_ .f32 0x49440000#32)
      ∧ r.2.mem ((c.tc : Thread nD τ).loc main_v105) = Host.divf (Host.reduceAdd (mulf (res_main_v102 (launchContents m c)) (res_main_v102 (launchContents m c))) (constant S_ .f32 0x00000000#32) reducesTo_S16x64x28x28_S_d0_1_2_3 h_S_) (constant S_ .f32 0x49440000#32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v193).trans ((congrFun (after_ops (launchContents m c)) (Proc.devRef .tc main_v193)).trans (val4_main_v193 (launchContents m c))),
      (h c main_v101).trans ((congrFun (after_ops (launchContents m c)) (Proc.devRef .tc main_v101)).trans (val4_main_v101 (launchContents m c))),
      (h c main_v105).trans ((congrFun (after_ops (launchContents m c)) (Proc.devRef .tc main_v105)).trans (val4_main_v105 (launchContents m c))),
      (h c main_arg0).trans ((congrFun (after_ops (launchContents m c)) (Proc.devRef .tc main_arg0)).trans (val4_main_arg0 (launchContents m c))),
      (h c main_arg1).trans ((congrFun (after_ops (launchContents m c)) (Proc.devRef .tc main_arg1)).trans (val4_main_arg1 (launchContents m c))),
      (h c main_arg2).trans ((congrFun (after_ops (launchContents m c)) (Proc.devRef .tc main_arg2)).trans (val4_main_arg2 (launchContents m c))),
      (h c main_arg3).trans ((congrFun (after_ops (launchContents m c)) (Proc.devRef .tc main_arg3)).trans (val4_main_arg3 (launchContents m c))),
      (h c main_arg4).trans ((congrFun (after_ops (launchContents m c)) (Proc.devRef .tc main_arg4)).trans (val4_main_arg4 (launchContents m c))),
      (h c main_arg5).trans ((congrFun (after_ops (launchContents m c)) (Proc.devRef .tc main_arg5)).trans (val4_main_arg5 (launchContents m c))),
      (h c main_arg6).trans ((congrFun (after_ops (launchContents m c)) (Proc.devRef .tc main_arg6)).trans (val4_main_arg6 (launchContents m c))),
      (h c main_arg7).trans ((congrFun (after_ops (launchContents m c)) (Proc.devRef .tc main_arg7)).trans (val4_main_arg7 (launchContents m c))),
      (h c main_arg8).trans ((congrFun (after_ops (launchContents m c)) (Proc.devRef .tc main_arg8)).trans (val4_main_arg8 (launchContents m c))),
      (h c main_arg9).trans ((congrFun (after_ops (launchContents m c)) (Proc.devRef .tc main_arg9)).trans (val4_main_arg9 (launchContents m c))),
      (h c main_arg10).trans ((congrFun (after_ops (launchContents m c)) (Proc.devRef .tc main_arg10)).trans (val4_main_arg10 (launchContents m c))),
      (h c main_arg11).trans ((congrFun (after_ops (launchContents m c)) (Proc.devRef .tc main_arg11)).trans (val4_main_arg11 (launchContents m c))),
      (h c main_arg12).trans ((congrFun (after_ops (launchContents m c)) (Proc.devRef .tc main_arg12)).trans (val4_main_arg12 (launchContents m c))),
      (h c main_arg13).trans ((congrFun (after_ops (launchContents m c)) (Proc.devRef .tc main_arg13)).trans (val4_main_arg13 (launchContents m c)))⟩)
    (run_seq scopedRefs_eq scopedSems_eq defs main (fun _ => ops) main_eq (fun _ => ops_sub) m ρ fun _ => ops_fresh)

end Cert.ReferenceIdeal.Value

end
-- ==== Proof.Spec.lean ====
/- The mathematics both programs are compared with: a 4 by 4 convolution of stride 2 and padding 1 as a sum over rows,
   columns and channels, read from images that are zero outside their bounds; and how a sum over a flattened window
   becomes that sum. -/
module

public import Idealize.ShloMosaic.Lib.Pointwise

@[expose] public section

noncomputable section

namespace Cert.Spec

open Idealize.ShloMosaic

/-- One image as channel, row and column; zero outside its bounds. -/
abbrev Plane := ℕ → ℤ → ℤ → EReal
/-- A 4 by 4 window's weights as output channel, input channel, row and column. -/
abbrev Taps := ℕ → ℕ → ℤ → ℤ → EReal

/-- The window's sum at output channel `o`, row `h`, column `w`. -/
def convAt (ci : ℕ) (X : Plane) (W : Taps) (o : ℕ) (h w : ℤ) : EReal :=
  ∑ a : Fin 4, ∑ b : Fin 4, ∑ c : Fin ci, X c.val (2 * h + (a.val : ℤ) - 1) (2 * w + (b.val : ℤ) - 1) * W o c.val a.val b.val

/-- A convolution, its bias and the rectifier, zero outside the `H` by `H` output. -/
def layer (H : ℤ) (ci : ℕ) (X : Plane) (W : Taps) (B : ℕ → EReal) : Plane := fun o h w =>
  if 0 ≤ h ∧ h < H ∧ 0 ≤ w ∧ w < H then max (convAt ci X W o h w + B o) 0 else 0

theorem layer_in {H : ℤ} {ci : ℕ} {X : Plane} {W : Taps} {B : ℕ → EReal} {o : ℕ} {h w : ℤ} (hh : 0 ≤ h ∧ h < H ∧ 0 ≤ w ∧ w < H) :
    layer H ci X W B o h w = max (convAt ci X W o h w + B o) 0 := if_pos hh

theorem layer_out {H : ℤ} {ci : ℕ} {X : Plane} {W : Taps} {B : ℕ → EReal} {o : ℕ} {h w : ℤ} (hh : ¬ (0 ≤ h ∧ h < H ∧ 0 ≤ w ∧ w < H)) :
    layer H ci X W B o h w = 0 := if_neg hh

/-- An array of four axes at one place of its first, as a plane. -/
def plane {n0 n1 n2 n3 : ℕ} (A : (⟨4, ![n0, n1, n2, n3]⟩ : Shape).Idx → EReal) (n : Fin n0) : Plane := fun c h w =>
  if H : c < n1 ∧ (0 ≤ h ∧ h.toNat < n2) ∧ (0 ≤ w ∧ w.toNat < n3) then A (ix4 n ⟨c, H.1⟩ ⟨h.toNat, H.2.1.2⟩ ⟨w.toNat, H.2.2.2⟩) else 0

theorem plane_eq {n0 n1 n2 n3 : ℕ} (A : (⟨4, ![n0, n1, n2, n3]⟩ : Shape).Idx → EReal) (n : Fin n0) {c : ℕ} {h w : ℤ}
    (c' : Fin n1) (h' : Fin n2) (w' : Fin n3) (hc : c = c'.val) (hh : h = h'.val) (hw : w = w'.val) :
    plane A n c h w = A (ix4 n c' h' w') := by
  subst hc hh hw
  simp [plane]

theorem plane_out {n0 n1 n2 n3 : ℕ} (A : (⟨4, ![n0, n1, n2, n3]⟩ : Shape).Idx → EReal) (n : Fin n0) {c : ℕ} {h w : ℤ}
    (H : ¬ (0 ≤ h ∧ h < n2 ∧ 0 ≤ w ∧ w < n3)) : plane A n c h w = 0 := by
  unfold plane
  rw [dif_neg]
  omega

/-- An array of weights as taps. -/
def taps {n0 n1 n2 n3 : ℕ} (A : (⟨4, ![n0, n1, n2, n3]⟩ : Shape).Idx → EReal) : Taps := fun o =>
  if H : o < n0 then plane A ⟨o, H⟩ else fun _ _ _ => 0

theorem taps_eq {n0 n1 n2 n3 : ℕ} (A : (⟨4, ![n0, n1, n2, n3]⟩ : Shape).Idx → EReal) {o c : ℕ} {h w : ℤ} (o' : Fin n0)
    (c' : Fin n1) (h' : Fin n2) (w' : Fin n3) (ho : o = o'.val) (hc : c = c'.val) (hh : h = h'.val) (hw : w = w'.val) :
    taps A o c h w = A (ix4 o' c' h' w') := by
  subst ho
  simp only [taps, o'.isLt, dif_pos]
  exact plane_eq A _ c' h' w' hc hh hw

theorem taps_out {n0 n1 n2 n3 : ℕ} (A : (⟨4, ![n0, n1, n2, n3]⟩ : Shape).Idx → EReal) {o c : ℕ} {h w : ℤ}
    (H : ¬ (0 ≤ h ∧ h < n2 ∧ 0 ≤ w ∧ w < n3)) : taps A o c h w = 0 := by
  unfold taps
  split
  · exact plane_out A _ H
  · rfl

/-- An array of one axis as a function, zero outside. -/
def vec {n0 : ℕ} (A : (⟨1, ![n0]⟩ : Shape).Idx → EReal) : ℕ → EReal := fun o => if H : o < n0 then A (ix1 ⟨o, H⟩) else 0

theorem vec_eq {n0 : ℕ} (A : (⟨1, ![n0]⟩ : Shape).Idx → EReal) {o : ℕ} (o' : Fin n0) (ho : o = o'.val) : vec A o = A (ix1 o') := by
  subst ho
  simp [vec]

/-- A sum over sixteen blocks of `ci` channels is the sum over the window's rows and columns and the channels, the block
    `((br * 2 + bc) * 2 + u) * 2 + uc` being the window's row `2 br + u` and column `2 bc + uc`. -/
theorem sum_blocks (N ci : ℕ) (hN : N = 16 * ci) (f : Fin N → EReal) (F : ℕ → ℤ → ℤ → EReal)
    (hf : ∀ k : Fin N, f k = F (k.val % ci) ((2 * (k.val / ci / 8) + (k.val / ci / 2) % 2 : ℕ) : ℤ) ((2 * ((k.val / ci / 4) % 2) + (k.val / ci) % 2 : ℕ) : ℤ)) :
    ∑ k, f k = ∑ a : Fin 4, ∑ b : Fin 4, ∑ c : Fin ci, F c.val a.val b.val := by
  subst hN
  have h1 : ∑ k, f k = ∑ m : Fin 16, ∑ c : Fin ci, F c.val ((2 * (m.val / 8) + (m.val / 2) % 2 : ℕ) : ℤ) ((2 * ((m.val / 4) % 2) + m.val % 2 : ℕ) : ℤ) := by
    rw [← finProdFinEquiv.sum_comp, Fintype.sum_prod_type]
    refine Finset.sum_congr rfl fun m _ => Finset.sum_congr rfl fun c _ => ?_
    have hc := c.isLt
    have e1 : (finProdFinEquiv (m, c)).val % ci = c.val := by simp [finProdFinEquiv, Nat.add_mul_mod_self_left, Nat.mod_eq_of_lt hc]
    have e2 : (finProdFinEquiv (m, c)).val / ci = m.val := by
      simp only [finProdFinEquiv, Equiv.coe_fn_mk]
      rw [Nat.add_mul_div_left _ _ (by omega), Nat.div_eq_of_lt hc, Nat.zero_add]
    rw [hf, e1, e2]
  rw [h1]
  generalize (fun (a b : ℕ) => ∑ c : Fin ci, F c.val (a : ℤ) (b : ℤ)) = G at *
  simp only [Fin.sum_univ_succ, Fin.sum_univ_zero]
  simp
  abel

/-- So a sum over sixteen blocks of products of the plane and the weights is the window's sum. -/
theorem convAt_of_blocks (N ci : ℕ) (hN : N = 16 * ci) (X : Plane) (W : Taps) (o : ℕ) (h w : ℤ) (f : Fin N → EReal)
    (hf : ∀ k : Fin N, f k = X (k.val % ci) (2 * h + ((2 * (k.val / ci / 8) + (k.val / ci / 2) % 2 : ℕ) : ℤ) - 1) (2 * w + ((2 * ((k.val / ci / 4) % 2) + (k.val / ci) % 2 : ℕ) : ℤ) - 1)
      * W o (k.val % ci) ((2 * (k.val / ci / 8) + (k.val / ci / 2) % 2 : ℕ) : ℤ) ((2 * ((k.val / ci / 4) % 2) + (k.val / ci) % 2 : ℕ) : ℤ)) :
    ∑ k, f k = convAt ci X W o h w :=
  sum_blocks N ci hN f (fun c a b => X c (2 * h + a - 1) (2 * w + b - 1) * W o c a b) hf

/-- A conditional's value from its two cases. -/
theorem ite_eq_of {α : Type} {p : Prop} [Decidable p] {a b c : α} (ha : p → a = c) (hb : ¬ p → b = c) : (if p then a else b) = c := by
  split
  · exact ha ‹_›
  · exact hb ‹_›

/-- A plane read at equal places. -/
theorem plane_congr (X : Plane) {c c' : ℕ} {h h' w w' : ℤ} (hc : c = c') (hh : h = h') (hw : w = w') : X c h w = X c' h' w' := by
  rw [hc, hh, hw]

/-- Weights read at equal places. -/
theorem taps_congr (W : Taps) {o o' c c' : ℕ} {h h' w w' : ℤ} (ho : o = o') (hc : c = c') (hh : h = h') (hw : w = w') :
    W o c h w = W o' c' h' w' := by
  rw [ho, hc, hh, hw]

/-- A selection on the equality of two small numbers held as words. -/
theorem select_eq_nat {α : Type} (n k : ℕ) (hn : n < 2 ^ 32) (hk : k < 2 ^ 32) (a b : α) :
    Scalar.select (IntOp.cmpi .eq (BitVec.ofNat 32 n) (BitVec.ofNat 32 k)) a b = if n = k then a else b := by
  have e : (BitVec.ofNat 32 n = BitVec.ofNat 32 k) ↔ n = k := by
    constructor
    · intro h
      have := congrArg BitVec.toNat h
      rwa [BitVec.toNat_ofNat, BitVec.toNat_ofNat, Nat.mod_eq_of_lt hn, Nat.mod_eq_of_lt hk] at this
    · rintro rfl; rfl
  by_cases h : n = k
  · subst h; simp [Scalar.select, IntOp.cmpi]
  · have h' : BitVec.ofNat 32 n ≠ BitVec.ofNat 32 k := fun q => h (e.mp q)
    have q : (BitVec.ofNat 32 n == BitVec.ofNat 32 k) = false := beq_eq_false_iff_ne.mpr h'
    simp [Scalar.select, IntOp.cmpi, h, q]

/-- A selection where a small number equals another and a bit is set. -/
theorem select_and {α : Type} (n k : ℕ) (hn : n < 2 ^ 32) (hk : k < 2 ^ 32) {m : BitVec 1} {p : Prop} [Decidable p]
    (hm : m = BitVec.ofBool (decide p)) (a b : α) :
    Scalar.select (IntOp.andi (IntOp.cmpi .eq (BitVec.ofNat 32 n) (BitVec.ofNat 32 k)) m) a b = if n = k ∧ p then a else b := by
  have e := select_eq_nat n k hn hk a b
  subst hm
  rcases (by decide : ∀ x : BitVec 1, x = 0#1 ∨ x = 1#1) (IntOp.cmpi .eq (BitVec.ofNat 32 n) (BitVec.ofNat 32 k)) with h | h <;> rw [h] at e ⊢ <;>
    by_cases hp : p <;> by_cases hnk : n = k <;> simp [Scalar.select, IntOp.andi, hp, hnk] at e ⊢ <;> first | exact e | exact e.symm | skip

/-- A sum over nine blocks of twelve, the block's entries being two rows, two columns and three channels, is the sum over six
    rows, six columns and the channels. -/
theorem sum_nine (f : Fin 108 → EReal) (F : ℕ → ℕ → ℕ → EReal)
    (hf : ∀ k : Fin 108, f k = F (k.val % 3) (2 * (k.val / 36) + k.val % 12 / 6) (2 * (k.val / 12 % 3) + k.val % 6 / 3)) :
    ∑ k, f k = ∑ a : Fin 6, ∑ b : Fin 6, ∑ c : Fin 3, F c.val a.val b.val := by
  have h1 : ∑ k, f k = ∑ m : Fin 36, ∑ c : Fin 3, F c.val (2 * (m.val / 12) + m.val % 4 / 2) (2 * (m.val / 4 % 3) + m.val % 2) := by
    rw [← (finProdFinEquiv (m := 36) (n := 3)).sum_comp, Fintype.sum_prod_type]
    refine Finset.sum_congr rfl fun m _ => Finset.sum_congr rfl fun c _ => ?_
    have hc := c.isLt
    have e : (finProdFinEquiv (m, c)).val = c.val + 3 * m.val := rfl
    rw [hf, e]
    congr 1 <;> omega
  rw [h1]
  simp only [Fin.sum_univ_succ (n := 35), Fin.sum_univ_succ (n := 5)]
  simp [Fin.sum_univ_succ]
  abel

/-- A sum over six places of a term that is zero outside four of them. -/
theorem sum_window (u : ℕ) (hu : u < 2) (g : ℕ → EReal) (hg : ∀ k, ¬ (2 * u ≤ k ∧ k < 2 * u + 4) → g k = 0) :
    ∑ a : Fin 6, g a.val = ∑ a : Fin 4, g (a.val + 2 * u) := by
  interval_cases u <;> simp [Fin.sum_univ_succ, hg 0, hg 1, hg 4, hg 5]

/-- The first convolution's sum: the weights outside their window being zero, the sum over nine blocks is the window's. -/
theorem convAt_of_nine (X : Plane) (W : Taps) (o : ℕ) (h w : ℤ) (u v : ℕ) (hu : u < 2) (hv : v < 2)
    (hW : ∀ o c a b, ¬ (0 ≤ a ∧ a < 4 ∧ 0 ≤ b ∧ b < 4) → W o c a b = 0) (f : Fin 108 → EReal)
    (hf : ∀ k : Fin 108, f k = X (k.val % 3) (2 * h - 2 * u + ((2 * (k.val / 36) + k.val % 12 / 6 : ℕ) : ℤ) - 1) (2 * w - 2 * v + ((2 * (k.val / 12 % 3) + k.val % 6 / 3 : ℕ) : ℤ) - 1)
      * W o (k.val % 3) (((2 * (k.val / 36) + k.val % 12 / 6 : ℕ) : ℤ) - 2 * u) (((2 * (k.val / 12 % 3) + k.val % 6 / 3 : ℕ) : ℤ) - 2 * v)) :
    ∑ k, f k = convAt 3 X W o h w := by
  rw [sum_nine f (fun c a b => X c (2 * h - 2 * u + (a : ℤ) - 1) (2 * w - 2 * v + (b : ℤ) - 1) * W o c ((a : ℤ) - 2 * u) ((b : ℤ) - 2 * v)) hf]
  rw [sum_window u hu (fun a => ∑ b : Fin 6, ∑ c : Fin 3, X c.val (2 * h - 2 * u + (a : ℤ) - 1) (2 * w - 2 * v + (b.val : ℤ) - 1) * W o c.val ((a : ℤ) - 2 * u) ((b.val : ℤ) - 2 * v))]
  · refine Finset.sum_congr rfl fun a _ => ?_
    rw [sum_window v hv (fun b => ∑ c : Fin 3, X c.val (2 * h - 2 * u + ((a.val + 2 * u : ℕ) : ℤ) - 1) (2 * w - 2 * v + (b : ℤ) - 1) * W o c.val (((a.val + 2 * u : ℕ) : ℤ) - 2 * u) ((b : ℤ) - 2 * v))]
    · refine Finset.sum_congr rfl fun b _ => Finset.sum_congr rfl fun c _ => ?_
      exact Ideal.mul_congr (plane_congr X rfl (by push_cast; ring) (by push_cast; ring)) (taps_congr W rfl rfl (by push_cast; ring) (by push_cast; ring))
    · intro k hk
      exact Finset.sum_eq_zero fun c _ => by rw [hW _ _ _ _ (by omega), mul_zero]
  · intro k hk
    exact Finset.sum_eq_zero fun b _ => Finset.sum_eq_zero fun c _ => by rw [hW _ _ _ _ (by omega), mul_zero]

end Cert.Spec
-- ==== Proof.Dec.lean ====
/- The mathematics of the transposed convolutions: a 4 by 4 window of stride 2 and padding 1, each output being a sum over two
   rows and two columns of the input, read from images that are zero outside their bounds; and how the programs' sums become it. -/
module

public import Idealize.ShloMosaic.Lib.Pointwise
public import proofs.«01_k».proof.Proof.Spec

@[expose] public section

noncomputable section

namespace Cert.Spec

open Idealize.ShloMosaic

/-- The input's row (or column) that the output's row `h` reads first (`s = 0`) and second (`s = 1`). -/
def src (h : ℤ) (s : ℕ) : ℤ := h / 2 + s * (2 * (h % 2) - 1)

/-- The transposed window's sum at output channel `o`, row `h`, column `w`; the weights are held input channel first. -/
def decAt (ci : ℕ) (X : Plane) (W : Taps) (o : ℕ) (h w : ℤ) : EReal :=
  ∑ s : Fin 2, ∑ t : Fin 2, ∑ c : Fin ci, X c.val (src h s.val) (src w t.val) * W c.val o (h + 1 - 2 * src h s.val) (w + 1 - 2 * src w t.val)

/-- A transposed convolution, its bias and the rectifier, zero outside the `H` by `H` output. -/
def dlayer (H : ℤ) (ci : ℕ) (X : Plane) (W : Taps) (B : ℕ → EReal) : Plane := fun o h w =>
  if 0 ≤ h ∧ h < H ∧ 0 ≤ w ∧ w < H then max (decAt ci X W o h w + B o) 0 else 0

theorem dlayer_in {H : ℤ} {ci : ℕ} {X : Plane} {W : Taps} {B : ℕ → EReal} {o : ℕ} {h w : ℤ} (hh : 0 ≤ h ∧ h < H ∧ 0 ≤ w ∧ w < H) :
    dlayer H ci X W B o h w = max (decAt ci X W o h w + B o) 0 := if_pos hh

theorem dlayer_out {H : ℤ} {ci : ℕ} {X : Plane} {W : Taps} {B : ℕ → EReal} {o : ℕ} {h w : ℤ} (hh : ¬ (0 ≤ h ∧ h < H ∧ 0 ≤ w ∧ w < H)) :
    dlayer H ci X W B o h w = 0 := if_neg hh

/-- Of four rows of the dilated input two hold the input's, those the output's row reads. -/
theorem sum_dilated (h : ℤ) (f : ℤ → EReal) :
    ∑ a : Fin 4, (if (h + (a.val : ℤ)) % 2 = 0 then f ((h + (a.val : ℤ) - 2) / 2) else 0) = ∑ s : Fin 2, f (src h s.val) := by
  rcases Int.emod_two_eq_zero_or_one h with e | e
  · simp only [Fin.sum_univ_succ, Fin.sum_univ_zero, src, e]
    simp only [Fin.val_zero, Fin.val_succ]
    rw [if_pos (by omega), if_neg (by omega), if_pos (by omega), if_neg (by omega)]
    simp only [zero_add, add_zero]
    rw [add_comm]
    refine congrArg₂ (· + ·) (congrArg f ?_) (congrArg f ?_) <;> push_cast <;> omega
  · simp only [Fin.sum_univ_succ, Fin.sum_univ_zero, src, e]
    simp only [Fin.val_zero, Fin.val_succ]
    rw [if_neg (by omega), if_pos (by omega), if_neg (by omega), if_pos (by omega)]
    simp only [zero_add, add_zero]
    refine congrArg₂ (· + ·) (congrArg f ?_) (congrArg f ?_) <;> push_cast <;> omega

/-- Of four neighbouring rows of the input, the others' weights being zero, the two the output's row reads. -/
theorem sum_rows (h r : ℤ) (v p : ℕ) (hv : v < 2) (hp : p < 2) (hh : h = 4 * r + 2 * v + p) (f : ℤ → EReal)
    (hf : ∀ i, ¬ (0 ≤ h + 1 - 2 * i ∧ h + 1 - 2 * i < 4) → f i = 0) :
    ∑ m : Fin 4, f (2 * r - 1 + (m.val : ℤ)) = ∑ s : Fin 2, f (src h s.val) := by
  have z : ∀ k : ℤ, ¬ (0 ≤ h + 1 - 2 * (2 * r - 1 + k) ∧ h + 1 - 2 * (2 * r - 1 + k) < 4) → f (2 * r - 1 + k) = 0 := fun k hk => hf _ hk
  have e2 : h % 2 = p := by omega
  have e3 : h / 2 = 2 * r + v := by omega
  simp only [Fin.sum_univ_succ, Fin.sum_univ_zero, src, e2, e3]
  simp only [Fin.val_zero, Fin.val_succ]
  interval_cases v <;> interval_cases p
  · rw [z (((0 + 1 + 1 : ℕ)) : ℤ) (by push_cast; omega), z (((0 + 1 + 1 + 1 : ℕ)) : ℤ) (by push_cast; omega)]
    simp only [add_zero]
    rw [add_comm]
    refine congrArg₂ (· + ·) (congrArg f ?_) (congrArg f ?_) <;> push_cast <;> ring
  · rw [z (((0 : ℕ)) : ℤ) (by push_cast; omega), z (((0 + 1 + 1 + 1 : ℕ)) : ℤ) (by push_cast; omega)]
    simp only [add_zero, zero_add]
    refine congrArg₂ (· + ·) (congrArg f ?_) (congrArg f ?_) <;> push_cast <;> ring
  · rw [z (((0 : ℕ)) : ℤ) (by push_cast; omega), z (((0 + 1 + 1 + 1 : ℕ)) : ℤ) (by push_cast; omega)]
    simp only [add_zero, zero_add]
    rw [add_comm]
    refine congrArg₂ (· + ·) (congrArg f ?_) (congrArg f ?_) <;> push_cast <;> ring
  · rw [z (((0 : ℕ)) : ℤ) (by push_cast; omega), z (((0 + 1 : ℕ)) : ℤ) (by push_cast; omega)]
    simp only [add_zero, zero_add]
    refine congrArg₂ (· + ·) (congrArg f ?_) (congrArg f ?_) <;> push_cast <;> ring

/-- A sum over four blocks of sixty-four channels is the transposed window's. -/
theorem decAt_of_four (X : Plane) (W : Taps) (o : ℕ) (h w : ℤ) (f : Fin 256 → EReal)
    (hf : ∀ k : Fin 256, f k = X (k.val % 64) (src h (k.val / 128)) (src w (k.val / 64 % 2))
      * W (k.val % 64) o (h + 1 - 2 * src h (k.val / 128)) (w + 1 - 2 * src w (k.val / 64 % 2))) :
    ∑ k, f k = decAt 64 X W o h w := by
  have h1 : ∑ k, f k = ∑ m : Fin 4, ∑ c : Fin 64, X c.val (src h (m.val / 2)) (src w (m.val % 2))
      * W c.val o (h + 1 - 2 * src h (m.val / 2)) (w + 1 - 2 * src w (m.val % 2)) := by
    rw [← (finProdFinEquiv (m := 4) (n := 64)).sum_comp, Fintype.sum_prod_type]
    refine Finset.sum_congr rfl fun m _ => Finset.sum_congr rfl fun c _ => ?_
    have hc := c.isLt
    have e : (finProdFinEquiv (m, c)).val = c.val + 64 * m.val := rfl
    have e1 : (c.val + 64 * m.val) % 64 = c.val := by omega
    have e2 : (c.val + 64 * m.val) / 128 = m.val / 2 := by omega
    have e3 : (c.val + 64 * m.val) / 64 % 2 = m.val % 2 := by omega
    rw [hf, e, e1, e2, e3]
  rw [h1]
  unfold decAt
  generalize (fun (a b : ℕ) => ∑ c : Fin 64, X c.val (src h a) (src w b) * W c.val o (h + 1 - 2 * src h a) (w + 1 - 2 * src w b)) = G at *
  simp [Fin.sum_univ_succ]
  abel

/-- The weights outside their window being zero, a sum over sixteen blocks of thirty-two channels, four neighbouring rows by four
    neighbouring columns, is the transposed window's. -/
theorem decAt_of_sixteen (X : Plane) (W : Taps) (o : ℕ) (h w r c : ℤ) (v vc p pc : ℕ) (hv : v < 2) (hvc : vc < 2) (hp : p < 2) (hpc : pc < 2)
    (hh : h = 4 * r + 2 * v + p) (hw : w = 4 * c + 2 * vc + pc)
    (hW : ∀ o c a b, ¬ (0 ≤ a ∧ a < 4 ∧ 0 ≤ b ∧ b < 4) → W o c a b = 0) (f : Fin 512 → EReal)
    (hf : ∀ k : Fin 512, f k = X (k.val % 32) (2 * r - 1 + ((2 * (k.val / 32 / 8) + (k.val / 32 / 2) % 2 : ℕ) : ℤ)) (2 * c - 1 + ((2 * ((k.val / 32 / 4) % 2) + (k.val / 32) % 2 : ℕ) : ℤ))
      * W (k.val % 32) o (h + 1 - 2 * (2 * r - 1 + ((2 * (k.val / 32 / 8) + (k.val / 32 / 2) % 2 : ℕ) : ℤ))) (w + 1 - 2 * (2 * c - 1 + ((2 * ((k.val / 32 / 4) % 2) + (k.val / 32) % 2 : ℕ) : ℤ)))) :
    ∑ k, f k = decAt 32 X W o h w := by
  rw [sum_blocks 512 32 rfl f (fun d a b => X d (2 * r - 1 + a) (2 * c - 1 + b) * W d o (h + 1 - 2 * (2 * r - 1 + a)) (w + 1 - 2 * (2 * c - 1 + b))) hf]
  rw [sum_rows h r v p hv hp hh (fun i => ∑ b : Fin 4, ∑ d : Fin 32, X d.val i (2 * c - 1 + (b.val : ℤ)) * W d.val o (h + 1 - 2 * i) (w + 1 - 2 * (2 * c - 1 + (b.val : ℤ))))]
  · refine Finset.sum_congr rfl fun s _ => ?_
    rw [sum_rows w c vc pc hvc hpc hw (fun j => ∑ d : Fin 32, X d.val (src h s.val) j * W d.val o (h + 1 - 2 * src h s.val) (w + 1 - 2 * j))]
    intro j hj
    exact Finset.sum_eq_zero fun d _ => by rw [hW _ _ _ _ (by omega), mul_zero]
  · intro i hi
    exact Finset.sum_eq_zero fun b _ => Finset.sum_eq_zero fun d _ => by rw [hW _ _ _ _ (by omega), mul_zero]

/-- A plane between whose rows and columns zeros stand. -/
def dil (X : Plane) : Plane := fun c i j => if i % 2 = 0 then (if j % 2 = 0 then X c (i / 2) (j / 2) else 0) else 0

/-- The window slid over the dilated plane, its weights reversed, is the transposed window. -/
theorem dil_sum (ci : ℕ) (X : Plane) (W : Taps) (o : ℕ) (h w : ℤ) :
    ∑ a : Fin 4, ∑ b : Fin 4, ∑ c : Fin ci, dil X c.val (h + (a.val : ℤ) - 2) (w + (b.val : ℤ) - 2) * W c.val o (3 - (a.val : ℤ)) (3 - (b.val : ℤ))
      = decAt ci X W o h w := by
  unfold decAt
  rw [← sum_dilated h (fun i => ∑ t : Fin 2, ∑ c : Fin ci, X c.val i (src w t.val) * W c.val o (h + 1 - 2 * i) (w + 1 - 2 * src w t.val))]
  refine Finset.sum_congr rfl fun a _ => ?_
  by_cases ha : (h + (a.val : ℤ)) % 2 = 0
  · rw [if_pos ha, ← sum_dilated w (fun j => ∑ c : Fin ci, X c.val ((h + (a.val : ℤ) - 2) / 2) j * W c.val o (h + 1 - 2 * ((h + (a.val : ℤ) - 2) / 2)) (w + 1 - 2 * j))]
    refine Finset.sum_congr rfl fun b _ => ?_
    by_cases hb : (w + (b.val : ℤ)) % 2 = 0
    · rw [if_pos hb]
      refine Finset.sum_congr rfl fun c _ => ?_
      unfold dil
      rw [if_pos (by omega), if_pos (by omega)]
      exact Ideal.mul_congr rfl (taps_congr W rfl rfl (by omega) (by omega))
    · rw [if_neg hb]
      refine Finset.sum_eq_zero fun c _ => ?_
      unfold dil
      rw [if_pos (by omega), if_neg (by omega), zero_mul]
  · rw [if_neg ha]
    refine Finset.sum_eq_zero fun b _ => Finset.sum_eq_zero fun c _ => ?_
    unfold dil
    rw [if_neg (by omega), zero_mul]

end Cert.Spec
-- ==== Proof.V4.lean ====
/- What the first transposed convolution's kernel leaves in its output block: the layer's planes of the block it was given, with a border of zeros. -/
module

public import proofs.«01_k».proof.Proof.K4Ideal
public import proofs.«01_k».proof.Proof.Dec
public import Idealize.ShloMosaic.Lib.Pipeline.Value

@[expose] public section

noncomputable section

namespace Cert.KernelIdeal.Own.K4

open Cert.KernelIdeal Cert.KernelIdeal.Gen
open Idealize.ShloMosaic Idealize.ShloMosaic.TcCoe Idealize.SL.Sem Idealize.SL.RA
open Cert.Spec

variable {Ix : Type} [DecidableEq Ix] {U : Type} [URA U] {Lvl : Type} [Preorder Lvl]

/-- The block's entry at row `r`, column `c`, channel `ch`. -/
def G (X : Plane) (W : Taps) (B : ℕ → EReal) (y : S1x58x58x64.Idx) : EReal :=
  dlayer 56 64 X W B (y 3).val ((y 1).val - 1) ((y 2).val - 1)

set_option maxHeartbeats 4000000 in
/-- The block's entries are the layer's, given the input block, the weights and the bias in their layouts. -/
theorem out_apply (𝒱₀ : Variants) (c : Dev nD) (i : grid4.Coords) (arg1 : Memref sig .tc .vmem S1x30x30x64 .f32) (harg1 : arg1.IsWhole) (arg2 : Memref sig .tc .vmem S2x2x256x64 .f32) (harg2 : arg2.IsWhole) (arg3 : Memref sig .tc .vmem S1x1x64 .f32) (harg3 : arg3.IsWhole) (arg4 : Memref sig .tc .vmem S1x58x58x64 .f32) (harg4 : arg4.IsWhole)
    (x0 : Vec Ideal S1x30x30x64 .f32) (x1 : Vec Ideal S2x2x256x64 .f32) (x2 : Vec Ideal S1x1x64 .f32)
    (X : Plane) (W : Taps) (B : ℕ → EReal)
    (hx : ∀ (R C : Fin 30) (ch : Fin 64), x0 (ix4 0 R C ch) = X ch.val (R.val - 1) (C.val - 1))
    (hw : ∀ (p q : Fin 2) (k : Fin 256) (o : Fin 64), x1 (ix4 p q k o) = W (k.val % 64) o.val (((p.val + 1 : ℕ) : ℤ) + (k.val / 128 : ℕ) * (2 - 4 * (p.val : ℤ))) (((q.val + 1 : ℕ) : ℤ) + (k.val / 64 % 2 : ℕ) * (2 - 4 * (q.val : ℤ))))
    (hb : ∀ o : Fin 64, x2 (ix3 0 0 o) = B o.val)
    (y : S1x58x58x64.Idx) :
    out4_A_3 (Ix := Ix) (U := U) (Lvl := Lvl) 𝒱₀ c i arg1 harg1 arg2 harg2 arg3 harg3 arg4 harg4 x0 x1 x2 y = G X W B y := by
  unfold out4_A_3
  rw [View.read_writes_junk_eq_canon]
  refine View.canon_apply_of_pieces (G X W B) _ (fun p hp j => ?_) y (cover4_A_3 (Ix := Ix) (U := U) (Lvl := Lvl) 𝒱₀ c i arg1 harg1 arg2 harg2 arg3 harg3 arg4 harg4 x0 x1 x2 y)
  unfold kernelRun4_A at hp
  dsimp only at hp
  simp only [List.mem_cons, List.mem_nil_iff, or_false] at hp
  rcases hp with rfl | rfl | rfl | rfl | rfl | rfl | rfl | rfl
  all_goals
    dsimp only [kernelRun4_A.sl.r, kernelRun4_A.sl.r_1, kernelRun4_A.sl.r_2, kernelRun4_A.sl.r_3, kernelRun4_A.sl.r_4]
    idx_vars j
    pointwise [k4_pay1, k4_pay2, k4_pay3, k4_pay4, k4_pay5, k4_pay6, k4_pay7, k4_pay8, k4_pay9, k4_pay10, k4_pay11, k4_pay12, k4_pay13,
      k4_pay14, View.readAt_apply, Memref.IsWhole.read_unread, hb]
  iterate 4
    simp only [G, Rect.emb_apply]
    dsimp
    exact (dlayer_out (by omega)).symm
  on_goal 1 => change _ = dlayer 56 64 X W B (0 + 1 * j3.val) ((2 + 2 * j1.val : ℕ) - 1) ((2 + 2 * j2.val : ℕ) - 1)
  on_goal 2 => change _ = dlayer 56 64 X W B (0 + 1 * j3.val) ((2 + 2 * j1.val : ℕ) - 1) ((1 + 2 * j2.val : ℕ) - 1)
  on_goal 3 => change _ = dlayer 56 64 X W B (0 + 1 * j3.val) ((1 + 2 * j1.val : ℕ) - 1) ((2 + 2 * j2.val : ℕ) - 1)
  on_goal 4 => change _ = dlayer 56 64 X W B (0 + 1 * j3.val) ((1 + 2 * j1.val : ℕ) - 1) ((1 + 2 * j2.val : ℕ) - 1)
  all_goals
    rw [dlayer_in (by omega)]
    refine congrArg₂ max (congrArg₂ (· + ·) (decAt_of_four X W _ _ _ _ fun k => ?_) (congrArg B (by omega))) rfl
    have k1 := k.isLt
    rcases (by omega : k.val / 128 = 0 ∨ k.val / 128 = 1) with e1 | e1 <;> rcases (by omega : k.val / 64 % 2 = 0 ∨ k.val / 64 % 2 = 1) with e2 | e2 <;>
    rw [e1, e2] <;>
    refine Ideal.mul_congr ?_ ((hw _ _ k j3).trans (taps_congr W rfl (by omega) (by rw [e1]; dsimp [src]; omega) (by rw [e2]; dsimp [src]; omega))) <;>
    split_ifs <;> first | omega | (rw [hx]; exact plane_congr X (by dsimp only <;> omega) (by dsimp [src] <;> omega) (by dsimp [src] <;> omega))

end Cert.KernelIdeal.Own.K4
-- ==== Proof.V5.lean ====
/- What the second transposed convolution's kernel leaves in its output block: the layer's planes of the block it was given, rows and columns in pairs, with zeros outside. -/
module

public import proofs.«01_k».proof.Proof.K5Ideal
public import proofs.«01_k».proof.Proof.Dec
public import Idealize.ShloMosaic.Lib.Pipeline.Value

@[expose] public section

noncomputable section

namespace Cert.KernelIdeal.Own.K5

open Cert.KernelIdeal Cert.KernelIdeal.Gen
open Idealize.ShloMosaic Idealize.ShloMosaic.TcCoe Idealize.SL.Sem Idealize.SL.RA
open Cert.Spec

variable {Ix : Type} [DecidableEq Ix] {U : Type} [URA U] {Lvl : Type} [Preorder Lvl]

/-- The block's entry at row `r`, column `c`, channel `ch`. -/
def G (X : Plane) (W : Taps) (B : ℕ → EReal) (y : S1x57x57x128.Idx) : EReal :=
  dlayer 112 64 X W B ((y 3).val % 32) (2 * (y 1).val + ((y 3).val / 64 : ℕ) - 1) (2 * (y 2).val + ((y 3).val / 32 % 2 : ℕ) - 1)

set_option maxHeartbeats 4000000 in
/-- The block's entries are the layer's, given the input block, the weights and the bias in their layouts. -/
theorem out_apply (𝒱₀ : Variants) (c : Dev nD) (i : grid5.Coords) (arg1 : Memref sig .tc .vmem S1x58x58x64 .f32) (harg1 : arg1.IsWhole) (arg2 : Memref sig .tc .vmem S2x2x256x32 .f32) (harg2 : arg2.IsWhole) (arg3 : Memref sig .tc .vmem S1x1x32 .f32) (harg3 : arg3.IsWhole) (arg4 : Memref sig .tc .vmem S1x57x57x128 .f32) (harg4 : arg4.IsWhole)
    (x0 : Vec Ideal S1x58x58x64 .f32) (x1 : Vec Ideal S2x2x256x32 .f32) (x2 : Vec Ideal S1x1x32 .f32)
    (X : Plane) (W : Taps) (B : ℕ → EReal)
    (hx : ∀ (R C : Fin 58) (ch : Fin 64), x0 (ix4 0 R C ch) = X ch.val (R.val - 1) (C.val - 1))
    (hw : ∀ (p q : Fin 2) (k : Fin 256) (o : Fin 32), x1 (ix4 p q k o) = W (k.val % 64) o.val (((p.val + 1 : ℕ) : ℤ) + (k.val / 128 : ℕ) * (2 - 4 * (p.val : ℤ))) (((q.val + 1 : ℕ) : ℤ) + (k.val / 64 % 2 : ℕ) * (2 - 4 * (q.val : ℤ))))
    (hb : ∀ o : Fin 32, x2 (ix3 0 0 o) = B o.val)
    (y : S1x57x57x128.Idx) :
    out5_A_3 (Ix := Ix) (U := U) (Lvl := Lvl) 𝒱₀ c i arg1 harg1 arg2 harg2 arg3 harg3 arg4 harg4 x0 x1 x2 y = G X W B y := by
  unfold out5_A_3
  rw [View.read_writes_junk_eq_canon]
  refine View.canon_apply_of_pieces (G X W B) _ (fun p hp j => ?_) y (cover5_A_3 (Ix := Ix) (U := U) (Lvl := Lvl) 𝒱₀ c i arg1 harg1 arg2 harg2 arg3 harg3 arg4 harg4 x0 x1 x2 y)
  unfold kernelRun5_A at hp
  dsimp only [kernelRun5_A.sl.H3_7] at hp
  simp only [List.mem_cons, List.mem_nil_iff, or_false] at hp
  rcases hp with rfl | rfl | rfl | rfl | rfl | rfl | rfl | rfl | rfl | rfl
  all_goals
    dsimp only [kernelRun5_A.sl.r, kernelRun5_A.sl.r_1, kernelRun5_A.sl.r_2, kernelRun5_A.sl.r_3, kernelRun5_A.sl.r_4, kernelRun5_A.sl.v96]
    idx_vars j
    pointwise [k5_pay1, k5_pay2, k5_pay3, k5_pay4, k5_pay5, k5_pay6, k5_pay7, k5_pay8, k5_pay9, k5_pay10, k5_pay11, k5_pay12, k5_pay13,
      k5_pay14, k5_pay15, View.readAt_apply, Memref.IsWhole.read_unread, hb]
    simp only [G, Rect.emb_apply]
    dsimp
  iterate 6 exact (dlayer_out (by omega)).symm
  all_goals
    rw [dlayer_in (by omega)]
    refine congrArg₂ max (congrArg₂ (· + ·) (decAt_of_four X W _ _ _ _ fun k => ?_) (congrArg B (by omega))) rfl
    have k1 := k.isLt
    rcases (by omega : k.val / 128 = 0 ∨ k.val / 128 = 1) with e1 | e1 <;> rcases (by omega : k.val / 64 % 2 = 0 ∨ k.val / 64 % 2 = 1) with e2 | e2 <;>
    rw [e1, e2] <;>
    refine Ideal.mul_congr ?_ ((hw _ _ k j3).trans (taps_congr W rfl (by omega) (by rw [e1]; dsimp [src]; omega) (by rw [e2]; dsimp [src]; omega))) <;>
    split_ifs <;> first | omega | (rw [hx]; exact plane_congr X (by dsimp only <;> omega) (by dsimp [src] <;> omega) (by dsimp [src] <;> omega))

end Cert.KernelIdeal.Own.K5
-- ==== Proof.V6.lean ====
/- What the third transposed convolution's kernel leaves in its output block: the image's planes, four rows by four columns of each channel together. -/
module

public import proofs.«01_k».proof.Proof.Gen.Own.KernelIdeal.K6.Frame
public import proofs.«01_k».proof.Proof.Dec
public import Idealize.ShloMosaic.Lib.Pipeline.Value

@[expose] public section

noncomputable section

namespace Cert.KernelIdeal.Own.K6

open Cert.KernelIdeal Cert.KernelIdeal.Gen
open Idealize.ShloMosaic Idealize.ShloMosaic.TcCoe Idealize.SL.Sem Idealize.SL.RA
open Cert.Spec

variable {Ix : Type} [DecidableEq Ix] {U : Type} [URA U] {Lvl : Type} [Preorder Lvl]

/-- The block's entry at row `r`, column `c`, channel `ch`. -/
def G (X : Plane) (W : Taps) (B : ℕ → EReal) (y : S1x56x56x48.Idx) : EReal :=
  Ideal.logistic (decAt 32 X W ((y 3).val % 3) (4 * (y 1).val + 2 * ((y 3).val / 24 : ℕ) + ((y 3).val / 6 % 2 : ℕ)) (4 * (y 2).val + 2 * ((y 3).val / 12 % 2 : ℕ) + ((y 3).val / 3 % 2 : ℕ)) + B ((y 3).val % 3))

set_option maxHeartbeats 4000000 in
/-- The block's entries are the layer's, given the input block, the weights and the bias in their layouts. -/
theorem out_apply (𝒱₀ : Variants) (c : Dev nD) (i : grid6.Coords) (arg1 : Memref sig .tc .vmem S1x57x57x128 .f32) (harg1 : arg1.IsWhole) (arg2 : Memref sig .tc .vmem S512x48 .f32) (harg2 : arg2.IsWhole) (arg3 : Memref sig .tc .vmem S1x1x48 .f32) (harg3 : arg3.IsWhole) (arg4 : Memref sig .tc .vmem S1x56x56x48 .f32) (harg4 : arg4.IsWhole)
    (x0 : Vec Ideal S1x57x57x128 .f32) (x1 : Vec Ideal S512x48 .f32) (x2 : Vec Ideal S1x1x48 .f32)
    (X : Plane) (W : Taps) (B : ℕ → EReal)
    (hW : ∀ o c a b, ¬ (0 ≤ a ∧ a < 4 ∧ 0 ≤ b ∧ b < 4) → W o c a b = 0)
    (hx : ∀ (R C : Fin 57) (ch : Fin 128), x0 (ix4 0 R C ch) = X (ch.val % 32) (2 * R.val + (ch.val / 64 : ℕ) - 1) (2 * C.val + (ch.val / 32 % 2 : ℕ) - 1))
    (hw : ∀ (k : Fin 512) (j : Fin 48), x1 (ix2 k j) = W (k.val % 32) (j.val % 3) ((2 * (j.val / 24) + j.val / 6 % 2 + 3 : ℕ) - 2 * (2 * (k.val / 256) + k.val / 64 % 2 : ℕ) : ℤ) ((2 * (j.val / 12 % 2) + j.val / 3 % 2 + 3 : ℕ) - 2 * (2 * (k.val / 128 % 2) + k.val / 32 % 2 : ℕ) : ℤ))
    (hb : ∀ j : Fin 48, x2 (ix3 0 0 j) = B (j.val % 3))
    (y : S1x56x56x48.Idx) :
    out6_A_3 (Ix := Ix) (U := U) (Lvl := Lvl) 𝒱₀ c i arg1 harg1 arg2 harg2 arg3 harg3 arg4 harg4 x0 x1 x2 y = G X W B y := by
  unfold out6_A_3
  rw [View.read_writes_junk_eq_canon]
  refine View.canon_apply_of_pieces (G X W B) _ (fun p hp j => ?_) y (cover6_A_3 (Ix := Ix) (U := U) (Lvl := Lvl) 𝒱₀ c i arg1 harg1 arg2 harg2 arg3 harg3 arg4 harg4 x0 x1 x2 y)
  unfold kernelRun6_A at hp
  dsimp only at hp
  simp only [List.mem_cons, List.mem_nil_iff, or_false] at hp
  obtain rfl := hp
  dsimp only
  idx_vars j
  pointwise [k6_pay1, View.readAt_apply, Memref.IsWhole.read_unread, hb]
  simp only [G, Rect.emb_apply]
  dsimp
  refine congrArg Ideal.logistic (congrArg₂ (· + ·) (decAt_of_sixteen X W _ _ _ j1 j2 (j3.val / 24) (j3.val / 12 % 2) (j3.val / 6 % 2) (j3.val / 3 % 2) (by omega) (by omega) (by omega) (by omega) (by omega) (by omega) hW _ fun k => ?_) (congrArg B (by omega)))
  refine Ideal.mul_congr ?_ ((hw k j3).trans (taps_congr W rfl (by omega) (by omega) (by omega)))
  split_ifs <;> rw [hx] <;> exact plane_congr X (by dsimp only <;> omega) (by dsimp only <;> omega) (by dsimp only <;> omega)

end Cert.KernelIdeal.Own.K6
-- ==== Proof.ArrDec.lean ====
/- The arrays the decoder's regions end with: each block is what the region's body computes of its image, and the sixteen
   blocks are the array. -/
module

public import proofs.«01_k».proof.Proof.V4
public import proofs.«01_k».proof.Proof.V5
public import proofs.«01_k».proof.Proof.V6
public import Idealize.ShloMosaic.Lib.Pipeline.ValueKit

@[expose] public section

noncomputable section

namespace Cert.KernelIdeal.Own

open Cert.KernelIdeal Cert.KernelIdeal.Gen
open Idealize.ShloMosaic Idealize.ShloMosaic.TcCoe Idealize.SL.Sem Idealize.SL.RA
open Cert.Spec

variable {Ix : Type} [DecidableEq Ix] {U : Type} [URA U] {Lvl : Type} [Preorder Lvl]

variable (V : (c : Dev nD) → (b : Ref sig .tc) → Buf (Elt Ideal) ((c : Thread nD τ).loc b)) (D : Dev nD → CellTallies nD τ sig Ix)

set_option maxHeartbeats 1000000 in
/-- The first transposed convolution's array. -/
theorem arr4 (c : Dev nD) (X : ℕ → Plane) (W : Taps) (B : ℕ → EReal)
    (hx : ∀ (n : Fin 16) (R C : Fin 30) (ch : Fin 64), V c main_v726_0 (ix4 n R C ch) = X n.val ch.val (R.val - 1) (C.val - 1))
    (hw : ∀ (p q : Fin 2) (k : Fin 256) (o : Fin 64), V c main_v775 (ix4 p q k o) = W (k.val % 64) o.val (((p.val + 1 : ℕ) : ℤ) + (k.val / 128 : ℕ) * (2 - 4 * (p.val : ℤ))) (((q.val + 1 : ℕ) : ℤ) + (k.val / 64 % 2 : ℕ) * (2 - 4 * (q.val : ℤ))))
    (hb : ∀ o : Fin 64, V c main_v776 (ix3 0 0 o) = B o.val) :
    (K4.dat (U := U) (Lvl := Lvl) Variants.none V D c).arrAt 3 cfg4.N
      = fun j : S16x58x58x64.Idx => K4.G (X (j 0).val) W B (ix4 0 (j 1) (j 2) (j 3)) := by
  have e0 : ∀ t : Fin cfg4.N, win4_0.index t (0 : Fin 4) = t.val ∧ win4_0.index t (1 : Fin 4) = 0 ∧ win4_0.index t (2 : Fin 4) = 0 ∧ win4_0.index t (3 : Fin 4) = 0 := (by decide +kernel : ∀ t : Fin grid4.N, _)
  have e1 : ∀ t : Fin cfg4.N, win4_1.index t (0 : Fin 4) = 0 ∧ win4_1.index t (1 : Fin 4) = 0 ∧ win4_1.index t (2 : Fin 4) = 0 ∧ win4_1.index t (3 : Fin 4) = 0 := (by decide +kernel : ∀ t : Fin grid4.N, _)
  have e2 : ∀ t : Fin cfg4.N, win4_2.index t (0 : Fin 3) = 0 ∧ win4_2.index t (1 : Fin 3) = 0 ∧ win4_2.index t (2 : Fin 3) = 0 := (by decide +kernel : ∀ t : Fin grid4.N, _)
  have e3 : ∀ t : Fin cfg4.N, win4_3.index t (0 : Fin 4) = t.val ∧ win4_3.index t (1 : Fin 4) = 0 ∧ win4_3.index t (2 : Fin 4) = 0 ∧ win4_3.index t (3 : Fin 4) = 0 := (by decide +kernel : ∀ t : Fin grid4.N, _)
  refine Pipeline.Dat.arrAt_eq_of_covers _ 3 _ (by decide +kernel) fun t hf y => ?_
  blk_simp
  rw [K4.after4_3]
  unfold K4.outsAt4
  rw [K4.out_apply _ c _ _ _ _ _ _ _ _ _ _ _ _ (X t.val) W B]
  · have h := e3 t
    simp only [K4.G]
    blk_simp [h.1, h.2.1, h.2.2.1, h.2.2.2]
  · intro R C ch
    refine (congrArg (V c main_v726_0) ?_).trans (hx ⟨t.val, t.isLt⟩ R C ch)
    funext a; apply Fin.ext
    have h := e0 t
    match a with
    | ⟨0, _⟩ => show win4_0.index t (0 : Fin 4) * 1 + 1 * 0 = t.val; omega
    | ⟨1, _⟩ => show win4_0.index t (1 : Fin 4) * 30 + 1 * R.val = R.val; omega
    | ⟨2, _⟩ => show win4_0.index t (2 : Fin 4) * 30 + 1 * C.val = C.val; omega
    | ⟨3, _⟩ => show win4_0.index t (3 : Fin 4) * 64 + 1 * ch.val = ch.val; omega
  · intro p q k o
    refine (congrArg (V c main_v775) ?_).trans (hw p q k o)
    funext a; apply Fin.ext
    have h := e1 t
    match a with
    | ⟨0, _⟩ => show win4_1.index t (0 : Fin 4) * 2 + 1 * p.val = p.val; omega
    | ⟨1, _⟩ => show win4_1.index t (1 : Fin 4) * 2 + 1 * q.val = q.val; omega
    | ⟨2, _⟩ => show win4_1.index t (2 : Fin 4) * 256 + 1 * k.val = k.val; omega
    | ⟨3, _⟩ => show win4_1.index t (3 : Fin 4) * 64 + 1 * o.val = o.val; omega
  · intro o
    refine (congrArg (V c main_v776) ?_).trans (hb o)
    funext a; apply Fin.ext
    have h := e2 t
    match a with
    | ⟨0, _⟩ => show win4_2.index t (0 : Fin 3) * 1 + 1 * 0 = 0; omega
    | ⟨1, _⟩ => show win4_2.index t (1 : Fin 3) * 1 + 1 * 0 = 0; omega
    | ⟨2, _⟩ => show win4_2.index t (2 : Fin 3) * 64 + 1 * o.val = o.val; omega

set_option maxHeartbeats 1000000 in
/-- The second transposed convolution's array. -/
theorem arr5 (c : Dev nD) (X : ℕ → Plane) (W : Taps) (B : ℕ → EReal)
    (hx : ∀ (n : Fin 16) (R C : Fin 58) (ch : Fin 64), V c main_v777 (ix4 n R C ch) = X n.val ch.val (R.val - 1) (C.val - 1))
    (hw : ∀ (p q : Fin 2) (k : Fin 256) (o : Fin 32), V c main_v822 (ix4 p q k o) = W (k.val % 64) o.val (((p.val + 1 : ℕ) : ℤ) + (k.val / 128 : ℕ) * (2 - 4 * (p.val : ℤ))) (((q.val + 1 : ℕ) : ℤ) + (k.val / 64 % 2 : ℕ) * (2 - 4 * (q.val : ℤ))))
    (hb : ∀ o : Fin 32, V c main_v823 (ix3 0 0 o) = B o.val) :
    (K5.dat (U := U) (Lvl := Lvl) Variants.none V D c).arrAt 3 cfg5.N
      = fun j : S16x57x57x128.Idx => K5.G (X (j 0).val) W B (ix4 0 (j 1) (j 2) (j 3)) := by
  have e0 : ∀ t : Fin cfg5.N, win5_0.index t (0 : Fin 4) = t.val ∧ win5_0.index t (1 : Fin 4) = 0 ∧ win5_0.index t (2 : Fin 4) = 0 ∧ win5_0.index t (3 : Fin 4) = 0 := (by decide +kernel : ∀ t : Fin grid5.N, _)
  have e1 : ∀ t : Fin cfg5.N, win5_1.index t (0 : Fin 4) = 0 ∧ win5_1.index t (1 : Fin 4) = 0 ∧ win5_1.index t (2 : Fin 4) = 0 ∧ win5_1.index t (3 : Fin 4) = 0 := (by decide +kernel : ∀ t : Fin grid5.N, _)
  have e2 : ∀ t : Fin cfg5.N, win5_2.index t (0 : Fin 3) = 0 ∧ win5_2.index t (1 : Fin 3) = 0 ∧ win5_2.index t (2 : Fin 3) = 0 := (by decide +kernel : ∀ t : Fin grid5.N, _)
  have e3 : ∀ t : Fin cfg5.N, win5_3.index t (0 : Fin 4) = t.val ∧ win5_3.index t (1 : Fin 4) = 0 ∧ win5_3.index t (2 : Fin 4) = 0 ∧ win5_3.index t (3 : Fin 4) = 0 := (by decide +kernel : ∀ t : Fin grid5.N, _)
  refine Pipeline.Dat.arrAt_eq_of_covers _ 3 _ (by decide +kernel) fun t hf y => ?_
  blk_simp
  rw [K5.after5_3]
  unfold K5.outsAt5
  rw [K5.out_apply _ c _ _ _ _ _ _ _ _ _ _ _ _ (X t.val) W B]
  · have h := e3 t
    simp only [K5.G]
    blk_simp [h.1, h.2.1, h.2.2.1, h.2.2.2]
  · intro R C ch
    refine (congrArg (V c main_v777) ?_).trans (hx ⟨t.val, t.isLt⟩ R C ch)
    funext a; apply Fin.ext
    have h := e0 t
    match a with
    | ⟨0, _⟩ => show win5_0.index t (0 : Fin 4) * 1 + 1 * 0 = t.val; omega
    | ⟨1, _⟩ => show win5_0.index t (1 : Fin 4) * 58 + 1 * R.val = R.val; omega
    | ⟨2, _⟩ => show win5_0.index t (2 : Fin 4) * 58 + 1 * C.val = C.val; omega
    | ⟨3, _⟩ => show win5_0.index t (3 : Fin 4) * 64 + 1 * ch.val = ch.val; omega
  · intro p q k o
    refine (congrArg (V c main_v822) ?_).trans (hw p q k o)
    funext a; apply Fin.ext
    have h := e1 t
    match a with
    | ⟨0, _⟩ => show win5_1.index t (0 : Fin 4) * 2 + 1 * p.val = p.val; omega
    | ⟨1, _⟩ => show win5_1.index t (1 : Fin 4) * 2 + 1 * q.val = q.val; omega
    | ⟨2, _⟩ => show win5_1.index t (2 : Fin 4) * 256 + 1 * k.val = k.val; omega
    | ⟨3, _⟩ => show win5_1.index t (3 : Fin 4) * 32 + 1 * o.val = o.val; omega
  · intro o
    refine (congrArg (V c main_v823) ?_).trans (hb o)
    funext a; apply Fin.ext
    have h := e2 t
    match a with
    | ⟨0, _⟩ => show win5_2.index t (0 : Fin 3) * 1 + 1 * 0 = 0; omega
    | ⟨1, _⟩ => show win5_2.index t (1 : Fin 3) * 1 + 1 * 0 = 0; omega
    | ⟨2, _⟩ => show win5_2.index t (2 : Fin 3) * 32 + 1 * o.val = o.val; omega

set_option maxHeartbeats 1000000 in
/-- The last transposed convolution's array. -/
theorem arr6 (c : Dev nD) (X : ℕ → Plane) (W : Taps) (B : ℕ → EReal)
    (hW : ∀ o c a b, ¬ (0 ≤ a ∧ a < 4 ∧ 0 ≤ b ∧ b < 4) → W o c a b = 0)
    (hx : ∀ (n : Fin 16) (R C : Fin 57) (ch : Fin 128), V c main_v824 (ix4 n R C ch) = X n.val (ch.val % 32) (2 * R.val + (ch.val / 64 : ℕ) - 1) (2 * C.val + (ch.val / 32 % 2 : ℕ) - 1))
    (hw : ∀ (k : Fin 512) (j : Fin 48), V c main_v1594 (ix2 k j) = W (k.val % 32) (j.val % 3) ((2 * (j.val / 24) + j.val / 6 % 2 + 3 : ℕ) - 2 * (2 * (k.val / 256) + k.val / 64 % 2 : ℕ) : ℤ) ((2 * (j.val / 12 % 2) + j.val / 3 % 2 + 3 : ℕ) - 2 * (2 * (k.val / 128 % 2) + k.val / 32 % 2 : ℕ) : ℤ))
    (hb : ∀ o : Fin 48, V c main_v1598 (ix3 0 0 o) = B (o.val % 3)) :
    (K6.dat (U := U) (Lvl := Lvl) Variants.none V D c).arrAt 3 cfg6.N
      = fun j : S16x56x56x48.Idx => K6.G (X (j 0).val) W B (ix4 0 (j 1) (j 2) (j 3)) := by
  have e0 : ∀ t : Fin cfg6.N, win6_0.index t (0 : Fin 4) = t.val ∧ win6_0.index t (1 : Fin 4) = 0 ∧ win6_0.index t (2 : Fin 4) = 0 ∧ win6_0.index t (3 : Fin 4) = 0 := (by decide +kernel : ∀ t : Fin grid6.N, _)
  have e1 : ∀ t : Fin cfg6.N, win6_1.index t (0 : Fin 2) = 0 ∧ win6_1.index t (1 : Fin 2) = 0 := (by decide +kernel : ∀ t : Fin grid6.N, _)
  have e2 : ∀ t : Fin cfg6.N, win6_2.index t (0 : Fin 3) = 0 ∧ win6_2.index t (1 : Fin 3) = 0 ∧ win6_2.index t (2 : Fin 3) = 0 := (by decide +kernel : ∀ t : Fin grid6.N, _)
  have e3 : ∀ t : Fin cfg6.N, win6_3.index t (0 : Fin 4) = t.val ∧ win6_3.index t (1 : Fin 4) = 0 ∧ win6_3.index t (2 : Fin 4) = 0 ∧ win6_3.index t (3 : Fin 4) = 0 := (by decide +kernel : ∀ t : Fin grid6.N, _)
  refine Pipeline.Dat.arrAt_eq_of_covers _ 3 _ (by decide +kernel) fun t hf y => ?_
  blk_simp
  rw [K6.after6_3]
  unfold K6.outsAt6
  rw [K6.out_apply _ c _ _ _ _ _ _ _ _ _ _ _ _ (X t.val) W B hW]
  · have h := e3 t
    simp only [K6.G]
    blk_simp [h.1, h.2.1, h.2.2.1, h.2.2.2]
  · intro R C ch
    refine (congrArg (V c main_v824) ?_).trans (hx ⟨t.val, t.isLt⟩ R C ch)
    funext a; apply Fin.ext
    have h := e0 t
    match a with
    | ⟨0, _⟩ => show win6_0.index t (0 : Fin 4) * 1 + 1 * 0 = t.val; omega
    | ⟨1, _⟩ => show win6_0.index t (1 : Fin 4) * 57 + 1 * R.val = R.val; omega
    | ⟨2, _⟩ => show win6_0.index t (2 : Fin 4) * 57 + 1 * C.val = C.val; omega
    | ⟨3, _⟩ => show win6_0.index t (3 : Fin 4) * 128 + 1 * ch.val = ch.val; omega
  · intro k o
    refine (congrArg (V c main_v1594) ?_).trans (hw k o)
    funext a; apply Fin.ext
    have h := e1 t
    match a with
    | ⟨0, _⟩ => show win6_1.index t (0 : Fin 2) * 512 + 1 * k.val = k.val; omega
    | ⟨1, _⟩ => show win6_1.index t (1 : Fin 2) * 48 + 1 * o.val = o.val; omega
  · intro o
    refine (congrArg (V c main_v1598) ?_).trans (hb o)
    funext a; apply Fin.ext
    have h := e2 t
    match a with
    | ⟨0, _⟩ => show win6_2.index t (0 : Fin 3) * 1 + 1 * 0 = 0; omega
    | ⟨1, _⟩ => show win6_2.index t (1 : Fin 3) * 1 + 1 * 0 = 0; omega
    | ⟨2, _⟩ => show win6_2.index t (2 : Fin 3) * 48 + 1 * o.val = o.val; omega

end Cert.KernelIdeal.Own

end
-- ==== Proof.Wa.lean ====
/- The first convolution's weights, as the host code before the first region leaves them. -/
module

public import proofs.«01_k».proof.Proof.Gen.KernelIdeal.Regions
public import Idealize.ShloMosaic.Lib.StableHlo.RunRead
public import Idealize.ShloMosaic.Lib.Tactic

@[expose] public section

noncomputable section

namespace Cert.KernelIdeal.Own

open Cert.KernelIdeal Cert.KernelIdeal.Gen
open Idealize.ShloMosaic Idealize.ShloMosaic.TcCoe

variable {F : FTy → Type} [FloatOps F]

/-- A tap's slice of the weights lies inside them. -/
theorem slices_tap : ∀ a b : Fin 4, S32x3x4x4.Slices ![0, 0, a.val, b.val] S32x3x1x1 := by decide

/-- One tap's weights, input channel first. -/
def tapW (w : Vec F S32x3x4x4 .f32) (a b : Fin 4) : Vec F S3x32 .f32 :=
  transpose S3x32 [1, 0] (shapeCast S32x3 (extractStridedSlice S32x3x1x1 ![0, 0, a.val, b.val] w (slices_tap a b)) shapeCasts_S32x3x1x1_S32x3) transposes_S32x3_S3x32_1_0

/-- An index word. -/
def word (n : ℕ) : IVec S1 32 := broadcastInDim S1 ![] bcast_S_S1 (constantI S_ 32 (BitVec.ofNat 32 n))

/-- One of the steps: an output phase, and for each axis the tap's offset of whole rows and its phase. -/
structure Step where
  u : ℕ
  eu : ℕ
  uc : ℕ
  ec : ℕ
  q : ℕ
  qc : ℕ

/-- The tap's row. -/
def Step.a (e : Step) : Fin 4 := ⟨(2 * e.eu + e.q) % 4, Nat.mod_lt _ (by decide)⟩
/-- The tap's column. -/
def Step.b (e : Step) : Fin 4 := ⟨(2 * e.ec + e.qc) % 4, Nat.mod_lt _ (by decide)⟩

/-- Where the step writes. -/
def Step.place (e : Step) : IVec S6 32 :=
  concatenate S6 0 [⟨S1, word (e.eu + e.u)⟩, ⟨S1, word (e.ec + e.uc)⟩, ⟨S1, word e.q⟩, ⟨S1, word e.qc⟩, ⟨S1, word e.u⟩, ⟨S1, word e.uc⟩]
    concatenates_S1_S1_S1_S1_S1_S1_S6_d0

/-- One step: the tap's weights set at its place for one output phase. -/
def put1 (w : Vec F S32x3x4x4 .f32) (x : Vec F S3x3x2x2x3x2x2x32 .f32) (e : Step) : Vec F S3x3x2x2x3x2x2x32 .f32 :=
  Host.scatter scatter_S3x3x2x2x3x2x2x32_S6_S3x32_01_012356_012356_0 (fun _ b => b) x e.place (tapW w e.a e.b)

/-- The steps in order. -/
def steps : List Step :=
  [0, 1].flatMap fun u => [0, 1].flatMap fun eu => [0, 1].flatMap fun uc => [0, 1].flatMap fun ec =>
    [0, 1].flatMap fun q => [0, 1].map fun qc => ⟨u, eu, uc, ec, q, qc⟩

/-- From operation `n` on, seventeen operations carry out each step on the array of the one stage and leave it as the
    array of the next; they keep the weights they read. -/
inductive Chain : List (Valuation τ sig (Elt F) → Vec F S3x3x2x2x3x2x2x32 .f32) → ℕ → List Step → Prop
  | done (g : Valuation τ sig (Elt F) → Vec F S3x3x2x2x3x2x2x32 .f32) (n : ℕ) : Chain [g] n []
  | step (g g' : Valuation τ sig (Elt F) → Vec F S3x3x2x2x3x2x2x32 .f32) (gs) (n : ℕ) (e : Step) (es)
      (h : ∀ V, g' (StableHlo.after ((hostOps0_2.drop n).take 17) V) = [e].foldl (put1 (V main_arg1)) (g V))
      (hk : ∀ V : Valuation τ sig (Elt F), StableHlo.after ((hostOps0_2.drop n).take 17) V main_arg1 = V main_arg1)
      (t : Chain (g' :: gs) (n + 17) es) : Chain (g :: g' :: gs) n (e :: es)

/-- A line run in two parts. -/
theorem after_parts (ops : List (HloOp τ sig (Elt F))) (n : ℕ) (V : Valuation τ sig (Elt F)) :
    StableHlo.after ops V = StableHlo.after (ops.drop n) (StableHlo.after (ops.take n) V) := by
  induction n generalizing ops V with
  | zero => rfl
  | succ n ih =>
    cases ops with
    | nil => rfl
    | cons op ops => exact ih ops _

/-- The steps of a chain in order are the fold of them. -/
theorem Chain.fold {gs : List (Valuation τ sig (Elt F) → Vec F S3x3x2x2x3x2x2x32 .f32)} {n : ℕ} {es : List Step} (h : Chain gs n es) :
    ∀ (g : Valuation τ sig (Elt F) → Vec F S3x3x2x2x3x2x2x32 .f32) (V : Valuation τ sig (Elt F)), gs.head? = some g → ∀ g', gs.getLast? = some g' →
      g' (StableHlo.after ((hostOps0_2.drop n).take (17 * es.length)) V) = es.foldl (put1 (V main_arg1)) (g V) := by
  induction h with
  | done g n =>
    intro g1 V h1 g2 h2
    obtain rfl := Option.some.inj h1
    obtain rfl := Option.some.inj h2
    rfl
  | step g g' gs n e es h hk t ih =>
    intro g1 V h1 g2 h2
    obtain rfl := Option.some.inj h1
    have hh := h V
    rw [List.foldl_cons, List.foldl_nil] at hh
    rw [List.foldl_cons, ← hh, ← hk V, ← ih g' _ rfl g2 (by rw [← h2]; rfl), after_parts _ 17 V, List.take_take, List.drop_take, List.drop_drop,
      List.length_cons, show min 17 (17 * (es.length + 1)) = 17 by omega, show 17 * (es.length + 1) - 17 = 17 * es.length by omega]

set_option maxRecDepth 100000 in
set_option maxHeartbeats 0 in
/-- The host code's steps are such a chain. -/
theorem chain : Chain (F := F)
  [
    (· main_v5), (· main_v16), (· main_v27), (· main_v38), (· main_v49),
    (· main_v60), (· main_v71), (· main_v82), (· main_v93), (· main_v104),
    (· main_v115), (· main_v126), (· main_v137), (· main_v148), (· main_v159),
    (· main_v170), (· main_v181), (· main_v192), (· main_v203), (· main_v214),
    (· main_v225), (· main_v236), (· main_v247), (· main_v258), (· main_v269),
    (· main_v280), (· main_v291), (· main_v302), (· main_v313), (· main_v324),
    (· main_v335), (· main_v346), (· main_v357), (· main_v368), (· main_v379),
    (· main_v390), (· main_v401), (· main_v412), (· main_v423), (· main_v434),
    (· main_v445), (· main_v456), (· main_v467), (· main_v478), (· main_v489),
    (· main_v500), (· main_v511), (· main_v522), (· main_v533), (· main_v544),
    (· main_v555), (· main_v566), (· main_v577), (· main_v588), (· main_v599),
    (· main_v610), (· main_v621), (· main_v632), (· main_v643), (· main_v654),
    (· main_v665), (· main_v676), (· main_v687), (· main_v698), (· main_v709) ]
    5 steps := by
  rw [show steps = steps.map id from by simp]
  simp only [steps, List.flatMap_cons, List.flatMap_nil, List.map_cons, List.map_nil, List.cons_append, List.nil_append, List.append_nil, id]
  repeat
    apply Chain.step
    · intro V; sl_kernel_rfl
    · intro V; sl_kernel_rfl
    simp only [Nat.reduceAdd]
  exact Chain.done _ _

set_option maxRecDepth 100000 in
/-- The array of weights is the steps' from zero. -/
theorem weights_line (V : Valuation τ sig (Elt F)) :
    StableHlo.after hostOps0_2 V main_v710
      = shapeCast S108x128 (steps.foldl (put1 (V main_arg1)) (broadcastInDim S3x3x2x2x3x2x2x32 ![] bcast_S_S3x3x2x2x3x2x2x32 (constant S_ .f32 0x00000000#32))) shapeCasts_S3x3x2x2x3x2x2x32_S108x128 := by
  have h0 : ∀ V : Valuation τ sig (Elt F), StableHlo.after (hostOps0_2.take 5) V main_v5
      = broadcastInDim S3x3x2x2x3x2x2x32 ![] bcast_S_S3x3x2x2x3x2x2x32 (constant S_ .f32 0x00000000#32) := fun V => by sl_kernel_rfl
  have h1 : ∀ V : Valuation τ sig (Elt F), StableHlo.after (hostOps0_2.take 5) V main_arg1 = V main_arg1 := fun V => by sl_kernel_rfl
  have h2 : ∀ V : Valuation τ sig (Elt F), StableHlo.after ((hostOps0_2.drop 5).drop 1088) V main_v710
      = shapeCast S108x128 (V main_v709) shapeCasts_S3x3x2x2x3x2x2x32_S108x128 := fun V => by sl_kernel_rfl
  rw [after_parts hostOps0_2 5 V, after_parts _ 1088, h2, ← h0 V, ← h1 V]
  exact congrArg (fun x => shapeCast S108x128 x shapeCasts_S3x3x2x2x3x2x2x32_S108x128)
    (chain.fold (· main_v5) (StableHlo.after (hostOps0_2.take 5) V) rfl (· main_v709) rfl)

end Cert.KernelIdeal.Own

end
-- ==== Proof.Wd.lean ====
/- The last transposed convolution's weights, as the host code before its region leaves them. -/
module

public import proofs.«01_k».proof.Proof.Wa
public import Idealize.ShloMosaic.Lib.StableHlo.RunRead
public import Idealize.ShloMosaic.Lib.Tactic

@[expose] public section

noncomputable section

namespace Cert.KernelIdeal.Own.D3

open Cert.KernelIdeal Cert.KernelIdeal.Gen
open Idealize.ShloMosaic Idealize.ShloMosaic.TcCoe

variable {F : FTy → Type} [FloatOps F]

/-- A tap's slice of the weights lies inside them. -/
theorem slices_tap : ∀ a b : Fin 4, S32x3x4x4.Slices ![0, 0, a.val, b.val] S32x3x1x1 := by decide

/-- One tap's weights, input channel first. -/
def tapW (w : Vec F S32x3x4x4 .f32) (a b : Fin 4) : Vec F S32x3 .f32 :=
  shapeCast S32x3 (extractStridedSlice S32x3x1x1 ![0, 0, a.val, b.val] w (slices_tap a b)) shapeCasts_S32x3x1x1_S32x3

/-- One of the steps: for each axis the input's offset of whole pairs and within the pair, and the output's within its four. -/
structure Step where
  br : ℕ
  q : ℕ
  v : ℕ
  p : ℕ
  bc : ℕ
  qc : ℕ
  vc : ℕ
  pc : ℕ

/-- The tap's row. -/
def Step.a (e : Step) : Fin 4 := ⟨(3 + e.p + 2 * e.v - 4 * e.br - 2 * e.q) % 4, Nat.mod_lt _ (by decide)⟩
/-- The tap's column. -/
def Step.b (e : Step) : Fin 4 := ⟨(3 + e.pc + 2 * e.vc - 4 * e.bc - 2 * e.qc) % 4, Nat.mod_lt _ (by decide)⟩

/-- Where the step writes. -/
def Step.place (e : Step) : IVec S8 32 :=
  concatenate S8 0 [⟨S1, word e.br⟩, ⟨S1, word e.bc⟩, ⟨S1, word e.q⟩, ⟨S1, word e.qc⟩, ⟨S1, word e.v⟩, ⟨S1, word e.vc⟩, ⟨S1, word e.p⟩, ⟨S1, word e.pc⟩]
    concatenates_S1_S1_S1_S1_S1_S1_S1_S1_S8_d0

/-- One step: the tap's weights set at its place. -/
def put1 (w : Vec F S32x3x4x4 .f32) (x : Vec F S2x2x2x2x32x2x2x2x2x3 .f32) (e : Step) : Vec F S2x2x2x2x32x2x2x2x2x3 .f32 :=
  Host.scatter scatter_S2x2x2x2x32x2x2x2x2x3_S8_S32x3_01_01235678_01235678_0 (fun _ b => b) x e.place (tapW w e.a e.b)

/-- An axis's steps: the offset of whole pairs, the offset within the pair, the output's pair and its place in the pair. -/
def axis : List (ℕ × ℕ × ℕ × ℕ) :=
  [(0, 0, 0, 0), (0, 1, 0, 0), (0, 1, 0, 1), (0, 1, 1, 0), (1, 0, 0, 1), (1, 0, 1, 0), (1, 0, 1, 1), (1, 1, 1, 1)]

/-- The steps in order. -/
def steps : List Step :=
  axis.flatMap fun r => axis.map fun c => ⟨r.1, r.2.1, r.2.2.1, r.2.2.2, c.1, c.2.1, c.2.2.1, c.2.2.2⟩

/-- From operation `n` on, twenty operations carry out each step on the array of the one stage and leave it as the
    array of the next; they keep the weights they read. -/
inductive Chain : List (Valuation τ sig (Elt F) → Vec F S2x2x2x2x32x2x2x2x2x3 .f32) → ℕ → List Step → Prop
  | done (g : Valuation τ sig (Elt F) → Vec F S2x2x2x2x32x2x2x2x2x3 .f32) (n : ℕ) : Chain [g] n []
  | step (g g' : Valuation τ sig (Elt F) → Vec F S2x2x2x2x32x2x2x2x2x3 .f32) (gs) (n : ℕ) (e : Step) (es)
      (h : ∀ V, g' (StableHlo.after ((hostOps6.drop n).take 20) V) = [e].foldl (put1 (V main_arg12)) (g V))
      (hk : ∀ V : Valuation τ sig (Elt F), StableHlo.after ((hostOps6.drop n).take 20) V main_arg12 = V main_arg12)
      (t : Chain (g' :: gs) (n + 20) es) : Chain (g :: g' :: gs) n (e :: es)

/-- The steps of a chain in order are the fold of them. -/
theorem Chain.fold {gs : List (Valuation τ sig (Elt F) → Vec F S2x2x2x2x32x2x2x2x2x3 .f32)} {n : ℕ} {es : List Step} (h : Chain gs n es) :
    ∀ (g : Valuation τ sig (Elt F) → Vec F S2x2x2x2x32x2x2x2x2x3 .f32) (V : Valuation τ sig (Elt F)), gs.head? = some g → ∀ g', gs.getLast? = some g' →
      g' (StableHlo.after ((hostOps6.drop n).take (20 * es.length)) V) = es.foldl (put1 (V main_arg12)) (g V) := by
  induction h with
  | done g n =>
    intro g1 V h1 g2 h2
    obtain rfl := Option.some.inj h1
    obtain rfl := Option.some.inj h2
    rfl
  | step g g' gs n e es h hk t ih =>
    intro g1 V h1 g2 h2
    obtain rfl := Option.some.inj h1
    have hh := h V
    rw [List.foldl_cons, List.foldl_nil] at hh
    rw [List.foldl_cons, ← hh, ← hk V, ← ih g' _ rfl g2 (by rw [← h2]; rfl), after_parts _ 20 V, List.take_take, List.drop_take, List.drop_drop,
      List.length_cons, show min 20 (20 * (es.length + 1)) = 20 by omega, show 20 * (es.length + 1) - 20 = 20 * es.length by omega]

set_option maxRecDepth 100000 in
set_option maxHeartbeats 0 in
/-- The host code's steps are such a chain. -/
theorem chain : Chain (F := F)
  [
    (· main_v825), (· main_v837), (· main_v849), (· main_v861), (· main_v873),
    (· main_v885), (· main_v897), (· main_v909), (· main_v921), (· main_v933),
    (· main_v945), (· main_v957), (· main_v969), (· main_v981), (· main_v993),
    (· main_v1005), (· main_v1017), (· main_v1029), (· main_v1041), (· main_v1053),
    (· main_v1065), (· main_v1077), (· main_v1089), (· main_v1101), (· main_v1113),
    (· main_v1125), (· main_v1137), (· main_v1149), (· main_v1161), (· main_v1173),
    (· main_v1185), (· main_v1197), (· main_v1209), (· main_v1221), (· main_v1233),
    (· main_v1245), (· main_v1257), (· main_v1269), (· main_v1281), (· main_v1293),
    (· main_v1305), (· main_v1317), (· main_v1329), (· main_v1341), (· main_v1353),
    (· main_v1365), (· main_v1377), (· main_v1389), (· main_v1401), (· main_v1413),
    (· main_v1425), (· main_v1437), (· main_v1449), (· main_v1461), (· main_v1473),
    (· main_v1485), (· main_v1497), (· main_v1509), (· main_v1521), (· main_v1533),
    (· main_v1545), (· main_v1557), (· main_v1569), (· main_v1581), (· main_v1593) ]
    2 steps := by
  rw [show steps = steps.map id from by simp]
  simp only [steps, axis, List.flatMap_cons, List.flatMap_nil, List.map_cons, List.map_nil, List.cons_append, List.nil_append, List.append_nil, id]
  repeat
    apply Chain.step
    · intro V; sl_kernel_rfl
    · intro V; sl_kernel_rfl
    simp only [Nat.reduceAdd]
  exact Chain.done _ _

set_option maxRecDepth 100000 in
/-- The array of weights is the steps' from zero. -/
theorem weights_line (V : Valuation τ sig (Elt F)) :
    StableHlo.after hostOps6 V main_v1594
      = shapeCast S512x48 (steps.foldl (put1 (V main_arg12)) (broadcastInDim S2x2x2x2x32x2x2x2x2x3 ![] bcast_S_S2x2x2x2x32x2x2x2x2x3 (constant S_ .f32 0x00000000#32))) shapeCasts_S2x2x2x2x32x2x2x2x2x3_S512x48 := by
  have h0 : ∀ V : Valuation τ sig (Elt F), StableHlo.after (hostOps6.take 2) V main_v825
      = broadcastInDim S2x2x2x2x32x2x2x2x2x3 ![] bcast_S_S2x2x2x2x32x2x2x2x2x3 (constant S_ .f32 0x00000000#32) := fun V => by sl_kernel_rfl
  have h1 : ∀ V : Valuation τ sig (Elt F), StableHlo.after (hostOps6.take 2) V main_arg12 = V main_arg12 := fun V => by sl_kernel_rfl
  have h2 : ∀ V : Valuation τ sig (Elt F), StableHlo.after ((hostOps6.drop 2).drop 1280) V main_v1594
      = shapeCast S512x48 (V main_v1593) shapeCasts_S2x2x2x2x32x2x2x2x2x3_S512x48 := fun V => by sl_kernel_rfl
  rw [after_parts hostOps6 2 V, after_parts _ 1280, h2, ← h0 V, ← h1 V]
  exact congrArg (fun x => shapeCast S512x48 x shapeCasts_S2x2x2x2x32x2x2x2x2x3_S512x48)
    (chain.fold (· main_v825) (StableHlo.after (hostOps6.take 2) V) rfl (· main_v1593) rfl)

end Cert.KernelIdeal.Own.D3

end
-- ==== Proof.WdAt.lean ====
/- The last transposed convolution's weights, read at an entry. -/
module

public import proofs.«01_k».proof.Proof.Wd
public import proofs.«01_k».proof.Proof.Spec
public import Idealize.ShloMosaic.Lib.Pointwise
public import Idealize.ShloMosaic.Lib.Routing.OpsSet

@[expose] public section

noncomputable section

namespace Cert.KernelIdeal.Own.D3

open Cert.KernelIdeal Cert.KernelIdeal.Gen Cert.Spec
open Idealize.ShloMosaic Idealize.ShloMosaic.TcCoe

/-- The scatter's dimension numbers. -/
abbrev dW := scatter_S2x2x2x2x32x2x2x2x2x3_S8_S32x3_01_01235678_01235678_0

/-- An entry of the array the steps write, by its coordinates. -/
def at10 (br bc q qc : Fin 2) (c : Fin 32) (v vc p pc : Fin 2) (o : Fin 3) : S2x2x2x2x32x2x2x2x2x3.Idx
  | ⟨0, _⟩ => br
  | ⟨1, _⟩ => bc
  | ⟨2, _⟩ => q
  | ⟨3, _⟩ => qc
  | ⟨4, _⟩ => c
  | ⟨5, _⟩ => v
  | ⟨6, _⟩ => vc
  | ⟨7, _⟩ => p
  | ⟨8, _⟩ => pc
  | ⟨9, _⟩ => o

/-- A step's numbers are small, and its tap lies in the window. -/
def Step.Fits (e : Step) : Prop :=
  (e.br < 2 ∧ e.bc < 2 ∧ e.q < 2 ∧ e.qc < 2 ∧ e.v < 2 ∧ e.vc < 2 ∧ e.p < 2 ∧ e.pc < 2)
    ∧ (4 * e.br + 2 * e.q ≤ 3 + e.p + 2 * e.v ∧ 3 + e.p + 2 * e.v < 4 * e.br + 2 * e.q + 4)
    ∧ 4 * e.bc + 2 * e.qc ≤ 3 + e.pc + 2 * e.vc ∧ 3 + e.pc + 2 * e.vc < 4 * e.bc + 2 * e.qc + 4

instance (e : Step) : Decidable e.Fits := by unfold Step.Fits; infer_instance

/-- Where a step writes, axis by axis, given the update's two coordinates. -/
def Step.to (e : Step) (c o : ℕ) : Fin 10 → ℕ := ![e.br, e.bc, e.q, e.qc, c, e.v, e.vc, e.p, e.pc, o]

/-- Where a step's write starts. -/
theorem start_place (e : Step) (h : e.Fits) (k : S32x3.Idx) (a : Fin 10) : dW.start k e.place a = ((e.to 0 0 a : ℕ) : ℤ) := by
  have small : ∀ n, n < 2 → (BitVec.ofNat 32 n).toInt = (n : ℤ) := by decide
  match a with
  | ⟨0, _⟩ => exact small _ h.1.1
  | ⟨1, _⟩ => exact small _ h.1.2.1
  | ⟨2, _⟩ => exact small _ h.1.2.2.1
  | ⟨3, _⟩ => exact small _ h.1.2.2.2.1
  | ⟨4, _⟩ => rfl
  | ⟨5, _⟩ => exact small _ h.1.2.2.2.2.1
  | ⟨6, _⟩ => exact small _ h.1.2.2.2.2.2.1
  | ⟨7, _⟩ => exact small _ h.1.2.2.2.2.2.2.1
  | ⟨8, _⟩ => exact small _ h.1.2.2.2.2.2.2.2
  | ⟨9, _⟩ => rfl

/-- An update's place within a step's write. -/
theorem window_place (k : S32x3.Idx) (a : Fin 10) : dW.window k a = (![0, 0, 0, 0, (k 0).val, 0, 0, 0, 0, (k 1).val] a : ℕ) := by
  match a with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl

/-- An update's place from where its step starts. -/
theorem sum_place (e : Step) (h : e.Fits) (k : S32x3.Idx) (a : Fin 10) :
    dW.start k e.place a + dW.window k a = ((e.to (k 0).val (k 1).val a : ℕ) : ℤ) := by
  rw [start_place e h, window_place]
  generalize (k 0).val = c
  generalize (k 1).val = o
  unfold Step.to
  match a with
  | ⟨0, _⟩ => simp
  | ⟨1, _⟩ => simp
  | ⟨2, _⟩ => simp
  | ⟨3, _⟩ => simp
  | ⟨4, _⟩ => simp
  | ⟨5, _⟩ => simp
  | ⟨6, _⟩ => simp
  | ⟨7, _⟩ => simp
  | ⟨8, _⟩ => simp
  | ⟨9, _⟩ => simp

/-- Where an update of a step lands. -/
theorem lands (e : Step) (h : e.Fits) (k : S32x3.Idx) (ι : S2x2x2x2x32x2x2x2x2x3.Idx) :
    dW.resultIdx? k e.place = some ι ↔ ∀ a : Fin 10, (ι a).val = e.to (k 0).val (k 1).val a := by
  have hsum := sum_place e h k
  have h0 : (k 0).val < 32 := (k 0).isLt
  have h1 : (k 1).val < 3 := (k 1).isLt
  have hin : ∀ a : Fin 10, 0 ≤ dW.start k e.place a + dW.window k a ∧ dW.start k e.place a + dW.window k a < S2x2x2x2x32x2x2x2x2x3.size a := by
    intro a
    rw [hsum]
    refine ⟨Int.natCast_nonneg _, Int.ofNat_lt.mpr ?_⟩
    match a with
    | ⟨0, _⟩ => exact h.1.1
    | ⟨1, _⟩ => exact h.1.2.1
    | ⟨2, _⟩ => exact h.1.2.2.1
    | ⟨3, _⟩ => exact h.1.2.2.2.1
    | ⟨4, _⟩ => exact h0
    | ⟨5, _⟩ => exact h.1.2.2.2.2.1
    | ⟨6, _⟩ => exact h.1.2.2.2.2.2.1
    | ⟨7, _⟩ => exact h.1.2.2.2.2.2.2.1
    | ⟨8, _⟩ => exact h.1.2.2.2.2.2.2.2
    | ⟨9, _⟩ => exact h1
  unfold ScatterDims.resultIdx?
  rw [dif_pos hin, Option.some.injEq]
  constructor
  · rintro rfl a
    show (dW.start k e.place a + dW.window k a).toNat = _
    rw [hsum a]; rfl
  · intro hι
    funext a
    apply Fin.ext
    show (dW.start k e.place a + dW.window k a).toNat = _
    rw [hsum a, hι a]; rfl

/-- Whether a step writes an entry. -/
def Step.hit (e : Step) (br bc q qc v vc p pc : ℕ) : Bool :=
  decide (br = e.br ∧ bc = e.bc ∧ q = e.q ∧ qc = e.qc ∧ v = e.v ∧ vc = e.vc ∧ p = e.p ∧ pc = e.pc)

/-- An entry's weights are its window's, wherever a step writes it. -/
theorem put1_apply (w : Vec Ideal S32x3x4x4 .f32) (x : Vec Ideal S2x2x2x2x32x2x2x2x2x3 .f32) (e : Step) (h : e.Fits)
    (br bc q qc : Fin 2) (c : Fin 32) (v vc p pc : Fin 2) (o : Fin 3) :
    put1 w x e (at10 br bc q qc c v vc p pc o) = if e.hit br bc q qc v vc p pc then
      taps w c.val o.val (3 + p.val + 2 * v.val - 4 * br.val - 2 * q.val) (3 + pc.val + 2 * vc.val - 4 * bc.val - 2 * qc.val)
        else x (at10 br bc q qc c v vc p pc o) := by
  split
  · rename_i hh
    have hh := of_decide_eq_true hh
    refine Routing.scatter_set_hit dW x e.place (tapW w e.a e.b) _ _ (fun k hk => ?_) (ix2 c o) ?_
    · have hk := (lands e h k _).1 hk
      have k0 : k 0 = c := Fin.ext (hk 4).symm
      have k1 : k 1 = o := Fin.ext (hk 9).symm
      have ek : k = ix2 c o := by
        rw [← k0, ← k1]; exact (ix2_eta k).symm
      rw [ek]
      have ht : tapW w e.a e.b (ix2 c o) = w (ix4 c o e.a e.b) := by
        unfold tapW
        pointwise
      obtain ⟨_, hr, hc⟩ := h
      obtain ⟨g0, g1, g2, g3, g4, g5, g6, g7⟩ := hh
      rw [ht, taps_eq w c o e.a e.b rfl rfl]
      · show _ = (((3 + e.p + 2 * e.v - 4 * e.br - 2 * e.q) % 4 : ℕ) : ℤ)
        omega
      · show _ = (((3 + e.pc + 2 * e.vc - 4 * e.bc - 2 * e.qc) % 4 : ℕ) : ℤ)
        omega
    · refine (lands e h _ _).2 fun a => ?_
      match a with
      | ⟨0, _⟩ => exact hh.1
      | ⟨1, _⟩ => exact hh.2.1
      | ⟨2, _⟩ => exact hh.2.2.1
      | ⟨3, _⟩ => exact hh.2.2.2.1
      | ⟨4, _⟩ => rfl
      | ⟨5, _⟩ => exact hh.2.2.2.2.1
      | ⟨6, _⟩ => exact hh.2.2.2.2.2.1
      | ⟨7, _⟩ => exact hh.2.2.2.2.2.2.1
      | ⟨8, _⟩ => exact hh.2.2.2.2.2.2.2
      | ⟨9, _⟩ => rfl
  · rename_i hh
    refine Routing.scatter_set_miss dW x e.place (tapW w e.a e.b) _ fun k hk => hh ?_
    have hk := (lands e h k _).1 hk
    exact decide_eq_true ⟨hk 0, hk 1, hk 2, hk 3, hk 5, hk 6, hk 7, hk 8⟩

/-- The steps fit. -/
theorem steps_fit : ∀ e ∈ steps, e.Fits := by
  have : steps.all (fun e => decide e.Fits) = true := by decide +kernel
  intro e he
  exact of_decide_eq_true (List.all_eq_true.1 this e he)

/-- Some step writes an entry just when the entry's tap is in the window. -/
theorem steps_hit : ∀ (br bc q qc v vc p pc : Fin 2), steps.any (fun e => e.hit br bc q qc v vc p pc) = true ↔
    (0 ≤ 3 + (p.val : ℤ) + 2 * v.val - 4 * br.val - 2 * q.val ∧ 3 + (p.val : ℤ) + 2 * v.val - 4 * br.val - 2 * q.val < 4)
      ∧ 0 ≤ 3 + (pc.val : ℤ) + 2 * vc.val - 4 * bc.val - 2 * qc.val ∧ 3 + (pc.val : ℤ) + 2 * vc.val - 4 * bc.val - 2 * qc.val < 4 := by decide +kernel

/-- The steps' fold, at an entry. -/
theorem steps_apply (w : Vec Ideal S32x3x4x4 .f32) (x : Vec Ideal S2x2x2x2x32x2x2x2x2x3 .f32) (hx : ∀ ι, x ι = 0)
    (br bc q qc : Fin 2) (c : Fin 32) (v vc p pc : Fin 2) (o : Fin 3) :
    steps.foldl (put1 w) x (at10 br bc q qc c v vc p pc o)
      = taps w c.val o.val (3 + p.val + 2 * v.val - 4 * br.val - 2 * q.val) (3 + pc.val + 2 * vc.val - 4 * bc.val - 2 * qc.val) := by
  have key : ∀ (l : List Step), (∀ e ∈ l, e ∈ steps) → ∀ x : Vec Ideal S2x2x2x2x32x2x2x2x2x3 .f32,
      l.foldl (put1 w) x (at10 br bc q qc c v vc p pc o) = if l.any (fun e => e.hit br bc q qc v vc p pc) then
        taps w c.val o.val (3 + p.val + 2 * v.val - 4 * br.val - 2 * q.val) (3 + pc.val + 2 * vc.val - 4 * bc.val - 2 * qc.val)
          else x (at10 br bc q qc c v vc p pc o) := by
    intro l
    induction l with
    | nil => intro _ x; rfl
    | cons e l ih =>
      intro hl x
      rw [List.foldl_cons, ih (fun e he => hl e (List.mem_cons_of_mem _ he)), put1_apply w x e (steps_fit e (hl e List.mem_cons_self)), List.any_cons]
      cases e.hit br bc q qc v vc p pc <;> cases l.any (fun e => e.hit br bc q qc v vc p pc) <;> rfl
  rw [key steps (fun _ h => h) x]
  split
  · rfl
  · rename_i h
    rw [hx, taps_out]
    intro H
    exact h ((steps_hit br bc q qc v vc p pc).2 ⟨⟨H.1, H.2.1⟩, H.2.2.1, H.2.2.2⟩)

/-- An entry's position. -/
theorem at10_pos (br bc q qc : Fin 2) (c : Fin 32) (v vc p pc : Fin 2) (o : Fin 3) :
    (S2x2x2x2x32x2x2x2x2x3.rowMajor (at10 br bc q qc c v vc p pc o)).val
      = br.val * 12288 + bc.val * 6144 + q.val * 3072 + qc.val * 1536 + c.val * 48 + v.val * 24 + vc.val * 12 + p.val * 6 + pc.val * 3 + o.val := by
  show (Shape.rowMajorPi (![2, 2, 2, 2, 32, 2, 2, 2, 2, 3] : Fin 10 → ℕ) (at10 br bc q qc c v vc p pc o)).val = _
  rw [Shape.rowMajorPi_succ_val, Shape.rowMajorPi_succ_val, Shape.rowMajorPi_succ_val, Shape.rowMajorPi_succ_val, Shape.rowMajorPi_succ_val,
    Shape.rowMajorPi_succ_val, Shape.rowMajorPi_succ_val, Shape.rowMajorPi_succ_val, Shape.rowMajorPi_succ_val, Shape.rowMajorPi_succ_val]
  rw [Shape.rowMajorPi_zero]
  show br.val * 12288 + (bc.val * 6144 + (q.val * 3072 + (qc.val * 1536 + (c.val * 48 + (v.val * 24 + (vc.val * 12 + (p.val * 6 + (pc.val * 3 + (o.val * 1 + 0))))))))) = _
  omega

/-- The array the steps write, as rows and columns. -/
theorem rows_apply (A : Vec Ideal S2x2x2x2x32x2x2x2x2x3 .f32) (k : Fin 512) (j : Fin 48) :
    shapeCast S512x48 A shapeCasts_S2x2x2x2x32x2x2x2x2x3_S512x48 (ix2 k j)
      = A (at10 ⟨k.val / 256, by omega⟩ ⟨k.val / 128 % 2, by omega⟩ ⟨k.val / 64 % 2, by omega⟩ ⟨k.val / 32 % 2, by omega⟩ ⟨k.val % 32, by omega⟩
          ⟨j.val / 24, by omega⟩ ⟨j.val / 12 % 2, by omega⟩ ⟨j.val / 6 % 2, by omega⟩ ⟨j.val / 3 % 2, by omega⟩ ⟨j.val % 3, by omega⟩) := by
  refine shapeCast_apply _ _ _ _ ?_
  rw [Shape.rowMajor_val_two, at10_pos]
  show _ = k.val * 48 + j.val
  dsimp only
  omega

/-- The last transposed convolution's weights, as its region reads them. -/
theorem weights6 (V : Valuation τ sig (Elt Ideal)) (k : Fin 512) (j : Fin 48) :
    StableHlo.after hostOps6 V main_v1594 (ix2 k j)
      = taps (V main_arg12) (k.val % 32) (j.val % 3) ((2 * (j.val / 24) + j.val / 6 % 2 + 3 : ℕ) - 2 * (2 * (k.val / 256) + k.val / 64 % 2 : ℕ) : ℤ)
          ((2 * (j.val / 12 % 2) + j.val / 3 % 2 + 3 : ℕ) - 2 * (2 * (k.val / 128 % 2) + k.val / 32 % 2 : ℕ) : ℤ) := by
  rw [weights_line, rows_apply, steps_apply (V main_arg12) (broadcastInDim S2x2x2x2x32x2x2x2x2x3 ![] bcast_S_S2x2x2x2x32x2x2x2x2x3 (constant (F := Ideal) S_ .f32 0x00000000#32))
    (fun ι => Ideal.ofBits_zero .f32)]
  exact taps_congr _ rfl rfl (by dsimp only; omega) (by dsimp only; omega)

end Cert.KernelIdeal.Own.D3

end
-- ==== Proof.WaAt.lean ====
/- The first convolution's weights, read at an entry. -/
module

public import proofs.«01_k».proof.Proof.Wa
public import proofs.«01_k».proof.Proof.Spec
public import Idealize.ShloMosaic.Lib.Pointwise
public import Idealize.ShloMosaic.Lib.Routing.OpsSet

@[expose] public section

noncomputable section

namespace Cert.KernelIdeal.Own

open Cert.KernelIdeal Cert.KernelIdeal.Gen Cert.Spec
open Idealize.ShloMosaic Idealize.ShloMosaic.TcCoe

/-- The scatter's dimension numbers. -/
abbrev dW := scatter_S3x3x2x2x3x2x2x32_S6_S3x32_01_012356_012356_0

/-- Where a step's write starts. -/
theorem start_place (e : Step) (h : e.eu + e.u < 8 ∧ e.ec + e.uc < 8 ∧ e.q < 8 ∧ e.qc < 8 ∧ e.u < 8 ∧ e.uc < 8) (k : S3x32.Idx) (a : Fin 8) :
    dW.start k e.place a = ((![e.eu + e.u, e.ec + e.uc, e.q, e.qc, 0, e.u, e.uc, 0] a : ℕ) : ℤ) := by
  have small : ∀ n, n < 8 → (BitVec.ofNat 32 n).toInt = (n : ℤ) := by decide
  match a with
  | ⟨0, _⟩ => exact small _ h.1
  | ⟨1, _⟩ => exact small _ h.2.1
  | ⟨2, _⟩ => exact small _ h.2.2.1
  | ⟨3, _⟩ => exact small _ h.2.2.2.1
  | ⟨4, _⟩ => rfl
  | ⟨5, _⟩ => exact small _ h.2.2.2.2.1
  | ⟨6, _⟩ => exact small _ h.2.2.2.2.2
  | ⟨7, _⟩ => rfl

/-- An update's place within a step's write. -/
theorem window_place (k : S3x32.Idx) (a : Fin 8) :
    dW.window k a = (![0, 0, 0, 0, (k 0).val, 0, 0, (k 1).val] a : ℕ) := by
  match a with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

/-- Where an update of a step lands. -/
theorem lands (e : Step) (h : e.eu < 2 ∧ e.ec < 2 ∧ e.q < 2 ∧ e.qc < 2 ∧ e.u < 2 ∧ e.uc < 2) (k : S3x32.Idx) (ι : S3x3x2x2x3x2x2x32.Idx) :
    dW.resultIdx? k e.place = some ι ↔ ∀ a : Fin 8, (ι a).val = ![e.eu + e.u, e.ec + e.uc, e.q, e.qc, (k 0).val, e.u, e.uc, (k 1).val] a := by
  have hs := start_place e (by omega) k
  have hw := window_place k
  have hsum : ∀ a : Fin 8, dW.start k e.place a + dW.window k a
      = ((![e.eu + e.u, e.ec + e.uc, e.q, e.qc, (k 0).val, e.u, e.uc, (k 1).val] a : ℕ) : ℤ) := by
    intro a
    rw [hs, hw]
    match a with
    | ⟨0, _⟩ => simp
    | ⟨1, _⟩ => simp
    | ⟨2, _⟩ => simp
    | ⟨3, _⟩ => simp
    | ⟨4, _⟩ => simp
    | ⟨5, _⟩ => simp
    | ⟨6, _⟩ => simp
    | ⟨7, _⟩ => simp
  have h0 : (k 0).val < 3 := (k 0).isLt
  have h1 : (k 1).val < 32 := (k 1).isLt
  have hin : ∀ a : Fin 8, 0 ≤ dW.start k e.place a + dW.window k a ∧ dW.start k e.place a + dW.window k a < S3x3x2x2x3x2x2x32.size a := by
    intro a
    rw [hsum]
    match a with
    | ⟨0, _⟩ => exact ⟨Int.natCast_nonneg _, Int.ofNat_lt.mpr (show e.eu + e.u < 3 by omega)⟩
    | ⟨1, _⟩ => exact ⟨Int.natCast_nonneg _, Int.ofNat_lt.mpr (show e.ec + e.uc < 3 by omega)⟩
    | ⟨2, _⟩ => exact ⟨Int.natCast_nonneg _, Int.ofNat_lt.mpr (show e.q < 2 by omega)⟩
    | ⟨3, _⟩ => exact ⟨Int.natCast_nonneg _, Int.ofNat_lt.mpr (show e.qc < 2 by omega)⟩
    | ⟨4, _⟩ => exact ⟨Int.natCast_nonneg _, Int.ofNat_lt.mpr h0⟩
    | ⟨5, _⟩ => exact ⟨Int.natCast_nonneg _, Int.ofNat_lt.mpr (show e.u < 2 by omega)⟩
    | ⟨6, _⟩ => exact ⟨Int.natCast_nonneg _, Int.ofNat_lt.mpr (show e.uc < 2 by omega)⟩
    | ⟨7, _⟩ => exact ⟨Int.natCast_nonneg _, Int.ofNat_lt.mpr h1⟩
  unfold ScatterDims.resultIdx?
  rw [dif_pos hin, Option.some.injEq]
  constructor
  · rintro rfl a
    show (dW.start k e.place a + dW.window k a).toNat = _
    rw [hsum a]; rfl
  · intro hι
    funext a
    apply Fin.ext
    show (dW.start k e.place a + dW.window k a).toNat = _
    rw [hsum a, hι a]; rfl

/-- Whether a step writes an entry. -/
def Step.hit (e : Step) (dr dc q qc u uc : ℕ) : Bool :=
  decide (dr = e.eu + e.u ∧ dc = e.ec + e.uc ∧ q = e.q ∧ qc = e.qc ∧ u = e.u ∧ uc = e.uc)

/-- An entry's weights are its window's, wherever a step writes it. -/
theorem put1_apply (w : Vec Ideal S32x3x4x4 .f32) (x : Vec Ideal S3x3x2x2x3x2x2x32 .f32) (e : Step)
    (h : e.eu < 2 ∧ e.ec < 2 ∧ e.q < 2 ∧ e.qc < 2 ∧ e.u < 2 ∧ e.uc < 2)
    (dr dc : Fin 3) (q qc : Fin 2) (c : Fin 3) (u uc : Fin 2) (o : Fin 32) :
    put1 w x e (ix8 dr dc q qc c u uc o) = if e.hit dr dc q qc u uc then
      taps w o.val c.val (2 * dr.val + q.val - 2 * u.val) (2 * dc.val + qc.val - 2 * uc.val) else x (ix8 dr dc q qc c u uc o) := by
  split
  · rename_i hh
    have hh := of_decide_eq_true hh
    refine Routing.scatter_set_hit dW x e.place (tapW w e.a e.b) _ _ (fun k hk => ?_) (ix2 c o) ?_
    · have hk := (lands e h k _).1 hk
      have k0 : k 0 = c := Fin.ext (hk 4).symm
      have k1 : k 1 = o := Fin.ext (hk 7).symm
      have ek : k = ix2 c o := by
        rw [← k0, ← k1]; exact (ix2_eta k).symm
      rw [ek]
      have ht : tapW w e.a e.b (ix2 c o) = w (ix4 o c e.a e.b) := by
        unfold tapW
        pointwise
      rw [ht, taps_eq w o c e.a e.b rfl rfl]
      · show _ = (((2 * e.eu + e.q) % 4 : ℕ) : ℤ)
        omega
      · show _ = (((2 * e.ec + e.qc) % 4 : ℕ) : ℤ)
        omega
    · refine (lands e h _ _).2 fun a => ?_
      match a with
      | ⟨0, _⟩ => exact hh.1
      | ⟨1, _⟩ => exact hh.2.1
      | ⟨2, _⟩ => exact hh.2.2.1
      | ⟨3, _⟩ => exact hh.2.2.2.1
      | ⟨4, _⟩ => rfl
      | ⟨5, _⟩ => exact hh.2.2.2.2.1
      | ⟨6, _⟩ => exact hh.2.2.2.2.2
      | ⟨7, _⟩ => rfl
  · rename_i hh
    refine Routing.scatter_set_miss dW x e.place (tapW w e.a e.b) _ fun k hk => hh ?_
    have hk := (lands e h k _).1 hk
    exact decide_eq_true ⟨hk 0, hk 1, hk 2, hk 3, hk 5, hk 6⟩

/-- The steps' numbers are small. -/
theorem steps_small : ∀ e ∈ steps, e.eu < 2 ∧ e.ec < 2 ∧ e.q < 2 ∧ e.qc < 2 ∧ e.u < 2 ∧ e.uc < 2 := by
  have : steps.all (fun e => decide (e.eu < 2 ∧ e.ec < 2 ∧ e.q < 2 ∧ e.qc < 2 ∧ e.u < 2 ∧ e.uc < 2)) = true := by decide +kernel
  intro e he
  exact of_decide_eq_true (List.all_eq_true.1 this e he)

/-- Some step writes an entry just when the entry's tap is in the window. -/
theorem steps_hit : ∀ (dr dc : Fin 3) (q qc u uc : Fin 2), steps.any (fun e => e.hit dr dc q qc u uc) = true ↔
    0 ≤ 2 * (dr.val : ℤ) + q.val - 2 * u.val ∧ 2 * (dr.val : ℤ) + q.val - 2 * u.val < 4
      ∧ 0 ≤ 2 * (dc.val : ℤ) + qc.val - 2 * uc.val ∧ 2 * (dc.val : ℤ) + qc.val - 2 * uc.val < 4 := by decide +kernel

/-- The steps' fold, at an entry. -/
theorem steps_apply (w : Vec Ideal S32x3x4x4 .f32) (x : Vec Ideal S3x3x2x2x3x2x2x32 .f32) (hx : ∀ ι, x ι = 0)
    (dr dc : Fin 3) (q qc : Fin 2) (c : Fin 3) (u uc : Fin 2) (o : Fin 32) :
    steps.foldl (put1 w) x (ix8 dr dc q qc c u uc o)
      = taps w o.val c.val (2 * dr.val + q.val - 2 * u.val) (2 * dc.val + qc.val - 2 * uc.val) := by
  have key : ∀ (l : List Step), (∀ e ∈ l, e ∈ steps) → ∀ x : Vec Ideal S3x3x2x2x3x2x2x32 .f32,
      l.foldl (put1 w) x (ix8 dr dc q qc c u uc o) = if l.any (fun e => e.hit dr dc q qc u uc) then
        taps w o.val c.val (2 * dr.val + q.val - 2 * u.val) (2 * dc.val + qc.val - 2 * uc.val) else x (ix8 dr dc q qc c u uc o) := by
    intro l
    induction l with
    | nil => intro _ x; rfl
    | cons e l ih =>
      intro hl x
      rw [List.foldl_cons, ih (fun e he => hl e (List.mem_cons_of_mem _ he)), put1_apply w x e (steps_small e (hl e List.mem_cons_self)), List.any_cons]
      cases e.hit dr dc q qc u uc <;> cases l.any (fun e => e.hit dr dc q qc u uc) <;> rfl
  rw [key steps (fun _ h => h) x]
  split
  · rfl
  · rename_i h
    rw [hx, taps_out]
    intro H
    exact h ((steps_hit dr dc q qc u uc).2 ⟨H.1, H.2.1, H.2.2.1, H.2.2.2⟩)

/-- The first convolution's weights, as the first region reads them. -/
theorem weights1 (V : Valuation τ sig (Elt Ideal)) (k : Fin 108) (o : Fin 128) :
    StableHlo.after hostOps0_2 V main_v710 (ix2 k o)
      = taps (V main_arg1) (o.val % 32) (k.val % 3) (((2 * (k.val / 36) + k.val % 12 / 6 : ℕ) : ℤ) - 2 * ((o.val / 64 : ℕ) : ℤ))
          (((2 * (k.val / 12 % 3) + k.val % 6 / 3 : ℕ) : ℤ) - 2 * ((o.val / 32 % 2 : ℕ) : ℤ)) := by
  rw [weights_line]
  generalize hA : steps.foldl (put1 (V main_arg1)) (broadcastInDim S3x3x2x2x3x2x2x32 ![] bcast_S_S3x3x2x2x3x2x2x32 (constant (F := Ideal) S_ .f32 0x00000000#32)) = A
  have hAt := steps_apply (V main_arg1) (broadcastInDim S3x3x2x2x3x2x2x32 ![] bcast_S_S3x3x2x2x3x2x2x32 (constant (F := Ideal) S_ .f32 0x00000000#32))
    (fun ι => Ideal.ofBits_zero .f32)
  rw [hA] at hAt
  pointwise
  rw [hAt]
  refine taps_congr _ ?_ ?_ ?_ ?_ <;> first | rfl | (dsimp only; omega)

end Cert.KernelIdeal.Own
-- ==== Proof.HostIn.lean ====
/- What the host code hands the encoder's three regions, read at an entry. -/
module

public import proofs.«01_k».proof.Proof.WaAt

@[expose] public section

noncomputable section

namespace Cert.KernelIdeal.Own

open Cert.KernelIdeal Cert.KernelIdeal.Gen Cert.Spec
open Idealize.ShloMosaic Idealize.ShloMosaic.TcCoe

/-- A batch of planes, by number. -/
def planes {n1 n2 n3 : ℕ} (A : (⟨4, ![16, n1, n2, n3]⟩ : Shape).Idx → EReal) : ℕ → Plane := fun n =>
  if h : n < 16 then plane A ⟨n, h⟩ else fun _ _ _ => 0

theorem planes_eq {n1 n2 n3 : ℕ} (A : (⟨4, ![16, n1, n2, n3]⟩ : Shape).Idx → EReal) (n : Fin 16) : planes A n.val = plane A n :=
  dif_pos n.isLt

/-- The image's blocks of two by two, as the host code lays them out from the image with its border. -/
def blocks (x : Vec Ideal S16x230x230x3 .f32) : Vec Ideal S16x115x115x12 .f32 :=
  shapeCast S16x115x115x12 (transpose S16x115x115x2x2x3 [0, 1, 3, 2, 4, 5] (shapeCast S16x115x2x115x2x3 x shapeCasts_S16x230x230x3_S16x115x2x115x2x3) transposes_S16x115x2x115x2x3_S16x115x115x2x2x3_0_1_3_2_4_5) shapeCasts_S16x115x115x2x2x3_S16x115x115x12

/-- The image, channels last, with its border of three. -/
def bordered (x : Vec Ideal S16x3x224x224 .f32) (z : Vec Ideal S_ .f32) : Vec Ideal S16x230x230x3 .f32 :=
  pad S16x230x230x3 ![0, 3, 3, 0] ![0, 3, 3, 0] ![0, 0, 0, 0] (transpose S16x224x224x3 [0, 2, 3, 1] x transposes_S16x3x224x224_S16x224x224x3_0_2_3_1) z pads_S16x224x224x3_S16x230x230x3_000_330_330_000 h_S_

theorem line4 (V : Valuation τ sig (Elt Ideal)) : StableHlo.after hostOps0_2 V main_v4 = blocks (V main_v1) := by
  have h : ∀ V : Valuation τ sig (Elt Ideal), StableHlo.after (hostOps0_2.take 5) V main_v4 = blocks (V main_v1) := fun V => by sl_kernel_rfl
  sl_kernel_rfl

theorem line714 (V : Valuation τ sig (Elt Ideal)) : StableHlo.after hostOps0_2 V main_v714
    = shapeCast S1x1x128 (shapeCast S128 (broadcastInDim S4x32 ![0, 1] bcast_S1x32_S4x32_0_1 (shapeCast S1x32 (V main_arg2) shapeCasts_S32_S1x32)) shapeCasts_S4x32_S128) shapeCasts_S128_S1x1x128 := by
  sl_kernel_rfl

theorem blocks_apply (x : Vec Ideal S16x230x230x3 .f32) (n : Fin 16) (R C : Fin 115) (ch : Fin 12) :
    blocks x (ix4 n R C ch) = x (ix4 n ⟨2 * R.val + ch.val / 6, by omega⟩ ⟨2 * C.val + ch.val / 3 % 2, by omega⟩ ⟨ch.val % 3, by omega⟩) := by
  unfold blocks
  pointwise
  simp only [Nat.mul_comm]

theorem bordered_apply (x : Vec Ideal S16x3x224x224 .f32) (z : Vec Ideal S_ .f32) (hz : ∀ j, z j = 0) (n : Fin 16) (h w : Fin 230) (c : Fin 3) :
    bordered x z (ix4 n h w c) = plane x n c.val ((h.val : ℤ) - 3) ((w.val : ℤ) - 3) := by
  unfold bordered
  pointwise
  split
  · rename_i H
    exact (plane_eq x n c ⟨h.val - 3, by omega⟩ ⟨w.val - 3, by omega⟩ rfl (by show _ = ((h.val - 3 : ℕ) : ℤ); omega) (by show _ = ((w.val - 3 : ℕ) : ℤ); omega)).symm
  · rw [hz]
    exact (plane_out x n (by push_cast; omega)).symm

theorem weights2_apply (x : Vec Ideal S64x32x4x4 .f32) (k : Fin 512) (o : Fin 64) :
    shapeCast S512x64 (transpose S2x2x2x2x32x64 [2, 4, 3, 5, 1, 0] (shapeCast S64x32x2x2x2x2 x shapeCasts_S64x32x4x4_S64x32x2x2x2x2) transposes_S64x32x2x2x2x2_S2x2x2x2x32x64_2_4_3_5_1_0) shapeCasts_S2x2x2x2x32x64_S512x64 (ix2 k o)
      = taps x o.val (k.val % 32) ((2 * (k.val / 32 / 8) + (k.val / 32 / 2) % 2 : ℕ) : ℤ) ((2 * ((k.val / 32 / 4) % 2) + (k.val / 32) % 2 : ℕ) : ℤ) := by
  rw [taps_eq x o ⟨k.val % 32, by omega⟩ ⟨2 * (k.val / 32 / 8) + (k.val / 32 / 2) % 2, by omega⟩ ⟨2 * ((k.val / 32 / 4) % 2) + (k.val / 32) % 2, by omega⟩ rfl rfl rfl rfl]
  pointwise
  refine congrArg x (congrArg₂ (ix4 o _) ?_ ?_) <;> (apply Fin.ext; dsimp only; omega)

theorem weights3_apply (x : Vec Ideal S64x64x4x4 .f32) (k : Fin 1024) (o : Fin 64) :
    shapeCast S1024x64 (transpose S2x2x2x2x64x64 [2, 4, 3, 5, 1, 0] (shapeCast S64x64x2x2x2x2 x shapeCasts_S64x64x4x4_S64x64x2x2x2x2) transposes_S64x64x2x2x2x2_S2x2x2x2x64x64_2_4_3_5_1_0) shapeCasts_S2x2x2x2x64x64_S1024x64 (ix2 k o)
      = taps x o.val (k.val % 64) ((2 * (k.val / 64 / 8) + (k.val / 64 / 2) % 2 : ℕ) : ℤ) ((2 * ((k.val / 64 / 4) % 2) + (k.val / 64) % 2 : ℕ) : ℤ) := by
  rw [taps_eq x o ⟨k.val % 64, by omega⟩ ⟨2 * (k.val / 64 / 8) + (k.val / 64 / 2) % 2, by omega⟩ ⟨2 * ((k.val / 64 / 4) % 2) + (k.val / 64) % 2, by omega⟩ rfl rfl rfl rfl]
  pointwise
  refine congrArg x (congrArg₂ (ix4 o _) ?_ ?_) <;> (apply Fin.ext; dsimp only; omega)

theorem bias1_apply (b : Vec Ideal S32 .f32) (o : Fin 128) :
    shapeCast S1x1x128 (shapeCast S128 (broadcastInDim S4x32 ![0, 1] bcast_S1x32_S4x32_0_1 (shapeCast S1x32 b shapeCasts_S32_S1x32)) shapeCasts_S4x32_S128) shapeCasts_S128_S1x1x128 (ix3 0 0 o)
      = vec b (o.val % 32) := by
  rw [vec_eq b ⟨o.val % 32, by omega⟩ rfl]
  pointwise

theorem bias2_apply (b : Vec Ideal S64 .f32) (o : Fin 64) :
    shapeCast S1x1x64 b shapeCasts_S64_S1x1x64 (ix3 0 0 o) = vec b o.val := by
  rw [vec_eq b o rfl]
  pointwise

end Cert.KernelIdeal.Own
-- ==== Proof.HostDec.lean ====
/- What the host code hands the decoder's three regions, and what it makes of the last one's array, read at an entry. -/
module

public import proofs.«01_k».proof.Proof.WdAt
public import proofs.«01_k».proof.Proof.HostIn

@[expose] public section

noncomputable section

namespace Cert.KernelIdeal.Own

open Cert.KernelIdeal Cert.KernelIdeal.Gen Cert.Spec
open Idealize.ShloMosaic Idealize.ShloMosaic.TcCoe

/-- The first tap an output of parity `p` reads. -/
def first (p : Fin 2) : Fin 4 := if p.val = 0 then 1 else 2
/-- The second tap an output of parity `p` reads. -/
def second (p : Fin 2) : Fin 4 := if p.val = 0 then 3 else 0

theorem tap_of : ∀ p x : Fin 2, (((if x.val = 0 then first p else second p : Fin 4).val : ℕ) : ℤ) = ((p.val + 1 : ℕ) : ℤ) + (x.val : ℕ) * (2 - 4 * (p.val : ℤ)) := by decide

theorem slices4 : ∀ a b : Fin 4, S64x64x4x4.Slices ![0, 0, a.val, b.val] S64x64x1x1 := by decide

/-- One tap's weights, input channel first. -/
def tap4 (w : Vec Ideal S64x64x4x4 .f32) (a b : Fin 4) : Vec Ideal S64x64 .f32 :=
  shapeCast S64x64 (extractStridedSlice S64x64x1x1 ![0, 0, a.val, b.val] w (slices4 a b)) shapeCasts_S64x64x1x1_S64x64

/-- The four taps an output's parity reads, one under another. -/
def four4 (w : Vec Ideal S64x64x4x4 .f32) (a a' b b' : Fin 4) : Vec Ideal S256x64 .f32 :=
  concatenate S256x64 0 [⟨S64x64, tap4 w a b⟩, ⟨S64x64, tap4 w a b'⟩, ⟨S64x64, tap4 w a' b⟩, ⟨S64x64, tap4 w a' b'⟩] concatenates_S64x64_S64x64_S64x64_S64x64_S256x64_d0

/-- The taps of a row parity, for both column parities. -/
def two4 (w : Vec Ideal S64x64x4x4 .f32) (a a' : Fin 4) : Vec Ideal S2x256x64 .f32 :=
  concatenate S2x256x64 0 [⟨S1x256x64, broadcastInDim S1x256x64 ![1, 2] bcast_S256x64_S1x256x64_1_2 (four4 w a a' 1 3)⟩, ⟨S1x256x64, broadcastInDim S1x256x64 ![1, 2] bcast_S256x64_S1x256x64_1_2 (four4 w a a' 2 0)⟩] concatenates_S1x256x64_S1x256x64_S2x256x64_d0

/-- The taps for both row parities. -/
def both4 (w : Vec Ideal S64x64x4x4 .f32) : Vec Ideal S2x2x256x64 .f32 :=
  concatenate S2x2x256x64 0 [⟨S1x2x256x64, broadcastInDim S1x2x256x64 ![1, 2, 3] bcast_S2x256x64_S1x2x256x64_1_2_3 (two4 w 1 3)⟩, ⟨S1x2x256x64, broadcastInDim S1x2x256x64 ![1, 2, 3] bcast_S2x256x64_S1x2x256x64_1_2_3 (two4 w 2 0)⟩] concatenates_S1x2x256x64_S1x2x256x64_S2x2x256x64_d0

theorem four4_apply (w : Vec Ideal S64x64x4x4 .f32) (a a' b b' : Fin 4) (k : Fin 256) (o : Fin 64) :
    four4 w a a' b b' (ix2 k o) = taps w (k.val % 64) o.val ((if k.val / 128 = 0 then a else a' : Fin 4).val) ((if k.val / 64 % 2 = 0 then b else b' : Fin 4).val) := by
  rw [taps_eq w ⟨k.val % 64, by omega⟩ o _ _ rfl rfl rfl rfl]
  unfold four4 tap4
  rcases (by omega : k.val / 128 = 0 ∨ k.val / 128 = 1) with e1 | e1 <;> rcases (by omega : k.val / 64 % 2 = 0 ∨ k.val / 64 % 2 = 1) with e2 | e2 <;>
  · simp only [e1, e2, if_true, one_ne_zero, if_false]
    pointwise
    split_ifs <;> first | (exfalso; omega) | (refine congrArg w (congrArg (fun i => ix4 i _ _ _) (Fin.ext ?_)); dsimp only; omega)

theorem both4_apply (w : Vec Ideal S64x64x4x4 .f32) (p q : Fin 2) (k : Fin 256) (o : Fin 64) :
    both4 w (ix4 p q k o) = four4 w (first p) (second p) (first q) (second q) (ix2 k o) := by
  unfold both4 two4
  match p, q with
  | ⟨0, _⟩, ⟨0, _⟩ => pointwise; rfl
  | ⟨0, _⟩, ⟨1, _⟩ => pointwise; rfl
  | ⟨1, _⟩, ⟨0, _⟩ => pointwise; rfl
  | ⟨1, _⟩, ⟨1, _⟩ => pointwise; rfl

/-- The weights the region reads. -/
theorem weights4 (V : Valuation τ sig (Elt Ideal)) (p q : Fin 2) (k : Fin 256) (o : Fin 64) :
    StableHlo.after hostOps4 V main_v775 (ix4 p q k o)
      = taps (V main_arg8) (k.val % 64) o.val (((p.val + 1 : ℕ) : ℤ) + (k.val / 128 : ℕ) * (2 - 4 * (p.val : ℤ))) (((q.val + 1 : ℕ) : ℤ) + (k.val / 64 % 2 : ℕ) * (2 - 4 * (q.val : ℤ))) := by
  have e : StableHlo.after hostOps4 V main_v775 = both4 (V main_arg8) := by sl_kernel_rfl
  rw [e, both4_apply, four4_apply]
  exact taps_congr _ rfl rfl (tap_of p ⟨k.val / 128, by omega⟩) (tap_of q ⟨k.val / 64 % 2, by omega⟩)

/-- The bias the region reads. -/
theorem bias4 (V : Valuation τ sig (Elt Ideal)) (o : Fin 64) : StableHlo.after hostOps4 V main_v776 (ix3 0 0 o) = vec (V main_arg9) o.val := by
  have e : StableHlo.after hostOps4 V main_v776 = shapeCast S1x1x64 (V main_arg9) shapeCasts_S64_S1x1x64 := by sl_kernel_rfl
  rw [e, vec_eq _ o rfl]
  generalize V main_arg9 = b
  pointwise

theorem slices5 : ∀ a b : Fin 4, S64x32x4x4.Slices ![0, 0, a.val, b.val] S64x32x1x1 := by decide

/-- One tap's weights, input channel first. -/
def tap5 (w : Vec Ideal S64x32x4x4 .f32) (a b : Fin 4) : Vec Ideal S64x32 .f32 :=
  shapeCast S64x32 (extractStridedSlice S64x32x1x1 ![0, 0, a.val, b.val] w (slices5 a b)) shapeCasts_S64x32x1x1_S64x32

/-- The four taps an output's parity reads, one under another. -/
def four5 (w : Vec Ideal S64x32x4x4 .f32) (a a' b b' : Fin 4) : Vec Ideal S256x32 .f32 :=
  concatenate S256x32 0 [⟨S64x32, tap5 w a b⟩, ⟨S64x32, tap5 w a b'⟩, ⟨S64x32, tap5 w a' b⟩, ⟨S64x32, tap5 w a' b'⟩] concatenates_S64x32_S64x32_S64x32_S64x32_S256x32_d0

/-- The taps of a row parity, for both column parities. -/
def two5 (w : Vec Ideal S64x32x4x4 .f32) (a a' : Fin 4) : Vec Ideal S2x256x32 .f32 :=
  concatenate S2x256x32 0 [⟨S1x256x32, broadcastInDim S1x256x32 ![1, 2] bcast_S256x32_S1x256x32_1_2 (four5 w a a' 1 3)⟩, ⟨S1x256x32, broadcastInDim S1x256x32 ![1, 2] bcast_S256x32_S1x256x32_1_2 (four5 w a a' 2 0)⟩] concatenates_S1x256x32_S1x256x32_S2x256x32_d0

/-- The taps for both row parities. -/
def both5 (w : Vec Ideal S64x32x4x4 .f32) : Vec Ideal S2x2x256x32 .f32 :=
  concatenate S2x2x256x32 0 [⟨S1x2x256x32, broadcastInDim S1x2x256x32 ![1, 2, 3] bcast_S2x256x32_S1x2x256x32_1_2_3 (two5 w 1 3)⟩, ⟨S1x2x256x32, broadcastInDim S1x2x256x32 ![1, 2, 3] bcast_S2x256x32_S1x2x256x32_1_2_3 (two5 w 2 0)⟩] concatenates_S1x2x256x32_S1x2x256x32_S2x2x256x32_d0

theorem four5_apply (w : Vec Ideal S64x32x4x4 .f32) (a a' b b' : Fin 4) (k : Fin 256) (o : Fin 32) :
    four5 w a a' b b' (ix2 k o) = taps w (k.val % 64) o.val ((if k.val / 128 = 0 then a else a' : Fin 4).val) ((if k.val / 64 % 2 = 0 then b else b' : Fin 4).val) := by
  rw [taps_eq w ⟨k.val % 64, by omega⟩ o _ _ rfl rfl rfl rfl]
  unfold four5 tap5
  rcases (by omega : k.val / 128 = 0 ∨ k.val / 128 = 1) with e1 | e1 <;> rcases (by omega : k.val / 64 % 2 = 0 ∨ k.val / 64 % 2 = 1) with e2 | e2 <;>
  · simp only [e1, e2, if_true, one_ne_zero, if_false]
    pointwise
    split_ifs <;> first | (exfalso; omega) | (refine congrArg w (congrArg (fun i => ix4 i _ _ _) (Fin.ext ?_)); dsimp only; omega)

theorem both5_apply (w : Vec Ideal S64x32x4x4 .f32) (p q : Fin 2) (k : Fin 256) (o : Fin 32) :
    both5 w (ix4 p q k o) = four5 w (first p) (second p) (first q) (second q) (ix2 k o) := by
  unfold both5 two5
  match p, q with
  | ⟨0, _⟩, ⟨0, _⟩ => pointwise; rfl
  | ⟨0, _⟩, ⟨1, _⟩ => pointwise; rfl
  | ⟨1, _⟩, ⟨0, _⟩ => pointwise; rfl
  | ⟨1, _⟩, ⟨1, _⟩ => pointwise; rfl

/-- The weights the region reads. -/
theorem weights5 (V : Valuation τ sig (Elt Ideal)) (p q : Fin 2) (k : Fin 256) (o : Fin 32) :
    StableHlo.after hostOps5 V main_v822 (ix4 p q k o)
      = taps (V main_arg10) (k.val % 64) o.val (((p.val + 1 : ℕ) : ℤ) + (k.val / 128 : ℕ) * (2 - 4 * (p.val : ℤ))) (((q.val + 1 : ℕ) : ℤ) + (k.val / 64 % 2 : ℕ) * (2 - 4 * (q.val : ℤ))) := by
  have e : StableHlo.after hostOps5 V main_v822 = both5 (V main_arg10) := by sl_kernel_rfl
  rw [e, both5_apply, four5_apply]
  exact taps_congr _ rfl rfl (tap_of p ⟨k.val / 128, by omega⟩) (tap_of q ⟨k.val / 64 % 2, by omega⟩)

/-- The bias the region reads. -/
theorem bias5 (V : Valuation τ sig (Elt Ideal)) (o : Fin 32) : StableHlo.after hostOps5 V main_v823 (ix3 0 0 o) = vec (V main_arg11) o.val := by
  have e : StableHlo.after hostOps5 V main_v823 = shapeCast S1x1x32 (V main_arg11) shapeCasts_S32_S1x1x32 := by sl_kernel_rfl
  rw [e, vec_eq _ o rfl]
  generalize V main_arg11 = b
  pointwise

theorem tiled_apply (b : Vec Ideal S3 .f32) (j : Fin 48) :
    shapeCast S1x1x48 (shapeCast S48 (broadcastInDim S16x3 ![0, 1] bcast_S1x3_S16x3_0_1 (shapeCast S1x3 b shapeCasts_S3_S1x3)) shapeCasts_S16x3_S48) shapeCasts_S48_S1x1x48 (ix3 0 0 j)
      = vec b (j.val % 3) := by
  rw [vec_eq b ⟨j.val % 3, by omega⟩ rfl]
  pointwise

set_option maxRecDepth 100000 in
/-- The bias the last region reads. -/
theorem bias6 (V : Valuation τ sig (Elt Ideal)) (j : Fin 48) : StableHlo.after hostOps6 V main_v1598 (ix3 0 0 j) = vec (V main_arg13) (j.val % 3) := by
  have e : StableHlo.after hostOps6 V main_v1598
      = shapeCast S1x1x48 (shapeCast S48 (broadcastInDim S16x3 ![0, 1] bcast_S1x3_S16x3_0_1 (shapeCast S1x3 (V main_arg13) shapeCasts_S3_S1x3)) shapeCasts_S16x3_S48) shapeCasts_S48_S1x1x48 := by
    sl_kernel_rfl
  rw [e, tiled_apply]

/-- The last region's array, its four by four squares of pixels put in place. -/
def pixels (x : Vec Ideal S16x56x56x48 .f32) : Vec Ideal S16x3x224x224 .f32 :=
  shapeCast S16x3x224x224 (transpose S16x3x56x2x2x56x2x2 [0, 7, 1, 3, 5, 2, 4, 6] (shapeCast S16x56x56x2x2x2x2x3 x shapeCasts_S16x56x56x48_S16x56x56x2x2x2x2x3) transposes_S16x56x56x2x2x2x2x3_S16x3x56x2x2x56x2x2_0_7_1_3_5_2_4_6) shapeCasts_S16x3x56x2x2x56x2x2_S16x3x224x224

theorem line1602 (V : Valuation τ sig (Elt Ideal)) : StableHlo.after hostOps7 V main_v1602 = pixels (V main_v1599) := by
  sl_kernel_rfl

theorem pixels_apply (x : Vec Ideal S16x56x56x48 .f32) (n : Fin 16) (o : Fin 3) (h w : Fin 224) :
    pixels x (ix4 n o h w) = x (ix4 n ⟨h.val / 4, by omega⟩ ⟨w.val / 4, by omega⟩
      ⟨h.val / 2 % 2 * 24 + w.val / 2 % 2 * 12 + h.val % 2 * 6 + w.val % 2 * 3 + o.val, by omega⟩) := by
  unfold pixels
  pointwise

end Cert.KernelIdeal.Own

end
-- ==== Proof.V0.lean ====
/- What the first convolution's kernel leaves in its output block: the layer's planes of the block it was given, four
   phases of the padded output side by side in the channels, zero on the border. -/
module

public import proofs.«01_k».proof.Proof.Gen.Own.KernelIdeal.K0.Frame
public import proofs.«01_k».proof.Proof.Spec
public import Idealize.ShloMosaic.Lib.Pipeline.Value

@[expose] public section

noncomputable section

namespace Cert.KernelIdeal.Own.K0

open Cert.KernelIdeal Cert.KernelIdeal.Gen
open Idealize.ShloMosaic Idealize.ShloMosaic.TcCoe Idealize.SL.Sem Idealize.SL.RA
open Cert.Spec

variable {Ix : Type} [DecidableEq Ix] {U : Type} [URA U] {Lvl : Type} [Preorder Lvl]

/-- The block's entry at row `r`, column `c`, channel `ch`. -/
def G (X : Plane) (W : Taps) (B : ℕ → EReal) (y : S1x60x60x128.Idx) : EReal :=
  layer 112 3 X W B ((y 3).val % 32) (2 * (y 1).val + ((y 3).val / 64 : ℕ) - 3) (2 * (y 2).val + ((y 3).val / 32 % 2 : ℕ) - 3)

/-- The channel's place among sixty-four, as the kernel computes it. -/
theorem chan64 (n : Fin 128) :
    Scalar.select (IntOp.andi (IntOp.xori
        (IntOp.cmpi .slt (IntOp.remsi .vector (BitVec.ofNat 32 n.val) (Scalar.select (Scalar.cmpi .eq 64#32 0#32) 1#32 64#32)) 0#32)
        (Scalar.cmpi .slt (Scalar.select (Scalar.cmpi .eq 64#32 0#32) 1#32 64#32) 0#32))
      (IntOp.cmpi .ne (IntOp.remsi .vector (BitVec.ofNat 32 n.val) (Scalar.select (Scalar.cmpi .eq 64#32 0#32) 1#32 64#32)) 0#32))
      (IntOp.addi (IntOp.remsi .vector (BitVec.ofNat 32 n.val) (Scalar.select (Scalar.cmpi .eq 64#32 0#32) 1#32 64#32))
        (Scalar.select (Scalar.cmpi .eq 64#32 0#32) 1#32 64#32))
      (IntOp.remsi .vector (BitVec.ofNat 32 n.val) (Scalar.select (Scalar.cmpi .eq 64#32 0#32) 1#32 64#32))
    = BitVec.ofNat 32 (n.val % 64) := by
  revert n
  decide +kernel

/-- The kernel's comparisons of a channel with a literal. -/
theorem lt64 (n : Fin 128) : IntOp.cmpi .slt (BitVec.ofNat 32 n.val) 64#32 = BitVec.ofBool (decide (n.val < 64)) := by
  revert n
  decide +kernel
theorem ge64 (n : Fin 128) : IntOp.cmpi .sge (BitVec.ofNat 32 n.val) 64#32 = BitVec.ofBool (decide (64 ≤ n.val)) := by
  revert n
  decide +kernel
theorem lt32 (n : Fin 128) : IntOp.cmpi .slt (BitVec.ofNat 32 n.val) 32#32 = BitVec.ofBool (decide (n.val < 32)) := by
  revert n
  decide +kernel
theorem ge32 (n : Fin 128) : IntOp.cmpi .sge (BitVec.ofNat 32 n.val) 32#32 = BitVec.ofBool (decide (32 ≤ n.val)) := by
  revert n
  decide +kernel

set_option maxHeartbeats 2000000 in
/-- The block's entries are the layer's, given the input block, the weights and the bias in their layouts. -/
theorem out_apply (𝒱₀ : Variants) (c : Dev nD) (i : grid0.Coords) (arg1 : Memref sig .tc .vmem S1x115x115x12 .f32) (harg1 : arg1.IsWhole) (arg2 : Memref sig .tc .vmem S108x128 .f32) (harg2 : arg2.IsWhole) (arg3 : Memref sig .tc .vmem S1x1x128 .f32) (harg3 : arg3.IsWhole) (arg4 : Memref sig .tc .vmem S1x60x60x128 .f32) (harg4 : arg4.IsWhole)
    (x0 : Vec Ideal S1x115x115x12 .f32) (x1 : Vec Ideal S108x128 .f32) (x2 : Vec Ideal S1x1x128 .f32)
    (X : Plane) (W : Taps) (B : ℕ → EReal)
    (hW : ∀ o c a b, ¬ (0 ≤ a ∧ a < 4 ∧ 0 ≤ b ∧ b < 4) → W o c a b = 0)
    (hx : ∀ (R C : Fin 115) (q : Fin 12), x0 (ix4 0 R C q) = X (q.val % 3) (2 * R.val + (q.val / 6 : ℕ) - 3) (2 * C.val + (q.val / 3 % 2 : ℕ) - 3))
    (hw : ∀ (k : Fin 108) (ch : Fin 128), x1 (ix2 k ch) = W (ch.val % 32) (k.val % 3) ((2 * (k.val / 36) + k.val % 12 / 6 : ℕ) - 2 * (ch.val / 64 : ℕ) : ℤ) ((2 * (k.val / 12 % 3) + k.val % 6 / 3 : ℕ) - 2 * (ch.val / 32 % 2 : ℕ) : ℤ))
    (hb : ∀ ch : Fin 128, x2 (ix3 0 0 ch) = B (ch.val % 32))
    (y : S1x60x60x128.Idx) :
    out0_A_3 (Ix := Ix) (U := U) (Lvl := Lvl) 𝒱₀ c i arg1 harg1 arg2 harg2 arg3 harg3 arg4 harg4 x0 x1 x2 y = G X W B y := by
  unfold out0_A_3
  rw [View.read_writes_junk_eq_canon]
  refine View.canon_apply_of_pieces (G X W B) _ (fun p hp j => ?_) y (cover0_A_3 (Ix := Ix) (U := U) (Lvl := Lvl) 𝒱₀ c i arg1 harg1 arg2 harg2 arg3 harg3 arg4 harg4 x0 x1 x2 y)
  unfold kernelRun0_A at hp
  dsimp only at hp
  simp only [List.mem_cons, List.mem_nil_iff, or_false] at hp
  rcases hp with rfl | rfl | rfl | rfl | rfl | rfl | rfl
  all_goals
    dsimp only [kernelRun0_A.sl.r, kernelRun0_A.sl.r_1, kernelRun0_A.sl.r_2, kernelRun0_A.sl.v0, kernelRun0_A.sl.v10,
      kernelRun0_A.sl.v12, kernelRun0_A.sl.v14, kernelRun0_A.sl.v16, kernelRun0_A.sl.v2, kernelRun0_A.sl.v29, kernelRun0_A.sl.v30,
      kernelRun0_A.sl.v4, kernelRun0_A.sl.v6, kernelRun0_A.sl.v8]
    idx_vars j
    pointwise [k0_pay1, k0_pay2, k0_pay3, k0_pay4, k0_pay5, k0_pay6, k0_pay7, k0_pay8, k0_pay9, k0_pay10, k0_pay11, k0_pay12, k0_pay13,
      k0_pay14, View.readAt_apply, Memref.IsWhole.read_unread, hb]
    simp only [G, Rect.emb_apply]
    dsimp
    first | exact (layer_out (by omega)).symm | skip
  rw [chan64, select_and _ _ (by omega) (by norm_num) (ge32 ⟨j3.val % 64, by omega⟩), select_and _ _ (by omega) (by norm_num) (lt32 ⟨j3.val % 64, by omega⟩),
    select_and _ _ (by omega) (by norm_num) (ge64 j3), select_and _ _ (by omega) (by norm_num) (lt64 j3)]
  dsimp only
  refine ite_eq_of (fun g1 => (layer_out (by omega)).symm) (fun g1 => ite_eq_of (fun g2 => (layer_out (by omega)).symm)
    (fun g2 => ite_eq_of (fun g3 => (layer_out (by omega)).symm) (fun g3 => ite_eq_of (fun g4 => (layer_out (by omega)).symm) (fun g4 => ?_))))
  rw [layer_in (by omega)]
  refine congrArg₂ max (congrArg₂ (· + ·) (convAt_of_nine X W _ _ _ (j3.val / 64) (j3.val / 32 % 2) (by omega) (by omega) hW _ fun k => ?_) (congrArg B (by omega))) rfl
  refine Ideal.mul_congr ?_ ((hw k j3).trans (taps_congr W (by omega) rfl (by omega) (by omega)))
  split_ifs <;> rw [hx] <;> exact plane_congr X (by dsimp only <;> omega) (by dsimp only <;> omega) (by dsimp only <;> omega)

end Cert.KernelIdeal.Own.K0
-- ==== Proof.V1.lean ====
/- What the second convolution's kernel leaves in its output block: the layer's planes of the block it was given, four
   phases of the padded output side by side in the channels. -/
module

public import proofs.«01_k».proof.Proof.Gen.Own.KernelIdeal.K1.Frame
public import proofs.«01_k».proof.Proof.Spec
public import Idealize.ShloMosaic.Lib.Pipeline.Value

@[expose] public section

noncomputable section

namespace Cert.KernelIdeal.Own.K1

open Cert.KernelIdeal Cert.KernelIdeal.Gen
open Idealize.ShloMosaic Idealize.ShloMosaic.TcCoe Idealize.SL.Sem Idealize.SL.RA
open Cert.Spec

variable {Ix : Type} [DecidableEq Ix] {U : Type} [URA U] {Lvl : Type} [Preorder Lvl]

/-- The block's entry at row `r`, column `c`, channel `ch`. -/
def G (X : Plane) (W : Taps) (B : ℕ → EReal) (y : S1x29x29x256.Idx) : EReal :=
  layer 56 32 X W B ((y 3).val % 64) (2 * (y 1).val + ((y 3).val / 128 : ℕ) - 1) (2 * (y 2).val + ((y 3).val / 64 % 2 : ℕ) - 1)

set_option maxHeartbeats 2000000 in
/-- The block's entries are the layer's, given the input block, the weights and the bias in their layouts. -/
theorem out_apply (𝒱₀ : Variants) (c : Dev nD) (i : grid1.Coords) (arg1 : Memref sig .tc .vmem S1x60x60x128 .f32) (harg1 : arg1.IsWhole) (arg2 : Memref sig .tc .vmem S512x64 .f32) (harg2 : arg2.IsWhole) (arg3 : Memref sig .tc .vmem S1x1x64 .f32) (harg3 : arg3.IsWhole) (arg4 : Memref sig .tc .vmem S1x29x29x256 .f32) (harg4 : arg4.IsWhole)
    (x0 : Vec Ideal S1x60x60x128 .f32) (x1 : Vec Ideal S512x64 .f32) (x2 : Vec Ideal S1x1x64 .f32)
    (X : Plane) (W : Taps) (B : ℕ → EReal)
    (hx : ∀ (R C : Fin 60) (ch : Fin 128), x0 (ix4 0 R C ch) = X (ch.val % 32) (2 * R.val + (ch.val / 64 : ℕ) - 3) (2 * C.val + (ch.val / 32 % 2 : ℕ) - 3))
    (hw : ∀ (k : Fin 512) (o : Fin 64), x1 (ix2 k o) = W o.val (k.val % 32) ((2 * (k.val / 32 / 8) + (k.val / 32 / 2) % 2 : ℕ) : ℤ) ((2 * ((k.val / 32 / 4) % 2) + (k.val / 32) % 2 : ℕ) : ℤ))
    (hb : ∀ o : Fin 64, x2 (ix3 0 0 o) = B o.val)
    (y : S1x29x29x256.Idx) :
    out1_A_3 (Ix := Ix) (U := U) (Lvl := Lvl) 𝒱₀ c i arg1 harg1 arg2 harg2 arg3 harg3 arg4 harg4 x0 x1 x2 y = G X W B y := by
  unfold out1_A_3
  rw [View.read_writes_junk_eq_canon]
  refine View.canon_apply_of_pieces (G X W B) _ (fun p hp j => ?_) y (cover1_A_3 (Ix := Ix) (U := U) (Lvl := Lvl) 𝒱₀ c i arg1 harg1 arg2 harg2 arg3 harg3 arg4 harg4 x0 x1 x2 y)
  unfold kernelRun1_A at hp
  dsimp only at hp
  simp only [List.mem_cons, List.mem_nil_iff, or_false] at hp
  rcases hp with rfl | rfl | rfl | rfl
  all_goals
    dsimp only [kernelRun1_A.sl.r, kernelRun1_A.sl.r_1, kernelRun1_A.sl.r_2, kernelRun1_A.sl.r_3, kernelRun1_A.sl.v0,
      kernelRun1_A.sl.v112, kernelRun1_A.sl.v2, kernelRun1_A.sl.v33, kernelRun1_A.sl.v37, kernelRun1_A.sl.v4, kernelRun1_A.sl.v6,
      kernelRun1_A.sl.v66, kernelRun1_A.sl.v68, kernelRun1_A.sl.v99, kernelRun1_A.sl.cst_81]
    idx_vars j
    pointwise [k1_pay1, k1_pay2, k1_pay3, k1_pay4, k1_pay5, k1_pay6, k1_pay7, k1_pay8, k1_pay9, View.readAt_apply,
      Memref.IsWhole.read_unread, hb]
    simp only [G, Rect.emb_apply]
    dsimp
    rw [select_eq_nat _ _ (by omega) (by norm_num), select_eq_nat _ _ (by omega) (by norm_num)]
    refine ite_eq_of (fun g1 => (layer_out (by omega)).symm) (fun g1 => ite_eq_of (fun g2 => (layer_out (by omega)).symm) (fun g2 => ?_))
    rw [layer_in (by omega)]
    refine congrArg₂ max (congrArg₂ (· + ·) (convAt_of_blocks 512 32 rfl X W _ _ _ _ fun k => ?_) (congrArg B (by omega))) rfl
    refine Ideal.mul_congr ?_ ((hw k j3).trans (taps_congr W (by omega) rfl rfl rfl))
    split_ifs <;> rw [hx] <;> exact plane_congr X (by dsimp only <;> omega) (by dsimp only <;> omega) (by dsimp only <;> omega)

end Cert.KernelIdeal.Own.K1
-- ==== Proof.V2.lean ====
/- What the third convolution's kernel leaves in its output block: the layer's planes of the block it was given. -/
module

public import proofs.«01_k».proof.Proof.Gen.Own.KernelIdeal.K2.Frame
public import proofs.«01_k».proof.Proof.Spec
public import Idealize.ShloMosaic.Lib.Pipeline.Value

@[expose] public section

noncomputable section

namespace Cert.KernelIdeal.Own.K2

open Cert.KernelIdeal Cert.KernelIdeal.Gen
open Idealize.ShloMosaic Idealize.ShloMosaic.TcCoe Idealize.SL.Sem Idealize.SL.RA
open Cert.Spec

variable {Ix : Type} [DecidableEq Ix] {U : Type} [URA U] {Lvl : Type} [Preorder Lvl]

/-- The block's entry at row `r`, column `c`, channel `ch`. -/
def G (X : Plane) (W : Taps) (B : ℕ → EReal) (y : S1x28x28x64.Idx) : EReal :=
  layer 28 64 X W B (y 3).val (y 1).val (y 2).val

set_option maxHeartbeats 2000000 in
/-- The block's entries are the layer's, given the input block, the weights and the bias in their layouts. -/
theorem out_apply (𝒱₀ : Variants) (c : Dev nD) (i : grid2.Coords) (arg1 : Memref sig .tc .vmem S1x29x29x256 .f32) (harg1 : arg1.IsWhole) (arg2 : Memref sig .tc .vmem S1024x64 .f32) (harg2 : arg2.IsWhole) (arg3 : Memref sig .tc .vmem S1x1x64 .f32) (harg3 : arg3.IsWhole) (arg4 : Memref sig .tc .vmem S1x28x28x64 .f32) (harg4 : arg4.IsWhole)
    (x0 : Vec Ideal S1x29x29x256 .f32) (x1 : Vec Ideal S1024x64 .f32) (x2 : Vec Ideal S1x1x64 .f32)
    (X : Plane) (W : Taps) (B : ℕ → EReal)
    (hx : ∀ (R C : Fin 29) (ch : Fin 256), x0 (ix4 0 R C ch) = X (ch.val % 64) (2 * R.val + (ch.val / 128 : ℕ) - 1) (2 * C.val + (ch.val / 64 % 2 : ℕ) - 1))
    (hw : ∀ (k : Fin 1024) (o : Fin 64), x1 (ix2 k o) = W o.val (k.val % 64) ((2 * (k.val / 64 / 8) + (k.val / 64 / 2) % 2 : ℕ) : ℤ) ((2 * ((k.val / 64 / 4) % 2) + (k.val / 64) % 2 : ℕ) : ℤ))
    (hb : ∀ o : Fin 64, x2 (ix3 0 0 o) = B o.val)
    (y : S1x28x28x64.Idx) :
    out2_A_3 (Ix := Ix) (U := U) (Lvl := Lvl) 𝒱₀ c i arg1 harg1 arg2 harg2 arg3 harg3 arg4 harg4 x0 x1 x2 y = G X W B y := by
  unfold out2_A_3
  rw [View.read_writes_junk_eq_canon]
  refine View.canon_apply_of_pieces (G X W B) _ (fun p hp j => ?_) y (cover2_A_3 (Ix := Ix) (U := U) (Lvl := Lvl) 𝒱₀ c i arg1 harg1 arg2 harg2 arg3 harg3 arg4 harg4 x0 x1 x2 y)
  unfold kernelRun2_A at hp
  dsimp only at hp
  simp only [List.mem_cons, List.mem_nil_iff, or_false] at hp
  obtain rfl := hp
  dsimp only
  idx_vars j
  pointwise [k2_pay1, View.readAt_apply, Memref.IsWhole.read_unread, hb]
  simp only [G, Rect.emb_apply]
  dsimp
  rw [layer_in (by omega)]
  refine congrArg₂ max (congrArg₂ (· + ·) (convAt_of_blocks 1024 64 rfl X W _ _ _ _ fun k => ?_) (congrArg B (by omega))) rfl
  refine Ideal.mul_congr ?_ ((hw k j3).trans (taps_congr W (by omega) rfl rfl rfl))
  split_ifs <;> rw [hx] <;> exact plane_congr X (by dsimp only <;> omega) (by dsimp only <;> omega) (by dsimp only <;> omega)

end Cert.KernelIdeal.Own.K2
-- ==== Proof.Vq.lean ====
/- The nearest code: real entries of the extended reals, the first place of a list's least value, what folds over a row find
   of it, and the squared distance to the nearest code as a sum of squares. -/
module

public import Idealize.ShloMosaic.Lib.Pointwise
public import Idealize.ShloMosaic.Lib.SortNet.Extract

@[expose] public section

noncomputable section

namespace Cert.Spec

open Idealize.ShloMosaic

/-! ## Real entries -/

/-- The value is a real number, not an infinity. -/
def Real' (a : EReal) : Prop := ∃ r : ℝ, a = (r : EReal)

theorem Real'.zero : Real' 0 := ⟨0, rfl⟩
theorem Real'.add {a b : EReal} : Real' a → Real' b → Real' (a + b) := by
  rintro ⟨r, rfl⟩ ⟨s, rfl⟩; exact ⟨r + s, (EReal.coe_add r s).symm⟩
theorem Real'.mul {a b : EReal} : Real' a → Real' b → Real' (a * b) := by
  rintro ⟨r, rfl⟩ ⟨s, rfl⟩; exact ⟨r * s, (EReal.coe_mul r s).symm⟩
theorem Real'.max {a b : EReal} : Real' a → Real' b → Real' (max a b) := by
  intro ha hb
  rcases le_total a b with h | h
  · rw [max_eq_right h]; exact hb
  · rw [max_eq_left h]; exact ha
theorem Real'.sum {ι : Type} (s : Finset ι) (f : ι → EReal) (hf : ∀ i, Real' (f i)) : Real' (∑ i ∈ s, f i) := by
  classical
  induction s using Finset.induction_on with
  | empty => simpa using Real'.zero
  | insert a s ha ih => rw [Finset.sum_insert ha]; exact (hf a).add ih

/-- An absolute value below infinity is a real number's. -/
theorem Real'.of_abs {a : EReal} (h : Max.max a (-a) < ⊤) : Real' a := by
  induction a using EReal.rec with
  | bot => simp at h
  | top => simp at h
  | coe r => exact ⟨r, rfl⟩

/-- A family of real entries is the family of its real numbers. -/
theorem Real'.choose_fun {ι : Type} {f : ι → EReal} (hf : ∀ i, Real' (f i)) : ∃ r : ι → ℝ, f = fun i => (r i : EReal) :=
  ⟨fun i => (hf i).choose, funext fun i => (hf i).choose_spec⟩

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-! ## The first least place -/

theorem exists_first {n : ℕ} (d : Fin (n + 1) → EReal) : ∃ i, (∀ k, d i ≤ d k) ∧ ∀ k, d k = d i → i ≤ k := by
  classical
  obtain ⟨m, -, hm⟩ := Finset.exists_min_image Finset.univ d ⟨0, Finset.mem_univ _⟩
  have hne : (Finset.univ.filter fun k => d k = d m).Nonempty := ⟨m, by simp⟩
  obtain ⟨i, hi, hmin⟩ := Finset.exists_min_image _ (fun k : Fin (n + 1) => k) hne
  have e : d i = d m := (Finset.mem_filter.mp hi).2
  exact ⟨i, fun k => e ▸ hm k (Finset.mem_univ _), fun k hk => hmin k (Finset.mem_filter.mpr ⟨Finset.mem_univ _, hk.trans e⟩)⟩

/-- The first place where the least value stands. -/
def first (d : Fin 512 → EReal) : Fin 512 := (exists_first d).choose
theorem first_le (d : Fin 512 → EReal) (k : Fin 512) : d (first d) ≤ d k := (exists_first d).choose_spec.1 k
theorem first_first (d : Fin 512 → EReal) (k : Fin 512) (h : d k = d (first d)) : first d ≤ k := (exists_first d).choose_spec.2 k h

theorem fold_min_eq (d : Fin 512 → EReal) : Finset.fold min ⊤ d Finset.univ = d (first d) :=
  le_antisymm ((Finset.fold_min_le _).mpr (.inr ⟨_, Finset.mem_univ _, le_rfl⟩))
    ((Finset.le_fold_min _).mpr ⟨le_top, fun k _ => first_le d k⟩)

theorem toInt_ofNat (k : ℕ) (hk : k < 2 ^ 31) : (BitVec.ofNat 32 k).toInt = k := by
  rw [BitVec.toInt_eq_toNat_of_lt (by rw [BitVec.toNat_ofNat]; omega), BitVec.toNat_ofNat, Nat.mod_eq_of_lt (by omega)]

/-- The least of the places where the least value stands, the others reading 512, is the first place. -/
theorem fold_place_eq (d : Fin 512 → EReal) (v : EReal) (hv : v = d (first d)) :
    Finset.fold IntOp.minsi 2147483647#32 (fun k : Fin 512 => if d k = v then BitVec.ofNat 32 k.val else 512#32) Finset.univ = BitVec.ofNat 32 (first d).val := by
  subst hv
  apply BitVec.eq_of_toInt_eq
  have h := Finset.fold_hom (op := IntOp.minsi) (op' := (min : ℤ → ℤ → ℤ)) (b := 2147483647#32) (m := BitVec.toInt) (s := (Finset.univ : Finset (Fin 512)))
    (f := fun k : Fin 512 => if d k = d (first d) then BitVec.ofNat 32 k.val else 512#32) (fun x y => SortNet.toInt_minsi x y)
  rw [← h]
  refine le_antisymm ((Finset.fold_min_le _).mpr (.inr ⟨first d, Finset.mem_univ _, ?_⟩)) ((Finset.le_fold_min _).mpr ⟨?_, fun k _ => ?_⟩)
  · rw [if_pos rfl]
  · have : (2147483647#32 : BitVec 32).toInt = 2147483647 := by decide
    rw [toInt_ofNat _ (by omega)]
    exact le_trans (by omega) this.ge
  · split
    · rename_i hk
      have := first_first d k hk
      rw [toInt_ofNat _ (by omega), toInt_ofNat _ (by omega)]
      exact_mod_cast this
    · have : (512#32 : BitVec 32).toInt = 512 := by decide
      rw [toInt_ofNat _ (by omega), this]
      omega

/-- A row of a table picked by a one-hot vector. -/
theorem onehot_sum (E : Fin 512 → EReal) (i : Fin 512) :
    ∑ k : Fin 512, (FloatOps.sitofp .f32 (BitVec.setWidth 32 (IntOp.cmpi .eq (BitVec.ofNat 32 k.val) (BitVec.ofNat 32 i.val))) : Ideal .f32) * E k = E i := by
  rw [Finset.sum_eq_single i]
  · have : (FloatOps.sitofp .f32 (BitVec.setWidth 32 (IntOp.cmpi .eq (BitVec.ofNat 32 i.val) (BitVec.ofNat 32 i.val))) : Ideal .f32) = (1 : EReal) := by
      rw [show BitVec.setWidth 32 (IntOp.cmpi .eq (BitVec.ofNat 32 i.val) (BitVec.ofNat 32 i.val)) = 1#32 from by simp [IntOp.cmpi]]
      show (((1#32 : BitVec 32).toInt : ℝ) : EReal) = 1
      rw [show (1#32 : BitVec 32).toInt = 1 from by decide]; simp
    rw [this, one_mul]
  · intro k _ hk
    have hne : (BitVec.ofNat 32 k.val == BitVec.ofNat 32 i.val) = false := by
      refine beq_eq_false_iff_ne.mpr fun q => hk (Fin.ext ?_)
      have := congrArg BitVec.toInt q
      rw [toInt_ofNat _ (by omega), toInt_ofNat _ (by omega)] at this
      exact_mod_cast this
    have : (FloatOps.sitofp .f32 (BitVec.setWidth 32 (IntOp.cmpi .eq (BitVec.ofNat 32 k.val) (BitVec.ofNat 32 i.val))) : Ideal .f32) = (0 : EReal) := by
      rw [show BitVec.setWidth 32 (IntOp.cmpi .eq (BitVec.ofNat 32 k.val) (BitVec.ofNat 32 i.val)) = 0#32 from by simp [IntOp.cmpi, hne]]
      show (((0#32 : BitVec 32).toInt : ℝ) : EReal) = 0
      rw [show (0#32 : BitVec 32).toInt = 0 from by decide]; simp
    rw [this, zero_mul]
  · intro h; exact absurd (Finset.mem_univ i) h

/-! ## Distances -/

/-- The distance from `x` to a code, as the kernel writes it. -/
def dist (x : Fin 64 → EReal) (e : Fin 64 → EReal) : EReal :=
  Ideal.sqrt (max (∑ c, x c * x c - 2 * ∑ c, x c * e c + ∑ c, e c * e c) 0)

theorem dist_coe (x e : Fin 64 → ℝ) :
    dist (fun c => (x c : EReal)) (fun c => (e c : EReal)) = ((Real.sqrt (∑ c, (x c - e c) * (x c - e c)) : ℝ) : EReal) := by
  have h0 : 0 ≤ ∑ c, (x c - e c) * (x c - e c) := Finset.sum_nonneg fun c _ => mul_self_nonneg _
  have e1 : ∑ c, x c * x c - 2 * ∑ c, x c * e c + ∑ c, e c * e c = ∑ c, (x c - e c) * (x c - e c) := by
    rw [Finset.mul_sum, ← Finset.sum_sub_distrib, ← Finset.sum_add_distrib]
    exact Finset.sum_congr rfl fun c _ => by ring
  unfold dist
  simp only [← EReal.coe_mul, coe_sum]
  rw [show (2 : EReal) = ((2 : ℝ) : EReal) from rfl, ← EReal.coe_mul, ← EReal.coe_sub, ← EReal.coe_add, e1,
    max_eq_left (by exact_mod_cast h0), Ideal.sqrt_coe, if_neg (not_lt.mpr h0)]

/-- The same with the factor two on the vector, as the reference writes it. -/
theorem dist_scaled (x e : Fin 64 → EReal) (hx : ∀ c, Real' (x c)) (he : ∀ c, Real' (e c)) :
    Ideal.sqrt (max (∑ c, x c * x c - ∑ c, 2 * x c * e c + ∑ c, e c * e c) 0) = dist x e := by
  obtain ⟨x, rfl⟩ := Real'.choose_fun hx
  obtain ⟨e, rfl⟩ := Real'.choose_fun he
  unfold dist
  simp only [← EReal.coe_mul, coe_sum, show (2 : EReal) = ((2 : ℝ) : EReal) from rfl]
  rw [Finset.mul_sum]
  simp only [mul_assoc]

theorem dist_real (x e : Fin 64 → EReal) (hx : ∀ c, Real' (x c)) (he : ∀ c, Real' (e c)) : Real' (dist x e) := by
  obtain ⟨x, rfl⟩ := Real'.choose_fun hx
  obtain ⟨e, rfl⟩ := Real'.choose_fun he
  exact ⟨_, dist_coe x e⟩

/-- The distance's square is the sum of the squared differences. -/
theorem dist_sq (x e : Fin 64 → EReal) (hx : ∀ c, Real' (x c)) (he : ∀ c, Real' (e c)) :
    dist x e * dist x e = ∑ c, (x c - e c) * (x c - e c) := by
  obtain ⟨x, rfl⟩ := Real'.choose_fun hx
  obtain ⟨e, rfl⟩ := Real'.choose_fun he
  rw [dist_coe, ← EReal.coe_mul, Real.mul_self_sqrt (Finset.sum_nonneg fun c _ => mul_self_nonneg _)]
  simp only [← EReal.coe_sub, ← EReal.coe_mul, coe_sum]

/-- What straight-through passes on: the code itself. -/
theorem through (x q : EReal) (hx : Real' x) (hq : Real' q) : x + (q - x) = q := by
  obtain ⟨x, rfl⟩ := hx
  obtain ⟨q, rfl⟩ := hq
  rw [← EReal.coe_sub, ← EReal.coe_add]
  congr 1; ring

/-! ## The first place by a fold over pairs -/

/-- The reference's step: the pair with the lesser value, on equal values the lesser word. -/
def step (a b : EReal × BitVec 32) : EReal × BitVec 32 :=
  if a.1 < b.1 ∨ (a.1 = b.1 ∧ a.2.toInt < b.2.toInt) then a else b

/-- One pair is at most another: by value, then by word. -/
def atMost (a b : EReal × BitVec 32) : Prop := a.1 < b.1 ∨ (a.1 = b.1 ∧ a.2.toInt ≤ b.2.toInt)

theorem atMost.trans {a b c : EReal × BitVec 32} : atMost a b → atMost b c → atMost a c := by
  rintro (h | ⟨h, h'⟩) (g | ⟨g, g'⟩)
  · exact .inl (h.trans g)
  · exact .inl (g ▸ h)
  · exact .inl (h ▸ g)
  · exact .inr ⟨h.trans g, h'.trans g'⟩

theorem step_spec (a b : EReal × BitVec 32) : (step a b = a ∨ step a b = b) ∧ atMost (step a b) a ∧ atMost (step a b) b := by
  unfold step
  split
  · rename_i h
    exact ⟨.inl rfl, .inr ⟨rfl, le_rfl⟩, h.imp_right fun h => ⟨h.1, h.2.le⟩⟩
  · rename_i h
    refine ⟨.inr rfl, ?_, .inr ⟨rfl, le_rfl⟩⟩
    rcases lt_trichotomy a.1 b.1 with g | g | g
    · exact absurd (.inl g) h
    · exact .inr ⟨g.symm, not_lt.mp fun q => h (.inr ⟨g, q⟩)⟩
    · exact .inl g

theorem foldl_step (l : List (EReal × BitVec 32)) : ∀ a, (l.foldl step a = a ∨ l.foldl step a ∈ l) ∧ atMost (l.foldl step a) a ∧ ∀ p ∈ l, atMost (l.foldl step a) p := by
  induction l with
  | nil => exact fun a => ⟨.inl rfl, .inr ⟨rfl, le_rfl⟩, fun p hp => absurd hp (List.not_mem_nil)⟩
  | cons b l ih =>
    intro a
    obtain ⟨h1, h2, h3⟩ := ih (step a b)
    obtain ⟨g1, g2, g3⟩ := step_spec a b
    rw [List.foldl_cons]
    refine ⟨?_, h2.trans g2, fun p hp => ?_⟩
    · rcases h1 with h1 | h1
      · rcases g1 with g1 | g1
        · exact .inl (h1.trans g1)
        · exact .inr (by rw [h1, g1]; exact List.mem_cons_self)
      · exact .inr (List.mem_cons_of_mem _ h1)
    · rcases List.mem_cons.mp hp with rfl | hp
      · exact h2.trans g3
      · exact h3 p hp

/-- Folded over a row's pairs from infinity, the step finds the first place of the least value. -/
theorem foldl_first (d : Fin 512 → EReal) (hd : ∀ k, d k < ⊤) (l : List (EReal × BitVec 32))
    (hl : ∀ p, p ∈ l ↔ ∃ k : Fin 512, p = (d k, BitVec.ofNat 32 k.val)) (w : BitVec 32) :
    (l.foldl step (⊤, w)).2 = BitVec.ofNat 32 (first d).val := by
  obtain ⟨h1, -, h3⟩ := foldl_step l (⊤, w)
  have hi := h3 _ ((hl _).mpr ⟨first d, rfl⟩)
  rcases h1 with h1 | h1
  · rw [h1] at hi
    rcases hi with hi | hi
    · exact absurd hi (not_lt.mpr le_top)
    · exact absurd (hd (first d)) (not_lt.mpr (le_of_eq hi.1))
  · obtain ⟨k, hk⟩ := (hl _).mp h1
    rw [hk] at hi ⊢
    have hk' : k = first d := by
      rcases hi with hi | ⟨hi, hi'⟩
      · exact absurd hi (not_lt.mpr (first_le d k))
      · simp only [toInt_ofNat _ (show k.val < 2 ^ 31 by omega), toInt_ofNat _ (show (first d).val < 2 ^ 31 by omega)] at hi'
        exact le_antisymm (by exact_mod_cast hi') (first_first d k hi)
    rw [hk']

end Cert.Spec
-- ==== Proof.V3.lean ====
/- What the quantizer's kernel leaves in its two output blocks: the codes nearest to the block's vectors with zeros around
   them, and the sum of the squared distances. -/
module

public import proofs.«01_k».proof.Proof.Gen.Own.KernelIdeal.K3.Frame
public import proofs.«01_k».proof.Proof.Spec
public import proofs.«01_k».proof.Proof.Vq
public import Idealize.ShloMosaic.Lib.Pipeline.Value

@[expose] public section

noncomputable section

namespace Cert.KernelIdeal.Own.K3

open Cert.KernelIdeal Cert.KernelIdeal.Gen
open Idealize.ShloMosaic Idealize.ShloMosaic.TcCoe Idealize.SL.Sem Idealize.SL.RA
open Cert.Spec

variable {Ix : Type} [DecidableEq Ix] {U : Type} [URA U] {Lvl : Type} [Preorder Lvl]

theorem ofBits_two : Ideal.ofBits .f32 0x40000000#32 = 2 := by
  simp [Ideal.ofBits, Ideal.ieee]
  rw [← EReal.coe_mul, show (8388608 * (2 ^ 22)⁻¹ : ℝ) = 2 from by norm_num]
  rfl
theorem ofBits_inf : Ideal.ofBits .f32 0x7F800000#32 = ⊤ := by simp [Ideal.ofBits, Ideal.ieee]

/-- The block's vector at row `r` and column `w`. -/
def pos (v : Vec Ideal S1x28x28x64 .f32) (r w : Fin 28) : Fin 64 → EReal := fun c => v (ix4 0 r w c)
/-- A code. -/
def code (E : Vec Ideal S512x64 .f32) (k : Fin 512) : Fin 64 → EReal := fun c => E (ix2 k c)
/-- The nearest code's number. -/
def near (E : Vec Ideal S512x64 .f32) (x : Fin 64 → EReal) : Fin 512 := first fun k => dist x (code E k)

theorem pay7_apply (v : Vec Ideal S1x28x28x64 .f32) (E : Vec Ideal S512x64 .f32) (r w : Fin 28) (k : Fin 512) :
    k3_pay7 v E (ix3 r w k) = dist (pos v r w) (code E k) := by
  pointwise [k3_pay7, ofBits_two]
  rfl

theorem pay8_apply (v : Vec Ideal S1x28x28x64 .f32) (E : Vec Ideal S512x64 .f32) (r w : Fin 28) (z : Fin 1) :
    k3_pay8 v E (ix3 r w z) = dist (pos v r w) (code E (near E (pos v r w))) := by
  pointwise [k3_pay8, pay7_apply, ofBits_inf]
  exact fold_min_eq _

theorem pay9_apply (v : Vec Ideal S1x28x28x64 .f32) (E : Vec Ideal S512x64 .f32) (z : Fin 1) (r w : Fin 28) (c : Fin 64) :
    k3_pay9 v E (ix4 z r w c) = code E (near E (pos v r w)) c := by
  pointwise [k3_pay9, pay7_apply, pay8_apply]
  rw [fold_place_eq (fun k => dist (pos v r w) (code E k)) (dist (pos v r w) (code E (near E (pos v r w)))) rfl]
  exact onehot_sum (fun k => E (ix2 k c)) _

theorem pay6_apply (d : FVec Ideal S28x28x1 .f32) (j : S1x1x128.Idx) :
    k3_pay6 d j = ∑ r : Fin 28, ∑ w : Fin 28, d (ix3 r w 0) * d (ix3 r w 0) := by
  idx_vars j
  pointwise [k3_pay6]
  rw [Ideal.reduceAdd_total _ (by decide), sum_idx4, Fin.sum_univ_one]
  refine Finset.sum_congr rfl fun r _ => Finset.sum_congr rfl fun w _ => ?_
  rw [Fin.sum_univ_one]
  pointwise

/-- The padded codes' block at a row, a column and a channel. -/
def Gq (v : Vec Ideal S1x28x28x64 .f32) (E : Vec Ideal S512x64 .f32) (y : S1x30x30x64.Idx) : EReal :=
  if H : (1 ≤ (y 1).val ∧ (y 1).val - 1 < 28) ∧ (1 ≤ (y 2).val ∧ (y 2).val - 1 < 28) then
    code E (near E (pos v ⟨(y 1).val - 1, H.1.2⟩ ⟨(y 2).val - 1, H.2.2⟩)) (y 3) else 0

theorem read0 (arg : Memref sig .tc .vmem S1x28x28x64 .f32) (harg : arg.IsWhole) (x : Vec Ideal S1x28x28x64 .f32) :
    View.readAt (Elt Ideal) arg.view (Rect.unit ![0, 0, 0, 0] ![1, 28, 28, 64] inb_S1x28x28x64_S1x28x28x64_0_0_0_0).toLoadRect (harg.unread x) = x := by
  funext j
  idx_vars j
  obtain rfl : j0 = 0 := Subsingleton.elim _ _
  pointwise [View.readAt_apply, Memref.IsWhole.read_unread]

theorem read1 (arg : Memref sig .tc .vmem S512x64 .f32) (harg : arg.IsWhole) (x : Vec Ideal S512x64 .f32) :
    View.readAt (Elt Ideal) arg.view (Rect.unit ![0, 0] ![512, 64] inb_S512x64_S512x64_0_0).toLoadRect (harg.unread x) = x := by
  funext j
  idx_vars j
  pointwise [View.readAt_apply, Memref.IsWhole.read_unread]

set_option maxHeartbeats 2000000 in
theorem out_q_apply (𝒱₀ : Variants) (c : Dev nD) (i : grid3.Coords) (arg1 : Memref sig .tc .vmem S1x28x28x64 .f32) (harg1 : arg1.IsWhole) (arg2 : Memref sig .tc .vmem S512x64 .f32) (harg2 : arg2.IsWhole) (arg3 : Memref sig .tc .vmem S1x30x30x64 .f32) (harg3 : arg3.IsWhole) (arg4 : Memref sig .tc .vmem S1x1x128 .f32) (harg4 : arg4.IsWhole)
    (x0 : Vec Ideal S1x28x28x64 .f32) (x1 : Vec Ideal S512x64 .f32) (y : S1x30x30x64.Idx) :
    out3_A_2 (Ix := Ix) (U := U) (Lvl := Lvl) 𝒱₀ c i arg1 harg1 arg2 harg2 arg3 harg3 arg4 harg4 x0 x1 y = Gq x0 x1 y := by
  unfold out3_A_2
  rw [View.read_writes_junk_eq_canon]
  refine View.canon_apply_of_pieces (Gq x0 x1) _ (fun p hp j => ?_) y (cover3_A_2 (Ix := Ix) (U := U) (Lvl := Lvl) 𝒱₀ c i arg1 harg1 arg2 harg2 arg3 harg3 arg4 harg4 x0 x1 y)
  unfold kernelRun3_A at hp
  dsimp only at hp
  simp only [List.mem_cons, List.mem_nil_iff, or_false] at hp
  rcases hp with rfl | rfl | rfl | rfl | rfl
  all_goals
    dsimp only [kernelRun3_A.sl.cst_16, kernelRun3_A.sl.r]
    idx_vars j
    simp only [Gq, Rect.emb_apply]
  on_goal 5 =>
    refine Eq.trans ?_ (dif_pos (by simp <;> omega)).symm
    refine (pay9_apply _ _ j0 j1 j2 j3).trans ?_
    rw [read0, read1]
    refine congr (congrArg _ (congrArg _ (congrArg₂ _ (Fin.ext ?_) (Fin.ext ?_)))) (Fin.ext ?_)
    · simp
    · simp
    · simp [Rect.emb_apply]
  all_goals
    refine Eq.trans ?_ (dif_neg (by first | omega | (simp; done) | (simp; omega))).symm
    pointwise [k3_pay1, k3_pay2, k3_pay3, k3_pay4, k3_pay5, k3_pay10]

theorem out_p_apply (𝒱₀ : Variants) (c : Dev nD) (i : grid3.Coords) (arg1 : Memref sig .tc .vmem S1x28x28x64 .f32) (harg1 : arg1.IsWhole) (arg2 : Memref sig .tc .vmem S512x64 .f32) (harg2 : arg2.IsWhole) (arg3 : Memref sig .tc .vmem S1x30x30x64 .f32) (harg3 : arg3.IsWhole) (arg4 : Memref sig .tc .vmem S1x1x128 .f32) (harg4 : arg4.IsWhole)
    (x0 : Vec Ideal S1x28x28x64 .f32) (x1 : Vec Ideal S512x64 .f32) (y : S1x1x128.Idx) :
    out3_A_3 (Ix := Ix) (U := U) (Lvl := Lvl) 𝒱₀ c i arg1 harg1 arg2 harg2 arg3 harg3 arg4 harg4 x0 x1 y
      = ∑ r : Fin 28, ∑ w : Fin 28, dist (pos x0 r w) (code x1 (near x1 (pos x0 r w))) * dist (pos x0 r w) (code x1 (near x1 (pos x0 r w))) := by
  unfold out3_A_3
  rw [View.read_writes_junk_eq_canon]
  refine View.canon_apply_of_pieces (fun _ => _) _ (fun p hp j => ?_) y (cover3_A_3 (Ix := Ix) (U := U) (Lvl := Lvl) 𝒱₀ c i arg1 harg1 arg2 harg2 arg3 harg3 arg4 harg4 x0 x1 y)
  unfold kernelRun3_A at hp
  dsimp only at hp
  simp only [List.mem_cons, List.mem_nil_iff, or_false] at hp
  subst hp
  dsimp only [kernelRun3_A.sl.cst_16, kernelRun3_A.sl.r]
  rw [pay6_apply]
  simp only [pay8_apply, read0, read1]

end Cert.KernelIdeal.Own.K3
-- ==== Proof.Arr.lean ====
/- The arrays the encoder's regions end with: each block is what the region's body computes of its image, and the sixteen
   blocks are the array. -/
module

public import proofs.«01_k».proof.Proof.V0
public import proofs.«01_k».proof.Proof.V1
public import proofs.«01_k».proof.Proof.V2
public import proofs.«01_k».proof.Proof.V3
public import Idealize.ShloMosaic.Lib.Pipeline.ValueKit

@[expose] public section

noncomputable section

namespace Cert.KernelIdeal.Own

open Cert.KernelIdeal Cert.KernelIdeal.Gen
open Idealize.ShloMosaic Idealize.ShloMosaic.TcCoe Idealize.SL.Sem Idealize.SL.RA
open Cert.Spec

variable {Ix : Type} [DecidableEq Ix] {U : Type} [URA U] {Lvl : Type} [Preorder Lvl]

variable (V : (c : Dev nD) → (b : Ref sig .tc) → Buf (Elt Ideal) ((c : Thread nD τ).loc b)) (D : Dev nD → CellTallies nD τ sig Ix)

set_option maxHeartbeats 1000000 in
/-- The first convolution's array, given its input's images, weights and bias in their layouts. -/
theorem arr0 (c : Dev nD) (X : ℕ → Plane) (W : Taps) (B : ℕ → EReal)
    (hW : ∀ o c a b, ¬ (0 ≤ a ∧ a < 4 ∧ 0 ≤ b ∧ b < 4) → W o c a b = 0)
    (hx : ∀ (n : Fin 16) (R C : Fin 115) (ch : Fin 12), V c main_v4 (ix4 n R C ch) = X n.val (ch.val % 3) (2 * R.val + (ch.val / 6 : ℕ) - 3) (2 * C.val + (ch.val / 3 % 2 : ℕ) - 3))
    (hw : ∀ (k : Fin 108) (o : Fin 128), V c main_v710 (ix2 k o) = W (o.val % 32) (k.val % 3) (((2 * (k.val / 36) + k.val % 12 / 6 : ℕ) : ℤ) - 2 * ((o.val / 64 : ℕ) : ℤ)) (((2 * (k.val / 12 % 3) + k.val % 6 / 3 : ℕ) : ℤ) - 2 * ((o.val / 32 % 2 : ℕ) : ℤ)))
    (hb : ∀ o : Fin 128, V c main_v714 (ix3 0 0 o) = B (o.val % 32)) :
    (K0.dat (U := U) (Lvl := Lvl) Variants.none V D c).arrAt 3 cfg0.N
      = fun j : S16x60x60x128.Idx => K0.G (X (j 0).val) W B (ix4 0 (j 1) (j 2) (j 3)) := by
  have e0 : ∀ t : Fin cfg0.N, win0_0.index t (0 : Fin 4) = t.val ∧ win0_0.index t (1 : Fin 4) = 0 ∧ win0_0.index t (2 : Fin 4) = 0 ∧ win0_0.index t (3 : Fin 4) = 0 := (by decide +kernel : ∀ t : Fin grid0.N, _)
  have e1 : ∀ t : Fin cfg0.N, win0_1.index t (0 : Fin 2) = 0 ∧ win0_1.index t (1 : Fin 2) = 0 := (by decide +kernel : ∀ t : Fin grid0.N, _)
  have e2 : ∀ t : Fin cfg0.N, win0_2.index t (0 : Fin 3) = 0 ∧ win0_2.index t (1 : Fin 3) = 0 ∧ win0_2.index t (2 : Fin 3) = 0 := (by decide +kernel : ∀ t : Fin grid0.N, _)
  have e3 : ∀ t : Fin cfg0.N, win0_3.index t (0 : Fin 4) = t.val ∧ win0_3.index t (1 : Fin 4) = 0 ∧ win0_3.index t (2 : Fin 4) = 0 ∧ win0_3.index t (3 : Fin 4) = 0 := (by decide +kernel : ∀ t : Fin grid0.N, _)
  refine Pipeline.Dat.arrAt_eq_of_covers _ 3 _ (by decide +kernel) fun t hf y => ?_
  blk_simp
  rw [K0.after0_3]
  unfold K0.outsAt0
  rw [K0.out_apply _ c _ _ _ _ _ _ _ _ _ _ _ _ (X t.val) W B hW]
  · have h := e3 t
    simp only [K0.G]
    blk_simp [h.1, h.2.1, h.2.2.1, h.2.2.2]
  · intro R C ch
    refine (congrArg (V c main_v4) ?_).trans (hx ⟨t.val, t.isLt⟩ R C ch)
    funext a; apply Fin.ext
    have h := e0 t
    match a with
    | ⟨0, _⟩ => show win0_0.index t (0 : Fin 4) * 1 + 1 * 0 = t.val; omega
    | ⟨1, _⟩ => show win0_0.index t (1 : Fin 4) * 115 + 1 * R.val = R.val; omega
    | ⟨2, _⟩ => show win0_0.index t (2 : Fin 4) * 115 + 1 * C.val = C.val; omega
    | ⟨3, _⟩ => show win0_0.index t (3 : Fin 4) * 12 + 1 * ch.val = ch.val; omega
  · intro k o
    refine (congrArg (V c main_v710) ?_).trans (hw k o)
    funext a; apply Fin.ext
    have h := e1 t
    match a with
    | ⟨0, _⟩ => show win0_1.index t (0 : Fin 2) * 108 + 1 * k.val = k.val; omega
    | ⟨1, _⟩ => show win0_1.index t (1 : Fin 2) * 128 + 1 * o.val = o.val; omega
  · intro o
    refine (congrArg (V c main_v714) ?_).trans (hb o)
    funext a; apply Fin.ext
    have h := e2 t
    match a with
    | ⟨0, _⟩ => show win0_2.index t (0 : Fin 3) * 1 + 1 * 0 = 0; omega
    | ⟨1, _⟩ => show win0_2.index t (1 : Fin 3) * 1 + 1 * 0 = 0; omega
    | ⟨2, _⟩ => show win0_2.index t (2 : Fin 3) * 128 + 1 * o.val = o.val; omega

set_option maxHeartbeats 1000000 in
/-- The second convolution's array. -/
theorem arr1 (c : Dev nD) (X : ℕ → Plane) (W : Taps) (B : ℕ → EReal)
    (hx : ∀ (n : Fin 16) (R C : Fin 60) (ch : Fin 128), V c main_v715 (ix4 n R C ch) = X n.val (ch.val % 32) (2 * R.val + (ch.val / 64 : ℕ) - 3) (2 * C.val + (ch.val / 32 % 2 : ℕ) - 3))
    (hw : ∀ (k : Fin 512) (o : Fin 64), V c main_v718 (ix2 k o) = W o.val (k.val % 32) ((2 * (k.val / 32 / 8) + (k.val / 32 / 2) % 2 : ℕ) : ℤ) ((2 * ((k.val / 32 / 4) % 2) + (k.val / 32) % 2 : ℕ) : ℤ))
    (hb : ∀ o : Fin 64, V c main_v719 (ix3 0 0 o) = B o.val) :
    (K1.dat (U := U) (Lvl := Lvl) Variants.none V D c).arrAt 3 cfg1.N
      = fun j : S16x29x29x256.Idx => K1.G (X (j 0).val) W B (ix4 0 (j 1) (j 2) (j 3)) := by
  have e0 : ∀ t : Fin cfg1.N, win1_0.index t (0 : Fin 4) = t.val ∧ win1_0.index t (1 : Fin 4) = 0 ∧ win1_0.index t (2 : Fin 4) = 0 ∧ win1_0.index t (3 : Fin 4) = 0 := (by decide +kernel : ∀ t : Fin grid1.N, _)
  have e1 : ∀ t : Fin cfg1.N, win1_1.index t (0 : Fin 2) = 0 ∧ win1_1.index t (1 : Fin 2) = 0 := (by decide +kernel : ∀ t : Fin grid1.N, _)
  have e2 : ∀ t : Fin cfg1.N, win1_2.index t (0 : Fin 3) = 0 ∧ win1_2.index t (1 : Fin 3) = 0 ∧ win1_2.index t (2 : Fin 3) = 0 := (by decide +kernel : ∀ t : Fin grid1.N, _)
  have e3 : ∀ t : Fin cfg1.N, win1_3.index t (0 : Fin 4) = t.val ∧ win1_3.index t (1 : Fin 4) = 0 ∧ win1_3.index t (2 : Fin 4) = 0 ∧ win1_3.index t (3 : Fin 4) = 0 := (by decide +kernel : ∀ t : Fin grid1.N, _)
  refine Pipeline.Dat.arrAt_eq_of_covers _ 3 _ (by decide +kernel) fun t hf y => ?_
  blk_simp
  rw [K1.after1_3]
  unfold K1.outsAt1
  rw [K1.out_apply _ c _ _ _ _ _ _ _ _ _ _ _ _ (X t.val) W B]
  · have h := e3 t
    simp only [K1.G]
    blk_simp [h.1, h.2.1, h.2.2.1, h.2.2.2]
  · intro R C ch
    refine (congrArg (V c main_v715) ?_).trans (hx ⟨t.val, t.isLt⟩ R C ch)
    funext a; apply Fin.ext
    have h := e0 t
    match a with
    | ⟨0, _⟩ => show win1_0.index t (0 : Fin 4) * 1 + 1 * 0 = t.val; omega
    | ⟨1, _⟩ => show win1_0.index t (1 : Fin 4) * 60 + 1 * R.val = R.val; omega
    | ⟨2, _⟩ => show win1_0.index t (2 : Fin 4) * 60 + 1 * C.val = C.val; omega
    | ⟨3, _⟩ => show win1_0.index t (3 : Fin 4) * 128 + 1 * ch.val = ch.val; omega
  · intro k o
    refine (congrArg (V c main_v718) ?_).trans (hw k o)
    funext a; apply Fin.ext
    have h := e1 t
    match a with
    | ⟨0, _⟩ => show win1_1.index t (0 : Fin 2) * 512 + 1 * k.val = k.val; omega
    | ⟨1, _⟩ => show win1_1.index t (1 : Fin 2) * 64 + 1 * o.val = o.val; omega
  · intro o
    refine (congrArg (V c main_v719) ?_).trans (hb o)
    funext a; apply Fin.ext
    have h := e2 t
    match a with
    | ⟨0, _⟩ => show win1_2.index t (0 : Fin 3) * 1 + 1 * 0 = 0; omega
    | ⟨1, _⟩ => show win1_2.index t (1 : Fin 3) * 1 + 1 * 0 = 0; omega
    | ⟨2, _⟩ => show win1_2.index t (2 : Fin 3) * 64 + 1 * o.val = o.val; omega

set_option maxHeartbeats 1000000 in
/-- The third convolution's array. -/
theorem arr2 (c : Dev nD) (X : ℕ → Plane) (W : Taps) (B : ℕ → EReal)
    (hx : ∀ (n : Fin 16) (R C : Fin 29) (ch : Fin 256), V c main_v720 (ix4 n R C ch) = X n.val (ch.val % 64) (2 * R.val + (ch.val / 128 : ℕ) - 1) (2 * C.val + (ch.val / 64 % 2 : ℕ) - 1))
    (hw : ∀ (k : Fin 1024) (o : Fin 64), V c main_v723 (ix2 k o) = W o.val (k.val % 64) ((2 * (k.val / 64 / 8) + (k.val / 64 / 2) % 2 : ℕ) : ℤ) ((2 * ((k.val / 64 / 4) % 2) + (k.val / 64) % 2 : ℕ) : ℤ))
    (hb : ∀ o : Fin 64, V c main_v724 (ix3 0 0 o) = B o.val) :
    (K2.dat (U := U) (Lvl := Lvl) Variants.none V D c).arrAt 3 cfg2.N
      = fun j : S16x28x28x64.Idx => K2.G (X (j 0).val) W B (ix4 0 (j 1) (j 2) (j 3)) := by
  have e0 : ∀ t : Fin cfg2.N, win2_0.index t (0 : Fin 4) = t.val ∧ win2_0.index t (1 : Fin 4) = 0 ∧ win2_0.index t (2 : Fin 4) = 0 ∧ win2_0.index t (3 : Fin 4) = 0 := (by decide +kernel : ∀ t : Fin grid2.N, _)
  have e1 : ∀ t : Fin cfg2.N, win2_1.index t (0 : Fin 2) = 0 ∧ win2_1.index t (1 : Fin 2) = 0 := (by decide +kernel : ∀ t : Fin grid2.N, _)
  have e2 : ∀ t : Fin cfg2.N, win2_2.index t (0 : Fin 3) = 0 ∧ win2_2.index t (1 : Fin 3) = 0 ∧ win2_2.index t (2 : Fin 3) = 0 := (by decide +kernel : ∀ t : Fin grid2.N, _)
  have e3 : ∀ t : Fin cfg2.N, win2_3.index t (0 : Fin 4) = t.val ∧ win2_3.index t (1 : Fin 4) = 0 ∧ win2_3.index t (2 : Fin 4) = 0 ∧ win2_3.index t (3 : Fin 4) = 0 := (by decide +kernel : ∀ t : Fin grid2.N, _)
  refine Pipeline.Dat.arrAt_eq_of_covers _ 3 _ (by decide +kernel) fun t hf y => ?_
  blk_simp
  rw [K2.after2_3]
  unfold K2.outsAt2
  rw [K2.out_apply _ c _ _ _ _ _ _ _ _ _ _ _ _ (X t.val) W B]
  · have h := e3 t
    simp only [K2.G]
    blk_simp [h.1, h.2.1, h.2.2.1, h.2.2.2]
  · intro R C ch
    refine (congrArg (V c main_v720) ?_).trans (hx ⟨t.val, t.isLt⟩ R C ch)
    funext a; apply Fin.ext
    have h := e0 t
    match a with
    | ⟨0, _⟩ => show win2_0.index t (0 : Fin 4) * 1 + 1 * 0 = t.val; omega
    | ⟨1, _⟩ => show win2_0.index t (1 : Fin 4) * 29 + 1 * R.val = R.val; omega
    | ⟨2, _⟩ => show win2_0.index t (2 : Fin 4) * 29 + 1 * C.val = C.val; omega
    | ⟨3, _⟩ => show win2_0.index t (3 : Fin 4) * 256 + 1 * ch.val = ch.val; omega
  · intro k o
    refine (congrArg (V c main_v723) ?_).trans (hw k o)
    funext a; apply Fin.ext
    have h := e1 t
    match a with
    | ⟨0, _⟩ => show win2_1.index t (0 : Fin 2) * 1024 + 1 * k.val = k.val; omega
    | ⟨1, _⟩ => show win2_1.index t (1 : Fin 2) * 64 + 1 * o.val = o.val; omega
  · intro o
    refine (congrArg (V c main_v724) ?_).trans (hb o)
    funext a; apply Fin.ext
    have h := e2 t
    match a with
    | ⟨0, _⟩ => show win2_2.index t (0 : Fin 3) * 1 + 1 * 0 = 0; omega
    | ⟨1, _⟩ => show win2_2.index t (1 : Fin 3) * 1 + 1 * 0 = 0; omega
    | ⟨2, _⟩ => show win2_2.index t (2 : Fin 3) * 64 + 1 * o.val = o.val; omega

/-- One image of the quantiser's input. -/
def image (A : S16x28x28x64.Idx → EReal) (n : Fin 16) : Vec Ideal S1x28x28x64 .f32 := fun j => A (ix4 n (j 1) (j 2) (j 3))

set_option maxHeartbeats 1000000 in
/-- The quantiser's input block at a point is that image. -/
theorem iblk3_0 (c : Dev nD) (t : Fin cfg3.N) : K3.iblk V c 0 t = image (V c main_v725) ⟨t.val, t.isLt⟩ := by
  have e0 : ∀ t : Fin cfg3.N, win3_0.index t (0 : Fin 4) = t.val ∧ win3_0.index t (1 : Fin 4) = 0 ∧ win3_0.index t (2 : Fin 4) = 0 ∧ win3_0.index t (3 : Fin 4) = 0 := (by decide +kernel : ∀ t : Fin grid3.N, _)
  funext j
  show V c main_v725 _ = V c main_v725 _
  refine congrArg (V c main_v725) ?_
  funext a; apply Fin.ext
  have h := e0 t
  match a with
  | ⟨0, _⟩ =>
    have : (j 0).val < 1 := (j 0).isLt
    show win3_0.index t (0 : Fin 4) * 1 + 1 * (j 0).val = t.val
    omega
  | ⟨1, _⟩ => show win3_0.index t (1 : Fin 4) * 28 + 1 * (j 1).val = (j 1).val; omega
  | ⟨2, _⟩ => show win3_0.index t (2 : Fin 4) * 28 + 1 * (j 2).val = (j 2).val; omega
  | ⟨3, _⟩ => show win3_0.index t (3 : Fin 4) * 64 + 1 * (j 3).val = (j 3).val; omega

set_option maxHeartbeats 1000000 in
/-- Its codebook block is the codebook. -/
theorem iblk3_1 (c : Dev nD) (t : Fin cfg3.N) : K3.iblk V c 1 t = V c main_arg7 := by
  have e1 : ∀ t : Fin cfg3.N, win3_1.index t (0 : Fin 2) = 0 ∧ win3_1.index t (1 : Fin 2) = 0 := (by decide +kernel : ∀ t : Fin grid3.N, _)
  funext j
  show V c main_arg7 _ = V c main_arg7 _
  refine congrArg (V c main_arg7) ?_
  funext a; apply Fin.ext
  have h := e1 t
  match a with
  | ⟨0, _⟩ => show win3_1.index t (0 : Fin 2) * 512 + 1 * (j 0).val = (j 0).val; omega
  | ⟨1, _⟩ => show win3_1.index t (1 : Fin 2) * 64 + 1 * (j 1).val = (j 1).val; omega

set_option maxHeartbeats 1000000 in
/-- The quantiser's first array: the codes nearest to the positions of each image, with a border of zeros. -/
theorem arr3q (c : Dev nD) :
    (K3.dat (U := U) (Lvl := Lvl) Variants.none V D c).arrAt 2 cfg3.N
      = fun j : S16x30x30x64.Idx => K3.Gq (image (V c main_v725) (j 0)) (V c main_arg7) (ix4 0 (j 1) (j 2) (j 3)) := by
  have e2 : ∀ t : Fin cfg3.N, win3_2.index t (0 : Fin 4) = t.val ∧ win3_2.index t (1 : Fin 4) = 0 ∧ win3_2.index t (2 : Fin 4) = 0 ∧ win3_2.index t (3 : Fin 4) = 0 := (by decide +kernel : ∀ t : Fin grid3.N, _)
  refine Pipeline.Dat.arrAt_eq_of_covers _ 2 _ (by decide +kernel) fun t hf y => ?_
  rw [K3.after3_2]
  unfold K3.outsAt3
  have hy : ((cfg3.win 2).blk t).view.emb y = ix4 (⟨t.val, t.isLt⟩ : Fin 16) (y 1) (y 2) (y 3) := by
    funext a; apply Fin.ext
    have h := e2 t
    match a with
    | ⟨0, _⟩ =>
      have : (y 0).val < 1 := (y 0).isLt
      show win3_2.index t (0 : Fin 4) * 1 + 1 * (y 0).val = t.val
      omega
    | ⟨1, _⟩ => show win3_2.index t (1 : Fin 4) * 30 + 1 * (y 1).val = (y 1).val; omega
    | ⟨2, _⟩ => show win3_2.index t (2 : Fin 4) * 30 + 1 * (y 2).val = (y 2).val; omega
    | ⟨3, _⟩ => show win3_2.index t (3 : Fin 4) * 64 + 1 * (y 3).val = (y 3).val; omega
  refine Eq.trans ?_ (congrArg (fun j : S16x30x30x64.Idx => K3.Gq (image (V c main_v725) (j 0)) (V c main_arg7) (ix4 0 (j 1) (j 2) (j 3))) hy.symm)
  refine (K3.out_q_apply (Ix := Ix) (U := U) (Lvl := Lvl) Variants.none c (grid3.coords t) (K3.ms3_0 t) (K3.hs3_0 t) (K3.ms3_1 t) (K3.hs3_1 t) (K3.ms3_2 t) (K3.hs3_2 t) (K3.ms3_3 t) (K3.hs3_3 t) (K3.iblk V c 0 t) (K3.iblk V c 1 t) y).trans ?_
  rw [iblk3_0, iblk3_1]
  rfl

set_option maxHeartbeats 1000000 in
/-- Its second array: in every entry of an image's row the image's summed squared distances. -/
theorem arr3p (c : Dev nD) :
    (K3.dat (U := U) (Lvl := Lvl) Variants.none V D c).arrAt 3 cfg3.N
      = fun j : S16x1x128.Idx => ∑ r : Fin 28, ∑ w : Fin 28,
          dist (K3.pos (image (V c main_v725) (j 0)) r w) (K3.code (V c main_arg7) (K3.near (V c main_arg7) (K3.pos (image (V c main_v725) (j 0)) r w)))
          * dist (K3.pos (image (V c main_v725) (j 0)) r w) (K3.code (V c main_arg7) (K3.near (V c main_arg7) (K3.pos (image (V c main_v725) (j 0)) r w))) := by
  have e3 : ∀ t : Fin cfg3.N, win3_3.index t (0 : Fin 3) = t.val ∧ win3_3.index t (1 : Fin 3) = 0 ∧ win3_3.index t (2 : Fin 3) = 0 := (by decide +kernel : ∀ t : Fin grid3.N, _)
  refine Pipeline.Dat.arrAt_eq_of_covers _ 3 _ (by decide +kernel) fun t hf y => ?_
  rw [K3.after3_3]
  unfold K3.outsAt3
  have hy : (((cfg3.win 3).blk t).view.emb y) (0 : Fin 3) = (⟨t.val, t.isLt⟩ : Fin 16) := by
    apply Fin.ext
    have : (y 0).val < 1 := (y 0).isLt
    show win3_3.index t (0 : Fin 3) * 1 + 1 * (y 0).val = t.val
    have h := e3 t
    omega
  refine (K3.out_p_apply (Ix := Ix) (U := U) (Lvl := Lvl) Variants.none c (grid3.coords t) (K3.ms3_0 t) (K3.hs3_0 t) (K3.ms3_1 t) (K3.hs3_1 t) (K3.ms3_2 t) (K3.hs3_2 t) (K3.ms3_3 t) (K3.hs3_3 t) (K3.iblk V c 0 t) (K3.iblk V c 1 t) y).trans ?_
  rw [iblk3_0, iblk3_1, ← hy]

end Cert.KernelIdeal.Own

end
-- ==== Proof.KEnc.lean ====
/- What the encoder's regions and the quantiser leave, as the layers of the launch's image and weights. -/
module

public import proofs.«01_k».proof.Proof.Arr
public import proofs.«01_k».proof.Proof.HostIn
public import proofs.«01_k».proof.Proof.RunIdeal

@[expose] public section

noncomputable section

namespace Cert.KernelIdeal.Own

open Cert.KernelIdeal Cert.KernelIdeal.Gen Cert.Spec
open Idealize.ShloMosaic Idealize.ShloMosaic.TcCoe Idealize.SL.Sem

variable (m : (ℓ : Loc nD τ sig) → Buf (Elt Ideal) ℓ) (c : Dev nD)

/-- The first layer of image `n`. -/
def lay1 (n : ℕ) : Plane := layer 112 3 (planes (m ((c : Thread nD τ).loc main_arg0)) n) (taps (m ((c : Thread nD τ).loc main_arg1))) (vec (m ((c : Thread nD τ).loc main_arg2)))
/-- The second layer of image `n`. -/
def lay2 (n : ℕ) : Plane := layer 56 32 (lay1 m c n) (taps (m ((c : Thread nD τ).loc main_arg3))) (vec (m ((c : Thread nD τ).loc main_arg4)))
/-- The third layer of image `n`. -/
def lay3 (n : ℕ) : Plane := layer 28 64 (lay2 m c n) (taps (m ((c : Thread nD τ).loc main_arg5))) (vec (m ((c : Thread nD τ).loc main_arg6)))

theorem V1_line1 : V2 m c main_v1 = bordered (m ((c : Thread nD τ).loc main_arg0)) (sitofp (F := Ideal) .f32 (constantI S_ 32 0#32)) := by
  show StableHlo.after hostOps0_1 (StableHlo.after hostOps0 (V0 m c)) main_v1 = _
  sl_kernel_rfl

theorem zero_word (j : S_.Idx) : (sitofp (F := Ideal) .f32 (constantI S_ 32 0#32)) j = 0 := by
  show (((0#32 : BitVec 32).toInt : ℝ) : EReal) = 0
  rw [show (0#32 : BitVec 32).toInt = 0 from by decide]; simp

theorem V2_arg1 : V2 m c main_arg1 = m ((c : Thread nD τ).loc main_arg1) :=
  (V2_of m c main_arg1 (by decide)).trans (V1_of m c main_arg1 (by decide))
theorem V2_arg2 : V2 m c main_arg2 = m ((c : Thread nD τ).loc main_arg2) :=
  (V2_of m c main_arg2 (by decide)).trans (V1_of m c main_arg2 (by decide))

/-- The first region's array. -/
theorem enc1 : outs m 4 main_v715 c = fun j : S16x60x60x128.Idx =>
    K0.G (planes (m ((c : Thread nD τ).loc main_arg0)) (j 0).val) (taps (m ((c : Thread nD τ).loc main_arg1))) (vec (m ((c : Thread nD τ).loc main_arg2))) (ix4 0 (j 1) (j 2) (j 3)) := by
  rw [out0]
  refine arr0 (Ve0 m) noDebt c (planes (m ((c : Thread nD τ).loc main_arg0))) (taps (m ((c : Thread nD τ).loc main_arg1))) (vec (m ((c : Thread nD τ).loc main_arg2))) ?_ ?_ ?_ ?_
  · exact fun o c a b h => taps_out _ (fun H => h ⟨H.1, H.2.1, H.2.2.1, H.2.2.2⟩)
  · intro n R C ch
    show StableHlo.after hostOps0_2 (V2 m c) main_v4 _ = _
    rw [line4, blocks_apply, V1_line1, bordered_apply _ _ zero_word, planes_eq]
    refine plane_congr _ rfl ?_ ?_ <;> (push_cast; rfl)
  · intro k o
    show StableHlo.after hostOps0_2 (V2 m c) main_v710 _ = _
    rw [weights1, V2_arg1]
  · intro o
    show StableHlo.after hostOps0_2 (V2 m c) main_v714 _ = _
    rw [line714, bias1_apply, V2_arg2]

theorem V3_arg (r : Ref sig .tc) (h : r ∉ hostOps0_W) (h' : r ∉ hostOps0_1_W) (h'' : r ∉ hostOps0_2_W) : V3 m c r = m ((c : Thread nD τ).loc r) :=
  (V3_of m c r h'').trans ((V2_of m c r h').trans (V1_of m c r h))

/-- The second region's array. -/
theorem enc2 : outs m 6 main_v720 c = fun j : S16x29x29x256.Idx =>
    K1.G (lay1 m c (j 0).val) (taps (m ((c : Thread nD τ).loc main_arg3))) (vec (m ((c : Thread nD τ).loc main_arg4))) (ix4 0 (j 1) (j 2) (j 3)) := by
  rw [out1]
  refine arr1 (Ve1 m (outs m)) noDebt c (lay1 m c) (taps (m ((c : Thread nD τ).loc main_arg3))) (vec (m ((c : Thread nD τ).loc main_arg4))) ?_ ?_ ?_
  · intro n R C ch
    rw [show Ve1 m (outs m) c main_v715 = outs m 4 main_v715 c from (V5_of m (outs m) c main_v715 (by decide)).trans (V4_at_main_v715 m (outs m) c), enc1]
    rfl
  · intro k o
    have e : Ve1 m (outs m) c main_v718 = shapeCast S512x64 (transpose S2x2x2x2x32x64 [2, 4, 3, 5, 1, 0] (shapeCast S64x32x2x2x2x2 (V4 m (outs m) c main_arg3) shapeCasts_S64x32x4x4_S64x32x2x2x2x2) transposes_S64x32x2x2x2x2_S2x2x2x2x32x64_2_4_3_5_1_0) shapeCasts_S2x2x2x2x32x64_S512x64 := by
      show StableHlo.after hostOps1 (V4 m (outs m) c) main_v718 = _
      sl_kernel_rfl
    rw [e, weights2_apply, show V4 m (outs m) c main_arg3 = _ from (V4_of m (outs m) c main_arg3 (by decide)).trans (V3_arg m c main_arg3 (by decide) (by decide) (by decide))]
  · intro o
    have e : Ve1 m (outs m) c main_v719 = shapeCast S1x1x64 (V4 m (outs m) c main_arg4) shapeCasts_S64_S1x1x64 := by
      show StableHlo.after hostOps1 (V4 m (outs m) c) main_v719 = _
      sl_kernel_rfl
    rw [e, bias2_apply, show V4 m (outs m) c main_arg4 = _ from (V4_of m (outs m) c main_arg4 (by decide)).trans (V3_arg m c main_arg4 (by decide) (by decide) (by decide))]

theorem V6_arg (r : Ref sig .tc) (h : r ∉ hostOps0_W) (h' : r ∉ hostOps0_1_W) (h'' : r ∉ hostOps0_2_W) (h3 : r ∉ ([main_v715] : List (Ref sig .tc)))
    (h4 : r ∉ hostOps1_W) (h5 : r ∉ ([main_v720] : List (Ref sig .tc))) : V6 m (outs m) c r = m ((c : Thread nD τ).loc r) :=
  (V6_of m (outs m) c r h5).trans ((V5_of m (outs m) c r h4).trans ((V4_of m (outs m) c r h3).trans (V3_arg m c r h h' h'')))

/-- The third region's array. -/
theorem enc3 : outs m 8 main_v725 c = fun j : S16x28x28x64.Idx => lay3 m c (j 0).val (j 3).val (j 1).val (j 2).val := by
  rw [out2]
  refine (arr2 (Ve2 m (outs m)) noDebt c (lay2 m c) (taps (m ((c : Thread nD τ).loc main_arg5))) (vec (m ((c : Thread nD τ).loc main_arg6))) ?_ ?_ ?_).trans rfl
  · intro n R C ch
    rw [show Ve2 m (outs m) c main_v720 = outs m 6 main_v720 c from (V7_of m (outs m) c main_v720 (by decide)).trans (V6_at_main_v720 m (outs m) c), enc2]
    rfl
  · intro k o
    have e : Ve2 m (outs m) c main_v723 = shapeCast S1024x64 (transpose S2x2x2x2x64x64 [2, 4, 3, 5, 1, 0] (shapeCast S64x64x2x2x2x2 (V6 m (outs m) c main_arg5) shapeCasts_S64x64x4x4_S64x64x2x2x2x2) transposes_S64x64x2x2x2x2_S2x2x2x2x64x64_2_4_3_5_1_0) shapeCasts_S2x2x2x2x64x64_S1024x64 := by
      show StableHlo.after hostOps2 (V6 m (outs m) c) main_v723 = _
      sl_kernel_rfl
    rw [e, weights3_apply, V6_arg m c main_arg5 (by decide) (by decide) (by decide) (by decide) (by decide) (by decide)]
  · intro o
    have e : Ve2 m (outs m) c main_v724 = shapeCast S1x1x64 (V6 m (outs m) c main_arg6) shapeCasts_S64_S1x1x64 := by
      show StableHlo.after hostOps2 (V6 m (outs m) c) main_v724 = _
      sl_kernel_rfl
    rw [e, bias2_apply, V6_arg m c main_arg6 (by decide) (by decide) (by decide) (by decide) (by decide) (by decide)]

/-- The codes. -/
abbrev codes : Vec Ideal S512x64 .f32 := m ((c : Thread nD τ).loc main_arg7)
/-- An encoded position's vector. -/
def vecAt (n : Fin 16) (r w : Fin 28) : Fin 64 → EReal := fun o => lay3 m c n.val o.val r.val w.val

theorem Ve3_in : Ve3 m (outs m) c main_v725 = fun j : S16x28x28x64.Idx => lay3 m c (j 0).val (j 3).val (j 1).val (j 2).val :=
  (V8_at_main_v725 m (outs m) c).trans (enc3 m c)
theorem Ve3_codes : Ve3 m (outs m) c main_arg7 = codes m c :=
  (V8_of m (outs m) c main_arg7 (by decide)).trans ((V7_of m (outs m) c main_arg7 (by decide)).trans
    (V6_arg m c main_arg7 (by decide) (by decide) (by decide) (by decide) (by decide) (by decide)))

/-- The quantiser's sums: of each image, the squared distances to the nearest codes. -/
theorem encP : outs m 9 main_v726_1 c = fun j : S16x1x128.Idx => ∑ r : Fin 28, ∑ w : Fin 28,
    dist (vecAt m c (j 0) r w) (K3.code (codes m c) (K3.near (codes m c) (vecAt m c (j 0) r w)))
      * dist (vecAt m c (j 0) r w) (K3.code (codes m c) (K3.near (codes m c) (vecAt m c (j 0) r w))) := by
  rw [out3p]
  refine (arr3p (Ve3 m (outs m)) noDebt c).trans ?_
  rw [Ve3_in, Ve3_codes]
  rfl

/-- The quantiser's codes, with a border of zeros. -/
theorem encQ : outs m 9 main_v726_0 c = fun j : S16x30x30x64.Idx =>
    if H : (1 ≤ (j 1).val ∧ (j 1).val - 1 < 28) ∧ (1 ≤ (j 2).val ∧ (j 2).val - 1 < 28) then
      K3.code (codes m c) (K3.near (codes m c) (vecAt m c (j 0) ⟨(j 1).val - 1, H.1.2⟩ ⟨(j 2).val - 1, H.2.2⟩)) (j 3) else 0 := by
  rw [out3q]
  refine (arr3q (Ve3 m (outs m)) noDebt c).trans ?_
  rw [Ve3_in, Ve3_codes]
  rfl

end Cert.KernelIdeal.Own
-- ==== Proof.KDec.lean ====
/- What the decoder's regions leave, as the layers of the codes and the launch's weights. -/
module

public import proofs.«01_k».proof.Proof.ArrDec
public import proofs.«01_k».proof.Proof.HostDec
public import proofs.«01_k».proof.Proof.KEnc

@[expose] public section

noncomputable section

namespace Cert.KernelIdeal.Own

open Cert.KernelIdeal Cert.KernelIdeal.Gen Cert.Spec
open Idealize.ShloMosaic Idealize.ShloMosaic.TcCoe Idealize.SL.Sem

variable (m : (ℓ : Loc nD τ sig) → Buf (Elt Ideal) ℓ) (c : Dev nD)

/-- The codes nearest to the encoded vectors. -/
def quant : (⟨4, ![16, 64, 28, 28]⟩ : Shape).Idx → EReal := fun i =>
  K3.code (codes m c) (K3.near (codes m c) (vecAt m c (i 0) (i 2) (i 3))) (i 1)

/-- The first decoded layer of image `n`. -/
def up1 (n : ℕ) : Plane := dlayer 56 64 (planes (quant m c) n) (taps (m ((c : Thread nD τ).loc main_arg8))) (vec (m ((c : Thread nD τ).loc main_arg9)))
/-- The second decoded layer of image `n`. -/
def up2 (n : ℕ) : Plane := dlayer 112 64 (up1 m c n) (taps (m ((c : Thread nD τ).loc main_arg10))) (vec (m ((c : Thread nD τ).loc main_arg11)))

theorem V9_arg (r : Ref sig .tc) (h : r ∉ hostOps0_W) (h' : r ∉ hostOps0_1_W) (h'' : r ∉ hostOps0_2_W) (h3 : r ∉ ([main_v715] : List (Ref sig .tc)))
    (h4 : r ∉ hostOps1_W) (h5 : r ∉ ([main_v720] : List (Ref sig .tc))) (h6 : r ∉ hostOps2_W) (h7 : r ∉ ([main_v725] : List (Ref sig .tc)))
    (h8 : r ∉ ([main_v726_0, main_v726_1] : List (Ref sig .tc))) : V9 m (outs m) c r = m ((c : Thread nD τ).loc r) :=
  (V9_of m (outs m) c r h8).trans ((V8_of m (outs m) c r h7).trans ((V7_of m (outs m) c r h6).trans (V6_arg m c r h h' h'' h3 h4 h5)))

theorem V9_arg8 : V9 m (outs m) c main_arg8 = m ((c : Thread nD τ).loc main_arg8) := by
  apply V9_arg <;> decide
theorem V9_arg9 : V9 m (outs m) c main_arg9 = m ((c : Thread nD τ).loc main_arg9) := by
  apply V9_arg <;> decide
theorem V11_arg10 : V11 m (outs m) c main_arg10 = m ((c : Thread nD τ).loc main_arg10) :=
  (V11_of m (outs m) c main_arg10 (by decide)).trans ((V10_of m (outs m) c main_arg10 (by decide)).trans (by apply V9_arg <;> decide))
theorem V11_arg11 : V11 m (outs m) c main_arg11 = m ((c : Thread nD τ).loc main_arg11) :=
  (V11_of m (outs m) c main_arg11 (by decide)).trans ((V10_of m (outs m) c main_arg11 (by decide)).trans (by apply V9_arg <;> decide))
theorem V13_arg12 : V13 m (outs m) c main_arg12 = m ((c : Thread nD τ).loc main_arg12) :=
  (V13_of m (outs m) c main_arg12 (by decide)).trans ((V12_of m (outs m) c main_arg12 (by decide)).trans
    ((V11_of m (outs m) c main_arg12 (by decide)).trans ((V10_of m (outs m) c main_arg12 (by decide)).trans (by apply V9_arg <;> decide))))
theorem V13_arg13 : V13 m (outs m) c main_arg13 = m ((c : Thread nD τ).loc main_arg13) :=
  (V13_of m (outs m) c main_arg13 (by decide)).trans ((V12_of m (outs m) c main_arg13 (by decide)).trans
    ((V11_of m (outs m) c main_arg13 (by decide)).trans ((V10_of m (outs m) c main_arg13 (by decide)).trans (by apply V9_arg <;> decide))))

/-- A plane with a border of zeros, read at a place counted from the border. -/
theorem bordered_plane (E : Vec Ideal S512x64 .f32) (v : Fin 16 → Fin 28 → Fin 28 → Fin 64 → EReal) (n : Fin 16) (R C : Fin 30) (ch : Fin 64) :
    (if H : (1 ≤ R.val ∧ R.val - 1 < 28) ∧ (1 ≤ C.val ∧ C.val - 1 < 28) then
        K3.code E (K3.near E (v n ⟨R.val - 1, H.1.2⟩ ⟨C.val - 1, H.2.2⟩)) ch else 0)
      = plane (fun i : (⟨4, ![16, 64, 28, 28]⟩ : Shape).Idx => K3.code E (K3.near E (v (i 0) (i 2) (i 3))) (i 1)) n ch.val ((R.val : ℤ) - 1) ((C.val : ℤ) - 1) := by
  split
  · rename_i H
    have hR : (R.val : ℤ) - 1 = ((R.val - 1 : ℕ) : ℤ) := by have := H.1.1; omega
    have hC : (C.val : ℤ) - 1 = ((C.val - 1 : ℕ) : ℤ) := by have := H.2.1; omega
    exact (plane_eq (fun i : (⟨4, ![16, 64, 28, 28]⟩ : Shape).Idx => K3.code E (K3.near E (v (i 0) (i 2) (i 3))) (i 1)) n ch ⟨R.val - 1, H.1.2⟩ ⟨C.val - 1, H.2.2⟩ rfl hR hC).symm
  · rename_i H
    exact (plane_out _ n (by omega)).symm

theorem Ve4_in (n : Fin 16) (R C : Fin 30) (ch : Fin 64) :
    Ve4 m (outs m) c main_v726_0 (ix4 n R C ch) = planes (quant m c) n.val ch.val ((R.val : ℤ) - 1) ((C.val : ℤ) - 1) := by
  rw [show Ve4 m (outs m) c main_v726_0 = outs m 9 main_v726_0 c from (V10_of m (outs m) c main_v726_0 (by decide)).trans (V9_at_main_v726_0 m (outs m) c), encQ, planes_eq]
  exact bordered_plane (codes m c) (vecAt m c) n R C ch

/-- The first decoded region's array. -/
theorem dec1 : outs m 11 main_v777 c = fun j : S16x58x58x64.Idx =>
    K4.G (planes (quant m c) (j 0).val) (taps (m ((c : Thread nD τ).loc main_arg8))) (vec (m ((c : Thread nD τ).loc main_arg9))) (ix4 0 (j 1) (j 2) (j 3)) := by
  rw [out4]
  refine arr4 (Ve4 m (outs m)) noDebt c (planes (quant m c)) (taps (m ((c : Thread nD τ).loc main_arg8))) (vec (m ((c : Thread nD τ).loc main_arg9))) (Ve4_in m c) ?_ ?_
  · intro p q k o
    show StableHlo.after hostOps4 (V9 m (outs m) c) main_v775 _ = _
    rw [weights4, V9_arg8]
  · intro o
    show StableHlo.after hostOps4 (V9 m (outs m) c) main_v776 _ = _
    rw [bias4, V9_arg9]

/-- The second decoded region's array. -/
theorem dec2 : outs m 13 main_v824 c = fun j : S16x57x57x128.Idx =>
    K5.G (up1 m c (j 0).val) (taps (m ((c : Thread nD τ).loc main_arg10))) (vec (m ((c : Thread nD τ).loc main_arg11))) (ix4 0 (j 1) (j 2) (j 3)) := by
  rw [out5]
  refine arr5 (Ve5 m (outs m)) noDebt c (up1 m c) (taps (m ((c : Thread nD τ).loc main_arg10))) (vec (m ((c : Thread nD τ).loc main_arg11))) ?_ ?_ ?_
  · intro n R C ch
    rw [show Ve5 m (outs m) c main_v777 = outs m 11 main_v777 c from (V12_of m (outs m) c main_v777 (by decide)).trans (V11_at_out m (outs m) c), dec1]
    rfl
  · intro p q k o
    show StableHlo.after hostOps5 (V11 m (outs m) c) main_v822 _ = _
    rw [weights5, V11_arg10]
  · intro o
    show StableHlo.after hostOps5 (V11 m (outs m) c) main_v823 _ = _
    rw [bias5, V11_arg11]

/-- The third decoded region's array. -/
theorem dec3 : outs m 15 main_v1599 c = fun j : S16x56x56x48.Idx =>
    K6.G (up2 m c (j 0).val) (taps (m ((c : Thread nD τ).loc main_arg12))) (vec (m ((c : Thread nD τ).loc main_arg13))) (ix4 0 (j 1) (j 2) (j 3)) := by
  rw [out6]
  refine arr6 (Ve6 m (outs m)) noDebt c (up2 m c) (taps (m ((c : Thread nD τ).loc main_arg12))) (vec (m ((c : Thread nD τ).loc main_arg13))) ?_ ?_ ?_ ?_
  · exact fun o c a b h => taps_out _ (fun H => h ⟨H.1, H.2.1, H.2.2.1, H.2.2.2⟩)
  · intro n R C ch
    rw [show Ve6 m (outs m) c main_v824 = outs m 13 main_v824 c from (V14_of m (outs m) c main_v824 (by decide)).trans (V13_at_out m (outs m) c), dec2]
    rfl
  · intro k o
    show StableHlo.after hostOps6 (V13 m (outs m) c) main_v1594 _ = _
    rw [D3.weights6, V13_arg12]
  · intro o
    show StableHlo.after hostOps6 (V13 m (outs m) c) main_v1598 _ = _
    rw [bias6, V13_arg13]

theorem V15_at_out : V15 m (outs m) c (Proc.devRef .tc main_v1599) = outs m 15 main_v1599 c := Function.update_self ..

/-- The kernel's image. -/
theorem kernel_y (n : Fin 16) (o : Fin 3) (h w : Fin 224) : V16 m (outs m) c main_v1602 (ix4 n o h w)
    = Ideal.logistic (decAt 32 (up2 m c n.val) (taps (m ((c : Thread nD τ).loc main_arg12))) o.val h.val w.val + vec (m ((c : Thread nD τ).loc main_arg13)) o.val) := by
  show StableHlo.after hostOps7 (V15 m (outs m) c) main_v1602 (ix4 n o h w) = _
  rw [line1602, pixels_apply, V15_at_out, dec3]
  have ho := o.isLt
  have a1 : (h.val / 2 % 2 * 24 + w.val / 2 % 2 * 12 + h.val % 2 * 6 + w.val % 2 * 3 + o.val) % 3 = o.val := by omega
  have a2 : (4 * (h.val / 4) + 2 * ((h.val / 2 % 2 * 24 + w.val / 2 % 2 * 12 + h.val % 2 * 6 + w.val % 2 * 3 + o.val) / 24) + (h.val / 2 % 2 * 24 + w.val / 2 % 2 * 12 + h.val % 2 * 6 + w.val % 2 * 3 + o.val) / 6 % 2 : ℕ) = h.val := by omega
  have a3 : (4 * (w.val / 4) + 2 * ((h.val / 2 % 2 * 24 + w.val / 2 % 2 * 12 + h.val % 2 * 6 + w.val % 2 * 3 + o.val) / 12 % 2) + (h.val / 2 % 2 * 24 + w.val / 2 % 2 * 12 + h.val % 2 * 6 + w.val % 2 * 3 + o.val) / 3 % 2 : ℕ) = w.val := by omega
  refine congrArg Ideal.logistic (congr (congrArg _ ?_) (congrArg (vec (m ((c : Thread nD τ).loc main_arg13))) a1))
  exact congr (congr (congrArg (decAt 32 (up2 m c n.val) (taps (m ((c : Thread nD τ).loc main_arg12)))) a1)
    (by rw [← congrArg (Nat.cast (R := ℤ)) a2]; push_cast; rfl)) (by rw [← congrArg (Nat.cast (R := ℤ)) a3]; push_cast; rfl)

end Cert.KernelIdeal.Own
-- ==== Proof.RefConv.lean ====
/- The reference's convolutions, as sums over a window. -/
module

public import proofs.«01_k».proof.Proof.RefOps
public import proofs.«01_k».proof.Proof.Spec
public import Idealize.ShloMosaic.Lib.Pointwise

@[expose] public section

noncomputable section

namespace Cert.ReferenceIdeal.Value

open Cert.ReferenceIdeal Cert.ReferenceIdeal.Gen Idealize.ShloMosaic Idealize.ShloMosaic.TcCoe Cert.Spec

/-- A product contracting a window's rows, its columns and the channels, read at an index. -/
theorem windowDot_apply {n c h w o : ℕ} (wf : DotDims.WF ⟨6, ![n, c, 4, 4, h, w]⟩ ⟨4, ![o, c, 4, 4]⟩ ⟨4, ![n, h, w, o]⟩ [2, 3, 1] [2, 3, 1] [0, 4, 5] [0] [] [])
    (prec : Option ContractPrecision) (L : FVec Ideal ⟨6, ![n, c, 4, 4, h, w]⟩ .f32) (R : FVec Ideal ⟨4, ![o, c, 4, 4]⟩ .f32)
    (i0 : Fin n) (i1 : Fin h) (i2 : Fin w) (i3 : Fin o) :
    Host.dotGeneral (⟨[2, 3, 1], [2, 3, 1], [0, 4, 5], [0], [], [], wf⟩ : DotDims _ _ _) prec L R (ix4 i0 i1 i2 i3)
      = ∑ a : Fin 4, ∑ b : Fin 4, ∑ k : Fin c, L (ix6 i0 k a b i1 i2) * R (ix4 i3 k a b) := by
  let D : DotDims ⟨6, ![n, c, 4, 4, h, w]⟩ ⟨4, ![o, c, 4, 4]⟩ ⟨4, ![n, h, w, o]⟩ := ⟨[2, 3, 1], [2, 3, 1], [0, 4, 5], [0], [], [], wf⟩
  let e : Fin 4 × Fin 4 × Fin c ≃ D.contr.Idx :=
    { toFun := fun k => fun | ⟨0, _⟩ => k.1 | ⟨1, _⟩ => k.2.1 | ⟨2, _⟩ => k.2.2
      invFun := fun j => (j ⟨0, show 0 < 3 by decide⟩, j ⟨1, show 1 < 3 by decide⟩, j ⟨2, show 2 < 3 by decide⟩)
      left_inv := fun _ => rfl
      right_inv := fun j => by
        funext a
        match a with
        | ⟨0, _⟩ => rfl
        | ⟨1, _⟩ => rfl
        | ⟨2, _⟩ => rfl }
  show FloatOps.dotGeneral D prec _ L R (ix4 i0 i1 i2 i3) = _
  rw [Ideal.dotGeneral_apply, ← Equiv.sum_comp e]
  simp only [Fintype.sum_prod_type]
  refine Finset.sum_congr rfl fun a _ => Finset.sum_congr rfl fun b _ => Finset.sum_congr rfl fun k _ => ?_
  have hl : D.lhsIdx (ix4 i0 i1 i2 i3) (e (a, b, k)) = ix6 i0 k a b i1 i2 := by
    funext ax
    match ax with
    | ⟨0, _⟩ => rfl
    | ⟨1, _⟩ => rfl
    | ⟨2, _⟩ => rfl
    | ⟨3, _⟩ => rfl
    | ⟨4, _⟩ => rfl
    | ⟨5, _⟩ => rfl
  have hr : D.rhsIdx (ix4 i0 i1 i2 i3) (e (a, b, k)) = ix4 i3 k a b := by
    funext ax
    match ax with
    | ⟨0, _⟩ => rfl
    | ⟨1, _⟩ => rfl
    | ⟨2, _⟩ => rfl
    | ⟨3, _⟩ => rfl
  rw [hl, hr]

/-- Layer 1's windows' columns, laid out beside their rows. -/
def cols1 (x : Vec Ideal S16x3x4x112x226 .f32) : Vec Ideal S16x3x4x4x112x112 .f32 :=
  ((concatenate S16x3x4x4x112x112 3 [⟨S16x3x4x1x112x112, ((broadcastInDim S16x3x4x1x112x112 ![0, 1, 2, 4, 5] bcast_S16x3x4x112x112_S16x3x4x1x112x112_0_1_2_4_5 (Host.slice S16x3x4x112x112 ![0, 0, 0, 0, 0] ![1, 1, 1, 1, 2] x slicesBy_S16x3x4x112x226_S16x3x4x112x112_0s1_0s1_0s1_0s1_0s2)) : (⟨S16x3x4x1x112x112, .f32⟩ : BufTy).Contents (Elt Ideal))⟩, ⟨S16x3x4x1x112x112, ((broadcastInDim S16x3x4x1x112x112 ![0, 1, 2, 4, 5] bcast_S16x3x4x112x112_S16x3x4x1x112x112_0_1_2_4_5 (Host.slice S16x3x4x112x112 ![0, 0, 0, 0, 1] ![1, 1, 1, 1, 2] x slicesBy_S16x3x4x112x226_S16x3x4x112x112_0s1_0s1_0s1_0s1_1s2)) : (⟨S16x3x4x1x112x112, .f32⟩ : BufTy).Contents (Elt Ideal))⟩, ⟨S16x3x4x1x112x112, ((broadcastInDim S16x3x4x1x112x112 ![0, 1, 2, 4, 5] bcast_S16x3x4x112x112_S16x3x4x1x112x112_0_1_2_4_5 (Host.slice S16x3x4x112x112 ![0, 0, 0, 0, 2] ![1, 1, 1, 1, 2] x slicesBy_S16x3x4x112x226_S16x3x4x112x112_0s1_0s1_0s1_0s1_2s2)) : (⟨S16x3x4x1x112x112, .f32⟩ : BufTy).Contents (Elt Ideal))⟩, ⟨S16x3x4x1x112x112, ((broadcastInDim S16x3x4x1x112x112 ![0, 1, 2, 4, 5] bcast_S16x3x4x112x112_S16x3x4x1x112x112_0_1_2_4_5 (Host.slice S16x3x4x112x112 ![0, 0, 0, 0, 3] ![1, 1, 1, 1, 2] x slicesBy_S16x3x4x112x226_S16x3x4x112x112_0s1_0s1_0s1_0s1_3s2)) : (⟨S16x3x4x1x112x112, .f32⟩ : BufTy).Contents (Elt Ideal))⟩] concatenates_S16x3x4x1x112x112_S16x3x4x1x112x112_S16x3x4x1x112x112_S16x3x4x1x112x112_S16x3x4x4x112x112_d3 : (⟨S16x3x4x4x112x112, .f32⟩ : BufTy).Contents (Elt Ideal)))

/-- Layer 1's bias and rectifier, and the border the next layer reads. -/
def act1 (D : Vec Ideal S16x112x112x32 .f32) (b : Vec Ideal S32 .f32) : Vec Ideal S16x32x114x114 .f32 :=
  pad S16x32x114x114 ![0, 0, 1, 1] ![0, 0, 1, 1] ![0, 0, 0, 0] (maximumf (F := Ideal) (addf (transpose S16x32x112x112 [0, 3, 1, 2] D transposes_S16x112x112x32_S16x32x112x112_0_3_1_2) (broadcastInDim S16x32x112x112 ![0, 1, 2, 3] bcast_S1x32x1x1_S16x32x112x112_0_1_2_3 (broadcastInDim S1x32x1x1 ![1] bcast_S32_S1x32x1x1_1 b))) (broadcastInDim S16x32x112x112 ![] bcast_S_S16x32x112x112 (constant (F := Ideal) S_ .f32 0x00000000#32))) (constant (F := Ideal) S_ .f32 0x00000000#32) pads_S16x32x112x112_S16x32x114x114_000_000_110_110 h_S_

theorem rows1_apply (V0 : Valuation τ sig (Elt Ideal)) (n : Fin 16) (c : Fin 3) (a : Fin 4) (h : Fin 112) (w : Fin 226) :
    res_main_v9 V0 (ix5 n c a h w) = res_main_v0 V0 (ix4 n c ⟨a.val + 2 * h.val, by omega⟩ w) := by
  unfold res_main_v9
  match a with
  | ⟨0, _⟩ => pointwise
  | ⟨1, _⟩ => pointwise
  | ⟨2, _⟩ => pointwise
  | ⟨3, _⟩ => pointwise

theorem cols1_apply (x : Vec Ideal S16x3x4x112x226 .f32) (n : Fin 16) (c : Fin 3) (a b : Fin 4) (h w : Fin 112) :
    cols1 x (ix6 n c a b h w) = x (ix5 n c a h ⟨b.val + 2 * w.val, by omega⟩) := by
  unfold cols1
  match b with
  | ⟨0, _⟩ => pointwise
  | ⟨1, _⟩ => pointwise
  | ⟨2, _⟩ => pointwise
  | ⟨3, _⟩ => pointwise

theorem act1_apply (D : Vec Ideal S16x112x112x32 .f32) (b : Vec Ideal S32 .f32) (n : Fin 16) (o : Fin 32) (h w : Fin 114) :
    act1 D b (ix4 n o h w) = if H : (1 ≤ h.val ∧ h.val ≤ 112) ∧ 1 ≤ w.val ∧ w.val ≤ 112 then
      max (D (ix4 n ⟨h.val - 1, by omega⟩ ⟨w.val - 1, by omega⟩ o) + b (ix1 o)) 0 else 0 := by
  unfold act1
  pointwise
  split <;> rename_i H1 <;> split <;> rename_i H2 <;> first | rfl | (exfalso; omega)

theorem conv1 (V0 : Valuation τ sig (Elt Ideal)) (X : Plane) (n : Fin 16)
    (hX : ∀ (c : Fin 3) (h w : Fin 226), res_main_v0 V0 (ix4 n c h w) = X c.val ((h.val : ℤ) - 1) ((w.val : ℤ) - 1))
    (o : Fin 32) (h w : Fin 112) :
    Host.dotGeneral (F := Ideal) (φ₁ := .f32) (φ₂ := .f32) dot_S16x3x4x4x112x112_S32x3x4x4_S16x112x112x32_231_231_045_0_n_n none (cols1 (res_main_v9 V0)) (V0 (Proc.devRef .tc main_arg1)) (ix4 n h w o)
      = convAt 3 X (taps (V0 (Proc.devRef .tc main_arg1))) o.val h.val w.val := by
  refine (windowDot_apply _ _ _ _ n h w o).trans ?_
  unfold convAt
  refine Finset.sum_congr rfl fun a _ => Finset.sum_congr rfl fun b _ => Finset.sum_congr rfl fun c _ => ?_
  rw [cols1_apply, rows1_apply, hX, taps_eq _ o c a b rfl rfl rfl rfl]
  refine congrArg (· * _) (plane_congr X rfl ?_ ?_)
  · show ((a.val + 2 * h.val : ℕ) : ℤ) - 1 = _
    omega
  · show ((b.val + 2 * w.val : ℕ) : ℤ) - 1 = _
    omega

/-- Layer 1 of the reference, at an entry, with its border. -/
theorem layer1 (V0 : Valuation τ sig (Elt Ideal)) (X : Plane) (n : Fin 16)
    (hX : ∀ (c : Fin 3) (h w : Fin 226), res_main_v0 V0 (ix4 n c h w) = X c.val ((h.val : ℤ) - 1) ((w.val : ℤ) - 1))
    (o : Fin 32) (h w : Fin 114) :
    res_main_v25 V0 (ix4 n o h w)
      = layer 112 3 X (taps (V0 (Proc.devRef .tc main_arg1))) (vec (V0 (Proc.devRef .tc main_arg2))) o.val ((h.val : ℤ) - 1) ((w.val : ℤ) - 1) := by
  refine (act1_apply (Host.dotGeneral (F := Ideal) (φ₁ := .f32) (φ₂ := .f32) dot_S16x3x4x4x112x112_S32x3x4x4_S16x112x112x32_231_231_045_0_n_n none (cols1 (res_main_v9 V0)) (V0 (Proc.devRef .tc main_arg1))) (V0 (Proc.devRef .tc main_arg2)) n o h w).trans ?_
  split
  · rename_i H
    rw [conv1 V0 X n hX, layer_in (by omega), vec_eq _ o rfl]
    congr 3 <;> · show ((_ - 1 : ℕ) : ℤ) = _; omega
  · rw [layer_out (by omega)]

/-- Layer 2's windows' columns, laid out beside their rows. -/
def cols2 (x : Vec Ideal S16x32x4x56x114 .f32) : Vec Ideal S16x32x4x4x56x56 .f32 :=
  ((concatenate S16x32x4x4x56x56 3 [⟨S16x32x4x1x56x56, ((broadcastInDim S16x32x4x1x56x56 ![0, 1, 2, 4, 5] bcast_S16x32x4x56x56_S16x32x4x1x56x56_0_1_2_4_5 (Host.slice S16x32x4x56x56 ![0, 0, 0, 0, 0] ![1, 1, 1, 1, 2] x slicesBy_S16x32x4x56x114_S16x32x4x56x56_0s1_0s1_0s1_0s1_0s2)) : (⟨S16x32x4x1x56x56, .f32⟩ : BufTy).Contents (Elt Ideal))⟩, ⟨S16x32x4x1x56x56, ((broadcastInDim S16x32x4x1x56x56 ![0, 1, 2, 4, 5] bcast_S16x32x4x56x56_S16x32x4x1x56x56_0_1_2_4_5 (Host.slice S16x32x4x56x56 ![0, 0, 0, 0, 1] ![1, 1, 1, 1, 2] x slicesBy_S16x32x4x56x114_S16x32x4x56x56_0s1_0s1_0s1_0s1_1s2)) : (⟨S16x32x4x1x56x56, .f32⟩ : BufTy).Contents (Elt Ideal))⟩, ⟨S16x32x4x1x56x56, ((broadcastInDim S16x32x4x1x56x56 ![0, 1, 2, 4, 5] bcast_S16x32x4x56x56_S16x32x4x1x56x56_0_1_2_4_5 (Host.slice S16x32x4x56x56 ![0, 0, 0, 0, 2] ![1, 1, 1, 1, 2] x slicesBy_S16x32x4x56x114_S16x32x4x56x56_0s1_0s1_0s1_0s1_2s2)) : (⟨S16x32x4x1x56x56, .f32⟩ : BufTy).Contents (Elt Ideal))⟩, ⟨S16x32x4x1x56x56, ((broadcastInDim S16x32x4x1x56x56 ![0, 1, 2, 4, 5] bcast_S16x32x4x56x56_S16x32x4x1x56x56_0_1_2_4_5 (Host.slice S16x32x4x56x56 ![0, 0, 0, 0, 3] ![1, 1, 1, 1, 2] x slicesBy_S16x32x4x56x114_S16x32x4x56x56_0s1_0s1_0s1_0s1_3s2)) : (⟨S16x32x4x1x56x56, .f32⟩ : BufTy).Contents (Elt Ideal))⟩] concatenates_S16x32x4x1x56x56_S16x32x4x1x56x56_S16x32x4x1x56x56_S16x32x4x1x56x56_S16x32x4x4x56x56_d3 : (⟨S16x32x4x4x56x56, .f32⟩ : BufTy).Contents (Elt Ideal)))

/-- Layer 2's bias and rectifier, and the border the next layer reads. -/
def act2 (D : Vec Ideal S16x56x56x64 .f32) (b : Vec Ideal S64 .f32) : Vec Ideal S16x64x58x58 .f32 :=
  pad S16x64x58x58 ![0, 0, 1, 1] ![0, 0, 1, 1] ![0, 0, 0, 0] (maximumf (F := Ideal) (addf (transpose S16x64x56x56 [0, 3, 1, 2] D transposes_S16x56x56x64_S16x64x56x56_0_3_1_2) (broadcastInDim S16x64x56x56 ![0, 1, 2, 3] bcast_S1x64x1x1_S16x64x56x56_0_1_2_3 (broadcastInDim S1x64x1x1 ![1] bcast_S64_S1x64x1x1_1 b))) (broadcastInDim S16x64x56x56 ![] bcast_S_S16x64x56x56 (constant (F := Ideal) S_ .f32 0x00000000#32))) (constant (F := Ideal) S_ .f32 0x00000000#32) pads_S16x64x56x56_S16x64x58x58_000_000_110_110 h_S_

theorem rows2_apply (V0 : Valuation τ sig (Elt Ideal)) (n : Fin 16) (c : Fin 32) (a : Fin 4) (h : Fin 56) (w : Fin 114) :
    res_main_v34 V0 (ix5 n c a h w) = res_main_v25 V0 (ix4 n c ⟨a.val + 2 * h.val, by omega⟩ w) := by
  unfold res_main_v34
  match a with
  | ⟨0, _⟩ => pointwise
  | ⟨1, _⟩ => pointwise
  | ⟨2, _⟩ => pointwise
  | ⟨3, _⟩ => pointwise

theorem cols2_apply (x : Vec Ideal S16x32x4x56x114 .f32) (n : Fin 16) (c : Fin 32) (a b : Fin 4) (h w : Fin 56) :
    cols2 x (ix6 n c a b h w) = x (ix5 n c a h ⟨b.val + 2 * w.val, by omega⟩) := by
  unfold cols2
  match b with
  | ⟨0, _⟩ => pointwise
  | ⟨1, _⟩ => pointwise
  | ⟨2, _⟩ => pointwise
  | ⟨3, _⟩ => pointwise

theorem act2_apply (D : Vec Ideal S16x56x56x64 .f32) (b : Vec Ideal S64 .f32) (n : Fin 16) (o : Fin 64) (h w : Fin 58) :
    act2 D b (ix4 n o h w) = if H : (1 ≤ h.val ∧ h.val ≤ 56) ∧ 1 ≤ w.val ∧ w.val ≤ 56 then
      max (D (ix4 n ⟨h.val - 1, by omega⟩ ⟨w.val - 1, by omega⟩ o) + b (ix1 o)) 0 else 0 := by
  unfold act2
  pointwise
  split <;> rename_i H1 <;> split <;> rename_i H2 <;> first | rfl | (exfalso; omega)

theorem conv2 (V0 : Valuation τ sig (Elt Ideal)) (X : Plane) (n : Fin 16)
    (hX : ∀ (c : Fin 32) (h w : Fin 114), res_main_v25 V0 (ix4 n c h w) = X c.val ((h.val : ℤ) - 1) ((w.val : ℤ) - 1))
    (o : Fin 64) (h w : Fin 56) :
    Host.dotGeneral (F := Ideal) (φ₁ := .f32) (φ₂ := .f32) dot_S16x32x4x4x56x56_S64x32x4x4_S16x56x56x64_231_231_045_0_n_n none (cols2 (res_main_v34 V0)) (V0 (Proc.devRef .tc main_arg3)) (ix4 n h w o)
      = convAt 32 X (taps (V0 (Proc.devRef .tc main_arg3))) o.val h.val w.val := by
  refine (windowDot_apply _ _ _ _ n h w o).trans ?_
  unfold convAt
  refine Finset.sum_congr rfl fun a _ => Finset.sum_congr rfl fun b _ => Finset.sum_congr rfl fun c _ => ?_
  rw [cols2_apply, rows2_apply, hX, taps_eq _ o c a b rfl rfl rfl rfl]
  refine congrArg (· * _) (plane_congr X rfl ?_ ?_)
  · show ((a.val + 2 * h.val : ℕ) : ℤ) - 1 = _
    omega
  · show ((b.val + 2 * w.val : ℕ) : ℤ) - 1 = _
    omega

/-- Layer 2 of the reference, at an entry, with its border. -/
theorem layer2 (V0 : Valuation τ sig (Elt Ideal)) (X : Plane) (n : Fin 16)
    (hX : ∀ (c : Fin 32) (h w : Fin 114), res_main_v25 V0 (ix4 n c h w) = X c.val ((h.val : ℤ) - 1) ((w.val : ℤ) - 1))
    (o : Fin 64) (h w : Fin 58) :
    res_main_v50 V0 (ix4 n o h w)
      = layer 56 32 X (taps (V0 (Proc.devRef .tc main_arg3))) (vec (V0 (Proc.devRef .tc main_arg4))) o.val ((h.val : ℤ) - 1) ((w.val : ℤ) - 1) := by
  refine (act2_apply (Host.dotGeneral (F := Ideal) (φ₁ := .f32) (φ₂ := .f32) dot_S16x32x4x4x56x56_S64x32x4x4_S16x56x56x64_231_231_045_0_n_n none (cols2 (res_main_v34 V0)) (V0 (Proc.devRef .tc main_arg3))) (V0 (Proc.devRef .tc main_arg4)) n o h w).trans ?_
  split
  · rename_i H
    rw [conv2 V0 X n hX, layer_in (by omega), vec_eq _ o rfl]
    congr 3 <;> · show ((_ - 1 : ℕ) : ℤ) = _; omega
  · rw [layer_out (by omega)]

/-- Layer 3's windows' columns, laid out beside their rows. -/
def cols3 (x : Vec Ideal S16x64x4x28x58 .f32) : Vec Ideal S16x64x4x4x28x28 .f32 :=
  ((concatenate S16x64x4x4x28x28 3 [⟨S16x64x4x1x28x28, ((broadcastInDim S16x64x4x1x28x28 ![0, 1, 2, 4, 5] bcast_S16x64x4x28x28_S16x64x4x1x28x28_0_1_2_4_5 (Host.slice S16x64x4x28x28 ![0, 0, 0, 0, 0] ![1, 1, 1, 1, 2] x slicesBy_S16x64x4x28x58_S16x64x4x28x28_0s1_0s1_0s1_0s1_0s2)) : (⟨S16x64x4x1x28x28, .f32⟩ : BufTy).Contents (Elt Ideal))⟩, ⟨S16x64x4x1x28x28, ((broadcastInDim S16x64x4x1x28x28 ![0, 1, 2, 4, 5] bcast_S16x64x4x28x28_S16x64x4x1x28x28_0_1_2_4_5 (Host.slice S16x64x4x28x28 ![0, 0, 0, 0, 1] ![1, 1, 1, 1, 2] x slicesBy_S16x64x4x28x58_S16x64x4x28x28_0s1_0s1_0s1_0s1_1s2)) : (⟨S16x64x4x1x28x28, .f32⟩ : BufTy).Contents (Elt Ideal))⟩, ⟨S16x64x4x1x28x28, ((broadcastInDim S16x64x4x1x28x28 ![0, 1, 2, 4, 5] bcast_S16x64x4x28x28_S16x64x4x1x28x28_0_1_2_4_5 (Host.slice S16x64x4x28x28 ![0, 0, 0, 0, 2] ![1, 1, 1, 1, 2] x slicesBy_S16x64x4x28x58_S16x64x4x28x28_0s1_0s1_0s1_0s1_2s2)) : (⟨S16x64x4x1x28x28, .f32⟩ : BufTy).Contents (Elt Ideal))⟩, ⟨S16x64x4x1x28x28, ((broadcastInDim S16x64x4x1x28x28 ![0, 1, 2, 4, 5] bcast_S16x64x4x28x28_S16x64x4x1x28x28_0_1_2_4_5 (Host.slice S16x64x4x28x28 ![0, 0, 0, 0, 3] ![1, 1, 1, 1, 2] x slicesBy_S16x64x4x28x58_S16x64x4x28x28_0s1_0s1_0s1_0s1_3s2)) : (⟨S16x64x4x1x28x28, .f32⟩ : BufTy).Contents (Elt Ideal))⟩] concatenates_S16x64x4x1x28x28_S16x64x4x1x28x28_S16x64x4x1x28x28_S16x64x4x1x28x28_S16x64x4x4x28x28_d3 : (⟨S16x64x4x4x28x28, .f32⟩ : BufTy).Contents (Elt Ideal)))

/-- Layer 3's bias and rectifier. -/
def act3 (D : Vec Ideal S16x28x28x64 .f32) (b : Vec Ideal S64 .f32) : Vec Ideal S16x64x28x28 .f32 :=
  maximumf (F := Ideal) (addf (transpose S16x64x28x28 [0, 3, 1, 2] D transposes_S16x28x28x64_S16x64x28x28_0_3_1_2) (broadcastInDim S16x64x28x28 ![0, 1, 2, 3] bcast_S1x64x1x1_S16x64x28x28_0_1_2_3 (broadcastInDim S1x64x1x1 ![1] bcast_S64_S1x64x1x1_1 b))) (broadcastInDim S16x64x28x28 ![] bcast_S_S16x64x28x28 (constant (F := Ideal) S_ .f32 0x00000000#32))

theorem rows3_apply (V0 : Valuation τ sig (Elt Ideal)) (n : Fin 16) (c : Fin 64) (a : Fin 4) (h : Fin 28) (w : Fin 58) :
    res_main_v59 V0 (ix5 n c a h w) = res_main_v50 V0 (ix4 n c ⟨a.val + 2 * h.val, by omega⟩ w) := by
  unfold res_main_v59
  match a with
  | ⟨0, _⟩ => pointwise
  | ⟨1, _⟩ => pointwise
  | ⟨2, _⟩ => pointwise
  | ⟨3, _⟩ => pointwise

theorem cols3_apply (x : Vec Ideal S16x64x4x28x58 .f32) (n : Fin 16) (c : Fin 64) (a b : Fin 4) (h w : Fin 28) :
    cols3 x (ix6 n c a b h w) = x (ix5 n c a h ⟨b.val + 2 * w.val, by omega⟩) := by
  unfold cols3
  match b with
  | ⟨0, _⟩ => pointwise
  | ⟨1, _⟩ => pointwise
  | ⟨2, _⟩ => pointwise
  | ⟨3, _⟩ => pointwise

theorem act3_apply (D : Vec Ideal S16x28x28x64 .f32) (b : Vec Ideal S64 .f32) (n : Fin 16) (o : Fin 64) (h w : Fin 28) :
    act3 D b (ix4 n o h w) = max (D (ix4 n h w o) + b (ix1 o)) 0 := by
  unfold act3
  pointwise

theorem conv3 (V0 : Valuation τ sig (Elt Ideal)) (X : Plane) (n : Fin 16)
    (hX : ∀ (c : Fin 64) (h w : Fin 58), res_main_v50 V0 (ix4 n c h w) = X c.val ((h.val : ℤ) - 1) ((w.val : ℤ) - 1))
    (o : Fin 64) (h w : Fin 28) :
    Host.dotGeneral (F := Ideal) (φ₁ := .f32) (φ₂ := .f32) dot_S16x64x4x4x28x28_S64x64x4x4_S16x28x28x64_231_231_045_0_n_n none (cols3 (res_main_v59 V0)) (V0 (Proc.devRef .tc main_arg5)) (ix4 n h w o)
      = convAt 64 X (taps (V0 (Proc.devRef .tc main_arg5))) o.val h.val w.val := by
  refine (windowDot_apply _ _ _ _ n h w o).trans ?_
  unfold convAt
  refine Finset.sum_congr rfl fun a _ => Finset.sum_congr rfl fun b _ => Finset.sum_congr rfl fun c _ => ?_
  rw [cols3_apply, rows3_apply, hX, taps_eq _ o c a b rfl rfl rfl rfl]
  refine congrArg (· * _) (plane_congr X rfl ?_ ?_)
  · show ((a.val + 2 * h.val : ℕ) : ℤ) - 1 = _
    omega
  · show ((b.val + 2 * w.val : ℕ) : ℤ) - 1 = _
    omega

/-- Layer 3 of the reference, at an entry. -/
theorem layer3 (V0 : Valuation τ sig (Elt Ideal)) (X : Plane) (n : Fin 16)
    (hX : ∀ (c : Fin 64) (h w : Fin 58), res_main_v50 V0 (ix4 n c h w) = X c.val ((h.val : ℤ) - 1) ((w.val : ℤ) - 1))
    (o : Fin 64) (h w : Fin 28) :
    res_main_v74 V0 (ix4 n o h w)
      = layer 28 64 X (taps (V0 (Proc.devRef .tc main_arg5))) (vec (V0 (Proc.devRef .tc main_arg6))) o.val h.val w.val := by
  refine (act3_apply (Host.dotGeneral (F := Ideal) (φ₁ := .f32) (φ₂ := .f32) dot_S16x64x4x4x28x28_S64x64x4x4_S16x28x28x64_231_231_045_0_n_n none (cols3 (res_main_v59 V0)) (V0 (Proc.devRef .tc main_arg5))) (V0 (Proc.devRef .tc main_arg6)) n o h w).trans ?_
  rw [conv3 V0 X n hX, layer_in (by omega), vec_eq _ o rfl]

/-- An image with a border of zeros. -/
theorem border_apply (x : Vec Ideal S16x3x224x224 .f32) (n : Fin 16) (c : Fin 3) (h : Fin 226) (w : Fin 226) :
    pad S16x3x226x226 ![0, 0, 1, 1] ![0, 0, 1, 1] ![0, 0, 0, 0] x (constant (F := Ideal) S_ .f32 0x00000000#32) pads_S16x3x224x224_S16x3x226x226_000_000_110_110 h_S_ (ix4 n c h w)
      = plane x n c.val ((h.val : ℤ) - 1) ((w.val : ℤ) - 1) := by
  pointwise
  split
  · rename_i H
    exact (plane_eq x n c ⟨h.val - 1, by omega⟩ ⟨w.val - 1, by omega⟩ rfl (by show _ = ((h.val - 1 : ℕ) : ℤ); omega) (by show _ = ((w.val - 1 : ℕ) : ℤ); omega)).symm
  · exact (plane_out x n (by push_cast; omega)).symm

/-- The image with the border the first layer reads. -/
theorem border (V0 : Valuation τ sig (Elt Ideal)) (n : Fin 16) (c : Fin 3) (h : Fin 226) (w : Fin 226) :
    res_main_v0 V0 (ix4 n c h w) = plane (V0 (Proc.devRef .tc main_arg0)) n c.val ((h.val : ℤ) - 1) ((w.val : ℤ) - 1) :=
  border_apply (V0 (Proc.devRef .tc main_arg0)) n c h w

/-- The encoder's planes. -/
def encoded (V0 : Valuation τ sig (Elt Ideal)) (n : Fin 16) : Plane :=
  layer 28 64 (layer 56 32 (layer 112 3 (plane (V0 (Proc.devRef .tc main_arg0)) n) (taps (V0 (Proc.devRef .tc main_arg1))) (vec (V0 (Proc.devRef .tc main_arg2))))
    (taps (V0 (Proc.devRef .tc main_arg3))) (vec (V0 (Proc.devRef .tc main_arg4)))) (taps (V0 (Proc.devRef .tc main_arg5))) (vec (V0 (Proc.devRef .tc main_arg6)))

/-- The reference's encoder, at an entry. -/
theorem encoder_apply (V0 : Valuation τ sig (Elt Ideal)) (n : Fin 16) (o : Fin 64) (h w : Fin 28) :
    res_main_v74 V0 (ix4 n o h w) = encoded V0 n o.val h.val w.val :=
  layer3 V0 _ n (layer2 V0 _ n (layer1 V0 _ n (border V0 n))) o h w

end Cert.ReferenceIdeal.Value
-- ==== Proof.RefDec.lean ====
/- The reference's transposed convolutions, as sums over a window of their dilated input. -/
module

public import proofs.«01_k».proof.Proof.RefConv
public import proofs.«01_k».proof.Proof.Dec

@[expose] public section

noncomputable section

namespace Cert.ReferenceIdeal.Value

open Cert.ReferenceIdeal Cert.ReferenceIdeal.Gen Idealize.ShloMosaic Idealize.ShloMosaic.TcCoe Cert.Spec

/-- An entry of a dilated image with its border of two: the image's, or zero. -/
theorem dil_entry (X : Plane) (H : ℕ) (c : ℕ) (i j : ℕ) (y : EReal) (hX : ∀ h w : ℤ, ¬ (0 ≤ h ∧ h < H ∧ 0 ≤ w ∧ w < H) → X c h w = 0)
    (p : Prop) [Decidable p] (hp : p ↔ (2 ≤ i ∧ (i - 2) % 2 = 0 ∧ (i - 2) / 2 < H) ∧ 2 ≤ j ∧ (j - 2) % 2 = 0 ∧ (j - 2) / 2 < H)
    (hy : p → y = X c ((i - 2) / 2 : ℕ) ((j - 2) / 2 : ℕ)) :
    (if p then y else 0) = dil X c ((i : ℤ) - 2) ((j : ℤ) - 2) := by
  unfold dil
  split
  · rename_i h
    obtain ⟨h1, h2⟩ := hp.1 h
    rw [if_pos (by omega), if_pos (by omega), hy h]
    exact plane_congr X rfl (by omega) (by omega)
  · rename_i h
    rw [hp] at h
    split_ifs
    · exact (hX _ _ (by omega)).symm
    · rfl
    · rfl

/-- Transposed layer 1's windows' columns, laid out beside their rows. -/
def dcols1 (x : Vec Ideal S16x64x4x56x59 .f32) : Vec Ideal S16x64x4x4x56x56 .f32 :=
  ((concatenate S16x64x4x4x56x56 3 [⟨S16x64x4x1x56x56, ((broadcastInDim S16x64x4x1x56x56 ![0, 1, 2, 4, 5] bcast_S16x64x4x56x56_S16x64x4x1x56x56_0_1_2_4_5 (extractStridedSlice S16x64x4x56x56 ![0, 0, 0, 0, 0] x slices_S16x64x4x56x59_S16x64x4x56x56_0_0_0_0_0)) : (⟨S16x64x4x1x56x56, .f32⟩ : BufTy).Contents (Elt Ideal))⟩, ⟨S16x64x4x1x56x56, ((broadcastInDim S16x64x4x1x56x56 ![0, 1, 2, 4, 5] bcast_S16x64x4x56x56_S16x64x4x1x56x56_0_1_2_4_5 (extractStridedSlice S16x64x4x56x56 ![0, 0, 0, 0, 1] x slices_S16x64x4x56x59_S16x64x4x56x56_0_0_0_0_1)) : (⟨S16x64x4x1x56x56, .f32⟩ : BufTy).Contents (Elt Ideal))⟩, ⟨S16x64x4x1x56x56, ((broadcastInDim S16x64x4x1x56x56 ![0, 1, 2, 4, 5] bcast_S16x64x4x56x56_S16x64x4x1x56x56_0_1_2_4_5 (extractStridedSlice S16x64x4x56x56 ![0, 0, 0, 0, 2] x slices_S16x64x4x56x59_S16x64x4x56x56_0_0_0_0_2)) : (⟨S16x64x4x1x56x56, .f32⟩ : BufTy).Contents (Elt Ideal))⟩, ⟨S16x64x4x1x56x56, ((broadcastInDim S16x64x4x1x56x56 ![0, 1, 2, 4, 5] bcast_S16x64x4x56x56_S16x64x4x1x56x56_0_1_2_4_5 (extractStridedSlice S16x64x4x56x56 ![0, 0, 0, 0, 3] x slices_S16x64x4x56x59_S16x64x4x56x56_0_0_0_0_3)) : (⟨S16x64x4x1x56x56, .f32⟩ : BufTy).Contents (Elt Ideal))⟩] concatenates_S16x64x4x1x56x56_S16x64x4x1x56x56_S16x64x4x1x56x56_S16x64x4x1x56x56_S16x64x4x4x56x56_d3 : (⟨S16x64x4x4x56x56, .f32⟩ : BufTy).Contents (Elt Ideal)))

/-- Transposed layer 1's weights, output channel first, the window reversed. -/
def dwts1 (w : Vec Ideal S64x64x4x4 .f32) : Vec Ideal S64x64x4x4 .f32 :=
  (Host.reverse [2, 3] (transpose S64x64x4x4 [1, 0, 2, 3] w transposes_S64x64x4x4_S64x64x4x4_1_0_2_3))

/-- Transposed layer 1's bias and rectifier, dilated for the next layer, with its border. -/
def dact1 (D : Vec Ideal S16x56x56x64 .f32) (b : Vec Ideal S64 .f32) : Vec Ideal S16x64x115x115 .f32 :=
  pad S16x64x115x115 ![0, 0, 2, 2] ![0, 0, 2, 2] ![0, 0, 1, 1] (maximumf (F := Ideal) (addf (transpose S16x64x56x56 [0, 3, 1, 2] D transposes_S16x56x56x64_S16x64x56x56_0_3_1_2) (broadcastInDim S16x64x56x56 ![0, 1, 2, 3] bcast_S1x64x1x1_S16x64x56x56_0_1_2_3 (broadcastInDim S1x64x1x1 ![1] bcast_S64_S1x64x1x1_1 b))) (broadcastInDim S16x64x56x56 ![] bcast_S_S16x64x56x56 (constant (F := Ideal) S_ .f32 0x00000000#32))) (constant (F := Ideal) S_ .f32 0x00000000#32) pads_S16x64x56x56_S16x64x115x115_000_000_221_221 h_S_

theorem drows1_apply (V0 : Valuation τ sig (Elt Ideal)) (n : Fin 16) (c : Fin 64) (a : Fin 4) (h : Fin 56) (w : Fin 59) :
    res_main_v119 V0 (ix5 n c a h w) = res_main_v110 V0 (ix4 n c ⟨a.val + h.val, by omega⟩ w) := by
  unfold res_main_v119
  match a with
  | ⟨0, _⟩ => pointwise
  | ⟨1, _⟩ => pointwise
  | ⟨2, _⟩ => pointwise
  | ⟨3, _⟩ => pointwise

theorem dcols1_apply (x : Vec Ideal S16x64x4x56x59 .f32) (n : Fin 16) (c : Fin 64) (a b : Fin 4) (h w : Fin 56) :
    dcols1 x (ix6 n c a b h w) = x (ix5 n c a h ⟨b.val + w.val, by omega⟩) := by
  unfold dcols1
  match b with
  | ⟨0, _⟩ => pointwise
  | ⟨1, _⟩ => pointwise
  | ⟨2, _⟩ => pointwise
  | ⟨3, _⟩ => pointwise

theorem dwts1_apply (w : Vec Ideal S64x64x4x4 .f32) (o : Fin 64) (c : Fin 64) (a b : Fin 4) :
    dwts1 w (ix4 o c a b) = taps w c.val o.val (3 - (a.val : ℤ)) (3 - (b.val : ℤ)) := by
  rw [taps_eq w c o a.rev b.rev rfl rfl (by rw [Fin.val_rev]; omega) (by rw [Fin.val_rev]; omega)]
  unfold dwts1
  pointwise
  rfl

theorem dconv1 (V0 : Valuation τ sig (Elt Ideal)) (X : Plane) (n : Fin 16)
    (hX : ∀ (c : Fin 64) (h w : Fin 59), res_main_v110 V0 (ix4 n c h w) = dil X c.val ((h.val : ℤ) - 2) ((w.val : ℤ) - 2))
    (o : Fin 64) (h w : Fin 56) :
    Host.dotGeneral (F := Ideal) (φ₁ := .f32) (φ₂ := .f32) dot_S16x64x4x4x56x56_S64x64x4x4_S16x56x56x64_231_231_045_0_n_n none (dcols1 (res_main_v119 V0)) (dwts1 (V0 (Proc.devRef .tc main_arg8))) (ix4 n h w o)
      = decAt 64 X (taps (V0 (Proc.devRef .tc main_arg8))) o.val h.val w.val := by
  refine (windowDot_apply _ _ _ _ n h w o).trans ?_
  rw [← dil_sum]
  refine Finset.sum_congr rfl fun a _ => Finset.sum_congr rfl fun b _ => Finset.sum_congr rfl fun c _ => ?_
  rw [dcols1_apply, drows1_apply, hX, dwts1_apply]
  refine congrArg (· * _) (plane_congr (dil X) rfl ?_ ?_)
  · show ((a.val + h.val : ℕ) : ℤ) - 2 = _
    omega
  · show ((b.val + w.val : ℕ) : ℤ) - 2 = _
    omega

theorem dact1_apply (D : Vec Ideal S16x56x56x64 .f32) (b : Vec Ideal S64 .f32) (Y : Plane) (n : Fin 16) (o : Fin 64)
    (hY : ∀ h w : ℤ, ¬ (0 ≤ h ∧ h < (56 : ℕ) ∧ 0 ≤ w ∧ w < (56 : ℕ)) → Y o.val h w = 0)
    (hD : ∀ h w : Fin 56, max (D (ix4 n h w o) + b (ix1 o)) 0 = Y o.val h.val w.val) (h w : Fin 115) :
    dact1 D b (ix4 n o h w) = dil Y o.val ((h.val : ℤ) - 2) ((w.val : ℤ) - 2) := by
  rw [← dil_entry Y 56 o.val h.val w.val (if H : (h.val - 2) / 2 < 56 ∧ (w.val - 2) / 2 < 56 then max (D (ix4 n ⟨(h.val - 2) / 2, H.1⟩ ⟨(w.val - 2) / 2, H.2⟩ o) + b (ix1 o)) 0 else 0)
    hY _ Iff.rfl (fun H => by rw [dif_pos ⟨H.1.2.2, H.2.2.2⟩, hD])]
  unfold dact1
  pointwise
  split <;> rename_i H1
  · rw [dif_pos ⟨H1.1.2.2, H1.2.2.2⟩]
  · rfl

/-- Transposed layer 1 of the reference, at an entry, dilated for the next layer. -/
theorem dlayer1 (V0 : Valuation τ sig (Elt Ideal)) (X : Plane) (n : Fin 16)
    (hX : ∀ (c : Fin 64) (h w : Fin 59), res_main_v110 V0 (ix4 n c h w) = dil X c.val ((h.val : ℤ) - 2) ((w.val : ℤ) - 2))
    (o : Fin 64) (h w : Fin 115) :
    res_main_v137 V0 (ix4 n o h w)
      = dil (dlayer 56 64 X (taps (V0 (Proc.devRef .tc main_arg8))) (vec (V0 (Proc.devRef .tc main_arg9)))) o.val ((h.val : ℤ) - 2) ((w.val : ℤ) - 2) := by
  refine dact1_apply (Host.dotGeneral (F := Ideal) (φ₁ := .f32) (φ₂ := .f32) dot_S16x64x4x4x56x56_S64x64x4x4_S16x56x56x64_231_231_045_0_n_n none (dcols1 (res_main_v119 V0)) (dwts1 (V0 (Proc.devRef .tc main_arg8)))) (V0 (Proc.devRef .tc main_arg9)) _ n o
    (fun _ _ H => dlayer_out (by push_cast at H; exact H)) (fun h w => ?_) h w
  rw [dconv1 V0 X n hX, dlayer_in (by omega), vec_eq _ o rfl]

/-- Transposed layer 2's windows' columns, laid out beside their rows. -/
def dcols2 (x : Vec Ideal S16x64x4x112x115 .f32) : Vec Ideal S16x64x4x4x112x112 .f32 :=
  ((concatenate S16x64x4x4x112x112 3 [⟨S16x64x4x1x112x112, ((broadcastInDim S16x64x4x1x112x112 ![0, 1, 2, 4, 5] bcast_S16x64x4x112x112_S16x64x4x1x112x112_0_1_2_4_5 (extractStridedSlice S16x64x4x112x112 ![0, 0, 0, 0, 0] x slices_S16x64x4x112x115_S16x64x4x112x112_0_0_0_0_0)) : (⟨S16x64x4x1x112x112, .f32⟩ : BufTy).Contents (Elt Ideal))⟩, ⟨S16x64x4x1x112x112, ((broadcastInDim S16x64x4x1x112x112 ![0, 1, 2, 4, 5] bcast_S16x64x4x112x112_S16x64x4x1x112x112_0_1_2_4_5 (extractStridedSlice S16x64x4x112x112 ![0, 0, 0, 0, 1] x slices_S16x64x4x112x115_S16x64x4x112x112_0_0_0_0_1)) : (⟨S16x64x4x1x112x112, .f32⟩ : BufTy).Contents (Elt Ideal))⟩, ⟨S16x64x4x1x112x112, ((broadcastInDim S16x64x4x1x112x112 ![0, 1, 2, 4, 5] bcast_S16x64x4x112x112_S16x64x4x1x112x112_0_1_2_4_5 (extractStridedSlice S16x64x4x112x112 ![0, 0, 0, 0, 2] x slices_S16x64x4x112x115_S16x64x4x112x112_0_0_0_0_2)) : (⟨S16x64x4x1x112x112, .f32⟩ : BufTy).Contents (Elt Ideal))⟩, ⟨S16x64x4x1x112x112, ((broadcastInDim S16x64x4x1x112x112 ![0, 1, 2, 4, 5] bcast_S16x64x4x112x112_S16x64x4x1x112x112_0_1_2_4_5 (extractStridedSlice S16x64x4x112x112 ![0, 0, 0, 0, 3] x slices_S16x64x4x112x115_S16x64x4x112x112_0_0_0_0_3)) : (⟨S16x64x4x1x112x112, .f32⟩ : BufTy).Contents (Elt Ideal))⟩] concatenates_S16x64x4x1x112x112_S16x64x4x1x112x112_S16x64x4x1x112x112_S16x64x4x1x112x112_S16x64x4x4x112x112_d3 : (⟨S16x64x4x4x112x112, .f32⟩ : BufTy).Contents (Elt Ideal)))

/-- Transposed layer 2's weights, output channel first, the window reversed. -/
def dwts2 (w : Vec Ideal S64x32x4x4 .f32) : Vec Ideal S32x64x4x4 .f32 :=
  (Host.reverse [2, 3] (transpose S32x64x4x4 [1, 0, 2, 3] w transposes_S64x32x4x4_S32x64x4x4_1_0_2_3))

/-- Transposed layer 2's bias and rectifier, dilated for the next layer, with its border. -/
def dact2 (D : Vec Ideal S16x112x112x32 .f32) (b : Vec Ideal S32 .f32) : Vec Ideal S16x32x227x227 .f32 :=
  pad S16x32x227x227 ![0, 0, 2, 2] ![0, 0, 2, 2] ![0, 0, 1, 1] (maximumf (F := Ideal) (addf (transpose S16x32x112x112 [0, 3, 1, 2] D transposes_S16x112x112x32_S16x32x112x112_0_3_1_2) (broadcastInDim S16x32x112x112 ![0, 1, 2, 3] bcast_S1x32x1x1_S16x32x112x112_0_1_2_3 (broadcastInDim S1x32x1x1 ![1] bcast_S32_S1x32x1x1_1 b))) (broadcastInDim S16x32x112x112 ![] bcast_S_S16x32x112x112 (constant (F := Ideal) S_ .f32 0x00000000#32))) (constant (F := Ideal) S_ .f32 0x00000000#32) pads_S16x32x112x112_S16x32x227x227_000_000_221_221 h_S_

theorem drows2_apply (V0 : Valuation τ sig (Elt Ideal)) (n : Fin 16) (c : Fin 64) (a : Fin 4) (h : Fin 112) (w : Fin 115) :
    res_main_v146 V0 (ix5 n c a h w) = res_main_v137 V0 (ix4 n c ⟨a.val + h.val, by omega⟩ w) := by
  unfold res_main_v146
  match a with
  | ⟨0, _⟩ => pointwise
  | ⟨1, _⟩ => pointwise
  | ⟨2, _⟩ => pointwise
  | ⟨3, _⟩ => pointwise

theorem dcols2_apply (x : Vec Ideal S16x64x4x112x115 .f32) (n : Fin 16) (c : Fin 64) (a b : Fin 4) (h w : Fin 112) :
    dcols2 x (ix6 n c a b h w) = x (ix5 n c a h ⟨b.val + w.val, by omega⟩) := by
  unfold dcols2
  match b with
  | ⟨0, _⟩ => pointwise
  | ⟨1, _⟩ => pointwise
  | ⟨2, _⟩ => pointwise
  | ⟨3, _⟩ => pointwise

theorem dwts2_apply (w : Vec Ideal S64x32x4x4 .f32) (o : Fin 32) (c : Fin 64) (a b : Fin 4) :
    dwts2 w (ix4 o c a b) = taps w c.val o.val (3 - (a.val : ℤ)) (3 - (b.val : ℤ)) := by
  rw [taps_eq w c o a.rev b.rev rfl rfl (by rw [Fin.val_rev]; omega) (by rw [Fin.val_rev]; omega)]
  unfold dwts2
  pointwise
  rfl

theorem dconv2 (V0 : Valuation τ sig (Elt Ideal)) (X : Plane) (n : Fin 16)
    (hX : ∀ (c : Fin 64) (h w : Fin 115), res_main_v137 V0 (ix4 n c h w) = dil X c.val ((h.val : ℤ) - 2) ((w.val : ℤ) - 2))
    (o : Fin 32) (h w : Fin 112) :
    Host.dotGeneral (F := Ideal) (φ₁ := .f32) (φ₂ := .f32) dot_S16x64x4x4x112x112_S32x64x4x4_S16x112x112x32_231_231_045_0_n_n none (dcols2 (res_main_v146 V0)) (dwts2 (V0 (Proc.devRef .tc main_arg10))) (ix4 n h w o)
      = decAt 64 X (taps (V0 (Proc.devRef .tc main_arg10))) o.val h.val w.val := by
  refine (windowDot_apply _ _ _ _ n h w o).trans ?_
  rw [← dil_sum]
  refine Finset.sum_congr rfl fun a _ => Finset.sum_congr rfl fun b _ => Finset.sum_congr rfl fun c _ => ?_
  rw [dcols2_apply, drows2_apply, hX, dwts2_apply]
  refine congrArg (· * _) (plane_congr (dil X) rfl ?_ ?_)
  · show ((a.val + h.val : ℕ) : ℤ) - 2 = _
    omega
  · show ((b.val + w.val : ℕ) : ℤ) - 2 = _
    omega

theorem dact2_apply (D : Vec Ideal S16x112x112x32 .f32) (b : Vec Ideal S32 .f32) (Y : Plane) (n : Fin 16) (o : Fin 32)
    (hY : ∀ h w : ℤ, ¬ (0 ≤ h ∧ h < (112 : ℕ) ∧ 0 ≤ w ∧ w < (112 : ℕ)) → Y o.val h w = 0)
    (hD : ∀ h w : Fin 112, max (D (ix4 n h w o) + b (ix1 o)) 0 = Y o.val h.val w.val) (h w : Fin 227) :
    dact2 D b (ix4 n o h w) = dil Y o.val ((h.val : ℤ) - 2) ((w.val : ℤ) - 2) := by
  rw [← dil_entry Y 112 o.val h.val w.val (if H : (h.val - 2) / 2 < 112 ∧ (w.val - 2) / 2 < 112 then max (D (ix4 n ⟨(h.val - 2) / 2, H.1⟩ ⟨(w.val - 2) / 2, H.2⟩ o) + b (ix1 o)) 0 else 0)
    hY _ Iff.rfl (fun H => by rw [dif_pos ⟨H.1.2.2, H.2.2.2⟩, hD])]
  unfold dact2
  pointwise
  split <;> rename_i H1
  · rw [dif_pos ⟨H1.1.2.2, H1.2.2.2⟩]
  · rfl

/-- Transposed layer 2 of the reference, at an entry, dilated for the next layer. -/
theorem dlayer2 (V0 : Valuation τ sig (Elt Ideal)) (X : Plane) (n : Fin 16)
    (hX : ∀ (c : Fin 64) (h w : Fin 115), res_main_v137 V0 (ix4 n c h w) = dil X c.val ((h.val : ℤ) - 2) ((w.val : ℤ) - 2))
    (o : Fin 32) (h w : Fin 227) :
    res_main_v164 V0 (ix4 n o h w)
      = dil (dlayer 112 64 X (taps (V0 (Proc.devRef .tc main_arg10))) (vec (V0 (Proc.devRef .tc main_arg11)))) o.val ((h.val : ℤ) - 2) ((w.val : ℤ) - 2) := by
  refine dact2_apply (Host.dotGeneral (F := Ideal) (φ₁ := .f32) (φ₂ := .f32) dot_S16x64x4x4x112x112_S32x64x4x4_S16x112x112x32_231_231_045_0_n_n none (dcols2 (res_main_v146 V0)) (dwts2 (V0 (Proc.devRef .tc main_arg10)))) (V0 (Proc.devRef .tc main_arg11)) _ n o
    (fun _ _ H => dlayer_out (by push_cast at H; exact H)) (fun h w => ?_) h w
  rw [dconv2 V0 X n hX, dlayer_in (by omega), vec_eq _ o rfl]

/-- Transposed layer 3's windows' columns, laid out beside their rows. -/
def dcols3 (x : Vec Ideal S16x32x4x224x227 .f32) : Vec Ideal S16x32x4x4x224x224 .f32 :=
  ((concatenate S16x32x4x4x224x224 3 [⟨S16x32x4x1x224x224, ((broadcastInDim S16x32x4x1x224x224 ![0, 1, 2, 4, 5] bcast_S16x32x4x224x224_S16x32x4x1x224x224_0_1_2_4_5 (extractStridedSlice S16x32x4x224x224 ![0, 0, 0, 0, 0] x slices_S16x32x4x224x227_S16x32x4x224x224_0_0_0_0_0)) : (⟨S16x32x4x1x224x224, .f32⟩ : BufTy).Contents (Elt Ideal))⟩, ⟨S16x32x4x1x224x224, ((broadcastInDim S16x32x4x1x224x224 ![0, 1, 2, 4, 5] bcast_S16x32x4x224x224_S16x32x4x1x224x224_0_1_2_4_5 (extractStridedSlice S16x32x4x224x224 ![0, 0, 0, 0, 1] x slices_S16x32x4x224x227_S16x32x4x224x224_0_0_0_0_1)) : (⟨S16x32x4x1x224x224, .f32⟩ : BufTy).Contents (Elt Ideal))⟩, ⟨S16x32x4x1x224x224, ((broadcastInDim S16x32x4x1x224x224 ![0, 1, 2, 4, 5] bcast_S16x32x4x224x224_S16x32x4x1x224x224_0_1_2_4_5 (extractStridedSlice S16x32x4x224x224 ![0, 0, 0, 0, 2] x slices_S16x32x4x224x227_S16x32x4x224x224_0_0_0_0_2)) : (⟨S16x32x4x1x224x224, .f32⟩ : BufTy).Contents (Elt Ideal))⟩, ⟨S16x32x4x1x224x224, ((broadcastInDim S16x32x4x1x224x224 ![0, 1, 2, 4, 5] bcast_S16x32x4x224x224_S16x32x4x1x224x224_0_1_2_4_5 (extractStridedSlice S16x32x4x224x224 ![0, 0, 0, 0, 3] x slices_S16x32x4x224x227_S16x32x4x224x224_0_0_0_0_3)) : (⟨S16x32x4x1x224x224, .f32⟩ : BufTy).Contents (Elt Ideal))⟩] concatenates_S16x32x4x1x224x224_S16x32x4x1x224x224_S16x32x4x1x224x224_S16x32x4x1x224x224_S16x32x4x4x224x224_d3 : (⟨S16x32x4x4x224x224, .f32⟩ : BufTy).Contents (Elt Ideal)))

/-- Transposed layer 3's weights, output channel first, the window reversed. -/
def dwts3 (w : Vec Ideal S32x3x4x4 .f32) : Vec Ideal S3x32x4x4 .f32 :=
  (Host.reverse [2, 3] (transpose S3x32x4x4 [1, 0, 2, 3] w transposes_S32x3x4x4_S3x32x4x4_1_0_2_3))

/-- The last transposed layer's bias and logistic function. -/
def dact3 (D : Vec Ideal S16x224x224x3 .f32) (b : Vec Ideal S3 .f32) : Vec Ideal S16x3x224x224 .f32 :=
  Host.divf (F := Ideal) (broadcastInDim S16x3x224x224 ![] bcast_S_S16x3x224x224 (constant (F := Ideal) S_ .f32 0x3F800000#32)) (addf (broadcastInDim S16x3x224x224 ![] bcast_S_S16x3x224x224 (constant (F := Ideal) S_ .f32 0x3F800000#32)) (Host.exp (Host.negf (addf (transpose S16x3x224x224 [0, 3, 1, 2] D transposes_S16x224x224x3_S16x3x224x224_0_3_1_2) (broadcastInDim S16x3x224x224 ![0, 1, 2, 3] bcast_S1x3x1x1_S16x3x224x224_0_1_2_3 (broadcastInDim S1x3x1x1 ![1] bcast_S3_S1x3x1x1_1 b))))))

theorem drows3_apply (V0 : Valuation τ sig (Elt Ideal)) (n : Fin 16) (c : Fin 32) (a : Fin 4) (h : Fin 224) (w : Fin 227) :
    res_main_v173 V0 (ix5 n c a h w) = res_main_v164 V0 (ix4 n c ⟨a.val + h.val, by omega⟩ w) := by
  unfold res_main_v173
  match a with
  | ⟨0, _⟩ => pointwise
  | ⟨1, _⟩ => pointwise
  | ⟨2, _⟩ => pointwise
  | ⟨3, _⟩ => pointwise

theorem dcols3_apply (x : Vec Ideal S16x32x4x224x227 .f32) (n : Fin 16) (c : Fin 32) (a b : Fin 4) (h w : Fin 224) :
    dcols3 x (ix6 n c a b h w) = x (ix5 n c a h ⟨b.val + w.val, by omega⟩) := by
  unfold dcols3
  match b with
  | ⟨0, _⟩ => pointwise
  | ⟨1, _⟩ => pointwise
  | ⟨2, _⟩ => pointwise
  | ⟨3, _⟩ => pointwise

theorem dwts3_apply (w : Vec Ideal S32x3x4x4 .f32) (o : Fin 3) (c : Fin 32) (a b : Fin 4) :
    dwts3 w (ix4 o c a b) = taps w c.val o.val (3 - (a.val : ℤ)) (3 - (b.val : ℤ)) := by
  rw [taps_eq w c o a.rev b.rev rfl rfl (by rw [Fin.val_rev]; omega) (by rw [Fin.val_rev]; omega)]
  unfold dwts3
  pointwise
  rfl

theorem dconv3 (V0 : Valuation τ sig (Elt Ideal)) (X : Plane) (n : Fin 16)
    (hX : ∀ (c : Fin 32) (h w : Fin 227), res_main_v164 V0 (ix4 n c h w) = dil X c.val ((h.val : ℤ) - 2) ((w.val : ℤ) - 2))
    (o : Fin 3) (h w : Fin 224) :
    Host.dotGeneral (F := Ideal) (φ₁ := .f32) (φ₂ := .f32) dot_S16x32x4x4x224x224_S3x32x4x4_S16x224x224x3_231_231_045_0_n_n none (dcols3 (res_main_v173 V0)) (dwts3 (V0 (Proc.devRef .tc main_arg12))) (ix4 n h w o)
      = decAt 32 X (taps (V0 (Proc.devRef .tc main_arg12))) o.val h.val w.val := by
  refine (windowDot_apply _ _ _ _ n h w o).trans ?_
  rw [← dil_sum]
  refine Finset.sum_congr rfl fun a _ => Finset.sum_congr rfl fun b _ => Finset.sum_congr rfl fun c _ => ?_
  rw [dcols3_apply, drows3_apply, hX, dwts3_apply]
  refine congrArg (· * _) (plane_congr (dil X) rfl ?_ ?_)
  · show ((a.val + h.val : ℕ) : ℤ) - 2 = _
    omega
  · show ((b.val + w.val : ℕ) : ℤ) - 2 = _
    omega

theorem dact3_apply (D : Vec Ideal S16x224x224x3 .f32) (b : Vec Ideal S3 .f32) (n : Fin 16) (o : Fin 3) (h w : Fin 224) :
    dact3 D b (ix4 n o h w) = Ideal.logistic (D (ix4 n h w o) + b (ix1 o)) := by
  unfold dact3
  pointwise
  rfl

/-- The reference's last transposed layer, of the image the one before left. -/
def decoded (V0 : Valuation τ sig (Elt Ideal)) : Vec Ideal S16x3x224x224 .f32 :=
  dact3 (Host.dotGeneral (F := Ideal) (φ₁ := .f32) (φ₂ := .f32) dot_S16x32x4x4x224x224_S3x32x4x4_S16x224x224x3_231_231_045_0_n_n none (dcols3 (res_main_v173 V0)) (dwts3 (V0 (Proc.devRef .tc main_arg12)))) (V0 (Proc.devRef .tc main_arg13))

/-- The last transposed layer of the reference, at an entry. -/
theorem dlayer3 (V0 : Valuation τ sig (Elt Ideal)) (X : Plane) (n : Fin 16)
    (hX : ∀ (c : Fin 32) (h w : Fin 227), res_main_v164 V0 (ix4 n c h w) = dil X c.val ((h.val : ℤ) - 2) ((w.val : ℤ) - 2))
    (o : Fin 3) (h w : Fin 224) :
    decoded V0 (ix4 n o h w)
      = Ideal.logistic (decAt 32 X (taps (V0 (Proc.devRef .tc main_arg12))) o.val h.val w.val + vec (V0 (Proc.devRef .tc main_arg13)) o.val) := by
  unfold decoded
  rw [dact3_apply, dconv3 V0 X n hX, vec_eq _ o rfl]

/-- The encoding moved to its codes. -/
def moved (A B : Vec Ideal S16x64x28x28 .f32) : Vec Ideal S16x64x28x28 .f32 := fun i => A i + (B i - A i)

/-- What the decoder reads: the encoding moved to its codes, dilated, with its border. -/
def coded (A B : Vec Ideal S16x64x28x28 .f32) : Vec Ideal S16x64x59x59 .f32 :=
  pad S16x64x59x59 ![0, 0, 2, 2] ![0, 0, 2, 2] ![0, 0, 1, 1] (addf (F := Ideal) (φ := .f32) A (subf (F := Ideal) (φ := .f32) B A)) (constant (F := Ideal) S_ .f32 0x00000000#32) pads_S16x64x28x28_S16x64x59x59_000_000_221_221 h_S_

theorem coded_apply (A B : Vec Ideal S16x64x28x28 .f32) (X : Plane) (n : Fin 16) (c : Fin 64)
    (hX : ∀ h w : ℤ, ¬ (0 ≤ h ∧ h < (28 : ℕ) ∧ 0 ≤ w ∧ w < (28 : ℕ)) → X c.val h w = 0)
    (hq : ∀ h w : Fin 28, moved A B (ix4 n c h w) = X c.val h.val w.val) (h w : Fin 59) :
    coded A B (ix4 n c h w) = dil X c.val ((h.val : ℤ) - 2) ((w.val : ℤ) - 2) := by
  rw [← dil_entry X 28 c.val h.val w.val (if H : (h.val - 2) / 2 < 28 ∧ (w.val - 2) / 2 < 28 then moved A B (ix4 n c ⟨(h.val - 2) / 2, H.1⟩ ⟨(w.val - 2) / 2, H.2⟩) else 0)
    hX _ Iff.rfl (fun H => by rw [dif_pos ⟨H.1.2.2, H.2.2.2⟩, hq])]
  unfold coded
  pointwise
  split <;> rename_i H1
  · rw [dif_pos ⟨H1.1.2.2, H1.2.2.2⟩]; rfl
  · rfl

/-- The reference's decoder, at an entry, given what it reads. -/
theorem decoder_apply (V0 : Valuation τ sig (Elt Ideal)) (X : Plane) (n : Fin 16)
    (hX : ∀ (c : Fin 64) (h w : ℤ), ¬ (0 ≤ h ∧ h < (28 : ℕ) ∧ 0 ≤ w ∧ w < (28 : ℕ)) → X c.val h w = 0)
    (hq : ∀ (c : Fin 64) (h w : Fin 28), moved (res_main_v74 V0) (res_main_v97 V0) (ix4 n c h w) = X c.val h.val w.val)
    (o : Fin 3) (h w : Fin 224) :
    decoded V0 (ix4 n o h w)
      = Ideal.logistic (decAt 32 (dlayer 112 64 (dlayer 56 64 X (taps (V0 (Proc.devRef .tc main_arg8))) (vec (V0 (Proc.devRef .tc main_arg9))))
          (taps (V0 (Proc.devRef .tc main_arg10))) (vec (V0 (Proc.devRef .tc main_arg11)))) (taps (V0 (Proc.devRef .tc main_arg12))) o.val h.val w.val
            + vec (V0 (Proc.devRef .tc main_arg13)) o.val) :=
  dlayer3 V0 _ n (dlayer2 V0 _ n (dlayer1 V0 X n fun c => coded_apply (res_main_v74 V0) (res_main_v97 V0) X n c (hX c) (hq c))) o h w

end Cert.ReferenceIdeal.Value

end
-- ==== Proof.RefVq.lean ====
/- The reference's quantiser: the nearest code by distance, taken from the table, and the mean squared error. -/
module

public import proofs.«01_k».proof.Proof.RefConv
public import proofs.«01_k».proof.Proof.Vq
public import Idealize.ShloMosaic.Lib.Routing.OpsSet

@[expose] public section

noncomputable section

namespace Cert.ReferenceIdeal.Value

open Cert.ReferenceIdeal Cert.ReferenceIdeal.Gen Idealize.ShloMosaic Idealize.ShloMosaic.TcCoe Cert.Spec

/-- A code. -/
def code (E : Vec Ideal S512x64 .f32) (k : Fin 512) : Fin 64 → EReal := fun c => E (ix2 k c)

/-- The rows of encoded vectors. -/
def rowsOf (x : Vec Ideal S16x64x28x28 .f32) : Vec Ideal S12544x64 .f32 :=
  shapeCast _ (transpose S16x28x28x64 [0, 2, 3, 1] x transposes_S16x64x28x28_S16x28x28x64_0_2_3_1) shapeCasts_S16x28x28x64_S12544x64

theorem rowsOf_apply (x : Vec Ideal S16x64x28x28 .f32) (p : Fin 12544) (c : Fin 64) :
    rowsOf x (ix2 p c) = x (ix4 ⟨p.val / 784, by omega⟩ c ⟨p.val / 28 % 28, by omega⟩ ⟨p.val % 28, by omega⟩) := by
  unfold rowsOf
  pointwise

/-- The distances from the rows to the codes. -/
def distances (x : Vec Ideal S12544x64 .f32) (E : Vec Ideal S512x64 .f32) : Vec Ideal S12544x512 .f32 :=
  Host.sqrt (F := Ideal) (maximumf (addf (subf (broadcastInDim S12544x512 ![0, 1] bcast_S12544x1_S12544x512_0_1 (broadcastInDim S12544x1 ![0] bcast_S12544_S12544x1_0 (Host.reduceAdd (mulf (F := Ideal) (φ := .f32) x x) (constant (F := Ideal) S_ .f32 0x00000000#32) reducesTo_S12544x64_S12544_d1 h_S_))) (Host.dotGeneral (F := Ideal) (φ₁ := .f32) (φ₂ := .f32) dot_S12544x64_S64x512_S12544x512_1_0_0_1_n_n none (mulf (F := Ideal) (φ := .f32) (broadcastInDim S12544x64 ![] bcast_S_S12544x64 (constant (F := Ideal) S_ .f32 0x40000000#32)) x) (transpose S64x512 [1, 0] E transposes_S512x64_S64x512_1_0))) (broadcastInDim S12544x512 ![0, 1] bcast_S1x512_S12544x512_0_1 (broadcastInDim S1x512 ![1] bcast_S512_S1x512_1 (Host.reduceAdd (mulf (F := Ideal) (φ := .f32) E E) (constant (F := Ideal) S_ .f32 0x00000000#32) reducesTo_S512x64_S512_d1 h_S_)))) (broadcastInDim S12544x512 ![] bcast_S_S12544x512 (constant (F := Ideal) S_ .f32 0x00000000#32)))

theorem two : Ideal.ofBits .f32 0x40000000#32 = 2 := by
  simp [Ideal.ofBits, Ideal.ieee]
  rw [← EReal.coe_mul, show (8388608 * (2 ^ 22)⁻¹ : ℝ) = 2 from by norm_num]
  rfl

theorem distances_apply (x : Vec Ideal S12544x64 .f32) (E : Vec Ideal S512x64 .f32) (hx : ∀ i, Real' (x i)) (hE : ∀ i, Real' (E i)) (p : Fin 12544) (k : Fin 512) :
    distances x E (ix2 p k) = dist (fun c => x (ix2 p c)) (code E k) := by
  rw [← dist_scaled (fun c => x (ix2 p c)) (code E k) (fun c => hx _) (fun c => hE _)]
  unfold distances
  pointwise [two]
  rfl

/-- The reference's step on pairs is the step that finds the first least place. -/
theorem reducer_eq (a b : EReal × BitVec 32) : reducer_argmin_f32_i32 (F := Ideal) a b = step a b := by
  obtain ⟨a1, a2⟩ := a
  obtain ⟨b1, b2⟩ := b
  have e1 : FloatOps.cmpf (F := Ideal) (φ := .f32) .olt a1 b1 = BitVec.ofBool (decide (a1 < b1)) := rfl
  have e2 : FloatOps.cmpf (F := Ideal) (φ := .f32) .une a1 a1 = BitVec.ofBool false := by
    show BitVec.ofBool (decide (a1 ≠ a1)) = _
    simp
  have e3 : FloatOps.cmpf (F := Ideal) (φ := .f32) .oeq a1 b1 = BitVec.ofBool (decide (a1 = b1)) := rfl
  have e4 : IntOp.cmpi .slt a2 b2 = BitVec.ofBool (decide (a2.toInt < b2.toInt)) := rfl
  unfold reducer_argmin_f32_i32 step
  dsimp only
  rw [e1, e2, e3, e4]
  by_cases h1 : a1 < b1
  · have h2 : ¬ a1 = b1 := ne_of_lt h1
    simp [h1, h2, Scalar.select, IntOp.ori, IntOp.andi]
  · by_cases h2 : a1 = b1
    · subst h2
      by_cases h3 : a2.toInt < b2.toInt
      · simp [h3, Scalar.select, IntOp.ori, IntOp.andi]
      · simp [h3, Scalar.select, IntOp.ori, IntOp.andi]
    · simp [h1, h2, Scalar.select, IntOp.ori, IntOp.andi]

/-- A row's pairs: its values with their places. -/
theorem mem_fiber {axes : List (Fin S12544x512.rank)} (x : Vec Ideal S12544x512 .f32) (y : IVec S12544x512 32) (hy : ∀ i, y i = BitVec.ofNat 32 (i 1).val)
    (h : S12544x512.ReducesTo axes S12544) (hd : ∀ i : S12544x512.Idx, (h.drop i (0 : Fin 1)).val = (i 0).val) (p : Fin 12544) (q : EReal × BitVec 32) :
    q ∈ Host.argReduceFiber x y h (ix1 p) ↔ ∃ k : Fin 512, q = (x (ix2 p k), BitVec.ofNat 32 k.val) := by
  unfold Host.argReduceFiber
  rw [List.mem_map]
  constructor
  · rintro ⟨n, hn, rfl⟩
    have hn := of_decide_eq_true (List.mem_filter.1 hn).2
    have h0 := hd (S12544x512.rowMajor.symm n)
    generalize S12544x512.rowMajor.symm n = i at hn h0 ⊢
    rw [hn] at h0
    refine ⟨i 1, ?_⟩
    have : i = ix2 p (i 1) := by
      have : i 0 = p := Fin.ext h0.symm
      rw [← this]; exact (ix2_eta i).symm
    rw [hy]
    exact congrArg (fun v => (v, BitVec.ofNat 32 (i 1).val)) (congrArg x this)
  · rintro ⟨k, rfl⟩
    refine ⟨S12544x512.rowMajor (ix2 p k), List.mem_filter.2 ⟨List.mem_finRange _, decide_eq_true ?_⟩, ?_⟩
    · rw [Equiv.symm_apply_apply]
      funext a
      match a with
      | ⟨0, _⟩ => exact Fin.ext (hd _)
    · rw [Equiv.symm_apply_apply, hy]
      rfl

/-- The least pair of a fiber holding each value with its place has the first least place. -/
theorem least_pair {s t u : Shape} {axes : List (Fin s.rank)} (x : FVec Ideal s .f32) (y : IVec s 32) (ix : FVec Ideal u .f32) (iy : IVec u 32)
    (h : s.ReducesTo axes t) (hu : 0 < u.numel) (j : t.Idx) (hix : ix (Shape.Idx.first hu) = (⊤ : EReal)) (d : Fin 512 → EReal) (hd : ∀ k, d k < ⊤)
    (hl : ∀ q : EReal × BitVec 32, q ∈ Host.argReduceFiber x y h j ↔ ∃ k : Fin 512, q = (d k, BitVec.ofNat 32 k.val)) :
    (Host.argReduce (F := Ideal) (φ := .f32) reducer_argmin_f32_i32 x y ix iy h hu j).2 = BitVec.ofNat 32 (first d).val := by
  rw [Ideal.argReduce_eq_reduce2, Host.reduce2_eq_foldl_fiber, show (reducer_argmin_f32_i32 (F := Ideal)) = step from funext fun a => funext fun b => reducer_eq a b, hix]
  exact foldl_first d hd _ hl _

theorem top_word (j : S_.Idx) : (constant (F := Ideal) S_ .f32 0x7F800000#32) j = (⊤ : EReal) := by
  show Ideal.ofBits .f32 0x7F800000#32 = ⊤
  simp [Ideal.ofBits, Ideal.ieee]

/-- The nearest code. -/
def near (E : Vec Ideal S512x64 .f32) (x : Fin 64 → EReal) : Fin 512 := first fun k => dist x (code E k)

/-- The codes that indices name, laid out as the encoded vectors are. -/
def taken (f : IVec S12544 32) (E : Vec Ideal S512x64 .f32) : Vec Ideal S16x64x28x28 .f32 :=
  transpose S16x64x28x28 [0, 3, 1, 2] (shapeCast _ (Host.gather gather_S512x64_S12544x1_S12544x64_1_0_n_n_0_1_164 E (broadcastInDim S12544x1 ![0] bcast_S12544_S12544x1_0 f)) shapeCasts_S12544x64_S16x28x28x64) transposes_S16x28x28x64_S16x64x28x28_0_3_1_2

theorem rows_gathered (f : IVec S12544 32) (E : Vec Ideal S512x64 .f32) (p : Fin 12544) (o : Fin 64) (k : Fin 512) (hk : f (ix1 p) = BitVec.ofNat 32 k.val) :
    Host.gather gather_S512x64_S12544x1_S12544x64_1_0_n_n_0_1_164 E (broadcastInDim S12544x1 ![0] bcast_S12544_S12544x1_0 f) (ix2 p o) = E (ix2 k o) := by
  refine Routing.gather_row _ rfl rfl rfl rfl rfl E _ p o k ?_ (by norm_num)
  refine Eq.trans ?_ hk
  refine congrArg f ?_
  funext a
  match a with
  | ⟨0, _⟩ => rfl

theorem taken_apply (f : IVec S12544 32) (E : Vec Ideal S512x64 .f32) (n : Fin 16) (o : Fin 64) (h w : Fin 28) (k : Fin 512)
    (hk : f (ix1 ⟨(n.val * 28 + h.val) * 28 + w.val, by omega⟩) = BitVec.ofNat 32 k.val) : taken f E (ix4 n o h w) = code E k o := by
  refine Eq.trans ?_ (rows_gathered f E ⟨(n.val * 28 + h.val) * 28 + w.val, by omega⟩ o k hk)
  unfold taken
  generalize Host.gather _ _ _ = z
  pointwise
  refine congrArg (fun p => z (ix2 p o)) (Fin.ext ?_)
  dsimp only; omega

/-- What the indices of the nearest codes satisfy. -/
def Nearest (d : Vec Ideal S12544x512 .f32) (f : IVec S12544 32) : Prop :=
  (∀ i, d i < ⊤) → ∀ p, f (ix1 p) = BitVec.ofNat 32 (first fun k => d (ix2 p k)).val

/-- The quantised vectors: each encoded vector's nearest code. -/
theorem quantised (x : Vec Ideal S16x64x28x28 .f32) (E : Vec Ideal S512x64 .f32) (hx : ∀ i, Real' (x i)) (hE : ∀ i, Real' (E i))
    (f : IVec S12544 32) (hf : Nearest (distances (rowsOf x) E) f) (n : Fin 16) (o : Fin 64) (h w : Fin 28) :
    taken f E (ix4 n o h w) = code E (near E fun c => x (ix4 n c h w)) o := by
  have hr : ∀ i, Real' (rowsOf x i) := fun i => by
    rw [← ix2_eta i]; exact (rowsOf_apply x (i 0) (i 1)) ▸ hx _
  have hd : ∀ p k, distances (rowsOf x) E (ix2 p k) = dist (fun c => rowsOf x (ix2 p c)) (code E k) := fun p k =>
    distances_apply _ E hr hE p k
  have hd' : ∀ i, distances (rowsOf x) E i < ⊤ := fun i => by
    rw [← ix2_eta i]; refine (hd (i 0) (i 1)).trans_lt ?_
    obtain ⟨r, hr'⟩ := dist_real (fun c => rowsOf x (ix2 (i 0) c)) (code E (i 1)) (fun _ => hr _) (fun _ => hE _)
    rw [hr']; exact EReal.coe_lt_top r
  refine (taken_apply f E n o h w _ (hf hd' _)).trans ?_
  unfold near
  refine congrArg (fun d => code E (first d) o) (funext fun k => ?_)
  refine (hd _ k).trans (congrArg (fun v => dist v (code E k)) (funext fun c => ?_))
  rw [rowsOf_apply]
  refine congrArg x ?_
  have e1 : (⟨((n.val * 28 + h.val) * 28 + w.val) / 784, by omega⟩ : Fin 16) = n := Fin.ext (by dsimp only; omega)
  have e2 : (⟨((n.val * 28 + h.val) * 28 + w.val) / 28 % 28, by omega⟩ : Fin 28) = h := Fin.ext (by dsimp only; omega)
  have e3 : (⟨((n.val * 28 + h.val) * 28 + w.val) % 28, by omega⟩ : Fin 28) = w := Fin.ext (by dsimp only; omega)
  dsimp only
  rw [e1, e2, e3]

/-- The sum of the squared errors. -/
theorem squares_sum (x q : Vec Ideal S16x64x28x28 .f32) (E : Vec Ideal S512x64 .f32) (hx : ∀ i, Real' (x i)) (hE : ∀ i, Real' (E i))
    (hq : ∀ n o h w, q (ix4 n o h w) = code E (near E fun c => x (ix4 n c h w)) o) (j : S_.Idx) :
    Host.reduceAdd (mulf (F := Ideal) (φ := .f32) (subf (F := Ideal) (φ := .f32) x q) (subf (F := Ideal) (φ := .f32) x q)) (constant (F := Ideal) S_ .f32 0x00000000#32) reducesTo_S16x64x28x28_S_d0_1_2_3 h_S_ j
      = ∑ n : Fin 16, ∑ h : Fin 28, ∑ w : Fin 28, dist (fun c => x (ix4 n c h w)) (code E (near E fun c => x (ix4 n c h w))) * dist (fun c => x (ix4 n c h w)) (code E (near E fun c => x (ix4 n c h w))) := by
  refine (Ideal.hostReduceAdd_total _ (by decide) _ _ j).trans ?_
  rw [show (constant (F := Ideal) S_ .f32 0x00000000#32) (Shape.Idx.first h_S_) = (0 : EReal) from Ideal.ofBits_zero .f32, zero_add, sum_idx4]
  refine Finset.sum_congr rfl fun n _ => ?_
  rw [Finset.sum_comm]
  refine Finset.sum_congr rfl fun h _ => ?_
  rw [Finset.sum_comm]
  refine Finset.sum_congr rfl fun w _ => ?_
  rw [dist_sq (fun c => x (ix4 n c h w)) (code E (near E fun c => x (ix4 n c h w))) (fun c => hx _) (fun c => hE _)]
  refine Finset.sum_congr rfl fun c _ => ?_
  show (x _ - q _) * (x _ - q _) = _
  rw [hq]

/-- The reference's indices are those of the nearest codes, and its quantised vectors are the codes they name. -/
theorem v97_taken (V0 : Valuation τ sig (Elt Ideal)) :
    ∃ f, res_main_v97 V0 = taken f (V0 (Proc.devRef .tc main_arg7)) ∧ Nearest (res_main_v93 V0) f := by
  refine ⟨_, rfl, fun hd p => ?_⟩
  exact least_pair (res_main_v93 V0) _ _ _ _ _ _ (top_word _) (fun k => res_main_v93 V0 (ix2 p k)) (fun k => hd _)
    (mem_fiber _ _ (fun i => rfl) _ (fun i => Shape.ReducesTo.drop_apply_val_of_eq _ i 0 0 (by decide)) p)

theorem v93_distances (V0 : Valuation τ sig (Elt Ideal)) :
    res_main_v93 V0 = distances (rowsOf (res_main_v74 V0)) (V0 (Proc.devRef .tc main_arg7)) := rfl

end Cert.ReferenceIdeal.Value
-- ==== Proof.Finite.lean ====
/- What the precondition says of the arguments, and that the encoder's layers then hold real numbers. -/
module

public import proofs.«01_k».proof.Proof.Vq
public import proofs.«01_k».proof.Proof.Spec
public import proofs.«01_k».proof.Pre_finite_encoder
public import Idealize.ShloMosaic.Lib.ReduceAll

@[expose] public section

noncomputable section

namespace Cert.Spec

open Idealize.ShloMosaic

theorem plane_real {n0 n1 n2 n3 : ℕ} {A : (⟨4, ![n0, n1, n2, n3]⟩ : Shape).Idx → EReal} (hA : ∀ i, Real' (A i)) (n : Fin n0) (c : ℕ) (h w : ℤ) :
    Real' (plane A n c h w) := by
  unfold plane
  split
  · exact hA _
  · exact Real'.zero

theorem taps_real {n0 n1 n2 n3 : ℕ} {A : (⟨4, ![n0, n1, n2, n3]⟩ : Shape).Idx → EReal} (hA : ∀ i, Real' (A i)) (o c : ℕ) (h w : ℤ) :
    Real' (taps A o c h w) := by
  unfold taps
  split
  · exact plane_real hA _ _ _ _
  · exact Real'.zero

theorem vec_real {n0 : ℕ} {A : (⟨1, ![n0]⟩ : Shape).Idx → EReal} (hA : ∀ i, Real' (A i)) (o : ℕ) : Real' (vec A o) := by
  unfold vec
  split
  · exact hA _
  · exact Real'.zero

theorem layer_real {H : ℤ} {ci : ℕ} {X : Plane} {W : Taps} {B : ℕ → EReal} (hX : ∀ c h w, Real' (X c h w)) (hW : ∀ o c a b, Real' (W o c a b))
    (hB : ∀ o, Real' (B o)) (o : ℕ) (h w : ℤ) : Real' (layer H ci X W B o h w) := by
  unfold layer
  split
  · refine Real'.max (Real'.add ?_ (hB _)) Real'.zero
    exact Real'.sum _ _ fun a => Real'.sum _ _ fun b => Real'.sum _ _ fun c => (hX _ _ _).mul (hW _ _ _ _)
  · exact Real'.zero

/-- An array whose absolute values are all below infinity holds real numbers. -/
theorem real_of_all {s u : Shape} {axes : List (Fin s.rank)} (A : FVec Ideal s .f32) (dims : Fin u.rank → Fin s.rank) (hb : u.BroadcastsInDim s dims)
    (z : FVec Ideal u .f32) (hz : ∀ i, z i = (⊤ : EReal)) (init : IVec u 1) (h : s.ReducesTo axes u) (hu : 0 < u.numel) (hs : Subsingleton u.Idx) (j : u.Idx)
    (e : Host.reduce IntOp.andi (cmpf .olt (Host.absf A) (broadcastInDim s dims hb z)) init h hu j = 1#1) (i : s.Idx) : Real' (A i) := by
  have := Host.reduce_andi_all _ _ _ _ j e i
  refine Real'.of_abs ?_
  have h2 : BitVec.ofBool (decide (max (A i) (-(A i)) < broadcastInDim s dims hb z i)) = 1#1 := this
  have h3 : broadcastInDim s dims hb z i = (⊤ : EReal) := hz _
  rw [h3] at h2
  by_contra hc
  rw [decide_eq_false hc] at h2
  exact absurd h2 (by decide)

theorem and_left {a b : BitVec 1} (h : IntOp.andi a b = 1#1) : a = 1#1 := by
  revert a b; decide
theorem and_right {a b : BitVec 1} (h : IntOp.andi a b = 1#1) : b = 1#1 := by
  revert a b; decide

open Cert.Pre_finite_encoder in
/-- Under the precondition the image, the encoder's weights and the codebook hold real numbers. -/
theorem finite_of_pre [Cert.Pre_finite_encoder.Facts] (a0 : FVec Ideal S16x3x224x224 .f32) (a1 : FVec Ideal S32x3x4x4 .f32) (a2 : FVec Ideal S32 .f32) (a3 : FVec Ideal S64x32x4x4 .f32)
    (a4 : FVec Ideal S64 .f32) (a5 : FVec Ideal S64x64x4x4 .f32) (a6 : FVec Ideal S64 .f32) (a7 : FVec Ideal S512x64 .f32) (a8 : FVec Ideal S64x64x4x4 .f32) (a9 : FVec Ideal S64 .f32)
    (a10 : FVec Ideal S64x32x4x4 .f32) (a11 : FVec Ideal S32 .f32) (a12 : FVec Ideal S32x3x4x4 .f32) (a13 : FVec Ideal S3 .f32)
    (h : ∀ j, Cert.Pre_finite_encoder.fn (F := Ideal) a0 a1 a2 a3 a4 a5 a6 a7 a8 a9 a10 a11 a12 a13 j = 1#1) :
    (∀ i, Real' (a0 i)) ∧ (∀ i, Real' (a1 i)) ∧ (∀ i, Real' (a2 i)) ∧ (∀ i, Real' (a3 i)) ∧ (∀ i, Real' (a4 i)) ∧ (∀ i, Real' (a5 i)) ∧ (∀ i, Real' (a6 i)) ∧ (∀ i, Real' (a7 i)) := by
  have h := h (fun a => a.elim0)
  unfold fn fn_part1 fn_part2 at h
  dsimp only at h
  have hz : ∀ i : S_.Idx, (constant (F := Ideal) S_ .f32 0x7F800000#32) i = (⊤ : EReal) := fun i => by
    show Ideal.ofBits .f32 0x7F800000#32 = ⊤
    simp [Ideal.ofBits, Ideal.ieee]
  have hs : Subsingleton S_.Idx := ⟨fun a b => funext fun k => k.elim0⟩
  have h7 := and_right h
  have h := and_left h
  have h6 := and_right h
  have h := and_left h
  have h5 := and_right h
  have h := and_left h
  have h4 := and_right h
  have h := and_left h
  have h3 := and_right h
  have h := and_left h
  have h2 := and_right h
  have h := and_left h
  have h1 := and_right h
  have h0 := and_left h
  exact ⟨real_of_all a0 _ _ _ hz _ _ _ hs _ h0, real_of_all a1 _ _ _ hz _ _ _ hs _ h1, real_of_all a2 _ _ _ hz _ _ _ hs _ h2, real_of_all a3 _ _ _ hz _ _ _ hs _ h3,
    real_of_all a4 _ _ _ hz _ _ _ hs _ h4, real_of_all a5 _ _ _ hz _ _ _ hs _ h5, real_of_all a6 _ _ _ hz _ _ _ hs _ h6, real_of_all a7 _ _ _ hz _ _ _ hs _ h7⟩

end Cert.Spec
-- ==== Proof.Loss.lean ====
/- The losses: the kernel's mean of the distances' squares is the reference's mean of the squared errors. -/
module

public import proofs.«01_k».proof.Proof.RefVq
public import proofs.«01_k».proof.Proof.KEnc
public import proofs.«01_k».proof.Proof.Finite

@[expose] public section

noncomputable section

namespace Cert.Spec

open Idealize.ShloMosaic

/-- The sum of the squared distances of all images' encoded vectors to their nearest codes. -/
def lossSum (X : ℕ → Plane) (E : (⟨2, ![512, 64]⟩ : Shape).Idx → EReal) : EReal :=
  ∑ n : Fin 16, ∑ h : Fin 28, ∑ w : Fin 28,
    dist (fun c => X n.val c.val h.val w.val) (ReferenceIdeal.Value.code E (ReferenceIdeal.Value.near E fun c => X n.val c.val h.val w.val))
      * dist (fun c => X n.val c.val h.val w.val) (ReferenceIdeal.Value.code E (ReferenceIdeal.Value.near E fun c => X n.val c.val h.val w.val))

end Cert.Spec

namespace Cert.KernelIdeal.Own

open Cert.KernelIdeal Cert.KernelIdeal.Gen Cert.Spec
open Idealize.ShloMosaic Idealize.ShloMosaic.TcCoe Idealize.SL.Sem

variable (m : (ℓ : Loc nD τ sig) → Buf (Elt Ideal) ℓ) (c : Dev nD)

/-- The sum over the images of the quantiser's partial losses. -/
def partSum {F : FTy → Type} [FloatOps F] (part : Vec F S16x1x128 .f32) : Vec F S_ .f32 :=
  Host.reduceAdd (F := F) (φ := .f32) (shapeCast S16 (extractStridedSlice S16x1x1 ![0, 0, 0] part slices_S16x1x128_S16x1x1_0_0_0) shapeCasts_S16x1x1_S16) (constant (F := F) S_ .f32 0x00000000#32) reducesTo_S16_S_d0 h_S_

theorem loss_op {F : FTy → Type} [FloatOps F] (V : Valuation τ sig (Elt F)) :
    StableHlo.after hostOps4 V main_v730 = Host.divf (partSum (V main_v726_1)) (constant (F := F) S_ .f32 0x49440000#32) := by
  sl_kernel_rfl

theorem total16 (v : Vec Ideal S16 .f32) (z : Vec Ideal S_ .f32) (hz : ∀ j, z j = (0 : EReal)) (j : S_.Idx) :
    Host.reduceAdd (F := Ideal) (φ := .f32) v z reducesTo_S16_S_d0 h_S_ j = ∑ n : Fin 16, v (ix1 n) := by
  refine (Ideal.hostReduceAdd_total _ (fun b => b.elim0) v _ j).trans ?_
  rw [hz, zero_add, sum_idx1]

theorem sliced (part : Vec Ideal S16x1x128 .f32) (n : Fin 16) :
    shapeCast S16 (extractStridedSlice S16x1x1 ![0, 0, 0] part slices_S16x1x128_S16x1x1_0_0_0) shapeCasts_S16x1x1_S16 (ix1 n) = part (ix3 n 0 0) := by
  pointwise

theorem partSum_apply (part : Vec Ideal S16x1x128 .f32) (j : S_.Idx) : partSum part j = ∑ n : Fin 16, part (ix3 n 0 0) := by
  unfold partSum
  refine (total16 _ _ (fun _ => Ideal.ofBits_zero .f32) j).trans ?_
  exact Finset.sum_congr rfl fun n _ => sliced part n

theorem loss_line : V16 m (outs m) c main_v730 = Host.divf (partSum (outs m 9 main_v726_1 c)) (constant (F := Ideal) S_ .f32 0x49440000#32) := by
  rw [V16_of m (outs m) c main_v730 (by decide), V15_of m (outs m) c main_v730 (by decide), V14_of m (outs m) c main_v730 (by decide), V13_of m (outs m) c main_v730 (by decide),
    V12_of m (outs m) c main_v730 (by decide), V11_of m (outs m) c main_v730 (by decide)]
  rw [← V9_at_main_v726_1 m (outs m) c]
  exact loss_op (V9 m (outs m) c)

/-- The kernel's loss. -/
theorem kernel_loss : V16 m (outs m) c main_v730
    = Host.divf (F := Ideal) (fun _ : S_.Idx => lossSum (lay3 m c) (m ((c : Thread nD τ).loc main_arg7))) (constant (F := Ideal) S_ .f32 0x49440000#32) := by
  rw [loss_line]
  refine congrArg (fun x => Host.divf (F := Ideal) x _) (funext fun j => ?_)
  rw [partSum_apply, encP]
  rfl

end Cert.KernelIdeal.Own

namespace Cert.ReferenceIdeal.Value

open Cert.ReferenceIdeal Cert.ReferenceIdeal.Gen Idealize.ShloMosaic Idealize.ShloMosaic.TcCoe Cert.Spec

/-- The encoder's arguments and the codebook hold real numbers. -/
structure RealArgs (V0 : Valuation τ sig (Elt Ideal)) : Prop where
  a0 : ∀ i : S16x3x224x224.Idx, Real' (V0 (Proc.devRef .tc main_arg0) i)
  a1 : ∀ i : S32x3x4x4.Idx, Real' (V0 (Proc.devRef .tc main_arg1) i)
  a2 : ∀ i : S32.Idx, Real' (V0 (Proc.devRef .tc main_arg2) i)
  a3 : ∀ i : S64x32x4x4.Idx, Real' (V0 (Proc.devRef .tc main_arg3) i)
  a4 : ∀ i : S64.Idx, Real' (V0 (Proc.devRef .tc main_arg4) i)
  a5 : ∀ i : S64x64x4x4.Idx, Real' (V0 (Proc.devRef .tc main_arg5) i)
  a6 : ∀ i : S64.Idx, Real' (V0 (Proc.devRef .tc main_arg6) i)
  a7 : ∀ i : S512x64.Idx, Real' (V0 (Proc.devRef .tc main_arg7) i)

variable (V0 : Valuation τ sig (Elt Ideal))

theorem encoded_real (H : RealArgs V0) (n : Fin 16) (o : ℕ) (h w : ℤ) : Real' (encoded V0 n o h w) :=
  layer_real (layer_real (layer_real (plane_real H.a0 n) (taps_real H.a1) (vec_real H.a2)) (taps_real H.a3) (vec_real H.a4)) (taps_real H.a5) (vec_real H.a6) o h w

theorem v74_real (H : RealArgs V0) (i : S16x64x28x28.Idx) : Real' (res_main_v74 V0 i) := by
  rw [← ix4_eta i]
  exact (encoder_apply V0 (i 0) (i 1) (i 2) (i 3)) ▸ encoded_real V0 H _ _ _ _

/-- The encoded vectors' nearest codes, where the reference puts them. -/
theorem v97_apply (H : RealArgs V0) (n : Fin 16) (o : Fin 64) (h w : Fin 28) :
    res_main_v97 V0 (ix4 n o h w) = code (V0 (Proc.devRef .tc main_arg7)) (near (V0 (Proc.devRef .tc main_arg7)) fun c => res_main_v74 V0 (ix4 n c h w)) o := by
  obtain ⟨f, hf, hn⟩ := v97_taken V0
  rw [hf]
  rw [v93_distances] at hn
  exact quantised _ _ (v74_real V0 H) H.a7 f hn n o h w

theorem v98_squares (H : RealArgs V0) : Host.reduceAdd (mulf (F := Ideal) (φ := .f32) (res_main_v98 V0) (res_main_v98 V0)) (constant (F := Ideal) S_ .f32 0x00000000#32) reducesTo_S16x64x28x28_S_d0_1_2_3 h_S_
    = fun _ => ∑ n : Fin 16, ∑ h : Fin 28, ∑ w : Fin 28,
      dist (fun c => encoded V0 n c.val h.val w.val) (code (V0 (Proc.devRef .tc main_arg7)) (near (V0 (Proc.devRef .tc main_arg7)) fun c => encoded V0 n c.val h.val w.val))
        * dist (fun c => encoded V0 n c.val h.val w.val) (code (V0 (Proc.devRef .tc main_arg7)) (near (V0 (Proc.devRef .tc main_arg7)) fun c => encoded V0 n c.val h.val w.val)) := by
  funext j
  refine (squares_sum (res_main_v74 V0) (res_main_v97 V0) (V0 (Proc.devRef .tc main_arg7)) (v74_real V0 H) H.a7 (v97_apply V0 H) j).trans ?_
  simp only [encoder_apply]

end Cert.ReferenceIdeal.Value
-- ==== Proof.Same.lean ====
/- The two programs' losses are the same when their arguments are. -/
module

public import proofs.«01_k».proof.Proof.Loss
public import Idealize.ShloMosaic.Lib.StableHlo.Run

@[expose] public section

noncomputable section

namespace Cert.Same

open Idealize.ShloMosaic Idealize.ShloMosaic.TcCoe Idealize.SL.Sem Cert.Spec Cert.KernelIdeal.Gen Cert.ReferenceIdeal.Gen

variable (m : (ℓ : Loc Cert.KernelIdeal.nD Cert.KernelIdeal.τ Cert.KernelIdeal.sig) → Buf (Elt Ideal) ℓ) (c : Dev Cert.KernelIdeal.nD)
variable (V0 : Valuation Cert.ReferenceIdeal.τ Cert.ReferenceIdeal.sig (Elt Ideal))

/-- The reference's contents are the kernel's memory at the encoder's arguments and the codebook. -/
def Agree : Prop := @Eq (Vec Ideal Cert.ReferenceIdeal.S16x3x224x224 .f32) (V0 (Proc.devRef .tc Cert.ReferenceIdeal.main_arg0)) (m ((c : Thread Cert.KernelIdeal.nD Cert.KernelIdeal.τ).loc Cert.KernelIdeal.main_arg0)) ∧ @Eq (Vec Ideal Cert.ReferenceIdeal.S32x3x4x4 .f32) (V0 (Proc.devRef .tc Cert.ReferenceIdeal.main_arg1)) (m ((c : Thread Cert.KernelIdeal.nD Cert.KernelIdeal.τ).loc Cert.KernelIdeal.main_arg1)) ∧ @Eq (Vec Ideal Cert.ReferenceIdeal.S32 .f32) (V0 (Proc.devRef .tc Cert.ReferenceIdeal.main_arg2)) (m ((c : Thread Cert.KernelIdeal.nD Cert.KernelIdeal.τ).loc Cert.KernelIdeal.main_arg2)) ∧ @Eq (Vec Ideal Cert.ReferenceIdeal.S64x32x4x4 .f32) (V0 (Proc.devRef .tc Cert.ReferenceIdeal.main_arg3)) (m ((c : Thread Cert.KernelIdeal.nD Cert.KernelIdeal.τ).loc Cert.KernelIdeal.main_arg3)) ∧ @Eq (Vec Ideal Cert.ReferenceIdeal.S64 .f32) (V0 (Proc.devRef .tc Cert.ReferenceIdeal.main_arg4)) (m ((c : Thread Cert.KernelIdeal.nD Cert.KernelIdeal.τ).loc Cert.KernelIdeal.main_arg4)) ∧ @Eq (Vec Ideal Cert.ReferenceIdeal.S64x64x4x4 .f32) (V0 (Proc.devRef .tc Cert.ReferenceIdeal.main_arg5)) (m ((c : Thread Cert.KernelIdeal.nD Cert.KernelIdeal.τ).loc Cert.KernelIdeal.main_arg5)) ∧ @Eq (Vec Ideal Cert.ReferenceIdeal.S64 .f32) (V0 (Proc.devRef .tc Cert.ReferenceIdeal.main_arg6)) (m ((c : Thread Cert.KernelIdeal.nD Cert.KernelIdeal.τ).loc Cert.KernelIdeal.main_arg6)) ∧ @Eq (Vec Ideal Cert.ReferenceIdeal.S512x64 .f32) (V0 (Proc.devRef .tc Cert.ReferenceIdeal.main_arg7)) (m ((c : Thread Cert.KernelIdeal.nD Cert.KernelIdeal.τ).loc Cert.KernelIdeal.main_arg7))

/-- The kernel's memory holds real numbers at the encoder's arguments and the codebook. -/
def Finite : Prop := (∀ i : Cert.ReferenceIdeal.S16x3x224x224.Idx, Real' (m ((c : Thread Cert.KernelIdeal.nD Cert.KernelIdeal.τ).loc Cert.KernelIdeal.main_arg0) i)) ∧ (∀ i : Cert.ReferenceIdeal.S32x3x4x4.Idx, Real' (m ((c : Thread Cert.KernelIdeal.nD Cert.KernelIdeal.τ).loc Cert.KernelIdeal.main_arg1) i)) ∧ (∀ i : Cert.ReferenceIdeal.S32.Idx, Real' (m ((c : Thread Cert.KernelIdeal.nD Cert.KernelIdeal.τ).loc Cert.KernelIdeal.main_arg2) i)) ∧ (∀ i : Cert.ReferenceIdeal.S64x32x4x4.Idx, Real' (m ((c : Thread Cert.KernelIdeal.nD Cert.KernelIdeal.τ).loc Cert.KernelIdeal.main_arg3) i)) ∧ (∀ i : Cert.ReferenceIdeal.S64.Idx, Real' (m ((c : Thread Cert.KernelIdeal.nD Cert.KernelIdeal.τ).loc Cert.KernelIdeal.main_arg4) i)) ∧ (∀ i : Cert.ReferenceIdeal.S64x64x4x4.Idx, Real' (m ((c : Thread Cert.KernelIdeal.nD Cert.KernelIdeal.τ).loc Cert.KernelIdeal.main_arg5) i)) ∧ (∀ i : Cert.ReferenceIdeal.S64.Idx, Real' (m ((c : Thread Cert.KernelIdeal.nD Cert.KernelIdeal.τ).loc Cert.KernelIdeal.main_arg6) i)) ∧ (∀ i : Cert.ReferenceIdeal.S512x64.Idx, Real' (m ((c : Thread Cert.KernelIdeal.nD Cert.KernelIdeal.τ).loc Cert.KernelIdeal.main_arg7) i))

variable {m c V0}

theorem real_args (e : Agree m c V0) (h : Finite m c) : Cert.ReferenceIdeal.Value.RealArgs V0 := by
  obtain ⟨e0, e1, e2, e3, e4, e5, e6, e7⟩ := e
  obtain ⟨h0, h1, h2, h3, h4, h5, h6, h7⟩ := h
  exact ⟨fun i => (congrFun e0 i).symm ▸ h0 i, fun i => (congrFun e1 i).symm ▸ h1 i, fun i => (congrFun e2 i).symm ▸ h2 i, fun i => (congrFun e3 i).symm ▸ h3 i,
    fun i => (congrFun e4 i).symm ▸ h4 i, fun i => (congrFun e5 i).symm ▸ h5 i, fun i => (congrFun e6 i).symm ▸ h6 i, fun i => (congrFun e7 i).symm ▸ h7 i⟩

/-- The two encoders' layers are the same. -/
theorem encoded_eq (e : Agree m c V0) (n : Fin 16) : Cert.ReferenceIdeal.Value.encoded V0 n = Cert.KernelIdeal.Own.lay3 m c n.val := by
  obtain ⟨e0, e1, e2, e3, e4, e5, e6, -⟩ := e
  unfold Cert.ReferenceIdeal.Value.encoded Cert.KernelIdeal.Own.lay3 Cert.KernelIdeal.Own.lay2 Cert.KernelIdeal.Own.lay1
  refine congr (congr (congrArg (layer 28 64) (congr (congr (congrArg (layer 56 32) (congr (congr (congrArg (layer 112 3) ?_) (congrArg taps e1)) (congrArg vec e2))) (congrArg taps e3)) (congrArg vec e4))) (congrArg taps e5)) (congrArg vec e6)
  exact (congrArg (fun A => plane A n) e0).trans (Cert.KernelIdeal.Own.planes_eq _ n).symm

/-- The reference's sum of squared errors is the kernel's. -/
theorem squares_eq (e : Agree m c V0) (h : Finite m c) :
    Host.reduceAdd (mulf (F := Ideal) (φ := .f32) (Cert.ReferenceIdeal.Value.res_main_v98 V0) (Cert.ReferenceIdeal.Value.res_main_v98 V0)) (constant (F := Ideal) Cert.ReferenceIdeal.S_ .f32 0x00000000#32) Cert.ReferenceIdeal.Facts₀.reducesTo_S16x64x28x28_S_d0_1_2_3 Cert.ReferenceIdeal.Facts₀.h_S_
      = fun _ => lossSum (Cert.KernelIdeal.Own.lay3 m c) (m ((c : Thread Cert.KernelIdeal.nD Cert.KernelIdeal.τ).loc Cert.KernelIdeal.main_arg7)) := by
  refine (Cert.ReferenceIdeal.Value.v98_squares V0 (real_args e h)).trans (funext fun _ => ?_)
  unfold lossSum
  refine Finset.sum_congr rfl fun n _ => ?_
  rw [← encoded_eq e n, ← e.2.2.2.2.2.2.2]

/-- The reference's loss is the kernel's. -/
theorem loss_eq (e : Agree m c V0) (h : Finite m c) :
    Host.divf (F := Ideal) (Host.reduceAdd (mulf (F := Ideal) (φ := .f32) (Cert.ReferenceIdeal.Value.res_main_v98 V0) (Cert.ReferenceIdeal.Value.res_main_v98 V0)) (constant (F := Ideal) Cert.ReferenceIdeal.S_ .f32 0x00000000#32) Cert.ReferenceIdeal.Facts₀.reducesTo_S16x64x28x28_S_d0_1_2_3 Cert.ReferenceIdeal.Facts₀.h_S_) (constant (F := Ideal) Cert.ReferenceIdeal.S_ .f32 0x49440000#32)
      = V16 m (Cert.KernelIdeal.Own.outs m) c Cert.KernelIdeal.main_v730 := by
  rw [Cert.KernelIdeal.Own.kernel_loss, squares_eq e h]

end Cert.Same
-- ==== Proof.SameDec.lean ====
/- The two programs' images are the same when their arguments are. -/
module

public import proofs.«01_k».proof.Proof.KDec
public import proofs.«01_k».proof.Proof.RefDec
public import proofs.«01_k».proof.Proof.RefRun
public import proofs.«01_k».proof.Proof.Same

@[expose] public section

noncomputable section

namespace Cert.Same

open Idealize.ShloMosaic Idealize.ShloMosaic.TcCoe Idealize.SL.Sem Cert.Spec Cert.KernelIdeal.Gen Cert.ReferenceIdeal.Gen

variable (m : (ℓ : Loc Cert.KernelIdeal.nD Cert.KernelIdeal.τ Cert.KernelIdeal.sig) → Buf (Elt Ideal) ℓ) (c : Dev Cert.KernelIdeal.nD)
variable (V0 : Valuation Cert.ReferenceIdeal.τ Cert.ReferenceIdeal.sig (Elt Ideal))

/-- The reference's contents are the kernel's memory at the decoder's arguments. -/
def AgreeDec : Prop :=
  @Eq (Vec Ideal Cert.ReferenceIdeal.S64x64x4x4 .f32) (V0 (Proc.devRef .tc Cert.ReferenceIdeal.main_arg8)) (m ((c : Thread Cert.KernelIdeal.nD Cert.KernelIdeal.τ).loc Cert.KernelIdeal.main_arg8)) ∧
  @Eq (Vec Ideal Cert.ReferenceIdeal.S64 .f32) (V0 (Proc.devRef .tc Cert.ReferenceIdeal.main_arg9)) (m ((c : Thread Cert.KernelIdeal.nD Cert.KernelIdeal.τ).loc Cert.KernelIdeal.main_arg9)) ∧
  @Eq (Vec Ideal Cert.ReferenceIdeal.S64x32x4x4 .f32) (V0 (Proc.devRef .tc Cert.ReferenceIdeal.main_arg10)) (m ((c : Thread Cert.KernelIdeal.nD Cert.KernelIdeal.τ).loc Cert.KernelIdeal.main_arg10)) ∧
  @Eq (Vec Ideal Cert.ReferenceIdeal.S32 .f32) (V0 (Proc.devRef .tc Cert.ReferenceIdeal.main_arg11)) (m ((c : Thread Cert.KernelIdeal.nD Cert.KernelIdeal.τ).loc Cert.KernelIdeal.main_arg11)) ∧
  @Eq (Vec Ideal Cert.ReferenceIdeal.S32x3x4x4 .f32) (V0 (Proc.devRef .tc Cert.ReferenceIdeal.main_arg12)) (m ((c : Thread Cert.KernelIdeal.nD Cert.KernelIdeal.τ).loc Cert.KernelIdeal.main_arg12)) ∧
  @Eq (Vec Ideal Cert.ReferenceIdeal.S3 .f32) (V0 (Proc.devRef .tc Cert.ReferenceIdeal.main_arg13)) (m ((c : Thread Cert.KernelIdeal.nD Cert.KernelIdeal.τ).loc Cert.KernelIdeal.main_arg13))

variable {m c V0}

/-- Going from one real number by the difference to another arrives there. -/
theorem go_real {a : EReal} (ha : Real' a) (b : EReal) : a + (b - a) = b := by
  obtain ⟨r, rfl⟩ := ha
  rw [sub_eq_add_neg, add_comm b, ← add_assoc, ← sub_eq_add_neg, EReal.sub_self (EReal.coe_ne_top r) (EReal.coe_ne_bot r), zero_add]

/-- What the reference's decoder reads is the nearest codes. -/
theorem moved_eq (e : Agree m c V0) (h : Finite m c) (n : Fin 16) (o : Fin 64) (r w : Fin 28) :
    Cert.ReferenceIdeal.Value.moved (Cert.ReferenceIdeal.Value.res_main_v74 V0) (Cert.ReferenceIdeal.Value.res_main_v97 V0) (ix4 n o r w)
      = plane (Cert.KernelIdeal.Own.quant m c) n o.val r.val w.val := by
  refine (go_real (Cert.ReferenceIdeal.Value.v74_real V0 (real_args e h) _) _).trans ?_
  rw [plane_eq _ n o r w rfl rfl rfl]
  refine (Cert.ReferenceIdeal.Value.v97_apply V0 (real_args e h) n o r w).trans ?_
  have ev : (fun c' => Cert.ReferenceIdeal.Value.res_main_v74 V0 (ix4 n c' r w)) = Cert.KernelIdeal.Own.vecAt m c n r w :=
    funext fun c' => (Cert.ReferenceIdeal.Value.encoder_apply V0 n c' r w).trans (congrFun (congrFun (congrFun (encoded_eq e n) _) _) _)
  rw [ev]
  exact congrArg (fun E => Cert.ReferenceIdeal.Value.code E (Cert.ReferenceIdeal.Value.near E (Cert.KernelIdeal.Own.vecAt m c n r w)) o) e.2.2.2.2.2.2.2

/-- The reference's image is the kernel's, at an entry. -/
theorem y_at (e : Agree m c V0) (d : AgreeDec m c V0) (h : Finite m c) (n : Fin 16) (o : Fin 3) (r w : Fin 224) :
    Cert.ReferenceIdeal.Value.decoded V0 (ix4 n o r w) = V16 m (Cert.KernelIdeal.Own.outs m) c Cert.KernelIdeal.main_v1602 (ix4 n o r w) := by
  obtain ⟨d8, d9, d10, d11, d12, d13⟩ := d
  refine (Cert.ReferenceIdeal.Value.decoder_apply V0 (plane (Cert.KernelIdeal.Own.quant m c) n) n
    (fun _ _ _ H => plane_out _ n H) (fun o r w => moved_eq e h n o r w) o r w).trans ?_
  rw [Cert.KernelIdeal.Own.kernel_y, Cert.KernelIdeal.Own.up2, Cert.KernelIdeal.Own.up1, Cert.KernelIdeal.Own.planes_eq]
  refine congrArg Ideal.logistic (congr (congrArg _ ?_) (congrArg (fun b => vec b o.val) d13))
  refine congrFun (congrFun (congrFun (congr (congrArg (decAt 32) ?_) (congrArg taps d12)) _) _) _
  exact congr (congr (congrArg (dlayer 112 64) (congr (congr (congrArg (dlayer 56 64) rfl) (congrArg taps d8)) (congrArg vec d9))) (congrArg taps d10)) (congrArg vec d11)

/-- The reference's image is the kernel's. -/
theorem y_eq (e : Agree m c V0) (d : AgreeDec m c V0) (h : Finite m c) :
    Cert.ReferenceIdeal.Value.decoded V0 = V16 m (Cert.KernelIdeal.Own.outs m) c Cert.KernelIdeal.main_v1602 := by
  funext i
  have := y_at e d h (i 0) (i 1) (i 2) (i 3)
  rwa [ix4_eta] at this

/-- The reference's operations leave the decoded image. -/
theorem image_line (V0 : Valuation Cert.ReferenceIdeal.τ Cert.ReferenceIdeal.sig (Elt Ideal)) :
    Cert.ReferenceIdeal.Value.val4 V0 (Proc.devRef .tc Cert.ReferenceIdeal.main_v193) = Cert.ReferenceIdeal.Value.decoded V0 :=
  (Cert.ReferenceIdeal.Value.val4_main_v193 V0).trans (by sl_kernel_rfl)

end Cert.Same
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.RunFloat
public import proofs.«01_k».proof.Proof.RunIdeal
public import proofs.«01_k».proof.Proof.RefRun
public import proofs.«01_k».proof.Proof.SameDec
public import Idealize.ShloMosaic.Lib.Quiescent

@[expose] public section

noncomputable section

namespace Cert.Proof

open Idealize.ShloMosaic Idealize.SL.Sem Cert.Spec

/-- The side conditions of the precondition's program. -/
theorem preFacts : Cert.Pre_finite_encoder.Facts := by
  constructor <;> decide

/-- The kernel leaves its arguments and every semaphore as they were. -/
theorem kernel_frame : Cert.quiescent_Kernel := fun m g _ => Cert.Kernel.Own.frame_whole m g

/-- So does its idealization. -/
theorem ideal_frame : Cert.quiescent_KernelIdeal := fun m g _ => Cert.KernelIdeal.Own.frame_whole m g

/-- So does the reference. -/
theorem reference_frame : Cert.quiescent_ReferenceIdeal := fun m g _ =>
  (θ_run _ _ _).mono (fun r h => ⟨fun c => (h c).2.2.2, sem_eq_zero_of_no_sems (by decide) r.2⟩)
    (Cert.ReferenceIdeal.Value.run m g)

attribute [local instance] preFacts

set_option maxHeartbeats 1000000 in
/-- Over the extended reals the kernel's results are the reference's. -/
theorem results : Cert.algebraic_KernelIdeal_ReferenceIdeal_pre_finite_encoder := by
  intro m g m' g' hpre hargs
  have e : ∀ c, Cert.Same.Agree m c (StableHlo.launchContents m' c) := fun c => by
    obtain ⟨h0, h1, h2, h3, h4, h5, h6, h7, -⟩ := hargs c
    exact ⟨h0, h1, h2, h3, h4, h5, h6, h7⟩
  have d : ∀ c, Cert.Same.AgreeDec m c (StableHlo.launchContents m' c) := fun c => by
    obtain ⟨-, -, -, -, -, -, -, -, h8, h9, h10, h11, h12, h13⟩ := hargs c
    exact ⟨h8, h9, h10, h11, h12, h13⟩
  have hf : ∀ c, Cert.Same.Finite m c := fun c => finite_of_pre _ _ _ _ _ _ _ _ _ _ _ _ _ _ (fun j => congrFun (hpre c) j)
  have hl : ∀ r : MemSt Cert.KernelIdeal.nD Cert.KernelIdeal.τ Cert.KernelIdeal.sig (Elt Ideal), (∀ c : Dev Cert.KernelIdeal.nD, ∀ b ∈ Pipeline.ucRefs Cert.KernelIdeal.τ Cert.KernelIdeal.sig, r.mem ((c.tc : Thread Cert.KernelIdeal.nD Cert.KernelIdeal.τ).1, b) = Cert.KernelIdeal.Gen.V16 m (Cert.KernelIdeal.Own.outs m) c b) →
      ∀ c : Dev Cert.KernelIdeal.nD, r.mem ((c.tc : Thread Cert.KernelIdeal.nD Cert.KernelIdeal.τ).loc Cert.KernelIdeal.main_v730) = Cert.KernelIdeal.Gen.V16 m (Cert.KernelIdeal.Own.outs m) c (Proc.devRef .tc Cert.KernelIdeal.main_v730) :=
    fun r h c => h c (Proc.devRef .tc Cert.KernelIdeal.main_v730) (Finset.mem_filter.mpr ⟨StableHlo.devRef_mem_tcRefs Cert.KernelIdeal.main_v730, by decide⟩)
  have hy : ∀ r : MemSt Cert.KernelIdeal.nD Cert.KernelIdeal.τ Cert.KernelIdeal.sig (Elt Ideal), (∀ c : Dev Cert.KernelIdeal.nD, ∀ b ∈ Pipeline.ucRefs Cert.KernelIdeal.τ Cert.KernelIdeal.sig, r.mem ((c.tc : Thread Cert.KernelIdeal.nD Cert.KernelIdeal.τ).1, b) = Cert.KernelIdeal.Gen.V16 m (Cert.KernelIdeal.Own.outs m) c b) →
      ∀ c : Dev Cert.KernelIdeal.nD, r.mem ((c.tc : Thread Cert.KernelIdeal.nD Cert.KernelIdeal.τ).loc Cert.KernelIdeal.main_v1602) = Cert.KernelIdeal.Gen.V16 m (Cert.KernelIdeal.Own.outs m) c (Proc.devRef .tc Cert.KernelIdeal.main_v1602) :=
    fun r h c => h c (Proc.devRef .tc Cert.KernelIdeal.main_v1602) (Finset.mem_filter.mpr ⟨StableHlo.devRef_mem_tcRefs Cert.KernelIdeal.main_v1602, by decide⟩)
  refine ⟨fun c => Cert.KernelIdeal.Gen.V16 m (Cert.KernelIdeal.Own.outs m) c (Proc.devRef .tc Cert.KernelIdeal.main_v1602),
    fun c => Cert.KernelIdeal.Gen.V16 m (Cert.KernelIdeal.Own.outs m) c (Proc.devRef .tc Cert.KernelIdeal.main_v730),
    fun c => Cert.KernelIdeal.Gen.V16 m (Cert.KernelIdeal.Own.outs m) c (Proc.devRef .tc Cert.KernelIdeal.main_v730), ?_, ?_⟩
  · refine (θ_run _ _ _).mono (fun r h c => ?_) (Cert.KernelIdeal.Own.run_whole m g)
    exact ⟨hy r.2 h.1 c, hl r.2 h.1 c, hl r.2 h.1 c, Cert.KernelIdeal.Own.args_kept m (h.1 c)⟩
  · refine (θ_run _ _ _).mono (fun r h c => ?_) (Cert.ReferenceIdeal.Value.run m' g')
    have hr := h c
    exact ⟨hr.1.trans ((Cert.ReferenceIdeal.Value.val4_main_v193 _).symm.trans ((Cert.Same.image_line _).trans (Cert.Same.y_eq (e c) (d c) (hf c)))),
      hr.2.1.trans (Cert.Same.loss_eq (e c) (hf c)), hr.2.2.1.trans (Cert.Same.loss_eq (e c) (hf c)), hr.2.2.2⟩

theorem claim : Cert.Claim := ⟨Cert.Kernel.Gen.facts, Cert.KernelIdeal.Gen.facts, Cert.ReferenceIdeal.Gen.facts, preFacts,
  kernel_frame, ideal_frame, fun m g _ => ideal_frame m g trivial, reference_frame, fun m g _ => reference_frame m g trivial, trivial, results⟩

end Cert.Proof

end
